-- ==== Defs.lean ====
def Pre_StepK (m : (ℓ : Loc Cert.StepK.nD Cert.StepK.τ Cert.StepK.sig) → Buf (Elt Bits) ℓ) : Prop :=
  True

def Pre_StepKIdeal (m : (ℓ : Loc Cert.StepKIdeal.nD Cert.StepKIdeal.τ Cert.StepKIdeal.sig) → Buf (Elt Ideal) ℓ) : Prop :=
  True

def Pre_StepRIdeal (m : (ℓ : Loc Cert.StepRIdeal.nD Cert.StepRIdeal.τ Cert.StepRIdeal.sig) → Buf (Elt Ideal) ℓ) : Prop :=
  True

def Pre_HeadK (m : (ℓ : Loc Cert.HeadK.nD Cert.HeadK.τ Cert.HeadK.sig) → Buf (Elt Bits) ℓ) : Prop :=
  True

def Pre_HeadKIdeal (m : (ℓ : Loc Cert.HeadKIdeal.nD Cert.HeadKIdeal.τ Cert.HeadKIdeal.sig) → Buf (Elt Ideal) ℓ) : Prop :=
  True

def Pre_HeadRIdeal (m : (ℓ : Loc Cert.HeadRIdeal.nD Cert.HeadRIdeal.τ Cert.HeadRIdeal.sig) → Buf (Elt Ideal) ℓ) : Prop :=
  True

def Pre_GluK (m : (ℓ : Loc Cert.GluK.nD Cert.GluK.τ Cert.GluK.sig) → Buf (Elt Bits) ℓ) : Prop :=
  True

def Pre_GluKIdeal (m : (ℓ : Loc Cert.GluKIdeal.nD Cert.GluKIdeal.τ Cert.GluKIdeal.sig) → Buf (Elt Ideal) ℓ) : Prop :=
  True

def Pre_GluRIdeal (m : (ℓ : Loc Cert.GluRIdeal.nD Cert.GluRIdeal.τ Cert.GluRIdeal.sig) → Buf (Elt Ideal) ℓ) : Prop :=
  True

def Pre_OutK (m : (ℓ : Loc Cert.OutK.nD Cert.OutK.τ Cert.OutK.sig) → Buf (Elt Bits) ℓ) : Prop :=
  True

def Pre_OutKIdeal (m : (ℓ : Loc Cert.OutKIdeal.nD Cert.OutKIdeal.τ Cert.OutKIdeal.sig) → Buf (Elt Ideal) ℓ) : Prop :=
  True

def Pre_OutRIdeal (m : (ℓ : Loc Cert.OutRIdeal.nD Cert.OutRIdeal.τ Cert.OutRIdeal.sig) → Buf (Elt Ideal) ℓ) : Prop :=
  True

def Pre_NsaK (m : (ℓ : Loc Cert.NsaK.nD Cert.NsaK.τ Cert.NsaK.sig) → Buf (Elt Bits) ℓ) : Prop :=
  True

def Pre_NsaKIdeal (m : (ℓ : Loc Cert.NsaKIdeal.nD Cert.NsaKIdeal.τ Cert.NsaKIdeal.sig) → Buf (Elt Ideal) ℓ) : Prop :=
  True

def Pre_NsaRIdeal (m : (ℓ : Loc Cert.NsaRIdeal.nD Cert.NsaRIdeal.τ Cert.NsaRIdeal.sig) → Buf (Elt Ideal) ℓ) : Prop :=
  True

def Pre_NsaStepK (m : (ℓ : Loc Cert.NsaStepK.nD Cert.NsaStepK.τ Cert.NsaStepK.sig) → Buf (Elt Bits) ℓ) : Prop :=
  True

def Pre_NsaStepKIdeal (m : (ℓ : Loc Cert.NsaStepKIdeal.nD Cert.NsaStepKIdeal.τ Cert.NsaStepKIdeal.sig) → Buf (Elt Ideal) ℓ) : Prop :=
  True

def Pre_NsaStepRIdeal (m : (ℓ : Loc Cert.NsaStepRIdeal.nD Cert.NsaStepRIdeal.τ Cert.NsaStepRIdeal.sig) → Buf (Elt Ideal) ℓ) : Prop :=
  True

def Pre_RgStepK (m : (ℓ : Loc Cert.RgStepK.nD Cert.RgStepK.τ Cert.RgStepK.sig) → Buf (Elt Bits) ℓ) : Prop :=
  True

def Pre_RgStepKIdeal (m : (ℓ : Loc Cert.RgStepKIdeal.nD Cert.RgStepKIdeal.τ Cert.RgStepKIdeal.sig) → Buf (Elt Ideal) ℓ) : Prop :=
  True

def Pre_RgStepRIdeal (m : (ℓ : Loc Cert.RgStepRIdeal.nD Cert.RgStepRIdeal.τ Cert.RgStepRIdeal.sig) → Buf (Elt Ideal) ℓ) : Prop :=
  True

def Pre_RgHeadK (m : (ℓ : Loc Cert.RgHeadK.nD Cert.RgHeadK.τ Cert.RgHeadK.sig) → Buf (Elt Bits) ℓ) : Prop :=
  True

def Pre_RgHeadKIdeal (m : (ℓ : Loc Cert.RgHeadKIdeal.nD Cert.RgHeadKIdeal.τ Cert.RgHeadKIdeal.sig) → Buf (Elt Ideal) ℓ) : Prop :=
  True

def Pre_RgHeadRIdeal (m : (ℓ : Loc Cert.RgHeadRIdeal.nD Cert.RgHeadRIdeal.τ Cert.RgHeadRIdeal.sig) → Buf (Elt Ideal) ℓ) : Prop :=
  True

def Pre_RgOutK (m : (ℓ : Loc Cert.RgOutK.nD Cert.RgOutK.τ Cert.RgOutK.sig) → Buf (Elt Bits) ℓ) : Prop :=
  True

def Pre_RgOutKIdeal (m : (ℓ : Loc Cert.RgOutKIdeal.nD Cert.RgOutKIdeal.τ Cert.RgOutKIdeal.sig) → Buf (Elt Ideal) ℓ) : Prop :=
  True

def Pre_RgOutRIdeal (m : (ℓ : Loc Cert.RgOutRIdeal.nD Cert.RgOutRIdeal.τ Cert.RgOutRIdeal.sig) → Buf (Elt Ideal) ℓ) : Prop :=
  True

def Pre_NsaOutK (m : (ℓ : Loc Cert.NsaOutK.nD Cert.NsaOutK.τ Cert.NsaOutK.sig) → Buf (Elt Bits) ℓ) : Prop :=
  True

def Pre_NsaOutKIdeal (m : (ℓ : Loc Cert.NsaOutKIdeal.nD Cert.NsaOutKIdeal.τ Cert.NsaOutKIdeal.sig) → Buf (Elt Ideal) ℓ) : Prop :=
  True

def Pre_NsaOutRIdeal (m : (ℓ : Loc Cert.NsaOutRIdeal.nD Cert.NsaOutRIdeal.τ Cert.NsaOutRIdeal.sig) → Buf (Elt Ideal) ℓ) : Prop :=
  True

def Pre_LastK (m : (ℓ : Loc Cert.LastK.nD Cert.LastK.τ Cert.LastK.sig) → Buf (Elt Bits) ℓ) : Prop :=
  True

def Pre_LastKIdeal (m : (ℓ : Loc Cert.LastKIdeal.nD Cert.LastKIdeal.τ Cert.LastKIdeal.sig) → Buf (Elt Ideal) ℓ) : Prop :=
  True

def Pre_LastRIdeal (m : (ℓ : Loc Cert.LastRIdeal.nD Cert.LastRIdeal.τ Cert.LastRIdeal.sig) → Buf (Elt Ideal) ℓ) : Prop :=
  True

def Pre_NsaWinK (m : (ℓ : Loc Cert.NsaWinK.nD Cert.NsaWinK.τ Cert.NsaWinK.sig) → Buf (Elt Bits) ℓ) : Prop :=
  True

def Pre_NsaWinKIdeal (m : (ℓ : Loc Cert.NsaWinKIdeal.nD Cert.NsaWinKIdeal.τ Cert.NsaWinKIdeal.sig) → Buf (Elt Ideal) ℓ) : Prop :=
  True

def Pre_NsaWinRIdeal (m : (ℓ : Loc Cert.NsaWinRIdeal.nD Cert.NsaWinRIdeal.τ Cert.NsaWinRIdeal.sig) → Buf (Elt Ideal) ℓ) : Prop :=
  True

def Pre_NsaCmpK (m : (ℓ : Loc Cert.NsaCmpK.nD Cert.NsaCmpK.τ Cert.NsaCmpK.sig) → Buf (Elt Bits) ℓ) : Prop :=
  True

def Pre_NsaCmpKIdeal (m : (ℓ : Loc Cert.NsaCmpKIdeal.nD Cert.NsaCmpKIdeal.τ Cert.NsaCmpKIdeal.sig) → Buf (Elt Ideal) ℓ) : Prop :=
  True

def Pre_NsaCmpRIdeal (m : (ℓ : Loc Cert.NsaCmpRIdeal.nD Cert.NsaCmpRIdeal.τ Cert.NsaCmpRIdeal.sig) → Buf (Elt Ideal) ℓ) : Prop :=
  True

def Pre_NsaSelK (m : (ℓ : Loc Cert.NsaSelK.nD Cert.NsaSelK.τ Cert.NsaSelK.sig) → Buf (Elt Bits) ℓ) : Prop :=
  True

def Pre_NsaSelKIdeal (m : (ℓ : Loc Cert.NsaSelKIdeal.nD Cert.NsaSelKIdeal.τ Cert.NsaSelKIdeal.sig) → Buf (Elt Ideal) ℓ) : Prop :=
  True

def Pre_NsaSelRIdeal (m : (ℓ : Loc Cert.NsaSelRIdeal.nD Cert.NsaSelRIdeal.τ Cert.NsaSelRIdeal.sig) → Buf (Elt Ideal) ℓ) : Prop :=
  True

def quiescent_StepK [hStepK : Cert.StepK.Facts] : Prop :=
  ∀ (m : (ℓ : Loc Cert.StepK.nD Cert.StepK.τ Cert.StepK.sig) → Buf (Elt Bits) ℓ) (g : Dev Cert.StepK.nD → PrngReg), Pre_StepK m →
    θ_run (Cert.StepK.defs (F := Bits)) (onTc (τ := Cert.StepK.τ) (Cert.StepK.main (F := Bits))) ⟨m, fun _ => 0, g⟩ (fun r => (∀ c : Dev Cert.StepK.nD,
      r.2.mem ((c.tc : Thread Cert.StepK.nD Cert.StepK.τ).loc Cert.StepK.main_arg0) = m ((c.tc : Thread Cert.StepK.nD Cert.StepK.τ).loc Cert.StepK.main_arg0)
      ∧ r.2.mem ((c.tc : Thread Cert.StepK.nD Cert.StepK.τ).loc Cert.StepK.main_arg1) = m ((c.tc : Thread Cert.StepK.nD Cert.StepK.τ).loc Cert.StepK.main_arg1)
      ∧ r.2.mem ((c.tc : Thread Cert.StepK.nD Cert.StepK.τ).loc Cert.StepK.main_arg2) = m ((c.tc : Thread Cert.StepK.nD Cert.StepK.τ).loc Cert.StepK.main_arg2)
      ∧ r.2.mem ((c.tc : Thread Cert.StepK.nD Cert.StepK.τ).loc Cert.StepK.main_arg3) = m ((c.tc : Thread Cert.StepK.nD Cert.StepK.τ).loc Cert.StepK.main_arg3)
      ∧ r.2.mem ((c.tc : Thread Cert.StepK.nD Cert.StepK.τ).loc Cert.StepK.main_arg4) = m ((c.tc : Thread Cert.StepK.nD Cert.StepK.τ).loc Cert.StepK.main_arg4)
      ∧ r.2.mem ((c.tc : Thread Cert.StepK.nD Cert.StepK.τ).loc Cert.StepK.main_arg5) = m ((c.tc : Thread Cert.StepK.nD Cert.StepK.τ).loc Cert.StepK.main_arg5)
      ∧ r.2.mem ((c.tc : Thread Cert.StepK.nD Cert.StepK.τ).loc Cert.StepK.main_arg6) = m ((c.tc : Thread Cert.StepK.nD Cert.StepK.τ).loc Cert.StepK.main_arg6)
      ∧ r.2.mem ((c.tc : Thread Cert.StepK.nD Cert.StepK.τ).loc Cert.StepK.main_arg7) = m ((c.tc : Thread Cert.StepK.nD Cert.StepK.τ).loc Cert.StepK.main_arg7)
      ∧ r.2.mem ((c.tc : Thread Cert.StepK.nD Cert.StepK.τ).loc Cert.StepK.main_arg8) = m ((c.tc : Thread Cert.StepK.nD Cert.StepK.τ).loc Cert.StepK.main_arg8)
      ∧ r.2.mem ((c.tc : Thread Cert.StepK.nD Cert.StepK.τ).loc Cert.StepK.main_arg9) = m ((c.tc : Thread Cert.StepK.nD Cert.StepK.τ).loc Cert.StepK.main_arg9))
      ∧ r.2.sem = fun _ => 0)

def quiescent_StepKIdeal [hStepKIdeal : Cert.StepKIdeal.Facts] : Prop :=
  ∀ (m : (ℓ : Loc Cert.StepKIdeal.nD Cert.StepKIdeal.τ Cert.StepKIdeal.sig) → Buf (Elt Ideal) ℓ) (g : Dev Cert.StepKIdeal.nD → PrngReg), Pre_StepKIdeal m →
    θ_run (Cert.StepKIdeal.defs (F := Ideal)) (onTc (τ := Cert.StepKIdeal.τ) (Cert.StepKIdeal.main (F := Ideal))) ⟨m, fun _ => 0, g⟩ (fun r => (∀ c : Dev Cert.StepKIdeal.nD,
      r.2.mem ((c.tc : Thread Cert.StepKIdeal.nD Cert.StepKIdeal.τ).loc Cert.StepKIdeal.main_arg0) = m ((c.tc : Thread Cert.StepKIdeal.nD Cert.StepKIdeal.τ).loc Cert.StepKIdeal.main_arg0)
      ∧ r.2.mem ((c.tc : Thread Cert.StepKIdeal.nD Cert.StepKIdeal.τ).loc Cert.StepKIdeal.main_arg1) = m ((c.tc : Thread Cert.StepKIdeal.nD Cert.StepKIdeal.τ).loc Cert.StepKIdeal.main_arg1)
      ∧ r.2.mem ((c.tc : Thread Cert.StepKIdeal.nD Cert.StepKIdeal.τ).loc Cert.StepKIdeal.main_arg2) = m ((c.tc : Thread Cert.StepKIdeal.nD Cert.StepKIdeal.τ).loc Cert.StepKIdeal.main_arg2)
      ∧ r.2.mem ((c.tc : Thread Cert.StepKIdeal.nD Cert.StepKIdeal.τ).loc Cert.StepKIdeal.main_arg3) = m ((c.tc : Thread Cert.StepKIdeal.nD Cert.StepKIdeal.τ).loc Cert.StepKIdeal.main_arg3)
      ∧ r.2.mem ((c.tc : Thread Cert.StepKIdeal.nD Cert.StepKIdeal.τ).loc Cert.StepKIdeal.main_arg4) = m ((c.tc : Thread Cert.StepKIdeal.nD Cert.StepKIdeal.τ).loc Cert.StepKIdeal.main_arg4)
      ∧ r.2.mem ((c.tc : Thread Cert.StepKIdeal.nD Cert.StepKIdeal.τ).loc Cert.StepKIdeal.main_arg5) = m ((c.tc : Thread Cert.StepKIdeal.nD Cert.StepKIdeal.τ).loc Cert.StepKIdeal.main_arg5)
      ∧ r.2.mem ((c.tc : Thread Cert.StepKIdeal.nD Cert.StepKIdeal.τ).loc Cert.StepKIdeal.main_arg6) = m ((c.tc : Thread Cert.StepKIdeal.nD Cert.StepKIdeal.τ).loc Cert.StepKIdeal.main_arg6)
      ∧ r.2.mem ((c.tc : Thread Cert.StepKIdeal.nD Cert.StepKIdeal.τ).loc Cert.StepKIdeal.main_arg7) = m ((c.tc : Thread Cert.StepKIdeal.nD Cert.StepKIdeal.τ).loc Cert.StepKIdeal.main_arg7)
      ∧ r.2.mem ((c.tc : Thread Cert.StepKIdeal.nD Cert.StepKIdeal.τ).loc Cert.StepKIdeal.main_arg8) = m ((c.tc : Thread Cert.StepKIdeal.nD Cert.StepKIdeal.τ).loc Cert.StepKIdeal.main_arg8)
      ∧ r.2.mem ((c.tc : Thread Cert.StepKIdeal.nD Cert.StepKIdeal.τ).loc Cert.StepKIdeal.main_arg9) = m ((c.tc : Thread Cert.StepKIdeal.nD Cert.StepKIdeal.τ).loc Cert.StepKIdeal.main_arg9))
      ∧ r.2.sem = fun _ => 0)

def quiescent_StepRIdeal [hStepRIdeal : Cert.StepRIdeal.Facts] : Prop :=
  ∀ (m : (ℓ : Loc Cert.StepRIdeal.nD Cert.StepRIdeal.τ Cert.StepRIdeal.sig) → Buf (Elt Ideal) ℓ) (g : Dev Cert.StepRIdeal.nD → PrngReg), Pre_StepRIdeal m →
    θ_run (Cert.StepRIdeal.defs (F := Ideal)) (onTc (τ := Cert.StepRIdeal.τ) (Cert.StepRIdeal.main (F := Ideal))) ⟨m, fun _ => 0, g⟩ (fun r => (∀ c : Dev Cert.StepRIdeal.nD,
      r.2.mem ((c.tc : Thread Cert.StepRIdeal.nD Cert.StepRIdeal.τ).loc Cert.StepRIdeal.main_arg0) = m ((c.tc : Thread Cert.StepRIdeal.nD Cert.StepRIdeal.τ).loc Cert.StepRIdeal.main_arg0)
      ∧ r.2.mem ((c.tc : Thread Cert.StepRIdeal.nD Cert.StepRIdeal.τ).loc Cert.StepRIdeal.main_arg1) = m ((c.tc : Thread Cert.StepRIdeal.nD Cert.StepRIdeal.τ).loc Cert.StepRIdeal.main_arg1)
      ∧ r.2.mem ((c.tc : Thread Cert.StepRIdeal.nD Cert.StepRIdeal.τ).loc Cert.StepRIdeal.main_arg2) = m ((c.tc : Thread Cert.StepRIdeal.nD Cert.StepRIdeal.τ).loc Cert.StepRIdeal.main_arg2)
      ∧ r.2.mem ((c.tc : Thread Cert.StepRIdeal.nD Cert.StepRIdeal.τ).loc Cert.StepRIdeal.main_arg3) = m ((c.tc : Thread Cert.StepRIdeal.nD Cert.StepRIdeal.τ).loc Cert.StepRIdeal.main_arg3)
      ∧ r.2.mem ((c.tc : Thread Cert.StepRIdeal.nD Cert.StepRIdeal.τ).loc Cert.StepRIdeal.main_arg4) = m ((c.tc : Thread Cert.StepRIdeal.nD Cert.StepRIdeal.τ).loc Cert.StepRIdeal.main_arg4)
      ∧ r.2.mem ((c.tc : Thread Cert.StepRIdeal.nD Cert.StepRIdeal.τ).loc Cert.StepRIdeal.main_arg5) = m ((c.tc : Thread Cert.StepRIdeal.nD Cert.StepRIdeal.τ).loc Cert.StepRIdeal.main_arg5)
      ∧ r.2.mem ((c.tc : Thread Cert.StepRIdeal.nD Cert.StepRIdeal.τ).loc Cert.StepRIdeal.main_arg6) = m ((c.tc : Thread Cert.StepRIdeal.nD Cert.StepRIdeal.τ).loc Cert.StepRIdeal.main_arg6)
      ∧ r.2.mem ((c.tc : Thread Cert.StepRIdeal.nD Cert.StepRIdeal.τ).loc Cert.StepRIdeal.main_arg7) = m ((c.tc : Thread Cert.StepRIdeal.nD Cert.StepRIdeal.τ).loc Cert.StepRIdeal.main_arg7)
      ∧ r.2.mem ((c.tc : Thread Cert.StepRIdeal.nD Cert.StepRIdeal.τ).loc Cert.StepRIdeal.main_arg8) = m ((c.tc : Thread Cert.StepRIdeal.nD Cert.StepRIdeal.τ).loc Cert.StepRIdeal.main_arg8)
      ∧ r.2.mem ((c.tc : Thread Cert.StepRIdeal.nD Cert.StepRIdeal.τ).loc Cert.StepRIdeal.main_arg9) = m ((c.tc : Thread Cert.StepRIdeal.nD Cert.StepRIdeal.τ).loc Cert.StepRIdeal.main_arg9))
      ∧ r.2.sem = fun _ => 0)

def quiescent_HeadK [hHeadK : Cert.HeadK.Facts] : Prop :=
  ∀ (m : (ℓ : Loc Cert.HeadK.nD Cert.HeadK.τ Cert.HeadK.sig) → Buf (Elt Bits) ℓ) (g : Dev Cert.HeadK.nD → PrngReg), Pre_HeadK m →
    θ_run (Cert.HeadK.defs (F := Bits)) (onTc (τ := Cert.HeadK.τ) (Cert.HeadK.main (F := Bits))) ⟨m, fun _ => 0, g⟩ (fun r => (∀ c : Dev Cert.HeadK.nD,
      r.2.mem ((c.tc : Thread Cert.HeadK.nD Cert.HeadK.τ).loc Cert.HeadK.main_arg0) = m ((c.tc : Thread Cert.HeadK.nD Cert.HeadK.τ).loc Cert.HeadK.main_arg0)
      ∧ r.2.mem ((c.tc : Thread Cert.HeadK.nD Cert.HeadK.τ).loc Cert.HeadK.main_arg1) = m ((c.tc : Thread Cert.HeadK.nD Cert.HeadK.τ).loc Cert.HeadK.main_arg1)
      ∧ r.2.mem ((c.tc : Thread Cert.HeadK.nD Cert.HeadK.τ).loc Cert.HeadK.main_arg2) = m ((c.tc : Thread Cert.HeadK.nD Cert.HeadK.τ).loc Cert.HeadK.main_arg2))
      ∧ r.2.sem = fun _ => 0)

def quiescent_HeadKIdeal [hHeadKIdeal : Cert.HeadKIdeal.Facts] : Prop :=
  ∀ (m : (ℓ : Loc Cert.HeadKIdeal.nD Cert.HeadKIdeal.τ Cert.HeadKIdeal.sig) → Buf (Elt Ideal) ℓ) (g : Dev Cert.HeadKIdeal.nD → PrngReg), Pre_HeadKIdeal m →
    θ_run (Cert.HeadKIdeal.defs (F := Ideal)) (onTc (τ := Cert.HeadKIdeal.τ) (Cert.HeadKIdeal.main (F := Ideal))) ⟨m, fun _ => 0, g⟩ (fun r => (∀ c : Dev Cert.HeadKIdeal.nD,
      r.2.mem ((c.tc : Thread Cert.HeadKIdeal.nD Cert.HeadKIdeal.τ).loc Cert.HeadKIdeal.main_arg0) = m ((c.tc : Thread Cert.HeadKIdeal.nD Cert.HeadKIdeal.τ).loc Cert.HeadKIdeal.main_arg0)
      ∧ r.2.mem ((c.tc : Thread Cert.HeadKIdeal.nD Cert.HeadKIdeal.τ).loc Cert.HeadKIdeal.main_arg1) = m ((c.tc : Thread Cert.HeadKIdeal.nD Cert.HeadKIdeal.τ).loc Cert.HeadKIdeal.main_arg1)
      ∧ r.2.mem ((c.tc : Thread Cert.HeadKIdeal.nD Cert.HeadKIdeal.τ).loc Cert.HeadKIdeal.main_arg2) = m ((c.tc : Thread Cert.HeadKIdeal.nD Cert.HeadKIdeal.τ).loc Cert.HeadKIdeal.main_arg2))
      ∧ r.2.sem = fun _ => 0)

def quiescent_HeadRIdeal [hHeadRIdeal : Cert.HeadRIdeal.Facts] : Prop :=
  ∀ (m : (ℓ : Loc Cert.HeadRIdeal.nD Cert.HeadRIdeal.τ Cert.HeadRIdeal.sig) → Buf (Elt Ideal) ℓ) (g : Dev Cert.HeadRIdeal.nD → PrngReg), Pre_HeadRIdeal m →
    θ_run (Cert.HeadRIdeal.defs (F := Ideal)) (onTc (τ := Cert.HeadRIdeal.τ) (Cert.HeadRIdeal.main (F := Ideal))) ⟨m, fun _ => 0, g⟩ (fun r => (∀ c : Dev Cert.HeadRIdeal.nD,
      r.2.mem ((c.tc : Thread Cert.HeadRIdeal.nD Cert.HeadRIdeal.τ).loc Cert.HeadRIdeal.main_arg0) = m ((c.tc : Thread Cert.HeadRIdeal.nD Cert.HeadRIdeal.τ).loc Cert.HeadRIdeal.main_arg0)
      ∧ r.2.mem ((c.tc : Thread Cert.HeadRIdeal.nD Cert.HeadRIdeal.τ).loc Cert.HeadRIdeal.main_arg1) = m ((c.tc : Thread Cert.HeadRIdeal.nD Cert.HeadRIdeal.τ).loc Cert.HeadRIdeal.main_arg1)
      ∧ r.2.mem ((c.tc : Thread Cert.HeadRIdeal.nD Cert.HeadRIdeal.τ).loc Cert.HeadRIdeal.main_arg2) = m ((c.tc : Thread Cert.HeadRIdeal.nD Cert.HeadRIdeal.τ).loc Cert.HeadRIdeal.main_arg2))
      ∧ r.2.sem = fun _ => 0)

def quiescent_GluK [hGluK : Cert.GluK.Facts] : Prop :=
  ∀ (m : (ℓ : Loc Cert.GluK.nD Cert.GluK.τ Cert.GluK.sig) → Buf (Elt Bits) ℓ) (g : Dev Cert.GluK.nD → PrngReg), Pre_GluK m →
    θ_run (Cert.GluK.defs (F := Bits)) (onTc (τ := Cert.GluK.τ) (Cert.GluK.main (F := Bits))) ⟨m, fun _ => 0, g⟩ (fun r => (∀ c : Dev Cert.GluK.nD,
      r.2.mem ((c.tc : Thread Cert.GluK.nD Cert.GluK.τ).loc Cert.GluK.main_arg0) = m ((c.tc : Thread Cert.GluK.nD Cert.GluK.τ).loc Cert.GluK.main_arg0)
      ∧ r.2.mem ((c.tc : Thread Cert.GluK.nD Cert.GluK.τ).loc Cert.GluK.main_arg1) = m ((c.tc : Thread Cert.GluK.nD Cert.GluK.τ).loc Cert.GluK.main_arg1)
      ∧ r.2.mem ((c.tc : Thread Cert.GluK.nD Cert.GluK.τ).loc Cert.GluK.main_arg2) = m ((c.tc : Thread Cert.GluK.nD Cert.GluK.τ).loc Cert.GluK.main_arg2)
      ∧ r.2.mem ((c.tc : Thread Cert.GluK.nD Cert.GluK.τ).loc Cert.GluK.main_arg3) = m ((c.tc : Thread Cert.GluK.nD Cert.GluK.τ).loc Cert.GluK.main_arg3))
      ∧ r.2.sem = fun _ => 0)

def quiescent_GluKIdeal [hGluKIdeal : Cert.GluKIdeal.Facts] : Prop :=
  ∀ (m : (ℓ : Loc Cert.GluKIdeal.nD Cert.GluKIdeal.τ Cert.GluKIdeal.sig) → Buf (Elt Ideal) ℓ) (g : Dev Cert.GluKIdeal.nD → PrngReg), Pre_GluKIdeal m →
    θ_run (Cert.GluKIdeal.defs (F := Ideal)) (onTc (τ := Cert.GluKIdeal.τ) (Cert.GluKIdeal.main (F := Ideal))) ⟨m, fun _ => 0, g⟩ (fun r => (∀ c : Dev Cert.GluKIdeal.nD,
      r.2.mem ((c.tc : Thread Cert.GluKIdeal.nD Cert.GluKIdeal.τ).loc Cert.GluKIdeal.main_arg0) = m ((c.tc : Thread Cert.GluKIdeal.nD Cert.GluKIdeal.τ).loc Cert.GluKIdeal.main_arg0)
      ∧ r.2.mem ((c.tc : Thread Cert.GluKIdeal.nD Cert.GluKIdeal.τ).loc Cert.GluKIdeal.main_arg1) = m ((c.tc : Thread Cert.GluKIdeal.nD Cert.GluKIdeal.τ).loc Cert.GluKIdeal.main_arg1)
      ∧ r.2.mem ((c.tc : Thread Cert.GluKIdeal.nD Cert.GluKIdeal.τ).loc Cert.GluKIdeal.main_arg2) = m ((c.tc : Thread Cert.GluKIdeal.nD Cert.GluKIdeal.τ).loc Cert.GluKIdeal.main_arg2)
      ∧ r.2.mem ((c.tc : Thread Cert.GluKIdeal.nD Cert.GluKIdeal.τ).loc Cert.GluKIdeal.main_arg3) = m ((c.tc : Thread Cert.GluKIdeal.nD Cert.GluKIdeal.τ).loc Cert.GluKIdeal.main_arg3))
      ∧ r.2.sem = fun _ => 0)

def quiescent_GluRIdeal [hGluRIdeal : Cert.GluRIdeal.Facts] : Prop :=
  ∀ (m : (ℓ : Loc Cert.GluRIdeal.nD Cert.GluRIdeal.τ Cert.GluRIdeal.sig) → Buf (Elt Ideal) ℓ) (g : Dev Cert.GluRIdeal.nD → PrngReg), Pre_GluRIdeal m →
    θ_run (Cert.GluRIdeal.defs (F := Ideal)) (onTc (τ := Cert.GluRIdeal.τ) (Cert.GluRIdeal.main (F := Ideal))) ⟨m, fun _ => 0, g⟩ (fun r => (∀ c : Dev Cert.GluRIdeal.nD,
      r.2.mem ((c.tc : Thread Cert.GluRIdeal.nD Cert.GluRIdeal.τ).loc Cert.GluRIdeal.main_arg0) = m ((c.tc : Thread Cert.GluRIdeal.nD Cert.GluRIdeal.τ).loc Cert.GluRIdeal.main_arg0)
      ∧ r.2.mem ((c.tc : Thread Cert.GluRIdeal.nD Cert.GluRIdeal.τ).loc Cert.GluRIdeal.main_arg1) = m ((c.tc : Thread Cert.GluRIdeal.nD Cert.GluRIdeal.τ).loc Cert.GluRIdeal.main_arg1)
      ∧ r.2.mem ((c.tc : Thread Cert.GluRIdeal.nD Cert.GluRIdeal.τ).loc Cert.GluRIdeal.main_arg2) = m ((c.tc : Thread Cert.GluRIdeal.nD Cert.GluRIdeal.τ).loc Cert.GluRIdeal.main_arg2)
      ∧ r.2.mem ((c.tc : Thread Cert.GluRIdeal.nD Cert.GluRIdeal.τ).loc Cert.GluRIdeal.main_arg3) = m ((c.tc : Thread Cert.GluRIdeal.nD Cert.GluRIdeal.τ).loc Cert.GluRIdeal.main_arg3))
      ∧ r.2.sem = fun _ => 0)

def quiescent_OutK [hOutK : Cert.OutK.Facts] : Prop :=
  ∀ (m : (ℓ : Loc Cert.OutK.nD Cert.OutK.τ Cert.OutK.sig) → Buf (Elt Bits) ℓ) (g : Dev Cert.OutK.nD → PrngReg), Pre_OutK m →
    θ_run (Cert.OutK.defs (F := Bits)) (onTc (τ := Cert.OutK.τ) (Cert.OutK.main (F := Bits))) ⟨m, fun _ => 0, g⟩ (fun r => (∀ c : Dev Cert.OutK.nD,
      r.2.mem ((c.tc : Thread Cert.OutK.nD Cert.OutK.τ).loc Cert.OutK.main_arg0) = m ((c.tc : Thread Cert.OutK.nD Cert.OutK.τ).loc Cert.OutK.main_arg0)
      ∧ r.2.mem ((c.tc : Thread Cert.OutK.nD Cert.OutK.τ).loc Cert.OutK.main_arg1) = m ((c.tc : Thread Cert.OutK.nD Cert.OutK.τ).loc Cert.OutK.main_arg1))
      ∧ r.2.sem = fun _ => 0)

def quiescent_OutKIdeal [hOutKIdeal : Cert.OutKIdeal.Facts] : Prop :=
  ∀ (m : (ℓ : Loc Cert.OutKIdeal.nD Cert.OutKIdeal.τ Cert.OutKIdeal.sig) → Buf (Elt Ideal) ℓ) (g : Dev Cert.OutKIdeal.nD → PrngReg), Pre_OutKIdeal m →
    θ_run (Cert.OutKIdeal.defs (F := Ideal)) (onTc (τ := Cert.OutKIdeal.τ) (Cert.OutKIdeal.main (F := Ideal))) ⟨m, fun _ => 0, g⟩ (fun r => (∀ c : Dev Cert.OutKIdeal.nD,
      r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
      ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1))
      ∧ r.2.sem = fun _ => 0)

def quiescent_OutRIdeal [hOutRIdeal : Cert.OutRIdeal.Facts] : Prop :=
  ∀ (m : (ℓ : Loc Cert.OutRIdeal.nD Cert.OutRIdeal.τ Cert.OutRIdeal.sig) → Buf (Elt Ideal) ℓ) (g : Dev Cert.OutRIdeal.nD → PrngReg), Pre_OutRIdeal m →
    θ_run (Cert.OutRIdeal.defs (F := Ideal)) (onTc (τ := Cert.OutRIdeal.τ) (Cert.OutRIdeal.main (F := Ideal))) ⟨m, fun _ => 0, g⟩ (fun r => (∀ c : Dev Cert.OutRIdeal.nD,
      r.2.mem ((c.tc : Thread Cert.OutRIdeal.nD Cert.OutRIdeal.τ).loc Cert.OutRIdeal.main_arg0) = m ((c.tc : Thread Cert.OutRIdeal.nD Cert.OutRIdeal.τ).loc Cert.OutRIdeal.main_arg0)
      ∧ r.2.mem ((c.tc : Thread Cert.OutRIdeal.nD Cert.OutRIdeal.τ).loc Cert.OutRIdeal.main_arg1) = m ((c.tc : Thread Cert.OutRIdeal.nD Cert.OutRIdeal.τ).loc Cert.OutRIdeal.main_arg1))
      ∧ r.2.sem = fun _ => 0)

def quiescent_NsaK [hNsaK : Cert.NsaK.Facts] : Prop :=
  ∀ (m : (ℓ : Loc Cert.NsaK.nD Cert.NsaK.τ Cert.NsaK.sig) → Buf (Elt Bits) ℓ) (g : Dev Cert.NsaK.nD → PrngReg), Pre_NsaK m →
    θ_run (Cert.NsaK.defs (F := Bits)) (onTc (τ := Cert.NsaK.τ) (Cert.NsaK.main (F := Bits))) ⟨m, fun _ => 0, g⟩ (fun r => (∀ c : Dev Cert.NsaK.nD,
      r.2.mem ((c.tc : Thread Cert.NsaK.nD Cert.NsaK.τ).loc Cert.NsaK.main_arg0) = m ((c.tc : Thread Cert.NsaK.nD Cert.NsaK.τ).loc Cert.NsaK.main_arg0)
      ∧ r.2.mem ((c.tc : Thread Cert.NsaK.nD Cert.NsaK.τ).loc Cert.NsaK.main_arg1) = m ((c.tc : Thread Cert.NsaK.nD Cert.NsaK.τ).loc Cert.NsaK.main_arg1)
      ∧ r.2.mem ((c.tc : Thread Cert.NsaK.nD Cert.NsaK.τ).loc Cert.NsaK.main_arg2) = m ((c.tc : Thread Cert.NsaK.nD Cert.NsaK.τ).loc Cert.NsaK.main_arg2)
      ∧ r.2.mem ((c.tc : Thread Cert.NsaK.nD Cert.NsaK.τ).loc Cert.NsaK.main_arg3) = m ((c.tc : Thread Cert.NsaK.nD Cert.NsaK.τ).loc Cert.NsaK.main_arg3)
      ∧ r.2.mem ((c.tc : Thread Cert.NsaK.nD Cert.NsaK.τ).loc Cert.NsaK.main_arg4) = m ((c.tc : Thread Cert.NsaK.nD Cert.NsaK.τ).loc Cert.NsaK.main_arg4))
      ∧ r.2.sem = fun _ => 0)

def quiescent_NsaKIdeal [hNsaKIdeal : Cert.NsaKIdeal.Facts] : Prop :=
  ∀ (m : (ℓ : Loc Cert.NsaKIdeal.nD Cert.NsaKIdeal.τ Cert.NsaKIdeal.sig) → Buf (Elt Ideal) ℓ) (g : Dev Cert.NsaKIdeal.nD → PrngReg), Pre_NsaKIdeal m →
    θ_run (Cert.NsaKIdeal.defs (F := Ideal)) (onTc (τ := Cert.NsaKIdeal.τ) (Cert.NsaKIdeal.main (F := Ideal))) ⟨m, fun _ => 0, g⟩ (fun r => (∀ c : Dev Cert.NsaKIdeal.nD,
      r.2.mem ((c.tc : Thread Cert.NsaKIdeal.nD Cert.NsaKIdeal.τ).loc Cert.NsaKIdeal.main_arg0) = m ((c.tc : Thread Cert.NsaKIdeal.nD Cert.NsaKIdeal.τ).loc Cert.NsaKIdeal.main_arg0)
      ∧ r.2.mem ((c.tc : Thread Cert.NsaKIdeal.nD Cert.NsaKIdeal.τ).loc Cert.NsaKIdeal.main_arg1) = m ((c.tc : Thread Cert.NsaKIdeal.nD Cert.NsaKIdeal.τ).loc Cert.NsaKIdeal.main_arg1)
      ∧ r.2.mem ((c.tc : Thread Cert.NsaKIdeal.nD Cert.NsaKIdeal.τ).loc Cert.NsaKIdeal.main_arg2) = m ((c.tc : Thread Cert.NsaKIdeal.nD Cert.NsaKIdeal.τ).loc Cert.NsaKIdeal.main_arg2)
      ∧ r.2.mem ((c.tc : Thread Cert.NsaKIdeal.nD Cert.NsaKIdeal.τ).loc Cert.NsaKIdeal.main_arg3) = m ((c.tc : Thread Cert.NsaKIdeal.nD Cert.NsaKIdeal.τ).loc Cert.NsaKIdeal.main_arg3)
      ∧ r.2.mem ((c.tc : Thread Cert.NsaKIdeal.nD Cert.NsaKIdeal.τ).loc Cert.NsaKIdeal.main_arg4) = m ((c.tc : Thread Cert.NsaKIdeal.nD Cert.NsaKIdeal.τ).loc Cert.NsaKIdeal.main_arg4))
      ∧ r.2.sem = fun _ => 0)

def quiescent_NsaRIdeal [hNsaRIdeal : Cert.NsaRIdeal.Facts] : Prop :=
  ∀ (m : (ℓ : Loc Cert.NsaRIdeal.nD Cert.NsaRIdeal.τ Cert.NsaRIdeal.sig) → Buf (Elt Ideal) ℓ) (g : Dev Cert.NsaRIdeal.nD → PrngReg), Pre_NsaRIdeal m →
    θ_run (Cert.NsaRIdeal.defs (F := Ideal)) (onTc (τ := Cert.NsaRIdeal.τ) (Cert.NsaRIdeal.main (F := Ideal))) ⟨m, fun _ => 0, g⟩ (fun r => (∀ c : Dev Cert.NsaRIdeal.nD,
      r.2.mem ((c.tc : Thread Cert.NsaRIdeal.nD Cert.NsaRIdeal.τ).loc Cert.NsaRIdeal.main_arg0) = m ((c.tc : Thread Cert.NsaRIdeal.nD Cert.NsaRIdeal.τ).loc Cert.NsaRIdeal.main_arg0)
      ∧ r.2.mem ((c.tc : Thread Cert.NsaRIdeal.nD Cert.NsaRIdeal.τ).loc Cert.NsaRIdeal.main_arg1) = m ((c.tc : Thread Cert.NsaRIdeal.nD Cert.NsaRIdeal.τ).loc Cert.NsaRIdeal.main_arg1)
      ∧ r.2.mem ((c.tc : Thread Cert.NsaRIdeal.nD Cert.NsaRIdeal.τ).loc Cert.NsaRIdeal.main_arg2) = m ((c.tc : Thread Cert.NsaRIdeal.nD Cert.NsaRIdeal.τ).loc Cert.NsaRIdeal.main_arg2)
      ∧ r.2.mem ((c.tc : Thread Cert.NsaRIdeal.nD Cert.NsaRIdeal.τ).loc Cert.NsaRIdeal.main_arg3) = m ((c.tc : Thread Cert.NsaRIdeal.nD Cert.NsaRIdeal.τ).loc Cert.NsaRIdeal.main_arg3)
      ∧ r.2.mem ((c.tc : Thread Cert.NsaRIdeal.nD Cert.NsaRIdeal.τ).loc Cert.NsaRIdeal.main_arg4) = m ((c.tc : Thread Cert.NsaRIdeal.nD Cert.NsaRIdeal.τ).loc Cert.NsaRIdeal.main_arg4))
      ∧ r.2.sem = fun _ => 0)

def quiescent_NsaStepK [hNsaStepK : Cert.NsaStepK.Facts] : Prop :=
  ∀ (m : (ℓ : Loc Cert.NsaStepK.nD Cert.NsaStepK.τ Cert.NsaStepK.sig) → Buf (Elt Bits) ℓ) (g : Dev Cert.NsaStepK.nD → PrngReg), Pre_NsaStepK m →
    θ_run (Cert.NsaStepK.defs (F := Bits)) (onTc (τ := Cert.NsaStepK.τ) (Cert.NsaStepK.main (F := Bits))) ⟨m, fun _ => 0, g⟩ (fun r => (∀ c : Dev Cert.NsaStepK.nD,
      r.2.mem ((c.tc : Thread Cert.NsaStepK.nD Cert.NsaStepK.τ).loc Cert.NsaStepK.main_arg0) = m ((c.tc : Thread Cert.NsaStepK.nD Cert.NsaStepK.τ).loc Cert.NsaStepK.main_arg0)
      ∧ r.2.mem ((c.tc : Thread Cert.NsaStepK.nD Cert.NsaStepK.τ).loc Cert.NsaStepK.main_arg1) = m ((c.tc : Thread Cert.NsaStepK.nD Cert.NsaStepK.τ).loc Cert.NsaStepK.main_arg1)
      ∧ r.2.mem ((c.tc : Thread Cert.NsaStepK.nD Cert.NsaStepK.τ).loc Cert.NsaStepK.main_arg2) = m ((c.tc : Thread Cert.NsaStepK.nD Cert.NsaStepK.τ).loc Cert.NsaStepK.main_arg2)
      ∧ r.2.mem ((c.tc : Thread Cert.NsaStepK.nD Cert.NsaStepK.τ).loc Cert.NsaStepK.main_arg3) = m ((c.tc : Thread Cert.NsaStepK.nD Cert.NsaStepK.τ).loc Cert.NsaStepK.main_arg3)
      ∧ r.2.mem ((c.tc : Thread Cert.NsaStepK.nD Cert.NsaStepK.τ).loc Cert.NsaStepK.main_arg4) = m ((c.tc : Thread Cert.NsaStepK.nD Cert.NsaStepK.τ).loc Cert.NsaStepK.main_arg4)
      ∧ r.2.mem ((c.tc : Thread Cert.NsaStepK.nD Cert.NsaStepK.τ).loc Cert.NsaStepK.main_arg5) = m ((c.tc : Thread Cert.NsaStepK.nD Cert.NsaStepK.τ).loc Cert.NsaStepK.main_arg5))
      ∧ r.2.sem = fun _ => 0)

def quiescent_NsaStepKIdeal [hNsaStepKIdeal : Cert.NsaStepKIdeal.Facts] : Prop :=
  ∀ (m : (ℓ : Loc Cert.NsaStepKIdeal.nD Cert.NsaStepKIdeal.τ Cert.NsaStepKIdeal.sig) → Buf (Elt Ideal) ℓ) (g : Dev Cert.NsaStepKIdeal.nD → PrngReg), Pre_NsaStepKIdeal m →
    θ_run (Cert.NsaStepKIdeal.defs (F := Ideal)) (onTc (τ := Cert.NsaStepKIdeal.τ) (Cert.NsaStepKIdeal.main (F := Ideal))) ⟨m, fun _ => 0, g⟩ (fun r => (∀ c : Dev Cert.NsaStepKIdeal.nD,
      r.2.mem ((c.tc : Thread Cert.NsaStepKIdeal.nD Cert.NsaStepKIdeal.τ).loc Cert.NsaStepKIdeal.main_arg0) = m ((c.tc : Thread Cert.NsaStepKIdeal.nD Cert.NsaStepKIdeal.τ).loc Cert.NsaStepKIdeal.main_arg0)
      ∧ r.2.mem ((c.tc : Thread Cert.NsaStepKIdeal.nD Cert.NsaStepKIdeal.τ).loc Cert.NsaStepKIdeal.main_arg1) = m ((c.tc : Thread Cert.NsaStepKIdeal.nD Cert.NsaStepKIdeal.τ).loc Cert.NsaStepKIdeal.main_arg1)
      ∧ r.2.mem ((c.tc : Thread Cert.NsaStepKIdeal.nD Cert.NsaStepKIdeal.τ).loc Cert.NsaStepKIdeal.main_arg2) = m ((c.tc : Thread Cert.NsaStepKIdeal.nD Cert.NsaStepKIdeal.τ).loc Cert.NsaStepKIdeal.main_arg2)
      ∧ r.2.mem ((c.tc : Thread Cert.NsaStepKIdeal.nD Cert.NsaStepKIdeal.τ).loc Cert.NsaStepKIdeal.main_arg3) = m ((c.tc : Thread Cert.NsaStepKIdeal.nD Cert.NsaStepKIdeal.τ).loc Cert.NsaStepKIdeal.main_arg3)
      ∧ r.2.mem ((c.tc : Thread Cert.NsaStepKIdeal.nD Cert.NsaStepKIdeal.τ).loc Cert.NsaStepKIdeal.main_arg4) = m ((c.tc : Thread Cert.NsaStepKIdeal.nD Cert.NsaStepKIdeal.τ).loc Cert.NsaStepKIdeal.main_arg4)
      ∧ r.2.mem ((c.tc : Thread Cert.NsaStepKIdeal.nD Cert.NsaStepKIdeal.τ).loc Cert.NsaStepKIdeal.main_arg5) = m ((c.tc : Thread Cert.NsaStepKIdeal.nD Cert.NsaStepKIdeal.τ).loc Cert.NsaStepKIdeal.main_arg5))
      ∧ r.2.sem = fun _ => 0)

def quiescent_NsaStepRIdeal [hNsaStepRIdeal : Cert.NsaStepRIdeal.Facts] : Prop :=
  ∀ (m : (ℓ : Loc Cert.NsaStepRIdeal.nD Cert.NsaStepRIdeal.τ Cert.NsaStepRIdeal.sig) → Buf (Elt Ideal) ℓ) (g : Dev Cert.NsaStepRIdeal.nD → PrngReg), Pre_NsaStepRIdeal m →
    θ_run (Cert.NsaStepRIdeal.defs (F := Ideal)) (onTc (τ := Cert.NsaStepRIdeal.τ) (Cert.NsaStepRIdeal.main (F := Ideal))) ⟨m, fun _ => 0, g⟩ (fun r => (∀ c : Dev Cert.NsaStepRIdeal.nD,
      r.2.mem ((c.tc : Thread Cert.NsaStepRIdeal.nD Cert.NsaStepRIdeal.τ).loc Cert.NsaStepRIdeal.main_arg0) = m ((c.tc : Thread Cert.NsaStepRIdeal.nD Cert.NsaStepRIdeal.τ).loc Cert.NsaStepRIdeal.main_arg0)
      ∧ r.2.mem ((c.tc : Thread Cert.NsaStepRIdeal.nD Cert.NsaStepRIdeal.τ).loc Cert.NsaStepRIdeal.main_arg1) = m ((c.tc : Thread Cert.NsaStepRIdeal.nD Cert.NsaStepRIdeal.τ).loc Cert.NsaStepRIdeal.main_arg1)
      ∧ r.2.mem ((c.tc : Thread Cert.NsaStepRIdeal.nD Cert.NsaStepRIdeal.τ).loc Cert.NsaStepRIdeal.main_arg2) = m ((c.tc : Thread Cert.NsaStepRIdeal.nD Cert.NsaStepRIdeal.τ).loc Cert.NsaStepRIdeal.main_arg2)
      ∧ r.2.mem ((c.tc : Thread Cert.NsaStepRIdeal.nD Cert.NsaStepRIdeal.τ).loc Cert.NsaStepRIdeal.main_arg3) = m ((c.tc : Thread Cert.NsaStepRIdeal.nD Cert.NsaStepRIdeal.τ).loc Cert.NsaStepRIdeal.main_arg3)
      ∧ r.2.mem ((c.tc : Thread Cert.NsaStepRIdeal.nD Cert.NsaStepRIdeal.τ).loc Cert.NsaStepRIdeal.main_arg4) = m ((c.tc : Thread Cert.NsaStepRIdeal.nD Cert.NsaStepRIdeal.τ).loc Cert.NsaStepRIdeal.main_arg4)
      ∧ r.2.mem ((c.tc : Thread Cert.NsaStepRIdeal.nD Cert.NsaStepRIdeal.τ).loc Cert.NsaStepRIdeal.main_arg5) = m ((c.tc : Thread Cert.NsaStepRIdeal.nD Cert.NsaStepRIdeal.τ).loc Cert.NsaStepRIdeal.main_arg5))
      ∧ r.2.sem = fun _ => 0)

def quiescent_RgStepK [hRgStepK : Cert.RgStepK.Facts] : Prop :=
  ∀ (m : (ℓ : Loc Cert.RgStepK.nD Cert.RgStepK.τ Cert.RgStepK.sig) → Buf (Elt Bits) ℓ) (g : Dev Cert.RgStepK.nD → PrngReg), Pre_RgStepK m →
    θ_run (Cert.RgStepK.defs (F := Bits)) (onTc (τ := Cert.RgStepK.τ) (Cert.RgStepK.main (F := Bits))) ⟨m, fun _ => 0, g⟩ (fun r => (∀ c : Dev Cert.RgStepK.nD,
      r.2.mem ((c.tc : Thread Cert.RgStepK.nD Cert.RgStepK.τ).loc Cert.RgStepK.main_arg0) = m ((c.tc : Thread Cert.RgStepK.nD Cert.RgStepK.τ).loc Cert.RgStepK.main_arg0)
      ∧ r.2.mem ((c.tc : Thread Cert.RgStepK.nD Cert.RgStepK.τ).loc Cert.RgStepK.main_arg1) = m ((c.tc : Thread Cert.RgStepK.nD Cert.RgStepK.τ).loc Cert.RgStepK.main_arg1)
      ∧ r.2.mem ((c.tc : Thread Cert.RgStepK.nD Cert.RgStepK.τ).loc Cert.RgStepK.main_arg2) = m ((c.tc : Thread Cert.RgStepK.nD Cert.RgStepK.τ).loc Cert.RgStepK.main_arg2)
      ∧ r.2.mem ((c.tc : Thread Cert.RgStepK.nD Cert.RgStepK.τ).loc Cert.RgStepK.main_arg3) = m ((c.tc : Thread Cert.RgStepK.nD Cert.RgStepK.τ).loc Cert.RgStepK.main_arg3)
      ∧ r.2.mem ((c.tc : Thread Cert.RgStepK.nD Cert.RgStepK.τ).loc Cert.RgStepK.main_arg4) = m ((c.tc : Thread Cert.RgStepK.nD Cert.RgStepK.τ).loc Cert.RgStepK.main_arg4)
      ∧ r.2.mem ((c.tc : Thread Cert.RgStepK.nD Cert.RgStepK.τ).loc Cert.RgStepK.main_arg5) = m ((c.tc : Thread Cert.RgStepK.nD Cert.RgStepK.τ).loc Cert.RgStepK.main_arg5)
      ∧ r.2.mem ((c.tc : Thread Cert.RgStepK.nD Cert.RgStepK.τ).loc Cert.RgStepK.main_arg6) = m ((c.tc : Thread Cert.RgStepK.nD Cert.RgStepK.τ).loc Cert.RgStepK.main_arg6)
      ∧ r.2.mem ((c.tc : Thread Cert.RgStepK.nD Cert.RgStepK.τ).loc Cert.RgStepK.main_arg7) = m ((c.tc : Thread Cert.RgStepK.nD Cert.RgStepK.τ).loc Cert.RgStepK.main_arg7)
      ∧ r.2.mem ((c.tc : Thread Cert.RgStepK.nD Cert.RgStepK.τ).loc Cert.RgStepK.main_arg8) = m ((c.tc : Thread Cert.RgStepK.nD Cert.RgStepK.τ).loc Cert.RgStepK.main_arg8)
      ∧ r.2.mem ((c.tc : Thread Cert.RgStepK.nD Cert.RgStepK.τ).loc Cert.RgStepK.main_arg9) = m ((c.tc : Thread Cert.RgStepK.nD Cert.RgStepK.τ).loc Cert.RgStepK.main_arg9)
      ∧ r.2.mem ((c.tc : Thread Cert.RgStepK.nD Cert.RgStepK.τ).loc Cert.RgStepK.main_arg10) = m ((c.tc : Thread Cert.RgStepK.nD Cert.RgStepK.τ).loc Cert.RgStepK.main_arg10)
      ∧ r.2.mem ((c.tc : Thread Cert.RgStepK.nD Cert.RgStepK.τ).loc Cert.RgStepK.main_arg11) = m ((c.tc : Thread Cert.RgStepK.nD Cert.RgStepK.τ).loc Cert.RgStepK.main_arg11)
      ∧ r.2.mem ((c.tc : Thread Cert.RgStepK.nD Cert.RgStepK.τ).loc Cert.RgStepK.main_arg12) = m ((c.tc : Thread Cert.RgStepK.nD Cert.RgStepK.τ).loc Cert.RgStepK.main_arg12)
      ∧ r.2.mem ((c.tc : Thread Cert.RgStepK.nD Cert.RgStepK.τ).loc Cert.RgStepK.main_arg13) = m ((c.tc : Thread Cert.RgStepK.nD Cert.RgStepK.τ).loc Cert.RgStepK.main_arg13)
      ∧ r.2.mem ((c.tc : Thread Cert.RgStepK.nD Cert.RgStepK.τ).loc Cert.RgStepK.main_arg14) = m ((c.tc : Thread Cert.RgStepK.nD Cert.RgStepK.τ).loc Cert.RgStepK.main_arg14))
      ∧ r.2.sem = fun _ => 0)

def quiescent_RgStepKIdeal [hRgStepKIdeal : Cert.RgStepKIdeal.Facts] : Prop :=
  ∀ (m : (ℓ : Loc Cert.RgStepKIdeal.nD Cert.RgStepKIdeal.τ Cert.RgStepKIdeal.sig) → Buf (Elt Ideal) ℓ) (g : Dev Cert.RgStepKIdeal.nD → PrngReg), Pre_RgStepKIdeal m →
    θ_run (Cert.RgStepKIdeal.defs (F := Ideal)) (onTc (τ := Cert.RgStepKIdeal.τ) (Cert.RgStepKIdeal.main (F := Ideal))) ⟨m, fun _ => 0, g⟩ (fun r => (∀ c : Dev Cert.RgStepKIdeal.nD,
      r.2.mem ((c.tc : Thread Cert.RgStepKIdeal.nD Cert.RgStepKIdeal.τ).loc Cert.RgStepKIdeal.main_arg0) = m ((c.tc : Thread Cert.RgStepKIdeal.nD Cert.RgStepKIdeal.τ).loc Cert.RgStepKIdeal.main_arg0)
      ∧ r.2.mem ((c.tc : Thread Cert.RgStepKIdeal.nD Cert.RgStepKIdeal.τ).loc Cert.RgStepKIdeal.main_arg1) = m ((c.tc : Thread Cert.RgStepKIdeal.nD Cert.RgStepKIdeal.τ).loc Cert.RgStepKIdeal.main_arg1)
      ∧ r.2.mem ((c.tc : Thread Cert.RgStepKIdeal.nD Cert.RgStepKIdeal.τ).loc Cert.RgStepKIdeal.main_arg2) = m ((c.tc : Thread Cert.RgStepKIdeal.nD Cert.RgStepKIdeal.τ).loc Cert.RgStepKIdeal.main_arg2)
      ∧ r.2.mem ((c.tc : Thread Cert.RgStepKIdeal.nD Cert.RgStepKIdeal.τ).loc Cert.RgStepKIdeal.main_arg3) = m ((c.tc : Thread Cert.RgStepKIdeal.nD Cert.RgStepKIdeal.τ).loc Cert.RgStepKIdeal.main_arg3)
      ∧ r.2.mem ((c.tc : Thread Cert.RgStepKIdeal.nD Cert.RgStepKIdeal.τ).loc Cert.RgStepKIdeal.main_arg4) = m ((c.tc : Thread Cert.RgStepKIdeal.nD Cert.RgStepKIdeal.τ).loc Cert.RgStepKIdeal.main_arg4)
      ∧ r.2.mem ((c.tc : Thread Cert.RgStepKIdeal.nD Cert.RgStepKIdeal.τ).loc Cert.RgStepKIdeal.main_arg5) = m ((c.tc : Thread Cert.RgStepKIdeal.nD Cert.RgStepKIdeal.τ).loc Cert.RgStepKIdeal.main_arg5)
      ∧ r.2.mem ((c.tc : Thread Cert.RgStepKIdeal.nD Cert.RgStepKIdeal.τ).loc Cert.RgStepKIdeal.main_arg6) = m ((c.tc : Thread Cert.RgStepKIdeal.nD Cert.RgStepKIdeal.τ).loc Cert.RgStepKIdeal.main_arg6)
      ∧ r.2.mem ((c.tc : Thread Cert.RgStepKIdeal.nD Cert.RgStepKIdeal.τ).loc Cert.RgStepKIdeal.main_arg7) = m ((c.tc : Thread Cert.RgStepKIdeal.nD Cert.RgStepKIdeal.τ).loc Cert.RgStepKIdeal.main_arg7)
      ∧ r.2.mem ((c.tc : Thread Cert.RgStepKIdeal.nD Cert.RgStepKIdeal.τ).loc Cert.RgStepKIdeal.main_arg8) = m ((c.tc : Thread Cert.RgStepKIdeal.nD Cert.RgStepKIdeal.τ).loc Cert.RgStepKIdeal.main_arg8)
      ∧ r.2.mem ((c.tc : Thread Cert.RgStepKIdeal.nD Cert.RgStepKIdeal.τ).loc Cert.RgStepKIdeal.main_arg9) = m ((c.tc : Thread Cert.RgStepKIdeal.nD Cert.RgStepKIdeal.τ).loc Cert.RgStepKIdeal.main_arg9)
      ∧ r.2.mem ((c.tc : Thread Cert.RgStepKIdeal.nD Cert.RgStepKIdeal.τ).loc Cert.RgStepKIdeal.main_arg10) = m ((c.tc : Thread Cert.RgStepKIdeal.nD Cert.RgStepKIdeal.τ).loc Cert.RgStepKIdeal.main_arg10)
      ∧ r.2.mem ((c.tc : Thread Cert.RgStepKIdeal.nD Cert.RgStepKIdeal.τ).loc Cert.RgStepKIdeal.main_arg11) = m ((c.tc : Thread Cert.RgStepKIdeal.nD Cert.RgStepKIdeal.τ).loc Cert.RgStepKIdeal.main_arg11)
      ∧ r.2.mem ((c.tc : Thread Cert.RgStepKIdeal.nD Cert.RgStepKIdeal.τ).loc Cert.RgStepKIdeal.main_arg12) = m ((c.tc : Thread Cert.RgStepKIdeal.nD Cert.RgStepKIdeal.τ).loc Cert.RgStepKIdeal.main_arg12)
      ∧ r.2.mem ((c.tc : Thread Cert.RgStepKIdeal.nD Cert.RgStepKIdeal.τ).loc Cert.RgStepKIdeal.main_arg13) = m ((c.tc : Thread Cert.RgStepKIdeal.nD Cert.RgStepKIdeal.τ).loc Cert.RgStepKIdeal.main_arg13)
      ∧ r.2.mem ((c.tc : Thread Cert.RgStepKIdeal.nD Cert.RgStepKIdeal.τ).loc Cert.RgStepKIdeal.main_arg14) = m ((c.tc : Thread Cert.RgStepKIdeal.nD Cert.RgStepKIdeal.τ).loc Cert.RgStepKIdeal.main_arg14))
      ∧ r.2.sem = fun _ => 0)

def quiescent_RgStepRIdeal [hRgStepRIdeal : Cert.RgStepRIdeal.Facts] : Prop :=
  ∀ (m : (ℓ : Loc Cert.RgStepRIdeal.nD Cert.RgStepRIdeal.τ Cert.RgStepRIdeal.sig) → Buf (Elt Ideal) ℓ) (g : Dev Cert.RgStepRIdeal.nD → PrngReg), Pre_RgStepRIdeal m →
    θ_run (Cert.RgStepRIdeal.defs (F := Ideal)) (onTc (τ := Cert.RgStepRIdeal.τ) (Cert.RgStepRIdeal.main (F := Ideal))) ⟨m, fun _ => 0, g⟩ (fun r => (∀ c : Dev Cert.RgStepRIdeal.nD,
      r.2.mem ((c.tc : Thread Cert.RgStepRIdeal.nD Cert.RgStepRIdeal.τ).loc Cert.RgStepRIdeal.main_arg0) = m ((c.tc : Thread Cert.RgStepRIdeal.nD Cert.RgStepRIdeal.τ).loc Cert.RgStepRIdeal.main_arg0)
      ∧ r.2.mem ((c.tc : Thread Cert.RgStepRIdeal.nD Cert.RgStepRIdeal.τ).loc Cert.RgStepRIdeal.main_arg1) = m ((c.tc : Thread Cert.RgStepRIdeal.nD Cert.RgStepRIdeal.τ).loc Cert.RgStepRIdeal.main_arg1)
      ∧ r.2.mem ((c.tc : Thread Cert.RgStepRIdeal.nD Cert.RgStepRIdeal.τ).loc Cert.RgStepRIdeal.main_arg2) = m ((c.tc : Thread Cert.RgStepRIdeal.nD Cert.RgStepRIdeal.τ).loc Cert.RgStepRIdeal.main_arg2)
      ∧ r.2.mem ((c.tc : Thread Cert.RgStepRIdeal.nD Cert.RgStepRIdeal.τ).loc Cert.RgStepRIdeal.main_arg3) = m ((c.tc : Thread Cert.RgStepRIdeal.nD Cert.RgStepRIdeal.τ).loc Cert.RgStepRIdeal.main_arg3)
      ∧ r.2.mem ((c.tc : Thread Cert.RgStepRIdeal.nD Cert.RgStepRIdeal.τ).loc Cert.RgStepRIdeal.main_arg4) = m ((c.tc : Thread Cert.RgStepRIdeal.nD Cert.RgStepRIdeal.τ).loc Cert.RgStepRIdeal.main_arg4)
      ∧ r.2.mem ((c.tc : Thread Cert.RgStepRIdeal.nD Cert.RgStepRIdeal.τ).loc Cert.RgStepRIdeal.main_arg5) = m ((c.tc : Thread Cert.RgStepRIdeal.nD Cert.RgStepRIdeal.τ).loc Cert.RgStepRIdeal.main_arg5)
      ∧ r.2.mem ((c.tc : Thread Cert.RgStepRIdeal.nD Cert.RgStepRIdeal.τ).loc Cert.RgStepRIdeal.main_arg6) = m ((c.tc : Thread Cert.RgStepRIdeal.nD Cert.RgStepRIdeal.τ).loc Cert.RgStepRIdeal.main_arg6)
      ∧ r.2.mem ((c.tc : Thread Cert.RgStepRIdeal.nD Cert.RgStepRIdeal.τ).loc Cert.RgStepRIdeal.main_arg7) = m ((c.tc : Thread Cert.RgStepRIdeal.nD Cert.RgStepRIdeal.τ).loc Cert.RgStepRIdeal.main_arg7)
      ∧ r.2.mem ((c.tc : Thread Cert.RgStepRIdeal.nD Cert.RgStepRIdeal.τ).loc Cert.RgStepRIdeal.main_arg8) = m ((c.tc : Thread Cert.RgStepRIdeal.nD Cert.RgStepRIdeal.τ).loc Cert.RgStepRIdeal.main_arg8)
      ∧ r.2.mem ((c.tc : Thread Cert.RgStepRIdeal.nD Cert.RgStepRIdeal.τ).loc Cert.RgStepRIdeal.main_arg9) = m ((c.tc : Thread Cert.RgStepRIdeal.nD Cert.RgStepRIdeal.τ).loc Cert.RgStepRIdeal.main_arg9)
      ∧ r.2.mem ((c.tc : Thread Cert.RgStepRIdeal.nD Cert.RgStepRIdeal.τ).loc Cert.RgStepRIdeal.main_arg10) = m ((c.tc : Thread Cert.RgStepRIdeal.nD Cert.RgStepRIdeal.τ).loc Cert.RgStepRIdeal.main_arg10)
      ∧ r.2.mem ((c.tc : Thread Cert.RgStepRIdeal.nD Cert.RgStepRIdeal.τ).loc Cert.RgStepRIdeal.main_arg11) = m ((c.tc : Thread Cert.RgStepRIdeal.nD Cert.RgStepRIdeal.τ).loc Cert.RgStepRIdeal.main_arg11)
      ∧ r.2.mem ((c.tc : Thread Cert.RgStepRIdeal.nD Cert.RgStepRIdeal.τ).loc Cert.RgStepRIdeal.main_arg12) = m ((c.tc : Thread Cert.RgStepRIdeal.nD Cert.RgStepRIdeal.τ).loc Cert.RgStepRIdeal.main_arg12)
      ∧ r.2.mem ((c.tc : Thread Cert.RgStepRIdeal.nD Cert.RgStepRIdeal.τ).loc Cert.RgStepRIdeal.main_arg13) = m ((c.tc : Thread Cert.RgStepRIdeal.nD Cert.RgStepRIdeal.τ).loc Cert.RgStepRIdeal.main_arg13)
      ∧ r.2.mem ((c.tc : Thread Cert.RgStepRIdeal.nD Cert.RgStepRIdeal.τ).loc Cert.RgStepRIdeal.main_arg14) = m ((c.tc : Thread Cert.RgStepRIdeal.nD Cert.RgStepRIdeal.τ).loc Cert.RgStepRIdeal.main_arg14))
      ∧ r.2.sem = fun _ => 0)

def quiescent_RgHeadK [hRgHeadK : Cert.RgHeadK.Facts] : Prop :=
  ∀ (m : (ℓ : Loc Cert.RgHeadK.nD Cert.RgHeadK.τ Cert.RgHeadK.sig) → Buf (Elt Bits) ℓ) (g : Dev Cert.RgHeadK.nD → PrngReg), Pre_RgHeadK m →
    θ_run (Cert.RgHeadK.defs (F := Bits)) (onTc (τ := Cert.RgHeadK.τ) (Cert.RgHeadK.main (F := Bits))) ⟨m, fun _ => 0, g⟩ (fun r => (∀ c : Dev Cert.RgHeadK.nD,
      r.2.mem ((c.tc : Thread Cert.RgHeadK.nD Cert.RgHeadK.τ).loc Cert.RgHeadK.main_arg0) = m ((c.tc : Thread Cert.RgHeadK.nD Cert.RgHeadK.τ).loc Cert.RgHeadK.main_arg0)
      ∧ r.2.mem ((c.tc : Thread Cert.RgHeadK.nD Cert.RgHeadK.τ).loc Cert.RgHeadK.main_arg1) = m ((c.tc : Thread Cert.RgHeadK.nD Cert.RgHeadK.τ).loc Cert.RgHeadK.main_arg1))
      ∧ r.2.sem = fun _ => 0)

def quiescent_RgHeadKIdeal [hRgHeadKIdeal : Cert.RgHeadKIdeal.Facts] : Prop :=
  ∀ (m : (ℓ : Loc Cert.RgHeadKIdeal.nD Cert.RgHeadKIdeal.τ Cert.RgHeadKIdeal.sig) → Buf (Elt Ideal) ℓ) (g : Dev Cert.RgHeadKIdeal.nD → PrngReg), Pre_RgHeadKIdeal m →
    θ_run (Cert.RgHeadKIdeal.defs (F := Ideal)) (onTc (τ := Cert.RgHeadKIdeal.τ) (Cert.RgHeadKIdeal.main (F := Ideal))) ⟨m, fun _ => 0, g⟩ (fun r => (∀ c : Dev Cert.RgHeadKIdeal.nD,
      r.2.mem ((c.tc : Thread Cert.RgHeadKIdeal.nD Cert.RgHeadKIdeal.τ).loc Cert.RgHeadKIdeal.main_arg0) = m ((c.tc : Thread Cert.RgHeadKIdeal.nD Cert.RgHeadKIdeal.τ).loc Cert.RgHeadKIdeal.main_arg0)
      ∧ r.2.mem ((c.tc : Thread Cert.RgHeadKIdeal.nD Cert.RgHeadKIdeal.τ).loc Cert.RgHeadKIdeal.main_arg1) = m ((c.tc : Thread Cert.RgHeadKIdeal.nD Cert.RgHeadKIdeal.τ).loc Cert.RgHeadKIdeal.main_arg1))
      ∧ r.2.sem = fun _ => 0)

def quiescent_RgHeadRIdeal [hRgHeadRIdeal : Cert.RgHeadRIdeal.Facts] : Prop :=
  ∀ (m : (ℓ : Loc Cert.RgHeadRIdeal.nD Cert.RgHeadRIdeal.τ Cert.RgHeadRIdeal.sig) → Buf (Elt Ideal) ℓ) (g : Dev Cert.RgHeadRIdeal.nD → PrngReg), Pre_RgHeadRIdeal m →
    θ_run (Cert.RgHeadRIdeal.defs (F := Ideal)) (onTc (τ := Cert.RgHeadRIdeal.τ) (Cert.RgHeadRIdeal.main (F := Ideal))) ⟨m, fun _ => 0, g⟩ (fun r => (∀ c : Dev Cert.RgHeadRIdeal.nD,
      r.2.mem ((c.tc : Thread Cert.RgHeadRIdeal.nD Cert.RgHeadRIdeal.τ).loc Cert.RgHeadRIdeal.main_arg0) = m ((c.tc : Thread Cert.RgHeadRIdeal.nD Cert.RgHeadRIdeal.τ).loc Cert.RgHeadRIdeal.main_arg0)
      ∧ r.2.mem ((c.tc : Thread Cert.RgHeadRIdeal.nD Cert.RgHeadRIdeal.τ).loc Cert.RgHeadRIdeal.main_arg1) = m ((c.tc : Thread Cert.RgHeadRIdeal.nD Cert.RgHeadRIdeal.τ).loc Cert.RgHeadRIdeal.main_arg1))
      ∧ r.2.sem = fun _ => 0)

def quiescent_RgOutK [hRgOutK : Cert.RgOutK.Facts] : Prop :=
  ∀ (m : (ℓ : Loc Cert.RgOutK.nD Cert.RgOutK.τ Cert.RgOutK.sig) → Buf (Elt Bits) ℓ) (g : Dev Cert.RgOutK.nD → PrngReg), Pre_RgOutK m →
    θ_run (Cert.RgOutK.defs (F := Bits)) (onTc (τ := Cert.RgOutK.τ) (Cert.RgOutK.main (F := Bits))) ⟨m, fun _ => 0, g⟩ (fun r => (∀ c : Dev Cert.RgOutK.nD,
      r.2.mem ((c.tc : Thread Cert.RgOutK.nD Cert.RgOutK.τ).loc Cert.RgOutK.main_arg0) = m ((c.tc : Thread Cert.RgOutK.nD Cert.RgOutK.τ).loc Cert.RgOutK.main_arg0)
      ∧ r.2.mem ((c.tc : Thread Cert.RgOutK.nD Cert.RgOutK.τ).loc Cert.RgOutK.main_arg1) = m ((c.tc : Thread Cert.RgOutK.nD Cert.RgOutK.τ).loc Cert.RgOutK.main_arg1))
      ∧ r.2.sem = fun _ => 0)

def quiescent_RgOutKIdeal [hRgOutKIdeal : Cert.RgOutKIdeal.Facts] : Prop :=
  ∀ (m : (ℓ : Loc Cert.RgOutKIdeal.nD Cert.RgOutKIdeal.τ Cert.RgOutKIdeal.sig) → Buf (Elt Ideal) ℓ) (g : Dev Cert.RgOutKIdeal.nD → PrngReg), Pre_RgOutKIdeal m →
    θ_run (Cert.RgOutKIdeal.defs (F := Ideal)) (onTc (τ := Cert.RgOutKIdeal.τ) (Cert.RgOutKIdeal.main (F := Ideal))) ⟨m, fun _ => 0, g⟩ (fun r => (∀ c : Dev Cert.RgOutKIdeal.nD,
      r.2.mem ((c.tc : Thread Cert.RgOutKIdeal.nD Cert.RgOutKIdeal.τ).loc Cert.RgOutKIdeal.main_arg0) = m ((c.tc : Thread Cert.RgOutKIdeal.nD Cert.RgOutKIdeal.τ).loc Cert.RgOutKIdeal.main_arg0)
      ∧ r.2.mem ((c.tc : Thread Cert.RgOutKIdeal.nD Cert.RgOutKIdeal.τ).loc Cert.RgOutKIdeal.main_arg1) = m ((c.tc : Thread Cert.RgOutKIdeal.nD Cert.RgOutKIdeal.τ).loc Cert.RgOutKIdeal.main_arg1))
      ∧ r.2.sem = fun _ => 0)

def quiescent_RgOutRIdeal [hRgOutRIdeal : Cert.RgOutRIdeal.Facts] : Prop :=
  ∀ (m : (ℓ : Loc Cert.RgOutRIdeal.nD Cert.RgOutRIdeal.τ Cert.RgOutRIdeal.sig) → Buf (Elt Ideal) ℓ) (g : Dev Cert.RgOutRIdeal.nD → PrngReg), Pre_RgOutRIdeal m →
    θ_run (Cert.RgOutRIdeal.defs (F := Ideal)) (onTc (τ := Cert.RgOutRIdeal.τ) (Cert.RgOutRIdeal.main (F := Ideal))) ⟨m, fun _ => 0, g⟩ (fun r => (∀ c : Dev Cert.RgOutRIdeal.nD,
      r.2.mem ((c.tc : Thread Cert.RgOutRIdeal.nD Cert.RgOutRIdeal.τ).loc Cert.RgOutRIdeal.main_arg0) = m ((c.tc : Thread Cert.RgOutRIdeal.nD Cert.RgOutRIdeal.τ).loc Cert.RgOutRIdeal.main_arg0)
      ∧ r.2.mem ((c.tc : Thread Cert.RgOutRIdeal.nD Cert.RgOutRIdeal.τ).loc Cert.RgOutRIdeal.main_arg1) = m ((c.tc : Thread Cert.RgOutRIdeal.nD Cert.RgOutRIdeal.τ).loc Cert.RgOutRIdeal.main_arg1))
      ∧ r.2.sem = fun _ => 0)

def quiescent_NsaOutK [hNsaOutK : Cert.NsaOutK.Facts] : Prop :=
  ∀ (m : (ℓ : Loc Cert.NsaOutK.nD Cert.NsaOutK.τ Cert.NsaOutK.sig) → Buf (Elt Bits) ℓ) (g : Dev Cert.NsaOutK.nD → PrngReg), Pre_NsaOutK m →
    θ_run (Cert.NsaOutK.defs (F := Bits)) (onTc (τ := Cert.NsaOutK.τ) (Cert.NsaOutK.main (F := Bits))) ⟨m, fun _ => 0, g⟩ (fun r => (∀ c : Dev Cert.NsaOutK.nD,
      r.2.mem ((c.tc : Thread Cert.NsaOutK.nD Cert.NsaOutK.τ).loc Cert.NsaOutK.main_arg0) = m ((c.tc : Thread Cert.NsaOutK.nD Cert.NsaOutK.τ).loc Cert.NsaOutK.main_arg0)
      ∧ r.2.mem ((c.tc : Thread Cert.NsaOutK.nD Cert.NsaOutK.τ).loc Cert.NsaOutK.main_arg1) = m ((c.tc : Thread Cert.NsaOutK.nD Cert.NsaOutK.τ).loc Cert.NsaOutK.main_arg1))
      ∧ r.2.sem = fun _ => 0)

def quiescent_NsaOutKIdeal [hNsaOutKIdeal : Cert.NsaOutKIdeal.Facts] : Prop :=
  ∀ (m : (ℓ : Loc Cert.NsaOutKIdeal.nD Cert.NsaOutKIdeal.τ Cert.NsaOutKIdeal.sig) → Buf (Elt Ideal) ℓ) (g : Dev Cert.NsaOutKIdeal.nD → PrngReg), Pre_NsaOutKIdeal m →
    θ_run (Cert.NsaOutKIdeal.defs (F := Ideal)) (onTc (τ := Cert.NsaOutKIdeal.τ) (Cert.NsaOutKIdeal.main (F := Ideal))) ⟨m, fun _ => 0, g⟩ (fun r => (∀ c : Dev Cert.NsaOutKIdeal.nD,
      r.2.mem ((c.tc : Thread Cert.NsaOutKIdeal.nD Cert.NsaOutKIdeal.τ).loc Cert.NsaOutKIdeal.main_arg0) = m ((c.tc : Thread Cert.NsaOutKIdeal.nD Cert.NsaOutKIdeal.τ).loc Cert.NsaOutKIdeal.main_arg0)
      ∧ r.2.mem ((c.tc : Thread Cert.NsaOutKIdeal.nD Cert.NsaOutKIdeal.τ).loc Cert.NsaOutKIdeal.main_arg1) = m ((c.tc : Thread Cert.NsaOutKIdeal.nD Cert.NsaOutKIdeal.τ).loc Cert.NsaOutKIdeal.main_arg1))
      ∧ r.2.sem = fun _ => 0)

def quiescent_NsaOutRIdeal [hNsaOutRIdeal : Cert.NsaOutRIdeal.Facts] : Prop :=
  ∀ (m : (ℓ : Loc Cert.NsaOutRIdeal.nD Cert.NsaOutRIdeal.τ Cert.NsaOutRIdeal.sig) → Buf (Elt Ideal) ℓ) (g : Dev Cert.NsaOutRIdeal.nD → PrngReg), Pre_NsaOutRIdeal m →
    θ_run (Cert.NsaOutRIdeal.defs (F := Ideal)) (onTc (τ := Cert.NsaOutRIdeal.τ) (Cert.NsaOutRIdeal.main (F := Ideal))) ⟨m, fun _ => 0, g⟩ (fun r => (∀ c : Dev Cert.NsaOutRIdeal.nD,
      r.2.mem ((c.tc : Thread Cert.NsaOutRIdeal.nD Cert.NsaOutRIdeal.τ).loc Cert.NsaOutRIdeal.main_arg0) = m ((c.tc : Thread Cert.NsaOutRIdeal.nD Cert.NsaOutRIdeal.τ).loc Cert.NsaOutRIdeal.main_arg0)
      ∧ r.2.mem ((c.tc : Thread Cert.NsaOutRIdeal.nD Cert.NsaOutRIdeal.τ).loc Cert.NsaOutRIdeal.main_arg1) = m ((c.tc : Thread Cert.NsaOutRIdeal.nD Cert.NsaOutRIdeal.τ).loc Cert.NsaOutRIdeal.main_arg1))
      ∧ r.2.sem = fun _ => 0)

def quiescent_LastK [hLastK : Cert.LastK.Facts] : Prop :=
  ∀ (m : (ℓ : Loc Cert.LastK.nD Cert.LastK.τ Cert.LastK.sig) → Buf (Elt Bits) ℓ) (g : Dev Cert.LastK.nD → PrngReg), Pre_LastK m →
    θ_run (Cert.LastK.defs (F := Bits)) (onTc (τ := Cert.LastK.τ) (Cert.LastK.main (F := Bits))) ⟨m, fun _ => 0, g⟩ (fun r => (∀ c : Dev Cert.LastK.nD,
      r.2.mem ((c.tc : Thread Cert.LastK.nD Cert.LastK.τ).loc Cert.LastK.main_arg0) = m ((c.tc : Thread Cert.LastK.nD Cert.LastK.τ).loc Cert.LastK.main_arg0)
      ∧ r.2.mem ((c.tc : Thread Cert.LastK.nD Cert.LastK.τ).loc Cert.LastK.main_arg1) = m ((c.tc : Thread Cert.LastK.nD Cert.LastK.τ).loc Cert.LastK.main_arg1)
      ∧ r.2.mem ((c.tc : Thread Cert.LastK.nD Cert.LastK.τ).loc Cert.LastK.main_arg2) = m ((c.tc : Thread Cert.LastK.nD Cert.LastK.τ).loc Cert.LastK.main_arg2)
      ∧ r.2.mem ((c.tc : Thread Cert.LastK.nD Cert.LastK.τ).loc Cert.LastK.main_arg3) = m ((c.tc : Thread Cert.LastK.nD Cert.LastK.τ).loc Cert.LastK.main_arg3)
      ∧ r.2.mem ((c.tc : Thread Cert.LastK.nD Cert.LastK.τ).loc Cert.LastK.main_arg4) = m ((c.tc : Thread Cert.LastK.nD Cert.LastK.τ).loc Cert.LastK.main_arg4))
      ∧ r.2.sem = fun _ => 0)

def quiescent_LastKIdeal [hLastKIdeal : Cert.LastKIdeal.Facts] : Prop :=
  ∀ (m : (ℓ : Loc Cert.LastKIdeal.nD Cert.LastKIdeal.τ Cert.LastKIdeal.sig) → Buf (Elt Ideal) ℓ) (g : Dev Cert.LastKIdeal.nD → PrngReg), Pre_LastKIdeal m →
    θ_run (Cert.LastKIdeal.defs (F := Ideal)) (onTc (τ := Cert.LastKIdeal.τ) (Cert.LastKIdeal.main (F := Ideal))) ⟨m, fun _ => 0, g⟩ (fun r => (∀ c : Dev Cert.LastKIdeal.nD,
      r.2.mem ((c.tc : Thread Cert.LastKIdeal.nD Cert.LastKIdeal.τ).loc Cert.LastKIdeal.main_arg0) = m ((c.tc : Thread Cert.LastKIdeal.nD Cert.LastKIdeal.τ).loc Cert.LastKIdeal.main_arg0)
      ∧ r.2.mem ((c.tc : Thread Cert.LastKIdeal.nD Cert.LastKIdeal.τ).loc Cert.LastKIdeal.main_arg1) = m ((c.tc : Thread Cert.LastKIdeal.nD Cert.LastKIdeal.τ).loc Cert.LastKIdeal.main_arg1)
      ∧ r.2.mem ((c.tc : Thread Cert.LastKIdeal.nD Cert.LastKIdeal.τ).loc Cert.LastKIdeal.main_arg2) = m ((c.tc : Thread Cert.LastKIdeal.nD Cert.LastKIdeal.τ).loc Cert.LastKIdeal.main_arg2)
      ∧ r.2.mem ((c.tc : Thread Cert.LastKIdeal.nD Cert.LastKIdeal.τ).loc Cert.LastKIdeal.main_arg3) = m ((c.tc : Thread Cert.LastKIdeal.nD Cert.LastKIdeal.τ).loc Cert.LastKIdeal.main_arg3)
      ∧ r.2.mem ((c.tc : Thread Cert.LastKIdeal.nD Cert.LastKIdeal.τ).loc Cert.LastKIdeal.main_arg4) = m ((c.tc : Thread Cert.LastKIdeal.nD Cert.LastKIdeal.τ).loc Cert.LastKIdeal.main_arg4))
      ∧ r.2.sem = fun _ => 0)

def quiescent_LastRIdeal [hLastRIdeal : Cert.LastRIdeal.Facts] : Prop :=
  ∀ (m : (ℓ : Loc Cert.LastRIdeal.nD Cert.LastRIdeal.τ Cert.LastRIdeal.sig) → Buf (Elt Ideal) ℓ) (g : Dev Cert.LastRIdeal.nD → PrngReg), Pre_LastRIdeal m →
    θ_run (Cert.LastRIdeal.defs (F := Ideal)) (onTc (τ := Cert.LastRIdeal.τ) (Cert.LastRIdeal.main (F := Ideal))) ⟨m, fun _ => 0, g⟩ (fun r => (∀ c : Dev Cert.LastRIdeal.nD,
      r.2.mem ((c.tc : Thread Cert.LastRIdeal.nD Cert.LastRIdeal.τ).loc Cert.LastRIdeal.main_arg0) = m ((c.tc : Thread Cert.LastRIdeal.nD Cert.LastRIdeal.τ).loc Cert.LastRIdeal.main_arg0)
      ∧ r.2.mem ((c.tc : Thread Cert.LastRIdeal.nD Cert.LastRIdeal.τ).loc Cert.LastRIdeal.main_arg1) = m ((c.tc : Thread Cert.LastRIdeal.nD Cert.LastRIdeal.τ).loc Cert.LastRIdeal.main_arg1)
      ∧ r.2.mem ((c.tc : Thread Cert.LastRIdeal.nD Cert.LastRIdeal.τ).loc Cert.LastRIdeal.main_arg2) = m ((c.tc : Thread Cert.LastRIdeal.nD Cert.LastRIdeal.τ).loc Cert.LastRIdeal.main_arg2)
      ∧ r.2.mem ((c.tc : Thread Cert.LastRIdeal.nD Cert.LastRIdeal.τ).loc Cert.LastRIdeal.main_arg3) = m ((c.tc : Thread Cert.LastRIdeal.nD Cert.LastRIdeal.τ).loc Cert.LastRIdeal.main_arg3)
      ∧ r.2.mem ((c.tc : Thread Cert.LastRIdeal.nD Cert.LastRIdeal.τ).loc Cert.LastRIdeal.main_arg4) = m ((c.tc : Thread Cert.LastRIdeal.nD Cert.LastRIdeal.τ).loc Cert.LastRIdeal.main_arg4))
      ∧ r.2.sem = fun _ => 0)

def quiescent_NsaWinK [hNsaWinK : Cert.NsaWinK.Facts] : Prop :=
  ∀ (m : (ℓ : Loc Cert.NsaWinK.nD Cert.NsaWinK.τ Cert.NsaWinK.sig) → Buf (Elt Bits) ℓ) (g : Dev Cert.NsaWinK.nD → PrngReg), Pre_NsaWinK m →
    θ_run (Cert.NsaWinK.defs (F := Bits)) (onTc (τ := Cert.NsaWinK.τ) (Cert.NsaWinK.main (F := Bits))) ⟨m, fun _ => 0, g⟩ (fun r => (∀ c : Dev Cert.NsaWinK.nD,
      r.2.mem ((c.tc : Thread Cert.NsaWinK.nD Cert.NsaWinK.τ).loc Cert.NsaWinK.main_arg0) = m ((c.tc : Thread Cert.NsaWinK.nD Cert.NsaWinK.τ).loc Cert.NsaWinK.main_arg0)
      ∧ r.2.mem ((c.tc : Thread Cert.NsaWinK.nD Cert.NsaWinK.τ).loc Cert.NsaWinK.main_arg1) = m ((c.tc : Thread Cert.NsaWinK.nD Cert.NsaWinK.τ).loc Cert.NsaWinK.main_arg1)
      ∧ r.2.mem ((c.tc : Thread Cert.NsaWinK.nD Cert.NsaWinK.τ).loc Cert.NsaWinK.main_arg2) = m ((c.tc : Thread Cert.NsaWinK.nD Cert.NsaWinK.τ).loc Cert.NsaWinK.main_arg2)
      ∧ r.2.mem ((c.tc : Thread Cert.NsaWinK.nD Cert.NsaWinK.τ).loc Cert.NsaWinK.main_arg3) = m ((c.tc : Thread Cert.NsaWinK.nD Cert.NsaWinK.τ).loc Cert.NsaWinK.main_arg3)
      ∧ r.2.mem ((c.tc : Thread Cert.NsaWinK.nD Cert.NsaWinK.τ).loc Cert.NsaWinK.main_arg4) = m ((c.tc : Thread Cert.NsaWinK.nD Cert.NsaWinK.τ).loc Cert.NsaWinK.main_arg4)
      ∧ r.2.mem ((c.tc : Thread Cert.NsaWinK.nD Cert.NsaWinK.τ).loc Cert.NsaWinK.main_arg5) = m ((c.tc : Thread Cert.NsaWinK.nD Cert.NsaWinK.τ).loc Cert.NsaWinK.main_arg5)
      ∧ r.2.mem ((c.tc : Thread Cert.NsaWinK.nD Cert.NsaWinK.τ).loc Cert.NsaWinK.main_arg6) = m ((c.tc : Thread Cert.NsaWinK.nD Cert.NsaWinK.τ).loc Cert.NsaWinK.main_arg6)
      ∧ r.2.mem ((c.tc : Thread Cert.NsaWinK.nD Cert.NsaWinK.τ).loc Cert.NsaWinK.main_arg7) = m ((c.tc : Thread Cert.NsaWinK.nD Cert.NsaWinK.τ).loc Cert.NsaWinK.main_arg7)
      ∧ r.2.mem ((c.tc : Thread Cert.NsaWinK.nD Cert.NsaWinK.τ).loc Cert.NsaWinK.main_arg8) = m ((c.tc : Thread Cert.NsaWinK.nD Cert.NsaWinK.τ).loc Cert.NsaWinK.main_arg8))
      ∧ r.2.sem = fun _ => 0)

def quiescent_NsaWinKIdeal [hNsaWinKIdeal : Cert.NsaWinKIdeal.Facts] : Prop :=
  ∀ (m : (ℓ : Loc Cert.NsaWinKIdeal.nD Cert.NsaWinKIdeal.τ Cert.NsaWinKIdeal.sig) → Buf (Elt Ideal) ℓ) (g : Dev Cert.NsaWinKIdeal.nD → PrngReg), Pre_NsaWinKIdeal m →
    θ_run (Cert.NsaWinKIdeal.defs (F := Ideal)) (onTc (τ := Cert.NsaWinKIdeal.τ) (Cert.NsaWinKIdeal.main (F := Ideal))) ⟨m, fun _ => 0, g⟩ (fun r => (∀ c : Dev Cert.NsaWinKIdeal.nD,
      r.2.mem ((c.tc : Thread Cert.NsaWinKIdeal.nD Cert.NsaWinKIdeal.τ).loc Cert.NsaWinKIdeal.main_arg0) = m ((c.tc : Thread Cert.NsaWinKIdeal.nD Cert.NsaWinKIdeal.τ).loc Cert.NsaWinKIdeal.main_arg0)
      ∧ r.2.mem ((c.tc : Thread Cert.NsaWinKIdeal.nD Cert.NsaWinKIdeal.τ).loc Cert.NsaWinKIdeal.main_arg1) = m ((c.tc : Thread Cert.NsaWinKIdeal.nD Cert.NsaWinKIdeal.τ).loc Cert.NsaWinKIdeal.main_arg1)
      ∧ r.2.mem ((c.tc : Thread Cert.NsaWinKIdeal.nD Cert.NsaWinKIdeal.τ).loc Cert.NsaWinKIdeal.main_arg2) = m ((c.tc : Thread Cert.NsaWinKIdeal.nD Cert.NsaWinKIdeal.τ).loc Cert.NsaWinKIdeal.main_arg2)
      ∧ r.2.mem ((c.tc : Thread Cert.NsaWinKIdeal.nD Cert.NsaWinKIdeal.τ).loc Cert.NsaWinKIdeal.main_arg3) = m ((c.tc : Thread Cert.NsaWinKIdeal.nD Cert.NsaWinKIdeal.τ).loc Cert.NsaWinKIdeal.main_arg3)
      ∧ r.2.mem ((c.tc : Thread Cert.NsaWinKIdeal.nD Cert.NsaWinKIdeal.τ).loc Cert.NsaWinKIdeal.main_arg4) = m ((c.tc : Thread Cert.NsaWinKIdeal.nD Cert.NsaWinKIdeal.τ).loc Cert.NsaWinKIdeal.main_arg4)
      ∧ r.2.mem ((c.tc : Thread Cert.NsaWinKIdeal.nD Cert.NsaWinKIdeal.τ).loc Cert.NsaWinKIdeal.main_arg5) = m ((c.tc : Thread Cert.NsaWinKIdeal.nD Cert.NsaWinKIdeal.τ).loc Cert.NsaWinKIdeal.main_arg5)
      ∧ r.2.mem ((c.tc : Thread Cert.NsaWinKIdeal.nD Cert.NsaWinKIdeal.τ).loc Cert.NsaWinKIdeal.main_arg6) = m ((c.tc : Thread Cert.NsaWinKIdeal.nD Cert.NsaWinKIdeal.τ).loc Cert.NsaWinKIdeal.main_arg6)
      ∧ r.2.mem ((c.tc : Thread Cert.NsaWinKIdeal.nD Cert.NsaWinKIdeal.τ).loc Cert.NsaWinKIdeal.main_arg7) = m ((c.tc : Thread Cert.NsaWinKIdeal.nD Cert.NsaWinKIdeal.τ).loc Cert.NsaWinKIdeal.main_arg7)
      ∧ r.2.mem ((c.tc : Thread Cert.NsaWinKIdeal.nD Cert.NsaWinKIdeal.τ).loc Cert.NsaWinKIdeal.main_arg8) = m ((c.tc : Thread Cert.NsaWinKIdeal.nD Cert.NsaWinKIdeal.τ).loc Cert.NsaWinKIdeal.main_arg8))
      ∧ r.2.sem = fun _ => 0)

def quiescent_NsaWinRIdeal [hNsaWinRIdeal : Cert.NsaWinRIdeal.Facts] : Prop :=
  ∀ (m : (ℓ : Loc Cert.NsaWinRIdeal.nD Cert.NsaWinRIdeal.τ Cert.NsaWinRIdeal.sig) → Buf (Elt Ideal) ℓ) (g : Dev Cert.NsaWinRIdeal.nD → PrngReg), Pre_NsaWinRIdeal m →
    θ_run (Cert.NsaWinRIdeal.defs (F := Ideal)) (onTc (τ := Cert.NsaWinRIdeal.τ) (Cert.NsaWinRIdeal.main (F := Ideal))) ⟨m, fun _ => 0, g⟩ (fun r => (∀ c : Dev Cert.NsaWinRIdeal.nD,
      r.2.mem ((c.tc : Thread Cert.NsaWinRIdeal.nD Cert.NsaWinRIdeal.τ).loc Cert.NsaWinRIdeal.main_arg0) = m ((c.tc : Thread Cert.NsaWinRIdeal.nD Cert.NsaWinRIdeal.τ).loc Cert.NsaWinRIdeal.main_arg0)
      ∧ r.2.mem ((c.tc : Thread Cert.NsaWinRIdeal.nD Cert.NsaWinRIdeal.τ).loc Cert.NsaWinRIdeal.main_arg1) = m ((c.tc : Thread Cert.NsaWinRIdeal.nD Cert.NsaWinRIdeal.τ).loc Cert.NsaWinRIdeal.main_arg1)
      ∧ r.2.mem ((c.tc : Thread Cert.NsaWinRIdeal.nD Cert.NsaWinRIdeal.τ).loc Cert.NsaWinRIdeal.main_arg2) = m ((c.tc : Thread Cert.NsaWinRIdeal.nD Cert.NsaWinRIdeal.τ).loc Cert.NsaWinRIdeal.main_arg2)
      ∧ r.2.mem ((c.tc : Thread Cert.NsaWinRIdeal.nD Cert.NsaWinRIdeal.τ).loc Cert.NsaWinRIdeal.main_arg3) = m ((c.tc : Thread Cert.NsaWinRIdeal.nD Cert.NsaWinRIdeal.τ).loc Cert.NsaWinRIdeal.main_arg3)
      ∧ r.2.mem ((c.tc : Thread Cert.NsaWinRIdeal.nD Cert.NsaWinRIdeal.τ).loc Cert.NsaWinRIdeal.main_arg4) = m ((c.tc : Thread Cert.NsaWinRIdeal.nD Cert.NsaWinRIdeal.τ).loc Cert.NsaWinRIdeal.main_arg4)
      ∧ r.2.mem ((c.tc : Thread Cert.NsaWinRIdeal.nD Cert.NsaWinRIdeal.τ).loc Cert.NsaWinRIdeal.main_arg5) = m ((c.tc : Thread Cert.NsaWinRIdeal.nD Cert.NsaWinRIdeal.τ).loc Cert.NsaWinRIdeal.main_arg5)
      ∧ r.2.mem ((c.tc : Thread Cert.NsaWinRIdeal.nD Cert.NsaWinRIdeal.τ).loc Cert.NsaWinRIdeal.main_arg6) = m ((c.tc : Thread Cert.NsaWinRIdeal.nD Cert.NsaWinRIdeal.τ).loc Cert.NsaWinRIdeal.main_arg6)
      ∧ r.2.mem ((c.tc : Thread Cert.NsaWinRIdeal.nD Cert.NsaWinRIdeal.τ).loc Cert.NsaWinRIdeal.main_arg7) = m ((c.tc : Thread Cert.NsaWinRIdeal.nD Cert.NsaWinRIdeal.τ).loc Cert.NsaWinRIdeal.main_arg7)
      ∧ r.2.mem ((c.tc : Thread Cert.NsaWinRIdeal.nD Cert.NsaWinRIdeal.τ).loc Cert.NsaWinRIdeal.main_arg8) = m ((c.tc : Thread Cert.NsaWinRIdeal.nD Cert.NsaWinRIdeal.τ).loc Cert.NsaWinRIdeal.main_arg8))
      ∧ r.2.sem = fun _ => 0)

def quiescent_NsaCmpK [hNsaCmpK : Cert.NsaCmpK.Facts] : Prop :=
  ∀ (m : (ℓ : Loc Cert.NsaCmpK.nD Cert.NsaCmpK.τ Cert.NsaCmpK.sig) → Buf (Elt Bits) ℓ) (g : Dev Cert.NsaCmpK.nD → PrngReg), Pre_NsaCmpK m →
    θ_run (Cert.NsaCmpK.defs (F := Bits)) (onTc (τ := Cert.NsaCmpK.τ) (Cert.NsaCmpK.main (F := Bits))) ⟨m, fun _ => 0, g⟩ (fun r => (∀ c : Dev Cert.NsaCmpK.nD,
      r.2.mem ((c.tc : Thread Cert.NsaCmpK.nD Cert.NsaCmpK.τ).loc Cert.NsaCmpK.main_arg0) = m ((c.tc : Thread Cert.NsaCmpK.nD Cert.NsaCmpK.τ).loc Cert.NsaCmpK.main_arg0)
      ∧ r.2.mem ((c.tc : Thread Cert.NsaCmpK.nD Cert.NsaCmpK.τ).loc Cert.NsaCmpK.main_arg1) = m ((c.tc : Thread Cert.NsaCmpK.nD Cert.NsaCmpK.τ).loc Cert.NsaCmpK.main_arg1)
      ∧ r.2.mem ((c.tc : Thread Cert.NsaCmpK.nD Cert.NsaCmpK.τ).loc Cert.NsaCmpK.main_arg2) = m ((c.tc : Thread Cert.NsaCmpK.nD Cert.NsaCmpK.τ).loc Cert.NsaCmpK.main_arg2)
      ∧ r.2.mem ((c.tc : Thread Cert.NsaCmpK.nD Cert.NsaCmpK.τ).loc Cert.NsaCmpK.main_arg3) = m ((c.tc : Thread Cert.NsaCmpK.nD Cert.NsaCmpK.τ).loc Cert.NsaCmpK.main_arg3)
      ∧ r.2.mem ((c.tc : Thread Cert.NsaCmpK.nD Cert.NsaCmpK.τ).loc Cert.NsaCmpK.main_arg4) = m ((c.tc : Thread Cert.NsaCmpK.nD Cert.NsaCmpK.τ).loc Cert.NsaCmpK.main_arg4)
      ∧ r.2.mem ((c.tc : Thread Cert.NsaCmpK.nD Cert.NsaCmpK.τ).loc Cert.NsaCmpK.main_arg5) = m ((c.tc : Thread Cert.NsaCmpK.nD Cert.NsaCmpK.τ).loc Cert.NsaCmpK.main_arg5))
      ∧ r.2.sem = fun _ => 0)

def quiescent_NsaCmpKIdeal [hNsaCmpKIdeal : Cert.NsaCmpKIdeal.Facts] : Prop :=
  ∀ (m : (ℓ : Loc Cert.NsaCmpKIdeal.nD Cert.NsaCmpKIdeal.τ Cert.NsaCmpKIdeal.sig) → Buf (Elt Ideal) ℓ) (g : Dev Cert.NsaCmpKIdeal.nD → PrngReg), Pre_NsaCmpKIdeal m →
    θ_run (Cert.NsaCmpKIdeal.defs (F := Ideal)) (onTc (τ := Cert.NsaCmpKIdeal.τ) (Cert.NsaCmpKIdeal.main (F := Ideal))) ⟨m, fun _ => 0, g⟩ (fun r => (∀ c : Dev Cert.NsaCmpKIdeal.nD,
      r.2.mem ((c.tc : Thread Cert.NsaCmpKIdeal.nD Cert.NsaCmpKIdeal.τ).loc Cert.NsaCmpKIdeal.main_arg0) = m ((c.tc : Thread Cert.NsaCmpKIdeal.nD Cert.NsaCmpKIdeal.τ).loc Cert.NsaCmpKIdeal.main_arg0)
      ∧ r.2.mem ((c.tc : Thread Cert.NsaCmpKIdeal.nD Cert.NsaCmpKIdeal.τ).loc Cert.NsaCmpKIdeal.main_arg1) = m ((c.tc : Thread Cert.NsaCmpKIdeal.nD Cert.NsaCmpKIdeal.τ).loc Cert.NsaCmpKIdeal.main_arg1)
      ∧ r.2.mem ((c.tc : Thread Cert.NsaCmpKIdeal.nD Cert.NsaCmpKIdeal.τ).loc Cert.NsaCmpKIdeal.main_arg2) = m ((c.tc : Thread Cert.NsaCmpKIdeal.nD Cert.NsaCmpKIdeal.τ).loc Cert.NsaCmpKIdeal.main_arg2)
      ∧ r.2.mem ((c.tc : Thread Cert.NsaCmpKIdeal.nD Cert.NsaCmpKIdeal.τ).loc Cert.NsaCmpKIdeal.main_arg3) = m ((c.tc : Thread Cert.NsaCmpKIdeal.nD Cert.NsaCmpKIdeal.τ).loc Cert.NsaCmpKIdeal.main_arg3)
      ∧ r.2.mem ((c.tc : Thread Cert.NsaCmpKIdeal.nD Cert.NsaCmpKIdeal.τ).loc Cert.NsaCmpKIdeal.main_arg4) = m ((c.tc : Thread Cert.NsaCmpKIdeal.nD Cert.NsaCmpKIdeal.τ).loc Cert.NsaCmpKIdeal.main_arg4)
      ∧ r.2.mem ((c.tc : Thread Cert.NsaCmpKIdeal.nD Cert.NsaCmpKIdeal.τ).loc Cert.NsaCmpKIdeal.main_arg5) = m ((c.tc : Thread Cert.NsaCmpKIdeal.nD Cert.NsaCmpKIdeal.τ).loc Cert.NsaCmpKIdeal.main_arg5))
      ∧ r.2.sem = fun _ => 0)

def quiescent_NsaCmpRIdeal [hNsaCmpRIdeal : Cert.NsaCmpRIdeal.Facts] : Prop :=
  ∀ (m : (ℓ : Loc Cert.NsaCmpRIdeal.nD Cert.NsaCmpRIdeal.τ Cert.NsaCmpRIdeal.sig) → Buf (Elt Ideal) ℓ) (g : Dev Cert.NsaCmpRIdeal.nD → PrngReg), Pre_NsaCmpRIdeal m →
    θ_run (Cert.NsaCmpRIdeal.defs (F := Ideal)) (onTc (τ := Cert.NsaCmpRIdeal.τ) (Cert.NsaCmpRIdeal.main (F := Ideal))) ⟨m, fun _ => 0, g⟩ (fun r => (∀ c : Dev Cert.NsaCmpRIdeal.nD,
      r.2.mem ((c.tc : Thread Cert.NsaCmpRIdeal.nD Cert.NsaCmpRIdeal.τ).loc Cert.NsaCmpRIdeal.main_arg0) = m ((c.tc : Thread Cert.NsaCmpRIdeal.nD Cert.NsaCmpRIdeal.τ).loc Cert.NsaCmpRIdeal.main_arg0)
      ∧ r.2.mem ((c.tc : Thread Cert.NsaCmpRIdeal.nD Cert.NsaCmpRIdeal.τ).loc Cert.NsaCmpRIdeal.main_arg1) = m ((c.tc : Thread Cert.NsaCmpRIdeal.nD Cert.NsaCmpRIdeal.τ).loc Cert.NsaCmpRIdeal.main_arg1)
      ∧ r.2.mem ((c.tc : Thread Cert.NsaCmpRIdeal.nD Cert.NsaCmpRIdeal.τ).loc Cert.NsaCmpRIdeal.main_arg2) = m ((c.tc : Thread Cert.NsaCmpRIdeal.nD Cert.NsaCmpRIdeal.τ).loc Cert.NsaCmpRIdeal.main_arg2)
      ∧ r.2.mem ((c.tc : Thread Cert.NsaCmpRIdeal.nD Cert.NsaCmpRIdeal.τ).loc Cert.NsaCmpRIdeal.main_arg3) = m ((c.tc : Thread Cert.NsaCmpRIdeal.nD Cert.NsaCmpRIdeal.τ).loc Cert.NsaCmpRIdeal.main_arg3)
      ∧ r.2.mem ((c.tc : Thread Cert.NsaCmpRIdeal.nD Cert.NsaCmpRIdeal.τ).loc Cert.NsaCmpRIdeal.main_arg4) = m ((c.tc : Thread Cert.NsaCmpRIdeal.nD Cert.NsaCmpRIdeal.τ).loc Cert.NsaCmpRIdeal.main_arg4)
      ∧ r.2.mem ((c.tc : Thread Cert.NsaCmpRIdeal.nD Cert.NsaCmpRIdeal.τ).loc Cert.NsaCmpRIdeal.main_arg5) = m ((c.tc : Thread Cert.NsaCmpRIdeal.nD Cert.NsaCmpRIdeal.τ).loc Cert.NsaCmpRIdeal.main_arg5))
      ∧ r.2.sem = fun _ => 0)

def quiescent_NsaSelK [hNsaSelK : Cert.NsaSelK.Facts] : Prop :=
  ∀ (m : (ℓ : Loc Cert.NsaSelK.nD Cert.NsaSelK.τ Cert.NsaSelK.sig) → Buf (Elt Bits) ℓ) (g : Dev Cert.NsaSelK.nD → PrngReg), Pre_NsaSelK m →
    θ_run (Cert.NsaSelK.defs (F := Bits)) (onTc (τ := Cert.NsaSelK.τ) (Cert.NsaSelK.main (F := Bits))) ⟨m, fun _ => 0, g⟩ (fun r => (∀ c : Dev Cert.NsaSelK.nD,
      r.2.mem ((c.tc : Thread Cert.NsaSelK.nD Cert.NsaSelK.τ).loc Cert.NsaSelK.main_arg0) = m ((c.tc : Thread Cert.NsaSelK.nD Cert.NsaSelK.τ).loc Cert.NsaSelK.main_arg0)
      ∧ r.2.mem ((c.tc : Thread Cert.NsaSelK.nD Cert.NsaSelK.τ).loc Cert.NsaSelK.main_arg1) = m ((c.tc : Thread Cert.NsaSelK.nD Cert.NsaSelK.τ).loc Cert.NsaSelK.main_arg1))
      ∧ r.2.sem = fun _ => 0)

def quiescent_NsaSelKIdeal [hNsaSelKIdeal : Cert.NsaSelKIdeal.Facts] : Prop :=
  ∀ (m : (ℓ : Loc Cert.NsaSelKIdeal.nD Cert.NsaSelKIdeal.τ Cert.NsaSelKIdeal.sig) → Buf (Elt Ideal) ℓ) (g : Dev Cert.NsaSelKIdeal.nD → PrngReg), Pre_NsaSelKIdeal m →
    θ_run (Cert.NsaSelKIdeal.defs (F := Ideal)) (onTc (τ := Cert.NsaSelKIdeal.τ) (Cert.NsaSelKIdeal.main (F := Ideal))) ⟨m, fun _ => 0, g⟩ (fun r => (∀ c : Dev Cert.NsaSelKIdeal.nD,
      r.2.mem ((c.tc : Thread Cert.NsaSelKIdeal.nD Cert.NsaSelKIdeal.τ).loc Cert.NsaSelKIdeal.main_arg0) = m ((c.tc : Thread Cert.NsaSelKIdeal.nD Cert.NsaSelKIdeal.τ).loc Cert.NsaSelKIdeal.main_arg0)
      ∧ r.2.mem ((c.tc : Thread Cert.NsaSelKIdeal.nD Cert.NsaSelKIdeal.τ).loc Cert.NsaSelKIdeal.main_arg1) = m ((c.tc : Thread Cert.NsaSelKIdeal.nD Cert.NsaSelKIdeal.τ).loc Cert.NsaSelKIdeal.main_arg1))
      ∧ r.2.sem = fun _ => 0)

def quiescent_NsaSelRIdeal [hNsaSelRIdeal : Cert.NsaSelRIdeal.Facts] : Prop :=
  ∀ (m : (ℓ : Loc Cert.NsaSelRIdeal.nD Cert.NsaSelRIdeal.τ Cert.NsaSelRIdeal.sig) → Buf (Elt Ideal) ℓ) (g : Dev Cert.NsaSelRIdeal.nD → PrngReg), Pre_NsaSelRIdeal m →
    θ_run (Cert.NsaSelRIdeal.defs (F := Ideal)) (onTc (τ := Cert.NsaSelRIdeal.τ) (Cert.NsaSelRIdeal.main (F := Ideal))) ⟨m, fun _ => 0, g⟩ (fun r => (∀ c : Dev Cert.NsaSelRIdeal.nD,
      r.2.mem ((c.tc : Thread Cert.NsaSelRIdeal.nD Cert.NsaSelRIdeal.τ).loc Cert.NsaSelRIdeal.main_arg0) = m ((c.tc : Thread Cert.NsaSelRIdeal.nD Cert.NsaSelRIdeal.τ).loc Cert.NsaSelRIdeal.main_arg0)
      ∧ r.2.mem ((c.tc : Thread Cert.NsaSelRIdeal.nD Cert.NsaSelRIdeal.τ).loc Cert.NsaSelRIdeal.main_arg1) = m ((c.tc : Thread Cert.NsaSelRIdeal.nD Cert.NsaSelRIdeal.τ).loc Cert.NsaSelRIdeal.main_arg1))
      ∧ r.2.sem = fun _ => 0)

def preserves_StepK_StepKIdeal : Prop :=
  True

def algebraic_StepKIdeal_StepRIdeal [hStepKIdeal : Cert.StepKIdeal.Facts] [hStepRIdeal : Cert.StepRIdeal.Facts] : Prop :=
  ∀ (m : (ℓ : Loc Cert.StepKIdeal.nD Cert.StepKIdeal.τ Cert.StepKIdeal.sig) → Buf (Elt Ideal) ℓ) (g : Dev Cert.StepKIdeal.nD → PrngReg)
    (m' : (ℓ : Loc Cert.StepRIdeal.nD Cert.StepRIdeal.τ Cert.StepRIdeal.sig) → Buf (Elt Ideal) ℓ) (g' : Dev Cert.StepRIdeal.nD → PrngReg), Pre_StepKIdeal m →
    (∀ c : Dev Cert.StepKIdeal.nD,
      m' ((c.tc : Thread Cert.StepRIdeal.nD Cert.StepRIdeal.τ).loc Cert.StepRIdeal.main_arg0) = m ((c.tc : Thread Cert.StepKIdeal.nD Cert.StepKIdeal.τ).loc Cert.StepKIdeal.main_arg0)
      ∧ m' ((c.tc : Thread Cert.StepRIdeal.nD Cert.StepRIdeal.τ).loc Cert.StepRIdeal.main_arg1) = m ((c.tc : Thread Cert.StepKIdeal.nD Cert.StepKIdeal.τ).loc Cert.StepKIdeal.main_arg1)
      ∧ m' ((c.tc : Thread Cert.StepRIdeal.nD Cert.StepRIdeal.τ).loc Cert.StepRIdeal.main_arg2) = m ((c.tc : Thread Cert.StepKIdeal.nD Cert.StepKIdeal.τ).loc Cert.StepKIdeal.main_arg2)
      ∧ m' ((c.tc : Thread Cert.StepRIdeal.nD Cert.StepRIdeal.τ).loc Cert.StepRIdeal.main_arg3) = m ((c.tc : Thread Cert.StepKIdeal.nD Cert.StepKIdeal.τ).loc Cert.StepKIdeal.main_arg3)
      ∧ m' ((c.tc : Thread Cert.StepRIdeal.nD Cert.StepRIdeal.τ).loc Cert.StepRIdeal.main_arg4) = m ((c.tc : Thread Cert.StepKIdeal.nD Cert.StepKIdeal.τ).loc Cert.StepKIdeal.main_arg4)
      ∧ m' ((c.tc : Thread Cert.StepRIdeal.nD Cert.StepRIdeal.τ).loc Cert.StepRIdeal.main_arg5) = m ((c.tc : Thread Cert.StepKIdeal.nD Cert.StepKIdeal.τ).loc Cert.StepKIdeal.main_arg5)
      ∧ m' ((c.tc : Thread Cert.StepRIdeal.nD Cert.StepRIdeal.τ).loc Cert.StepRIdeal.main_arg6) = m ((c.tc : Thread Cert.StepKIdeal.nD Cert.StepKIdeal.τ).loc Cert.StepKIdeal.main_arg6)
      ∧ m' ((c.tc : Thread Cert.StepRIdeal.nD Cert.StepRIdeal.τ).loc Cert.StepRIdeal.main_arg7) = m ((c.tc : Thread Cert.StepKIdeal.nD Cert.StepKIdeal.τ).loc Cert.StepKIdeal.main_arg7)
      ∧ m' ((c.tc : Thread Cert.StepRIdeal.nD Cert.StepRIdeal.τ).loc Cert.StepRIdeal.main_arg8) = m ((c.tc : Thread Cert.StepKIdeal.nD Cert.StepKIdeal.τ).loc Cert.StepKIdeal.main_arg8)
      ∧ m' ((c.tc : Thread Cert.StepRIdeal.nD Cert.StepRIdeal.τ).loc Cert.StepRIdeal.main_arg9) = m ((c.tc : Thread Cert.StepKIdeal.nD Cert.StepKIdeal.τ).loc Cert.StepKIdeal.main_arg9)) →
    ∃ (v0 : (c : Dev Cert.StepKIdeal.nD) → Buf (Elt Ideal) ((c.tc : Thread Cert.StepKIdeal.nD Cert.StepKIdeal.τ).loc Cert.StepKIdeal.main_v95)),
      θ_run (Cert.StepKIdeal.defs (F := Ideal)) (onTc (τ := Cert.StepKIdeal.τ) (Cert.StepKIdeal.main (F := Ideal))) ⟨m, fun _ => 0, g⟩ (fun r => ∀ c : Dev Cert.StepKIdeal.nD,
          r.2.mem ((c.tc : Thread Cert.StepKIdeal.nD Cert.StepKIdeal.τ).loc Cert.StepKIdeal.main_v95) = v0 c
          ∧ r.2.mem ((c.tc : Thread Cert.StepKIdeal.nD Cert.StepKIdeal.τ).loc Cert.StepKIdeal.main_arg0) = m ((c.tc : Thread Cert.StepKIdeal.nD Cert.StepKIdeal.τ).loc Cert.StepKIdeal.main_arg0)
          ∧ r.2.mem ((c.tc : Thread Cert.StepKIdeal.nD Cert.StepKIdeal.τ).loc Cert.StepKIdeal.main_arg1) = m ((c.tc : Thread Cert.StepKIdeal.nD Cert.StepKIdeal.τ).loc Cert.StepKIdeal.main_arg1)
          ∧ r.2.mem ((c.tc : Thread Cert.StepKIdeal.nD Cert.StepKIdeal.τ).loc Cert.StepKIdeal.main_arg2) = m ((c.tc : Thread Cert.StepKIdeal.nD Cert.StepKIdeal.τ).loc Cert.StepKIdeal.main_arg2)
          ∧ r.2.mem ((c.tc : Thread Cert.StepKIdeal.nD Cert.StepKIdeal.τ).loc Cert.StepKIdeal.main_arg3) = m ((c.tc : Thread Cert.StepKIdeal.nD Cert.StepKIdeal.τ).loc Cert.StepKIdeal.main_arg3)
          ∧ r.2.mem ((c.tc : Thread Cert.StepKIdeal.nD Cert.StepKIdeal.τ).loc Cert.StepKIdeal.main_arg4) = m ((c.tc : Thread Cert.StepKIdeal.nD Cert.StepKIdeal.τ).loc Cert.StepKIdeal.main_arg4)
          ∧ r.2.mem ((c.tc : Thread Cert.StepKIdeal.nD Cert.StepKIdeal.τ).loc Cert.StepKIdeal.main_arg5) = m ((c.tc : Thread Cert.StepKIdeal.nD Cert.StepKIdeal.τ).loc Cert.StepKIdeal.main_arg5)
          ∧ r.2.mem ((c.tc : Thread Cert.StepKIdeal.nD Cert.StepKIdeal.τ).loc Cert.StepKIdeal.main_arg6) = m ((c.tc : Thread Cert.StepKIdeal.nD Cert.StepKIdeal.τ).loc Cert.StepKIdeal.main_arg6)
          ∧ r.2.mem ((c.tc : Thread Cert.StepKIdeal.nD Cert.StepKIdeal.τ).loc Cert.StepKIdeal.main_arg7) = m ((c.tc : Thread Cert.StepKIdeal.nD Cert.StepKIdeal.τ).loc Cert.StepKIdeal.main_arg7)
          ∧ r.2.mem ((c.tc : Thread Cert.StepKIdeal.nD Cert.StepKIdeal.τ).loc Cert.StepKIdeal.main_arg8) = m ((c.tc : Thread Cert.StepKIdeal.nD Cert.StepKIdeal.τ).loc Cert.StepKIdeal.main_arg8)
          ∧ r.2.mem ((c.tc : Thread Cert.StepKIdeal.nD Cert.StepKIdeal.τ).loc Cert.StepKIdeal.main_arg9) = m ((c.tc : Thread Cert.StepKIdeal.nD Cert.StepKIdeal.τ).loc Cert.StepKIdeal.main_arg9))
      ∧ θ_run (Cert.StepRIdeal.defs (F := Ideal)) (onTc (τ := Cert.StepRIdeal.τ) (Cert.StepRIdeal.main (F := Ideal))) ⟨m', fun _ => 0, g'⟩ (fun r => ∀ c : Dev Cert.StepRIdeal.nD,
          r.2.mem ((c.tc : Thread Cert.StepRIdeal.nD Cert.StepRIdeal.τ).loc Cert.StepRIdeal.main_v93) = v0 c
          ∧ r.2.mem ((c.tc : Thread Cert.StepRIdeal.nD Cert.StepRIdeal.τ).loc Cert.StepRIdeal.main_arg0) = m' ((c.tc : Thread Cert.StepRIdeal.nD Cert.StepRIdeal.τ).loc Cert.StepRIdeal.main_arg0)
          ∧ r.2.mem ((c.tc : Thread Cert.StepRIdeal.nD Cert.StepRIdeal.τ).loc Cert.StepRIdeal.main_arg1) = m' ((c.tc : Thread Cert.StepRIdeal.nD Cert.StepRIdeal.τ).loc Cert.StepRIdeal.main_arg1)
          ∧ r.2.mem ((c.tc : Thread Cert.StepRIdeal.nD Cert.StepRIdeal.τ).loc Cert.StepRIdeal.main_arg2) = m' ((c.tc : Thread Cert.StepRIdeal.nD Cert.StepRIdeal.τ).loc Cert.StepRIdeal.main_arg2)
          ∧ r.2.mem ((c.tc : Thread Cert.StepRIdeal.nD Cert.StepRIdeal.τ).loc Cert.StepRIdeal.main_arg3) = m' ((c.tc : Thread Cert.StepRIdeal.nD Cert.StepRIdeal.τ).loc Cert.StepRIdeal.main_arg3)
          ∧ r.2.mem ((c.tc : Thread Cert.StepRIdeal.nD Cert.StepRIdeal.τ).loc Cert.StepRIdeal.main_arg4) = m' ((c.tc : Thread Cert.StepRIdeal.nD Cert.StepRIdeal.τ).loc Cert.StepRIdeal.main_arg4)
          ∧ r.2.mem ((c.tc : Thread Cert.StepRIdeal.nD Cert.StepRIdeal.τ).loc Cert.StepRIdeal.main_arg5) = m' ((c.tc : Thread Cert.StepRIdeal.nD Cert.StepRIdeal.τ).loc Cert.StepRIdeal.main_arg5)
          ∧ r.2.mem ((c.tc : Thread Cert.StepRIdeal.nD Cert.StepRIdeal.τ).loc Cert.StepRIdeal.main_arg6) = m' ((c.tc : Thread Cert.StepRIdeal.nD Cert.StepRIdeal.τ).loc Cert.StepRIdeal.main_arg6)
          ∧ r.2.mem ((c.tc : Thread Cert.StepRIdeal.nD Cert.StepRIdeal.τ).loc Cert.StepRIdeal.main_arg7) = m' ((c.tc : Thread Cert.StepRIdeal.nD Cert.StepRIdeal.τ).loc Cert.StepRIdeal.main_arg7)
          ∧ r.2.mem ((c.tc : Thread Cert.StepRIdeal.nD Cert.StepRIdeal.τ).loc Cert.StepRIdeal.main_arg8) = m' ((c.tc : Thread Cert.StepRIdeal.nD Cert.StepRIdeal.τ).loc Cert.StepRIdeal.main_arg8)
          ∧ r.2.mem ((c.tc : Thread Cert.StepRIdeal.nD Cert.StepRIdeal.τ).loc Cert.StepRIdeal.main_arg9) = m' ((c.tc : Thread Cert.StepRIdeal.nD Cert.StepRIdeal.τ).loc Cert.StepRIdeal.main_arg9))

def preserves_HeadK_HeadKIdeal : Prop :=
  True

def algebraic_HeadKIdeal_HeadRIdeal [hHeadKIdeal : Cert.HeadKIdeal.Facts] [hHeadRIdeal : Cert.HeadRIdeal.Facts] : Prop :=
  ∀ (m : (ℓ : Loc Cert.HeadKIdeal.nD Cert.HeadKIdeal.τ Cert.HeadKIdeal.sig) → Buf (Elt Ideal) ℓ) (g : Dev Cert.HeadKIdeal.nD → PrngReg)
    (m' : (ℓ : Loc Cert.HeadRIdeal.nD Cert.HeadRIdeal.τ Cert.HeadRIdeal.sig) → Buf (Elt Ideal) ℓ) (g' : Dev Cert.HeadRIdeal.nD → PrngReg), Pre_HeadKIdeal m →
    (∀ c : Dev Cert.HeadKIdeal.nD,
      m' ((c.tc : Thread Cert.HeadRIdeal.nD Cert.HeadRIdeal.τ).loc Cert.HeadRIdeal.main_arg0) = m ((c.tc : Thread Cert.HeadKIdeal.nD Cert.HeadKIdeal.τ).loc Cert.HeadKIdeal.main_arg0)
      ∧ m' ((c.tc : Thread Cert.HeadRIdeal.nD Cert.HeadRIdeal.τ).loc Cert.HeadRIdeal.main_arg1) = m ((c.tc : Thread Cert.HeadKIdeal.nD Cert.HeadKIdeal.τ).loc Cert.HeadKIdeal.main_arg1)
      ∧ m' ((c.tc : Thread Cert.HeadRIdeal.nD Cert.HeadRIdeal.τ).loc Cert.HeadRIdeal.main_arg2) = m ((c.tc : Thread Cert.HeadKIdeal.nD Cert.HeadKIdeal.τ).loc Cert.HeadKIdeal.main_arg2)) →
    ∃ (v0 : (c : Dev Cert.HeadKIdeal.nD) → Buf (Elt Ideal) ((c.tc : Thread Cert.HeadKIdeal.nD Cert.HeadKIdeal.τ).loc Cert.HeadKIdeal.main_v7)),
      θ_run (Cert.HeadKIdeal.defs (F := Ideal)) (onTc (τ := Cert.HeadKIdeal.τ) (Cert.HeadKIdeal.main (F := Ideal))) ⟨m, fun _ => 0, g⟩ (fun r => ∀ c : Dev Cert.HeadKIdeal.nD,
          r.2.mem ((c.tc : Thread Cert.HeadKIdeal.nD Cert.HeadKIdeal.τ).loc Cert.HeadKIdeal.main_v7) = v0 c
          ∧ r.2.mem ((c.tc : Thread Cert.HeadKIdeal.nD Cert.HeadKIdeal.τ).loc Cert.HeadKIdeal.main_arg0) = m ((c.tc : Thread Cert.HeadKIdeal.nD Cert.HeadKIdeal.τ).loc Cert.HeadKIdeal.main_arg0)
          ∧ r.2.mem ((c.tc : Thread Cert.HeadKIdeal.nD Cert.HeadKIdeal.τ).loc Cert.HeadKIdeal.main_arg1) = m ((c.tc : Thread Cert.HeadKIdeal.nD Cert.HeadKIdeal.τ).loc Cert.HeadKIdeal.main_arg1)
          ∧ r.2.mem ((c.tc : Thread Cert.HeadKIdeal.nD Cert.HeadKIdeal.τ).loc Cert.HeadKIdeal.main_arg2) = m ((c.tc : Thread Cert.HeadKIdeal.nD Cert.HeadKIdeal.τ).loc Cert.HeadKIdeal.main_arg2))
      ∧ θ_run (Cert.HeadRIdeal.defs (F := Ideal)) (onTc (τ := Cert.HeadRIdeal.τ) (Cert.HeadRIdeal.main (F := Ideal))) ⟨m', fun _ => 0, g'⟩ (fun r => ∀ c : Dev Cert.HeadRIdeal.nD,
          r.2.mem ((c.tc : Thread Cert.HeadRIdeal.nD Cert.HeadRIdeal.τ).loc Cert.HeadRIdeal.main_v13) = v0 c
          ∧ r.2.mem ((c.tc : Thread Cert.HeadRIdeal.nD Cert.HeadRIdeal.τ).loc Cert.HeadRIdeal.main_arg0) = m' ((c.tc : Thread Cert.HeadRIdeal.nD Cert.HeadRIdeal.τ).loc Cert.HeadRIdeal.main_arg0)
          ∧ r.2.mem ((c.tc : Thread Cert.HeadRIdeal.nD Cert.HeadRIdeal.τ).loc Cert.HeadRIdeal.main_arg1) = m' ((c.tc : Thread Cert.HeadRIdeal.nD Cert.HeadRIdeal.τ).loc Cert.HeadRIdeal.main_arg1)
          ∧ r.2.mem ((c.tc : Thread Cert.HeadRIdeal.nD Cert.HeadRIdeal.τ).loc Cert.HeadRIdeal.main_arg2) = m' ((c.tc : Thread Cert.HeadRIdeal.nD Cert.HeadRIdeal.τ).loc Cert.HeadRIdeal.main_arg2))

def preserves_GluK_GluKIdeal : Prop :=
  True

def algebraic_GluKIdeal_GluRIdeal [hGluKIdeal : Cert.GluKIdeal.Facts] [hGluRIdeal : Cert.GluRIdeal.Facts] : Prop :=
  ∀ (m : (ℓ : Loc Cert.GluKIdeal.nD Cert.GluKIdeal.τ Cert.GluKIdeal.sig) → Buf (Elt Ideal) ℓ) (g : Dev Cert.GluKIdeal.nD → PrngReg)
    (m' : (ℓ : Loc Cert.GluRIdeal.nD Cert.GluRIdeal.τ Cert.GluRIdeal.sig) → Buf (Elt Ideal) ℓ) (g' : Dev Cert.GluRIdeal.nD → PrngReg), Pre_GluKIdeal m →
    (∀ c : Dev Cert.GluKIdeal.nD,
      m' ((c.tc : Thread Cert.GluRIdeal.nD Cert.GluRIdeal.τ).loc Cert.GluRIdeal.main_arg0) = m ((c.tc : Thread Cert.GluKIdeal.nD Cert.GluKIdeal.τ).loc Cert.GluKIdeal.main_arg0)
      ∧ m' ((c.tc : Thread Cert.GluRIdeal.nD Cert.GluRIdeal.τ).loc Cert.GluRIdeal.main_arg1) = m ((c.tc : Thread Cert.GluKIdeal.nD Cert.GluKIdeal.τ).loc Cert.GluKIdeal.main_arg1)
      ∧ m' ((c.tc : Thread Cert.GluRIdeal.nD Cert.GluRIdeal.τ).loc Cert.GluRIdeal.main_arg2) = m ((c.tc : Thread Cert.GluKIdeal.nD Cert.GluKIdeal.τ).loc Cert.GluKIdeal.main_arg2)
      ∧ m' ((c.tc : Thread Cert.GluRIdeal.nD Cert.GluRIdeal.τ).loc Cert.GluRIdeal.main_arg3) = m ((c.tc : Thread Cert.GluKIdeal.nD Cert.GluKIdeal.τ).loc Cert.GluKIdeal.main_arg3)) →
    ∃ (v0 : (c : Dev Cert.GluKIdeal.nD) → Buf (Elt Ideal) ((c.tc : Thread Cert.GluKIdeal.nD Cert.GluKIdeal.τ).loc Cert.GluKIdeal.main_v4)),
      θ_run (Cert.GluKIdeal.defs (F := Ideal)) (onTc (τ := Cert.GluKIdeal.τ) (Cert.GluKIdeal.main (F := Ideal))) ⟨m, fun _ => 0, g⟩ (fun r => ∀ c : Dev Cert.GluKIdeal.nD,
          r.2.mem ((c.tc : Thread Cert.GluKIdeal.nD Cert.GluKIdeal.τ).loc Cert.GluKIdeal.main_v4) = v0 c
          ∧ r.2.mem ((c.tc : Thread Cert.GluKIdeal.nD Cert.GluKIdeal.τ).loc Cert.GluKIdeal.main_arg0) = m ((c.tc : Thread Cert.GluKIdeal.nD Cert.GluKIdeal.τ).loc Cert.GluKIdeal.main_arg0)
          ∧ r.2.mem ((c.tc : Thread Cert.GluKIdeal.nD Cert.GluKIdeal.τ).loc Cert.GluKIdeal.main_arg1) = m ((c.tc : Thread Cert.GluKIdeal.nD Cert.GluKIdeal.τ).loc Cert.GluKIdeal.main_arg1)
          ∧ r.2.mem ((c.tc : Thread Cert.GluKIdeal.nD Cert.GluKIdeal.τ).loc Cert.GluKIdeal.main_arg2) = m ((c.tc : Thread Cert.GluKIdeal.nD Cert.GluKIdeal.τ).loc Cert.GluKIdeal.main_arg2)
          ∧ r.2.mem ((c.tc : Thread Cert.GluKIdeal.nD Cert.GluKIdeal.τ).loc Cert.GluKIdeal.main_arg3) = m ((c.tc : Thread Cert.GluKIdeal.nD Cert.GluKIdeal.τ).loc Cert.GluKIdeal.main_arg3))
      ∧ θ_run (Cert.GluRIdeal.defs (F := Ideal)) (onTc (τ := Cert.GluRIdeal.τ) (Cert.GluRIdeal.main (F := Ideal))) ⟨m', fun _ => 0, g'⟩ (fun r => ∀ c : Dev Cert.GluRIdeal.nD,
          r.2.mem ((c.tc : Thread Cert.GluRIdeal.nD Cert.GluRIdeal.τ).loc Cert.GluRIdeal.main_v17) = v0 c
          ∧ r.2.mem ((c.tc : Thread Cert.GluRIdeal.nD Cert.GluRIdeal.τ).loc Cert.GluRIdeal.main_arg0) = m' ((c.tc : Thread Cert.GluRIdeal.nD Cert.GluRIdeal.τ).loc Cert.GluRIdeal.main_arg0)
          ∧ r.2.mem ((c.tc : Thread Cert.GluRIdeal.nD Cert.GluRIdeal.τ).loc Cert.GluRIdeal.main_arg1) = m' ((c.tc : Thread Cert.GluRIdeal.nD Cert.GluRIdeal.τ).loc Cert.GluRIdeal.main_arg1)
          ∧ r.2.mem ((c.tc : Thread Cert.GluRIdeal.nD Cert.GluRIdeal.τ).loc Cert.GluRIdeal.main_arg2) = m' ((c.tc : Thread Cert.GluRIdeal.nD Cert.GluRIdeal.τ).loc Cert.GluRIdeal.main_arg2)
          ∧ r.2.mem ((c.tc : Thread Cert.GluRIdeal.nD Cert.GluRIdeal.τ).loc Cert.GluRIdeal.main_arg3) = m' ((c.tc : Thread Cert.GluRIdeal.nD Cert.GluRIdeal.τ).loc Cert.GluRIdeal.main_arg3))

def preserves_OutK_OutKIdeal : Prop :=
  True

def algebraic_OutKIdeal_OutRIdeal [hOutKIdeal : Cert.OutKIdeal.Facts] [hOutRIdeal : Cert.OutRIdeal.Facts] : Prop :=
  ∀ (m : (ℓ : Loc Cert.OutKIdeal.nD Cert.OutKIdeal.τ Cert.OutKIdeal.sig) → Buf (Elt Ideal) ℓ) (g : Dev Cert.OutKIdeal.nD → PrngReg)
    (m' : (ℓ : Loc Cert.OutRIdeal.nD Cert.OutRIdeal.τ Cert.OutRIdeal.sig) → Buf (Elt Ideal) ℓ) (g' : Dev Cert.OutRIdeal.nD → PrngReg), Pre_OutKIdeal m →
    (∀ c : Dev Cert.OutKIdeal.nD,
      m' ((c.tc : Thread Cert.OutRIdeal.nD Cert.OutRIdeal.τ).loc Cert.OutRIdeal.main_arg0) = m ((c.tc : Thread Cert.OutKIdeal.nD Cert.OutKIdeal.τ).loc Cert.OutKIdeal.main_arg0)
      ∧ m' ((c.tc : Thread Cert.OutRIdeal.nD Cert.OutRIdeal.τ).loc Cert.OutRIdeal.main_arg1) = m ((c.tc : Thread Cert.OutKIdeal.nD Cert.OutKIdeal.τ).loc Cert.OutKIdeal.main_arg1)) →
    ∃ (v0 : (c : Dev Cert.OutKIdeal.nD) → Buf (Elt Ideal) ((c.tc : Thread Cert.OutKIdeal.nD Cert.OutKIdeal.τ).loc Cert.OutKIdeal.main_v1)),
      θ_run (Cert.OutKIdeal.defs (F := Ideal)) (onTc (τ := Cert.OutKIdeal.τ) (Cert.OutKIdeal.main (F := Ideal))) ⟨m, fun _ => 0, g⟩ (fun r => ∀ c : Dev Cert.OutKIdeal.nD,
          r.2.mem ((c.tc : Thread Cert.OutKIdeal.nD Cert.OutKIdeal.τ).loc Cert.OutKIdeal.main_v1) = v0 c
          ∧ r.2.mem ((c.tc : Thread Cert.OutKIdeal.nD Cert.OutKIdeal.τ).loc Cert.OutKIdeal.main_arg0) = m ((c.tc : Thread Cert.OutKIdeal.nD Cert.OutKIdeal.τ).loc Cert.OutKIdeal.main_arg0)
          ∧ r.2.mem ((c.tc : Thread Cert.OutKIdeal.nD Cert.OutKIdeal.τ).loc Cert.OutKIdeal.main_arg1) = m ((c.tc : Thread Cert.OutKIdeal.nD Cert.OutKIdeal.τ).loc Cert.OutKIdeal.main_arg1))
      ∧ θ_run (Cert.OutRIdeal.defs (F := Ideal)) (onTc (τ := Cert.OutRIdeal.τ) (Cert.OutRIdeal.main (F := Ideal))) ⟨m', fun _ => 0, g'⟩ (fun r => ∀ c : Dev Cert.OutRIdeal.nD,
          r.2.mem ((c.tc : Thread Cert.OutRIdeal.nD Cert.OutRIdeal.τ).loc Cert.OutRIdeal.main_v1) = v0 c
          ∧ r.2.mem ((c.tc : Thread Cert.OutRIdeal.nD Cert.OutRIdeal.τ).loc Cert.OutRIdeal.main_arg0) = m' ((c.tc : Thread Cert.OutRIdeal.nD Cert.OutRIdeal.τ).loc Cert.OutRIdeal.main_arg0)
          ∧ r.2.mem ((c.tc : Thread Cert.OutRIdeal.nD Cert.OutRIdeal.τ).loc Cert.OutRIdeal.main_arg1) = m' ((c.tc : Thread Cert.OutRIdeal.nD Cert.OutRIdeal.τ).loc Cert.OutRIdeal.main_arg1))

def preserves_NsaK_NsaKIdeal : Prop :=
  True

def algebraic_NsaKIdeal_NsaRIdeal [hNsaKIdeal : Cert.NsaKIdeal.Facts] [hNsaRIdeal : Cert.NsaRIdeal.Facts] : Prop :=
  ∀ (m : (ℓ : Loc Cert.NsaKIdeal.nD Cert.NsaKIdeal.τ Cert.NsaKIdeal.sig) → Buf (Elt Ideal) ℓ) (g : Dev Cert.NsaKIdeal.nD → PrngReg)
    (m' : (ℓ : Loc Cert.NsaRIdeal.nD Cert.NsaRIdeal.τ Cert.NsaRIdeal.sig) → Buf (Elt Ideal) ℓ) (g' : Dev Cert.NsaRIdeal.nD → PrngReg), Pre_NsaKIdeal m →
    (∀ c : Dev Cert.NsaKIdeal.nD,
      m' ((c.tc : Thread Cert.NsaRIdeal.nD Cert.NsaRIdeal.τ).loc Cert.NsaRIdeal.main_arg0) = m ((c.tc : Thread Cert.NsaKIdeal.nD Cert.NsaKIdeal.τ).loc Cert.NsaKIdeal.main_arg0)
      ∧ m' ((c.tc : Thread Cert.NsaRIdeal.nD Cert.NsaRIdeal.τ).loc Cert.NsaRIdeal.main_arg1) = m ((c.tc : Thread Cert.NsaKIdeal.nD Cert.NsaKIdeal.τ).loc Cert.NsaKIdeal.main_arg1)
      ∧ m' ((c.tc : Thread Cert.NsaRIdeal.nD Cert.NsaRIdeal.τ).loc Cert.NsaRIdeal.main_arg2) = m ((c.tc : Thread Cert.NsaKIdeal.nD Cert.NsaKIdeal.τ).loc Cert.NsaKIdeal.main_arg2)
      ∧ m' ((c.tc : Thread Cert.NsaRIdeal.nD Cert.NsaRIdeal.τ).loc Cert.NsaRIdeal.main_arg3) = m ((c.tc : Thread Cert.NsaKIdeal.nD Cert.NsaKIdeal.τ).loc Cert.NsaKIdeal.main_arg3)
      ∧ m' ((c.tc : Thread Cert.NsaRIdeal.nD Cert.NsaRIdeal.τ).loc Cert.NsaRIdeal.main_arg4) = m ((c.tc : Thread Cert.NsaKIdeal.nD Cert.NsaKIdeal.τ).loc Cert.NsaKIdeal.main_arg4)) →
    ∃ (v0 : (c : Dev Cert.NsaKIdeal.nD) → Buf (Elt Ideal) ((c.tc : Thread Cert.NsaKIdeal.nD Cert.NsaKIdeal.τ).loc Cert.NsaKIdeal.main_v4_0)) (v1 : (c : Dev Cert.NsaKIdeal.nD) → Buf (Elt Ideal) ((c.tc : Thread Cert.NsaKIdeal.nD Cert.NsaKIdeal.τ).loc Cert.NsaKIdeal.main_v18)) (v2 : (c : Dev Cert.NsaKIdeal.nD) → Buf (Elt Ideal) ((c.tc : Thread Cert.NsaKIdeal.nD Cert.NsaKIdeal.τ).loc Cert.NsaKIdeal.main_v21)) (v3 : (c : Dev Cert.NsaKIdeal.nD) → Buf (Elt Ideal) ((c.tc : Thread Cert.NsaKIdeal.nD Cert.NsaKIdeal.τ).loc Cert.NsaKIdeal.main_v22)) (v4 : (c : Dev Cert.NsaKIdeal.nD) → Buf (Elt Ideal) ((c.tc : Thread Cert.NsaKIdeal.nD Cert.NsaKIdeal.τ).loc Cert.NsaKIdeal.main_v23)) (v5 : (c : Dev Cert.NsaKIdeal.nD) → Buf (Elt Ideal) ((c.tc : Thread Cert.NsaKIdeal.nD Cert.NsaKIdeal.τ).loc Cert.NsaKIdeal.main_v26)),
      θ_run (Cert.NsaKIdeal.defs (F := Ideal)) (onTc (τ := Cert.NsaKIdeal.τ) (Cert.NsaKIdeal.main (F := Ideal))) ⟨m, fun _ => 0, g⟩ (fun r => ∀ c : Dev Cert.NsaKIdeal.nD,
          r.2.mem ((c.tc : Thread Cert.NsaKIdeal.nD Cert.NsaKIdeal.τ).loc Cert.NsaKIdeal.main_v4_0) = v0 c
          ∧ r.2.mem ((c.tc : Thread Cert.NsaKIdeal.nD Cert.NsaKIdeal.τ).loc Cert.NsaKIdeal.main_v18) = v1 c
          ∧ r.2.mem ((c.tc : Thread Cert.NsaKIdeal.nD Cert.NsaKIdeal.τ).loc Cert.NsaKIdeal.main_v21) = v2 c
          ∧ r.2.mem ((c.tc : Thread Cert.NsaKIdeal.nD Cert.NsaKIdeal.τ).loc Cert.NsaKIdeal.main_v22) = v3 c
          ∧ r.2.mem ((c.tc : Thread Cert.NsaKIdeal.nD Cert.NsaKIdeal.τ).loc Cert.NsaKIdeal.main_v23) = v4 c
          ∧ r.2.mem ((c.tc : Thread Cert.NsaKIdeal.nD Cert.NsaKIdeal.τ).loc Cert.NsaKIdeal.main_v26) = v5 c
          ∧ r.2.mem ((c.tc : Thread Cert.NsaKIdeal.nD Cert.NsaKIdeal.τ).loc Cert.NsaKIdeal.main_arg0) = m ((c.tc : Thread Cert.NsaKIdeal.nD Cert.NsaKIdeal.τ).loc Cert.NsaKIdeal.main_arg0)
          ∧ r.2.mem ((c.tc : Thread Cert.NsaKIdeal.nD Cert.NsaKIdeal.τ).loc Cert.NsaKIdeal.main_arg1) = m ((c.tc : Thread Cert.NsaKIdeal.nD Cert.NsaKIdeal.τ).loc Cert.NsaKIdeal.main_arg1)
          ∧ r.2.mem ((c.tc : Thread Cert.NsaKIdeal.nD Cert.NsaKIdeal.τ).loc Cert.NsaKIdeal.main_arg2) = m ((c.tc : Thread Cert.NsaKIdeal.nD Cert.NsaKIdeal.τ).loc Cert.NsaKIdeal.main_arg2)
          ∧ r.2.mem ((c.tc : Thread Cert.NsaKIdeal.nD Cert.NsaKIdeal.τ).loc Cert.NsaKIdeal.main_arg3) = m ((c.tc : Thread Cert.NsaKIdeal.nD Cert.NsaKIdeal.τ).loc Cert.NsaKIdeal.main_arg3)
          ∧ r.2.mem ((c.tc : Thread Cert.NsaKIdeal.nD Cert.NsaKIdeal.τ).loc Cert.NsaKIdeal.main_arg4) = m ((c.tc : Thread Cert.NsaKIdeal.nD Cert.NsaKIdeal.τ).loc Cert.NsaKIdeal.main_arg4))
      ∧ θ_run (Cert.NsaRIdeal.defs (F := Ideal)) (onTc (τ := Cert.NsaRIdeal.τ) (Cert.NsaRIdeal.main (F := Ideal))) ⟨m', fun _ => 0, g'⟩ (fun r => ∀ c : Dev Cert.NsaRIdeal.nD,
          r.2.mem ((c.tc : Thread Cert.NsaRIdeal.nD Cert.NsaRIdeal.τ).loc Cert.NsaRIdeal.main_v35) = v0 c
          ∧ r.2.mem ((c.tc : Thread Cert.NsaRIdeal.nD Cert.NsaRIdeal.τ).loc Cert.NsaRIdeal.main_v33) = v1 c
          ∧ r.2.mem ((c.tc : Thread Cert.NsaRIdeal.nD Cert.NsaRIdeal.τ).loc Cert.NsaRIdeal.main_v36) = v2 c
          ∧ r.2.mem ((c.tc : Thread Cert.NsaRIdeal.nD Cert.NsaRIdeal.τ).loc Cert.NsaRIdeal.main_v28) = v3 c
          ∧ r.2.mem ((c.tc : Thread Cert.NsaRIdeal.nD Cert.NsaRIdeal.τ).loc Cert.NsaRIdeal.main_v32) = v4 c
          ∧ r.2.mem ((c.tc : Thread Cert.NsaRIdeal.nD Cert.NsaRIdeal.τ).loc Cert.NsaRIdeal.main_v37) = v5 c
          ∧ r.2.mem ((c.tc : Thread Cert.NsaRIdeal.nD Cert.NsaRIdeal.τ).loc Cert.NsaRIdeal.main_arg0) = m' ((c.tc : Thread Cert.NsaRIdeal.nD Cert.NsaRIdeal.τ).loc Cert.NsaRIdeal.main_arg0)
          ∧ r.2.mem ((c.tc : Thread Cert.NsaRIdeal.nD Cert.NsaRIdeal.τ).loc Cert.NsaRIdeal.main_arg1) = m' ((c.tc : Thread Cert.NsaRIdeal.nD Cert.NsaRIdeal.τ).loc Cert.NsaRIdeal.main_arg1)
          ∧ r.2.mem ((c.tc : Thread Cert.NsaRIdeal.nD Cert.NsaRIdeal.τ).loc Cert.NsaRIdeal.main_arg2) = m' ((c.tc : Thread Cert.NsaRIdeal.nD Cert.NsaRIdeal.τ).loc Cert.NsaRIdeal.main_arg2)
          ∧ r.2.mem ((c.tc : Thread Cert.NsaRIdeal.nD Cert.NsaRIdeal.τ).loc Cert.NsaRIdeal.main_arg3) = m' ((c.tc : Thread Cert.NsaRIdeal.nD Cert.NsaRIdeal.τ).loc Cert.NsaRIdeal.main_arg3)
          ∧ r.2.mem ((c.tc : Thread Cert.NsaRIdeal.nD Cert.NsaRIdeal.τ).loc Cert.NsaRIdeal.main_arg4) = m' ((c.tc : Thread Cert.NsaRIdeal.nD Cert.NsaRIdeal.τ).loc Cert.NsaRIdeal.main_arg4))

def preserves_NsaStepK_NsaStepKIdeal : Prop :=
  True

def algebraic_NsaStepKIdeal_NsaStepRIdeal [hNsaStepKIdeal : Cert.NsaStepKIdeal.Facts] [hNsaStepRIdeal : Cert.NsaStepRIdeal.Facts] : Prop :=
  ∀ (m : (ℓ : Loc Cert.NsaStepKIdeal.nD Cert.NsaStepKIdeal.τ Cert.NsaStepKIdeal.sig) → Buf (Elt Ideal) ℓ) (g : Dev Cert.NsaStepKIdeal.nD → PrngReg)
    (m' : (ℓ : Loc Cert.NsaStepRIdeal.nD Cert.NsaStepRIdeal.τ Cert.NsaStepRIdeal.sig) → Buf (Elt Ideal) ℓ) (g' : Dev Cert.NsaStepRIdeal.nD → PrngReg), Pre_NsaStepKIdeal m →
    (∀ c : Dev Cert.NsaStepKIdeal.nD,
      m' ((c.tc : Thread Cert.NsaStepRIdeal.nD Cert.NsaStepRIdeal.τ).loc Cert.NsaStepRIdeal.main_arg0) = m ((c.tc : Thread Cert.NsaStepKIdeal.nD Cert.NsaStepKIdeal.τ).loc Cert.NsaStepKIdeal.main_arg0)
      ∧ m' ((c.tc : Thread Cert.NsaStepRIdeal.nD Cert.NsaStepRIdeal.τ).loc Cert.NsaStepRIdeal.main_arg1) = m ((c.tc : Thread Cert.NsaStepKIdeal.nD Cert.NsaStepKIdeal.τ).loc Cert.NsaStepKIdeal.main_arg1)
      ∧ m' ((c.tc : Thread Cert.NsaStepRIdeal.nD Cert.NsaStepRIdeal.τ).loc Cert.NsaStepRIdeal.main_arg2) = m ((c.tc : Thread Cert.NsaStepKIdeal.nD Cert.NsaStepKIdeal.τ).loc Cert.NsaStepKIdeal.main_arg2)
      ∧ m' ((c.tc : Thread Cert.NsaStepRIdeal.nD Cert.NsaStepRIdeal.τ).loc Cert.NsaStepRIdeal.main_arg3) = m ((c.tc : Thread Cert.NsaStepKIdeal.nD Cert.NsaStepKIdeal.τ).loc Cert.NsaStepKIdeal.main_arg3)
      ∧ m' ((c.tc : Thread Cert.NsaStepRIdeal.nD Cert.NsaStepRIdeal.τ).loc Cert.NsaStepRIdeal.main_arg4) = m ((c.tc : Thread Cert.NsaStepKIdeal.nD Cert.NsaStepKIdeal.τ).loc Cert.NsaStepKIdeal.main_arg4)
      ∧ m' ((c.tc : Thread Cert.NsaStepRIdeal.nD Cert.NsaStepRIdeal.τ).loc Cert.NsaStepRIdeal.main_arg5) = m ((c.tc : Thread Cert.NsaStepKIdeal.nD Cert.NsaStepKIdeal.τ).loc Cert.NsaStepKIdeal.main_arg5)) →
    ∃ (v0 : (c : Dev Cert.NsaStepKIdeal.nD) → Buf (Elt Ideal) ((c.tc : Thread Cert.NsaStepKIdeal.nD Cert.NsaStepKIdeal.τ).loc Cert.NsaStepKIdeal.main_v18)) (v1 : (c : Dev Cert.NsaStepKIdeal.nD) → Buf (Elt Ideal) ((c.tc : Thread Cert.NsaStepKIdeal.nD Cert.NsaStepKIdeal.τ).loc Cert.NsaStepKIdeal.main_v22)),
      θ_run (Cert.NsaStepKIdeal.defs (F := Ideal)) (onTc (τ := Cert.NsaStepKIdeal.τ) (Cert.NsaStepKIdeal.main (F := Ideal))) ⟨m, fun _ => 0, g⟩ (fun r => ∀ c : Dev Cert.NsaStepKIdeal.nD,
          r.2.mem ((c.tc : Thread Cert.NsaStepKIdeal.nD Cert.NsaStepKIdeal.τ).loc Cert.NsaStepKIdeal.main_v18) = v0 c
          ∧ r.2.mem ((c.tc : Thread Cert.NsaStepKIdeal.nD Cert.NsaStepKIdeal.τ).loc Cert.NsaStepKIdeal.main_v22) = v1 c
          ∧ r.2.mem ((c.tc : Thread Cert.NsaStepKIdeal.nD Cert.NsaStepKIdeal.τ).loc Cert.NsaStepKIdeal.main_arg0) = m ((c.tc : Thread Cert.NsaStepKIdeal.nD Cert.NsaStepKIdeal.τ).loc Cert.NsaStepKIdeal.main_arg0)
          ∧ r.2.mem ((c.tc : Thread Cert.NsaStepKIdeal.nD Cert.NsaStepKIdeal.τ).loc Cert.NsaStepKIdeal.main_arg1) = m ((c.tc : Thread Cert.NsaStepKIdeal.nD Cert.NsaStepKIdeal.τ).loc Cert.NsaStepKIdeal.main_arg1)
          ∧ r.2.mem ((c.tc : Thread Cert.NsaStepKIdeal.nD Cert.NsaStepKIdeal.τ).loc Cert.NsaStepKIdeal.main_arg2) = m ((c.tc : Thread Cert.NsaStepKIdeal.nD Cert.NsaStepKIdeal.τ).loc Cert.NsaStepKIdeal.main_arg2)
          ∧ r.2.mem ((c.tc : Thread Cert.NsaStepKIdeal.nD Cert.NsaStepKIdeal.τ).loc Cert.NsaStepKIdeal.main_arg3) = m ((c.tc : Thread Cert.NsaStepKIdeal.nD Cert.NsaStepKIdeal.τ).loc Cert.NsaStepKIdeal.main_arg3)
          ∧ r.2.mem ((c.tc : Thread Cert.NsaStepKIdeal.nD Cert.NsaStepKIdeal.τ).loc Cert.NsaStepKIdeal.main_arg4) = m ((c.tc : Thread Cert.NsaStepKIdeal.nD Cert.NsaStepKIdeal.τ).loc Cert.NsaStepKIdeal.main_arg4)
          ∧ r.2.mem ((c.tc : Thread Cert.NsaStepKIdeal.nD Cert.NsaStepKIdeal.τ).loc Cert.NsaStepKIdeal.main_arg5) = m ((c.tc : Thread Cert.NsaStepKIdeal.nD Cert.NsaStepKIdeal.τ).loc Cert.NsaStepKIdeal.main_arg5))
      ∧ θ_run (Cert.NsaStepRIdeal.defs (F := Ideal)) (onTc (τ := Cert.NsaStepRIdeal.τ) (Cert.NsaStepRIdeal.main (F := Ideal))) ⟨m', fun _ => 0, g'⟩ (fun r => ∀ c : Dev Cert.NsaStepRIdeal.nD,
          r.2.mem ((c.tc : Thread Cert.NsaStepRIdeal.nD Cert.NsaStepRIdeal.τ).loc Cert.NsaStepRIdeal.main_v33) = v0 c
          ∧ r.2.mem ((c.tc : Thread Cert.NsaStepRIdeal.nD Cert.NsaStepRIdeal.τ).loc Cert.NsaStepRIdeal.main_v36) = v1 c
          ∧ r.2.mem ((c.tc : Thread Cert.NsaStepRIdeal.nD Cert.NsaStepRIdeal.τ).loc Cert.NsaStepRIdeal.main_arg0) = m' ((c.tc : Thread Cert.NsaStepRIdeal.nD Cert.NsaStepRIdeal.τ).loc Cert.NsaStepRIdeal.main_arg0)
          ∧ r.2.mem ((c.tc : Thread Cert.NsaStepRIdeal.nD Cert.NsaStepRIdeal.τ).loc Cert.NsaStepRIdeal.main_arg1) = m' ((c.tc : Thread Cert.NsaStepRIdeal.nD Cert.NsaStepRIdeal.τ).loc Cert.NsaStepRIdeal.main_arg1)
          ∧ r.2.mem ((c.tc : Thread Cert.NsaStepRIdeal.nD Cert.NsaStepRIdeal.τ).loc Cert.NsaStepRIdeal.main_arg2) = m' ((c.tc : Thread Cert.NsaStepRIdeal.nD Cert.NsaStepRIdeal.τ).loc Cert.NsaStepRIdeal.main_arg2)
          ∧ r.2.mem ((c.tc : Thread Cert.NsaStepRIdeal.nD Cert.NsaStepRIdeal.τ).loc Cert.NsaStepRIdeal.main_arg3) = m' ((c.tc : Thread Cert.NsaStepRIdeal.nD Cert.NsaStepRIdeal.τ).loc Cert.NsaStepRIdeal.main_arg3)
          ∧ r.2.mem ((c.tc : Thread Cert.NsaStepRIdeal.nD Cert.NsaStepRIdeal.τ).loc Cert.NsaStepRIdeal.main_arg4) = m' ((c.tc : Thread Cert.NsaStepRIdeal.nD Cert.NsaStepRIdeal.τ).loc Cert.NsaStepRIdeal.main_arg4)
          ∧ r.2.mem ((c.tc : Thread Cert.NsaStepRIdeal.nD Cert.NsaStepRIdeal.τ).loc Cert.NsaStepRIdeal.main_arg5) = m' ((c.tc : Thread Cert.NsaStepRIdeal.nD Cert.NsaStepRIdeal.τ).loc Cert.NsaStepRIdeal.main_arg5))

def preserves_RgStepK_RgStepKIdeal : Prop :=
  True

def algebraic_RgStepKIdeal_RgStepRIdeal [hRgStepKIdeal : Cert.RgStepKIdeal.Facts] [hRgStepRIdeal : Cert.RgStepRIdeal.Facts] : Prop :=
  ∀ (m : (ℓ : Loc Cert.RgStepKIdeal.nD Cert.RgStepKIdeal.τ Cert.RgStepKIdeal.sig) → Buf (Elt Ideal) ℓ) (g : Dev Cert.RgStepKIdeal.nD → PrngReg)
    (m' : (ℓ : Loc Cert.RgStepRIdeal.nD Cert.RgStepRIdeal.τ Cert.RgStepRIdeal.sig) → Buf (Elt Ideal) ℓ) (g' : Dev Cert.RgStepRIdeal.nD → PrngReg), Pre_RgStepKIdeal m →
    (∀ c : Dev Cert.RgStepKIdeal.nD,
      m' ((c.tc : Thread Cert.RgStepRIdeal.nD Cert.RgStepRIdeal.τ).loc Cert.RgStepRIdeal.main_arg0) = m ((c.tc : Thread Cert.RgStepKIdeal.nD Cert.RgStepKIdeal.τ).loc Cert.RgStepKIdeal.main_arg0)
      ∧ m' ((c.tc : Thread Cert.RgStepRIdeal.nD Cert.RgStepRIdeal.τ).loc Cert.RgStepRIdeal.main_arg1) = m ((c.tc : Thread Cert.RgStepKIdeal.nD Cert.RgStepKIdeal.τ).loc Cert.RgStepKIdeal.main_arg1)
      ∧ m' ((c.tc : Thread Cert.RgStepRIdeal.nD Cert.RgStepRIdeal.τ).loc Cert.RgStepRIdeal.main_arg2) = m ((c.tc : Thread Cert.RgStepKIdeal.nD Cert.RgStepKIdeal.τ).loc Cert.RgStepKIdeal.main_arg2)
      ∧ m' ((c.tc : Thread Cert.RgStepRIdeal.nD Cert.RgStepRIdeal.τ).loc Cert.RgStepRIdeal.main_arg3) = m ((c.tc : Thread Cert.RgStepKIdeal.nD Cert.RgStepKIdeal.τ).loc Cert.RgStepKIdeal.main_arg3)
      ∧ m' ((c.tc : Thread Cert.RgStepRIdeal.nD Cert.RgStepRIdeal.τ).loc Cert.RgStepRIdeal.main_arg4) = m ((c.tc : Thread Cert.RgStepKIdeal.nD Cert.RgStepKIdeal.τ).loc Cert.RgStepKIdeal.main_arg4)
      ∧ m' ((c.tc : Thread Cert.RgStepRIdeal.nD Cert.RgStepRIdeal.τ).loc Cert.RgStepRIdeal.main_arg5) = m ((c.tc : Thread Cert.RgStepKIdeal.nD Cert.RgStepKIdeal.τ).loc Cert.RgStepKIdeal.main_arg5)
      ∧ m' ((c.tc : Thread Cert.RgStepRIdeal.nD Cert.RgStepRIdeal.τ).loc Cert.RgStepRIdeal.main_arg6) = m ((c.tc : Thread Cert.RgStepKIdeal.nD Cert.RgStepKIdeal.τ).loc Cert.RgStepKIdeal.main_arg6)
      ∧ m' ((c.tc : Thread Cert.RgStepRIdeal.nD Cert.RgStepRIdeal.τ).loc Cert.RgStepRIdeal.main_arg7) = m ((c.tc : Thread Cert.RgStepKIdeal.nD Cert.RgStepKIdeal.τ).loc Cert.RgStepKIdeal.main_arg7)
      ∧ m' ((c.tc : Thread Cert.RgStepRIdeal.nD Cert.RgStepRIdeal.τ).loc Cert.RgStepRIdeal.main_arg8) = m ((c.tc : Thread Cert.RgStepKIdeal.nD Cert.RgStepKIdeal.τ).loc Cert.RgStepKIdeal.main_arg8)
      ∧ m' ((c.tc : Thread Cert.RgStepRIdeal.nD Cert.RgStepRIdeal.τ).loc Cert.RgStepRIdeal.main_arg9) = m ((c.tc : Thread Cert.RgStepKIdeal.nD Cert.RgStepKIdeal.τ).loc Cert.RgStepKIdeal.main_arg9)
      ∧ m' ((c.tc : Thread Cert.RgStepRIdeal.nD Cert.RgStepRIdeal.τ).loc Cert.RgStepRIdeal.main_arg10) = m ((c.tc : Thread Cert.RgStepKIdeal.nD Cert.RgStepKIdeal.τ).loc Cert.RgStepKIdeal.main_arg10)
      ∧ m' ((c.tc : Thread Cert.RgStepRIdeal.nD Cert.RgStepRIdeal.τ).loc Cert.RgStepRIdeal.main_arg11) = m ((c.tc : Thread Cert.RgStepKIdeal.nD Cert.RgStepKIdeal.τ).loc Cert.RgStepKIdeal.main_arg11)
      ∧ m' ((c.tc : Thread Cert.RgStepRIdeal.nD Cert.RgStepRIdeal.τ).loc Cert.RgStepRIdeal.main_arg12) = m ((c.tc : Thread Cert.RgStepKIdeal.nD Cert.RgStepKIdeal.τ).loc Cert.RgStepKIdeal.main_arg12)
      ∧ m' ((c.tc : Thread Cert.RgStepRIdeal.nD Cert.RgStepRIdeal.τ).loc Cert.RgStepRIdeal.main_arg13) = m ((c.tc : Thread Cert.RgStepKIdeal.nD Cert.RgStepKIdeal.τ).loc Cert.RgStepKIdeal.main_arg13)
      ∧ m' ((c.tc : Thread Cert.RgStepRIdeal.nD Cert.RgStepRIdeal.τ).loc Cert.RgStepRIdeal.main_arg14) = m ((c.tc : Thread Cert.RgStepKIdeal.nD Cert.RgStepKIdeal.τ).loc Cert.RgStepKIdeal.main_arg14)) →
    ∃ (v0 : (c : Dev Cert.RgStepKIdeal.nD) → Buf (Elt Ideal) ((c.tc : Thread Cert.RgStepKIdeal.nD Cert.RgStepKIdeal.τ).loc Cert.RgStepKIdeal.main_v73)) (v1 : (c : Dev Cert.RgStepKIdeal.nD) → Buf (Elt Ideal) ((c.tc : Thread Cert.RgStepKIdeal.nD Cert.RgStepKIdeal.τ).loc Cert.RgStepKIdeal.main_v67)) (v2 : (c : Dev Cert.RgStepKIdeal.nD) → Buf (Elt Ideal) ((c.tc : Thread Cert.RgStepKIdeal.nD Cert.RgStepKIdeal.τ).loc Cert.RgStepKIdeal.main_v70)),
      θ_run (Cert.RgStepKIdeal.defs (F := Ideal)) (onTc (τ := Cert.RgStepKIdeal.τ) (Cert.RgStepKIdeal.main (F := Ideal))) ⟨m, fun _ => 0, g⟩ (fun r => ∀ c : Dev Cert.RgStepKIdeal.nD,
          r.2.mem ((c.tc : Thread Cert.RgStepKIdeal.nD Cert.RgStepKIdeal.τ).loc Cert.RgStepKIdeal.main_v73) = v0 c
          ∧ r.2.mem ((c.tc : Thread Cert.RgStepKIdeal.nD Cert.RgStepKIdeal.τ).loc Cert.RgStepKIdeal.main_v67) = v1 c
          ∧ r.2.mem ((c.tc : Thread Cert.RgStepKIdeal.nD Cert.RgStepKIdeal.τ).loc Cert.RgStepKIdeal.main_v70) = v2 c
          ∧ r.2.mem ((c.tc : Thread Cert.RgStepKIdeal.nD Cert.RgStepKIdeal.τ).loc Cert.RgStepKIdeal.main_arg0) = m ((c.tc : Thread Cert.RgStepKIdeal.nD Cert.RgStepKIdeal.τ).loc Cert.RgStepKIdeal.main_arg0)
          ∧ r.2.mem ((c.tc : Thread Cert.RgStepKIdeal.nD Cert.RgStepKIdeal.τ).loc Cert.RgStepKIdeal.main_arg1) = m ((c.tc : Thread Cert.RgStepKIdeal.nD Cert.RgStepKIdeal.τ).loc Cert.RgStepKIdeal.main_arg1)
          ∧ r.2.mem ((c.tc : Thread Cert.RgStepKIdeal.nD Cert.RgStepKIdeal.τ).loc Cert.RgStepKIdeal.main_arg2) = m ((c.tc : Thread Cert.RgStepKIdeal.nD Cert.RgStepKIdeal.τ).loc Cert.RgStepKIdeal.main_arg2)
          ∧ r.2.mem ((c.tc : Thread Cert.RgStepKIdeal.nD Cert.RgStepKIdeal.τ).loc Cert.RgStepKIdeal.main_arg3) = m ((c.tc : Thread Cert.RgStepKIdeal.nD Cert.RgStepKIdeal.τ).loc Cert.RgStepKIdeal.main_arg3)
          ∧ r.2.mem ((c.tc : Thread Cert.RgStepKIdeal.nD Cert.RgStepKIdeal.τ).loc Cert.RgStepKIdeal.main_arg4) = m ((c.tc : Thread Cert.RgStepKIdeal.nD Cert.RgStepKIdeal.τ).loc Cert.RgStepKIdeal.main_arg4)
          ∧ r.2.mem ((c.tc : Thread Cert.RgStepKIdeal.nD Cert.RgStepKIdeal.τ).loc Cert.RgStepKIdeal.main_arg5) = m ((c.tc : Thread Cert.RgStepKIdeal.nD Cert.RgStepKIdeal.τ).loc Cert.RgStepKIdeal.main_arg5)
          ∧ r.2.mem ((c.tc : Thread Cert.RgStepKIdeal.nD Cert.RgStepKIdeal.τ).loc Cert.RgStepKIdeal.main_arg6) = m ((c.tc : Thread Cert.RgStepKIdeal.nD Cert.RgStepKIdeal.τ).loc Cert.RgStepKIdeal.main_arg6)
          ∧ r.2.mem ((c.tc : Thread Cert.RgStepKIdeal.nD Cert.RgStepKIdeal.τ).loc Cert.RgStepKIdeal.main_arg7) = m ((c.tc : Thread Cert.RgStepKIdeal.nD Cert.RgStepKIdeal.τ).loc Cert.RgStepKIdeal.main_arg7)
          ∧ r.2.mem ((c.tc : Thread Cert.RgStepKIdeal.nD Cert.RgStepKIdeal.τ).loc Cert.RgStepKIdeal.main_arg8) = m ((c.tc : Thread Cert.RgStepKIdeal.nD Cert.RgStepKIdeal.τ).loc Cert.RgStepKIdeal.main_arg8)
          ∧ r.2.mem ((c.tc : Thread Cert.RgStepKIdeal.nD Cert.RgStepKIdeal.τ).loc Cert.RgStepKIdeal.main_arg9) = m ((c.tc : Thread Cert.RgStepKIdeal.nD Cert.RgStepKIdeal.τ).loc Cert.RgStepKIdeal.main_arg9)
          ∧ r.2.mem ((c.tc : Thread Cert.RgStepKIdeal.nD Cert.RgStepKIdeal.τ).loc Cert.RgStepKIdeal.main_arg10) = m ((c.tc : Thread Cert.RgStepKIdeal.nD Cert.RgStepKIdeal.τ).loc Cert.RgStepKIdeal.main_arg10)
          ∧ r.2.mem ((c.tc : Thread Cert.RgStepKIdeal.nD Cert.RgStepKIdeal.τ).loc Cert.RgStepKIdeal.main_arg11) = m ((c.tc : Thread Cert.RgStepKIdeal.nD Cert.RgStepKIdeal.τ).loc Cert.RgStepKIdeal.main_arg11)
          ∧ r.2.mem ((c.tc : Thread Cert.RgStepKIdeal.nD Cert.RgStepKIdeal.τ).loc Cert.RgStepKIdeal.main_arg12) = m ((c.tc : Thread Cert.RgStepKIdeal.nD Cert.RgStepKIdeal.τ).loc Cert.RgStepKIdeal.main_arg12)
          ∧ r.2.mem ((c.tc : Thread Cert.RgStepKIdeal.nD Cert.RgStepKIdeal.τ).loc Cert.RgStepKIdeal.main_arg13) = m ((c.tc : Thread Cert.RgStepKIdeal.nD Cert.RgStepKIdeal.τ).loc Cert.RgStepKIdeal.main_arg13)
          ∧ r.2.mem ((c.tc : Thread Cert.RgStepKIdeal.nD Cert.RgStepKIdeal.τ).loc Cert.RgStepKIdeal.main_arg14) = m ((c.tc : Thread Cert.RgStepKIdeal.nD Cert.RgStepKIdeal.τ).loc Cert.RgStepKIdeal.main_arg14))
      ∧ θ_run (Cert.RgStepRIdeal.defs (F := Ideal)) (onTc (τ := Cert.RgStepRIdeal.τ) (Cert.RgStepRIdeal.main (F := Ideal))) ⟨m', fun _ => 0, g'⟩ (fun r => ∀ c : Dev Cert.RgStepRIdeal.nD,
          r.2.mem ((c.tc : Thread Cert.RgStepRIdeal.nD Cert.RgStepRIdeal.τ).loc Cert.RgStepRIdeal.main_v111) = v0 c
          ∧ r.2.mem ((c.tc : Thread Cert.RgStepRIdeal.nD Cert.RgStepRIdeal.τ).loc Cert.RgStepRIdeal.main_v112) = v1 c
          ∧ r.2.mem ((c.tc : Thread Cert.RgStepRIdeal.nD Cert.RgStepRIdeal.τ).loc Cert.RgStepRIdeal.main_v107) = v2 c
          ∧ r.2.mem ((c.tc : Thread Cert.RgStepRIdeal.nD Cert.RgStepRIdeal.τ).loc Cert.RgStepRIdeal.main_arg0) = m' ((c.tc : Thread Cert.RgStepRIdeal.nD Cert.RgStepRIdeal.τ).loc Cert.RgStepRIdeal.main_arg0)
          ∧ r.2.mem ((c.tc : Thread Cert.RgStepRIdeal.nD Cert.RgStepRIdeal.τ).loc Cert.RgStepRIdeal.main_arg1) = m' ((c.tc : Thread Cert.RgStepRIdeal.nD Cert.RgStepRIdeal.τ).loc Cert.RgStepRIdeal.main_arg1)
          ∧ r.2.mem ((c.tc : Thread Cert.RgStepRIdeal.nD Cert.RgStepRIdeal.τ).loc Cert.RgStepRIdeal.main_arg2) = m' ((c.tc : Thread Cert.RgStepRIdeal.nD Cert.RgStepRIdeal.τ).loc Cert.RgStepRIdeal.main_arg2)
          ∧ r.2.mem ((c.tc : Thread Cert.RgStepRIdeal.nD Cert.RgStepRIdeal.τ).loc Cert.RgStepRIdeal.main_arg3) = m' ((c.tc : Thread Cert.RgStepRIdeal.nD Cert.RgStepRIdeal.τ).loc Cert.RgStepRIdeal.main_arg3)
          ∧ r.2.mem ((c.tc : Thread Cert.RgStepRIdeal.nD Cert.RgStepRIdeal.τ).loc Cert.RgStepRIdeal.main_arg4) = m' ((c.tc : Thread Cert.RgStepRIdeal.nD Cert.RgStepRIdeal.τ).loc Cert.RgStepRIdeal.main_arg4)
          ∧ r.2.mem ((c.tc : Thread Cert.RgStepRIdeal.nD Cert.RgStepRIdeal.τ).loc Cert.RgStepRIdeal.main_arg5) = m' ((c.tc : Thread Cert.RgStepRIdeal.nD Cert.RgStepRIdeal.τ).loc Cert.RgStepRIdeal.main_arg5)
          ∧ r.2.mem ((c.tc : Thread Cert.RgStepRIdeal.nD Cert.RgStepRIdeal.τ).loc Cert.RgStepRIdeal.main_arg6) = m' ((c.tc : Thread Cert.RgStepRIdeal.nD Cert.RgStepRIdeal.τ).loc Cert.RgStepRIdeal.main_arg6)
          ∧ r.2.mem ((c.tc : Thread Cert.RgStepRIdeal.nD Cert.RgStepRIdeal.τ).loc Cert.RgStepRIdeal.main_arg7) = m' ((c.tc : Thread Cert.RgStepRIdeal.nD Cert.RgStepRIdeal.τ).loc Cert.RgStepRIdeal.main_arg7)
          ∧ r.2.mem ((c.tc : Thread Cert.RgStepRIdeal.nD Cert.RgStepRIdeal.τ).loc Cert.RgStepRIdeal.main_arg8) = m' ((c.tc : Thread Cert.RgStepRIdeal.nD Cert.RgStepRIdeal.τ).loc Cert.RgStepRIdeal.main_arg8)
          ∧ r.2.mem ((c.tc : Thread Cert.RgStepRIdeal.nD Cert.RgStepRIdeal.τ).loc Cert.RgStepRIdeal.main_arg9) = m' ((c.tc : Thread Cert.RgStepRIdeal.nD Cert.RgStepRIdeal.τ).loc Cert.RgStepRIdeal.main_arg9)
          ∧ r.2.mem ((c.tc : Thread Cert.RgStepRIdeal.nD Cert.RgStepRIdeal.τ).loc Cert.RgStepRIdeal.main_arg10) = m' ((c.tc : Thread Cert.RgStepRIdeal.nD Cert.RgStepRIdeal.τ).loc Cert.RgStepRIdeal.main_arg10)
          ∧ r.2.mem ((c.tc : Thread Cert.RgStepRIdeal.nD Cert.RgStepRIdeal.τ).loc Cert.RgStepRIdeal.main_arg11) = m' ((c.tc : Thread Cert.RgStepRIdeal.nD Cert.RgStepRIdeal.τ).loc Cert.RgStepRIdeal.main_arg11)
          ∧ r.2.mem ((c.tc : Thread Cert.RgStepRIdeal.nD Cert.RgStepRIdeal.τ).loc Cert.RgStepRIdeal.main_arg12) = m' ((c.tc : Thread Cert.RgStepRIdeal.nD Cert.RgStepRIdeal.τ).loc Cert.RgStepRIdeal.main_arg12)
          ∧ r.2.mem ((c.tc : Thread Cert.RgStepRIdeal.nD Cert.RgStepRIdeal.τ).loc Cert.RgStepRIdeal.main_arg13) = m' ((c.tc : Thread Cert.RgStepRIdeal.nD Cert.RgStepRIdeal.τ).loc Cert.RgStepRIdeal.main_arg13)
          ∧ r.2.mem ((c.tc : Thread Cert.RgStepRIdeal.nD Cert.RgStepRIdeal.τ).loc Cert.RgStepRIdeal.main_arg14) = m' ((c.tc : Thread Cert.RgStepRIdeal.nD Cert.RgStepRIdeal.τ).loc Cert.RgStepRIdeal.main_arg14))

def preserves_RgHeadK_RgHeadKIdeal : Prop :=
  True

def algebraic_RgHeadKIdeal_RgHeadRIdeal [hRgHeadKIdeal : Cert.RgHeadKIdeal.Facts] [hRgHeadRIdeal : Cert.RgHeadRIdeal.Facts] : Prop :=
  ∀ (m : (ℓ : Loc Cert.RgHeadKIdeal.nD Cert.RgHeadKIdeal.τ Cert.RgHeadKIdeal.sig) → Buf (Elt Ideal) ℓ) (g : Dev Cert.RgHeadKIdeal.nD → PrngReg)
    (m' : (ℓ : Loc Cert.RgHeadRIdeal.nD Cert.RgHeadRIdeal.τ Cert.RgHeadRIdeal.sig) → Buf (Elt Ideal) ℓ) (g' : Dev Cert.RgHeadRIdeal.nD → PrngReg), Pre_RgHeadKIdeal m →
    (∀ c : Dev Cert.RgHeadKIdeal.nD,
      m' ((c.tc : Thread Cert.RgHeadRIdeal.nD Cert.RgHeadRIdeal.τ).loc Cert.RgHeadRIdeal.main_arg0) = m ((c.tc : Thread Cert.RgHeadKIdeal.nD Cert.RgHeadKIdeal.τ).loc Cert.RgHeadKIdeal.main_arg0)
      ∧ m' ((c.tc : Thread Cert.RgHeadRIdeal.nD Cert.RgHeadRIdeal.τ).loc Cert.RgHeadRIdeal.main_arg1) = m ((c.tc : Thread Cert.RgHeadKIdeal.nD Cert.RgHeadKIdeal.τ).loc Cert.RgHeadKIdeal.main_arg1)) →
    ∃ (v0 : (c : Dev Cert.RgHeadKIdeal.nD) → Buf (Elt Ideal) ((c.tc : Thread Cert.RgHeadKIdeal.nD Cert.RgHeadKIdeal.τ).loc Cert.RgHeadKIdeal.main_v14)) (v1 : (c : Dev Cert.RgHeadKIdeal.nD) → Buf (Elt Ideal) ((c.tc : Thread Cert.RgHeadKIdeal.nD Cert.RgHeadKIdeal.τ).loc Cert.RgHeadKIdeal.main_v18)),
      θ_run (Cert.RgHeadKIdeal.defs (F := Ideal)) (onTc (τ := Cert.RgHeadKIdeal.τ) (Cert.RgHeadKIdeal.main (F := Ideal))) ⟨m, fun _ => 0, g⟩ (fun r => ∀ c : Dev Cert.RgHeadKIdeal.nD,
          r.2.mem ((c.tc : Thread Cert.RgHeadKIdeal.nD Cert.RgHeadKIdeal.τ).loc Cert.RgHeadKIdeal.main_v14) = v0 c
          ∧ r.2.mem ((c.tc : Thread Cert.RgHeadKIdeal.nD Cert.RgHeadKIdeal.τ).loc Cert.RgHeadKIdeal.main_v18) = v1 c
          ∧ r.2.mem ((c.tc : Thread Cert.RgHeadKIdeal.nD Cert.RgHeadKIdeal.τ).loc Cert.RgHeadKIdeal.main_arg0) = m ((c.tc : Thread Cert.RgHeadKIdeal.nD Cert.RgHeadKIdeal.τ).loc Cert.RgHeadKIdeal.main_arg0)
          ∧ r.2.mem ((c.tc : Thread Cert.RgHeadKIdeal.nD Cert.RgHeadKIdeal.τ).loc Cert.RgHeadKIdeal.main_arg1) = m ((c.tc : Thread Cert.RgHeadKIdeal.nD Cert.RgHeadKIdeal.τ).loc Cert.RgHeadKIdeal.main_arg1))
      ∧ θ_run (Cert.RgHeadRIdeal.defs (F := Ideal)) (onTc (τ := Cert.RgHeadRIdeal.τ) (Cert.RgHeadRIdeal.main (F := Ideal))) ⟨m', fun _ => 0, g'⟩ (fun r => ∀ c : Dev Cert.RgHeadRIdeal.nD,
          r.2.mem ((c.tc : Thread Cert.RgHeadRIdeal.nD Cert.RgHeadRIdeal.τ).loc Cert.RgHeadRIdeal.main_v2) = v0 c
          ∧ r.2.mem ((c.tc : Thread Cert.RgHeadRIdeal.nD Cert.RgHeadRIdeal.τ).loc Cert.RgHeadRIdeal.main_v3) = v1 c
          ∧ r.2.mem ((c.tc : Thread Cert.RgHeadRIdeal.nD Cert.RgHeadRIdeal.τ).loc Cert.RgHeadRIdeal.main_arg0) = m' ((c.tc : Thread Cert.RgHeadRIdeal.nD Cert.RgHeadRIdeal.τ).loc Cert.RgHeadRIdeal.main_arg0)
          ∧ r.2.mem ((c.tc : Thread Cert.RgHeadRIdeal.nD Cert.RgHeadRIdeal.τ).loc Cert.RgHeadRIdeal.main_arg1) = m' ((c.tc : Thread Cert.RgHeadRIdeal.nD Cert.RgHeadRIdeal.τ).loc Cert.RgHeadRIdeal.main_arg1))

def preserves_RgOutK_RgOutKIdeal : Prop :=
  True

def algebraic_RgOutKIdeal_RgOutRIdeal [hRgOutKIdeal : Cert.RgOutKIdeal.Facts] [hRgOutRIdeal : Cert.RgOutRIdeal.Facts] : Prop :=
  ∀ (m : (ℓ : Loc Cert.RgOutKIdeal.nD Cert.RgOutKIdeal.τ Cert.RgOutKIdeal.sig) → Buf (Elt Ideal) ℓ) (g : Dev Cert.RgOutKIdeal.nD → PrngReg)
    (m' : (ℓ : Loc Cert.RgOutRIdeal.nD Cert.RgOutRIdeal.τ Cert.RgOutRIdeal.sig) → Buf (Elt Ideal) ℓ) (g' : Dev Cert.RgOutRIdeal.nD → PrngReg), Pre_RgOutKIdeal m →
    (∀ c : Dev Cert.RgOutKIdeal.nD,
      m' ((c.tc : Thread Cert.RgOutRIdeal.nD Cert.RgOutRIdeal.τ).loc Cert.RgOutRIdeal.main_arg0) = m ((c.tc : Thread Cert.RgOutKIdeal.nD Cert.RgOutKIdeal.τ).loc Cert.RgOutKIdeal.main_arg0)
      ∧ m' ((c.tc : Thread Cert.RgOutRIdeal.nD Cert.RgOutRIdeal.τ).loc Cert.RgOutRIdeal.main_arg1) = m ((c.tc : Thread Cert.RgOutKIdeal.nD Cert.RgOutKIdeal.τ).loc Cert.RgOutKIdeal.main_arg1)) →
    ∃ (v0 : (c : Dev Cert.RgOutKIdeal.nD) → Buf (Elt Ideal) ((c.tc : Thread Cert.RgOutKIdeal.nD Cert.RgOutKIdeal.τ).loc Cert.RgOutKIdeal.main_v7)),
      θ_run (Cert.RgOutKIdeal.defs (F := Ideal)) (onTc (τ := Cert.RgOutKIdeal.τ) (Cert.RgOutKIdeal.main (F := Ideal))) ⟨m, fun _ => 0, g⟩ (fun r => ∀ c : Dev Cert.RgOutKIdeal.nD,
          r.2.mem ((c.tc : Thread Cert.RgOutKIdeal.nD Cert.RgOutKIdeal.τ).loc Cert.RgOutKIdeal.main_v7) = v0 c
          ∧ r.2.mem ((c.tc : Thread Cert.RgOutKIdeal.nD Cert.RgOutKIdeal.τ).loc Cert.RgOutKIdeal.main_arg0) = m ((c.tc : Thread Cert.RgOutKIdeal.nD Cert.RgOutKIdeal.τ).loc Cert.RgOutKIdeal.main_arg0)
          ∧ r.2.mem ((c.tc : Thread Cert.RgOutKIdeal.nD Cert.RgOutKIdeal.τ).loc Cert.RgOutKIdeal.main_arg1) = m ((c.tc : Thread Cert.RgOutKIdeal.nD Cert.RgOutKIdeal.τ).loc Cert.RgOutKIdeal.main_arg1))
      ∧ θ_run (Cert.RgOutRIdeal.defs (F := Ideal)) (onTc (τ := Cert.RgOutRIdeal.τ) (Cert.RgOutRIdeal.main (F := Ideal))) ⟨m', fun _ => 0, g'⟩ (fun r => ∀ c : Dev Cert.RgOutRIdeal.nD,
          r.2.mem ((c.tc : Thread Cert.RgOutRIdeal.nD Cert.RgOutRIdeal.τ).loc Cert.RgOutRIdeal.main_v1) = v0 c
          ∧ r.2.mem ((c.tc : Thread Cert.RgOutRIdeal.nD Cert.RgOutRIdeal.τ).loc Cert.RgOutRIdeal.main_arg0) = m' ((c.tc : Thread Cert.RgOutRIdeal.nD Cert.RgOutRIdeal.τ).loc Cert.RgOutRIdeal.main_arg0)
          ∧ r.2.mem ((c.tc : Thread Cert.RgOutRIdeal.nD Cert.RgOutRIdeal.τ).loc Cert.RgOutRIdeal.main_arg1) = m' ((c.tc : Thread Cert.RgOutRIdeal.nD Cert.RgOutRIdeal.τ).loc Cert.RgOutRIdeal.main_arg1))

def preserves_NsaOutK_NsaOutKIdeal : Prop :=
  True

def algebraic_NsaOutKIdeal_NsaOutRIdeal [hNsaOutKIdeal : Cert.NsaOutKIdeal.Facts] [hNsaOutRIdeal : Cert.NsaOutRIdeal.Facts] : Prop :=
  ∀ (m : (ℓ : Loc Cert.NsaOutKIdeal.nD Cert.NsaOutKIdeal.τ Cert.NsaOutKIdeal.sig) → Buf (Elt Ideal) ℓ) (g : Dev Cert.NsaOutKIdeal.nD → PrngReg)
    (m' : (ℓ : Loc Cert.NsaOutRIdeal.nD Cert.NsaOutRIdeal.τ Cert.NsaOutRIdeal.sig) → Buf (Elt Ideal) ℓ) (g' : Dev Cert.NsaOutRIdeal.nD → PrngReg), Pre_NsaOutKIdeal m →
    (∀ c : Dev Cert.NsaOutKIdeal.nD,
      m' ((c.tc : Thread Cert.NsaOutRIdeal.nD Cert.NsaOutRIdeal.τ).loc Cert.NsaOutRIdeal.main_arg0) = m ((c.tc : Thread Cert.NsaOutKIdeal.nD Cert.NsaOutKIdeal.τ).loc Cert.NsaOutKIdeal.main_arg0)
      ∧ m' ((c.tc : Thread Cert.NsaOutRIdeal.nD Cert.NsaOutRIdeal.τ).loc Cert.NsaOutRIdeal.main_arg1) = m ((c.tc : Thread Cert.NsaOutKIdeal.nD Cert.NsaOutKIdeal.τ).loc Cert.NsaOutKIdeal.main_arg1)) →
    ∃ (v0 : (c : Dev Cert.NsaOutKIdeal.nD) → Buf (Elt Ideal) ((c.tc : Thread Cert.NsaOutKIdeal.nD Cert.NsaOutKIdeal.τ).loc Cert.NsaOutKIdeal.main_v1)),
      θ_run (Cert.NsaOutKIdeal.defs (F := Ideal)) (onTc (τ := Cert.NsaOutKIdeal.τ) (Cert.NsaOutKIdeal.main (F := Ideal))) ⟨m, fun _ => 0, g⟩ (fun r => ∀ c : Dev Cert.NsaOutKIdeal.nD,
          r.2.mem ((c.tc : Thread Cert.NsaOutKIdeal.nD Cert.NsaOutKIdeal.τ).loc Cert.NsaOutKIdeal.main_v1) = v0 c
          ∧ r.2.mem ((c.tc : Thread Cert.NsaOutKIdeal.nD Cert.NsaOutKIdeal.τ).loc Cert.NsaOutKIdeal.main_arg0) = m ((c.tc : Thread Cert.NsaOutKIdeal.nD Cert.NsaOutKIdeal.τ).loc Cert.NsaOutKIdeal.main_arg0)
          ∧ r.2.mem ((c.tc : Thread Cert.NsaOutKIdeal.nD Cert.NsaOutKIdeal.τ).loc Cert.NsaOutKIdeal.main_arg1) = m ((c.tc : Thread Cert.NsaOutKIdeal.nD Cert.NsaOutKIdeal.τ).loc Cert.NsaOutKIdeal.main_arg1))
      ∧ θ_run (Cert.NsaOutRIdeal.defs (F := Ideal)) (onTc (τ := Cert.NsaOutRIdeal.τ) (Cert.NsaOutRIdeal.main (F := Ideal))) ⟨m', fun _ => 0, g'⟩ (fun r => ∀ c : Dev Cert.NsaOutRIdeal.nD,
          r.2.mem ((c.tc : Thread Cert.NsaOutRIdeal.nD Cert.NsaOutRIdeal.τ).loc Cert.NsaOutRIdeal.main_v1) = v0 c
          ∧ r.2.mem ((c.tc : Thread Cert.NsaOutRIdeal.nD Cert.NsaOutRIdeal.τ).loc Cert.NsaOutRIdeal.main_arg0) = m' ((c.tc : Thread Cert.NsaOutRIdeal.nD Cert.NsaOutRIdeal.τ).loc Cert.NsaOutRIdeal.main_arg0)
          ∧ r.2.mem ((c.tc : Thread Cert.NsaOutRIdeal.nD Cert.NsaOutRIdeal.τ).loc Cert.NsaOutRIdeal.main_arg1) = m' ((c.tc : Thread Cert.NsaOutRIdeal.nD Cert.NsaOutRIdeal.τ).loc Cert.NsaOutRIdeal.main_arg1))

def preserves_LastK_LastKIdeal : Prop :=
  True

def algebraic_LastKIdeal_LastRIdeal [hLastKIdeal : Cert.LastKIdeal.Facts] [hLastRIdeal : Cert.LastRIdeal.Facts] : Prop :=
  ∀ (m : (ℓ : Loc Cert.LastKIdeal.nD Cert.LastKIdeal.τ Cert.LastKIdeal.sig) → Buf (Elt Ideal) ℓ) (g : Dev Cert.LastKIdeal.nD → PrngReg)
    (m' : (ℓ : Loc Cert.LastRIdeal.nD Cert.LastRIdeal.τ Cert.LastRIdeal.sig) → Buf (Elt Ideal) ℓ) (g' : Dev Cert.LastRIdeal.nD → PrngReg), Pre_LastKIdeal m →
    (∀ c : Dev Cert.LastKIdeal.nD,
      m' ((c.tc : Thread Cert.LastRIdeal.nD Cert.LastRIdeal.τ).loc Cert.LastRIdeal.main_arg0) = m ((c.tc : Thread Cert.LastKIdeal.nD Cert.LastKIdeal.τ).loc Cert.LastKIdeal.main_arg0)
      ∧ m' ((c.tc : Thread Cert.LastRIdeal.nD Cert.LastRIdeal.τ).loc Cert.LastRIdeal.main_arg1) = m ((c.tc : Thread Cert.LastKIdeal.nD Cert.LastKIdeal.τ).loc Cert.LastKIdeal.main_arg1)
      ∧ m' ((c.tc : Thread Cert.LastRIdeal.nD Cert.LastRIdeal.τ).loc Cert.LastRIdeal.main_arg2) = m ((c.tc : Thread Cert.LastKIdeal.nD Cert.LastKIdeal.τ).loc Cert.LastKIdeal.main_arg2)
      ∧ m' ((c.tc : Thread Cert.LastRIdeal.nD Cert.LastRIdeal.τ).loc Cert.LastRIdeal.main_arg3) = m ((c.tc : Thread Cert.LastKIdeal.nD Cert.LastKIdeal.τ).loc Cert.LastKIdeal.main_arg3)
      ∧ m' ((c.tc : Thread Cert.LastRIdeal.nD Cert.LastRIdeal.τ).loc Cert.LastRIdeal.main_arg4) = m ((c.tc : Thread Cert.LastKIdeal.nD Cert.LastKIdeal.τ).loc Cert.LastKIdeal.main_arg4)) →
    ∃ (v0 : (c : Dev Cert.LastKIdeal.nD) → Buf (Elt Ideal) ((c.tc : Thread Cert.LastKIdeal.nD Cert.LastKIdeal.τ).loc Cert.LastKIdeal.main_v4)) (v1 : (c : Dev Cert.LastKIdeal.nD) → Buf (Elt Ideal) ((c.tc : Thread Cert.LastKIdeal.nD Cert.LastKIdeal.τ).loc Cert.LastKIdeal.main_v9)),
      θ_run (Cert.LastKIdeal.defs (F := Ideal)) (onTc (τ := Cert.LastKIdeal.τ) (Cert.LastKIdeal.main (F := Ideal))) ⟨m, fun _ => 0, g⟩ (fun r => ∀ c : Dev Cert.LastKIdeal.nD,
          r.2.mem ((c.tc : Thread Cert.LastKIdeal.nD Cert.LastKIdeal.τ).loc Cert.LastKIdeal.main_v4) = v0 c
          ∧ r.2.mem ((c.tc : Thread Cert.LastKIdeal.nD Cert.LastKIdeal.τ).loc Cert.LastKIdeal.main_v9) = v1 c
          ∧ r.2.mem ((c.tc : Thread Cert.LastKIdeal.nD Cert.LastKIdeal.τ).loc Cert.LastKIdeal.main_arg0) = m ((c.tc : Thread Cert.LastKIdeal.nD Cert.LastKIdeal.τ).loc Cert.LastKIdeal.main_arg0)
          ∧ r.2.mem ((c.tc : Thread Cert.LastKIdeal.nD Cert.LastKIdeal.τ).loc Cert.LastKIdeal.main_arg1) = m ((c.tc : Thread Cert.LastKIdeal.nD Cert.LastKIdeal.τ).loc Cert.LastKIdeal.main_arg1)
          ∧ r.2.mem ((c.tc : Thread Cert.LastKIdeal.nD Cert.LastKIdeal.τ).loc Cert.LastKIdeal.main_arg2) = m ((c.tc : Thread Cert.LastKIdeal.nD Cert.LastKIdeal.τ).loc Cert.LastKIdeal.main_arg2)
          ∧ r.2.mem ((c.tc : Thread Cert.LastKIdeal.nD Cert.LastKIdeal.τ).loc Cert.LastKIdeal.main_arg3) = m ((c.tc : Thread Cert.LastKIdeal.nD Cert.LastKIdeal.τ).loc Cert.LastKIdeal.main_arg3)
          ∧ r.2.mem ((c.tc : Thread Cert.LastKIdeal.nD Cert.LastKIdeal.τ).loc Cert.LastKIdeal.main_arg4) = m ((c.tc : Thread Cert.LastKIdeal.nD Cert.LastKIdeal.τ).loc Cert.LastKIdeal.main_arg4))
      ∧ θ_run (Cert.LastRIdeal.defs (F := Ideal)) (onTc (τ := Cert.LastRIdeal.τ) (Cert.LastRIdeal.main (F := Ideal))) ⟨m', fun _ => 0, g'⟩ (fun r => ∀ c : Dev Cert.LastRIdeal.nD,
          r.2.mem ((c.tc : Thread Cert.LastRIdeal.nD Cert.LastRIdeal.τ).loc Cert.LastRIdeal.main_v13) = v0 c
          ∧ r.2.mem ((c.tc : Thread Cert.LastRIdeal.nD Cert.LastRIdeal.τ).loc Cert.LastRIdeal.main_v27) = v1 c
          ∧ r.2.mem ((c.tc : Thread Cert.LastRIdeal.nD Cert.LastRIdeal.τ).loc Cert.LastRIdeal.main_arg0) = m' ((c.tc : Thread Cert.LastRIdeal.nD Cert.LastRIdeal.τ).loc Cert.LastRIdeal.main_arg0)
          ∧ r.2.mem ((c.tc : Thread Cert.LastRIdeal.nD Cert.LastRIdeal.τ).loc Cert.LastRIdeal.main_arg1) = m' ((c.tc : Thread Cert.LastRIdeal.nD Cert.LastRIdeal.τ).loc Cert.LastRIdeal.main_arg1)
          ∧ r.2.mem ((c.tc : Thread Cert.LastRIdeal.nD Cert.LastRIdeal.τ).loc Cert.LastRIdeal.main_arg2) = m' ((c.tc : Thread Cert.LastRIdeal.nD Cert.LastRIdeal.τ).loc Cert.LastRIdeal.main_arg2)
          ∧ r.2.mem ((c.tc : Thread Cert.LastRIdeal.nD Cert.LastRIdeal.τ).loc Cert.LastRIdeal.main_arg3) = m' ((c.tc : Thread Cert.LastRIdeal.nD Cert.LastRIdeal.τ).loc Cert.LastRIdeal.main_arg3)
          ∧ r.2.mem ((c.tc : Thread Cert.LastRIdeal.nD Cert.LastRIdeal.τ).loc Cert.LastRIdeal.main_arg4) = m' ((c.tc : Thread Cert.LastRIdeal.nD Cert.LastRIdeal.τ).loc Cert.LastRIdeal.main_arg4))

def preserves_NsaWinK_NsaWinKIdeal : Prop :=
  True

def algebraic_NsaWinKIdeal_NsaWinRIdeal [hNsaWinKIdeal : Cert.NsaWinKIdeal.Facts] [hNsaWinRIdeal : Cert.NsaWinRIdeal.Facts] : Prop :=
  ∀ (m : (ℓ : Loc Cert.NsaWinKIdeal.nD Cert.NsaWinKIdeal.τ Cert.NsaWinKIdeal.sig) → Buf (Elt Ideal) ℓ) (g : Dev Cert.NsaWinKIdeal.nD → PrngReg)
    (m' : (ℓ : Loc Cert.NsaWinRIdeal.nD Cert.NsaWinRIdeal.τ Cert.NsaWinRIdeal.sig) → Buf (Elt Ideal) ℓ) (g' : Dev Cert.NsaWinRIdeal.nD → PrngReg), Pre_NsaWinKIdeal m →
    (∀ c : Dev Cert.NsaWinKIdeal.nD,
      m' ((c.tc : Thread Cert.NsaWinRIdeal.nD Cert.NsaWinRIdeal.τ).loc Cert.NsaWinRIdeal.main_arg0) = m ((c.tc : Thread Cert.NsaWinKIdeal.nD Cert.NsaWinKIdeal.τ).loc Cert.NsaWinKIdeal.main_arg0)
      ∧ m' ((c.tc : Thread Cert.NsaWinRIdeal.nD Cert.NsaWinRIdeal.τ).loc Cert.NsaWinRIdeal.main_arg1) = m ((c.tc : Thread Cert.NsaWinKIdeal.nD Cert.NsaWinKIdeal.τ).loc Cert.NsaWinKIdeal.main_arg1)
      ∧ m' ((c.tc : Thread Cert.NsaWinRIdeal.nD Cert.NsaWinRIdeal.τ).loc Cert.NsaWinRIdeal.main_arg2) = m ((c.tc : Thread Cert.NsaWinKIdeal.nD Cert.NsaWinKIdeal.τ).loc Cert.NsaWinKIdeal.main_arg2)
      ∧ m' ((c.tc : Thread Cert.NsaWinRIdeal.nD Cert.NsaWinRIdeal.τ).loc Cert.NsaWinRIdeal.main_arg3) = m ((c.tc : Thread Cert.NsaWinKIdeal.nD Cert.NsaWinKIdeal.τ).loc Cert.NsaWinKIdeal.main_arg3)
      ∧ m' ((c.tc : Thread Cert.NsaWinRIdeal.nD Cert.NsaWinRIdeal.τ).loc Cert.NsaWinRIdeal.main_arg4) = m ((c.tc : Thread Cert.NsaWinKIdeal.nD Cert.NsaWinKIdeal.τ).loc Cert.NsaWinKIdeal.main_arg4)
      ∧ m' ((c.tc : Thread Cert.NsaWinRIdeal.nD Cert.NsaWinRIdeal.τ).loc Cert.NsaWinRIdeal.main_arg5) = m ((c.tc : Thread Cert.NsaWinKIdeal.nD Cert.NsaWinKIdeal.τ).loc Cert.NsaWinKIdeal.main_arg5)
      ∧ m' ((c.tc : Thread Cert.NsaWinRIdeal.nD Cert.NsaWinRIdeal.τ).loc Cert.NsaWinRIdeal.main_arg6) = m ((c.tc : Thread Cert.NsaWinKIdeal.nD Cert.NsaWinKIdeal.τ).loc Cert.NsaWinKIdeal.main_arg6)
      ∧ m' ((c.tc : Thread Cert.NsaWinRIdeal.nD Cert.NsaWinRIdeal.τ).loc Cert.NsaWinRIdeal.main_arg7) = m ((c.tc : Thread Cert.NsaWinKIdeal.nD Cert.NsaWinKIdeal.τ).loc Cert.NsaWinKIdeal.main_arg7)
      ∧ m' ((c.tc : Thread Cert.NsaWinRIdeal.nD Cert.NsaWinRIdeal.τ).loc Cert.NsaWinRIdeal.main_arg8) = m ((c.tc : Thread Cert.NsaWinKIdeal.nD Cert.NsaWinKIdeal.τ).loc Cert.NsaWinKIdeal.main_arg8)) →
    ∃ (v0 : (c : Dev Cert.NsaWinKIdeal.nD) → Buf (Elt Ideal) ((c.tc : Thread Cert.NsaWinKIdeal.nD Cert.NsaWinKIdeal.τ).loc Cert.NsaWinKIdeal.main_v6)),
      θ_run (Cert.NsaWinKIdeal.defs (F := Ideal)) (onTc (τ := Cert.NsaWinKIdeal.τ) (Cert.NsaWinKIdeal.main (F := Ideal))) ⟨m, fun _ => 0, g⟩ (fun r => ∀ c : Dev Cert.NsaWinKIdeal.nD,
          r.2.mem ((c.tc : Thread Cert.NsaWinKIdeal.nD Cert.NsaWinKIdeal.τ).loc Cert.NsaWinKIdeal.main_v6) = v0 c
          ∧ r.2.mem ((c.tc : Thread Cert.NsaWinKIdeal.nD Cert.NsaWinKIdeal.τ).loc Cert.NsaWinKIdeal.main_arg0) = m ((c.tc : Thread Cert.NsaWinKIdeal.nD Cert.NsaWinKIdeal.τ).loc Cert.NsaWinKIdeal.main_arg0)
          ∧ r.2.mem ((c.tc : Thread Cert.NsaWinKIdeal.nD Cert.NsaWinKIdeal.τ).loc Cert.NsaWinKIdeal.main_arg1) = m ((c.tc : Thread Cert.NsaWinKIdeal.nD Cert.NsaWinKIdeal.τ).loc Cert.NsaWinKIdeal.main_arg1)
          ∧ r.2.mem ((c.tc : Thread Cert.NsaWinKIdeal.nD Cert.NsaWinKIdeal.τ).loc Cert.NsaWinKIdeal.main_arg2) = m ((c.tc : Thread Cert.NsaWinKIdeal.nD Cert.NsaWinKIdeal.τ).loc Cert.NsaWinKIdeal.main_arg2)
          ∧ r.2.mem ((c.tc : Thread Cert.NsaWinKIdeal.nD Cert.NsaWinKIdeal.τ).loc Cert.NsaWinKIdeal.main_arg3) = m ((c.tc : Thread Cert.NsaWinKIdeal.nD Cert.NsaWinKIdeal.τ).loc Cert.NsaWinKIdeal.main_arg3)
          ∧ r.2.mem ((c.tc : Thread Cert.NsaWinKIdeal.nD Cert.NsaWinKIdeal.τ).loc Cert.NsaWinKIdeal.main_arg4) = m ((c.tc : Thread Cert.NsaWinKIdeal.nD Cert.NsaWinKIdeal.τ).loc Cert.NsaWinKIdeal.main_arg4)
          ∧ r.2.mem ((c.tc : Thread Cert.NsaWinKIdeal.nD Cert.NsaWinKIdeal.τ).loc Cert.NsaWinKIdeal.main_arg5) = m ((c.tc : Thread Cert.NsaWinKIdeal.nD Cert.NsaWinKIdeal.τ).loc Cert.NsaWinKIdeal.main_arg5)
          ∧ r.2.mem ((c.tc : Thread Cert.NsaWinKIdeal.nD Cert.NsaWinKIdeal.τ).loc Cert.NsaWinKIdeal.main_arg6) = m ((c.tc : Thread Cert.NsaWinKIdeal.nD Cert.NsaWinKIdeal.τ).loc Cert.NsaWinKIdeal.main_arg6)
          ∧ r.2.mem ((c.tc : Thread Cert.NsaWinKIdeal.nD Cert.NsaWinKIdeal.τ).loc Cert.NsaWinKIdeal.main_arg7) = m ((c.tc : Thread Cert.NsaWinKIdeal.nD Cert.NsaWinKIdeal.τ).loc Cert.NsaWinKIdeal.main_arg7)
          ∧ r.2.mem ((c.tc : Thread Cert.NsaWinKIdeal.nD Cert.NsaWinKIdeal.τ).loc Cert.NsaWinKIdeal.main_arg8) = m ((c.tc : Thread Cert.NsaWinKIdeal.nD Cert.NsaWinKIdeal.τ).loc Cert.NsaWinKIdeal.main_arg8))
      ∧ θ_run (Cert.NsaWinRIdeal.defs (F := Ideal)) (onTc (τ := Cert.NsaWinRIdeal.τ) (Cert.NsaWinRIdeal.main (F := Ideal))) ⟨m', fun _ => 0, g'⟩ (fun r => ∀ c : Dev Cert.NsaWinRIdeal.nD,
          r.2.mem ((c.tc : Thread Cert.NsaWinRIdeal.nD Cert.NsaWinRIdeal.τ).loc Cert.NsaWinRIdeal.main_v76) = v0 c
          ∧ r.2.mem ((c.tc : Thread Cert.NsaWinRIdeal.nD Cert.NsaWinRIdeal.τ).loc Cert.NsaWinRIdeal.main_arg0) = m' ((c.tc : Thread Cert.NsaWinRIdeal.nD Cert.NsaWinRIdeal.τ).loc Cert.NsaWinRIdeal.main_arg0)
          ∧ r.2.mem ((c.tc : Thread Cert.NsaWinRIdeal.nD Cert.NsaWinRIdeal.τ).loc Cert.NsaWinRIdeal.main_arg1) = m' ((c.tc : Thread Cert.NsaWinRIdeal.nD Cert.NsaWinRIdeal.τ).loc Cert.NsaWinRIdeal.main_arg1)
          ∧ r.2.mem ((c.tc : Thread Cert.NsaWinRIdeal.nD Cert.NsaWinRIdeal.τ).loc Cert.NsaWinRIdeal.main_arg2) = m' ((c.tc : Thread Cert.NsaWinRIdeal.nD Cert.NsaWinRIdeal.τ).loc Cert.NsaWinRIdeal.main_arg2)
          ∧ r.2.mem ((c.tc : Thread Cert.NsaWinRIdeal.nD Cert.NsaWinRIdeal.τ).loc Cert.NsaWinRIdeal.main_arg3) = m' ((c.tc : Thread Cert.NsaWinRIdeal.nD Cert.NsaWinRIdeal.τ).loc Cert.NsaWinRIdeal.main_arg3)
          ∧ r.2.mem ((c.tc : Thread Cert.NsaWinRIdeal.nD Cert.NsaWinRIdeal.τ).loc Cert.NsaWinRIdeal.main_arg4) = m' ((c.tc : Thread Cert.NsaWinRIdeal.nD Cert.NsaWinRIdeal.τ).loc Cert.NsaWinRIdeal.main_arg4)
          ∧ r.2.mem ((c.tc : Thread Cert.NsaWinRIdeal.nD Cert.NsaWinRIdeal.τ).loc Cert.NsaWinRIdeal.main_arg5) = m' ((c.tc : Thread Cert.NsaWinRIdeal.nD Cert.NsaWinRIdeal.τ).loc Cert.NsaWinRIdeal.main_arg5)
          ∧ r.2.mem ((c.tc : Thread Cert.NsaWinRIdeal.nD Cert.NsaWinRIdeal.τ).loc Cert.NsaWinRIdeal.main_arg6) = m' ((c.tc : Thread Cert.NsaWinRIdeal.nD Cert.NsaWinRIdeal.τ).loc Cert.NsaWinRIdeal.main_arg6)
          ∧ r.2.mem ((c.tc : Thread Cert.NsaWinRIdeal.nD Cert.NsaWinRIdeal.τ).loc Cert.NsaWinRIdeal.main_arg7) = m' ((c.tc : Thread Cert.NsaWinRIdeal.nD Cert.NsaWinRIdeal.τ).loc Cert.NsaWinRIdeal.main_arg7)
          ∧ r.2.mem ((c.tc : Thread Cert.NsaWinRIdeal.nD Cert.NsaWinRIdeal.τ).loc Cert.NsaWinRIdeal.main_arg8) = m' ((c.tc : Thread Cert.NsaWinRIdeal.nD Cert.NsaWinRIdeal.τ).loc Cert.NsaWinRIdeal.main_arg8))

def preserves_NsaCmpK_NsaCmpKIdeal : Prop :=
  True

def algebraic_NsaCmpKIdeal_NsaCmpRIdeal [hNsaCmpKIdeal : Cert.NsaCmpKIdeal.Facts] [hNsaCmpRIdeal : Cert.NsaCmpRIdeal.Facts] : Prop :=
  ∀ (m : (ℓ : Loc Cert.NsaCmpKIdeal.nD Cert.NsaCmpKIdeal.τ Cert.NsaCmpKIdeal.sig) → Buf (Elt Ideal) ℓ) (g : Dev Cert.NsaCmpKIdeal.nD → PrngReg)
    (m' : (ℓ : Loc Cert.NsaCmpRIdeal.nD Cert.NsaCmpRIdeal.τ Cert.NsaCmpRIdeal.sig) → Buf (Elt Ideal) ℓ) (g' : Dev Cert.NsaCmpRIdeal.nD → PrngReg), Pre_NsaCmpKIdeal m →
    (∀ c : Dev Cert.NsaCmpKIdeal.nD,
      m' ((c.tc : Thread Cert.NsaCmpRIdeal.nD Cert.NsaCmpRIdeal.τ).loc Cert.NsaCmpRIdeal.main_arg0) = m ((c.tc : Thread Cert.NsaCmpKIdeal.nD Cert.NsaCmpKIdeal.τ).loc Cert.NsaCmpKIdeal.main_arg0)
      ∧ m' ((c.tc : Thread Cert.NsaCmpRIdeal.nD Cert.NsaCmpRIdeal.τ).loc Cert.NsaCmpRIdeal.main_arg1) = m ((c.tc : Thread Cert.NsaCmpKIdeal.nD Cert.NsaCmpKIdeal.τ).loc Cert.NsaCmpKIdeal.main_arg1)
      ∧ m' ((c.tc : Thread Cert.NsaCmpRIdeal.nD Cert.NsaCmpRIdeal.τ).loc Cert.NsaCmpRIdeal.main_arg2) = m ((c.tc : Thread Cert.NsaCmpKIdeal.nD Cert.NsaCmpKIdeal.τ).loc Cert.NsaCmpKIdeal.main_arg2)
      ∧ m' ((c.tc : Thread Cert.NsaCmpRIdeal.nD Cert.NsaCmpRIdeal.τ).loc Cert.NsaCmpRIdeal.main_arg3) = m ((c.tc : Thread Cert.NsaCmpKIdeal.nD Cert.NsaCmpKIdeal.τ).loc Cert.NsaCmpKIdeal.main_arg3)
      ∧ m' ((c.tc : Thread Cert.NsaCmpRIdeal.nD Cert.NsaCmpRIdeal.τ).loc Cert.NsaCmpRIdeal.main_arg4) = m ((c.tc : Thread Cert.NsaCmpKIdeal.nD Cert.NsaCmpKIdeal.τ).loc Cert.NsaCmpKIdeal.main_arg4)
      ∧ m' ((c.tc : Thread Cert.NsaCmpRIdeal.nD Cert.NsaCmpRIdeal.τ).loc Cert.NsaCmpRIdeal.main_arg5) = m ((c.tc : Thread Cert.NsaCmpKIdeal.nD Cert.NsaCmpKIdeal.τ).loc Cert.NsaCmpKIdeal.main_arg5)) →
    ∃ (v0 : (c : Dev Cert.NsaCmpKIdeal.nD) → Buf (Elt Ideal) ((c.tc : Thread Cert.NsaCmpKIdeal.nD Cert.NsaCmpKIdeal.τ).loc Cert.NsaCmpKIdeal.main_v4)),
      θ_run (Cert.NsaCmpKIdeal.defs (F := Ideal)) (onTc (τ := Cert.NsaCmpKIdeal.τ) (Cert.NsaCmpKIdeal.main (F := Ideal))) ⟨m, fun _ => 0, g⟩ (fun r => ∀ c : Dev Cert.NsaCmpKIdeal.nD,
          r.2.mem ((c.tc : Thread Cert.NsaCmpKIdeal.nD Cert.NsaCmpKIdeal.τ).loc Cert.NsaCmpKIdeal.main_v4) = v0 c
          ∧ r.2.mem ((c.tc : Thread Cert.NsaCmpKIdeal.nD Cert.NsaCmpKIdeal.τ).loc Cert.NsaCmpKIdeal.main_arg0) = m ((c.tc : Thread Cert.NsaCmpKIdeal.nD Cert.NsaCmpKIdeal.τ).loc Cert.NsaCmpKIdeal.main_arg0)
          ∧ r.2.mem ((c.tc : Thread Cert.NsaCmpKIdeal.nD Cert.NsaCmpKIdeal.τ).loc Cert.NsaCmpKIdeal.main_arg1) = m ((c.tc : Thread Cert.NsaCmpKIdeal.nD Cert.NsaCmpKIdeal.τ).loc Cert.NsaCmpKIdeal.main_arg1)
          ∧ r.2.mem ((c.tc : Thread Cert.NsaCmpKIdeal.nD Cert.NsaCmpKIdeal.τ).loc Cert.NsaCmpKIdeal.main_arg2) = m ((c.tc : Thread Cert.NsaCmpKIdeal.nD Cert.NsaCmpKIdeal.τ).loc Cert.NsaCmpKIdeal.main_arg2)
          ∧ r.2.mem ((c.tc : Thread Cert.NsaCmpKIdeal.nD Cert.NsaCmpKIdeal.τ).loc Cert.NsaCmpKIdeal.main_arg3) = m ((c.tc : Thread Cert.NsaCmpKIdeal.nD Cert.NsaCmpKIdeal.τ).loc Cert.NsaCmpKIdeal.main_arg3)
          ∧ r.2.mem ((c.tc : Thread Cert.NsaCmpKIdeal.nD Cert.NsaCmpKIdeal.τ).loc Cert.NsaCmpKIdeal.main_arg4) = m ((c.tc : Thread Cert.NsaCmpKIdeal.nD Cert.NsaCmpKIdeal.τ).loc Cert.NsaCmpKIdeal.main_arg4)
          ∧ r.2.mem ((c.tc : Thread Cert.NsaCmpKIdeal.nD Cert.NsaCmpKIdeal.τ).loc Cert.NsaCmpKIdeal.main_arg5) = m ((c.tc : Thread Cert.NsaCmpKIdeal.nD Cert.NsaCmpKIdeal.τ).loc Cert.NsaCmpKIdeal.main_arg5))
      ∧ θ_run (Cert.NsaCmpRIdeal.defs (F := Ideal)) (onTc (τ := Cert.NsaCmpRIdeal.τ) (Cert.NsaCmpRIdeal.main (F := Ideal))) ⟨m', fun _ => 0, g'⟩ (fun r => ∀ c : Dev Cert.NsaCmpRIdeal.nD,
          r.2.mem ((c.tc : Thread Cert.NsaCmpRIdeal.nD Cert.NsaCmpRIdeal.τ).loc Cert.NsaCmpRIdeal.main_v112) = v0 c
          ∧ r.2.mem ((c.tc : Thread Cert.NsaCmpRIdeal.nD Cert.NsaCmpRIdeal.τ).loc Cert.NsaCmpRIdeal.main_arg0) = m' ((c.tc : Thread Cert.NsaCmpRIdeal.nD Cert.NsaCmpRIdeal.τ).loc Cert.NsaCmpRIdeal.main_arg0)
          ∧ r.2.mem ((c.tc : Thread Cert.NsaCmpRIdeal.nD Cert.NsaCmpRIdeal.τ).loc Cert.NsaCmpRIdeal.main_arg1) = m' ((c.tc : Thread Cert.NsaCmpRIdeal.nD Cert.NsaCmpRIdeal.τ).loc Cert.NsaCmpRIdeal.main_arg1)
          ∧ r.2.mem ((c.tc : Thread Cert.NsaCmpRIdeal.nD Cert.NsaCmpRIdeal.τ).loc Cert.NsaCmpRIdeal.main_arg2) = m' ((c.tc : Thread Cert.NsaCmpRIdeal.nD Cert.NsaCmpRIdeal.τ).loc Cert.NsaCmpRIdeal.main_arg2)
          ∧ r.2.mem ((c.tc : Thread Cert.NsaCmpRIdeal.nD Cert.NsaCmpRIdeal.τ).loc Cert.NsaCmpRIdeal.main_arg3) = m' ((c.tc : Thread Cert.NsaCmpRIdeal.nD Cert.NsaCmpRIdeal.τ).loc Cert.NsaCmpRIdeal.main_arg3)
          ∧ r.2.mem ((c.tc : Thread Cert.NsaCmpRIdeal.nD Cert.NsaCmpRIdeal.τ).loc Cert.NsaCmpRIdeal.main_arg4) = m' ((c.tc : Thread Cert.NsaCmpRIdeal.nD Cert.NsaCmpRIdeal.τ).loc Cert.NsaCmpRIdeal.main_arg4)
          ∧ r.2.mem ((c.tc : Thread Cert.NsaCmpRIdeal.nD Cert.NsaCmpRIdeal.τ).loc Cert.NsaCmpRIdeal.main_arg5) = m' ((c.tc : Thread Cert.NsaCmpRIdeal.nD Cert.NsaCmpRIdeal.τ).loc Cert.NsaCmpRIdeal.main_arg5))

def preserves_NsaSelK_NsaSelKIdeal : Prop :=
  True

def algebraic_NsaSelKIdeal_NsaSelRIdeal [hNsaSelKIdeal : Cert.NsaSelKIdeal.Facts] [hNsaSelRIdeal : Cert.NsaSelRIdeal.Facts] : Prop :=
  ∀ (m : (ℓ : Loc Cert.NsaSelKIdeal.nD Cert.NsaSelKIdeal.τ Cert.NsaSelKIdeal.sig) → Buf (Elt Ideal) ℓ) (g : Dev Cert.NsaSelKIdeal.nD → PrngReg)
    (m' : (ℓ : Loc Cert.NsaSelRIdeal.nD Cert.NsaSelRIdeal.τ Cert.NsaSelRIdeal.sig) → Buf (Elt Ideal) ℓ) (g' : Dev Cert.NsaSelRIdeal.nD → PrngReg), Pre_NsaSelKIdeal m →
    (∀ c : Dev Cert.NsaSelKIdeal.nD,
      m' ((c.tc : Thread Cert.NsaSelRIdeal.nD Cert.NsaSelRIdeal.τ).loc Cert.NsaSelRIdeal.main_arg0) = m ((c.tc : Thread Cert.NsaSelKIdeal.nD Cert.NsaSelKIdeal.τ).loc Cert.NsaSelKIdeal.main_arg0)
      ∧ m' ((c.tc : Thread Cert.NsaSelRIdeal.nD Cert.NsaSelRIdeal.τ).loc Cert.NsaSelRIdeal.main_arg1) = m ((c.tc : Thread Cert.NsaSelKIdeal.nD Cert.NsaSelKIdeal.τ).loc Cert.NsaSelKIdeal.main_arg1)) →
    ∃ (v0 : (c : Dev Cert.NsaSelKIdeal.nD) → Buf (Elt Ideal) ((c.tc : Thread Cert.NsaSelKIdeal.nD Cert.NsaSelKIdeal.τ).loc Cert.NsaSelKIdeal.main_v0_0)),
      θ_run (Cert.NsaSelKIdeal.defs (F := Ideal)) (onTc (τ := Cert.NsaSelKIdeal.τ) (Cert.NsaSelKIdeal.main (F := Ideal))) ⟨m, fun _ => 0, g⟩ (fun r => ∀ c : Dev Cert.NsaSelKIdeal.nD,
          r.2.mem ((c.tc : Thread Cert.NsaSelKIdeal.nD Cert.NsaSelKIdeal.τ).loc Cert.NsaSelKIdeal.main_v0_0) = v0 c
          ∧ r.2.mem ((c.tc : Thread Cert.NsaSelKIdeal.nD Cert.NsaSelKIdeal.τ).loc Cert.NsaSelKIdeal.main_arg0) = m ((c.tc : Thread Cert.NsaSelKIdeal.nD Cert.NsaSelKIdeal.τ).loc Cert.NsaSelKIdeal.main_arg0)
          ∧ r.2.mem ((c.tc : Thread Cert.NsaSelKIdeal.nD Cert.NsaSelKIdeal.τ).loc Cert.NsaSelKIdeal.main_arg1) = m ((c.tc : Thread Cert.NsaSelKIdeal.nD Cert.NsaSelKIdeal.τ).loc Cert.NsaSelKIdeal.main_arg1))
      ∧ θ_run (Cert.NsaSelRIdeal.defs (F := Ideal)) (onTc (τ := Cert.NsaSelRIdeal.τ) (Cert.NsaSelRIdeal.main (F := Ideal))) ⟨m', fun _ => 0, g'⟩ (fun r => ∀ c : Dev Cert.NsaSelRIdeal.nD,
          r.2.mem ((c.tc : Thread Cert.NsaSelRIdeal.nD Cert.NsaSelRIdeal.τ).loc Cert.NsaSelRIdeal.main_v42) = v0 c
          ∧ r.2.mem ((c.tc : Thread Cert.NsaSelRIdeal.nD Cert.NsaSelRIdeal.τ).loc Cert.NsaSelRIdeal.main_arg0) = m' ((c.tc : Thread Cert.NsaSelRIdeal.nD Cert.NsaSelRIdeal.τ).loc Cert.NsaSelRIdeal.main_arg0)
          ∧ r.2.mem ((c.tc : Thread Cert.NsaSelRIdeal.nD Cert.NsaSelRIdeal.τ).loc Cert.NsaSelRIdeal.main_arg1) = m' ((c.tc : Thread Cert.NsaSelRIdeal.nD Cert.NsaSelRIdeal.τ).loc Cert.NsaSelRIdeal.main_arg1))

def Claim : Prop :=
  ∃ (hStepK : Cert.StepK.Facts) (hStepKIdeal : Cert.StepKIdeal.Facts) (hStepRIdeal : Cert.StepRIdeal.Facts) (hHeadK : Cert.HeadK.Facts) (hHeadKIdeal : Cert.HeadKIdeal.Facts) (hHeadRIdeal : Cert.HeadRIdeal.Facts) (hGluK : Cert.GluK.Facts) (hGluKIdeal : Cert.GluKIdeal.Facts) (hGluRIdeal : Cert.GluRIdeal.Facts) (hOutK : Cert.OutK.Facts) (hOutKIdeal : Cert.OutKIdeal.Facts) (hOutRIdeal : Cert.OutRIdeal.Facts) (hNsaK : Cert.NsaK.Facts) (hNsaKIdeal : Cert.NsaKIdeal.Facts) (hNsaRIdeal : Cert.NsaRIdeal.Facts) (hNsaStepK : Cert.NsaStepK.Facts) (hNsaStepKIdeal : Cert.NsaStepKIdeal.Facts) (hNsaStepRIdeal : Cert.NsaStepRIdeal.Facts) (hRgStepK : Cert.RgStepK.Facts) (hRgStepKIdeal : Cert.RgStepKIdeal.Facts) (hRgStepRIdeal : Cert.RgStepRIdeal.Facts) (hRgHeadK : Cert.RgHeadK.Facts) (hRgHeadKIdeal : Cert.RgHeadKIdeal.Facts) (hRgHeadRIdeal : Cert.RgHeadRIdeal.Facts) (hRgOutK : Cert.RgOutK.Facts) (hRgOutKIdeal : Cert.RgOutKIdeal.Facts) (hRgOutRIdeal : Cert.RgOutRIdeal.Facts) (hNsaOutK : Cert.NsaOutK.Facts) (hNsaOutKIdeal : Cert.NsaOutKIdeal.Facts) (hNsaOutRIdeal : Cert.NsaOutRIdeal.Facts) (hLastK : Cert.LastK.Facts) (hLastKIdeal : Cert.LastKIdeal.Facts) (hLastRIdeal : Cert.LastRIdeal.Facts) (hNsaWinK : Cert.NsaWinK.Facts) (hNsaWinKIdeal : Cert.NsaWinKIdeal.Facts) (hNsaWinRIdeal : Cert.NsaWinRIdeal.Facts) (hNsaCmpK : Cert.NsaCmpK.Facts) (hNsaCmpKIdeal : Cert.NsaCmpKIdeal.Facts) (hNsaCmpRIdeal : Cert.NsaCmpRIdeal.Facts) (hNsaSelK : Cert.NsaSelK.Facts) (hNsaSelKIdeal : Cert.NsaSelKIdeal.Facts) (hNsaSelRIdeal : Cert.NsaSelRIdeal.Facts),
    quiescent_StepK (hStepK := hStepK)
    ∧ quiescent_StepKIdeal (hStepKIdeal := hStepKIdeal)
    ∧ quiescent_StepRIdeal (hStepRIdeal := hStepRIdeal)
    ∧ quiescent_HeadK (hHeadK := hHeadK)
    ∧ quiescent_HeadKIdeal (hHeadKIdeal := hHeadKIdeal)
    ∧ quiescent_HeadRIdeal (hHeadRIdeal := hHeadRIdeal)
    ∧ quiescent_GluK (hGluK := hGluK)
    ∧ quiescent_GluKIdeal (hGluKIdeal := hGluKIdeal)
    ∧ quiescent_GluRIdeal (hGluRIdeal := hGluRIdeal)
    ∧ quiescent_OutK (hOutK := hOutK)
    ∧ quiescent_OutKIdeal (hOutKIdeal := hOutKIdeal)
    ∧ quiescent_OutRIdeal (hOutRIdeal := hOutRIdeal)
    ∧ quiescent_NsaK (hNsaK := hNsaK)
    ∧ quiescent_NsaKIdeal (hNsaKIdeal := hNsaKIdeal)
    ∧ quiescent_NsaRIdeal (hNsaRIdeal := hNsaRIdeal)
    ∧ quiescent_NsaStepK (hNsaStepK := hNsaStepK)
    ∧ quiescent_NsaStepKIdeal (hNsaStepKIdeal := hNsaStepKIdeal)
    ∧ quiescent_NsaStepRIdeal (hNsaStepRIdeal := hNsaStepRIdeal)
    ∧ quiescent_RgStepK (hRgStepK := hRgStepK)
    ∧ quiescent_RgStepKIdeal (hRgStepKIdeal := hRgStepKIdeal)
    ∧ quiescent_RgStepRIdeal (hRgStepRIdeal := hRgStepRIdeal)
    ∧ quiescent_RgHeadK (hRgHeadK := hRgHeadK)
    ∧ quiescent_RgHeadKIdeal (hRgHeadKIdeal := hRgHeadKIdeal)
    ∧ quiescent_RgHeadRIdeal (hRgHeadRIdeal := hRgHeadRIdeal)
    ∧ quiescent_RgOutK (hRgOutK := hRgOutK)
    ∧ quiescent_RgOutKIdeal (hRgOutKIdeal := hRgOutKIdeal)
    ∧ quiescent_RgOutRIdeal (hRgOutRIdeal := hRgOutRIdeal)
    ∧ quiescent_NsaOutK (hNsaOutK := hNsaOutK)
    ∧ quiescent_NsaOutKIdeal (hNsaOutKIdeal := hNsaOutKIdeal)
    ∧ quiescent_NsaOutRIdeal (hNsaOutRIdeal := hNsaOutRIdeal)
    ∧ quiescent_LastK (hLastK := hLastK)
    ∧ quiescent_LastKIdeal (hLastKIdeal := hLastKIdeal)
    ∧ quiescent_LastRIdeal (hLastRIdeal := hLastRIdeal)
    ∧ quiescent_NsaWinK (hNsaWinK := hNsaWinK)
    ∧ quiescent_NsaWinKIdeal (hNsaWinKIdeal := hNsaWinKIdeal)
    ∧ quiescent_NsaWinRIdeal (hNsaWinRIdeal := hNsaWinRIdeal)
    ∧ quiescent_NsaCmpK (hNsaCmpK := hNsaCmpK)
    ∧ quiescent_NsaCmpKIdeal (hNsaCmpKIdeal := hNsaCmpKIdeal)
    ∧ quiescent_NsaCmpRIdeal (hNsaCmpRIdeal := hNsaCmpRIdeal)
    ∧ quiescent_NsaSelK (hNsaSelK := hNsaSelK)
    ∧ quiescent_NsaSelKIdeal (hNsaSelKIdeal := hNsaSelKIdeal)
    ∧ quiescent_NsaSelRIdeal (hNsaSelRIdeal := hNsaSelRIdeal)
    ∧ preserves_StepK_StepKIdeal
    ∧ algebraic_StepKIdeal_StepRIdeal (hStepKIdeal := hStepKIdeal) (hStepRIdeal := hStepRIdeal)
    ∧ preserves_HeadK_HeadKIdeal
    ∧ algebraic_HeadKIdeal_HeadRIdeal (hHeadKIdeal := hHeadKIdeal) (hHeadRIdeal := hHeadRIdeal)
    ∧ preserves_GluK_GluKIdeal
    ∧ algebraic_GluKIdeal_GluRIdeal (hGluKIdeal := hGluKIdeal) (hGluRIdeal := hGluRIdeal)
    ∧ preserves_OutK_OutKIdeal
    ∧ algebraic_OutKIdeal_OutRIdeal (hOutKIdeal := hOutKIdeal) (hOutRIdeal := hOutRIdeal)
    ∧ preserves_NsaK_NsaKIdeal
    ∧ algebraic_NsaKIdeal_NsaRIdeal (hNsaKIdeal := hNsaKIdeal) (hNsaRIdeal := hNsaRIdeal)
    ∧ preserves_NsaStepK_NsaStepKIdeal
    ∧ algebraic_NsaStepKIdeal_NsaStepRIdeal (hNsaStepKIdeal := hNsaStepKIdeal) (hNsaStepRIdeal := hNsaStepRIdeal)
    ∧ preserves_RgStepK_RgStepKIdeal
    ∧ algebraic_RgStepKIdeal_RgStepRIdeal (hRgStepKIdeal := hRgStepKIdeal) (hRgStepRIdeal := hRgStepRIdeal)
    ∧ preserves_RgHeadK_RgHeadKIdeal
    ∧ algebraic_RgHeadKIdeal_RgHeadRIdeal (hRgHeadKIdeal := hRgHeadKIdeal) (hRgHeadRIdeal := hRgHeadRIdeal)
    ∧ preserves_RgOutK_RgOutKIdeal
    ∧ algebraic_RgOutKIdeal_RgOutRIdeal (hRgOutKIdeal := hRgOutKIdeal) (hRgOutRIdeal := hRgOutRIdeal)
    ∧ preserves_NsaOutK_NsaOutKIdeal
    ∧ algebraic_NsaOutKIdeal_NsaOutRIdeal (hNsaOutKIdeal := hNsaOutKIdeal) (hNsaOutRIdeal := hNsaOutRIdeal)
    ∧ preserves_LastK_LastKIdeal
    ∧ algebraic_LastKIdeal_LastRIdeal (hLastKIdeal := hLastKIdeal) (hLastRIdeal := hLastRIdeal)
    ∧ preserves_NsaWinK_NsaWinKIdeal
    ∧ algebraic_NsaWinKIdeal_NsaWinRIdeal (hNsaWinKIdeal := hNsaWinKIdeal) (hNsaWinRIdeal := hNsaWinRIdeal)
    ∧ preserves_NsaCmpK_NsaCmpKIdeal
    ∧ algebraic_NsaCmpKIdeal_NsaCmpRIdeal (hNsaCmpKIdeal := hNsaCmpKIdeal) (hNsaCmpRIdeal := hNsaCmpRIdeal)
    ∧ preserves_NsaSelK_NsaSelKIdeal
    ∧ algebraic_NsaSelKIdeal_NsaSelRIdeal (hNsaSelKIdeal := hNsaSelKIdeal) (hNsaSelRIdeal := hNsaSelRIdeal)
-- ==== StepK.lean ====
abbrev S8x1x4096 : Shape := ⟨3, ![8, 1, 4096]⟩
abbrev S4096 : Shape := ⟨1, ![4096]⟩
abbrev S4096x16384 : Shape := ⟨2, ![4096, 16384]⟩
abbrev S8x2x512x64 : Shape := ⟨4, ![8, 2, 512, 64]⟩
abbrev S512x64 : Shape := ⟨2, ![512, 64]⟩
abbrev S512 : Shape := ⟨1, ![512]⟩
abbrev S2x512x64x16 : Shape := ⟨4, ![2, 512, 64, 16]⟩
abbrev S2x512x16x64 : Shape := ⟨4, ![2, 512, 16, 64]⟩
abbrev S8192 : Shape := ⟨1, ![8192]⟩
abbrev S512x1 : Shape := ⟨2, ![512, 1]⟩
abbrev S_ : Shape := ⟨0, ![]⟩
abbrev S1x512x64x16 : Shape := ⟨4, ![1, 512, 64, 16]⟩
abbrev S512x64x16 : Shape := ⟨3, ![512, 64, 16]⟩
abbrev S512x64x1 : Shape := ⟨3, ![512, 64, 1]⟩
abbrev S1x512x16x64 : Shape := ⟨4, ![1, 512, 16, 64]⟩
abbrev S512x16x64 : Shape := ⟨3, ![512, 16, 64]⟩
abbrev S16x16 : Shape := ⟨2, ![16, 16]⟩
abbrev S1x16x1x16x1 : Shape := ⟨5, ![1, 16, 1, 16, 1]⟩
abbrev S32x16x64x16 : Shape := ⟨4, ![32, 16, 64, 16]⟩
abbrev S32x16x16x64 : Shape := ⟨4, ![32, 16, 16, 64]⟩
abbrev S32x16x16x1x64 : Shape := ⟨5, ![32, 16, 16, 1, 64]⟩
abbrev S32x16x16x16x64 : Shape := ⟨5, ![32, 16, 16, 16, 64]⟩
abbrev S32x256x1024 : Shape := ⟨3, ![32, 256, 1024]⟩
abbrev S32x16x64x1x16 : Shape := ⟨5, ![32, 16, 64, 1, 16]⟩
abbrev S32x16x64x16x16 : Shape := ⟨5, ![32, 16, 64, 16, 16]⟩
abbrev S32x1024x256 : Shape := ⟨3, ![32, 1024, 256]⟩
abbrev S32x256x2048 : Shape := ⟨3, ![32, 256, 2048]⟩
abbrev S32x2048x256 : Shape := ⟨3, ![32, 2048, 256]⟩
abbrev S8x4096 : Shape := ⟨2, ![8, 4096]⟩
abbrev S1x4096 : Shape := ⟨2, ![1, 4096]⟩
abbrev S8 : Shape := ⟨1, ![8]⟩
abbrev S8x1 : Shape := ⟨2, ![8, 1]⟩
abbrev S8x16384 : Shape := ⟨2, ![8, 16384]⟩
abbrev S4096x1024 : Shape := ⟨2, ![4096, 1024]⟩
abbrev S8x1024 : Shape := ⟨2, ![8, 1024]⟩
abbrev S8x1x16384 : Shape := ⟨3, ![8, 1, 16384]⟩
abbrev S32x1x1024 : Shape := ⟨3, ![32, 1, 1024]⟩
abbrev S1x8192 : Shape := ⟨2, ![1, 8192]⟩
abbrev S8x2x32768 : Shape := ⟨3, ![8, 2, 32768]⟩
abbrev S8x8192 : Shape := ⟨2, ![8, 8192]⟩
abbrev S8x256 : Shape := ⟨2, ![8, 256]⟩
abbrev S1x256x2048 : Shape := ⟨3, ![1, 256, 2048]⟩
abbrev S1x2048x256 : Shape := ⟨3, ![1, 2048, 256]⟩
abbrev S1x1x1024 : Shape := ⟨3, ![1, 1, 1024]⟩
abbrev S1x256 : Shape := ⟨2, ![1, 256]⟩
abbrev S8x2x1024 : Shape := ⟨3, ![8, 2, 1024]⟩
abbrev S256x2048 : Shape := ⟨2, ![256, 2048]⟩
abbrev S8x2048 : Shape := ⟨2, ![8, 2048]⟩
abbrev S8x1x1024 : Shape := ⟨3, ![8, 1, 1024]⟩
abbrev S1x1024 : Shape := ⟨2, ![1, 1024]⟩
abbrev S2048x256 : Shape := ⟨2, ![2048, 256]⟩

abbrev nBuf : Space → Nat
  | .hbm => 130
  | .vmem => 26
  | .smem => 0
  | _ => 0

abbrev hbmTy0_0 (i : Nat) : BufTy := match i % 128 with
  | 0 => ⟨S8x1x4096, .f32⟩
  | 1 => ⟨S4096, .f32⟩
  | 2 => ⟨S4096x16384, .f32⟩
  | 3 => ⟨S8x2x512x64, .f32⟩
  | 4 => ⟨S512x64, .f32⟩
  | 5 => ⟨S512x64, .f32⟩
  | 6 => ⟨S512, .f32⟩
  | 7 => ⟨S2x512x64x16, .f32⟩
  | 8 => ⟨S2x512x16x64, .f32⟩
  | 9 => ⟨S8192, .f32⟩
  | 10 => ⟨S512, .f32⟩
  | 11 => ⟨S512x1, .f32⟩
  | 12 => ⟨S512x64, .f32⟩
  | 13 => ⟨S512x64, .f32⟩
  | 14 => ⟨S512x64, .f32⟩
  | 15 => ⟨S512x64, .f32⟩
  | 16 => ⟨S512x64, .f32⟩
  | 17 => ⟨S512x64, .f32⟩
  | 18 => ⟨S512x64, .f32⟩
  | 19 => ⟨S512x64, .f32⟩
  | 20 => ⟨S512x64, .f32⟩
  | 21 => ⟨S512x64, .f32⟩
  | 22 => ⟨S512x64, .f32⟩
  | 23 => ⟨S512x64, .f32⟩
  | 24 => ⟨S512x64, .f32⟩
  | 25 => ⟨S512x64, .f32⟩
  | 26 => ⟨S_, .f32⟩
  | 27 => ⟨S512x64, .f32⟩
  | 28 => ⟨S512x64, .f32⟩
  | 29 => ⟨S512x64, .f32⟩
  | 30 => ⟨S512x64, .f32⟩
  | 31 => ⟨S512x64, .f32⟩
  | 32 => ⟨S512x64, .f32⟩
  | 33 => ⟨S512x64, .f32⟩
  | 34 => ⟨S_, .f32⟩
  | 35 => ⟨S512x64, .f32⟩
  | 36 => ⟨S512x64, .f32⟩
  | 37 => ⟨S512x64, .f32⟩
  | 38 => ⟨S512x64, .f32⟩
  | 39 => ⟨S512x64, .f32⟩
  | 40 => ⟨S1x512x64x16, .f32⟩
  | 41 => ⟨S512x64x16, .f32⟩
  | 42 => ⟨S1x512x64x16, .f32⟩
  | 43 => ⟨S512x64x16, .f32⟩
  | 44 => ⟨S512x64x1, .f32⟩
  | 45 => ⟨S512x64x16, .f32⟩
  | 46 => ⟨S512x64x16, .f32⟩
  | 47 => ⟨S512x64x1, .f32⟩
  | 48 => ⟨S512x64x16, .f32⟩
  | 49 => ⟨S512x64x16, .f32⟩
  | 50 => ⟨S512x64x16, .f32⟩
  | 51 => ⟨S512x64x1, .f32⟩
  | 52 => ⟨S512x64x16, .f32⟩
  | 53 => ⟨S512x64x16, .f32⟩
  | 54 => ⟨S512x64x1, .f32⟩
  | 55 => ⟨S512x64x16, .f32⟩
  | 56 => ⟨S512x64x16, .f32⟩
  | 57 => ⟨S512x64x16, .f32⟩
  | 58 => ⟨S1x512x16x64, .f32⟩
  | 59 => ⟨S512x16x64, .f32⟩
  | 60 => ⟨S1x512x16x64, .f32⟩
  | 61 => ⟨S512x16x64, .f32⟩
  | 62 => ⟨S16x16, .i32⟩
  | 63 => ⟨S16x16, .i32⟩
  | 64 => ⟨S_, .i32⟩
  | 65 => ⟨S16x16, .i32⟩
  | 66 => ⟨S16x16, .i32⟩
  | 67 => ⟨S16x16, .i1⟩
  | 68 => ⟨S1x16x1x16x1, .i1⟩
  | 69 => ⟨S32x16x64x16, .f32⟩
  | 70 => ⟨S32x16x16x64, .f32⟩
  | 71 => ⟨S32x16x16x1x64, .f32⟩
  | 72 => ⟨S_, .f32⟩
  | 73 => ⟨S_, .f32⟩
  | 74 => ⟨S32x16x16x16x64, .i1⟩
  | 75 => ⟨S32x16x16x16x64, .f32⟩
  | 76 => ⟨S32x16x16x16x64, .f32⟩
  | 77 => ⟨S32x16x16x16x64, .f32⟩
  | 78 => ⟨S32x256x1024, .f32⟩
  | 79 => ⟨S32x16x64x16, .f32⟩
  | 80 => ⟨S32x16x16x64, .f32⟩
  | 81 => ⟨S32x16x16x1x64, .f32⟩
  | 82 => ⟨S_, .f32⟩
  | 83 => ⟨S_, .f32⟩
  | 84 => ⟨S32x16x16x16x64, .i1⟩
  | 85 => ⟨S32x16x16x16x64, .f32⟩
  | 86 => ⟨S32x16x16x16x64, .f32⟩
  | 87 => ⟨S32x16x16x16x64, .f32⟩
  | 88 => ⟨S32x256x1024, .f32⟩
  | 89 => ⟨S32x16x16x64, .f32⟩
  | 90 => ⟨S32x16x64x16, .f32⟩
  | 91 => ⟨S32x16x64x1x16, .f32⟩
  | 92 => ⟨S_, .f32⟩
  | 93 => ⟨S_, .f32⟩
  | 94 => ⟨S32x16x64x16x16, .i1⟩
  | 95 => ⟨S32x16x64x16x16, .f32⟩
  | 96 => ⟨S32x16x64x16x16, .f32⟩
  | 97 => ⟨S32x16x64x16x16, .f32⟩
  | 98 => ⟨S32x1024x256, .f32⟩
  | 99 => ⟨S32x16x16x64, .f32⟩
  | 100 => ⟨S32x16x64x16, .f32⟩
  | 101 => ⟨S32x16x64x1x16, .f32⟩
  | 102 => ⟨S_, .f32⟩
  | 103 => ⟨S_, .f32⟩
  | 104 => ⟨S32x16x64x16x16, .i1⟩
  | 105 => ⟨S32x16x64x16x16, .f32⟩
  | 106 => ⟨S32x16x64x16x16, .f32⟩
  | 107 => ⟨S32x16x64x16x16, .f32⟩
  | 108 => ⟨S32x1024x256, .f32⟩
  | 109 => ⟨S32x256x2048, .f32⟩
  | 110 => ⟨S32x256x2048, .bf16⟩
  | 111 => ⟨S32x1024x256, .f32⟩
  | 112 => ⟨S32x2048x256, .f32⟩
  | 113 => ⟨S32x2048x256, .bf16⟩
  | 114 => ⟨S8x4096, .f32⟩
  | 115 => ⟨S1x4096, .f32⟩
  | 116 => ⟨S8x4096, .bf16⟩
  | 117 => ⟨S8x1x4096, .bf16⟩
  | 118 => ⟨S4096x16384, .bf16⟩
  | 119 => ⟨S8x4096, .bf16⟩
  | 120 => ⟨S8x16384, .f32⟩
  | 121 => ⟨S8x1x16384, .f32⟩
  | 122 => ⟨S8x16384, .f32⟩
  | 123 => ⟨S32x1x1024, .f32⟩
  | 124 => ⟨S32x1x1024, .f32⟩
  | 125 => ⟨S1x8192, .f32⟩
  | 126 => ⟨S8x2x32768, .f32⟩
  | 127 => ⟨S8x8192, .bf16⟩
  | _ => ⟨S8x1x4096, .f32⟩

abbrev hbmTy0_1 (i : Nat) : BufTy := match i % 128 with
  | 0 => ⟨S8x2x32768, .f32⟩
  | 1 => ⟨S8x2x512x64, .f32⟩
  | _ => ⟨S8x1x4096, .f32⟩

abbrev hbmTy (i : Nat) : BufTy := match i / 128 with
  | 0 => hbmTy0_0 i
  | 1 => hbmTy0_1 i
  | _ => ⟨S8x1x4096, .f32⟩

abbrev bufTy : (tb : Table) → Fin (tcTables nBuf tb) → BufTy
  | .hbm, ⟨i, _⟩ => hbmTy i
  | .local _ .vmem, ⟨0, _⟩ => ⟨S8x4096, .f32⟩
  | .local _ .vmem, ⟨1, _⟩ => ⟨S1x4096, .f32⟩
  | .local _ .vmem, ⟨2, _⟩ => ⟨S8x4096, .bf16⟩
  | .local _ .vmem, ⟨3, _⟩ => ⟨S8x4096, .bf16⟩
  | .local _ .vmem, ⟨4, _⟩ => ⟨S4096x1024, .bf16⟩
  | .local _ .vmem, ⟨5, _⟩ => ⟨S4096x1024, .bf16⟩
  | .local _ .vmem, ⟨6, _⟩ => ⟨S8x1024, .f32⟩
  | .local _ .vmem, ⟨7, _⟩ => ⟨S8x1024, .f32⟩
  | .local _ .vmem, ⟨8, _⟩ => ⟨S8x256, .f32⟩
  | .local _ .vmem, ⟨9, _⟩ => ⟨S8x256, .f32⟩
  | .local _ .vmem, ⟨10, _⟩ => ⟨S1x256x2048, .bf16⟩
  | .local _ .vmem, ⟨11, _⟩ => ⟨S1x256x2048, .bf16⟩
  | .local _ .vmem, ⟨12, _⟩ => ⟨S1x2048x256, .bf16⟩
  | .local _ .vmem, ⟨13, _⟩ => ⟨S1x2048x256, .bf16⟩
  | .local _ .vmem, ⟨14, _⟩ => ⟨S1x1x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1x1024, .f32⟩
  | .local _ .vmem, ⟨18, _⟩ => ⟨S1x256, .f32⟩
  | .local _ .vmem, ⟨19, _⟩ => ⟨S1x256, .f32⟩
  | .local _ .vmem, ⟨20, _⟩ => ⟨S8x2x1024, .f32⟩
  | .local _ .vmem, ⟨21, _⟩ => ⟨S8x2x1024, .f32⟩
  | .local _ .vmem, ⟨22, _⟩ => ⟨S8x256, .bf16⟩
  | .local _ .vmem, ⟨23, _⟩ => ⟨S8x256, .bf16⟩
  | .local _ .vmem, ⟨24, _⟩ => ⟨S8x2x1024, .f32⟩
  | .local _ .vmem, ⟨25, _⟩ => ⟨S8x2x1024, .f32⟩
  | _, _ => ⟨S8x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_0 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_c : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_cst_1 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_cst_2 : Ref sig .tc := ⟨.hbm, 82, rfl⟩
abbrev main_call1_v0 : Ref sig .tc := ⟨.hbm, 83, rfl⟩
abbrev main_call1_v1 : Ref sig .tc := ⟨.hbm, 84, rfl⟩
abbrev main_call1_v2 : Ref sig .tc := ⟨.hbm, 85, rfl⟩
abbrev main_call1_v3 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_3 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_call2_v3 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_4 : Ref sig .tc := ⟨.hbm, 102, rfl⟩
abbrev main_call3_v0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94_0 : Ref sig .tc := ⟨.hbm, 127, rfl⟩
abbrev main_v94_1 : Ref sig .tc := ⟨.hbm, 128, rfl⟩
abbrev main_v95 : Ref sig .tc := ⟨.hbm, 129, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_stg3_0 : Ref sig .tc := ⟨.vmem, 14, rfl⟩
abbrev cc2_stg3_1 : Ref sig .tc := ⟨.vmem, 15, rfl⟩
abbrev cc2_stg4_0 : Ref sig .tc := ⟨.vmem, 16, rfl⟩
abbrev cc2_stg4_1 : Ref sig .tc := ⟨.vmem, 17, rfl⟩
abbrev cc2_stg5_0 : Ref sig .tc := ⟨.vmem, 18, rfl⟩
abbrev cc2_stg5_1 : Ref sig .tc := ⟨.vmem, 19, rfl⟩
abbrev cc2_stg6_0 : Ref sig .tc := ⟨.vmem, 20, rfl⟩
abbrev cc2_stg6_1 : Ref sig .tc := ⟨.vmem, 21, rfl⟩
abbrev cc2_stg7_0 : Ref sig .tc := ⟨.vmem, 22, rfl⟩
abbrev cc2_stg7_1 : Ref sig .tc := ⟨.vmem, 23, rfl⟩
abbrev cc2_stg8_0 : Ref sig .tc := ⟨.vmem, 24, rfl⟩
abbrev cc2_stg8_1 : Ref sig .tc := ⟨.vmem, 25, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15
abbrev cc2_sem4_0 : DmaSem sig := 16
abbrev cc2_sem4_1 : DmaSem sig := 17
abbrev cc2_sem5_0 : DmaSem sig := 18
abbrev cc2_sem5_1 : DmaSem sig := 19
abbrev cc2_sem6_0 : DmaSem sig := 20
abbrev cc2_sem6_1 : DmaSem sig := 21
abbrev cc2_sem7_0 : DmaSem sig := 22
abbrev cc2_sem7_1 : DmaSem sig := 23
abbrev cc2_sem8_0 : DmaSem sig := 24
abbrev cc2_sem8_1 : DmaSem sig := 25

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev grid1 : Pipeline.Grid := ⟨2, ![1, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S8x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_8 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage2_0 : Fin 2 → Memref sig .tc .vmem S8x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S1x256x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x2048x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S8x2x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S8x256 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S8x2x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]
-- ==== StepRIdeal.lean ====
abbrev S8x1x4096 : Shape := ⟨3, ![8, 1, 4096]⟩
abbrev S4096 : Shape := ⟨1, ![4096]⟩
abbrev S4096x16384 : Shape := ⟨2, ![4096, 16384]⟩
abbrev S8x2x512x64 : Shape := ⟨4, ![8, 2, 512, 64]⟩
abbrev S512x64 : Shape := ⟨2, ![512, 64]⟩
abbrev S512 : Shape := ⟨1, ![512]⟩
abbrev S2x512x64x16 : Shape := ⟨4, ![2, 512, 64, 16]⟩
abbrev S2x512x16x64 : Shape := ⟨4, ![2, 512, 16, 64]⟩
abbrev S8192 : Shape := ⟨1, ![8192]⟩
abbrev S_ : Shape := ⟨0, ![]⟩
abbrev S8x1 : Shape := ⟨2, ![8, 1]⟩
abbrev S8x1x1 : Shape := ⟨3, ![8, 1, 1]⟩
abbrev S1x1x4096 : Shape := ⟨3, ![1, 1, 4096]⟩
abbrev S8x1x16384 : Shape := ⟨3, ![8, 1, 16384]⟩
abbrev S8x1x8192 : Shape := ⟨3, ![8, 1, 8192]⟩
abbrev S512x1 : Shape := ⟨2, ![512, 1]⟩
abbrev S512x64x1 : Shape := ⟨3, ![512, 64, 1]⟩
abbrev S1x512x64x16 : Shape := ⟨4, ![1, 512, 64, 16]⟩
abbrev S512x64x16 : Shape := ⟨3, ![512, 64, 16]⟩
abbrev S8x512x16 : Shape := ⟨3, ![8, 512, 16]⟩
abbrev S512x8x64 : Shape := ⟨3, ![512, 8, 64]⟩
abbrev S8x512x64 : Shape := ⟨3, ![8, 512, 64]⟩
abbrev S8x1x512x64 : Shape := ⟨4, ![8, 1, 512, 64]⟩
abbrev S1x512x64 : Shape := ⟨3, ![1, 512, 64]⟩

abbrev nBuf : Space → Nat
  | .hbm => 109
  | .vmem => 0
  | .smem => 0
  | _ => 0

abbrev bufTy : (tb : Table) → Fin (tcTables nBuf tb) → BufTy
  | .hbm, ⟨0, _⟩ => ⟨S8x1x4096, .f32⟩
  | .hbm, ⟨1, _⟩ => ⟨S4096, .f32⟩
  | .hbm, ⟨2, _⟩ => ⟨S4096x16384, .f32⟩
  | .hbm, ⟨3, _⟩ => ⟨S8x2x512x64, .f32⟩
  | .hbm, ⟨4, _⟩ => ⟨S512x64, .f32⟩
  | .hbm, ⟨5, _⟩ => ⟨S512x64, .f32⟩
  | .hbm, ⟨6, _⟩ => ⟨S512, .f32⟩
  | .hbm, ⟨7, _⟩ => ⟨S2x512x64x16, .f32⟩
  | .hbm, ⟨8, _⟩ => ⟨S2x512x16x64, .f32⟩
  | .hbm, ⟨9, _⟩ => ⟨S8192, .f32⟩
  | .hbm, ⟨10, _⟩ => ⟨S8x1x4096, .f32⟩
  | .hbm, ⟨11, _⟩ => ⟨S_, .f32⟩
  | .hbm, ⟨12, _⟩ => ⟨S8x1, .f32⟩
  | .hbm, ⟨13, _⟩ => ⟨S8x1x1, .f32⟩
  | .hbm, ⟨14, _⟩ => ⟨S_, .f32⟩
  | .hbm, ⟨15, _⟩ => ⟨S8x1x1, .f32⟩
  | .hbm, ⟨16, _⟩ => ⟨S8x1x1, .f32⟩
  | .hbm, ⟨17, _⟩ => ⟨S_, .f32⟩
  | .hbm, ⟨18, _⟩ => ⟨S8x1x1, .f32⟩
  | .hbm, ⟨19, _⟩ => ⟨S8x1x1, .f32⟩
  | .hbm, ⟨20, _⟩ => ⟨S8x1x1, .f32⟩
  | .hbm, ⟨21, _⟩ => ⟨S8x1x4096, .f32⟩
  | .hbm, ⟨22, _⟩ => ⟨S8x1x4096, .f32⟩
  | .hbm, ⟨23, _⟩ => ⟨S1x1x4096, .f32⟩
  | .hbm, ⟨24, _⟩ => ⟨S8x1x4096, .f32⟩
  | .hbm, ⟨25, _⟩ => ⟨S8x1x4096, .f32⟩
  | .hbm, ⟨26, _⟩ => ⟨S8x1x16384, .f32⟩
  | .hbm, ⟨27, _⟩ => ⟨S8x1x8192, .f32⟩
  | .hbm, ⟨28, _⟩ => ⟨S8x1x8192, .f32⟩
  | .hbm, ⟨29, _⟩ => ⟨S512, .f32⟩
  | .hbm, ⟨30, _⟩ => ⟨S512x1, .f32⟩
  | .hbm, ⟨31, _⟩ => ⟨S512x64, .f32⟩
  | .hbm, ⟨32, _⟩ => ⟨S512x64, .f32⟩
  | .hbm, ⟨33, _⟩ => ⟨S512x64, .f32⟩
  | .hbm, ⟨34, _⟩ => ⟨S512x64, .f32⟩
  | .hbm, ⟨35, _⟩ => ⟨S512x64, .f32⟩
  | .hbm, ⟨36, _⟩ => ⟨S512x64, .f32⟩
  | .hbm, ⟨37, _⟩ => ⟨S512x64, .f32⟩
  | .hbm, ⟨38, _⟩ => ⟨S512x64, .f32⟩
  | .hbm, ⟨39, _⟩ => ⟨S512x64, .f32⟩
  | .hbm, ⟨40, _⟩ => ⟨S512x64, .f32⟩
  | .hbm, ⟨41, _⟩ => ⟨S512x64, .f32⟩
  | .hbm, ⟨42, _⟩ => ⟨S512x64, .f32⟩
  | .hbm, ⟨43, _⟩ => ⟨S512x64, .f32⟩
  | .hbm, ⟨44, _⟩ => ⟨S512x64, .f32⟩
  | .hbm, ⟨45, _⟩ => ⟨S_, .f32⟩
  | .hbm, ⟨46, _⟩ => ⟨S512x64, .f32⟩
  | .hbm, ⟨47, _⟩ => ⟨S512x64, .f32⟩
  | .hbm, ⟨48, _⟩ => ⟨S512x64, .f32⟩
  | .hbm, ⟨49, _⟩ => ⟨S512x64, .f32⟩
  | .hbm, ⟨50, _⟩ => ⟨S512x64, .f32⟩
  | .hbm, ⟨51, _⟩ => ⟨S512x64, .f32⟩
  | .hbm, ⟨52, _⟩ => ⟨S512x64, .f32⟩
  | .hbm, ⟨53, _⟩ => ⟨S_, .f32⟩
  | .hbm, ⟨54, _⟩ => ⟨S512x64, .f32⟩
  | .hbm, ⟨55, _⟩ => ⟨S512x64, .f32⟩
  | .hbm, ⟨56, _⟩ => ⟨S512x64, .f32⟩
  | .hbm, ⟨57, _⟩ => ⟨S512x64, .f32⟩
  | .hbm, ⟨58, _⟩ => ⟨S512x64, .f32⟩
  | .hbm, ⟨59, _⟩ => ⟨S512x64x1, .f32⟩
  | .hbm, ⟨60, _⟩ => ⟨S1x512x64x16, .f32⟩
  | .hbm, ⟨61, _⟩ => ⟨S512x64x16, .f32⟩
  | .hbm, ⟨62, _⟩ => ⟨S512x64x16, .f32⟩
  | .hbm, ⟨63, _⟩ => ⟨S512x64x16, .f32⟩
  | .hbm, ⟨64, _⟩ => ⟨S512x64x1, .f32⟩
  | .hbm, ⟨65, _⟩ => ⟨S1x512x64x16, .f32⟩
  | .hbm, ⟨66, _⟩ => ⟨S512x64x16, .f32⟩
  | .hbm, ⟨67, _⟩ => ⟨S512x64x16, .f32⟩
  | .hbm, ⟨68, _⟩ => ⟨S512x64x16, .f32⟩
  | .hbm, ⟨69, _⟩ => ⟨S512x64x16, .f32⟩
  | .hbm, ⟨70, _⟩ => ⟨S512x64x1, .f32⟩
  | .hbm, ⟨71, _⟩ => ⟨S1x512x64x16, .f32⟩
  | .hbm, ⟨72, _⟩ => ⟨S512x64x16, .f32⟩
  | .hbm, ⟨73, _⟩ => ⟨S512x64x16, .f32⟩
  | .hbm, ⟨74, _⟩ => ⟨S512x64x16, .f32⟩
  | .hbm, ⟨75, _⟩ => ⟨S512x64x1, .f32⟩
  | .hbm, ⟨76, _⟩ => ⟨S1x512x64x16, .f32⟩
  | .hbm, ⟨77, _⟩ => ⟨S512x64x16, .f32⟩
  | .hbm, ⟨78, _⟩ => ⟨S512x64x16, .f32⟩
  | .hbm, ⟨79, _⟩ => ⟨S512x64x16, .f32⟩
  | .hbm, ⟨80, _⟩ => ⟨S512x64x16, .f32⟩
  | .hbm, ⟨81, _⟩ => ⟨S8x512x16, .f32⟩
  | .hbm, ⟨82, _⟩ => ⟨S512x8x64, .f32⟩
  | .hbm, ⟨83, _⟩ => ⟨S8x512x64, .f32⟩
  | .hbm, ⟨84, _⟩ => ⟨S512x8x64, .f32⟩
  | .hbm, ⟨85, _⟩ => ⟨S8x512x64, .f32⟩
  | .hbm, ⟨86, _⟩ => ⟨S8x1x512x64, .f32⟩
  | .hbm, ⟨87, _⟩ => ⟨S8x512x64, .f32⟩
  | .hbm, ⟨88, _⟩ => ⟨S8x1x512x64, .f32⟩
  | .hbm, ⟨89, _⟩ => ⟨S8x512x64, .f32⟩
  | .hbm, ⟨90, _⟩ => ⟨S1x512x64, .f32⟩
  | .hbm, ⟨91, _⟩ => ⟨S8x512x64, .f32⟩
  | .hbm, ⟨92, _⟩ => ⟨S8x512x64, .f32⟩
  | .hbm, ⟨93, _⟩ => ⟨S8x512x64, .f32⟩
  | .hbm, ⟨94, _⟩ => ⟨S1x512x64, .f32⟩
  | .hbm, ⟨95, _⟩ => ⟨S8x512x64, .f32⟩
  | .hbm, ⟨96, _⟩ => ⟨S8x512x64, .f32⟩
  | .hbm, ⟨97, _⟩ => ⟨S8x512x64, .f32⟩
  | .hbm, ⟨98, _⟩ => ⟨S1x512x64, .f32⟩
  | .hbm, ⟨99, _⟩ => ⟨S8x512x64, .f32⟩
  | .hbm, ⟨100, _⟩ => ⟨S8x512x64, .f32⟩
  | .hbm, ⟨101, _⟩ => ⟨S8x512x64, .f32⟩
  | .hbm, ⟨102, _⟩ => ⟨S1x512x64, .f32⟩
  | .hbm, ⟨103, _⟩ => ⟨S8x512x64, .f32⟩
  | .hbm, ⟨104, _⟩ => ⟨S8x512x64, .f32⟩
  | .hbm, ⟨105, _⟩ => ⟨S8x512x64, .f32⟩
  | .hbm, ⟨106, _⟩ => ⟨S8x1x512x64, .f32⟩
  | .hbm, ⟨107, _⟩ => ⟨S8x1x512x64, .f32⟩
  | .hbm, ⟨108, _⟩ => ⟨S8x2x512x64, .f32⟩
  | _, _ => ⟨S8x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_cst_2 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_3 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_v84 : Ref sig .tc := ⟨.hbm, 99, rfl⟩
abbrev main_v85 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩

abbrev nD : Nat := 1
abbrev τ : Topo := Topo.v7x

variable {F : FTy → Type} [FloatOps F]
-- ==== HeadK.lean ====
abbrev S4x2048x4096 : Shape := ⟨3, ![4, 2048, 4096]⟩
abbrev S4096 : Shape := ⟨1, ![4096]⟩
abbrev S4096x16384 : Shape := ⟨2, ![4096, 16384]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8192x16384 : Shape := ⟨2, ![8192, 16384]⟩
abbrev S1024x4096 : Shape := ⟨2, ![1024, 4096]⟩
abbrev S4096x1024 : Shape := ⟨2, ![4096, 1024]⟩
abbrev S1024x1024 : Shape := ⟨2, ![1024, 1024]⟩
abbrev S4x2048x16384 : Shape := ⟨3, ![4, 2048, 16384]⟩

abbrev nBuf : Space → Nat
  | .hbm => 11
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x16384, .f32⟩
  | .hbm, ⟨3, _⟩ => ⟨S8192x4096, .f32⟩
  | .hbm, ⟨4, _⟩ => ⟨S1x4096, .f32⟩
  | .hbm, ⟨5, _⟩ => ⟨S8192x4096, .bf16⟩
  | .hbm, ⟨6, _⟩ => ⟨S4x2048x4096, .bf16⟩
  | .hbm, ⟨7, _⟩ => ⟨S4096x16384, .bf16⟩
  | .hbm, ⟨8, _⟩ => ⟨S8192x4096, .bf16⟩
  | .hbm, ⟨9, _⟩ => ⟨S8192x16384, .f32⟩
  | .hbm, ⟨10, _⟩ => ⟨S4x2048x16384, .f32⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S1024x4096, .bf16⟩
  | .local _ .vmem, ⟨6, _⟩ => ⟨S1024x4096, .bf16⟩
  | .local _ .vmem, ⟨7, _⟩ => ⟨S4096x1024, .bf16⟩
  | .local _ .vmem, ⟨8, _⟩ => ⟨S4096x1024, .bf16⟩
  | .local _ .vmem, ⟨9, _⟩ => ⟨S1024x1024, .f32⟩
  | .local _ .vmem, ⟨10, _⟩ => ⟨S1024x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== HeadRIdeal.lean ====
abbrev S4x2048x4096 : Shape := ⟨3, ![4, 2048, 4096]⟩
abbrev S4096 : Shape := ⟨1, ![4096]⟩
abbrev S4096x16384 : Shape := ⟨2, ![4096, 16384]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x16384 : Shape := ⟨3, ![4, 2048, 16384]⟩

abbrev nBuf : Space → Nat
  | .hbm => 20
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S4096x16384, .f32⟩
  | .hbm, ⟨3, _⟩ => ⟨S4x2048x4096, .f32⟩
  | .hbm, ⟨4, _⟩ => ⟨S_, .f32⟩
  | .hbm, ⟨5, _⟩ => ⟨S4x2048, .f32⟩
  | .hbm, ⟨6, _⟩ => ⟨S4x2048x1, .f32⟩
  | .hbm, ⟨7, _⟩ => ⟨S_, .f32⟩
  | .hbm, ⟨8, _⟩ => ⟨S4x2048x1, .f32⟩
  | .hbm, ⟨9, _⟩ => ⟨S4x2048x1, .f32⟩
  | .hbm, ⟨10, _⟩ => ⟨S_, .f32⟩
  | .hbm, ⟨11, _⟩ => ⟨S4x2048x1, .f32⟩
  | .hbm, ⟨12, _⟩ => ⟨S4x2048x1, .f32⟩
  | .hbm, ⟨13, _⟩ => ⟨S4x2048x1, .f32⟩
  | .hbm, ⟨14, _⟩ => ⟨S4x2048x4096, .f32⟩
  | .hbm, ⟨15, _⟩ => ⟨S4x2048x4096, .f32⟩
  | .hbm, ⟨16, _⟩ => ⟨S1x1x4096, .f32⟩
  | .hbm, ⟨17, _⟩ => ⟨S4x2048x4096, .f32⟩
  | .hbm, ⟨18, _⟩ => ⟨S4x2048x4096, .f32⟩
  | .hbm, ⟨19, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== GluK.lean ====
abbrev S4x2048x8192 : Shape := ⟨3, ![4, 2048, 8192]⟩
abbrev S4x2048x16384 : Shape := ⟨3, ![4, 2048, 16384]⟩
abbrev S8192x8192 : Shape := ⟨2, ![8192, 8192]⟩
abbrev S8192 : Shape := ⟨1, ![8192]⟩
abbrev S8192x16384 : Shape := ⟨2, ![8192, 16384]⟩
abbrev S1x8192 : Shape := ⟨2, ![1, 8192]⟩
abbrev S1024x4096 : Shape := ⟨2, ![1024, 4096]⟩
abbrev S4096x512 : Shape := ⟨2, ![4096, 512]⟩
abbrev S1x512 : Shape := ⟨2, ![1, 512]⟩
abbrev S1024x512 : Shape := ⟨2, ![1024, 512]⟩

abbrev nBuf : Space → Nat
  | .hbm => 9
  | .vmem => 13
  | .smem => 0
  | _ => 0

abbrev bufTy : (tb : Table) → Fin (tcTables nBuf tb) → BufTy
  | .hbm, ⟨0, _⟩ => ⟨S4x2048x8192, .bf16⟩
  | .hbm, ⟨1, _⟩ => ⟨S4x2048x16384, .f32⟩
  | .hbm, ⟨2, _⟩ => ⟨S8192x8192, .f32⟩
  | .hbm, ⟨3, _⟩ => ⟨S8192, .f32⟩
  | .hbm, ⟨4, _⟩ => ⟨S8192x8192, .bf16⟩
  | .hbm, ⟨5, _⟩ => ⟨S8192x8192, .bf16⟩
  | .hbm, ⟨6, _⟩ => ⟨S8192x16384, .f32⟩
  | .hbm, ⟨7, _⟩ => ⟨S1x8192, .f32⟩
  | .hbm, ⟨8, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1x512, .f32⟩
  | .local _ .vmem, ⟨5, _⟩ => ⟨S1x512, .f32⟩
  | .local _ .vmem, ⟨6, _⟩ => ⟨S1024x512, .bf16⟩
  | .local _ .vmem, ⟨7, _⟩ => ⟨S1024x512, .bf16⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x512, .f32⟩
  | _, _ => ⟨S4x2048x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 16, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== GluRIdeal.lean ====
abbrev S4x2048x8192 : Shape := ⟨3, ![4, 2048, 8192]⟩
abbrev S4x2048x16384 : Shape := ⟨3, ![4, 2048, 16384]⟩
abbrev S8192x8192 : Shape := ⟨2, ![8192, 8192]⟩
abbrev S8192 : Shape := ⟨1, ![8192]⟩
abbrev S1x1x8192 : Shape := ⟨3, ![1, 1, 8192]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S4x2048x8192, .bf16⟩
  | .hbm, ⟨1, _⟩ => ⟨S4x2048x16384, .f32⟩
  | .hbm, ⟨2, _⟩ => ⟨S8192x8192, .f32⟩
  | .hbm, ⟨3, _⟩ => ⟨S8192, .f32⟩
  | .hbm, ⟨4, _⟩ => ⟨S4x2048x8192, .f32⟩
  | .hbm, ⟨5, _⟩ => ⟨S4x2048x8192, .f32⟩
  | .hbm, ⟨6, _⟩ => ⟨S4x2048x8192, .f32⟩
  | .hbm, ⟨7, _⟩ => ⟨S4x2048x8192, .f32⟩
  | .hbm, ⟨8, _⟩ => ⟨S1x1x8192, .f32⟩
  | .hbm, ⟨9, _⟩ => ⟨S4x2048x8192, .f32⟩
  | .hbm, ⟨10, _⟩ => ⟨S4x2048x8192, .f32⟩
  | .hbm, ⟨11, _⟩ => ⟨S4x2048x8192, .f32⟩
  | .hbm, ⟨12, _⟩ => ⟨S4x2048x8192, .f32⟩
  | .hbm, ⟨13, _⟩ => ⟨S_, .f32⟩
  | .hbm, ⟨14, _⟩ => ⟨S4x2048x8192, .f32⟩
  | .hbm, ⟨15, _⟩ => ⟨S4x2048x8192, .f32⟩
  | .hbm, ⟨16, _⟩ => ⟨S_, .f32⟩
  | .hbm, ⟨17, _⟩ => ⟨S4x2048x8192, .f32⟩
  | .hbm, ⟨18, _⟩ => ⟨S4x2048x8192, .f32⟩
  | .hbm, ⟨19, _⟩ => ⟨S4x2048x8192, .f32⟩
  | .hbm, ⟨20, _⟩ => ⟨S4x2048x8192, .f32⟩
  | .hbm, ⟨21, _⟩ => ⟨S4x2048x8192, .f32⟩
  | .hbm, ⟨22, _⟩ => ⟨S_, .f32⟩
  | .hbm, ⟨23, _⟩ => ⟨S4x2048x8192, .f32⟩
  | .hbm, ⟨24, _⟩ => ⟨S4x2048x8192, .f32⟩
  | .hbm, ⟨25, _⟩ => ⟨S_, .f32⟩
  | .hbm, ⟨26, _⟩ => ⟨S4x2048x8192, .f32⟩
  | .hbm, ⟨27, _⟩ => ⟨S4x2048x8192, .f32⟩
  | .hbm, ⟨28, _⟩ => ⟨S4x2048x8192, .f32⟩
  | .hbm, ⟨29, _⟩ => ⟨S4x2048x8192, .f32⟩
  | .hbm, ⟨30, _⟩ => ⟨S4x2048x8192, .bf16⟩
  | .hbm, ⟨31, _⟩ => ⟨S8192x8192, .bf16⟩
  | _, _ => ⟨S4x2048x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== OutK.lean ====
abbrev S8192x8192 : Shape := ⟨2, ![8192, 8192]⟩
abbrev S8192x4096 : Shape := ⟨2, ![8192, 4096]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 4
  | .vmem => 7
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x4096, .bf16⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .bf16⟩
  | .local _ .vmem, ⟨3, _⟩ => ⟨S4096x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v12 : BitVec 1 := Scalar.cmpi .eq arg2 c1_i32
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutRIdeal.lean ====
abbrev S8192x8192 : Shape := ⟨2, ![8192, 8192]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S8192x4096, .f32⟩
  | .hbm, ⟨2, _⟩ => ⟨S8192x8192, .f32⟩
  | .hbm, ⟨3, _⟩ => ⟨S8192x4096, .f32⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== NsaK.lean ====
abbrev S4x2048x4096 : Shape := ⟨3, ![4, 2048, 4096]⟩
abbrev S4096 : Shape := ⟨1, ![4096]⟩
abbrev S4096x11360 : Shape := ⟨2, ![4096, 11360]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S4096x96 : Shape := ⟨2, ![4096, 96]⟩
abbrev S4096x4x24 : Shape := ⟨3, ![4096, 4, 24]⟩
abbrev S_ : Shape := ⟨0, ![]⟩
abbrev S4096x4x128 : Shape := ⟨3, ![4096, 4, 128]⟩
abbrev S4096x512 : Shape := ⟨2, ![4096, 512]⟩
abbrev S4096x7168 : Shape := ⟨2, ![4096, 7168]⟩
abbrev S4096x4096 : Shape := ⟨2, ![4096, 4096]⟩
abbrev S4096x11776 : Shape := ⟨2, ![4096, 11776]⟩
abbrev S8192x11776 : Shape := ⟨2, ![8192, 11776]⟩
abbrev S1024x4096 : Shape := ⟨2, ![1024, 4096]⟩
abbrev S1024x512 : Shape := ⟨2, ![1024, 512]⟩
abbrev S4x2048x11776 : Shape := ⟨3, ![4, 2048, 11776]⟩
abbrev S4x2048x2048 : Shape := ⟨3, ![4, 2048, 2048]⟩
abbrev S4x2048x4x4x128 : Shape := ⟨5, ![4, 2048, 4, 4, 128]⟩
abbrev S4x2048x1024 : Shape := ⟨3, ![4, 2048, 1024]⟩
abbrev S4x2048x2x4x128 : Shape := ⟨5, ![4, 2048, 2, 4, 128]⟩
abbrev S4x512x2x4x128 : Shape := ⟨5, ![4, 512, 2, 4, 128]⟩
abbrev S4x2048x512 : Shape := ⟨3, ![4, 2048, 512]⟩
abbrev S4x2048x4x128 : Shape := ⟨4, ![4, 2048, 4, 128]⟩
abbrev S4x2048x4x24 : Shape := ⟨4, ![4, 2048, 4, 24]⟩

abbrev nBuf : Space → Nat
  | .hbm => 35
  | .vmem => 16
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4096, .f32⟩
  | .hbm, ⟨3, _⟩ => ⟨S4096, .f32⟩
  | .hbm, ⟨4, _⟩ => ⟨S4096x11360, .f32⟩
  | .hbm, ⟨5, _⟩ => ⟨S8192x4096, .f32⟩
  | .hbm, ⟨6, _⟩ => ⟨S8192x4096, .f32⟩
  | .hbm, ⟨7, _⟩ => ⟨S1x4096, .f32⟩
  | .hbm, ⟨8, _⟩ => ⟨S1x4096, .f32⟩
  | .hbm, ⟨9, _⟩ => ⟨S8192x4096, .f32⟩
  | .hbm, ⟨10, _⟩ => ⟨S8192x4096, .bf16⟩
  | .hbm, ⟨11, _⟩ => ⟨S4x2048x4096, .bf16⟩
  | .hbm, ⟨12, _⟩ => ⟨S4096x96, .f32⟩
  | .hbm, ⟨13, _⟩ => ⟨S4096x4x24, .f32⟩
  | .hbm, ⟨14, _⟩ => ⟨S_, .i32⟩
  | .hbm, ⟨15, _⟩ => ⟨S_, .f32⟩
  | .hbm, ⟨16, _⟩ => ⟨S4096x4x128, .f32⟩
  | .hbm, ⟨17, _⟩ => ⟨S4096x512, .f32⟩
  | .hbm, ⟨18, _⟩ => ⟨S4096x7168, .f32⟩
  | .hbm, ⟨19, _⟩ => ⟨S4096x4096, .f32⟩
  | .hbm, ⟨20, _⟩ => ⟨S4096x11776, .f32⟩
  | .hbm, ⟨21, _⟩ => ⟨S4096x11776, .bf16⟩
  | .hbm, ⟨22, _⟩ => ⟨S8192x4096, .bf16⟩
  | .hbm, ⟨23, _⟩ => ⟨S8192x11776, .f32⟩
  | .hbm, ⟨24, _⟩ => ⟨S4x2048x11776, .f32⟩
  | .hbm, ⟨25, _⟩ => ⟨S4x2048x2048, .f32⟩
  | .hbm, ⟨26, _⟩ => ⟨S4x2048x4x4x128, .f32⟩
  | .hbm, ⟨27, _⟩ => ⟨S4x2048x1024, .f32⟩
  | .hbm, ⟨28, _⟩ => ⟨S4x2048x2x4x128, .f32⟩
  | .hbm, ⟨29, _⟩ => ⟨S4x512x2x4x128, .f32⟩
  | .hbm, ⟨30, _⟩ => ⟨S4x2048x4096, .f32⟩
  | .hbm, ⟨31, _⟩ => ⟨S4x2048x4096, .f32⟩
  | .hbm, ⟨32, _⟩ => ⟨S4x2048x512, .f32⟩
  | .hbm, ⟨33, _⟩ => ⟨S4x2048x4x128, .f32⟩
  | .hbm, ⟨34, _⟩ => ⟨S4x2048x4x24, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S1x4096, .f32⟩
  | .local _ .vmem, ⟨6, _⟩ => ⟨S256x4096, .f32⟩
  | .local _ .vmem, ⟨7, _⟩ => ⟨S256x4096, .f32⟩
  | .local _ .vmem, ⟨8, _⟩ => ⟨S256x4096, .bf16⟩
  | .local _ .vmem, ⟨9, _⟩ => ⟨S256x4096, .bf16⟩
  | .local _ .vmem, ⟨10, _⟩ => ⟨S1024x4096, .bf16⟩
  | .local _ .vmem, ⟨11, _⟩ => ⟨S1024x4096, .bf16⟩
  | .local _ .vmem, ⟨12, _⟩ => ⟨S4096x512, .bf16⟩
  | .local _ .vmem, ⟨13, _⟩ => ⟨S4096x512, .bf16⟩
  | .local _ .vmem, ⟨14, _⟩ => ⟨S1024x512, .f32⟩
  | .local _ .vmem, ⟨15, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_call0_v0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![8, 23], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== NsaRIdeal.lean ====
abbrev S4x2048x4096 : Shape := ⟨3, ![4, 2048, 4096]⟩
abbrev S4096 : Shape := ⟨1, ![4096]⟩
abbrev S4096x11360 : Shape := ⟨2, ![4096, 11360]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x2048x11360 : Shape := ⟨3, ![4, 2048, 11360]⟩
abbrev S4x2048x2048 : Shape := ⟨3, ![4, 2048, 2048]⟩
abbrev S4x2048x1024 : Shape := ⟨3, ![4, 2048, 1024]⟩
abbrev S4x2048x96 : Shape := ⟨3, ![4, 2048, 96]⟩
abbrev S4x2048x4x4x128 : Shape := ⟨5, ![4, 2048, 4, 4, 128]⟩
abbrev S4x2048x2x4x128 : Shape := ⟨5, ![4, 2048, 2, 4, 128]⟩
abbrev S8192x4096 : Shape := ⟨2, ![8192, 4096]⟩
abbrev S4x512x2x4x128 : Shape := ⟨5, ![4, 512, 2, 4, 128]⟩
abbrev S4x2048x4x24 : Shape := ⟨4, ![4, 2048, 4, 24]⟩

abbrev nBuf : Space → Nat
  | .hbm => 49
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S4096, .f32⟩
  | .hbm, ⟨3, _⟩ => ⟨S4096, .f32⟩
  | .hbm, ⟨4, _⟩ => ⟨S4096x11360, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S4x2048x4096, .f32⟩
  | .hbm, ⟨23, _⟩ => ⟨S_, .f32⟩
  | .hbm, ⟨24, _⟩ => ⟨S4x2048, .f32⟩
  | .hbm, ⟨25, _⟩ => ⟨S4x2048x1, .f32⟩
  | .hbm, ⟨26, _⟩ => ⟨S_, .f32⟩
  | .hbm, ⟨27, _⟩ => ⟨S4x2048x1, .f32⟩
  | .hbm, ⟨28, _⟩ => ⟨S4x2048x1, .f32⟩
  | .hbm, ⟨29, _⟩ => ⟨S_, .f32⟩
  | .hbm, ⟨30, _⟩ => ⟨S4x2048x1, .f32⟩
  | .hbm, ⟨31, _⟩ => ⟨S4x2048x1, .f32⟩
  | .hbm, ⟨32, _⟩ => ⟨S4x2048x1, .f32⟩
  | .hbm, ⟨33, _⟩ => ⟨S4x2048x4096, .f32⟩
  | .hbm, ⟨34, _⟩ => ⟨S4x2048x4096, .f32⟩
  | .hbm, ⟨35, _⟩ => ⟨S1x1x4096, .f32⟩
  | .hbm, ⟨36, _⟩ => ⟨S4x2048x4096, .f32⟩
  | .hbm, ⟨37, _⟩ => ⟨S4x2048x4096, .f32⟩
  | .hbm, ⟨38, _⟩ => ⟨S4x2048x11360, .f32⟩
  | .hbm, ⟨39, _⟩ => ⟨S4x2048x4096, .f32⟩
  | .hbm, ⟨40, _⟩ => ⟨S4x2048x2048, .f32⟩
  | .hbm, ⟨41, _⟩ => ⟨S4x2048x1024, .f32⟩
  | .hbm, ⟨42, _⟩ => ⟨S4x2048x96, .f32⟩
  | .hbm, ⟨43, _⟩ => ⟨S4x2048x4096, .f32⟩
  | .hbm, ⟨44, _⟩ => ⟨S4x2048x4x4x128, .f32⟩
  | .hbm, ⟨45, _⟩ => ⟨S4x2048x2x4x128, .f32⟩
  | .hbm, ⟨46, _⟩ => ⟨S8192x4096, .f32⟩
  | .hbm, ⟨47, _⟩ => ⟨S4x512x2x4x128, .f32⟩
  | .hbm, ⟨48, _⟩ => ⟨S4x2048x4x24, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== NsaStepK.lean ====
abbrev S8x1x4096 : Shape := ⟨3, ![8, 1, 4096]⟩
abbrev S4096 : Shape := ⟨1, ![4096]⟩
abbrev S4096x11360 : Shape := ⟨2, ![4096, 11360]⟩
abbrev S8x512x2x4x128 : Shape := ⟨5, ![8, 512, 2, 4, 128]⟩
abbrev S8x4096 : Shape := ⟨2, ![8, 4096]⟩
abbrev S1x4096 : Shape := ⟨2, ![1, 4096]⟩
abbrev S8 : Shape := ⟨1, ![8]⟩
abbrev S8x1 : Shape := ⟨2, ![8, 1]⟩
abbrev S4096x96 : Shape := ⟨2, ![4096, 96]⟩
abbrev S4096x4x24 : Shape := ⟨3, ![4096, 4, 24]⟩
abbrev S_ : Shape := ⟨0, ![]⟩
abbrev S4096x4x128 : Shape := ⟨3, ![4096, 4, 128]⟩
abbrev S4096x512 : Shape := ⟨2, ![4096, 512]⟩
abbrev S4096x7168 : Shape := ⟨2, ![4096, 7168]⟩
abbrev S4096x4096 : Shape := ⟨2, ![4096, 4096]⟩
abbrev S4096x11776 : Shape := ⟨2, ![4096, 11776]⟩
abbrev S8x11776 : Shape := ⟨2, ![8, 11776]⟩
abbrev S8x512 : Shape := ⟨2, ![8, 512]⟩
abbrev S8x1x11776 : Shape := ⟨3, ![8, 1, 11776]⟩
abbrev S8x1x2048 : Shape := ⟨3, ![8, 1, 2048]⟩
abbrev S8x1x4x4x128 : Shape := ⟨5, ![8, 1, 4, 4, 128]⟩
abbrev S8x1x1024 : Shape := ⟨3, ![8, 1, 1024]⟩
abbrev S8x1x2x4x128 : Shape := ⟨5, ![8, 1, 2, 4, 128]⟩
abbrev S8x513x2x4x128 : Shape := ⟨5, ![8, 513, 2, 4, 128]⟩

abbrev nBuf : Space → Nat
  | .hbm => 32
  | .vmem => 11
  | .smem => 0
  | _ => 0

abbrev bufTy : (tb : Table) → Fin (tcTables nBuf tb) → BufTy
  | .hbm, ⟨0, _⟩ => ⟨S8x1x4096, .f32⟩
  | .hbm, ⟨1, _⟩ => ⟨S8x1x4096, .f32⟩
  | .hbm, ⟨2, _⟩ => ⟨S4096, .f32⟩
  | .hbm, ⟨3, _⟩ => ⟨S4096, .f32⟩
  | .hbm, ⟨4, _⟩ => ⟨S4096x11360, .f32⟩
  | .hbm, ⟨5, _⟩ => ⟨S8x512x2x4x128, .f32⟩
  | .hbm, ⟨6, _⟩ => ⟨S8x4096, .f32⟩
  | .hbm, ⟨7, _⟩ => ⟨S8x4096, .f32⟩
  | .hbm, ⟨8, _⟩ => ⟨S1x4096, .f32⟩
  | .hbm, ⟨9, _⟩ => ⟨S1x4096, .f32⟩
  | .hbm, ⟨10, _⟩ => ⟨S8x4096, .f32⟩
  | .hbm, ⟨11, _⟩ => ⟨S8x4096, .bf16⟩
  | .hbm, ⟨12, _⟩ => ⟨S8x1x4096, .bf16⟩
  | .hbm, ⟨13, _⟩ => ⟨S4096x96, .f32⟩
  | .hbm, ⟨14, _⟩ => ⟨S4096x4x24, .f32⟩
  | .hbm, ⟨15, _⟩ => ⟨S_, .i32⟩
  | .hbm, ⟨16, _⟩ => ⟨S_, .f32⟩
  | .hbm, ⟨17, _⟩ => ⟨S4096x4x128, .f32⟩
  | .hbm, ⟨18, _⟩ => ⟨S4096x512, .f32⟩
  | .hbm, ⟨19, _⟩ => ⟨S4096x7168, .f32⟩
  | .hbm, ⟨20, _⟩ => ⟨S4096x4096, .f32⟩
  | .hbm, ⟨21, _⟩ => ⟨S4096x11776, .f32⟩
  | .hbm, ⟨22, _⟩ => ⟨S4096x11776, .bf16⟩
  | .hbm, ⟨23, _⟩ => ⟨S8x4096, .bf16⟩
  | .hbm, ⟨24, _⟩ => ⟨S8x11776, .f32⟩
  | .hbm, ⟨25, _⟩ => ⟨S8x1x11776, .f32⟩
  | .hbm, ⟨26, _⟩ => ⟨S8x1x2048, .f32⟩
  | .hbm, ⟨27, _⟩ => ⟨S8x1x4x4x128, .f32⟩
  | .hbm, ⟨28, _⟩ => ⟨S8x1x1024, .f32⟩
  | .hbm, ⟨29, _⟩ => ⟨S8x1x2x4x128, .f32⟩
  | .hbm, ⟨30, _⟩ => ⟨S8x513x2x4x128, .f32⟩
  | .hbm, ⟨31, _⟩ => ⟨S8x512x2x4x128, .f32⟩
  | .local _ .vmem, ⟨0, _⟩ => ⟨S8x4096, .f32⟩
  | .local _ .vmem, ⟨1, _⟩ => ⟨S8x4096, .f32⟩
  | .local _ .vmem, ⟨2, _⟩ => ⟨S1x4096, .f32⟩
  | .local _ .vmem, ⟨3, _⟩ => ⟨S1x4096, .f32⟩
  | .local _ .vmem, ⟨4, _⟩ => ⟨S8x4096, .f32⟩
  | .local _ .vmem, ⟨5, _⟩ => ⟨S8x4096, .bf16⟩
  | .local _ .vmem, ⟨6, _⟩ => ⟨S8x4096, .bf16⟩
  | .local _ .vmem, ⟨7, _⟩ => ⟨S4096x512, .bf16⟩
  | .local _ .vmem, ⟨8, _⟩ => ⟨S4096x512, .bf16⟩
  | .local _ .vmem, ⟨9, _⟩ => ⟨S8x512, .f32⟩
  | .local _ .vmem, ⟨10, _⟩ => ⟨S8x512, .f32⟩
  | _, _ => ⟨S8x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_call0_v0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev grid1 : Pipeline.Grid := ⟨2, ![1, 23], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S8x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]
-- ==== NsaStepRIdeal.lean ====
abbrev S8x1x4096 : Shape := ⟨3, ![8, 1, 4096]⟩
abbrev S4096 : Shape := ⟨1, ![4096]⟩
abbrev S4096x11360 : Shape := ⟨2, ![4096, 11360]⟩
abbrev S8x512x2x4x128 : Shape := ⟨5, ![8, 512, 2, 4, 128]⟩
abbrev S_ : Shape := ⟨0, ![]⟩
abbrev S8x1 : Shape := ⟨2, ![8, 1]⟩
abbrev S8x1x1 : Shape := ⟨3, ![8, 1, 1]⟩
abbrev S1x1x4096 : Shape := ⟨3, ![1, 1, 4096]⟩
abbrev S8x1x11360 : Shape := ⟨3, ![8, 1, 11360]⟩
abbrev S8x1x2048 : Shape := ⟨3, ![8, 1, 2048]⟩
abbrev S8x1x1024 : Shape := ⟨3, ![8, 1, 1024]⟩
abbrev S8x1x96 : Shape := ⟨3, ![8, 1, 96]⟩
abbrev S8x1x4x4x128 : Shape := ⟨5, ![8, 1, 4, 4, 128]⟩
abbrev S8x1x2x4x128 : Shape := ⟨5, ![8, 1, 2, 4, 128]⟩
abbrev S8x513x2x4x128 : Shape := ⟨5, ![8, 513, 2, 4, 128]⟩

abbrev nBuf : Space → Nat
  | .hbm => 49
  | .vmem => 0
  | .smem => 0
  | _ => 0

abbrev bufTy : (tb : Table) → Fin (tcTables nBuf tb) → BufTy
  | .hbm, ⟨0, _⟩ => ⟨S8x1x4096, .f32⟩
  | .hbm, ⟨1, _⟩ => ⟨S8x1x4096, .f32⟩
  | .hbm, ⟨2, _⟩ => ⟨S4096, .f32⟩
  | .hbm, ⟨3, _⟩ => ⟨S4096, .f32⟩
  | .hbm, ⟨4, _⟩ => ⟨S4096x11360, .f32⟩
  | .hbm, ⟨5, _⟩ => ⟨S8x512x2x4x128, .f32⟩
  | .hbm, ⟨6, _⟩ => ⟨S8x1x4096, .f32⟩
  | .hbm, ⟨7, _⟩ => ⟨S_, .f32⟩
  | .hbm, ⟨8, _⟩ => ⟨S8x1, .f32⟩
  | .hbm, ⟨9, _⟩ => ⟨S8x1x1, .f32⟩
  | .hbm, ⟨10, _⟩ => ⟨S_, .f32⟩
  | .hbm, ⟨11, _⟩ => ⟨S8x1x1, .f32⟩
  | .hbm, ⟨12, _⟩ => ⟨S8x1x1, .f32⟩
  | .hbm, ⟨13, _⟩ => ⟨S_, .f32⟩
  | .hbm, ⟨14, _⟩ => ⟨S8x1x1, .f32⟩
  | .hbm, ⟨15, _⟩ => ⟨S8x1x1, .f32⟩
  | .hbm, ⟨16, _⟩ => ⟨S8x1x1, .f32⟩
  | .hbm, ⟨17, _⟩ => ⟨S8x1x4096, .f32⟩
  | .hbm, ⟨18, _⟩ => ⟨S8x1x4096, .f32⟩
  | .hbm, ⟨19, _⟩ => ⟨S1x1x4096, .f32⟩
  | .hbm, ⟨20, _⟩ => ⟨S8x1x4096, .f32⟩
  | .hbm, ⟨21, _⟩ => ⟨S8x1x4096, .f32⟩
  | .hbm, ⟨22, _⟩ => ⟨S8x1x4096, .f32⟩
  | .hbm, ⟨23, _⟩ => ⟨S8x1x4096, .f32⟩
  | .hbm, ⟨24, _⟩ => ⟨S_, .f32⟩
  | .hbm, ⟨25, _⟩ => ⟨S8x1, .f32⟩
  | .hbm, ⟨26, _⟩ => ⟨S8x1x1, .f32⟩
  | .hbm, ⟨27, _⟩ => ⟨S_, .f32⟩
  | .hbm, ⟨28, _⟩ => ⟨S8x1x1, .f32⟩
  | .hbm, ⟨29, _⟩ => ⟨S8x1x1, .f32⟩
  | .hbm, ⟨30, _⟩ => ⟨S_, .f32⟩
  | .hbm, ⟨31, _⟩ => ⟨S8x1x1, .f32⟩
  | .hbm, ⟨32, _⟩ => ⟨S8x1x1, .f32⟩
  | .hbm, ⟨33, _⟩ => ⟨S8x1x1, .f32⟩
  | .hbm, ⟨34, _⟩ => ⟨S8x1x4096, .f32⟩
  | .hbm, ⟨35, _⟩ => ⟨S8x1x4096, .f32⟩
  | .hbm, ⟨36, _⟩ => ⟨S1x1x4096, .f32⟩
  | .hbm, ⟨37, _⟩ => ⟨S8x1x4096, .f32⟩
  | .hbm, ⟨38, _⟩ => ⟨S8x1x4096, .f32⟩
  | .hbm, ⟨39, _⟩ => ⟨S8x1x11360, .f32⟩
  | .hbm, ⟨40, _⟩ => ⟨S8x1x4096, .f32⟩
  | .hbm, ⟨41, _⟩ => ⟨S8x1x2048, .f32⟩
  | .hbm, ⟨42, _⟩ => ⟨S8x1x1024, .f32⟩
  | .hbm, ⟨43, _⟩ => ⟨S8x1x96, .f32⟩
  | .hbm, ⟨44, _⟩ => ⟨S8x1x4096, .f32⟩
  | .hbm, ⟨45, _⟩ => ⟨S8x1x4x4x128, .f32⟩
  | .hbm, ⟨46, _⟩ => ⟨S8x1x2x4x128, .f32⟩
  | .hbm, ⟨47, _⟩ => ⟨S8x513x2x4x128, .f32⟩
  | .hbm, ⟨48, _⟩ => ⟨S8x512x2x4x128, .f32⟩
  | _, _ => ⟨S8x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== RgStepK.lean ====
abbrev S8x1x4096 : Shape := ⟨3, ![8, 1, 4096]⟩
abbrev S4096 : Shape := ⟨1, ![4096]⟩
abbrev S4096x10752 : Shape := ⟨2, ![4096, 10752]⟩
abbrev S4x5376 : Shape := ⟨2, ![4, 5376]⟩
abbrev S5376 : Shape := ⟨1, ![5376]⟩
abbrev S16x336x336 : Shape := ⟨3, ![16, 336, 336]⟩
abbrev S5376x4096 : Shape := ⟨2, ![5376, 4096]⟩
abbrev S8x3x5376 : Shape := ⟨3, ![8, 3, 5376]⟩
abbrev S8x5376 : Shape := ⟨2, ![8, 5376]⟩
abbrev S4096x5376 : Shape := ⟨2, ![4096, 5376]⟩
abbrev S4096x16x336 : Shape := ⟨3, ![4096, 16, 336]⟩
abbrev S_ : Shape := ⟨0, ![]⟩
abbrev S4096x16x384 : Shape := ⟨3, ![4096, 16, 384]⟩
abbrev S4096x6144 : Shape := ⟨2, ![4096, 6144]⟩
abbrev S4096x12288 : Shape := ⟨2, ![4096, 12288]⟩
abbrev S16x384x384 : Shape := ⟨3, ![16, 384, 384]⟩
abbrev S16x384x768 : Shape := ⟨3, ![16, 384, 768]⟩
abbrev S16x336 : Shape := ⟨2, ![16, 336]⟩
abbrev S16x384 : Shape := ⟨2, ![16, 384]⟩
abbrev S6144 : Shape := ⟨1, ![6144]⟩
abbrev S16x1x384 : Shape := ⟨3, ![16, 1, 384]⟩
abbrev S16x2x384 : Shape := ⟨3, ![16, 2, 384]⟩
abbrev S16x1x768 : Shape := ⟨3, ![16, 1, 768]⟩
abbrev S1x6144 : Shape := ⟨2, ![1, 6144]⟩
abbrev S16x336x4096 : Shape := ⟨3, ![16, 336, 4096]⟩
abbrev S16x384x4096 : Shape := ⟨3, ![16, 384, 4096]⟩
abbrev S6144x4096 : Shape := ⟨2, ![6144, 4096]⟩
abbrev S4x16x336 : Shape := ⟨3, ![4, 16, 336]⟩
abbrev S4x16x384 : Shape := ⟨3, ![4, 16, 384]⟩
abbrev S4x6144 : Shape := ⟨2, ![4, 6144]⟩
abbrev S8x4096 : Shape := ⟨2, ![8, 4096]⟩
abbrev S1x4096 : Shape := ⟨2, ![1, 4096]⟩
abbrev S8 : Shape := ⟨1, ![8]⟩
abbrev S8x1 : Shape := ⟨2, ![8, 1]⟩
abbrev S8x12288 : Shape := ⟨2, ![8, 12288]⟩
abbrev S4096x1024 : Shape := ⟨2, ![4096, 1024]⟩
abbrev S8x1024 : Shape := ⟨2, ![8, 1024]⟩
abbrev S8x1x12288 : Shape := ⟨3, ![8, 1, 12288]⟩
abbrev S8x3x16x336 : Shape := ⟨4, ![8, 3, 16, 336]⟩
abbrev S8x3x16x384 : Shape := ⟨4, ![8, 3, 16, 384]⟩
abbrev S8x3x6144 : Shape := ⟨3, ![8, 3, 6144]⟩
abbrev S3x8x6144 : Shape := ⟨3, ![3, 8, 6144]⟩
abbrev S8x16x336 : Shape := ⟨3, ![8, 16, 336]⟩
abbrev S8x16x384 : Shape := ⟨3, ![8, 16, 384]⟩
abbrev S8x6144 : Shape := ⟨2, ![8, 6144]⟩
abbrev S8x384 : Shape := ⟨2, ![8, 384]⟩
abbrev S4x384 : Shape := ⟨2, ![4, 384]⟩
abbrev S1x384 : Shape := ⟨2, ![1, 384]⟩
abbrev S1x384x768 : Shape := ⟨3, ![1, 384, 768]⟩
abbrev S1x1x768 : Shape := ⟨3, ![1, 1, 768]⟩
abbrev S3x8x384 : Shape := ⟨3, ![3, 8, 384]⟩
abbrev S1x8x384 : Shape := ⟨3, ![1, 8, 384]⟩
abbrev S384x768 : Shape := ⟨2, ![384, 768]⟩
abbrev S1x768 : Shape := ⟨2, ![1, 768]⟩
abbrev S8x768 : Shape := ⟨2, ![8, 768]⟩
abbrev S8x2x5376 : Shape := ⟨3, ![8, 2, 5376]⟩
abbrev S8x1x5376 : Shape := ⟨3, ![8, 1, 5376]⟩

abbrev nBuf : Space → Nat
  | .hbm => 128
  | .vmem => 33
  | .smem => 0
  | _ => 0

abbrev bufTy : (tb : Table) → Fin (tcTables nBuf tb) → BufTy
  | .hbm, ⟨0, _⟩ => ⟨S8x1x4096, .f32⟩
  | .hbm, ⟨1, _⟩ => ⟨S8x1x4096, .f32⟩
  | .hbm, ⟨2, _⟩ => ⟨S4096, .f32⟩
  | .hbm, ⟨3, _⟩ => ⟨S4096, .f32⟩
  | .hbm, ⟨4, _⟩ => ⟨S4096x10752, .f32⟩
  | .hbm, ⟨5, _⟩ => ⟨S4x5376, .f32⟩
  | .hbm, ⟨6, _⟩ => ⟨S5376, .f32⟩
  | .hbm, ⟨7, _⟩ => ⟨S16x336x336, .f32⟩
  | .hbm, ⟨8, _⟩ => ⟨S5376, .f32⟩
  | .hbm, ⟨9, _⟩ => ⟨S16x336x336, .f32⟩
  | .hbm, ⟨10, _⟩ => ⟨S5376, .f32⟩
  | .hbm, ⟨11, _⟩ => ⟨S5376, .f32⟩
  | .hbm, ⟨12, _⟩ => ⟨S5376x4096, .f32⟩
  | .hbm, ⟨13, _⟩ => ⟨S8x3x5376, .f32⟩
  | .hbm, ⟨14, _⟩ => ⟨S8x5376, .f32⟩
  | .hbm, ⟨15, _⟩ => ⟨S4096x5376, .f32⟩
  | .hbm, ⟨16, _⟩ => ⟨S4096x16x336, .f32⟩
  | .hbm, ⟨17, _⟩ => ⟨S_, .i32⟩
  | .hbm, ⟨18, _⟩ => ⟨S_, .f32⟩
  | .hbm, ⟨19, _⟩ => ⟨S4096x16x384, .f32⟩
  | .hbm, ⟨20, _⟩ => ⟨S4096x6144, .f32⟩
  | .hbm, ⟨21, _⟩ => ⟨S4096x5376, .f32⟩
  | .hbm, ⟨22, _⟩ => ⟨S4096x16x336, .f32⟩
  | .hbm, ⟨23, _⟩ => ⟨S_, .i32⟩
  | .hbm, ⟨24, _⟩ => ⟨S_, .f32⟩
  | .hbm, ⟨25, _⟩ => ⟨S4096x16x384, .f32⟩
  | .hbm, ⟨26, _⟩ => ⟨S4096x6144, .f32⟩
  | .hbm, ⟨27, _⟩ => ⟨S4096x12288, .f32⟩
  | .hbm, ⟨28, _⟩ => ⟨S4096x12288, .bf16⟩
  | .hbm, ⟨29, _⟩ => ⟨S_, .i32⟩
  | .hbm, ⟨30, _⟩ => ⟨S_, .f32⟩
  | .hbm, ⟨31, _⟩ => ⟨S16x384x384, .f32⟩
  | .hbm, ⟨32, _⟩ => ⟨S_, .i32⟩
  | .hbm, ⟨33, _⟩ => ⟨S_, .f32⟩
  | .hbm, ⟨34, _⟩ => ⟨S16x384x384, .f32⟩
  | .hbm, ⟨35, _⟩ => ⟨S16x384x768, .f32⟩
  | .hbm, ⟨36, _⟩ => ⟨S16x384x768, .bf16⟩
  | .hbm, ⟨37, _⟩ => ⟨S16x336, .f32⟩
  | .hbm, ⟨38, _⟩ => ⟨S_, .i32⟩
  | .hbm, ⟨39, _⟩ => ⟨S_, .f32⟩
  | .hbm, ⟨40, _⟩ => ⟨S16x384, .f32⟩
  | .hbm, ⟨41, _⟩ => ⟨S6144, .f32⟩
  | .hbm, ⟨42, _⟩ => ⟨S16x384, .f32⟩
  | .hbm, ⟨43, _⟩ => ⟨S16x336, .f32⟩
  | .hbm, ⟨44, _⟩ => ⟨S_, .i32⟩
  | .hbm, ⟨45, _⟩ => ⟨S_, .f32⟩
  | .hbm, ⟨46, _⟩ => ⟨S16x384, .f32⟩
  | .hbm, ⟨47, _⟩ => ⟨S6144, .f32⟩
  | .hbm, ⟨48, _⟩ => ⟨S16x384, .f32⟩
  | .hbm, ⟨49, _⟩ => ⟨S16x1x384, .f32⟩
  | .hbm, ⟨50, _⟩ => ⟨S16x1x384, .f32⟩
  | .hbm, ⟨51, _⟩ => ⟨S16x2x384, .f32⟩
  | .hbm, ⟨52, _⟩ => ⟨S16x1x768, .f32⟩
  | .hbm, ⟨53, _⟩ => ⟨S5376, .f32⟩
  | .hbm, ⟨54, _⟩ => ⟨S_, .f32⟩
  | .hbm, ⟨55, _⟩ => ⟨S5376, .f32⟩
  | .hbm, ⟨56, _⟩ => ⟨S5376, .f32⟩
  | .hbm, ⟨57, _⟩ => ⟨S5376, .f32⟩
  | .hbm, ⟨58, _⟩ => ⟨S5376, .f32⟩
  | .hbm, ⟨59, _⟩ => ⟨S5376, .i1⟩
  | .hbm, ⟨60, _⟩ => ⟨S5376, .f32⟩
  | .hbm, ⟨61, _⟩ => ⟨S5376, .f32⟩
  | .hbm, ⟨62, _⟩ => ⟨S5376, .f32⟩
  | .hbm, ⟨63, _⟩ => ⟨S5376, .f32⟩
  | .hbm, ⟨64, _⟩ => ⟨S5376, .f32⟩
  | .hbm, ⟨65, _⟩ => ⟨S5376, .f32⟩
  | .hbm, ⟨66, _⟩ => ⟨S5376, .f32⟩
  | .hbm, ⟨67, _⟩ => ⟨S5376, .f32⟩
  | .hbm, ⟨68, _⟩ => ⟨S16x336, .f32⟩
  | .hbm, ⟨69, _⟩ => ⟨S_, .i32⟩
  | .hbm, ⟨70, _⟩ => ⟨S_, .f32⟩
  | .hbm, ⟨71, _⟩ => ⟨S16x384, .f32⟩
  | .hbm, ⟨72, _⟩ => ⟨S6144, .f32⟩
  | .hbm, ⟨73, _⟩ => ⟨S1x6144, .f32⟩
  | .hbm, ⟨74, _⟩ => ⟨S16x336x4096, .f32⟩
  | .hbm, ⟨75, _⟩ => ⟨S_, .i32⟩
  | .hbm, ⟨76, _⟩ => ⟨S_, .f32⟩
  | .hbm, ⟨77, _⟩ => ⟨S16x384x4096, .f32⟩
  | .hbm, ⟨78, _⟩ => ⟨S6144x4096, .f32⟩
  | .hbm, ⟨79, _⟩ => ⟨S4x16x336, .f32⟩
  | .hbm, ⟨80, _⟩ => ⟨S_, .i32⟩
  | .hbm, ⟨81, _⟩ => ⟨S_, .f32⟩
  | .hbm, ⟨82, _⟩ => ⟨S4x16x384, .f32⟩
  | .hbm, ⟨83, _⟩ => ⟨S4x6144, .f32⟩
  | .hbm, ⟨84, _⟩ => ⟨S16x336, .f32⟩
  | .hbm, ⟨85, _⟩ => ⟨S_, .i32⟩
  | .hbm, ⟨86, _⟩ => ⟨S_, .f32⟩
  | .hbm, ⟨87, _⟩ => ⟨S16x384, .f32⟩
  | .hbm, ⟨88, _⟩ => ⟨S6144, .f32⟩
  | .hbm, ⟨89, _⟩ => ⟨S1x6144, .f32⟩
  | .hbm, ⟨90, _⟩ => ⟨S6144x4096, .bf16⟩
  | .hbm, ⟨91, _⟩ => ⟨S8x4096, .f32⟩
  | .hbm, ⟨92, _⟩ => ⟨S8x4096, .f32⟩
  | .hbm, ⟨93, _⟩ => ⟨S1x4096, .f32⟩
  | .hbm, ⟨94, _⟩ => ⟨S1x4096, .f32⟩
  | .hbm, ⟨95, _⟩ => ⟨S8x4096, .f32⟩
  | .hbm, ⟨96, _⟩ => ⟨S8x4096, .bf16⟩
  | .hbm, ⟨97, _⟩ => ⟨S8x1x4096, .bf16⟩
  | .hbm, ⟨98, _⟩ => ⟨S8x4096, .bf16⟩
  | .hbm, ⟨99, _⟩ => ⟨S8x12288, .f32⟩
  | .hbm, ⟨100, _⟩ => ⟨S8x1x12288, .f32⟩
  | .hbm, ⟨101, _⟩ => ⟨S8x12288, .f32⟩
  | .hbm, ⟨102, _⟩ => ⟨S8x3x16x336, .f32⟩
  | .hbm, ⟨103, _⟩ => ⟨S_, .i32⟩
  | .hbm, ⟨104, _⟩ => ⟨S_, .f32⟩
  | .hbm, ⟨105, _⟩ => ⟨S8x3x16x384, .f32⟩
  | .hbm, ⟨106, _⟩ => ⟨S8x3x6144, .f32⟩
  | .hbm, ⟨107, _⟩ => ⟨S3x8x6144, .f32⟩
  | .hbm, ⟨108, _⟩ => ⟨S8x16x336, .f32⟩
  | .hbm, ⟨109, _⟩ => ⟨S_, .i32⟩
  | .hbm, ⟨110, _⟩ => ⟨S_, .f32⟩
  | .hbm, ⟨111, _⟩ => ⟨S8x16x384, .f32⟩
  | .hbm, ⟨112, _⟩ => ⟨S8x6144, .f32⟩
  | .hbm, ⟨113, _⟩ => ⟨S8x6144, .bf16⟩
  | .hbm, ⟨114, _⟩ => ⟨S8x6144, .f32⟩
  | .hbm, ⟨115, _⟩ => ⟨S8x6144, .f32⟩
  | .hbm, ⟨116, _⟩ => ⟨S8x16x384, .f32⟩
  | .hbm, ⟨117, _⟩ => ⟨S8x16x336, .f32⟩
  | .hbm, ⟨118, _⟩ => ⟨S8x5376, .f32⟩
  | .hbm, ⟨119, _⟩ => ⟨S8x2x5376, .f32⟩
  | .hbm, ⟨120, _⟩ => ⟨S8x1x5376, .f32⟩
  | .hbm, ⟨121, _⟩ => ⟨S8x3x5376, .f32⟩
  | .hbm, ⟨122, _⟩ => ⟨S8x16x384, .f32⟩
  | .hbm, ⟨123, _⟩ => ⟨S8x16x336, .f32⟩
  | .hbm, ⟨124, _⟩ => ⟨S8x5376, .f32⟩
  | .hbm, ⟨125, _⟩ => ⟨S8x16x384, .bf16⟩
  | .hbm, ⟨126, _⟩ => ⟨S8x16x336, .bf16⟩
  | .hbm, ⟨127, _⟩ => ⟨S8x5376, .bf16⟩
  | .local _ .vmem, ⟨0, _⟩ => ⟨S8x4096, .f32⟩
  | .local _ .vmem, ⟨1, _⟩ => ⟨S8x4096, .f32⟩
  | .local _ .vmem, ⟨2, _⟩ => ⟨S1x4096, .f32⟩
  | .local _ .vmem, ⟨3, _⟩ => ⟨S1x4096, .f32⟩
  | .local _ .vmem, ⟨4, _⟩ => ⟨S8x4096, .f32⟩
  | .local _ .vmem, ⟨5, _⟩ => ⟨S8x4096, .bf16⟩
  | .local _ .vmem, ⟨6, _⟩ => ⟨S8x4096, .bf16⟩
  | .local _ .vmem, ⟨7, _⟩ => ⟨S4096x1024, .bf16⟩
  | .local _ .vmem, ⟨8, _⟩ => ⟨S4096x1024, .bf16⟩
  | .local _ .vmem, ⟨9, _⟩ => ⟨S8x1024, .f32⟩
  | .local _ .vmem, ⟨10, _⟩ => ⟨S8x1024, .f32⟩
  | .local _ .vmem, ⟨11, _⟩ => ⟨S8x384, .f32⟩
  | .local _ .vmem, ⟨12, _⟩ => ⟨S8x384, .f32⟩
  | .local _ .vmem, ⟨13, _⟩ => ⟨S8x384, .f32⟩
  | .local _ .vmem, ⟨14, _⟩ => ⟨S8x384, .f32⟩
  | .local _ .vmem, ⟨15, _⟩ => ⟨S4x384, .f32⟩
  | .local _ .vmem, ⟨16, _⟩ => ⟨S4x384, .f32⟩
  | .local _ .vmem, ⟨17, _⟩ => ⟨S1x384, .f32⟩
  | .local _ .vmem, ⟨18, _⟩ => ⟨S1x384, .f32⟩
  | .local _ .vmem, ⟨19, _⟩ => ⟨S1x384x768, .bf16⟩
  | .local _ .vmem, ⟨20, _⟩ => ⟨S1x384x768, .bf16⟩
  | .local _ .vmem, ⟨21, _⟩ => ⟨S1x1x768, .f32⟩
  | .local _ .vmem, ⟨22, _⟩ => ⟨S1x1x768, .f32⟩
  | .local _ .vmem, ⟨23, _⟩ => ⟨S1x384, .f32⟩
  | .local _ .vmem, ⟨24, _⟩ => ⟨S1x384, .f32⟩
  | .local _ .vmem, ⟨25, _⟩ => ⟨S3x8x384, .f32⟩
  | .local _ .vmem, ⟨26, _⟩ => ⟨S3x8x384, .f32⟩
  | .local _ .vmem, ⟨27, _⟩ => ⟨S8x384, .f32⟩
  | .local _ .vmem, ⟨28, _⟩ => ⟨S8x384, .f32⟩
  | .local _ .vmem, ⟨29, _⟩ => ⟨S8x384, .bf16⟩
  | .local _ .vmem, ⟨30, _⟩ => ⟨S8x384, .bf16⟩
  | .local _ .vmem, ⟨31, _⟩ => ⟨S8x384, .f32⟩
  | .local _ .vmem, ⟨32, _⟩ => ⟨S8x384, .f32⟩
  | _, _ => ⟨S8x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_c : Ref sig .tc := ⟨.hbm, 17, rfl⟩
abbrev main_call0_v0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_call1_v0 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_c_1 : Ref sig .tc := ⟨.hbm, 29, rfl⟩
abbrev main_call2_v0 : Ref sig .tc := ⟨.hbm, 30, rfl⟩
abbrev main_v10 : Ref sig .tc := ⟨.hbm, 31, rfl⟩
abbrev main_c_2 : Ref sig .tc := ⟨.hbm, 32, rfl⟩
abbrev main_call3_v0 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_c_3 : Ref sig .tc := ⟨.hbm, 38, rfl⟩
abbrev main_call4_v0 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_4 : Ref sig .tc := ⟨.hbm, 44, rfl⟩
abbrev main_call5_v0 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_call6_cst : Ref sig .tc := ⟨.hbm, 54, rfl⟩
abbrev main_call6_v0 : Ref sig .tc := ⟨.hbm, 55, rfl⟩
abbrev main_call6_v1 : Ref sig .tc := ⟨.hbm, 56, rfl⟩
abbrev main_call6_v2 : Ref sig .tc := ⟨.hbm, 57, rfl⟩
abbrev main_call6_v3 : Ref sig .tc := ⟨.hbm, 58, rfl⟩
abbrev main_call6_v4 : Ref sig .tc := ⟨.hbm, 59, rfl⟩
abbrev main_call6_v5 : Ref sig .tc := ⟨.hbm, 60, rfl⟩
abbrev main_call6_v6 : Ref sig .tc := ⟨.hbm, 61, rfl⟩
abbrev main_call6_v7 : Ref sig .tc := ⟨.hbm, 62, rfl⟩
abbrev main_call6_v8 : Ref sig .tc := ⟨.hbm, 63, rfl⟩
abbrev main_call6_v9 : Ref sig .tc := ⟨.hbm, 64, rfl⟩
abbrev main_call6_v10 : Ref sig .tc := ⟨.hbm, 65, rfl⟩
abbrev main_call6_v11 : Ref sig .tc := ⟨.hbm, 66, rfl⟩
abbrev main_v27 : Ref sig .tc := ⟨.hbm, 67, rfl⟩
abbrev main_v28 : Ref sig .tc := ⟨.hbm, 68, rfl⟩
abbrev main_c_5 : Ref sig .tc := ⟨.hbm, 69, rfl⟩
abbrev main_call7_v0 : Ref sig .tc := ⟨.hbm, 70, rfl⟩
abbrev main_v29 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_c_6 : Ref sig .tc := ⟨.hbm, 75, rfl⟩
abbrev main_call8_v0 : Ref sig .tc := ⟨.hbm, 76, rfl⟩
abbrev main_v33 : Ref sig .tc := ⟨.hbm, 77, rfl⟩
abbrev main_v34 : Ref sig .tc := ⟨.hbm, 78, rfl⟩
abbrev main_v35 : Ref sig .tc := ⟨.hbm, 79, rfl⟩
abbrev main_c_7 : Ref sig .tc := ⟨.hbm, 80, rfl⟩
abbrev main_call9_v0 : Ref sig .tc := ⟨.hbm, 81, rfl⟩
abbrev main_v36 : Ref sig .tc := ⟨.hbm, 82, rfl⟩
abbrev main_v37 : Ref sig .tc := ⟨.hbm, 83, rfl⟩
abbrev main_v38 : Ref sig .tc := ⟨.hbm, 84, rfl⟩
abbrev main_c_8 : Ref sig .tc := ⟨.hbm, 85, rfl⟩
abbrev main_call10_v0 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47_0 : Ref sig .tc := ⟨.hbm, 95, rfl⟩
abbrev main_v47_1 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_v51 : Ref sig .tc := ⟨.hbm, 100, rfl⟩
abbrev main_v52 : Ref sig .tc := ⟨.hbm, 101, rfl⟩
abbrev main_v53 : Ref sig .tc := ⟨.hbm, 102, rfl⟩
abbrev main_c_9 : Ref sig .tc := ⟨.hbm, 103, rfl⟩
abbrev main_call11_v0 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_c_10 : Ref sig .tc := ⟨.hbm, 109, rfl⟩
abbrev main_call12_v0 : Ref sig .tc := ⟨.hbm, 110, rfl⟩
abbrev main_v58 : Ref sig .tc := ⟨.hbm, 111, rfl⟩
abbrev main_v59 : Ref sig .tc := ⟨.hbm, 112, rfl⟩
abbrev main_v60_0 : Ref sig .tc := ⟨.hbm, 113, rfl⟩
abbrev main_v60_1 : Ref sig .tc := ⟨.hbm, 114, rfl⟩
abbrev main_v61 : Ref sig .tc := ⟨.hbm, 115, rfl⟩
abbrev main_v62 : Ref sig .tc := ⟨.hbm, 116, rfl⟩
abbrev main_v63 : Ref sig .tc := ⟨.hbm, 117, rfl⟩
abbrev main_v64 : Ref sig .tc := ⟨.hbm, 118, rfl⟩
abbrev main_v65 : Ref sig .tc := ⟨.hbm, 119, rfl⟩
abbrev main_v66 : Ref sig .tc := ⟨.hbm, 120, rfl⟩
abbrev main_v67 : Ref sig .tc := ⟨.hbm, 121, rfl⟩
abbrev main_v68 : Ref sig .tc := ⟨.hbm, 122, rfl⟩
abbrev main_v69 : Ref sig .tc := ⟨.hbm, 123, rfl⟩
abbrev main_v70 : Ref sig .tc := ⟨.hbm, 124, rfl⟩
abbrev main_v71 : Ref sig .tc := ⟨.hbm, 125, rfl⟩
abbrev main_v72 : Ref sig .tc := ⟨.hbm, 126, rfl⟩
abbrev main_v73 : Ref sig .tc := ⟨.hbm, 127, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg2_1 : Ref sig .tc := ⟨.vmem, 16, rfl⟩
abbrev cc2_stg3_0 : Ref sig .tc := ⟨.vmem, 17, rfl⟩
abbrev cc2_stg3_1 : Ref sig .tc := ⟨.vmem, 18, rfl⟩
abbrev cc2_stg4_0 : Ref sig .tc := ⟨.vmem, 19, rfl⟩
abbrev cc2_stg4_1 : Ref sig .tc := ⟨.vmem, 20, rfl⟩
abbrev cc2_stg5_0 : Ref sig .tc := ⟨.vmem, 21, rfl⟩
abbrev cc2_stg5_1 : Ref sig .tc := ⟨.vmem, 22, rfl⟩
abbrev cc2_stg6_0 : Ref sig .tc := ⟨.vmem, 23, rfl⟩
abbrev cc2_stg6_1 : Ref sig .tc := ⟨.vmem, 24, rfl⟩
abbrev cc2_stg7_0 : Ref sig .tc := ⟨.vmem, 25, rfl⟩
abbrev cc2_stg7_1 : Ref sig .tc := ⟨.vmem, 26, rfl⟩
abbrev cc2_stg8_0 : Ref sig .tc := ⟨.vmem, 27, rfl⟩
abbrev cc2_stg8_1 : Ref sig .tc := ⟨.vmem, 28, rfl⟩
abbrev cc2_stg9_0 : Ref sig .tc := ⟨.vmem, 29, rfl⟩
abbrev cc2_stg9_1 : Ref sig .tc := ⟨.vmem, 30, rfl⟩
abbrev cc2_stg10_0 : Ref sig .tc := ⟨.vmem, 31, rfl⟩
abbrev cc2_stg10_1 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc2_sem3_1 : DmaSem sig := 18
abbrev cc2_sem4_0 : DmaSem sig := 19
abbrev cc2_sem4_1 : DmaSem sig := 20
abbrev cc2_sem5_0 : DmaSem sig := 21
abbrev cc2_sem5_1 : DmaSem sig := 22
abbrev cc2_sem6_0 : DmaSem sig := 23
abbrev cc2_sem6_1 : DmaSem sig := 24
abbrev cc2_sem7_0 : DmaSem sig := 25
abbrev cc2_sem7_1 : DmaSem sig := 26
abbrev cc2_sem8_0 : DmaSem sig := 27
abbrev cc2_sem8_1 : DmaSem sig := 28
abbrev cc2_sem9_0 : DmaSem sig := 29
abbrev cc2_sem9_1 : DmaSem sig := 30
abbrev cc2_sem10_0 : DmaSem sig := 31
abbrev cc2_sem10_1 : DmaSem sig := 32

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev grid1 : Pipeline.Grid := ⟨2, ![1, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S8x4096 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4096x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_7 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage2_0 : Fin 2 → Memref sig .tc .vmem S8x384 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S8x384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4x384 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x384 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x384x768 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x768 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S1x384 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S3x8x384 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S8x384 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 2 → Memref sig .tc .vmem S8x384 .bf16 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev stage2_10 : Fin 2 → Memref sig .tc .vmem S8x384 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]
-- ==== RgStepRIdeal.lean ====
abbrev S8x1x4096 : Shape := ⟨3, ![8, 1, 4096]⟩
abbrev S4096 : Shape := ⟨1, ![4096]⟩
abbrev S4096x10752 : Shape := ⟨2, ![4096, 10752]⟩
abbrev S4x5376 : Shape := ⟨2, ![4, 5376]⟩
abbrev S5376 : Shape := ⟨1, ![5376]⟩
abbrev S16x336x336 : Shape := ⟨3, ![16, 336, 336]⟩
abbrev S5376x4096 : Shape := ⟨2, ![5376, 4096]⟩
abbrev S8x3x5376 : Shape := ⟨3, ![8, 3, 5376]⟩
abbrev S8x5376 : Shape := ⟨2, ![8, 5376]⟩
abbrev S_ : Shape := ⟨0, ![]⟩
abbrev S8x1 : Shape := ⟨2, ![8, 1]⟩
abbrev S8x1x1 : Shape := ⟨3, ![8, 1, 1]⟩
abbrev S1x1x4096 : Shape := ⟨3, ![1, 1, 4096]⟩
abbrev S8x1x10752 : Shape := ⟨3, ![8, 1, 10752]⟩
abbrev S8x1x5376 : Shape := ⟨3, ![8, 1, 5376]⟩
abbrev S8x4x5376 : Shape := ⟨3, ![8, 4, 5376]⟩
abbrev S1x5376 : Shape := ⟨2, ![1, 5376]⟩
abbrev S8x16x336 : Shape := ⟨3, ![8, 16, 336]⟩
abbrev S16x336x8 : Shape := ⟨3, ![16, 336, 8]⟩

abbrev nBuf : Space → Nat
  | .hbm => 161
  | .vmem => 0
  | .smem => 0
  | _ => 0

abbrev hbmTy0_0 (i : Nat) : BufTy := match i % 128 with
  | 0 => ⟨S8x1x4096, .f32⟩
  | 1 => ⟨S8x1x4096, .f32⟩
  | 2 => ⟨S4096, .f32⟩
  | 3 => ⟨S4096, .f32⟩
  | 4 => ⟨S4096x10752, .f32⟩
  | 5 => ⟨S4x5376, .f32⟩
  | 6 => ⟨S5376, .f32⟩
  | 7 => ⟨S16x336x336, .f32⟩
  | 8 => ⟨S5376, .f32⟩
  | 9 => ⟨S16x336x336, .f32⟩
  | 10 => ⟨S5376, .f32⟩
  | 11 => ⟨S5376, .f32⟩
  | 12 => ⟨S5376x4096, .f32⟩
  | 13 => ⟨S8x3x5376, .f32⟩
  | 14 => ⟨S8x5376, .f32⟩
  | 15 => ⟨S8x1x4096, .f32⟩
  | 16 => ⟨S_, .f32⟩
  | 17 => ⟨S8x1, .f32⟩
  | 18 => ⟨S8x1x1, .f32⟩
  | 19 => ⟨S_, .f32⟩
  | 20 => ⟨S8x1x1, .f32⟩
  | 21 => ⟨S8x1x1, .f32⟩
  | 22 => ⟨S_, .f32⟩
  | 23 => ⟨S8x1x1, .f32⟩
  | 24 => ⟨S8x1x1, .f32⟩
  | 25 => ⟨S8x1x1, .f32⟩
  | 26 => ⟨S8x1x4096, .f32⟩
  | 27 => ⟨S8x1x4096, .f32⟩
  | 28 => ⟨S1x1x4096, .f32⟩
  | 29 => ⟨S8x1x4096, .f32⟩
  | 30 => ⟨S8x1x4096, .f32⟩
  | 31 => ⟨S8x1x4096, .f32⟩
  | 32 => ⟨S8x1x4096, .f32⟩
  | 33 => ⟨S_, .f32⟩
  | 34 => ⟨S8x1, .f32⟩
  | 35 => ⟨S8x1x1, .f32⟩
  | 36 => ⟨S_, .f32⟩
  | 37 => ⟨S8x1x1, .f32⟩
  | 38 => ⟨S8x1x1, .f32⟩
  | 39 => ⟨S_, .f32⟩
  | 40 => ⟨S8x1x1, .f32⟩
  | 41 => ⟨S8x1x1, .f32⟩
  | 42 => ⟨S8x1x1, .f32⟩
  | 43 => ⟨S8x1x4096, .f32⟩
  | 44 => ⟨S8x1x4096, .f32⟩
  | 45 => ⟨S1x1x4096, .f32⟩
  | 46 => ⟨S8x1x4096, .f32⟩
  | 47 => ⟨S8x1x4096, .f32⟩
  | 48 => ⟨S8x1x10752, .f32⟩
  | 49 => ⟨S8x1x5376, .f32⟩
  | 50 => ⟨S8x1x5376, .f32⟩
  | 51 => ⟨S8x4x5376, .f32⟩
  | 52 => ⟨S1x5376, .f32⟩
  | 53 => ⟨S5376, .f32⟩
  | 54 => ⟨S8x1x5376, .f32⟩
  | 55 => ⟨S8x5376, .f32⟩
  | 56 => ⟨S1x5376, .f32⟩
  | 57 => ⟨S8x5376, .f32⟩
  | 58 => ⟨S8x5376, .f32⟩
  | 59 => ⟨S1x5376, .f32⟩
  | 60 => ⟨S5376, .f32⟩
  | 61 => ⟨S8x1x5376, .f32⟩
  | 62 => ⟨S8x5376, .f32⟩
  | 63 => ⟨S1x5376, .f32⟩
  | 64 => ⟨S8x5376, .f32⟩
  | 65 => ⟨S8x5376, .f32⟩
  | 66 => ⟨S8x5376, .f32⟩
  | 67 => ⟨S1x5376, .f32⟩
  | 68 => ⟨S5376, .f32⟩
  | 69 => ⟨S8x1x5376, .f32⟩
  | 70 => ⟨S8x5376, .f32⟩
  | 71 => ⟨S1x5376, .f32⟩
  | 72 => ⟨S8x5376, .f32⟩
  | 73 => ⟨S8x5376, .f32⟩
  | 74 => ⟨S8x5376, .f32⟩
  | 75 => ⟨S1x5376, .f32⟩
  | 76 => ⟨S5376, .f32⟩
  | 77 => ⟨S8x1x5376, .f32⟩
  | 78 => ⟨S8x5376, .f32⟩
  | 79 => ⟨S1x5376, .f32⟩
  | 80 => ⟨S8x5376, .f32⟩
  | 81 => ⟨S8x5376, .f32⟩
  | 82 => ⟨S8x5376, .f32⟩
  | 83 => ⟨S1x5376, .f32⟩
  | 84 => ⟨S8x5376, .f32⟩
  | 85 => ⟨S8x5376, .f32⟩
  | 86 => ⟨S8x16x336, .f32⟩
  | 87 => ⟨S16x336x8, .f32⟩
  | 88 => ⟨S8x16x336, .f32⟩
  | 89 => ⟨S8x5376, .f32⟩
  | 90 => ⟨S1x5376, .f32⟩
  | 91 => ⟨S8x5376, .f32⟩
  | 92 => ⟨S8x5376, .f32⟩
  | 93 => ⟨S8x5376, .f32⟩
  | 94 => ⟨S8x5376, .f32⟩
  | 95 => ⟨S_, .f32⟩
  | 96 => ⟨S8x5376, .f32⟩
  | 97 => ⟨S8x5376, .f32⟩
  | 98 => ⟨S_, .f32⟩
  | 99 => ⟨S8x5376, .f32⟩
  | 100 => ⟨S8x5376, .f32⟩
  | 101 => ⟨S8x16x336, .f32⟩
  | 102 => ⟨S16x336x8, .f32⟩
  | 103 => ⟨S8x16x336, .f32⟩
  | 104 => ⟨S8x5376, .f32⟩
  | 105 => ⟨S1x5376, .f32⟩
  | 106 => ⟨S8x5376, .f32⟩
  | 107 => ⟨S8x5376, .f32⟩
  | 108 => ⟨S8x5376, .f32⟩
  | 109 => ⟨S8x5376, .f32⟩
  | 110 => ⟨S_, .f32⟩
  | 111 => ⟨S8x5376, .f32⟩
  | 112 => ⟨S8x5376, .f32⟩
  | 113 => ⟨S_, .f32⟩
  | 114 => ⟨S8x5376, .f32⟩
  | 115 => ⟨S8x5376, .f32⟩
  | 116 => ⟨S_, .f32⟩
  | 117 => ⟨S8x5376, .f32⟩
  | 118 => ⟨S8x5376, .f32⟩
  | 119 => ⟨S5376, .f32⟩
  | 120 => ⟨S_, .f32⟩
  | 121 => ⟨S5376, .f32⟩
  | 122 => ⟨S5376, .f32⟩
  | 123 => ⟨S5376, .f32⟩
  | 124 => ⟨S5376, .f32⟩
  | 125 => ⟨S5376, .i1⟩
  | 126 => ⟨S5376, .f32⟩
  | 127 => ⟨S5376, .f32⟩
  | _ => ⟨S8x1x4096, .f32⟩

abbrev hbmTy0_1 (i : Nat) : BufTy := match i % 128 with
  | 0 => ⟨S5376, .f32⟩
  | 1 => ⟨S5376, .f32⟩
  | 2 => ⟨S5376, .f32⟩
  | 3 => ⟨S5376, .f32⟩
  | 4 => ⟨S5376, .f32⟩
  | 5 => ⟨S5376, .f32⟩
  | 6 => ⟨S1x5376, .f32⟩
  | 7 => ⟨S8x5376, .f32⟩
  | 8 => ⟨S8x5376, .f32⟩
  | 9 => ⟨S8x5376, .f32⟩
  | 10 => ⟨S_, .f32⟩
  | 11 => ⟨S8x5376, .f32⟩
  | 12 => ⟨S8x5376, .f32⟩
  | 13 => ⟨S8x5376, .f32⟩
  | 14 => ⟨S8x5376, .f32⟩
  | 15 => ⟨S8x5376, .f32⟩
  | 16 => ⟨S8x5376, .f32⟩
  | 17 => ⟨S8x5376, .f32⟩
  | 18 => ⟨S8x5376, .f32⟩
  | 19 => ⟨S8x5376, .f32⟩
  | 20 => ⟨S8x5376, .f32⟩
  | 21 => ⟨S8x5376, .f32⟩
  | 22 => ⟨S8x5376, .f32⟩
  | 23 => ⟨S_, .f32⟩
  | 24 => ⟨S8x5376, .f32⟩
  | 25 => ⟨S8x5376, .f32⟩
  | 26 => ⟨S_, .f32⟩
  | 27 => ⟨S8x5376, .f32⟩
  | 28 => ⟨S8x5376, .f32⟩
  | 29 => ⟨S8x5376, .f32⟩
  | 30 => ⟨S8x5376, .f32⟩
  | 31 => ⟨S8x5376, .bf16⟩
  | 32 => ⟨S8x3x5376, .f32⟩
  | _ => ⟨S8x1x4096, .f32⟩

abbrev hbmTy (i : Nat) : BufTy := match i / 128 with
  | 0 => hbmTy0_0 i
  | 1 => hbmTy0_1 i
  | _ => ⟨S8x1x4096, .f32⟩

abbrev bufTy : (tb : Table) → Fin (tcTables nBuf tb) → BufTy
  | .hbm, ⟨i, _⟩ => hbmTy i
  | _, _ => ⟨S8x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_0 : Ref sig .tc := ⟨.hbm, 19, rfl⟩
abbrev main_v3 : Ref sig .tc := ⟨.hbm, 20, rfl⟩
abbrev main_v4 : Ref sig .tc := ⟨.hbm, 21, rfl⟩
abbrev main_cst_1 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_2 : Ref sig .tc := ⟨.hbm, 33, rfl⟩
abbrev main_v15 : Ref sig .tc := ⟨.hbm, 34, rfl⟩
abbrev main_v16 : Ref sig .tc := ⟨.hbm, 35, rfl⟩
abbrev main_cst_3 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_cst_5 : Ref sig .tc := ⟨.hbm, 95, rfl⟩
abbrev main_v74 : Ref sig .tc := ⟨.hbm, 96, rfl⟩
abbrev main_v75 : Ref sig .tc := ⟨.hbm, 97, rfl⟩
abbrev main_cst_6 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_7 : Ref sig .tc := ⟨.hbm, 110, rfl⟩
abbrev main_v87 : Ref sig .tc := ⟨.hbm, 111, rfl⟩
abbrev main_v88 : Ref sig .tc := ⟨.hbm, 112, rfl⟩
abbrev main_cst_8 : Ref sig .tc := ⟨.hbm, 113, rfl⟩
abbrev main_v89 : Ref sig .tc := ⟨.hbm, 114, rfl⟩
abbrev main_v90 : Ref sig .tc := ⟨.hbm, 115, rfl⟩
abbrev main_cst_9 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_call0_cst : Ref sig .tc := ⟨.hbm, 120, rfl⟩
abbrev main_call0_v0 : Ref sig .tc := ⟨.hbm, 121, rfl⟩
abbrev main_call0_v1 : Ref sig .tc := ⟨.hbm, 122, rfl⟩
abbrev main_call0_v2 : Ref sig .tc := ⟨.hbm, 123, rfl⟩
abbrev main_call0_v3 : Ref sig .tc := ⟨.hbm, 124, rfl⟩
abbrev main_call0_v4 : Ref sig .tc := ⟨.hbm, 125, rfl⟩
abbrev main_call0_v5 : Ref sig .tc := ⟨.hbm, 126, rfl⟩
abbrev main_call0_v6 : Ref sig .tc := ⟨.hbm, 127, rfl⟩
abbrev main_call0_v7 : Ref sig .tc := ⟨.hbm, 128, rfl⟩
abbrev main_call0_v8 : Ref sig .tc := ⟨.hbm, 129, rfl⟩
abbrev main_call0_v9 : Ref sig .tc := ⟨.hbm, 130, rfl⟩
abbrev main_call0_v10 : Ref sig .tc := ⟨.hbm, 131, rfl⟩
abbrev main_call0_v11 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_10 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_call1_v0 : Ref sig .tc := ⟨.hbm, 149, rfl⟩
abbrev main_call1_v1 : Ref sig .tc := ⟨.hbm, 150, rfl⟩
abbrev main_call1_cst : Ref sig .tc := ⟨.hbm, 151, rfl⟩
abbrev main_call1_v2 : Ref sig .tc := ⟨.hbm, 152, rfl⟩
abbrev main_call1_v3 : Ref sig .tc := ⟨.hbm, 153, rfl⟩
abbrev main_call1_cst_0 : Ref sig .tc := ⟨.hbm, 154, rfl⟩
abbrev main_call1_v4 : Ref sig .tc := ⟨.hbm, 155, rfl⟩
abbrev main_call1_v5 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩

abbrev nD : Nat := 1
abbrev τ : Topo := Topo.v7x

variable {F : FTy → Type} [FloatOps F]
-- ==== RgHeadK.lean ====
abbrev S8192x4096 : Shape := ⟨2, ![8192, 4096]⟩
abbrev S4096x10752 : Shape := ⟨2, ![4096, 10752]⟩
abbrev S4096x5376 : Shape := ⟨2, ![4096, 5376]⟩
abbrev S4096x16x336 : Shape := ⟨3, ![4096, 16, 336]⟩
abbrev S_ : Shape := ⟨0, ![]⟩
abbrev S4096x16x384 : Shape := ⟨3, ![4096, 16, 384]⟩
abbrev S4096x6144 : Shape := ⟨2, ![4096, 6144]⟩
abbrev S4096x12288 : Shape := ⟨2, ![4096, 12288]⟩
abbrev S8192x12288 : Shape := ⟨2, ![8192, 12288]⟩
abbrev S1024x4096 : Shape := ⟨2, ![1024, 4096]⟩
abbrev S4096x1024 : Shape := ⟨2, ![4096, 1024]⟩
abbrev S1024x1024 : Shape := ⟨2, ![1024, 1024]⟩
abbrev S8192x6144 : Shape := ⟨2, ![8192, 6144]⟩
abbrev S8192x16x384 : Shape := ⟨3, ![8192, 16, 384]⟩
abbrev S8192x16x336 : Shape := ⟨3, ![8192, 16, 336]⟩
abbrev S8192x5376 : Shape := ⟨2, ![8192, 5376]⟩

abbrev nBuf : Space → Nat
  | .hbm => 25
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x10752, .f32⟩
  | .hbm, ⟨2, _⟩ => ⟨S4096x5376, .f32⟩
  | .hbm, ⟨3, _⟩ => ⟨S4096x16x336, .f32⟩
  | .hbm, ⟨4, _⟩ => ⟨S_, .i32⟩
  | .hbm, ⟨5, _⟩ => ⟨S_, .f32⟩
  | .hbm, ⟨6, _⟩ => ⟨S4096x16x384, .f32⟩
  | .hbm, ⟨7, _⟩ => ⟨S4096x6144, .f32⟩
  | .hbm, ⟨8, _⟩ => ⟨S4096x5376, .f32⟩
  | .hbm, ⟨9, _⟩ => ⟨S4096x16x336, .f32⟩
  | .hbm, ⟨10, _⟩ => ⟨S_, .i32⟩
  | .hbm, ⟨11, _⟩ => ⟨S_, .f32⟩
  | .hbm, ⟨12, _⟩ => ⟨S4096x16x384, .f32⟩
  | .hbm, ⟨13, _⟩ => ⟨S4096x6144, .f32⟩
  | .hbm, ⟨14, _⟩ => ⟨S4096x12288, .f32⟩
  | .hbm, ⟨15, _⟩ => ⟨S4096x12288, .bf16⟩
  | .hbm, ⟨16, _⟩ => ⟨S8192x12288, .f32⟩
  | .hbm, ⟨17, _⟩ => ⟨S8192x6144, .f32⟩
  | .hbm, ⟨18, _⟩ => ⟨S8192x16x384, .f32⟩
  | .hbm, ⟨19, _⟩ => ⟨S8192x16x336, .f32⟩
  | .hbm, ⟨20, _⟩ => ⟨S8192x5376, .f32⟩
  | .hbm, ⟨21, _⟩ => ⟨S8192x6144, .f32⟩
  | .hbm, ⟨22, _⟩ => ⟨S8192x16x384, .f32⟩
  | .hbm, ⟨23, _⟩ => ⟨S8192x16x336, .f32⟩
  | .hbm, ⟨24, _⟩ => ⟨S8192x5376, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_call0_v0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_call1_v0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RgHeadRIdeal.lean ====
abbrev S8192x4096 : Shape := ⟨2, ![8192, 4096]⟩
abbrev S4096x10752 : Shape := ⟨2, ![4096, 10752]⟩
abbrev S8192x10752 : Shape := ⟨2, ![8192, 10752]⟩
abbrev S8192x5376 : Shape := ⟨2, ![8192, 5376]⟩

abbrev nBuf : Space → Nat
  | .hbm => 6
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x10752, .f32⟩
  | .hbm, ⟨2, _⟩ => ⟨S8192x4096, .f32⟩
  | .hbm, ⟨3, _⟩ => ⟨S8192x10752, .f32⟩
  | .hbm, ⟨4, _⟩ => ⟨S8192x5376, .f32⟩
  | .hbm, ⟨5, _⟩ => ⟨S8192x5376, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== RgOutK.lean ====
abbrev S8192x5376 : Shape := ⟨2, ![8192, 5376]⟩
abbrev S5376x4096 : Shape := ⟨2, ![5376, 4096]⟩
abbrev S16x336x4096 : Shape := ⟨3, ![16, 336, 4096]⟩
abbrev S_ : Shape := ⟨0, ![]⟩
abbrev S16x384x4096 : Shape := ⟨3, ![16, 384, 4096]⟩
abbrev S6144x4096 : Shape := ⟨2, ![6144, 4096]⟩
abbrev S8192x16x336 : Shape := ⟨3, ![8192, 16, 336]⟩
abbrev S8192x16x384 : Shape := ⟨3, ![8192, 16, 384]⟩
abbrev S8192x6144 : Shape := ⟨2, ![8192, 6144]⟩
abbrev S8192x4096 : Shape := ⟨2, ![8192, 4096]⟩
abbrev S1024x3072 : Shape := ⟨2, ![1024, 3072]⟩
abbrev S3072x512 : Shape := ⟨2, ![3072, 512]⟩
abbrev S1024x512 : Shape := ⟨2, ![1024, 512]⟩

abbrev nBuf : Space → Nat
  | .hbm => 14
  | .vmem => 7
  | .smem => 0
  | _ => 0

abbrev bufTy : (tb : Table) → Fin (tcTables nBuf tb) → BufTy
  | .hbm, ⟨0, _⟩ => ⟨S8192x5376, .bf16⟩
  | .hbm, ⟨1, _⟩ => ⟨S5376x4096, .f32⟩
  | .hbm, ⟨2, _⟩ => ⟨S16x336x4096, .f32⟩
  | .hbm, ⟨3, _⟩ => ⟨S_, .i32⟩
  | .hbm, ⟨4, _⟩ => ⟨S_, .f32⟩
  | .hbm, ⟨5, _⟩ => ⟨S16x384x4096, .f32⟩
  | .hbm, ⟨6, _⟩ => ⟨S6144x4096, .f32⟩
  | .hbm, ⟨7, _⟩ => ⟨S8192x16x336, .bf16⟩
  | .hbm, ⟨8, _⟩ => ⟨S_, .i32⟩
  | .hbm, ⟨9, _⟩ => ⟨S_, .bf16⟩
  | .hbm, ⟨10, _⟩ => ⟨S8192x16x384, .bf16⟩
  | .hbm, ⟨11, _⟩ => ⟨S8192x6144, .bf16⟩
  | .hbm, ⟨12, _⟩ => ⟨S6144x4096, .bf16⟩
  | .hbm, ⟨13, _⟩ => ⟨S8192x4096, .f32⟩
  | .local _ .vmem, ⟨0, _⟩ => ⟨S1024x3072, .bf16⟩
  | .local _ .vmem, ⟨1, _⟩ => ⟨S1024x3072, .bf16⟩
  | .local _ .vmem, ⟨2, _⟩ => ⟨S3072x512, .bf16⟩
  | .local _ .vmem, ⟨3, _⟩ => ⟨S3072x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x5376, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_call1_v0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 8, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S3072x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== RgOutRIdeal.lean ====
abbrev S8192x5376 : Shape := ⟨2, ![8192, 5376]⟩
abbrev S5376x4096 : Shape := ⟨2, ![5376, 4096]⟩
abbrev S8192x4096 : Shape := ⟨2, ![8192, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x5376, .bf16⟩
  | .hbm, ⟨1, _⟩ => ⟨S5376x4096, .f32⟩
  | .hbm, ⟨2, _⟩ => ⟨S8192x5376, .f32⟩
  | .hbm, ⟨3, _⟩ => ⟨S8192x4096, .f32⟩
  | _, _ => ⟨S8192x5376, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== NsaOutK.lean ====
abbrev S8192x4096 : Shape := ⟨2, ![8192, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S4096x4096, .bf16⟩
  | .hbm, ⟨3, _⟩ => ⟨S8192x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== NsaOutRIdeal.lean ====
abbrev S8192x4096 : Shape := ⟨2, ![8192, 4096]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x4096, .f32⟩
  | .hbm, ⟨2, _⟩ => ⟨S8192x4096, .f32⟩
  | .hbm, ⟨3, _⟩ => ⟨S8192x4096, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== LastK.lean ====
abbrev S4x2048x4096 : Shape := ⟨3, ![4, 2048, 4096]⟩
abbrev S8x1x4096 : Shape := ⟨3, ![8, 1, 4096]⟩
abbrev S4096 : Shape := ⟨1, ![4096]⟩
abbrev S8192x4096 : Shape := ⟨2, ![8192, 4096]⟩
abbrev S1x4096 : Shape := ⟨2, ![1, 4096]⟩
abbrev S256x4096 : Shape := ⟨2, ![256, 4096]⟩
abbrev S256 : Shape := ⟨1, ![256]⟩
abbrev S256x1 : Shape := ⟨2, ![256, 1]⟩
abbrev S8x4096 : Shape := ⟨2, ![8, 4096]⟩
abbrev S8 : Shape := ⟨1, ![8]⟩
abbrev S8x1 : Shape := ⟨2, ![8, 1]⟩

abbrev nBuf : Space → Nat
  | .hbm => 15
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S8x1x4096, .f32⟩
  | .hbm, ⟨3, _⟩ => ⟨S8x1x4096, .f32⟩
  | .hbm, ⟨4, _⟩ => ⟨S4096, .f32⟩
  | .hbm, ⟨5, _⟩ => ⟨S8192x4096, .f32⟩
  | .hbm, ⟨6, _⟩ => ⟨S8192x4096, .f32⟩
  | .hbm, ⟨7, _⟩ => ⟨S1x4096, .f32⟩
  | .hbm, ⟨8, _⟩ => ⟨S8192x4096, .f32⟩
  | .hbm, ⟨9, _⟩ => ⟨S4x2048x4096, .f32⟩
  | .hbm, ⟨10, _⟩ => ⟨S8x4096, .f32⟩
  | .hbm, ⟨11, _⟩ => ⟨S8x4096, .f32⟩
  | .hbm, ⟨12, _⟩ => ⟨S1x4096, .f32⟩
  | .hbm, ⟨13, _⟩ => ⟨S8x4096, .f32⟩
  | .hbm, ⟨14, _⟩ => ⟨S8x1x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | .local _ .vmem, ⟨7, _⟩ => ⟨S8x4096, .f32⟩
  | .local _ .vmem, ⟨8, _⟩ => ⟨S8x4096, .f32⟩
  | .local _ .vmem, ⟨9, _⟩ => ⟨S1x4096, .f32⟩
  | .local _ .vmem, ⟨10, _⟩ => ⟨S8x4096, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem1_0 : DmaSem sig := 8
abbrev cc1_sem2_0 : DmaSem sig := 9
abbrev cc1_sem3_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S8x4096 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S8x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S8x4096 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true]
-- ==== LastRIdeal.lean ====
abbrev S4x2048x4096 : Shape := ⟨3, ![4, 2048, 4096]⟩
abbrev S8x1x4096 : Shape := ⟨3, ![8, 1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S8x1 : Shape := ⟨2, ![8, 1]⟩
abbrev S8x1x1 : Shape := ⟨3, ![8, 1, 1]⟩

abbrev nBuf : Space → Nat
  | .hbm => 39
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4x2048x4096, .f32⟩
  | .hbm, ⟨2, _⟩ => ⟨S8x1x4096, .f32⟩
  | .hbm, ⟨3, _⟩ => ⟨S8x1x4096, .f32⟩
  | .hbm, ⟨4, _⟩ => ⟨S4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S4x2048x4096, .f32⟩
  | .hbm, ⟨22, _⟩ => ⟨S8x1x4096, .f32⟩
  | .hbm, ⟨23, _⟩ => ⟨S_, .f32⟩
  | .hbm, ⟨24, _⟩ => ⟨S8x1, .f32⟩
  | .hbm, ⟨25, _⟩ => ⟨S8x1x1, .f32⟩
  | .hbm, ⟨26, _⟩ => ⟨S_, .f32⟩
  | .hbm, ⟨27, _⟩ => ⟨S8x1x1, .f32⟩
  | .hbm, ⟨28, _⟩ => ⟨S8x1x1, .f32⟩
  | .hbm, ⟨29, _⟩ => ⟨S_, .f32⟩
  | .hbm, ⟨30, _⟩ => ⟨S8x1x1, .f32⟩
  | .hbm, ⟨31, _⟩ => ⟨S8x1x1, .f32⟩
  | .hbm, ⟨32, _⟩ => ⟨S8x1x1, .f32⟩
  | .hbm, ⟨33, _⟩ => ⟨S8x1x4096, .f32⟩
  | .hbm, ⟨34, _⟩ => ⟨S8x1x4096, .f32⟩
  | .hbm, ⟨35, _⟩ => ⟨S1x1x4096, .f32⟩
  | .hbm, ⟨36, _⟩ => ⟨S8x1x4096, .f32⟩
  | .hbm, ⟨37, _⟩ => ⟨S8x1x4096, .f32⟩
  | .hbm, ⟨38, _⟩ => ⟨S8x1x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== NsaWinK.lean ====
abbrev S8x32x128 : Shape := ⟨3, ![8, 32, 128]⟩
abbrev S8x512x2x4x128 : Shape := ⟨5, ![8, 512, 2, 4, 128]⟩
abbrev S8x4x128 : Shape := ⟨3, ![8, 4, 128]⟩
abbrev S8x4x8x128 : Shape := ⟨4, ![8, 4, 8, 128]⟩
abbrev S8x4x24 : Shape := ⟨3, ![8, 4, 24]⟩
abbrev S32x3 : Shape := ⟨2, ![32, 3]⟩
abbrev S8x4x8x3 : Shape := ⟨4, ![8, 4, 8, 3]⟩
abbrev S8x4x3x8 : Shape := ⟨4, ![8, 4, 3, 8]⟩
abbrev S8x4x3x8x1 : Shape := ⟨5, ![8, 4, 3, 8, 1]⟩
abbrev S4x8x3 : Shape := ⟨3, ![4, 8, 3]⟩
abbrev S4x3x8 : Shape := ⟨3, ![4, 3, 8]⟩
abbrev S4x3x8x1 : Shape := ⟨4, ![4, 3, 8, 1]⟩
abbrev S1x32x128 : Shape := ⟨3, ![1, 32, 128]⟩
abbrev S1x512x2x4x128 : Shape := ⟨5, ![1, 512, 2, 4, 128]⟩
abbrev S1x4x128 : Shape := ⟨3, ![1, 4, 128]⟩
abbrev S1x4x8x128 : Shape := ⟨4, ![1, 4, 8, 128]⟩
abbrev S1x4x3x8x1 : Shape := ⟨5, ![1, 4, 3, 8, 1]⟩
abbrev S1x8x128 : Shape := ⟨3, ![1, 8, 128]⟩
abbrev S8x128 : Shape := ⟨2, ![8, 128]⟩
abbrev S1x512x1x1x128 : Shape := ⟨5, ![1, 512, 1, 1, 128]⟩
abbrev S512x128 : Shape := ⟨2, ![512, 128]⟩
abbrev S8x512 : Shape := ⟨2, ![8, 512]⟩
abbrev S1x1x128 : Shape := ⟨3, ![1, 1, 128]⟩
abbrev S1x128 : Shape := ⟨2, ![1, 128]⟩
abbrev S8 : Shape := ⟨1, ![8]⟩
abbrev S8x1 : Shape := ⟨2, ![8, 1]⟩
abbrev S1x1x1x8x1 : Shape := ⟨5, ![1, 1, 1, 8, 1]⟩
abbrev S1x1x8x1 : Shape := ⟨4, ![1, 1, 8, 1]⟩
abbrev S1x1x8x128 : Shape := ⟨4, ![1, 1, 8, 128]⟩

abbrev nBuf : Space → Nat
  | .hbm => 16
  | .vmem => 19
  | .smem => 0
  | _ => 0

abbrev bufTy : (tb : Table) → Fin (tcTables nBuf tb) → BufTy
  | .hbm, ⟨0, _⟩ => ⟨S8x32x128, .f32⟩
  | .hbm, ⟨1, _⟩ => ⟨S8x512x2x4x128, .f32⟩
  | .hbm, ⟨2, _⟩ => ⟨S8x4x128, .f32⟩
  | .hbm, ⟨3, _⟩ => ⟨S8x4x128, .f32⟩
  | .hbm, ⟨4, _⟩ => ⟨S8x4x8x128, .f32⟩
  | .hbm, ⟨5, _⟩ => ⟨S8x4x8x128, .f32⟩
  | .hbm, ⟨6, _⟩ => ⟨S8x4x24, .f32⟩
  | .hbm, ⟨7, _⟩ => ⟨S32x3, .f32⟩
  | .hbm, ⟨8, _⟩ => ⟨S8x32x128, .f32⟩
  | .hbm, ⟨9, _⟩ => ⟨S8x4x8x3, .f32⟩
  | .hbm, ⟨10, _⟩ => ⟨S8x4x3x8, .f32⟩
  | .hbm, ⟨11, _⟩ => ⟨S8x4x3x8x1, .f32⟩
  | .hbm, ⟨12, _⟩ => ⟨S4x8x3, .f32⟩
  | .hbm, ⟨13, _⟩ => ⟨S4x3x8, .f32⟩
  | .hbm, ⟨14, _⟩ => ⟨S4x3x8x1, .f32⟩
  | .hbm, ⟨15, _⟩ => ⟨S8x32x128, .f32⟩
  | .local _ .vmem, ⟨0, _⟩ => ⟨S1x32x128, .f32⟩
  | .local _ .vmem, ⟨1, _⟩ => ⟨S1x32x128, .f32⟩
  | .local _ .vmem, ⟨2, _⟩ => ⟨S1x512x2x4x128, .f32⟩
  | .local _ .vmem, ⟨3, _⟩ => ⟨S1x512x2x4x128, .f32⟩
  | .local _ .vmem, ⟨4, _⟩ => ⟨S1x4x128, .f32⟩
  | .local _ .vmem, ⟨5, _⟩ => ⟨S1x4x128, .f32⟩
  | .local _ .vmem, ⟨6, _⟩ => ⟨S1x4x128, .f32⟩
  | .local _ .vmem, ⟨7, _⟩ => ⟨S1x4x128, .f32⟩
  | .local _ .vmem, ⟨8, _⟩ => ⟨S1x4x8x128, .f32⟩
  | .local _ .vmem, ⟨9, _⟩ => ⟨S1x4x8x128, .f32⟩
  | .local _ .vmem, ⟨10, _⟩ => ⟨S1x4x8x128, .f32⟩
  | .local _ .vmem, ⟨11, _⟩ => ⟨S1x4x8x128, .f32⟩
  | .local _ .vmem, ⟨12, _⟩ => ⟨S1x4x3x8x1, .f32⟩
  | .local _ .vmem, ⟨13, _⟩ => ⟨S1x4x3x8x1, .f32⟩
  | .local _ .vmem, ⟨14, _⟩ => ⟨S4x3x8x1, .f32⟩
  | .local _ .vmem, ⟨15, _⟩ => ⟨S1x32x128, .f32⟩
  | .local _ .vmem, ⟨16, _⟩ => ⟨S1x32x128, .f32⟩
  | .local _ .vmem, ⟨17, _⟩ => ⟨S1x32x128, .f32⟩
  | .local _ .vmem, ⟨18, _⟩ => ⟨S1x32x128, .f32⟩
  | _, _ => ⟨S8x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x2x4x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4x8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x4x3x8x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x3x8x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x32x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== NsaWinRIdeal.lean ====
abbrev S8x32x128 : Shape := ⟨3, ![8, 32, 128]⟩
abbrev S8x512x2x4x128 : Shape := ⟨5, ![8, 512, 2, 4, 128]⟩
abbrev S8x4x128 : Shape := ⟨3, ![8, 4, 128]⟩
abbrev S8x4x8x128 : Shape := ⟨4, ![8, 4, 8, 128]⟩
abbrev S8x4x24 : Shape := ⟨3, ![8, 4, 24]⟩
abbrev S32x3 : Shape := ⟨2, ![32, 3]⟩
abbrev S8x1x4x8x128 : Shape := ⟨5, ![8, 1, 4, 8, 128]⟩
abbrev S_ : Shape := ⟨0, ![]⟩
abbrev S8x1x4x128 : Shape := ⟨4, ![8, 1, 4, 128]⟩
abbrev S8x2x4x128 : Shape := ⟨4, ![8, 2, 4, 128]⟩
abbrev S8x1x2x4x128 : Shape := ⟨5, ![8, 1, 2, 4, 128]⟩
abbrev S8x513x2x4x128 : Shape := ⟨5, ![8, 513, 2, 4, 128]⟩
abbrev S1 : Shape := ⟨1, ![1]⟩
abbrev S513 : Shape := ⟨1, ![513]⟩
abbrev S8x513x1x4x128 : Shape := ⟨5, ![8, 513, 1, 4, 128]⟩
abbrev S8x513x4x128 : Shape := ⟨4, ![8, 513, 4, 128]⟩
abbrev S8x4x513x1x8 : Shape := ⟨5, ![8, 4, 513, 1, 8]⟩
abbrev S8x1x4x8x513 : Shape := ⟨5, ![8, 1, 4, 8, 513]⟩
abbrev S1x1 : Shape := ⟨2, ![1, 1]⟩
abbrev S1x513 : Shape := ⟨2, ![1, 513]⟩
abbrev S1x1x1x1x513 : Shape := ⟨5, ![1, 1, 1, 1, 513]⟩
abbrev S8x1x4x8 : Shape := ⟨4, ![8, 1, 4, 8]⟩
abbrev S8x1x4x8x1 : Shape := ⟨5, ![8, 1, 4, 8, 1]⟩
abbrev S8x4x128x1x8 : Shape := ⟨5, ![8, 4, 128, 1, 8]⟩
abbrev S8x1x32x3 : Shape := ⟨4, ![8, 1, 32, 3]⟩
abbrev S1x1x32x3 : Shape := ⟨4, ![1, 1, 32, 3]⟩
abbrev S8x1x4x8x3 : Shape := ⟨5, ![8, 1, 4, 8, 3]⟩

abbrev nBuf : Space → Nat
  | .hbm => 111
  | .vmem => 0
  | .smem => 0
  | _ => 0

abbrev bufTy : (tb : Table) → Fin (tcTables nBuf tb) → BufTy
  | .hbm, ⟨0, _⟩ => ⟨S8x32x128, .f32⟩
  | .hbm, ⟨1, _⟩ => ⟨S8x512x2x4x128, .f32⟩
  | .hbm, ⟨2, _⟩ => ⟨S8x4x128, .f32⟩
  | .hbm, ⟨3, _⟩ => ⟨S8x4x128, .f32⟩
  | .hbm, ⟨4, _⟩ => ⟨S8x4x8x128, .f32⟩
  | .hbm, ⟨5, _⟩ => ⟨S8x4x8x128, .f32⟩
  | .hbm, ⟨6, _⟩ => ⟨S8x4x24, .f32⟩
  | .hbm, ⟨7, _⟩ => ⟨S32x3, .f32⟩
  | .hbm, ⟨8, _⟩ => ⟨S8x32x128, .f32⟩
  | .hbm, ⟨9, _⟩ => ⟨S8x1x4x8x128, .f32⟩
  | .hbm, ⟨10, _⟩ => ⟨S_, .f32⟩
  | .hbm, ⟨11, _⟩ => ⟨S8x1x4x8x128, .f32⟩
  | .hbm, ⟨12, _⟩ => ⟨S8x1x4x8x128, .f32⟩
  | .hbm, ⟨13, _⟩ => ⟨S8x1x4x128, .f32⟩
  | .hbm, ⟨14, _⟩ => ⟨S8x1x4x128, .f32⟩
  | .hbm, ⟨15, _⟩ => ⟨S8x2x4x128, .f32⟩
  | .hbm, ⟨16, _⟩ => ⟨S8x1x2x4x128, .f32⟩
  | .hbm, ⟨17, _⟩ => ⟨S8x513x2x4x128, .f32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S1, .i32⟩
  | .hbm, ⟨22, _⟩ => ⟨S513, .i32⟩
  | .hbm, ⟨23, _⟩ => ⟨S_, .i32⟩
  | .hbm, ⟨24, _⟩ => ⟨S513, .i32⟩
  | .hbm, ⟨25, _⟩ => ⟨S513, .i32⟩
  | .hbm, ⟨26, _⟩ => ⟨S8x513x1x4x128, .f32⟩
  | .hbm, ⟨27, _⟩ => ⟨S8x513x4x128, .f32⟩
  | .hbm, ⟨28, _⟩ => ⟨S8x513x1x4x128, .f32⟩
  | .hbm, ⟨29, _⟩ => ⟨S8x513x4x128, .f32⟩
  | .hbm, ⟨30, _⟩ => ⟨S8x4x513x1x8, .f32⟩
  | .hbm, ⟨31, _⟩ => ⟨S8x1x4x8x513, .f32⟩
  | .hbm, ⟨32, _⟩ => ⟨S1x1, .i32⟩
  | .hbm, ⟨33, _⟩ => ⟨S1x513, .i32⟩
  | .hbm, ⟨34, _⟩ => ⟨S1x513, .i32⟩
  | .hbm, ⟨35, _⟩ => ⟨S1x513, .i32⟩
  | .hbm, ⟨36, _⟩ => ⟨S_, .i32⟩
  | .hbm, ⟨37, _⟩ => ⟨S1x513, .i32⟩
  | .hbm, ⟨38, _⟩ => ⟨S1x513, .i1⟩
  | .hbm, ⟨39, _⟩ => ⟨S_, .i32⟩
  | .hbm, ⟨40, _⟩ => ⟨S1x513, .i32⟩
  | .hbm, ⟨41, _⟩ => ⟨S1x513, .i1⟩
  | .hbm, ⟨42, _⟩ => ⟨S1x513, .i1⟩
  | .hbm, ⟨43, _⟩ => ⟨S1x513, .i32⟩
  | .hbm, ⟨44, _⟩ => ⟨S_, .i32⟩
  | .hbm, ⟨45, _⟩ => ⟨S1x513, .i32⟩
  | .hbm, ⟨46, _⟩ => ⟨S1x513, .i1⟩
  | .hbm, ⟨47, _⟩ => ⟨S1x513, .i1⟩
  | .hbm, ⟨48, _⟩ => ⟨S1x1x1x1x513, .i1⟩
  | .hbm, ⟨49, _⟩ => ⟨S8x1x4x8x513, .i1⟩
  | .hbm, ⟨50, _⟩ => ⟨S_, .f32⟩
  | .hbm, ⟨51, _⟩ => ⟨S_, .f32⟩
  | .hbm, ⟨52, _⟩ => ⟨S8x1x4x8x513, .f32⟩
  | .hbm, ⟨53, _⟩ => ⟨S8x1x4x8x513, .f32⟩
  | .hbm, ⟨54, _⟩ => ⟨S_, .f32⟩
  | .hbm, ⟨55, _⟩ => ⟨S8x1x4x8, .f32⟩
  | .hbm, ⟨56, _⟩ => ⟨S8x1x4x8x1, .f32⟩
  | .hbm, ⟨57, _⟩ => ⟨S8x1x4x8x513, .f32⟩
  | .hbm, ⟨58, _⟩ => ⟨S8x1x4x8x513, .f32⟩
  | .hbm, ⟨59, _⟩ => ⟨S8x1x4x8x513, .f32⟩
  | .hbm, ⟨60, _⟩ => ⟨S_, .f32⟩
  | .hbm, ⟨61, _⟩ => ⟨S_, .f32⟩
  | .hbm, ⟨62, _⟩ => ⟨S8x1x4x8x513, .f32⟩
  | .hbm, ⟨63, _⟩ => ⟨S8x1x4x8x513, .f32⟩
  | .hbm, ⟨64, _⟩ => ⟨S_, .f32⟩
  | .hbm, ⟨65, _⟩ => ⟨S8x1x4x8, .f32⟩
  | .hbm, ⟨66, _⟩ => ⟨S8x1x4x8x1, .f32⟩
  | .hbm, ⟨67, _⟩ => ⟨S_, .f32⟩
  | .hbm, ⟨68, _⟩ => ⟨S8x1x4x8x1, .f32⟩
  | .hbm, ⟨69, _⟩ => ⟨S8x1x4x8x1, .f32⟩
  | .hbm, ⟨70, _⟩ => ⟨S8x1x4x8x513, .f32⟩
  | .hbm, ⟨71, _⟩ => ⟨S8x1x4x8x513, .f32⟩
  | .hbm, ⟨72, _⟩ => ⟨S8x4x128x1x8, .f32⟩
  | .hbm, ⟨73, _⟩ => ⟨S8x1x4x8x128, .f32⟩
  | .hbm, ⟨74, _⟩ => ⟨S8x1x32x3, .f32⟩
  | .hbm, ⟨75, _⟩ => ⟨S1x1x32x3, .f32⟩
  | .hbm, ⟨76, _⟩ => ⟨S8x1x32x3, .f32⟩
  | .hbm, ⟨77, _⟩ => ⟨S8x1x32x3, .f32⟩
  | .hbm, ⟨78, _⟩ => ⟨S8x1x32x3, .f32⟩
  | .hbm, ⟨79, _⟩ => ⟨S8x1x32x3, .f32⟩
  | .hbm, ⟨80, _⟩ => ⟨S_, .f32⟩
  | .hbm, ⟨81, _⟩ => ⟨S8x1x32x3, .f32⟩
  | .hbm, ⟨82, _⟩ => ⟨S8x1x32x3, .f32⟩
  | .hbm, ⟨83, _⟩ => ⟨S_, .f32⟩
  | .hbm, ⟨84, _⟩ => ⟨S8x1x32x3, .f32⟩
  | .hbm, ⟨85, _⟩ => ⟨S8x1x32x3, .f32⟩
  | .hbm, ⟨86, _⟩ => ⟨S8x1x4x8x3, .f32⟩
  | .hbm, ⟨87, _⟩ => ⟨S8x1x4x8x1, .f32⟩
  | .hbm, ⟨88, _⟩ => ⟨S8x1x4x8x128, .f32⟩
  | .hbm, ⟨89, _⟩ => ⟨S8x1x4x8x128, .f32⟩
  | .hbm, ⟨90, _⟩ => ⟨S8x1x4x8x128, .f32⟩
  | .hbm, ⟨91, _⟩ => ⟨S8x1x4x8x1, .f32⟩
  | .hbm, ⟨92, _⟩ => ⟨S8x1x4x8x128, .f32⟩
  | .hbm, ⟨93, _⟩ => ⟨S8x1x4x8x128, .f32⟩
  | .hbm, ⟨94, _⟩ => ⟨S8x1x4x8x128, .f32⟩
  | .hbm, ⟨95, _⟩ => ⟨S8x1x4x8x128, .f32⟩
  | .hbm, ⟨96, _⟩ => ⟨S8x1x4x8x1, .f32⟩
  | .hbm, ⟨97, _⟩ => ⟨S8x1x4x8x128, .f32⟩
  | .hbm, ⟨98, _⟩ => ⟨S8x1x4x8x128, .f32⟩
  | .hbm, ⟨99, _⟩ => ⟨S8x1x4x8x128, .f32⟩
  | .hbm, ⟨100, _⟩ => ⟨S8x32x128, .f32⟩
  | .hbm, ⟨101, _⟩ => ⟨S8x32x128, .f32⟩
  | .hbm, ⟨102, _⟩ => ⟨S8x32x128, .f32⟩
  | .hbm, ⟨103, _⟩ => ⟨S_, .f32⟩
  | .hbm, ⟨104, _⟩ => ⟨S8x32x128, .f32⟩
  | .hbm, ⟨105, _⟩ => ⟨S8x32x128, .f32⟩
  | .hbm, ⟨106, _⟩ => ⟨S_, .f32⟩
  | .hbm, ⟨107, _⟩ => ⟨S8x32x128, .f32⟩
  | .hbm, ⟨108, _⟩ => ⟨S8x32x128, .f32⟩
  | .hbm, ⟨109, _⟩ => ⟨S8x32x128, .f32⟩
  | .hbm, ⟨110, _⟩ => ⟨S8x32x128, .f32⟩
  | _, _ => ⟨S8x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_0 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_c_1 : Ref sig .tc := ⟨.hbm, 36, rfl⟩
abbrev main_v24 : Ref sig .tc := ⟨.hbm, 37, rfl⟩
abbrev main_v25 : Ref sig .tc := ⟨.hbm, 38, rfl⟩
abbrev main_c_2 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_c_3 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_4 : Ref sig .tc := ⟨.hbm, 50, rfl⟩
abbrev main_call0_v0 : Ref sig .tc := ⟨.hbm, 51, rfl⟩
abbrev main_call0_v1 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_6 : Ref sig .tc := ⟨.hbm, 60, rfl⟩
abbrev main_call1_v0 : Ref sig .tc := ⟨.hbm, 61, rfl⟩
abbrev main_call1_v1 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_cst_8 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_9 : Ref sig .tc := ⟨.hbm, 80, rfl⟩
abbrev main_v56 : Ref sig .tc := ⟨.hbm, 81, rfl⟩
abbrev main_v57 : Ref sig .tc := ⟨.hbm, 82, rfl⟩
abbrev main_cst_10 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_call2_v0 : Ref sig .tc := ⟨.hbm, 101, rfl⟩
abbrev main_call2_v1 : Ref sig .tc := ⟨.hbm, 102, rfl⟩
abbrev main_call2_cst : Ref sig .tc := ⟨.hbm, 103, rfl⟩
abbrev main_call2_v2 : Ref sig .tc := ⟨.hbm, 104, rfl⟩
abbrev main_call2_v3 : Ref sig .tc := ⟨.hbm, 105, rfl⟩
abbrev main_call2_cst_0 : Ref sig .tc := ⟨.hbm, 106, rfl⟩
abbrev main_call2_v4 : Ref sig .tc := ⟨.hbm, 107, rfl⟩
abbrev main_call2_v5 : Ref sig .tc := ⟨.hbm, 108, rfl⟩
abbrev main_v75 : Ref sig .tc := ⟨.hbm, 109, rfl⟩
abbrev main_v76 : Ref sig .tc := ⟨.hbm, 110, rfl⟩

abbrev nD : Nat := 1
abbrev τ : Topo := Topo.v7x

variable {F : FTy → Type} [FloatOps F]
-- ==== NsaCmpK.lean ====
abbrev S4x2048x11776 : Shape := ⟨3, ![4, 2048, 11776]⟩
abbrev S2x32x128 : Shape := ⟨3, ![2, 32, 128]⟩
abbrev S2x32x128x256 : Shape := ⟨4, ![2, 32, 128, 256]⟩
abbrev S2x256 : Shape := ⟨2, ![2, 256]⟩
abbrev S2x256x128 : Shape := ⟨3, ![2, 256, 128]⟩
abbrev S2x128 : Shape := ⟨2, ![2, 128]⟩
abbrev S2x1x256 : Shape := ⟨3, ![2, 1, 256]⟩
abbrev S2x1x128 : Shape := ⟨3, ![2, 1, 128]⟩
abbrev S4x2x4x128x128 : Shape := ⟨5, ![4, 2, 4, 128, 128]⟩
abbrev S1x2048x128 : Shape := ⟨3, ![1, 2048, 128]⟩
abbrev S1x32x128 : Shape := ⟨3, ![1, 32, 128]⟩
abbrev S1x32x128x256 : Shape := ⟨4, ![1, 32, 128, 256]⟩
abbrev S1x1x256 : Shape := ⟨3, ![1, 1, 256]⟩
abbrev S1x256x128 : Shape := ⟨3, ![1, 256, 128]⟩
abbrev S1x1x128 : Shape := ⟨3, ![1, 1, 128]⟩
abbrev S1x1x1x128x128 : Shape := ⟨5, ![1, 1, 1, 128, 128]⟩
abbrev S128x256 : Shape := ⟨2, ![128, 256]⟩
abbrev S1x128x128 : Shape := ⟨3, ![1, 128, 128]⟩
abbrev S128x128 : Shape := ⟨2, ![128, 128]⟩
abbrev S1x128 : Shape := ⟨2, ![1, 128]⟩
abbrev S1x1x128x256 : Shape := ⟨4, ![1, 1, 128, 256]⟩
abbrev S1x256 : Shape := ⟨2, ![1, 256]⟩
abbrev S256x128 : Shape := ⟨2, ![256, 128]⟩

abbrev nBuf : Space → Nat
  | .hbm => 11
  | .vmem => 14
  | .smem => 0
  | _ => 0

abbrev bufTy : (tb : Table) → Fin (tcTables nBuf tb) → BufTy
  | .hbm, ⟨0, _⟩ => ⟨S4x2048x11776, .f32⟩
  | .hbm, ⟨1, _⟩ => ⟨S2x32x128, .f32⟩
  | .hbm, ⟨2, _⟩ => ⟨S2x32x128x256, .f32⟩
  | .hbm, ⟨3, _⟩ => ⟨S2x256, .f32⟩
  | .hbm, ⟨4, _⟩ => ⟨S2x256x128, .f32⟩
  | .hbm, ⟨5, _⟩ => ⟨S2x128, .f32⟩
  | .hbm, ⟨6, _⟩ => ⟨S2x32x128x256, .bf16⟩
  | .hbm, ⟨7, _⟩ => ⟨S2x1x256, .f32⟩
  | .hbm, ⟨8, _⟩ => ⟨S2x256x128, .bf16⟩
  | .hbm, ⟨9, _⟩ => ⟨S2x1x128, .f32⟩
  | .hbm, ⟨10, _⟩ => ⟨S4x2x4x128x128, .f32⟩
  | .local _ .vmem, ⟨0, _⟩ => ⟨S1x2048x128, .f32⟩
  | .local _ .vmem, ⟨1, _⟩ => ⟨S1x2048x128, .f32⟩
  | .local _ .vmem, ⟨2, _⟩ => ⟨S1x32x128, .f32⟩
  | .local _ .vmem, ⟨3, _⟩ => ⟨S1x32x128, .f32⟩
  | .local _ .vmem, ⟨4, _⟩ => ⟨S1x32x128x256, .bf16⟩
  | .local _ .vmem, ⟨5, _⟩ => ⟨S1x32x128x256, .bf16⟩
  | .local _ .vmem, ⟨6, _⟩ => ⟨S1x1x256, .f32⟩
  | .local _ .vmem, ⟨7, _⟩ => ⟨S1x1x256, .f32⟩
  | .local _ .vmem, ⟨8, _⟩ => ⟨S1x256x128, .bf16⟩
  | .local _ .vmem, ⟨9, _⟩ => ⟨S1x256x128, .bf16⟩
  | .local _ .vmem, ⟨10, _⟩ => ⟨S1x1x128, .f32⟩
  | .local _ .vmem, ⟨11, _⟩ => ⟨S1x1x128, .f32⟩
  | .local _ .vmem, ⟨12, _⟩ => ⟨S1x1x1x128x128, .f32⟩
  | .local _ .vmem, ⟨13, _⟩ => ⟨S1x1x1x128x128, .f32⟩
  | _, _ => ⟨S4x2048x11776, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![4, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let c32_i32 : BitVec 32 := 32#32
  let v1 : BitVec 32 := Scalar.addi c32_i32 v0
  let v2 : BitVec 32 := Scalar.addi v1 arg2
  let c0_i32 : BitVec 32 := 0#32
  let c0_i32_0 : BitVec 32 := 0#32
  ![arg0.toNat, c0_i32.toNat, v2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg1.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, arg2.toNat, c0_i32.toNat, c0_i32_0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, false]

abbrev stage0_2 : Fin 2 → Memref sig .tc .vmem S1x32x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S1x1x1x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== NsaCmpRIdeal.lean ====
abbrev S4x2048x11776 : Shape := ⟨3, ![4, 2048, 11776]⟩
abbrev S2x32x128 : Shape := ⟨3, ![2, 32, 128]⟩
abbrev S2x32x128x256 : Shape := ⟨4, ![2, 32, 128, 256]⟩
abbrev S2x256 : Shape := ⟨2, ![2, 256]⟩
abbrev S2x256x128 : Shape := ⟨3, ![2, 256, 128]⟩
abbrev S2x128 : Shape := ⟨2, ![2, 128]⟩
abbrev S4x2048x2048 : Shape := ⟨3, ![4, 2048, 2048]⟩
abbrev S4x2048x4x4x128 : Shape := ⟨5, ![4, 2048, 4, 4, 128]⟩
abbrev S4x2048x1x4x128 : Shape := ⟨5, ![4, 2048, 1, 4, 128]⟩
abbrev S4x2048x4x128 : Shape := ⟨4, ![4, 2048, 4, 128]⟩
abbrev S1x32x128 : Shape := ⟨3, ![1, 32, 128]⟩
abbrev S32x128 : Shape := ⟨2, ![32, 128]⟩
abbrev S1x32x128x256 : Shape := ⟨4, ![1, 32, 128, 256]⟩
abbrev S32x128x256 : Shape := ⟨3, ![32, 128, 256]⟩
abbrev S1x256 : Shape := ⟨2, ![1, 256]⟩
abbrev S256 : Shape := ⟨1, ![256]⟩
abbrev S1x256x128 : Shape := ⟨3, ![1, 256, 128]⟩
abbrev S256x128 : Shape := ⟨2, ![256, 128]⟩
abbrev S1x128 : Shape := ⟨2, ![1, 128]⟩
abbrev S128 : Shape := ⟨1, ![128]⟩
abbrev S127 : Shape := ⟨1, ![127]⟩
abbrev S_ : Shape := ⟨0, ![]⟩
abbrev S127x1 : Shape := ⟨2, ![127, 1]⟩
abbrev S32 : Shape := ⟨1, ![32]⟩
abbrev S1x32 : Shape := ⟨2, ![1, 32]⟩
abbrev S127x32 : Shape := ⟨2, ![127, 32]⟩
abbrev S127x32x1 : Shape := ⟨3, ![127, 32, 1]⟩
abbrev S4x127x32x4x128 : Shape := ⟨5, ![4, 127, 32, 4, 128]⟩
abbrev S32x1x128 : Shape := ⟨3, ![32, 1, 128]⟩
abbrev S1x1x32x1x128 : Shape := ⟨5, ![1, 1, 32, 1, 128]⟩
abbrev S4x127x4x256 : Shape := ⟨4, ![4, 127, 4, 256]⟩
abbrev S1x1x1x256 : Shape := ⟨4, ![1, 1, 1, 256]⟩
abbrev S4x127x4x128 : Shape := ⟨4, ![4, 127, 4, 128]⟩
abbrev S1x1x1x128 : Shape := ⟨4, ![1, 1, 1, 128]⟩
abbrev S4x1x127x4x128 : Shape := ⟨5, ![4, 1, 127, 4, 128]⟩
abbrev S4x2x127x4x128 : Shape := ⟨5, ![4, 2, 127, 4, 128]⟩
abbrev S4x2x4x127x128 : Shape := ⟨5, ![4, 2, 4, 127, 128]⟩
abbrev S4x2x4x128x128 : Shape := ⟨5, ![4, 2, 4, 128, 128]⟩

abbrev nBuf : Space → Nat
  | .hbm => 135
  | .vmem => 0
  | .smem => 0
  | _ => 0

abbrev hbmTy0_0 (i : Nat) : BufTy := match i % 128 with
  | 0 => ⟨S4x2048x11776, .f32⟩
  | 1 => ⟨S2x32x128, .f32⟩
  | 2 => ⟨S2x32x128x256, .f32⟩
  | 3 => ⟨S2x256, .f32⟩
  | 4 => ⟨S2x256x128, .f32⟩
  | 5 => ⟨S2x128, .f32⟩
  | 6 => ⟨S4x2048x2048, .f32⟩
  | 7 => ⟨S4x2048x4x4x128, .f32⟩
  | 8 => ⟨S4x2048x1x4x128, .f32⟩
  | 9 => ⟨S4x2048x4x128, .f32⟩
  | 10 => ⟨S1x32x128, .f32⟩
  | 11 => ⟨S32x128, .f32⟩
  | 12 => ⟨S1x32x128x256, .f32⟩
  | 13 => ⟨S32x128x256, .f32⟩
  | 14 => ⟨S1x256, .f32⟩
  | 15 => ⟨S256, .f32⟩
  | 16 => ⟨S1x256x128, .f32⟩
  | 17 => ⟨S256x128, .f32⟩
  | 18 => ⟨S1x128, .f32⟩
  | 19 => ⟨S128, .f32⟩
  | 20 => ⟨S127, .i32⟩
  | 21 => ⟨S_, .i32⟩
  | 22 => ⟨S127, .i32⟩
  | 23 => ⟨S127, .i32⟩
  | 24 => ⟨S127x1, .i32⟩
  | 25 => ⟨S32, .i32⟩
  | 26 => ⟨S1x32, .i32⟩
  | 27 => ⟨S127x32, .i32⟩
  | 28 => ⟨S127x32, .i32⟩
  | 29 => ⟨S127x32, .i32⟩
  | 30 => ⟨S_, .i32⟩
  | 31 => ⟨S127x32, .i32⟩
  | 32 => ⟨S127x32, .i1⟩
  | 33 => ⟨S_, .i32⟩
  | 34 => ⟨S127x32, .i32⟩
  | 35 => ⟨S127x32, .i32⟩
  | 36 => ⟨S127x32, .i32⟩
  | 37 => ⟨S127x32x1, .i32⟩
  | 38 => ⟨S4x127x32x4x128, .f32⟩
  | 39 => ⟨S32x1x128, .f32⟩
  | 40 => ⟨S1x1x32x1x128, .f32⟩
  | 41 => ⟨S4x127x32x4x128, .f32⟩
  | 42 => ⟨S4x127x32x4x128, .f32⟩
  | 43 => ⟨S4x127x4x256, .f32⟩
  | 44 => ⟨S1x1x1x256, .f32⟩
  | 45 => ⟨S4x127x4x256, .f32⟩
  | 46 => ⟨S4x127x4x256, .f32⟩
  | 47 => ⟨S4x127x4x256, .f32⟩
  | 48 => ⟨S4x127x4x256, .f32⟩
  | 49 => ⟨S_, .f32⟩
  | 50 => ⟨S4x127x4x256, .f32⟩
  | 51 => ⟨S4x127x4x256, .f32⟩
  | 52 => ⟨S4x127x4x256, .f32⟩
  | 53 => ⟨S_, .f32⟩
  | 54 => ⟨S4x127x4x256, .f32⟩
  | 55 => ⟨S4x127x4x256, .f32⟩
  | 56 => ⟨S4x127x4x256, .f32⟩
  | 57 => ⟨S_, .f32⟩
  | 58 => ⟨S4x127x4x256, .f32⟩
  | 59 => ⟨S4x127x4x256, .f32⟩
  | 60 => ⟨S_, .f32⟩
  | 61 => ⟨S4x127x4x256, .f32⟩
  | 62 => ⟨S4x127x4x256, .f32⟩
  | 63 => ⟨S4x127x4x256, .f32⟩
  | 64 => ⟨S4x127x4x128, .f32⟩
  | 65 => ⟨S1x1x1x128, .f32⟩
  | 66 => ⟨S4x127x4x128, .f32⟩
  | 67 => ⟨S4x127x4x128, .f32⟩
  | 68 => ⟨S4x2048x1x4x128, .f32⟩
  | 69 => ⟨S4x2048x4x128, .f32⟩
  | 70 => ⟨S1x32x128, .f32⟩
  | 71 => ⟨S32x128, .f32⟩
  | 72 => ⟨S1x32x128x256, .f32⟩
  | 73 => ⟨S32x128x256, .f32⟩
  | 74 => ⟨S1x256, .f32⟩
  | 75 => ⟨S256, .f32⟩
  | 76 => ⟨S1x256x128, .f32⟩
  | 77 => ⟨S256x128, .f32⟩
  | 78 => ⟨S1x128, .f32⟩
  | 79 => ⟨S128, .f32⟩
  | 80 => ⟨S127, .i32⟩
  | 81 => ⟨S_, .i32⟩
  | 82 => ⟨S127, .i32⟩
  | 83 => ⟨S127, .i32⟩
  | 84 => ⟨S127x1, .i32⟩
  | 85 => ⟨S32, .i32⟩
  | 86 => ⟨S1x32, .i32⟩
  | 87 => ⟨S127x32, .i32⟩
  | 88 => ⟨S127x32, .i32⟩
  | 89 => ⟨S127x32, .i32⟩
  | 90 => ⟨S_, .i32⟩
  | 91 => ⟨S127x32, .i32⟩
  | 92 => ⟨S127x32, .i1⟩
  | 93 => ⟨S_, .i32⟩
  | 94 => ⟨S127x32, .i32⟩
  | 95 => ⟨S127x32, .i32⟩
  | 96 => ⟨S127x32, .i32⟩
  | 97 => ⟨S127x32x1, .i32⟩
  | 98 => ⟨S4x127x32x4x128, .f32⟩
  | 99 => ⟨S32x1x128, .f32⟩
  | 100 => ⟨S1x1x32x1x128, .f32⟩
  | 101 => ⟨S4x127x32x4x128, .f32⟩
  | 102 => ⟨S4x127x32x4x128, .f32⟩
  | 103 => ⟨S4x127x4x256, .f32⟩
  | 104 => ⟨S1x1x1x256, .f32⟩
  | 105 => ⟨S4x127x4x256, .f32⟩
  | 106 => ⟨S4x127x4x256, .f32⟩
  | 107 => ⟨S4x127x4x256, .f32⟩
  | 108 => ⟨S4x127x4x256, .f32⟩
  | 109 => ⟨S_, .f32⟩
  | 110 => ⟨S4x127x4x256, .f32⟩
  | 111 => ⟨S4x127x4x256, .f32⟩
  | 112 => ⟨S4x127x4x256, .f32⟩
  | 113 => ⟨S_, .f32⟩
  | 114 => ⟨S4x127x4x256, .f32⟩
  | 115 => ⟨S4x127x4x256, .f32⟩
  | 116 => ⟨S4x127x4x256, .f32⟩
  | 117 => ⟨S_, .f32⟩
  | 118 => ⟨S4x127x4x256, .f32⟩
  | 119 => ⟨S4x127x4x256, .f32⟩
  | 120 => ⟨S_, .f32⟩
  | 121 => ⟨S4x127x4x256, .f32⟩
  | 122 => ⟨S4x127x4x256, .f32⟩
  | 123 => ⟨S4x127x4x256, .f32⟩
  | 124 => ⟨S4x127x4x128, .f32⟩
  | 125 => ⟨S1x1x1x128, .f32⟩
  | 126 => ⟨S4x127x4x128, .f32⟩
  | 127 => ⟨S4x127x4x128, .f32⟩
  | _ => ⟨S4x2048x11776, .f32⟩

abbrev hbmTy0_1 (i : Nat) : BufTy := match i % 128 with
  | 0 => ⟨S4x1x127x4x128, .f32⟩
  | 1 => ⟨S4x1x127x4x128, .f32⟩
  | 2 => ⟨S4x2x127x4x128, .f32⟩
  | 3 => ⟨S4x2x4x127x128, .f32⟩
  | 4 => ⟨S_, .i32⟩
  | 5 => ⟨S_, .f32⟩
  | 6 => ⟨S4x2x4x128x128, .f32⟩
  | _ => ⟨S4x2048x11776, .f32⟩

abbrev hbmTy (i : Nat) : BufTy := match i / 128 with
  | 0 => hbmTy0_0 i
  | 1 => hbmTy0_1 i
  | _ => ⟨S4x2048x11776, .f32⟩

abbrev bufTy : (tb : Table) → Fin (tcTables nBuf tb) → BufTy
  | .hbm, ⟨i, _⟩ => hbmTy i
  | _, _ => ⟨S4x2048x11776, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_0 : Ref sig .tc := ⟨.hbm, 30, rfl⟩
abbrev main_v23 : Ref sig .tc := ⟨.hbm, 31, rfl⟩
abbrev main_v24 : Ref sig .tc := ⟨.hbm, 32, rfl⟩
abbrev main_c_1 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_cst_2 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_cst_3 : Ref sig .tc := ⟨.hbm, 57, rfl⟩
abbrev main_v46 : Ref sig .tc := ⟨.hbm, 58, rfl⟩
abbrev main_v47 : Ref sig .tc := ⟨.hbm, 59, rfl⟩
abbrev main_cst_4 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_c_5 : Ref sig .tc := ⟨.hbm, 81, rfl⟩
abbrev main_v68 : Ref sig .tc := ⟨.hbm, 82, rfl⟩
abbrev main_v69 : Ref sig .tc := ⟨.hbm, 83, rfl⟩
abbrev main_v70 : Ref sig .tc := ⟨.hbm, 84, rfl⟩
abbrev main_v71 : Ref sig .tc := ⟨.hbm, 85, rfl⟩
abbrev main_v72 : Ref sig .tc := ⟨.hbm, 86, rfl⟩
abbrev main_v73 : Ref sig .tc := ⟨.hbm, 87, rfl⟩
abbrev main_v74 : Ref sig .tc := ⟨.hbm, 88, rfl⟩
abbrev main_v75 : Ref sig .tc := ⟨.hbm, 89, rfl⟩
abbrev main_c_6 : Ref sig .tc := ⟨.hbm, 90, rfl⟩
abbrev main_v76 : Ref sig .tc := ⟨.hbm, 91, rfl⟩
abbrev main_v77 : Ref sig .tc := ⟨.hbm, 92, rfl⟩
abbrev main_c_7 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_cst_8 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_cst_9 : Ref sig .tc := ⟨.hbm, 113, rfl⟩
abbrev main_v96 : Ref sig .tc := ⟨.hbm, 114, rfl⟩
abbrev main_v97 : Ref sig .tc := ⟨.hbm, 115, rfl⟩
abbrev main_v98 : Ref sig .tc := ⟨.hbm, 116, rfl⟩
abbrev main_cst_10 : Ref sig .tc := ⟨.hbm, 117, rfl⟩
abbrev main_v99 : Ref sig .tc := ⟨.hbm, 118, rfl⟩
abbrev main_v100 : Ref sig .tc := ⟨.hbm, 119, rfl⟩
abbrev main_cst_11 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_c_12 : Ref sig .tc := ⟨.hbm, 132, rfl⟩
abbrev main_call0_v0 : Ref sig .tc := ⟨.hbm, 133, rfl⟩
abbrev main_v112 : Ref sig .tc := ⟨.hbm, 134, rfl⟩

abbrev nD : Nat := 1
abbrev τ : Topo := Topo.v7x

variable {F : FTy → Type} [FloatOps F]
-- ==== NsaSelK.lean ====
abbrev S8x32x128 : Shape := ⟨3, ![8, 32, 128]⟩
abbrev S8x2x4x512x128 : Shape := ⟨5, ![8, 2, 4, 512, 128]⟩
abbrev S512x256 : Shape := ⟨2, ![512, 256]⟩
abbrev S8x4x8x128 : Shape := ⟨4, ![8, 4, 8, 128]⟩
abbrev S8x4x1x256 : Shape := ⟨4, ![8, 4, 1, 256]⟩
abbrev S1x8x128 : Shape := ⟨3, ![1, 8, 128]⟩
abbrev S1x1x1x512x128 : Shape := ⟨5, ![1, 1, 1, 512, 128]⟩
abbrev S1x1x8x128 : Shape := ⟨4, ![1, 1, 8, 128]⟩
abbrev S1x1x1x256 : Shape := ⟨4, ![1, 1, 1, 256]⟩
abbrev S8x128 : Shape := ⟨2, ![8, 128]⟩
abbrev S512x128 : Shape := ⟨2, ![512, 128]⟩
abbrev S8x512 : Shape := ⟨2, ![8, 512]⟩
abbrev S8 : Shape := ⟨1, ![8]⟩
abbrev S8x1 : Shape := ⟨2, ![8, 1]⟩
abbrev S512 : Shape := ⟨1, ![512]⟩
abbrev S1x512 : Shape := ⟨2, ![1, 512]⟩
abbrev S1x256 : Shape := ⟨2, ![1, 256]⟩
abbrev S1x1 : Shape := ⟨2, ![1, 1]⟩

abbrev nBuf : Space → Nat
  | .hbm => 5
  | .vmem => 11
  | .smem => 0
  | _ => 0

abbrev bufTy : (tb : Table) → Fin (tcTables nBuf tb) → BufTy
  | .hbm, ⟨0, _⟩ => ⟨S8x32x128, .f32⟩
  | .hbm, ⟨1, _⟩ => ⟨S8x2x4x512x128, .f32⟩
  | .hbm, ⟨2, _⟩ => ⟨S512x256, .bf16⟩
  | .hbm, ⟨3, _⟩ => ⟨S8x4x8x128, .f32⟩
  | .hbm, ⟨4, _⟩ => ⟨S8x4x1x256, .f32⟩
  | .local _ .vmem, ⟨0, _⟩ => ⟨S1x8x128, .f32⟩
  | .local _ .vmem, ⟨1, _⟩ => ⟨S1x8x128, .f32⟩
  | .local _ .vmem, ⟨2, _⟩ => ⟨S1x1x1x512x128, .f32⟩
  | .local _ .vmem, ⟨3, _⟩ => ⟨S1x1x1x512x128, .f32⟩
  | .local _ .vmem, ⟨4, _⟩ => ⟨S1x1x1x512x128, .f32⟩
  | .local _ .vmem, ⟨5, _⟩ => ⟨S1x1x1x512x128, .f32⟩
  | .local _ .vmem, ⟨6, _⟩ => ⟨S512x256, .bf16⟩
  | .local _ .vmem, ⟨7, _⟩ => ⟨S1x1x8x128, .f32⟩
  | .local _ .vmem, ⟨8, _⟩ => ⟨S1x1x8x128, .f32⟩
  | .local _ .vmem, ⟨9, _⟩ => ⟨S1x1x1x256, .f32⟩
  | .local _ .vmem, ⟨10, _⟩ => ⟨S1x1x1x256, .f32⟩
  | _, _ => ⟨S8x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 5 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![arg0.toNat, c1_i32.toNat, arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== NsaSelRIdeal.lean ====
abbrev S8x32x128 : Shape := ⟨3, ![8, 32, 128]⟩
abbrev S8x2x4x512x128 : Shape := ⟨5, ![8, 2, 4, 512, 128]⟩
abbrev S8x1x4x8x128 : Shape := ⟨5, ![8, 1, 4, 8, 128]⟩
abbrev S_ : Shape := ⟨0, ![]⟩
abbrev S1 : Shape := ⟨1, ![1]⟩
abbrev S8x1x4x512x128 : Shape := ⟨5, ![8, 1, 4, 512, 128]⟩
abbrev S8x4x512x128 : Shape := ⟨4, ![8, 4, 512, 128]⟩
abbrev S8x512x4x128 : Shape := ⟨4, ![8, 512, 4, 128]⟩
abbrev S512 : Shape := ⟨1, ![512]⟩
abbrev S8x4x512x1x8 : Shape := ⟨5, ![8, 4, 512, 1, 8]⟩
abbrev S8x1x4x8x512 : Shape := ⟨5, ![8, 1, 4, 8, 512]⟩
abbrev S1x512 : Shape := ⟨2, ![1, 512]⟩
abbrev S1x1 : Shape := ⟨2, ![1, 1]⟩
abbrev S1x1x1x1x512 : Shape := ⟨5, ![1, 1, 1, 1, 512]⟩
abbrev S8x1x4x8 : Shape := ⟨4, ![8, 1, 4, 8]⟩
abbrev S8x1x4x8x1 : Shape := ⟨5, ![8, 1, 4, 8, 1]⟩
abbrev S8x4x128x1x8 : Shape := ⟨5, ![8, 4, 128, 1, 8]⟩
abbrev S8x4x8x128 : Shape := ⟨4, ![8, 4, 8, 128]⟩

abbrev nBuf : Space → Nat
  | .hbm => 59
  | .vmem => 0
  | .smem => 0
  | _ => 0

abbrev bufTy : (tb : Table) → Fin (tcTables nBuf tb) → BufTy
  | .hbm, ⟨0, _⟩ => ⟨S8x32x128, .f32⟩
  | .hbm, ⟨1, _⟩ => ⟨S8x2x4x512x128, .f32⟩
  | .hbm, ⟨2, _⟩ => ⟨S8x1x4x8x128, .f32⟩
  | .hbm, ⟨3, _⟩ => ⟨S_, .f32⟩
  | .hbm, ⟨4, _⟩ => ⟨S8x1x4x8x128, .f32⟩
  | .hbm, ⟨5, _⟩ => ⟨S8x1x4x8x128, .f32⟩
  | .hbm, ⟨6, _⟩ => ⟨S1, .i32⟩
  | .hbm, ⟨7, _⟩ => ⟨S_, .i32⟩
  | .hbm, ⟨8, _⟩ => ⟨S1, .i32⟩
  | .hbm, ⟨9, _⟩ => ⟨S1, .i32⟩
  | .hbm, ⟨10, _⟩ => ⟨S8x1x4x512x128, .f32⟩
  | .hbm, ⟨11, _⟩ => ⟨S8x4x512x128, .f32⟩
  | .hbm, ⟨12, _⟩ => ⟨S8x512x4x128, .f32⟩
  | .hbm, ⟨13, _⟩ => ⟨S8x1x4x512x128, .f32⟩
  | .hbm, ⟨14, _⟩ => ⟨S8x4x512x128, .f32⟩
  | .hbm, ⟨15, _⟩ => ⟨S8x512x4x128, .f32⟩
  | .hbm, ⟨16, _⟩ => ⟨S512, .i32⟩
  | .hbm, ⟨17, _⟩ => ⟨S_, .i32⟩
  | .hbm, ⟨18, _⟩ => ⟨S512, .i32⟩
  | .hbm, ⟨19, _⟩ => ⟨S512, .i32⟩
  | .hbm, ⟨20, _⟩ => ⟨S8x4x512x1x8, .f32⟩
  | .hbm, ⟨21, _⟩ => ⟨S8x1x4x8x512, .f32⟩
  | .hbm, ⟨22, _⟩ => ⟨S1x512, .i32⟩
  | .hbm, ⟨23, _⟩ => ⟨S_, .i32⟩
  | .hbm, ⟨24, _⟩ => ⟨S1x512, .i32⟩
  | .hbm, ⟨25, _⟩ => ⟨S1x512, .i32⟩
  | .hbm, ⟨26, _⟩ => ⟨S_, .i32⟩
  | .hbm, ⟨27, _⟩ => ⟨S1x512, .i32⟩
  | .hbm, ⟨28, _⟩ => ⟨S1x512, .i32⟩
  | .hbm, ⟨29, _⟩ => ⟨S1x1, .i32⟩
  | .hbm, ⟨30, _⟩ => ⟨S1x512, .i32⟩
  | .hbm, ⟨31, _⟩ => ⟨S1x512, .i1⟩
  | .hbm, ⟨32, _⟩ => ⟨S1x1x1x1x512, .i1⟩
  | .hbm, ⟨33, _⟩ => ⟨S8x1x4x8x512, .i1⟩
  | .hbm, ⟨34, _⟩ => ⟨S_, .f32⟩
  | .hbm, ⟨35, _⟩ => ⟨S_, .f32⟩
  | .hbm, ⟨36, _⟩ => ⟨S8x1x4x8x512, .f32⟩
  | .hbm, ⟨37, _⟩ => ⟨S8x1x4x8x512, .f32⟩
  | .hbm, ⟨38, _⟩ => ⟨S_, .f32⟩
  | .hbm, ⟨39, _⟩ => ⟨S8x1x4x8, .f32⟩
  | .hbm, ⟨40, _⟩ => ⟨S8x1x4x8x1, .f32⟩
  | .hbm, ⟨41, _⟩ => ⟨S8x1x4x8x512, .f32⟩
  | .hbm, ⟨42, _⟩ => ⟨S8x1x4x8x512, .f32⟩
  | .hbm, ⟨43, _⟩ => ⟨S8x1x4x8x512, .f32⟩
  | .hbm, ⟨44, _⟩ => ⟨S_, .f32⟩
  | .hbm, ⟨45, _⟩ => ⟨S_, .f32⟩
  | .hbm, ⟨46, _⟩ => ⟨S8x1x4x8x512, .f32⟩
  | .hbm, ⟨47, _⟩ => ⟨S8x1x4x8x512, .f32⟩
  | .hbm, ⟨48, _⟩ => ⟨S_, .f32⟩
  | .hbm, ⟨49, _⟩ => ⟨S8x1x4x8, .f32⟩
  | .hbm, ⟨50, _⟩ => ⟨S8x1x4x8x1, .f32⟩
  | .hbm, ⟨51, _⟩ => ⟨S_, .f32⟩
  | .hbm, ⟨52, _⟩ => ⟨S8x1x4x8x1, .f32⟩
  | .hbm, ⟨53, _⟩ => ⟨S8x1x4x8x1, .f32⟩
  | .hbm, ⟨54, _⟩ => ⟨S8x1x4x8x512, .f32⟩
  | .hbm, ⟨55, _⟩ => ⟨S8x1x4x8x512, .f32⟩
  | .hbm, ⟨56, _⟩ => ⟨S8x4x128x1x8, .f32⟩
  | .hbm, ⟨57, _⟩ => ⟨S8x1x4x8x128, .f32⟩
  | .hbm, ⟨58, _⟩ => ⟨S8x4x8x128, .f32⟩
  | _, _ => ⟨S8x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_1 : Ref sig .tc := ⟨.hbm, 23, rfl⟩
abbrev main_v18 : Ref sig .tc := ⟨.hbm, 24, rfl⟩
abbrev main_v19 : Ref sig .tc := ⟨.hbm, 25, rfl⟩
abbrev main_c_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_call0_v0 : Ref sig .tc := ⟨.hbm, 35, rfl⟩
abbrev main_call0_v1 : Ref sig .tc := ⟨.hbm, 36, rfl⟩
abbrev main_v27 : Ref sig .tc := ⟨.hbm, 37, rfl⟩
abbrev main_cst_4 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_call1_v0 : Ref sig .tc := ⟨.hbm, 45, rfl⟩
abbrev main_call1_v1 : Ref sig .tc := ⟨.hbm, 46, rfl⟩
abbrev main_v33 : Ref sig .tc := ⟨.hbm, 47, rfl⟩
abbrev main_cst_6 : Ref sig .tc := ⟨.hbm, 48, rfl⟩
abbrev main_v34 : Ref sig .tc := ⟨.hbm, 49, rfl⟩
abbrev main_v35 : Ref sig .tc := ⟨.hbm, 50, rfl⟩
abbrev main_cst_7 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩

abbrev nD : Nat := 1
abbrev τ : Topo := Topo.v7x

variable {F : FTy → Type} [FloatOps F]
-- ==== Proof.StepRun.lean ====
/-
  THE RUN of the decoding step (hand-written): every buffer of the three-region program ends at the last boundary's
  contents `Gen.W15`; so does the result buffer, and the arguments end as they were launched.
-/
module

public import proofs.«01_k».proof.Proof.Gen.StepKIdeal.Frame

@[expose] public section

set_option maxRecDepth 16384

noncomputable section

namespace Cert.StepKIdeal.StepRun

open Cert.StepKIdeal Cert.StepKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program terminates from any memory with zero counters; its result buffer then holds the last boundary's
    contents, and each argument what it held at launch. -/
theorem run : θ_run defs (onTc (τ := τ) (main (F := F))) ⟨m, fun _ => 0, ρ⟩ (fun r => ∀ c : Dev nD,
      r.2.mem ((c.tc : Thread nD τ).loc main_v95) = W15 m ρ c (Proc.devRef .tc main_v95)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h hz => fun c =>
      ⟨h c _ (mem_uc main_v95 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c)⟩)

end Cert.StepKIdeal.StepRun

end
-- ==== Proof.StepHost.lean ====
/-
  THE HOST PART of the decoding step (hand-written): the discretised poles and input weights as whole arrays of the
  arguments, the block-diagonal weight the kernel reads, and what the buffers hold where each region is entered.
-/
module

public import proofs.«01_k».proof.Proof.Gen.StepKIdeal.Frame
public import Idealize.ShloMosaic.Lib.Pointwise
public import Idealize.ShloMosaic.Lib.Pipeline.ValueKit
public import Idealize.ShloMosaic.Lib.Claim

@[expose] public section

set_option maxRecDepth 16384

noncomputable section

namespace Cert.StepKIdeal.StepHost

open Cert.StepKIdeal Cert.StepKIdeal.Gen
open Idealize.ShloMosaic Idealize.ShloMosaic.TcCoe Idealize.SL.Sem
open Idealize.ShloMosaic.Pipeline (Dat)

/-- A parameter spread over (group, state): `x[g]` at `(g, p)`. -/
def spread (x : FVec Ideal S512 .f32) : FVec Ideal S512x64 .f32 :=
  broadcastInDim S512x64 ![0, 1] bcast_S512x1_S512x64_0_1 (broadcastInDim S512x1 ![0] bcast_S512_S512x1_0 (Host.exp x))

/-- The modulus `exp(Re a · dt)` of the discretised pole. -/
def modulus (a : FVec Ideal S512x64 .f32) (l : FVec Ideal S512 .f32) : FVec Ideal S512x64 .f32 :=
  Host.exp (mulf a (spread l))

/-- The real part of the discretised pole. -/
def poleR (a b : FVec Ideal S512x64 .f32) (l : FVec Ideal S512 .f32) : FVec Ideal S512x64 .f32 :=
  mulf (modulus a l) (Host.cos (mulf b (spread l)))

/-- The imaginary part of the discretised pole. -/
def poleI (a b : FVec Ideal S512x64 .f32) (l : FVec Ideal S512 .f32) : FVec Ideal S512x64 .f32 :=
  mulf (modulus a l) (Host.sin (mulf b (spread l)))

/-- The ones the poles are compared with. -/
def ones : FVec Ideal S512x64 .f32 :=
  broadcastInDim S512x64 ![] bcast_S_S512x64 (constant S_ .f32 0x3F800000#32)

/-- The real part of `(pole − 1) / a`. -/
def factR (a b : FVec Ideal S512x64 .f32) (l : FVec Ideal S512 .f32) : FVec Ideal S512x64 .f32 :=
  Host.divf (addf (mulf (subf (poleR a b l) ones) a) (mulf (poleI a b l) b)) (addf (mulf a a) (mulf b b))

/-- The imaginary part of `(pole − 1) / a`. -/
def factI (a b : FVec Ideal S512x64 .f32) (l : FVec Ideal S512 .f32) : FVec Ideal S512x64 .f32 :=
  Host.divf (subf (mulf (poleI a b l) a) (mulf (subf (poleR a b l) ones) b)) (addf (mulf a a) (mulf b b))

/-- A (group, state) array spread over the channels of a group. -/
def chan (x : FVec Ideal S512x64 .f32) : FVec Ideal S512x64x16 .f32 :=
  broadcastInDim S512x64x16 ![0, 1, 2] bcast_S512x64x1_S512x64x16_0_1_2
    (broadcastInDim S512x64x1 ![0, 1] bcast_S512x64_S512x64x1_0_1 x)

/-- The real half of the input weights. -/
def half0 (w : FVec Ideal S2x512x64x16 .f32) : FVec Ideal S512x64x16 .f32 :=
  shapeCast S512x64x16 (extractStridedSlice S1x512x64x16 ![0, 0, 0, 0] w slices_S2x512x64x16_S1x512x64x16_0_0_0_0)
    shapeCasts_S1x512x64x16_S512x64x16

/-- The imaginary half of the input weights. -/
def half1 (w : FVec Ideal S2x512x64x16 .f32) : FVec Ideal S512x64x16 .f32 :=
  shapeCast S512x64x16 (extractStridedSlice S1x512x64x16 ![1, 0, 0, 0] w slices_S2x512x64x16_S1x512x64x16_1_0_0_0)
    shapeCasts_S1x512x64x16_S512x64x16

/-- The real part of the discretised input weights. -/
def inR (a b : FVec Ideal S512x64 .f32) (l : FVec Ideal S512 .f32) (w : FVec Ideal S2x512x64x16 .f32) :
    FVec Ideal S512x64x16 .f32 :=
  subf (mulf (chan (factR a b l)) (half0 w)) (mulf (chan (factI a b l)) (half1 w))

/-- The imaginary part of the discretised input weights. -/
def inI (a b : FVec Ideal S512x64 .f32) (l : FVec Ideal S512 .f32) (w : FVec Ideal S2x512x64x16 .f32) :
    FVec Ideal S512x64x16 .f32 :=
  addf (mulf (chan (factR a b l)) (half1 w)) (mulf (chan (factI a b l)) (half0 w))

/-- The positions of a block-diagonal weight that hold a weight: the row's group is the column's. -/
def onDiag : IVec S1x16x1x16x1 1 :=
  broadcastInDim S1x16x1x16x1 ![1, 3] bcast_S16x16_S1x16x1x16x1_1_3
    (cmpi .eq (addi (iotaInDim S16x16 32 0) (broadcastInDim S16x16 ![] bcast_S_S16x16 (constantI S_ 32 0#32)))
      (iotaInDim S16x16 32 1))

/-- The input weights of sixteen groups as one block-diagonal matrix, for each of the 32 sixteens. -/
def diag (B : FVec Ideal S512x64x16 .f32) : FVec Ideal S32x256x1024 .f32 :=
  shapeCast S32x256x1024
    (select (broadcastInDim S32x16x16x16x64 ![0, 1, 2, 3, 4] bcast_S1x16x1x16x1_S32x16x16x16x64_0_1_2_3_4 onDiag)
      (broadcastInDim S32x16x16x16x64 ![0, 1, 2, 3, 4] bcast_S32x16x16x1x64_S32x16x16x16x64_0_1_2_3_4
        (broadcastInDim S32x16x16x1x64 ![0, 1, 2, 4] bcast_S32x16x16x64_S32x16x16x1x64_0_1_2_4
          (transpose S32x16x16x64 [0, 1, 3, 2] (shapeCast S32x16x64x16 B shapeCasts_S512x64x16_S32x16x64x16)
            transposes_S32x16x64x16_S32x16x16x64_0_1_3_2)))
      (broadcastInDim S32x16x16x16x64 ![] bcast_S_S32x16x16x16x64 (constant (F := Ideal) S_ .f32 0x00000000#32)))
    shapeCasts_S32x16x16x16x64_S32x256x1024

/-- The block-diagonal weight of the real and the imaginary part, side by side: what the kernel multiplies by. -/
def weight (BR BI : FVec Ideal S512x64x16 .f32) : FVec Ideal S32x256x2048 .bf16 :=
  truncf .bf16 (concatenate S32x256x2048 2 [⟨S32x256x1024, diag BR⟩, ⟨S32x256x1024, diag BI⟩]
    concatenates_S32x256x1024_S32x256x1024_S32x256x2048_d2) bitsLt_bf16_f32

variable (m : (ℓ : Loc nD τ sig) → Buf (Elt Ideal) ℓ) (ρ : Dev nD → PrngReg)

/-! ## The buffers where the first region is entered -/

theorem W9_v8 (c : Dev nD) : W9 m ρ c (Proc.devRef .tc main_v8)
    = poleR (m ((c.tc : Thread nD τ).loc main_arg4)) (m ((c.tc : Thread nD τ).loc main_arg5)) (m ((c.tc : Thread nD τ).loc main_arg6)) := by
  dsimp only [W9, W8, W7, W6, W5, W4, W3, W2, W1]
  after_results_simp <;> rfl

theorem W9_v12 (c : Dev nD) : W9 m ρ c (Proc.devRef .tc main_v12)
    = poleI (m ((c.tc : Thread nD τ).loc main_arg4)) (m ((c.tc : Thread nD τ).loc main_arg5)) (m ((c.tc : Thread nD τ).loc main_arg6)) := by
  dsimp only [W9, W8, W7, W6, W5, W4, W3, W2, W1]
  after_results_simp <;> rfl

theorem W9_v77 (c : Dev nD) : W9 m ρ c (Proc.devRef .tc main_v77)
    = weight (inR (m ((c.tc : Thread nD τ).loc main_arg4)) (m ((c.tc : Thread nD τ).loc main_arg5)) (m ((c.tc : Thread nD τ).loc main_arg6)) (m ((c.tc : Thread nD τ).loc main_arg7)))
      (inI (m ((c.tc : Thread nD τ).loc main_arg4)) (m ((c.tc : Thread nD τ).loc main_arg5)) (m ((c.tc : Thread nD τ).loc main_arg6)) (m ((c.tc : Thread nD τ).loc main_arg7))) := by
  dsimp only [W9, W8, W7, W6, W5, W4, W3, W2, W1]
  after_results_simp <;> rfl

theorem W9_v81 (c : Dev nD) : W9 m ρ c (Proc.devRef .tc main_v81)
    = shapeCast S8x4096 (show FVec Ideal S8x1x4096 .f32 from m ((c.tc : Thread nD τ).loc main_arg0)) shapeCasts_S8x1x4096_S8x4096 := by
  dsimp only [W9, W8, W7, W6, W5, W4, W3, W2, W1]
  after_results_simp <;> rfl

theorem W9_v82 (c : Dev nD) : W9 m ρ c (Proc.devRef .tc main_v82)
    = shapeCast S1x4096 (show FVec Ideal S4096 .f32 from m ((c.tc : Thread nD τ).loc main_arg1)) shapeCasts_S4096_S1x4096 := by
  dsimp only [W9, W8, W7, W6, W5, W4, W3, W2, W1]
  after_results_simp <;> rfl

/-! ## What the stretches between the regions leave, from the buffers they find -/

theorem W11_v85 (c : Dev nD) : W11 m ρ c (Proc.devRef .tc main_v85)
    = truncf .bf16 (show FVec Ideal S4096x16384 .f32 from m ((c.tc : Thread nD τ).loc main_arg2)) bitsLt_bf16_f32 := by
  have e := W10_args m ρ c main_arg2 (by decide)
  dsimp only [W11]
  after_results_simp
  rw [e]

theorem W11_v86 (c : Dev nD) : W11 m ρ c (Proc.devRef .tc main_v86)
    = shapeCast S8x4096 (shapeCast S8x1x4096 (show FVec Ideal S8x4096 .bf16 from W10 m ρ c (Proc.devRef .tc main_v83)) shapeCasts_S8x4096_S8x1x4096) shapeCasts_S8x1x4096_S8x4096 := by
  dsimp only [W11]
  after_results_simp <;> rfl

theorem W13_v89 (c : Dev nD) : W13 m ρ c (Proc.devRef .tc main_v89)
    = shapeCast S8x16384 (shapeCast S8x1x16384 (show FVec Ideal S8x16384 .f32 from W12 m ρ c (Proc.devRef .tc main_v87)) shapeCasts_S8x16384_S8x1x16384) shapeCasts_S8x1x16384_S8x16384 := by
  dsimp only [W13]
  after_results_simp <;> rfl

/-- What region 0 and region 1 leave alone, and the stretches about them do not write, is as at the first entry. -/
theorem W12_keep (c : Dev nD) (r : Ref sig .tc) (h0 : ∀ w : Fin cfg0.W, Pipeline.arrRef spec0 w = r → (cfg0.win w).isOut = false)
    (h1 : r ∉ hostOps1_W) (h2 : ∀ w : Fin cfg1.W, Pipeline.arrRef spec1 w = r → (cfg1.win w).isOut = false) :
    W12 m ρ c (Proc.devRef .tc r) = W9 m ρ c (Proc.devRef .tc r) :=
  (W12_of m ρ c r h2).trans ((W11_of m ρ c r h1).trans (W10_of m ρ c r h0))

theorem W13_v90 (c : Dev nD) : W13 m ρ c (Proc.devRef .tc main_v90)
    = shapeCast S32x1x1024 (poleR (m ((c.tc : Thread nD τ).loc main_arg4)) (m ((c.tc : Thread nD τ).loc main_arg5)) (m ((c.tc : Thread nD τ).loc main_arg6))) shapeCasts_S512x64_S32x1x1024 := by
  have e := (W12_keep m ρ c main_v8 (by decide) (by decide) (by decide)).trans (W9_v8 m ρ c)
  dsimp only [W13]
  after_results_simp
  rw [e]; rfl

theorem W13_v91 (c : Dev nD) : W13 m ρ c (Proc.devRef .tc main_v91)
    = shapeCast S32x1x1024 (poleI (m ((c.tc : Thread nD τ).loc main_arg4)) (m ((c.tc : Thread nD τ).loc main_arg5)) (m ((c.tc : Thread nD τ).loc main_arg6))) shapeCasts_S512x64_S32x1x1024 := by
  have e := (W12_keep m ρ c main_v12 (by decide) (by decide) (by decide)).trans (W9_v12 m ρ c)
  dsimp only [W13]
  after_results_simp
  rw [e]; rfl

theorem W13_v93 (c : Dev nD) : W13 m ρ c (Proc.devRef .tc main_v93)
    = shapeCast S8x2x32768 (show FVec Ideal S8x2x512x64 .f32 from m ((c.tc : Thread nD τ).loc main_arg3)) shapeCasts_S8x2x512x64_S8x2x32768 := by
  have e := W12_args m ρ c main_arg3 (by decide)
  dsimp only [W13]
  after_results_simp
  rw [e]; rfl

theorem W13_v77 (c : Dev nD) : W13 m ρ c (Proc.devRef .tc main_v77)
    = weight (inR (m ((c.tc : Thread nD τ).loc main_arg4)) (m ((c.tc : Thread nD τ).loc main_arg5)) (m ((c.tc : Thread nD τ).loc main_arg6)) (m ((c.tc : Thread nD τ).loc main_arg7)))
      (inI (m ((c.tc : Thread nD τ).loc main_arg4)) (m ((c.tc : Thread nD τ).loc main_arg5)) (m ((c.tc : Thread nD τ).loc main_arg6)) (m ((c.tc : Thread nD τ).loc main_arg7))) :=
  (W13_of m ρ c main_v77 (by decide)).trans
    ((W12_keep m ρ c main_v77 (by decide) (by decide) (by decide)).trans (W9_v77 m ρ c))

theorem W15_v95 (c : Dev nD) : W15 m ρ c (Proc.devRef .tc main_v95)
    = shapeCast S8x2x512x64 (show FVec Ideal S8x2x32768 .f32 from W14 m ρ c (Proc.devRef .tc main_v94_1)) shapeCasts_S8x2x32768_S8x2x512x64 := by
  dsimp only [W15]
  after_results_simp <;> rfl

end Cert.StepKIdeal.StepHost

end
-- ==== Proof.StepPoint.lean ====
/-
  ONE BLOCK OF THE RECURRENCE (hand-written): the two halves of the state that a point of the third region stores, read
  at one entry, at any contents `V` the region is entered with.
-/
module

public import proofs.«01_k».proof.Proof.Gen.StepKIdeal.Frame
public import Idealize.ShloMosaic.Lib.Pointwise
public import Idealize.ShloMosaic.Lib.Pipeline.ValueKit
public import Idealize.ShloMosaic.Lib.Claim

@[expose] public section

set_option maxRecDepth 16384

noncomputable section

namespace Cert.StepKIdeal.StepBlocks

open Cert.StepKIdeal Cert.StepKIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx2 : ∀ t : Fin cfg2.N, win2_0.index t = ![0, t.val] ∧ win2_1.index t = ![t.val, 0, 0]
    ∧ win2_3.index t = ![t.val, 0, 0] ∧ win2_4.index t = ![t.val, 0, 0] ∧ win2_6.index t = ![0, 0, t.val]
    ∧ win2_8.index t = ![0, 0, t.val] :=
  (by decide +kernel : ∀ t : Fin grid2.N, _)

/-- The real part of the state after one step, over the packed (sixteen groups, state) axis: the old state turned by
    the pole, plus the product of the input with the sixteen's weight. -/
def nextR (u : FVec Ideal S8x16384 .f32) (w : FVec Ideal S32x256x2048 .bf16) (pr pi : FVec Ideal S32x1x1024 .f32)
    (h : FVec Ideal S8x2x32768 .f32) (n : Fin 8) (q : Fin 32768) : EReal :=
  pr (ix3 ⟨q.val / 1024, by omega⟩ 0 ⟨q.val % 1024, by omega⟩) * h (ix3 n 0 q)
    - pi (ix3 ⟨q.val / 1024, by omega⟩ 0 ⟨q.val % 1024, by omega⟩) * h (ix3 n 1 q)
    + ∑ k : Fin 256, u (ix2 n ⟨q.val / 1024 * 256 + k.val, by omega⟩)
        * w (ix3 ⟨q.val / 1024, by omega⟩ k ⟨q.val % 1024, by omega⟩)

/-- The imaginary part of the state after one step. -/
def nextI (u : FVec Ideal S8x16384 .f32) (w : FVec Ideal S32x256x2048 .bf16) (pr pi : FVec Ideal S32x1x1024 .f32)
    (h : FVec Ideal S8x2x32768 .f32) (n : Fin 8) (q : Fin 32768) : EReal :=
  pr (ix3 ⟨q.val / 1024, by omega⟩ 0 ⟨q.val % 1024, by omega⟩) * h (ix3 n 1 q)
    + pi (ix3 ⟨q.val / 1024, by omega⟩ 0 ⟨q.val % 1024, by omega⟩) * h (ix3 n 0 q)
    + ∑ k : Fin 256, u (ix2 n ⟨q.val / 1024 * 256 + k.val, by omega⟩)
        * w (ix3 ⟨q.val / 1024, by omega⟩ k ⟨1024 + q.val % 1024, by omega⟩)

/-- Both parts as one array: the real one at 0 of axis 1, the imaginary one at 1. -/
def nextArr (u : FVec Ideal S8x16384 .f32) (w : FVec Ideal S32x256x2048 .bf16) (pr pi : FVec Ideal S32x1x1024 .f32)
    (h : FVec Ideal S8x2x32768 .f32) : FVec Ideal S8x2x32768 .f32 :=
  fun j => if (j 1).val = 0 then nextR u w pr pi h (j 0) (j 2) else nextI u w pr pi h (j 0) (j 2)

theorem nextArr_re (u : FVec Ideal S8x16384 .f32) (w : FVec Ideal S32x256x2048 .bf16) (pr pi : FVec Ideal S32x1x1024 .f32)
    (h : FVec Ideal S8x2x32768 .f32) (n : Fin 8) (i : Fin 2) (q : Fin 32768) (hi : i.val = 0) :
    nextArr u w pr pi h (ix3 n i q) = nextR u w pr pi h n q := if_pos hi

theorem nextArr_im (u : FVec Ideal S8x16384 .f32) (w : FVec Ideal S32x256x2048 .bf16) (pr pi : FVec Ideal S32x1x1024 .f32)
    (h : FVec Ideal S8x2x32768 .f32) (n : Fin 8) (i : Fin 2) (q : Fin 32768) (hi : ¬ i.val = 0) :
    nextArr u w pr pi h (ix3 n i q) = nextI u w pr pi h n q := if_neg hi

theorem pointI (c : Dev nD) (t : Fin cfg2.N) (q : Fin 32768) (n : Fin 8) (x : Fin 1024) (hq : q.val = t.val * 1024 + x.val) :
    k2_pay9 (F := Ideal) (iblk2 V c 0 t) (iblk2 V c 1 t) (View.ld (iblk2 V c 6 t) r2_2) (View.ld (iblk2 V c 6 t) r2_3)
      (iblk2 V c 3 t) (iblk2 V c 4 t) (ix2 n x)
    = nextI (V c main_v89) (V c main_v77) (V c main_v90) (V c main_v91) (V c main_v93) n q := by
  have ht : t.val < 32 := lt_of_lt_of_eq t.isLt N_2
  have hd : q.val / 1024 = t.val := by omega
  have hm : q.val % 1024 = x.val := by omega
  pointwise [k2_pay9, k2_pay7, k2_pay6, k2_pay5, k2_pay4, k2_pay3, k2_pay2, nextI]
  simp only [hd, hm]
  blk_point [iblk2, idx2 t]

theorem pointR (c : Dev nD) (t : Fin cfg2.N) (q : Fin 32768) (n : Fin 8) (x : Fin 1024) (hq : q.val = t.val * 1024 + x.val) :
    k2_pay8 (F := Ideal) (iblk2 V c 0 t) (iblk2 V c 1 t) (View.ld (iblk2 V c 6 t) r2_2) (View.ld (iblk2 V c 6 t) r2_3)
      (iblk2 V c 3 t) (iblk2 V c 4 t) (ix2 n x)
    = nextR (V c main_v89) (V c main_v77) (V c main_v90) (V c main_v91) (V c main_v93) n q := by
  have ht : t.val < 32 := lt_of_lt_of_eq t.isLt N_2
  have hd : q.val / 1024 = t.val := by omega
  have hm : q.val % 1024 = x.val := by omega
  pointwise [k2_pay8, k2_pay7, k2_pay6, k2_pay5, k2_pay4, k2_pay3, k2_pay2, nextR]
  simp only [hd, hm]
  blk_point [iblk2, idx2 t]

end Cert.StepKIdeal.StepBlocks

end
-- ==== Proof.StepPure.lean ====
/-
  THE ARITHMETIC OF THE DECODING STEP (hand-written): the block-diagonal weight read at an entry, and the product with it
  collapsed to the sixteen channels of one group.
-/
module

public import proofs.«01_k».proof.Proof.StepHost
public import proofs.«01_k».proof.Proof.StepPoint

@[expose] public section

set_option maxRecDepth 16384

noncomputable section

namespace Cert.StepKIdeal.StepPure

open Cert.StepKIdeal Cert.StepKIdeal.Gen Cert.StepKIdeal.StepHost
open Idealize.ShloMosaic Idealize.ShloMosaic.TcCoe Idealize.SL.Sem

/-- The diagonal mask, read: row group `a` and column group `b` agree. -/
theorem onDiag_at (a b : Fin 16) : onDiag (ix5 0 a 0 b 0) = if a.val = b.val then 1#1 else 0#1 := by
  pointwise [onDiag]
  revert a b
  decide +kernel

/-- The block-diagonal weight, read: zero off the diagonal blocks. -/
theorem diag_at (B : FVec Ideal S512x64x16 .f32) (J : Fin 32) (a : Fin 16) (c : Fin 16) (b : Fin 16) (p : Fin 64) :
    diag B (ix3 J ⟨a.val * 16 + c.val, by omega⟩ ⟨b.val * 64 + p.val, by omega⟩)
    = if a.val = b.val then B (ix3 ⟨J.val * 16 + a.val, by omega⟩ p c) else (0 : EReal) := by
  pointwise [diag]
  rw [onDiag_at]
  by_cases h : a.val = b.val
  · simp only [h, if_true]; rfl
  · simp only [h, if_false]; rfl

/-- The real half of the weight is the block-diagonal real part. -/
theorem weight_re (BR BI : FVec Ideal S512x64x16 .f32) (J : Fin 32) (k : Fin 256) (r : Fin 2048) (h : r.val < 1024) :
    weight BR BI (ix3 J k r) = diag BR (ix3 J k ⟨r.val, h⟩) := by
  pointwise [weight]
  exact dif_pos h

/-- The imaginary half of the weight is the block-diagonal imaginary part. -/
theorem weight_im (BR BI : FVec Ideal S512x64x16 .f32) (J : Fin 32) (k : Fin 256) (r : Fin 2048) (h : ¬ r.val < 1024) :
    weight BR BI (ix3 J k r) = diag BI (ix3 J k ⟨r.val - 1024, by omega⟩) := by
  pointwise [weight]
  exact dif_neg h

/-- A row times a column of the block-diagonal weight: only the column's own group of sixteen channels counts. -/
theorem sum_diag (B : FVec Ideal S512x64x16 .f32) (J : Fin 32) (b : Fin 16) (p : Fin 64) (u : Fin 256 → EReal)
    (r : Fin 1024) (hr : r.val = b.val * 64 + p.val) :
    ∑ k : Fin 256, u k * diag B (ix3 J k r)
    = ∑ c : Fin 16, u ⟨b.val * 16 + c.val, by omega⟩ * B (ix3 ⟨J.val * 16 + b.val, by omega⟩ p c) := by
  have hlt : b.val * 64 + p.val < 1024 := by clear hr; omega
  obtain rfl : r = ⟨b.val * 64 + p.val, hlt⟩ := Fin.ext hr
  rw [Fin.sum_univ_tiles 16 16 rfl (fun k : Fin 256 => u k * diag B (ix3 J k ⟨b.val * 64 + p.val, hlt⟩))]
  rw [Finset.sum_eq_single b]
  · refine Finset.sum_congr rfl fun c _ => ?_
    refine congrArg (u ⟨b.val * 16 + c.val, by omega⟩ * ·) ?_
    exact (diag_at B J b c b p).trans (if_pos rfl)
  · intro a _ ha
    refine Finset.sum_eq_zero fun c _ => ?_
    refine Eq.trans (congrArg (u ⟨a.val * 16 + c.val, by omega⟩ * ·) ((diag_at B J a c b p).trans (if_neg ?_))) (mul_zero _)
    exact fun h => ha (Fin.ext h)
  · intro h; exact absurd (Finset.mem_univ _) h

end Cert.StepKIdeal.StepPure

end
-- ==== Proof.StepBlocks.lean ====
/-
  WHAT EACH REGION OF THE DECODING STEP LEAVES (hand-written), at any contents `V` it is entered with: the norm's one
  block, the projection's sixteen column blocks as one product, and the recurrence's 32 blocks as one array.
-/
module

public import proofs.«01_k».proof.Proof.StepPoint
public import Idealize.ShloMosaic.Lib.Pointwise
public import Idealize.ShloMosaic.Lib.Pipeline.ValueKit
public import Idealize.ShloMosaic.Lib.Claim

@[expose] public section

set_option maxRecDepth 16384

noncomputable section

namespace Cert.StepKIdeal.StepBlocks

open Cert.StepKIdeal Cert.StepKIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![0, 0] ∧ win0_1.index t = ![0, 0] ∧ win0_2.index t = ![0, 0] :=
  (by decide +kernel : ∀ t : Fin grid0.N, _)

theorem idx1 : ∀ t : Fin cfg1.N, win1_0.index t = ![0, 0] ∧ win1_1.index t = ![0, t.val] ∧ win1_2.index t = ![0, t.val] :=
  (by decide +kernel : ∀ t : Fin grid1.N, _)

theorem in0_0 (c : Dev nD) (t : Fin cfg0.N) : iblk0 V c 0 t = V c main_v81 := by blk_ext! [iblk0, idx0 t]

theorem in0_1 (c : Dev nD) (t : Fin cfg0.N) : iblk0 V c 1 t = V c main_v82 := by blk_ext! [iblk0, idx0 t]

/-- The norm's array is the norm of the whole input: it has one block. -/
theorem arr0 (c : Dev nD) : (dat0 V c).arrAt 2 cfg0.N
    = k0_pay1 (F := Ideal) (V c main_v81) (V c main_v82) := by
  refine (dat0 V c).arrAt_eq_of_after_last 2 t0_0 (by decide +kernel) _ fun j => ?_
  blk_simp
  rw [after0_2]
  frame_out
  rw [in0_0 V c, in0_1 V c]

/-- The projection of eight rows. -/
def proj (X : FVec Ideal S8x4096 .bf16) (W : FVec Ideal S4096x16384 .bf16) : FVec Ideal S8x16384 .f32 :=
  fun j => ∑ k : Fin 4096, X (ix2 (j 0) k) * W (ix2 k (j 1))

theorem arr1 (c : Dev nD) : (dat1 V c).arrAt 2 cfg1.N = proj (V c main_v86) (V c main_v85) := by
  refine (dat1 V c).arrAt_eq_of_covers 2 _ (by decide +kernel) fun t _ y => ?_
  blk_simp
  rw [after1_2]
  frame_out
  pointwise [k1_pay1, proj]
  blk_point [iblk1, idx1 t]

theorem arr2 (c : Dev nD) : (dat2 V c).arrAt 8 cfg2.N
    = nextArr (V c main_v89) (V c main_v77) (V c main_v90) (V c main_v91) (V c main_v93) := by
  refine (dat2 V c).arrAt_eq_of_covers 8 _ (by decide +kernel) fun t _ y => ?_
  blk_simp
  rw [after2_8]
  frame_out
  have hy0 : (y 0 : ℕ) < 8 := (y 0).isLt
  have hy1 : (y 1 : ℕ) < 2 := (y 1).isLt
  have hy : (y 2 : ℕ) < 1024 := (y 2).isLt
  have ht : t.val < 32 := lt_of_lt_of_eq t.isLt N_2
  refine Eq.trans (b := nextArr (V c main_v89) (V c main_v77) (V c main_v90) (V c main_v91) (V c main_v93)
    (ix3 ⟨(y 0 : ℕ), hy0⟩ ⟨(y 1 : ℕ), hy1⟩ ⟨t.val * 1024 + (y 2 : ℕ), by omega⟩)) ?_ (congrArg _ ?_)
  · canon_tiles x h
    case piece0 =>
      refine Eq.trans ?_ (nextArr_im _ _ _ _ _ _ _ _ (show ¬ (y 1 : ℕ) = 0 by omega)).symm
      refine Eq.trans ?_ (pointI V c t _ ⟨(y 0 : ℕ), hy0⟩ ⟨(x 2 : ℕ), x2_lt⟩ (by show t.val * 1024 + (y 2 : ℕ) = t.val * 1024 + (x 2 : ℕ); omega))
      pointwise [k2_pay11]
      blk_ext
    case piece1 =>
      refine Eq.trans ?_ (nextArr_re _ _ _ _ _ _ _ _ (show (y 1 : ℕ) = 0 by omega)).symm
      refine Eq.trans ?_ (pointR V c t _ ⟨(y 0 : ℕ), hy0⟩ ⟨(x 2 : ℕ), x2_lt⟩ (by show t.val * 1024 + (y 2 : ℕ) = t.val * 1024 + (x 2 : ℕ); omega))
      pointwise [k2_pay10]
      blk_ext
  · blk_ext [idx2 t]

end Cert.StepKIdeal.StepBlocks

end
-- ==== Proof.StepRef.lean ====
/-
  THE REFERENCE OF THE DECODING STEP (hand-written): its result as a short term over the same parameters, and that term
  read at an entry.
-/
module

public import proofs.«01_k».proof.Proof.StepHost
public import proofs.«01_k».proof.Proof.Gen.StepRIdeal.Run
public import Idealize.ShloMosaic.Lib.Pointwise

@[expose] public section

set_option maxRecDepth 16384

noncomputable section

namespace Cert.StepRIdeal.StepRef

open Cert.StepRIdeal Cert.StepRIdeal.Gen
open Cert.StepKIdeal.StepHost (poleR poleI inR inI)
open Idealize.ShloMosaic Idealize.ShloMosaic.TcCoe Idealize.SL.Sem

/-- The normalised input. -/
def normed (x : FVec Ideal S8x1x4096 .f32) (g : FVec Ideal S4096 .f32) : FVec Ideal S8x1x4096 .f32 :=
  mulf (mulf x (broadcastInDim S8x1x4096 ![0, 1, 2] bcast_S8x1x1_S8x1x4096_0_1_2
      (Host.rsqrt (addf (Host.divf (broadcastInDim S8x1x1 ![0, 1] bcast_S8x1_S8x1x1_0_1
          (Host.reduceAdd (mulf x x) (constant S_ .f32 0x00000000#32) reducesTo_S8x1x4096_S8x1_d2 h_S_))
        (broadcastInDim S8x1x1 ![] bcast_S_S8x1x1 (constant S_ .f32 0x45800000#32)))
        (broadcastInDim S8x1x1 ![] bcast_S_S8x1x1 (constant S_ .f32 0x358637BD#32))))))
    (broadcastInDim S8x1x4096 ![0, 1, 2] bcast_S1x1x4096_S8x1x4096_0_1_2
      (broadcastInDim S1x1x4096 ![2] bcast_S4096_S1x1x4096_2 g))

/-- The recurrence's input: the first half of the projection, by group and channel. -/
def inp (x : FVec Ideal S8x1x4096 .f32) (g : FVec Ideal S4096 .f32) (w : FVec Ideal S4096x16384 .f32) :
    FVec Ideal S8x512x16 .f32 :=
  shapeCast _ (extractStridedSlice S8x1x8192 ![0, 0, 0]
    (Host.dotGeneral dot_S8x1x4096_S4096x16384_S8x1x16384_2_0_01_1_n_n none (normed x g) w)
    slices_S8x1x16384_S8x1x8192_0_0_0) shapeCasts_S8x1x8192_S8x512x16

/-- The input times a discretised weight. -/
def fed (u : FVec Ideal S8x512x16 .f32) (B : FVec Ideal S512x64x16 .f32) : FVec Ideal S8x512x64 .f32 :=
  transpose S8x512x64 [1, 0, 2] (Host.dotGeneral dot_S8x512x16_S512x64x16_S512x8x64_2_2_0_1_1_0 none u B)
    transposes_S512x8x64_S8x512x64_1_0_2

/-- A pole for every sample. -/
def each (p : FVec Ideal S512x64 .f32) : FVec Ideal S8x512x64 .f32 :=
  broadcastInDim S8x512x64 ![0, 1, 2] bcast_S1x512x64_S8x512x64_0_1_2
    (broadcastInDim S1x512x64 ![1, 2] bcast_S512x64_S1x512x64_1_2 p)

/-- The old state's real part. -/
def old0 (h : FVec Ideal S8x2x512x64 .f32) : FVec Ideal S8x512x64 .f32 :=
  shapeCast _ (extractStridedSlice S8x1x512x64 ![0, 0, 0, 0] h slices_S8x2x512x64_S8x1x512x64_0_0_0_0)
    shapeCasts_S8x1x512x64_S8x512x64

/-- The old state's imaginary part. -/
def old1 (h : FVec Ideal S8x2x512x64 .f32) : FVec Ideal S8x512x64 .f32 :=
  shapeCast _ (extractStridedSlice S8x1x512x64 ![0, 1, 0, 0] h slices_S8x2x512x64_S8x1x512x64_0_1_0_0)
    shapeCasts_S8x1x512x64_S8x512x64

/-- The new state's real part. -/
def newR (u : FVec Ideal S8x512x16 .f32) (B : FVec Ideal S512x64x16 .f32) (pr pi : FVec Ideal S512x64 .f32)
    (h : FVec Ideal S8x2x512x64 .f32) : FVec Ideal S8x512x64 .f32 :=
  subf (addf (fed u B) (mulf (each pr) (old0 h))) (mulf (each pi) (old1 h))

/-- The new state's imaginary part. -/
def newI (u : FVec Ideal S8x512x16 .f32) (B : FVec Ideal S512x64x16 .f32) (pr pi : FVec Ideal S512x64 .f32)
    (h : FVec Ideal S8x2x512x64 .f32) : FVec Ideal S8x512x64 .f32 :=
  addf (addf (fed u B) (mulf (each pr) (old1 h))) (mulf (each pi) (old0 h))

/-- The new state. -/
def new (re im : FVec Ideal S8x512x64 .f32) : FVec Ideal S8x2x512x64 .f32 :=
  concatenate S8x2x512x64 1
    [⟨S8x1x512x64, broadcastInDim S8x1x512x64 ![0, 2, 3] bcast_S8x512x64_S8x1x512x64_0_2_3 re⟩,
      ⟨S8x1x512x64, broadcastInDim S8x1x512x64 ![0, 2, 3] bcast_S8x512x64_S8x1x512x64_0_2_3 im⟩]
    concatenates_S8x1x512x64_S8x1x512x64_S8x2x512x64_d1

variable (m : (ℓ : Loc nD τ sig) → Buf (Elt Ideal) ℓ)

theorem res (c : Dev nD) : Value.res_main_v93 (F := Ideal) m c =
    new
      (newR (inp (m ((c.tc : Thread nD τ).loc main_arg0)) (m ((c.tc : Thread nD τ).loc main_arg1)) (m ((c.tc : Thread nD τ).loc main_arg2)))
        (inR (m ((c.tc : Thread nD τ).loc main_arg4)) (m ((c.tc : Thread nD τ).loc main_arg5)) (m ((c.tc : Thread nD τ).loc main_arg6)) (m ((c.tc : Thread nD τ).loc main_arg7)))
        (poleR (m ((c.tc : Thread nD τ).loc main_arg4)) (m ((c.tc : Thread nD τ).loc main_arg5)) (m ((c.tc : Thread nD τ).loc main_arg6)))
        (poleI (m ((c.tc : Thread nD τ).loc main_arg4)) (m ((c.tc : Thread nD τ).loc main_arg5)) (m ((c.tc : Thread nD τ).loc main_arg6)))
        (m ((c.tc : Thread nD τ).loc main_arg3)))
      (newI (inp (m ((c.tc : Thread nD τ).loc main_arg0)) (m ((c.tc : Thread nD τ).loc main_arg1)) (m ((c.tc : Thread nD τ).loc main_arg2)))
        (inI (m ((c.tc : Thread nD τ).loc main_arg4)) (m ((c.tc : Thread nD τ).loc main_arg5)) (m ((c.tc : Thread nD τ).loc main_arg6)) (m ((c.tc : Thread nD τ).loc main_arg7)))
        (poleR (m ((c.tc : Thread nD τ).loc main_arg4)) (m ((c.tc : Thread nD τ).loc main_arg5)) (m ((c.tc : Thread nD τ).loc main_arg6)))
        (poleI (m ((c.tc : Thread nD τ).loc main_arg4)) (m ((c.tc : Thread nD τ).loc main_arg5)) (m ((c.tc : Thread nD τ).loc main_arg6)))
        (m ((c.tc : Thread nD τ).loc main_arg3))) := rfl

theorem normed_at (x : FVec Ideal S8x1x4096 .f32) (g : FVec Ideal S4096 .f32) (n : Fin 8) (k : Fin 4096) :
    normed x g (ix3 n 0 k)
      = x (ix3 n 0 k) * Ideal.rsqrt (Ideal.div (∑ l : Fin 4096, x (ix3 n 0 l) * x (ix3 n 0 l)) (Ideal.ofBits .f32 0x45800000#32)
          + Ideal.ofBits .f32 0x358637BD#32) * g (ix1 k) := by
  pointwise [normed]

theorem inp_at (x : FVec Ideal S8x1x4096 .f32) (g : FVec Ideal S4096 .f32) (w : FVec Ideal S4096x16384 .f32)
    (n : Fin 8) (q : Fin 512) (c : Fin 16) : inp x g w (ix3 n q c)
      = ∑ k : Fin 4096, normed x g (ix3 n 0 k) * w (ix2 k ⟨q.val * 16 + c.val, by omega⟩) := by
  pointwise [inp]

theorem newR_at (u : FVec Ideal S8x512x16 .f32) (B : FVec Ideal S512x64x16 .f32) (pr pi : FVec Ideal S512x64 .f32)
    (h : FVec Ideal S8x2x512x64 .f32) (n : Fin 8) (g : Fin 512) (p : Fin 64) : newR u B pr pi h (ix3 n g p)
      = ((∑ c : Fin 16, u (ix3 n g c) * B (ix3 g p c)) + pr (ix2 g p) * h (ix4 n 0 g p)) - pi (ix2 g p) * h (ix4 n 1 g p) := by
  pointwise [newR, fed, each, old0, old1]

theorem newI_at (u : FVec Ideal S8x512x16 .f32) (B : FVec Ideal S512x64x16 .f32) (pr pi : FVec Ideal S512x64 .f32)
    (h : FVec Ideal S8x2x512x64 .f32) (n : Fin 8) (g : Fin 512) (p : Fin 64) : newI u B pr pi h (ix3 n g p)
      = ((∑ c : Fin 16, u (ix3 n g c) * B (ix3 g p c)) + pr (ix2 g p) * h (ix4 n 1 g p)) + pi (ix2 g p) * h (ix4 n 0 g p) := by
  pointwise [newI, fed, each, old0, old1]

theorem new_at (re im : FVec Ideal S8x512x64 .f32) (n : Fin 8) (i : Fin 2) (g : Fin 512) (p : Fin 64) :
    new re im (ix4 n i g p) = if i.val = 0 then re (ix3 n g p) else im (ix3 n g p) := by
  pointwise [new]
  by_cases h : i.val = 0
  · rw [dif_pos (by omega), if_pos h]
  · rw [dif_neg (by omega), if_neg h]

end Cert.StepRIdeal.StepRef

end
-- ==== Proof.StepValue.lean ====
/-
  THE DECODING STEP IS ITS REFERENCE (hand-written): the kernel's result as one term of the arguments, read at an entry,
  is the reference's.
-/
module

public import proofs.«01_k».proof.Proof.StepPure
public import proofs.«01_k».proof.Proof.StepBlocks
public import proofs.«01_k».proof.Proof.StepRef

@[expose] public section

set_option maxRecDepth 16384

noncomputable section

namespace Cert.StepKIdeal.StepValue

open Cert.StepKIdeal Cert.StepKIdeal.Gen Cert.StepKIdeal.StepHost Cert.StepKIdeal.StepBlocks Cert.StepKIdeal.StepPure
open Idealize.ShloMosaic Idealize.ShloMosaic.TcCoe Idealize.SL.Sem

/-- The projection the recurrence reads, from the arguments. -/
def fedBy (x : FVec Ideal S8x1x4096 .f32) (g : FVec Ideal S4096 .f32) (w : FVec Ideal S4096x16384 .f32) :
    FVec Ideal S8x16384 .f32 :=
  shapeCast S8x16384 (shapeCast S8x1x16384
    (proj (shapeCast S8x4096 (shapeCast S8x1x4096
        (k0_pay1 (F := Ideal) (shapeCast S8x4096 x shapeCasts_S8x1x4096_S8x4096) (shapeCast S1x4096 g shapeCasts_S4096_S1x4096))
        shapeCasts_S8x4096_S8x1x4096) shapeCasts_S8x1x4096_S8x4096)
      (truncf .bf16 w bitsLt_bf16_f32))
    shapeCasts_S8x16384_S8x1x16384) shapeCasts_S8x1x16384_S8x16384

/-- The kernel's result, from the arguments and the discretised parameters. -/
def stepOut (x : FVec Ideal S8x1x4096 .f32) (g : FVec Ideal S4096 .f32) (w : FVec Ideal S4096x16384 .f32)
    (h : FVec Ideal S8x2x512x64 .f32) (pr pi : FVec Ideal S512x64 .f32) (BR BI : FVec Ideal S512x64x16 .f32) :
    FVec Ideal S8x2x512x64 .f32 :=
  shapeCast S8x2x512x64
    (nextArr (fedBy x g w) (weight BR BI) (shapeCast S32x1x1024 pr shapeCasts_S512x64_S32x1x1024)
      (shapeCast S32x1x1024 pi shapeCasts_S512x64_S32x1x1024) (shapeCast S8x2x32768 h shapeCasts_S8x2x512x64_S8x2x32768))
    shapeCasts_S8x2x32768_S8x2x512x64

variable (m : (ℓ : Loc nD τ sig) → Buf (Elt Ideal) ℓ) (ρ : Dev nD → PrngReg)

/-- The result buffer at the end. -/
theorem result (c : Dev nD) : W15 m ρ c (Proc.devRef .tc main_v95)
    = stepOut (m ((c.tc : Thread nD τ).loc main_arg0)) (m ((c.tc : Thread nD τ).loc main_arg1)) (m ((c.tc : Thread nD τ).loc main_arg2))
        (m ((c.tc : Thread nD τ).loc main_arg3))
        (poleR (m ((c.tc : Thread nD τ).loc main_arg4)) (m ((c.tc : Thread nD τ).loc main_arg5)) (m ((c.tc : Thread nD τ).loc main_arg6)))
        (poleI (m ((c.tc : Thread nD τ).loc main_arg4)) (m ((c.tc : Thread nD τ).loc main_arg5)) (m ((c.tc : Thread nD τ).loc main_arg6)))
        (inR (m ((c.tc : Thread nD τ).loc main_arg4)) (m ((c.tc : Thread nD τ).loc main_arg5)) (m ((c.tc : Thread nD τ).loc main_arg6)) (m ((c.tc : Thread nD τ).loc main_arg7)))
        (inI (m ((c.tc : Thread nD τ).loc main_arg4)) (m ((c.tc : Thread nD τ).loc main_arg5)) (m ((c.tc : Thread nD τ).loc main_arg6)) (m ((c.tc : Thread nD τ).loc main_arg7))) := by
  have e83 : W10 m ρ c (Proc.devRef .tc main_v83) = k0_pay1 (F := Ideal)
      (shapeCast S8x4096 (show FVec Ideal S8x1x4096 .f32 from m ((c.tc : Thread nD τ).loc main_arg0)) shapeCasts_S8x1x4096_S8x4096)
      (shapeCast S1x4096 (show FVec Ideal S4096 .f32 from m ((c.tc : Thread nD τ).loc main_arg1)) shapeCasts_S4096_S1x4096) := by
    refine (W10_arr m ρ c 2).trans ((arr0 (V9 m ρ) c).trans ?_)
    rw [show V9 m ρ c main_v81 = _ from W9_v81 m ρ c, show V9 m ρ c main_v82 = _ from W9_v82 m ρ c]
  have e87 : W12 m ρ c (Proc.devRef .tc main_v87) = proj (V11 m ρ c main_v86) (V11 m ρ c main_v85) :=
    (W12_arr m ρ c 2).trans (arr1 (V11 m ρ) c)
  have e94 : W14 m ρ c (Proc.devRef .tc main_v94_1) = nextArr (V13 m ρ c main_v89) (V13 m ρ c main_v77) (V13 m ρ c main_v90)
      (V13 m ρ c main_v91) (V13 m ρ c main_v93) :=
    (W14_arr m ρ c 8).trans (arr2 (V13 m ρ) c)
  rw [W15_v95, e94, show V13 m ρ c main_v89 = _ from W13_v89 m ρ c, show V13 m ρ c main_v77 = _ from W13_v77 m ρ c,
    show V13 m ρ c main_v90 = _ from W13_v90 m ρ c, show V13 m ρ c main_v91 = _ from W13_v91 m ρ c,
    show V13 m ρ c main_v93 = _ from W13_v93 m ρ c, e87, show V11 m ρ c main_v86 = _ from W11_v86 m ρ c,
    show V11 m ρ c main_v85 = _ from W11_v85 m ρ c, e83]
  rfl

end Cert.StepKIdeal.StepValue

end
-- ==== Proof.StepEq.lean ====
/-
  THE EQUATION OF THE DECODING STEP (hand-written): the kernel's term of the arguments is the reference's.
-/
module

public import proofs.«01_k».proof.Proof.StepValue

@[expose] public section

set_option maxRecDepth 16384

noncomputable section

namespace Cert.StepKIdeal.StepValue

open Cert.StepKIdeal Cert.StepKIdeal.Gen Cert.StepKIdeal.StepHost Cert.StepKIdeal.StepBlocks Cert.StepKIdeal.StepPure
open Cert.StepRIdeal.StepRef (normed normed_at inp inp_at newR newR_at newI newI_at new new_at)
open Idealize.ShloMosaic Idealize.ShloMosaic.TcCoe Idealize.SL.Sem

/-- The projection, read. -/
theorem fedBy_at (x : FVec Ideal S8x1x4096 .f32) (g : FVec Ideal S4096 .f32) (w : FVec Ideal S4096x16384 .f32) (n : Fin 8)
    (q : Fin 16384) : fedBy x g w (ix2 n q) = ∑ k : Fin 4096, normed x g (ix3 n 0 k) * w (ix2 k q) := by
  simp only [normed_at]
  pointwise [fedBy, proj, k0_pay1]

/-- A pole in the packed layout, read. -/
theorem pole_at (P : FVec Ideal S512x64 .f32) (g : Fin 512) (p : Fin 64) (q : Fin 32768) (hq : q.val = g.val * 64 + p.val) :
    shapeCast S32x1x1024 P shapeCasts_S512x64_S32x1x1024 (ix3 ⟨q.val / 1024, by omega⟩ 0 ⟨q.val % 1024, by omega⟩)
    = P (ix2 g p) := by
  have hp := p.isLt
  pointwise
  refine congrArg₂ (fun a b => P (ix2 a b)) (Fin.ext ?_) (Fin.ext ?_)
  · show q.val / 1024 * 16 + q.val % 1024 / 64 = g.val
    omega
  · show q.val % 1024 % 64 = p.val
    omega

/-- The product with the packed real weight, read. -/
theorem mix_re (x : FVec Ideal S8x1x4096 .f32) (g : FVec Ideal S4096 .f32) (w : FVec Ideal S4096x16384 .f32)
    (BR BI : FVec Ideal S512x64x16 .f32) (n : Fin 8) (e : Fin 512) (p : Fin 64) (q : Fin 32768) (hq : q.val = e.val * 64 + p.val) :
    (∑ k : Fin 256, fedBy x g w (ix2 n ⟨q.val / 1024 * 256 + k.val, by omega⟩)
        * weight BR BI (ix3 ⟨q.val / 1024, by omega⟩ k ⟨q.val % 1024, by omega⟩))
    = ∑ c : Fin 16, inp x g w (ix3 n e c) * BR (ix3 e p c) := by
  have he := e.isLt
  have hp := p.isLt
  have hJ : q.val / 1024 < 32 := by omega
  have hb : e.val % 16 < 16 := by omega
  refine Eq.trans (Finset.sum_congr rfl fun k _ => congrArg (fedBy x g w (ix2 n ⟨q.val / 1024 * 256 + k.val, by omega⟩) * ·)
    (weight_re BR BI ⟨q.val / 1024, hJ⟩ k ⟨q.val % 1024, by omega⟩ (show q.val % 1024 < 1024 by omega))) ?_
  refine (sum_diag BR ⟨q.val / 1024, hJ⟩ ⟨e.val % 16, hb⟩ p (fun k => fedBy x g w (ix2 n ⟨q.val / 1024 * 256 + k.val, by omega⟩))
    ⟨q.val % 1024, by omega⟩ (show q.val % 1024 = e.val % 16 * 64 + p.val by omega)).trans ?_
  refine Finset.sum_congr rfl fun c _ => ?_
  rw [show (⟨q.val / 1024 * 16 + e.val % 16, by omega⟩ : Fin 512) = e from Fin.ext (by show q.val / 1024 * 16 + e.val % 16 = e.val; omega)]
  refine congrArg (· * BR (ix3 e p c)) ?_
  rw [inp_at]
  refine (congrArg (fun i => fedBy x g w (ix2 n i)) (Fin.ext ?_)).trans (fedBy_at x g w n ⟨e.val * 16 + c.val, by omega⟩)
  show q.val / 1024 * 256 + (e.val % 16 * 16 + c.val) = e.val * 16 + c.val
  omega

/-- The product with the packed imaginary weight, read. -/
theorem mix_im (x : FVec Ideal S8x1x4096 .f32) (g : FVec Ideal S4096 .f32) (w : FVec Ideal S4096x16384 .f32)
    (BR BI : FVec Ideal S512x64x16 .f32) (n : Fin 8) (e : Fin 512) (p : Fin 64) (q : Fin 32768) (hq : q.val = e.val * 64 + p.val) :
    (∑ k : Fin 256, fedBy x g w (ix2 n ⟨q.val / 1024 * 256 + k.val, by omega⟩)
        * weight BR BI (ix3 ⟨q.val / 1024, by omega⟩ k ⟨1024 + q.val % 1024, by omega⟩))
    = ∑ c : Fin 16, inp x g w (ix3 n e c) * BI (ix3 e p c) := by
  have he := e.isLt
  have hp := p.isLt
  have hJ : q.val / 1024 < 32 := by omega
  have hb : e.val % 16 < 16 := by omega
  refine Eq.trans (Finset.sum_congr rfl fun k _ => congrArg (fedBy x g w (ix2 n ⟨q.val / 1024 * 256 + k.val, by omega⟩) * ·)
    (weight_im BR BI ⟨q.val / 1024, hJ⟩ k ⟨1024 + q.val % 1024, by omega⟩ (show ¬ 1024 + q.val % 1024 < 1024 by omega))) ?_
  refine (sum_diag BI ⟨q.val / 1024, hJ⟩ ⟨e.val % 16, hb⟩ p (fun k => fedBy x g w (ix2 n ⟨q.val / 1024 * 256 + k.val, by omega⟩))
    ⟨1024 + q.val % 1024 - 1024, by omega⟩ (show 1024 + q.val % 1024 - 1024 = e.val % 16 * 64 + p.val by omega)).trans ?_
  refine Finset.sum_congr rfl fun c _ => ?_
  rw [show (⟨q.val / 1024 * 16 + e.val % 16, by omega⟩ : Fin 512) = e from Fin.ext (by show q.val / 1024 * 16 + e.val % 16 = e.val; omega)]
  refine congrArg (· * BI (ix3 e p c)) ?_
  rw [inp_at]
  refine (congrArg (fun i => fedBy x g w (ix2 n i)) (Fin.ext ?_)).trans (fedBy_at x g w n ⟨e.val * 16 + c.val, by omega⟩)
  show q.val / 1024 * 256 + (e.val % 16 * 16 + c.val) = e.val * 16 + c.val
  omega

/-- The kernel's term is the reference's. -/
theorem stepOut_eq (x : FVec Ideal S8x1x4096 .f32) (g : FVec Ideal S4096 .f32) (w : FVec Ideal S4096x16384 .f32)
    (h : FVec Ideal S8x2x512x64 .f32) (pr pi : FVec Ideal S512x64 .f32) (BR BI : FVec Ideal S512x64x16 .f32) :
    stepOut x g w h pr pi BR BI
    = new (newR (inp x g w) BR pr pi h) (newI (inp x g w) BI pr pi h) := by
  funext j
  obtain ⟨n, i, e, p, rfl⟩ : ∃ (n : Fin 8) (i : Fin 2) (e : Fin 512) (p : Fin 64), j = ix4 n i e p :=
    ⟨j 0, j 1, j 2, j 3, by idx_vars j⟩
  rw [new_at, newR_at, newI_at]
  have hold : ∀ i : Fin 2, shapeCast S8x2x32768 h shapeCasts_S8x2x512x64_S8x2x32768 (ix3 n i ⟨e.val * 64 + p.val, by omega⟩)
      = h (ix4 n i e p) := by
    intro i
    pointwise
  have hout : stepOut x g w h pr pi BR BI (ix4 n i e p) = nextArr (fedBy x g w) (weight BR BI) (shapeCast S32x1x1024 pr shapeCasts_S512x64_S32x1x1024)
      (shapeCast S32x1x1024 pi shapeCasts_S512x64_S32x1x1024) (shapeCast S8x2x32768 h shapeCasts_S8x2x512x64_S8x2x32768)
      (ix3 n i ⟨e.val * 64 + p.val, by omega⟩) := by
    pointwise [stepOut]
  rw [hout]
  by_cases hi : i.val = 0
  · rw [if_pos hi, nextArr_re _ _ _ _ _ _ _ _ hi]
    unfold nextR
    rw [pole_at pr e p _ rfl, pole_at pi e p _ rfl, mix_re x g w BR BI n e p _ rfl, hold 0, hold 1]
    rw [sub_eq_add_neg, sub_eq_add_neg, add_right_comm, add_comm (pr (ix2 e p) * h (ix4 n 0 e p))]
  · rw [if_neg hi, nextArr_im _ _ _ _ _ _ _ _ hi]
    unfold nextI
    rw [pole_at pr e p _ rfl, pole_at pi e p _ rfl, mix_im x g w BR BI n e p _ rfl, hold 0, hold 1]
    rw [add_comm, add_assoc]

end Cert.StepKIdeal.StepValue

end
-- ==== Proof.StepClaim.lean ====
/-
  THE CLAIMS ABOUT THE DECODING STEP (hand-written): the kernel's run and the reference's, and their equal results.
-/
module

public import proofs.«01_k».proof.Defs
public import proofs.«01_k».proof.Proof.StepRun
public import proofs.«01_k».proof.Proof.StepEq

@[expose] public section

set_option maxRecDepth 16384

noncomputable section

namespace Cert.Proof.StepClaim

open Idealize.ShloMosaic Idealize.SL.Sem
open Cert.StepKIdeal.StepHost (poleR poleI inR inI)

/-- The reference has host operations only, and no counter to leave raised. -/
theorem frame_R : Cert.quiescent_StepRIdeal := by
  intro m g _
  exact (θ_run _ _ _).mono (fun r h => ⟨fun c => (h c).2, sem_eq_zero_of_no_sems (by decide) _⟩)
    (Cert.StepRIdeal.Value.run (F := Ideal) m g)

/-- From memories that agree on the arguments the kernel and the reference end with the same new state. -/
theorem algebraic : Cert.algebraic_StepKIdeal_StepRIdeal := by
  intro m g m' g' _ hagree
  refine ⟨fun c => Cert.StepRIdeal.Value.res_main_v93 (F := Ideal) m' c, ?_, Cert.StepRIdeal.Value.run (F := Ideal) m' g'⟩
  refine (θ_run _ _ _).mono (fun r h c => ⟨(h c).1.trans ?_, (h c).2⟩) (Cert.StepKIdeal.StepRun.run (F := Ideal) m g)
  obtain ⟨h0, h1, h2, h3, h4, h5, h6, h7, -, -⟩ := hagree c
  rw [Cert.StepKIdeal.StepValue.result, Cert.StepKIdeal.StepValue.stepOut_eq]
  refine Eq.trans ?_ (Cert.StepRIdeal.StepRef.res m' c).symm
  rw [h0, h1, h2, h3, h4, h5, h6, h7]

end Cert.Proof.StepClaim

end
-- ==== Proof.HeadValue.lean ====
/-
  THE NORMALISED INPUT PROJECTION (hand-written): what its two regions leave, and so its result, from the arguments.
-/
module

public import proofs.«01_k».proof.Proof.Gen.HeadKIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.HeadKIdeal.HeadValue

open Cert.HeadKIdeal Cert.HeadKIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![t.val, 0] ∧ win0_1.index t = ![0, 0] ∧ win0_2.index t = ![t.val, 0] :=
  (by decide +kernel : ∀ t : Fin grid0.N, _)

theorem idx1 : ∀ t : Fin cfg1.N, win1_0.index t = ![t.val / 16, 0] ∧ win1_1.index t = ![0, t.val % 16]
    ∧ win1_2.index t = ![t.val / 16, t.val % 16] :=
  (by decide +kernel : ∀ t : Fin grid1.N, _)

/-- The weighted root-mean-square norm of a row, at a channel. -/
def normAt (row : Fin 4096 → EReal) (g : EReal) (k : Fin 4096) : EReal :=
  row k * Ideal.rsqrt (Ideal.div (∑ l, row l * row l) (Ideal.ofBits FTy.f32 0x45800000#32) + Ideal.ofBits FTy.f32 0x358637BD#32) * g

/-- The norm's array. -/
def normArr (X : FVec Ideal S8192x4096 .f32) (g : FVec Ideal S1x4096 .f32) : FVec Ideal S8192x4096 .bf16 :=
  fun j => normAt (fun k => X (ix2 (j 0) k)) (g (ix2 0 (j 1))) (j 1)

theorem arr0 (c : Dev nD) : (dat0 V c).arrAt 2 cfg0.N = normArr (V c main_v0) (V c main_v1) := by
  refine (dat0 V c).arrAt_eq_of_covers 2 _ (by decide +kernel) fun t _ y => ?_
  blk_simp
  rw [after0_2]
  frame_out
  pointwise [k0_pay1, normArr, normAt]
  blk_point [iblk0, idx0 t]

/-- The projection's array. -/
def proj (X : FVec Ideal S8192x4096 .bf16) (W : FVec Ideal S4096x16384 .bf16) : FVec Ideal S8192x16384 .f32 :=
  fun j => ∑ k : Fin 4096, X (ix2 (j 0) k) * W (ix2 k (j 1))

theorem arr1 (c : Dev nD) : (dat1 V c).arrAt 2 cfg1.N = proj (V c main_v5) (V c main_v4) := by
  refine (dat1 V c).arrAt_eq_of_covers 2 _ (by decide +kernel) fun t _ y => ?_
  blk_simp
  rw [after1_2]
  frame_out
  pointwise [k1_pay1, proj]
  blk_point [iblk1, idx1 t]

variable (m : (ℓ : Loc nD τ sig) → Buf (Elt Ideal) ℓ) (ρ : Dev nD → PrngReg)

/-- The kernel's result from its arguments. -/
def headOut (x : FVec Ideal S4x2048x4096 .f32) (g : FVec Ideal S4096 .f32) (w : FVec Ideal S4096x16384 .f32) :
    FVec Ideal S4x2048x16384 .f32 :=
  shapeCast S4x2048x16384
    (proj (shapeCast S8192x4096 (shapeCast S4x2048x4096
        (normArr (shapeCast S8192x4096 x shapeCasts_S4x2048x4096_S8192x4096) (shapeCast S1x4096 g shapeCasts_S4096_S1x4096))
        shapeCasts_S8192x4096_S4x2048x4096) shapeCasts_S4x2048x4096_S8192x4096)
      (truncf .bf16 w bitsLt_bf16_f32))
    shapeCasts_S8192x16384_S4x2048x16384

/-- The result buffer at the end. -/
theorem result (c : Dev nD) : W5 m ρ c (Proc.devRef .tc main_v7)
    = headOut (m ((c.tc : Thread nD τ).loc main_arg0)) (m ((c.tc : Thread nD τ).loc main_arg1)) (m ((c.tc : Thread nD τ).loc main_arg2)) := by
  have e0 : V1 m ρ c main_v0 = shapeCast S8192x4096 (show FVec Ideal S4x2048x4096 .f32 from m ((c.tc : Thread nD τ).loc main_arg0)) shapeCasts_S4x2048x4096_S8192x4096 := by
    dsimp only [V1, W1]
    after_results_simp <;> rfl
  have e1 : V1 m ρ c main_v1 = shapeCast S1x4096 (show FVec Ideal S4096 .f32 from m ((c.tc : Thread nD τ).loc main_arg1)) shapeCasts_S4096_S1x4096 := by
    dsimp only [V1, W1]
    after_results_simp <;> rfl
  have e2 : W2 m ρ c (Proc.devRef .tc main_v2) = normArr (V1 m ρ c main_v0) (V1 m ρ c main_v1) :=
    (W2_arr m ρ c 2).trans (arr0 (V1 m ρ) c)
  have e5 : V3 m ρ c main_v5 = shapeCast S8192x4096 (shapeCast S4x2048x4096 (normArr (V1 m ρ c main_v0) (V1 m ρ c main_v1))
      shapeCasts_S8192x4096_S4x2048x4096) shapeCasts_S4x2048x4096_S8192x4096 := by
    dsimp only [V3, W3]
    after_results_simp
    rw [e2]
    rfl
  have e4 : V3 m ρ c main_v4 = truncf .bf16 (show FVec Ideal S4096x16384 .f32 from m ((c.tc : Thread nD τ).loc main_arg2)) bitsLt_bf16_f32 := by
    have e := W2_args m ρ c main_arg2 (by decide)
    dsimp only [V3, W3]
    after_results_simp
    rw [e]
  have e6 : W4 m ρ c (Proc.devRef .tc main_v6) = proj (V3 m ρ c main_v5) (V3 m ρ c main_v4) :=
    (W4_arr m ρ c 2).trans (arr1 (V3 m ρ) c)
  dsimp only [W5]
  after_results_simp
  rw [e6, e5, e4, e0, e1]
  rfl

end Cert.HeadKIdeal.HeadValue

end
-- ==== Proof.HeadRun.lean ====
/-
  THE RUN of the normalised input projection (hand-written): every buffer of the program ends at the last boundary's contents
  `Gen.W5`; so does the result buffer, and the arguments end as they were launched.
-/
module

public import proofs.«01_k».proof.Proof.Gen.HeadKIdeal.Frame

@[expose] public section

set_option maxRecDepth 16384

noncomputable section

namespace Cert.HeadKIdeal.HeadRun

open Cert.HeadKIdeal Cert.HeadKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program terminates from any memory with zero counters; its result buffer then holds the last boundary's
    contents, and each argument what it held at launch. -/
theorem run : θ_run defs (onTc (τ := τ) (main (F := F))) ⟨m, fun _ => 0, ρ⟩ (fun r => ∀ c : Dev nD,
      r.2.mem ((c.tc : Thread nD τ).loc main_v7) = W5 m ρ c (Proc.devRef .tc main_v7)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v7 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c)⟩)

end Cert.HeadKIdeal.HeadRun

end
-- ==== Proof.HeadClaim.lean ====
/-
  THE NORMALISED INPUT PROJECTION (hand-written): its reference, and the claims.
-/
module

public import proofs.«01_k».proof.Proof.HeadValue
public import proofs.«01_k».proof.Defs
public import proofs.«01_k».proof.Proof.HeadRun
public import proofs.«01_k».proof.Proof.Gen.HeadRIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.HeadClaim

open Cert.HeadRIdeal Cert.HeadRIdeal.Gen
open Cert.HeadKIdeal.HeadValue (headOut normAt normArr proj)
open Idealize.ShloMosaic Idealize.ShloMosaic.TcCoe Idealize.SL.Sem Idealize.ShloMosaic.StableHlo

/-- The reference has host operations only, and no counter to leave raised. -/
theorem frame_R : Cert.quiescent_HeadRIdeal := by
  intro m g _
  exact (θ_run _ _ _).mono (fun r h => ⟨fun c => (h c).2, sem_eq_zero_of_no_sems (by decide) _⟩)
    (Cert.HeadRIdeal.Value.run (F := Ideal) m g)

/-- The reference's operations composed. -/
def refHead (x : FVec Ideal S4x2048x4096 .f32) (g : FVec Ideal S4096 .f32) (w : FVec Ideal S4096x16384 .f32) :
    FVec Ideal S4x2048x16384 .f32 :=
  Host.dotGeneral dot_S4x2048x4096_S4096x16384_S4x2048x16384_2_0_01_1_n_n none
    (mulf (mulf x (broadcastInDim S4x2048x4096 ![0, 1, 2] bcast_S4x2048x1_S4x2048x4096_0_1_2
      (Host.rsqrt (addf (Host.divf (broadcastInDim S4x2048x1 ![0, 1] bcast_S4x2048_S4x2048x1_0_1
          (Host.reduceAdd (mulf x x) (constant S_ .f32 0x00000000#32) reducesTo_S4x2048x4096_S4x2048_d2 h_S_))
        (broadcastInDim S4x2048x1 ![] bcast_S_S4x2048x1 (constant S_ .f32 0x45800000#32)))
        (broadcastInDim S4x2048x1 ![] bcast_S_S4x2048x1 (constant S_ .f32 0x358637BD#32))))))
      (broadcastInDim S4x2048x4096 ![0, 1, 2] bcast_S1x1x4096_S4x2048x4096_0_1_2 (broadcastInDim S1x1x4096 ![2] bcast_S4096_S1x1x4096_2 g))) w

theorem refHead_at (x : FVec Ideal S4x2048x4096 .f32) (g : FVec Ideal S4096 .f32) (w : FVec Ideal S4096x16384 .f32)
    (n : Fin 4) (t : Fin 2048) (q : Fin 16384) :
    refHead x g w (ix3 n t q) = ∑ k : Fin 4096, normAt (fun l => x (ix3 n t l)) (g (ix1 k)) k * w (ix2 k q) := by
  pointwise [refHead, normAt]

theorem headOut_at (x : FVec Ideal S4x2048x4096 .f32) (g : FVec Ideal S4096 .f32) (w : FVec Ideal S4096x16384 .f32)
    (n : Fin 4) (t : Fin 2048) (q : Fin 16384) :
    headOut x g w (ix3 n t q) = ∑ k : Fin 4096, normAt (fun l => x (ix3 n t l)) (g (ix1 k)) k * w (ix2 k q) := by
  pointwise [headOut, proj, normArr, normAt]

theorem headOut_eq (x : FVec Ideal S4x2048x4096 .f32) (g : FVec Ideal S4096 .f32) (w : FVec Ideal S4096x16384 .f32) :
    headOut x g w = refHead x g w := by
  funext j
  obtain ⟨n, t, q, rfl⟩ : ∃ n t q, j = ix3 n t q := by
    idx_vars j
    exact ⟨_, _, _, rfl⟩
  exact (headOut_at x g w n t q).trans (refHead_at x g w n t q).symm

/-- From memories that agree on the arguments the kernel and the reference end with the same projection. -/
theorem algebraic : Cert.algebraic_HeadKIdeal_HeadRIdeal := by
  intro m g m' g' _ hagree
  refine ⟨fun c => refHead (m' ((c.tc : Thread nD τ).loc main_arg0)) (m' ((c.tc : Thread nD τ).loc main_arg1))
    (m' ((c.tc : Thread nD τ).loc main_arg2)), ?_, Cert.HeadRIdeal.Value.run (F := Ideal) m' g'⟩
  refine (θ_run _ _ _).mono (fun r h c => ⟨(h c).1.trans ?_, (h c).2⟩) (Cert.HeadKIdeal.HeadRun.run (F := Ideal) m g)
  obtain ⟨h0, h1, h2⟩ := hagree c
  rw [Cert.HeadKIdeal.HeadValue.result]
  refine (headOut_eq _ _ _).trans ?_
  beta_reduce
  rw [h0, h1, h2]

end Cert.Proof.HeadClaim

end
-- ==== Proof.GluValue.lean ====
/-
  THE HALF-GLU (hand-written): the array the gated product leaves is the gate of the whole product.
-/
module

public import proofs.«01_k».proof.Proof.Gen.GluKIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.GluKIdeal.GluValue

open Cert.GluKIdeal Cert.GluKIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 32, t.val % 2] ∧ win0_1.index t = ![t.val % 2, t.val / 2 % 16]
    ∧ win0_2.index t = ![0, t.val / 2 % 16] ∧ win0_3.index t = ![t.val / 32, t.val / 2 % 16]
    ∧ win0_4.index t = ![t.val / 32, 16 + t.val / 2 % 16] ∧ win0_5.index t = ![t.val / 32, t.val / 2 % 16] :=
  (by decide +kernel : ∀ t : Fin grid0.N, _)

/-- The gated activation at token `r` and channel `q`: `g · sigmoid(g·W + b) · z · sigmoid(z)`. -/
def gateAt (G : FVec Ideal S4x2048x8192 .bf16) (U : FVec Ideal S4x2048x16384 .f32) (W : FVec Ideal S8192x8192 .f32)
    (B : FVec Ideal S8192 .f32) (r q : Fin 8192) : EReal :=
  G (ix3 ⟨r.val / 2048, by omega⟩ ⟨r.val % 2048, by omega⟩ q)
    * Ideal.logistic ((∑ k : Fin 8192, G (ix3 ⟨r.val / 2048, by omega⟩ ⟨r.val % 2048, by omega⟩ k) * W (ix2 k q)) + B (ix1 q))
    * (U (ix3 ⟨r.val / 2048, by omega⟩ ⟨r.val % 2048, by omega⟩ ⟨8192 + q.val, by omega⟩)
      * Ideal.logistic (U (ix3 ⟨r.val / 2048, by omega⟩ ⟨r.val % 2048, by omega⟩ ⟨8192 + q.val, by omega⟩)))

/-- The gated activations. -/
def gate (G : FVec Ideal S4x2048x8192 .bf16) (U : FVec Ideal S4x2048x16384 .f32) (W : FVec Ideal S8192x8192 .f32)
    (B : FVec Ideal S8192 .f32) : FVec Ideal S8192x8192 .bf16 := fun j => gateAt G U W B (j 0) (j 1)

theorem point (c : Dev nD) (s t : Fin cfg0.N) (hs : s.val + 1 = t.val) (ht : t.val % 2 = 1) (n : Fin 1024) (x : Fin 512)
    (r q : Fin 8192) (hr : r.val = t.val / 32 * 1024 + n.val) (hq : q.val = t.val / 2 % 16 * 512 + x.val) :
    k0_pay3 (F := Ideal) (k0_pay2 (F := Ideal) (k0_pay2 (F := Ideal) (k0_pay1 (F := Ideal)) (iblk m c 0 s) (iblk m c 1 s)) (iblk m c 0 t) (iblk m c 1 t))
      (iblk m c 2 t) (iblk m c 3 t) (iblk m c 4 t) (ix2 n x)
    = gateAt (m ((c : Thread nD τ).loc main_arg0)) (m ((c : Thread nD τ).loc main_arg1)) (m ((c : Thread nD τ).loc main_arg2))
        (m ((c : Thread nD τ).loc main_arg3)) r q := by
  have hN : t.val < 256 := lt_of_lt_of_eq t.isLt N_0
  have e1 : s.val / 32 = t.val / 32 := by omega
  have e2 : s.val / 2 % 16 = t.val / 2 % 16 := by omega
  have e3 : s.val % 2 = 0 := by omega
  have hsum : ∀ f : Fin 8192 → EReal, ∑ k : Fin 8192, f k
      = (∑ k : Fin 4096, f ⟨0 * 4096 + k.val, by omega⟩) + ∑ k : Fin 4096, f ⟨1 * 4096 + k.val, by omega⟩ := by
    intro f
    rw [Fin.sum_univ_tiles 2 4096 rfl f, Fin.sum_univ_two]
    rfl
  pointwise [k0_pay3, k0_pay2, k0_pay1, gateAt]
  rw [hsum]
  blk_point [iblk, V, idx t, idx s]

/-- The array after the run. -/
theorem final (c : Dev nD) : (dats m 0 c).arrAt 5 cfg0.N
    = gate (m ((c : Thread nD τ).loc main_arg0)) (m ((c : Thread nD τ).loc main_arg1)) (m ((c : Thread nD τ).loc main_arg2))
        (m ((c : Thread nD τ).loc main_arg3)) := by
  refine (dats m 0 c).arrAt_eq_of_covers 5 _ (by decide +kernel) fun t hf y => ?_
  have ht : t.val % 2 = 1 := (flush0_5 t).mp hf
  have hp : t.val - 1 < cfg0.N := lt_of_le_of_lt (Nat.sub_le _ _) t.isLt
  blk_simp
  rw [after0_5, outsAt0_B m c t (by omega) ht, outsAt0_A m c ⟨t.val - 1, hp⟩ (by show (t.val - 1) % 2 = 0; omega)
    (by show ¬ (t.val - 1) % 2 = 1; omega)]
  frame_out
  rw [read_unread_whole]
  have hy : y = ix2 (y 0) (y 1) := by
    idx_vars y
    rfl
  conv_lhs => rw [hy]
  refine point m c ⟨t.val - 1, hp⟩ t (by show t.val - 1 + 1 = t.val; omega) ht (y 0) (y 1) _ _ ?_ ?_
  · blk_simp [idx t]
    done
  · blk_simp [idx t]
    done

end Cert.GluKIdeal.GluValue

end
-- ==== Proof.GluEq.lean ====
/-
  THE HALF-GLU'S REFERENCE (hand-written): its host operations, read at a token and a channel, are the gate.
-/
module

public import proofs.«01_k».proof.Proof.GluValue
public import proofs.«01_k».proof.Proof.Gen.GluRIdeal.Run

@[expose] public section

set_option maxRecDepth 16384

noncomputable section

namespace Cert.GluRIdeal.GluEq

open Cert.GluRIdeal Cert.GluRIdeal.Gen
open Idealize.ShloMosaic Idealize.ShloMosaic.TcCoe Idealize.SL.Sem Idealize.ShloMosaic.StableHlo

/-- `sigmoid x = 1 / (1 + exp(-x))` on the host. -/
def sig (x : FVec Ideal S4x2048x8192 .f32) : FVec Ideal S4x2048x8192 .f32 :=
  Host.divf (broadcastInDim S4x2048x8192 ![] bcast_S_S4x2048x8192 (constant S_ .f32 0x3F800000#32))
    (addf (broadcastInDim S4x2048x8192 ![] bcast_S_S4x2048x8192 (constant S_ .f32 0x3F800000#32)) (Host.exp (Host.negf x)))

/-- The reference's operations composed. -/
def refGlu (G : FVec Ideal S4x2048x8192 .bf16) (U : FVec Ideal S4x2048x16384 .f32) (W : FVec Ideal S8192x8192 .f32)
    (B : FVec Ideal S8192 .f32) : FVec Ideal S8192x8192 .bf16 :=
  shapeCast _ (truncf .bf16 (mulf (mulf (extf .f32 G bitsLt_bf16_f32)
    (sig (addf (Host.dotGeneral dot_S4x2048x8192_S8192x8192_S4x2048x8192_2_0_01_1_n_n none (extf .f32 G bitsLt_bf16_f32) W)
      (broadcastInDim S4x2048x8192 ![0, 1, 2] bcast_S1x1x8192_S4x2048x8192_0_1_2 (broadcastInDim S1x1x8192 ![2] bcast_S8192_S1x1x8192_2 B)))))
    (mulf (extractStridedSlice S4x2048x8192 ![0, 0, 8192] U slices_S4x2048x16384_S4x2048x8192_0_0_8192)
      (sig (extractStridedSlice S4x2048x8192 ![0, 0, 8192] U slices_S4x2048x16384_S4x2048x8192_0_0_8192)))) bitsLt_bf16_f32) shapeCasts_S4x2048x8192_S8192x8192

/-- The host's `1 / (1 + exp(-x))` is the logistic function. -/
theorem sig_at (x : FVec Ideal S4x2048x8192 .f32) (n : Fin 4) (t : Fin 2048) (q : Fin 8192) :
    sig x (ix3 n t q) = Ideal.logistic (x (ix3 n t q)) := by
  pointwise [sig]
  rfl

theorem refGlu_eq (G : FVec Ideal S4x2048x8192 .bf16) (U : FVec Ideal S4x2048x16384 .f32) (W : FVec Ideal S8192x8192 .f32)
    (B : FVec Ideal S8192 .f32) : refGlu G U W B = Cert.GluKIdeal.GluValue.gate G U W B := by
  funext j
  obtain ⟨r, q, rfl⟩ : ∃ r q, j = ix2 r q := by
    idx_vars j
    exact ⟨_, _, rfl⟩
  show _ = Cert.GluKIdeal.GluValue.gateAt G U W B r q
  pointwise [refGlu, sig_at, Cert.GluKIdeal.GluValue.gateAt]
  trace_state

end Cert.GluRIdeal.GluEq

end
-- ==== Proof.GluClaim.lean ====
/-
  THE CLAIMS ABOUT THE HALF-GLU (hand-written): the kernel's run and the reference's, and their equal results.
-/
module

public import proofs.«01_k».proof.Defs
public import proofs.«01_k».proof.Proof.GluValue
public import proofs.«01_k».proof.Proof.Gen.GluKIdeal.Value
public import proofs.«01_k».proof.Proof.GluEq

@[expose] public section

set_option maxRecDepth 16384

noncomputable section

namespace Cert.Proof.GluClaim

open Idealize.ShloMosaic Idealize.SL.Sem

/-- The reference has host operations only, and no counter to leave raised. -/
theorem frame_R : Cert.quiescent_GluRIdeal := by
  intro m g _
  exact (θ_run _ _ _).mono (fun r h => ⟨fun c => (h c).2, sem_eq_zero_of_no_sems (by decide) _⟩)
    (Cert.GluRIdeal.Value.run (F := Ideal) m g)

/-- From memories that agree on the arguments the kernel and the reference end with the same gated activations. -/
theorem algebraic : Cert.algebraic_GluKIdeal_GluRIdeal := by
  intro m g m' g' _ hagree
  refine ⟨fun c => _, ?_, Cert.GluRIdeal.Value.run (F := Ideal) m' g'⟩
  refine (θ_run _ _ _).mono (fun r h c => ⟨(h c).1.trans ?_, (h c).2⟩) (Cert.GluKIdeal.Value.run_blocks (F := Ideal) m g)
  obtain ⟨h0, h1, h2, h3⟩ := hagree c
  rw [Cert.GluKIdeal.GluValue.final]
  refine Eq.trans ?_ (Cert.GluRIdeal.GluEq.refGlu_eq _ _ _ _).symm
  rw [h0, h1, h2, h3]

end Cert.Proof.GluClaim

end
-- ==== Proof.OutValue.lean ====
/-
  THE OUTPUT PROJECTION (hand-written): the array the blocked product leaves is the whole product.
-/
module

public import proofs.«01_k».proof.Proof.Gen.OutKIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.OutKIdeal.OutValue

open Cert.OutKIdeal Cert.OutKIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 16, t.val % 2] ∧ win0_1.index t = ![t.val % 2, t.val / 2 % 8]
    ∧ win0_2.index t = ![t.val / 16, t.val / 2 % 8] :=
  (by decide +kernel : ∀ t : Fin grid0.N, _)

/-- The product at token `r` and channel `q`. -/
def prodAt (G : FVec Ideal S8192x8192 .bf16) (W : FVec Ideal S8192x4096 .f32) (r : Fin 8192) (q : Fin 4096) : EReal :=
  ∑ k : Fin 8192, G (ix2 r k) * W (ix2 k q)

/-- The product. -/
def prod (G : FVec Ideal S8192x8192 .bf16) (W : FVec Ideal S8192x4096 .f32) : FVec Ideal S8192x4096 .f32 :=
  fun j => prodAt G W (j 0) (j 1)

/-- What the second of a block's two points stores, at row `n` and column `x` of the block. -/
theorem point (c : Dev nD) (s t : Fin cfg0.N) (hs : s.val + 1 = t.val) (ht : t.val % 2 = 1) (n : Fin 1024) (x : Fin 512)
    (r : Fin 8192) (q : Fin 4096) (hr : r.val = t.val / 16 * 1024 + n.val) (hq : q.val = t.val / 2 % 8 * 512 + x.val) :
    k0_pay2 (F := Ideal) (k0_pay2 (F := Ideal) (k0_pay1 (F := Ideal)) (iblk m c 0 s) (iblk m c 1 s)) (iblk m c 0 t) (iblk m c 1 t) (ix2 n x)
    = prodAt (m ((c : Thread nD τ).loc main_arg0)) (m ((c : Thread nD τ).loc main_arg1)) r q := by
  have hN : t.val < 128 := lt_of_lt_of_eq t.isLt N_0
  have e1 : s.val / 16 = t.val / 16 := by omega
  have e2 : s.val / 2 % 8 = t.val / 2 % 8 := by omega
  have e3 : s.val % 2 = 0 := by omega
  have hsum : ∀ f : Fin 8192 → EReal, ∑ k : Fin 8192, f k
      = (∑ k : Fin 4096, f ⟨0 * 4096 + k.val, by omega⟩) + ∑ k : Fin 4096, f ⟨1 * 4096 + k.val, by omega⟩ := by
    intro f
    rw [Fin.sum_univ_tiles 2 4096 rfl f, Fin.sum_univ_two]
    rfl
  pointwise [k0_pay2, k0_pay1, prodAt]
  rw [hsum]
  blk_point [iblk, V, idx t, idx s]

/-- The array after the run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t hf y => ?_
  have ht : t.val % 2 = 1 := (flush0_2 t).mp hf
  have hp : t.val - 1 < cfg0.N := lt_of_le_of_lt (Nat.sub_le _ _) t.isLt
  blk_simp
  rw [after0_2, outsAt0_B m c t (by omega) ht, outsAt0_A m c ⟨t.val - 1, hp⟩ (by show (t.val - 1) % 2 = 0; omega)
    (by show ¬ (t.val - 1) % 2 = 1; omega)]
  frame_out
  rw [read_unread_whole]
  have hy : y = ix2 (y 0) (y 1) := by
    idx_vars y
    rfl
  conv_lhs => rw [hy]
  refine point m c ⟨t.val - 1, hp⟩ t (by show t.val - 1 + 1 = t.val; omega) ht (y 0) (y 1) _ _ ?_ ?_
  · blk_simp [idx t]
    done
  · blk_simp [idx t]
    done

end Cert.OutKIdeal.OutValue

end
-- ==== Proof.OutClaim.lean ====
/-
  THE CLAIMS ABOUT THE OUTPUT PROJECTION (hand-written): the kernel's run and the reference's, and their equal results.
-/
module

public import proofs.«01_k».proof.Defs
public import proofs.«01_k».proof.Proof.OutValue
public import proofs.«01_k».proof.Proof.Gen.OutKIdeal.Value
public import proofs.«01_k».proof.Proof.Gen.OutRIdeal.Run

@[expose] public section

set_option maxRecDepth 16384

noncomputable section

namespace Cert.Proof.OutClaim

open Idealize.ShloMosaic Idealize.SL.Sem

/-- The reference has host operations only, and no counter to leave raised. -/
theorem frame_R : Cert.quiescent_OutRIdeal := by
  intro m g _
  exact (θ_run _ _ _).mono (fun r h => ⟨fun c => (h c).2, sem_eq_zero_of_no_sems (by decide) _⟩)
    (Cert.OutRIdeal.Value.run (F := Ideal) m g)

/-- The reference's product is the sum over the 8192 channels. -/
theorem ref_eq (G : FVec Ideal Cert.OutRIdeal.S8192x8192 .bf16) (W : FVec Ideal Cert.OutRIdeal.S8192x4096 .f32) :
    Host.dotGeneral Cert.OutRIdeal.dot_S8192x8192_S8192x4096_S8192x4096_1_0_0_1_n_n none (extf .f32 G Cert.OutRIdeal.Gen.bitsLt_bf16_f32) W
      = Cert.OutKIdeal.OutValue.prod G W := by
  funext j
  obtain ⟨r, q, rfl⟩ : ∃ r q, j = ix2 r q := by
    idx_vars j
    exact ⟨_, _, rfl⟩
  show _ = Cert.OutKIdeal.OutValue.prodAt G W r q
  pointwise [Cert.OutKIdeal.OutValue.prodAt]

/-- From memories that agree on the arguments the kernel and the reference end with the same product. -/
theorem algebraic : Cert.algebraic_OutKIdeal_OutRIdeal := by
  intro m g m' g' _ hagree
  refine ⟨fun c => _, ?_, Cert.OutRIdeal.Value.run (F := Ideal) m' g'⟩
  refine (θ_run _ _ _).mono (fun r h c => ⟨(h c).1.trans ?_, (h c).2⟩) (Cert.OutKIdeal.Value.run_blocks (F := Ideal) m g)
  obtain ⟨h0, h1⟩ := hagree c
  rw [Cert.OutKIdeal.OutValue.final]
  refine Eq.trans ?_ (ref_eq _ _).symm
  rw [h0, h1]

end Cert.Proof.OutClaim

end
-- ==== Proof.NsaValue.lean ====
/-
  THE NSA LAYER'S ENTRY FOR THE PROMPT (hand-written): what the two regions leave, from the arguments.
-/
module

public import proofs.«01_k».proof.Proof.Gen.NsaKIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.NsaKIdeal.NsaValue

open Cert.NsaKIdeal Cert.NsaKIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

theorem idx1 : ∀ t : Fin cfg1.N, win1_0.index t = ![t.val / 23, 0] ∧ win1_1.index t = ![0, t.val % 23]
    ∧ win1_2.index t = ![t.val / 23, t.val % 23] :=
  (by decide +kernel : ∀ t : Fin grid1.N, _)

/-- The weighted root-mean-square norm of a row, at a channel. -/
def normAt (row : Fin 4096 → EReal) (g : EReal) (k : Fin 4096) : EReal :=
  row k * Ideal.rsqrt (Ideal.div (∑ l, row l * row l) (Ideal.ofBits FTy.f32 0x45800000#32) + Ideal.ofBits FTy.f32 0x358637BD#32) * g

/-- The residual stream plus the normed block output. -/
def resArr (h y : FVec Ideal S8192x4096 .f32) (g : FVec Ideal S1x4096 .f32) : FVec Ideal S8192x4096 .f32 :=
  fun j => h j + normAt (fun k => y (ix2 (j 0) k)) (g (ix2 0 (j 1))) (j 1)

/-- The next layer's norm of it. -/
def normArr (x : FVec Ideal S8192x4096 .f32) (g : FVec Ideal S1x4096 .f32) : FVec Ideal S8192x4096 .bf16 :=
  fun j => normAt (fun k => x (ix2 (j 0) k)) (g (ix2 0 (j 1))) (j 1)

theorem arrH (c : Dev nD) : (dat0 V c).arrAt 4 cfg0.N = resArr (V c main_v0) (V c main_v1) (V c main_v2) := by
  refine (dat0 V c).arrAt_eq_of_covers 4 _ (by decide +kernel) fun t _ y => ?_
  blk_simp
  rw [after0_4]
  frame_out
  pointwise [k0_pay1, resArr, normAt]
  blk_point [iblk0, idx0 t]

theorem arrX (c : Dev nD) : (dat0 V c).arrAt 5 cfg0.N
    = normArr (resArr (V c main_v0) (V c main_v1) (V c main_v2)) (V c main_v3) := by
  refine (dat0 V c).arrAt_eq_of_covers 5 _ (by decide +kernel) fun t _ y => ?_
  blk_simp
  rw [after0_5]
  frame_out
  pointwise [k0_pay1, k0_pay2, normArr, resArr, normAt]
  blk_point [iblk0, idx0 t]

/-- The product over the laid-out columns. -/
def proj (X : FVec Ideal S8192x4096 .bf16) (W : FVec Ideal S4096x11776 .bf16) : FVec Ideal S8192x11776 .f32 :=
  fun j => ∑ k : Fin 4096, X (ix2 (j 0) k) * W (ix2 k (j 1))

theorem arrP (c : Dev nD) : (dat1 V c).arrAt 2 cfg1.N = proj (V c main_v14) (V c main_v13) := by
  refine (dat1 V c).arrAt_eq_of_covers 2 _ (by decide +kernel) fun t _ y => ?_
  blk_simp
  rw [after1_2]
  frame_out
  pointwise [k1_pay1, proj]
  blk_point [iblk1, idx1 t]

variable (m : (ℓ : Loc nD τ sig) → Buf (Elt Ideal) ℓ) (ρ : Dev nD → PrngReg)

/-- The weight in the kernel's layout: queries, keys, values and window, then the output gate, then the branch gates of
    each of the 4 heads padded to 128 columns. -/
def layW (w : FVec Ideal S4096x11360 .f32) : FVec Ideal S4096x11776 .bf16 :=
  truncf .bf16 (concatenate S4096x11776 1
    [⟨S4096x7168, extractStridedSlice S4096x7168 ![0, 0] w slices_S4096x11360_S4096x7168_0_0⟩,
     ⟨S4096x4096, extractStridedSlice S4096x4096 ![0, 7264] w slices_S4096x11360_S4096x4096_0_7264⟩,
     ⟨S4096x512, shapeCast S4096x512 (pad S4096x4x128 ![0, 0, 0] ![0, 0, 104] ![0, 0, 0]
        (shapeCast S4096x4x24 (extractStridedSlice S4096x96 ![0, 7168] w slices_S4096x11360_S4096x96_0_7168) shapeCasts_S4096x96_S4096x4x24)
        (sitofp (F := Ideal) .f32 (constantI S_ 32 0#32)) pads_S4096x4x24_S4096x4x128_000_000_01040 h_S_) shapeCasts_S4096x4x128_S4096x512⟩]
    concatenates_S4096x7168_S4096x4096_S4096x512_S4096x11776_d1) bitsLt_bf16_f32

/-- The residual stream's rows after the first region. -/
def outH (h y : FVec Ideal S4x2048x4096 .f32) (g : FVec Ideal S4096 .f32) : FVec Ideal S8192x4096 .f32 :=
  resArr (shapeCast S8192x4096 h shapeCasts_S4x2048x4096_S8192x4096) (shapeCast S8192x4096 y shapeCasts_S4x2048x4096_S8192x4096)
    (shapeCast S1x4096 g shapeCasts_S4096_S1x4096)

/-- The projection in the kernel's layout. -/
def outP (h y : FVec Ideal S4x2048x4096 .f32) (g g' : FVec Ideal S4096 .f32) (w : FVec Ideal S4096x11360 .f32) : FVec Ideal S4x2048x11776 .f32 :=
  shapeCast S4x2048x11776 (proj (shapeCast S8192x4096 (shapeCast S4x2048x4096 (normArr (outH h y g) (shapeCast S1x4096 g' shapeCasts_S4096_S1x4096))
    shapeCasts_S8192x4096_S4x2048x4096) shapeCasts_S4x2048x4096_S8192x4096) (layW w)) shapeCasts_S8192x11776_S4x2048x11776

/-! ## The buffers where the regions are entered and left -/

theorem V1_v0 (c : Dev nD) : V1 m ρ c main_v0 = shapeCast S8192x4096 (show FVec Ideal S4x2048x4096 .f32 from m ((c.tc : Thread nD τ).loc main_arg0)) shapeCasts_S4x2048x4096_S8192x4096 := by
  dsimp only [V1, W1]
  after_results_simp <;> rfl

theorem V1_v1 (c : Dev nD) : V1 m ρ c main_v1 = shapeCast S8192x4096 (show FVec Ideal S4x2048x4096 .f32 from m ((c.tc : Thread nD τ).loc main_arg1)) shapeCasts_S4x2048x4096_S8192x4096 := by
  dsimp only [V1, W1]
  after_results_simp <;> rfl

theorem V1_v2 (c : Dev nD) : V1 m ρ c main_v2 = shapeCast S1x4096 (show FVec Ideal S4096 .f32 from m ((c.tc : Thread nD τ).loc main_arg2)) shapeCasts_S4096_S1x4096 := by
  dsimp only [V1, W1]
  after_results_simp <;> rfl

theorem V1_v3 (c : Dev nD) : V1 m ρ c main_v3 = shapeCast S1x4096 (show FVec Ideal S4096 .f32 from m ((c.tc : Thread nD τ).loc main_arg3)) shapeCasts_S4096_S1x4096 := by
  dsimp only [V1, W1]
  after_results_simp <;> rfl

theorem W2_h (c : Dev nD) : W2 m ρ c (Proc.devRef .tc main_v4_0)
    = outH (m ((c.tc : Thread nD τ).loc main_arg0)) (m ((c.tc : Thread nD τ).loc main_arg1)) (m ((c.tc : Thread nD τ).loc main_arg2)) := by
  refine (W2_arr m ρ c 4).trans ((arrH (V1 m ρ) c).trans ?_)
  rw [V1_v0, V1_v1, V1_v2]
  rfl

theorem W2_x (c : Dev nD) : W2 m ρ c (Proc.devRef .tc main_v4_1)
    = normArr (outH (m ((c.tc : Thread nD τ).loc main_arg0)) (m ((c.tc : Thread nD τ).loc main_arg1)) (m ((c.tc : Thread nD τ).loc main_arg2)))
      (shapeCast S1x4096 (show FVec Ideal S4096 .f32 from m ((c.tc : Thread nD τ).loc main_arg3)) shapeCasts_S4096_S1x4096) := by
  refine (W2_arr m ρ c 5).trans ((arrX (V1 m ρ) c).trans ?_)
  rw [V1_v0, V1_v1, V1_v2, V1_v3]
  rfl

theorem V5_v14 (c : Dev nD) : V5 m ρ c main_v14 = shapeCast S8192x4096 (shapeCast S4x2048x4096
    (show FVec Ideal S8192x4096 .bf16 from W2 m ρ c (Proc.devRef .tc main_v4_1)) shapeCasts_S8192x4096_S4x2048x4096) shapeCasts_S4x2048x4096_S8192x4096 := by
  dsimp only [V5, W5, W4, W3]
  after_results_simp <;> rfl

theorem V5_v13 (c : Dev nD) : V5 m ρ c main_v13 = layW (m ((c.tc : Thread nD τ).loc main_arg4)) := by
  have e : V5 m ρ c main_v13 = layW (show FVec Ideal S4096x11360 .f32 from W2 m ρ c (Proc.devRef .tc main_arg4)) := by
    dsimp only [V5, W5, W4, W3]
    after_results_simp <;> rfl
  rw [e, W2_args m ρ c main_arg4 (by decide)]

theorem W6_v15 (c : Dev nD) : W6 m ρ c (Proc.devRef .tc main_v15)
    = proj (shapeCast S8192x4096 (shapeCast S4x2048x4096 (normArr (outH (m ((c.tc : Thread nD τ).loc main_arg0)) (m ((c.tc : Thread nD τ).loc main_arg1)) (m ((c.tc : Thread nD τ).loc main_arg2)))
      (shapeCast S1x4096 (show FVec Ideal S4096 .f32 from m ((c.tc : Thread nD τ).loc main_arg3)) shapeCasts_S4096_S1x4096))
      shapeCasts_S8192x4096_S4x2048x4096) shapeCasts_S4x2048x4096_S8192x4096) (layW (m ((c.tc : Thread nD τ).loc main_arg4))) := by
  refine (W6_arr m ρ c 2).trans ((arrP (V5 m ρ) c).trans ?_)
  rw [V5_v14, V5_v13, W2_x]

/-- The kernel's result `Kv` from its arguments. -/
def outKv (h y : FVec Ideal S4x2048x4096 .f32) (g g' : FVec Ideal S4096 .f32) (w : FVec Ideal S4096x11360 .f32) : FVec Ideal S4x2048x4x4x128 .f32 :=
  shapeCast S4x2048x4x4x128 (extractStridedSlice S4x2048x2048 ![0, 0, 4096] (outP h y g g' w) slices_S4x2048x11776_S4x2048x2048_0_0_4096) shapeCasts_S4x2048x2048_S4x2048x4x4x128

theorem resultKv (c : Dev nD) : W7 m ρ c (Proc.devRef .tc main_v18) = outKv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : W7 m ρ c (Proc.devRef .tc main_v18) = shapeCast S4x2048x4x4x128 (extractStridedSlice S4x2048x2048 ![0, 0, 4096] (shapeCast S4x2048x11776 (show FVec Ideal S8192x11776 .f32 from W6 m ρ c (Proc.devRef .tc main_v15)) shapeCasts_S8192x11776_S4x2048x11776) slices_S4x2048x11776_S4x2048x2048_0_0_4096) shapeCasts_S4x2048x2048_S4x2048x4x4x128 := by
    dsimp only [W7]
    after_results_simp <;> rfl
  rw [e, W6_v15]
  rfl

/-- The kernel's result `Win` from its arguments. -/
def outWin (h y : FVec Ideal S4x2048x4096 .f32) (g g' : FVec Ideal S4096 .f32) (w : FVec Ideal S4096x11360 .f32) : FVec Ideal S4x512x2x4x128 .f32 :=
  extractStridedSlice S4x512x2x4x128 ![0, 1536, 0, 0, 0] (shapeCast S4x2048x2x4x128 (extractStridedSlice S4x2048x1024 ![0, 0, 6144] (outP h y g g' w) slices_S4x2048x11776_S4x2048x1024_0_0_6144) shapeCasts_S4x2048x1024_S4x2048x2x4x128) slices_S4x2048x2x4x128_S4x512x2x4x128_0_1536_0_0_0

theorem resultWin (c : Dev nD) : W7 m ρ c (Proc.devRef .tc main_v21) = outWin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : W7 m ρ c (Proc.devRef .tc main_v21) = extractStridedSlice S4x512x2x4x128 ![0, 1536, 0, 0, 0] (shapeCast S4x2048x2x4x128 (extractStridedSlice S4x2048x1024 ![0, 0, 6144] (shapeCast S4x2048x11776 (show FVec Ideal S8192x11776 .f32 from W6 m ρ c (Proc.devRef .tc main_v15)) shapeCasts_S8192x11776_S4x2048x11776) slices_S4x2048x11776_S4x2048x1024_0_0_6144) shapeCasts_S4x2048x1024_S4x2048x2x4x128) slices_S4x2048x2x4x128_S4x512x2x4x128_0_1536_0_0_0 := by
    dsimp only [W7]
    after_results_simp <;> rfl
  rw [e, W6_v15]
  rfl

/-- The kernel's result `Q` from its arguments. -/
def outQ (h y : FVec Ideal S4x2048x4096 .f32) (g g' : FVec Ideal S4096 .f32) (w : FVec Ideal S4096x11360 .f32) : FVec Ideal S4x2048x4096 .f32 :=
  extractStridedSlice S4x2048x4096 ![0, 0, 0] (outP h y g g' w) slices_S4x2048x11776_S4x2048x4096_0_0_0

theorem resultQ (c : Dev nD) : W7 m ρ c (Proc.devRef .tc main_v22) = outQ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : W7 m ρ c (Proc.devRef .tc main_v22) = extractStridedSlice S4x2048x4096 ![0, 0, 0] (shapeCast S4x2048x11776 (show FVec Ideal S8192x11776 .f32 from W6 m ρ c (Proc.devRef .tc main_v15)) shapeCasts_S8192x11776_S4x2048x11776) slices_S4x2048x11776_S4x2048x4096_0_0_0 := by
    dsimp only [W7]
    after_results_simp <;> rfl
  rw [e, W6_v15]
  rfl

/-- The kernel's result `Z` from its arguments. -/
def outZ (h y : FVec Ideal S4x2048x4096 .f32) (g g' : FVec Ideal S4096 .f32) (w : FVec Ideal S4096x11360 .f32) : FVec Ideal S4x2048x4096 .f32 :=
  extractStridedSlice S4x2048x4096 ![0, 0, 7168] (outP h y g g' w) slices_S4x2048x11776_S4x2048x4096_0_0_7168

theorem resultZ (c : Dev nD) : W7 m ρ c (Proc.devRef .tc main_v23) = outZ (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : W7 m ρ c (Proc.devRef .tc main_v23) = extractStridedSlice S4x2048x4096 ![0, 0, 7168] (shapeCast S4x2048x11776 (show FVec Ideal S8192x11776 .f32 from W6 m ρ c (Proc.devRef .tc main_v15)) shapeCasts_S8192x11776_S4x2048x11776) slices_S4x2048x11776_S4x2048x4096_0_0_7168 := by
    dsimp only [W7]
    after_results_simp <;> rfl
  rw [e, W6_v15]
  rfl

/-- The kernel's result `Gl` from its arguments. -/
def outGl (h y : FVec Ideal S4x2048x4096 .f32) (g g' : FVec Ideal S4096 .f32) (w : FVec Ideal S4096x11360 .f32) : FVec Ideal S4x2048x4x24 .f32 :=
  extractStridedSlice S4x2048x4x24 ![0, 0, 0, 0] (shapeCast S4x2048x4x128 (extractStridedSlice S4x2048x512 ![0, 0, 11264] (outP h y g g' w) slices_S4x2048x11776_S4x2048x512_0_0_11264) shapeCasts_S4x2048x512_S4x2048x4x128) slices_S4x2048x4x128_S4x2048x4x24_0_0_0_0

theorem resultGl (c : Dev nD) : W7 m ρ c (Proc.devRef .tc main_v26) = outGl (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : W7 m ρ c (Proc.devRef .tc main_v26) = extractStridedSlice S4x2048x4x24 ![0, 0, 0, 0] (shapeCast S4x2048x4x128 (extractStridedSlice S4x2048x512 ![0, 0, 11264] (shapeCast S4x2048x11776 (show FVec Ideal S8192x11776 .f32 from W6 m ρ c (Proc.devRef .tc main_v15)) shapeCasts_S8192x11776_S4x2048x11776) slices_S4x2048x11776_S4x2048x512_0_0_11264) shapeCasts_S4x2048x512_S4x2048x4x128) slices_S4x2048x4x128_S4x2048x4x24_0_0_0_0 := by
    dsimp only [W7]
    after_results_simp <;> rfl
  rw [e, W6_v15]
  rfl

theorem resultH (c : Dev nD) : W7 m ρ c (Proc.devRef .tc main_v4_0)
    = outH (m ((c.tc : Thread nD τ).loc main_arg0)) (m ((c.tc : Thread nD τ).loc main_arg1)) (m ((c.tc : Thread nD τ).loc main_arg2)) := by
  have e6 := W6_of_ne m ρ c main_v4_0 (by decide)
  have e5 : W5 m ρ c (Proc.devRef .tc main_v4_0) = W2 m ρ c (Proc.devRef .tc main_v4_0) := by
    dsimp only [W5, W4, W3]
    after_results_simp
  dsimp only [W7]
  after_results_simp
  rw [e6, e5, W2_h]

end Cert.NsaKIdeal.NsaValue

end
-- ==== Proof.NsaRun.lean ====
/-
  THE RUN of the NSA layer's entry for the prompt (hand-written): every buffer of the program ends at the last boundary's contents
  `Gen.W7`; so does the result buffer, and the arguments end as they were launched.
-/
module

public import proofs.«01_k».proof.Proof.Gen.NsaKIdeal.Frame

@[expose] public section

set_option maxRecDepth 16384

noncomputable section

namespace Cert.NsaKIdeal.NsaRun

open Cert.NsaKIdeal Cert.NsaKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program terminates from any memory with zero counters; its result buffer then holds the last boundary's
    contents, and each argument what it held at launch. -/
theorem run : θ_run defs (onTc (τ := τ) (main (F := F))) ⟨m, fun _ => 0, ρ⟩ (fun r => ∀ c : Dev nD,
      r.2.mem ((c.tc : Thread nD τ).loc main_v4_0) = W7 m ρ c (Proc.devRef .tc main_v4_0)
      ∧ r.2.mem ((c.tc : Thread nD τ).loc main_v18) = W7 m ρ c (Proc.devRef .tc main_v18)
      ∧ r.2.mem ((c.tc : Thread nD τ).loc main_v21) = W7 m ρ c (Proc.devRef .tc main_v21)
      ∧ r.2.mem ((c.tc : Thread nD τ).loc main_v22) = W7 m ρ c (Proc.devRef .tc main_v22)
      ∧ r.2.mem ((c.tc : Thread nD τ).loc main_v23) = W7 m ρ c (Proc.devRef .tc main_v23)
      ∧ r.2.mem ((c.tc : Thread nD τ).loc main_v26) = W7 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨h c _ (mem_uc main_v4_0 (by decide)),
       h c _ (mem_uc main_v18 (by decide)),
       h c _ (mem_uc main_v21 (by decide)),
       h c _ (mem_uc main_v22 (by decide)),
       h c _ (mem_uc main_v23 (by decide)),
       h c _ (mem_uc main_v26 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c)⟩)

end Cert.NsaKIdeal.NsaRun

end
-- ==== Proof.NsaClaim.lean ====
/-
  THE NSA LAYER'S ENTRY FOR THE PROMPT (hand-written): its reference, and the claims.
-/
module

public import proofs.«01_k».proof.Proof.NsaValue
public import proofs.«01_k».proof.Defs
public import proofs.«01_k».proof.Proof.NsaRun
public import proofs.«01_k».proof.Proof.Gen.NsaRIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.NsaClaim

open Cert.NsaRIdeal Cert.NsaRIdeal.Gen
open Cert.NsaKIdeal.NsaValue
open Idealize.ShloMosaic Idealize.ShloMosaic.TcCoe Idealize.SL.Sem Idealize.ShloMosaic.StableHlo

/-- The reference has host operations only, and no counter to leave raised. -/
theorem frame_R : Cert.quiescent_NsaRIdeal := by
  intro m g _
  exact (θ_run _ _ _).mono (fun r h => ⟨fun c => (h c).2.2.2.2.2.2, sem_eq_zero_of_no_sems (by decide) _⟩)
    (Cert.NsaRIdeal.Value.run (F := Ideal) m g)

/-- The residual stream of the reference. -/
def refH (a0 a1 : FVec Ideal S4x2048x4096 .f32) (a2 : FVec Ideal S4096 .f32) : FVec Ideal S4x2048x4096 .f32 :=
  addf a0 (mulf (mulf a1 (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf a1 a1) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 a2)))

/-- The projection of the reference. -/
def refP (a0 a1 : FVec Ideal S4x2048x4096 .f32) (a2 a3 : FVec Ideal S4096 .f32) (a4 : FVec Ideal S4096x11360 .f32) : FVec Ideal S4x2048x11360 .f32 :=
  Host.dotGeneral dot_S4x2048x4096_S4096x11360_S4x2048x11360_2_0_01_1_n_n none (mulf (mulf (refH a0 a1 a2) (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf (refH a0 a1 a2) (refH a0 a1 a2)) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 a3))) a4

theorem refH_at (h y : FVec Ideal S4x2048x4096 .f32) (g : FVec Ideal S4096 .f32) (n : Fin 4) (t : Fin 2048) (k : Fin 4096) :
    refH h y g (ix3 n t k) = h (ix3 n t k) + normAt (fun l => y (ix3 n t l)) (g (ix1 k)) k := by
  pointwise [refH, normAt]

theorem refP_at (h y : FVec Ideal S4x2048x4096 .f32) (g g' : FVec Ideal S4096 .f32) (w : FVec Ideal S4096x11360 .f32) (n : Fin 4) (t : Fin 2048) (q : Fin 11360) :
    refP h y g g' w (ix3 n t q) = ∑ k : Fin 4096, normAt (fun l => refH h y g (ix3 n t l)) (g' (ix1 k)) k * w (ix2 k q) := by
  pointwise [refP, normAt]

theorem outP_at (h y : FVec Ideal S4x2048x4096 .f32) (g g' : FVec Ideal S4096 .f32) (w : FVec Ideal S4096x11360 .f32) (n : Fin 4) (t : Fin 2048) (q : Fin 11776) :
    outP h y g g' w (ix3 n t q) = ∑ k : Fin 4096, normAt (fun l => refH h y g (ix3 n t l)) (g' (ix1 k)) k * layW w (ix2 k q) := by
  simp only [refH_at]
  pointwise [outP, proj, normArr, outH, resArr, normAt]

/-- A column of the kernel's layout that holds a column of the weight holds that column of the reference's projection. -/
theorem outP_col (h y : FVec Ideal S4x2048x4096 .f32) (g g' : FVec Ideal S4096 .f32) (w : FVec Ideal S4096x11360 .f32) (n : Fin 4) (t : Fin 2048)
    (q : Fin 11776) (q' : Fin 11360) (hq : ∀ k, layW w (ix2 k q) = w (ix2 k q')) : outP h y g g' w (ix3 n t q) = refP h y g g' w (ix3 n t q') := by
  rw [outP_at, refP_at]
  exact Finset.sum_congr rfl fun k _ => by rw [hq k]

set_option maxRecDepth 200000 in
theorem layW_low (w : FVec Ideal S4096x11360 .f32) (k : Fin 4096) (q : Nat) (hq : q < 7168) :
    layW w (ix2 k ⟨q, by omega⟩) = w (ix2 k ⟨q, by omega⟩) := by
  pointwise [layW]
  rw [dif_pos (by omega)]

set_option maxRecDepth 200000 in
theorem layW_z (w : FVec Ideal S4096x11360 .f32) (k : Fin 4096) (q : Nat) (hq : q < 4096) :
    layW w (ix2 k ⟨7168 + q, by omega⟩) = w (ix2 k ⟨7264 + q, by omega⟩) := by
  pointwise [layW]
  rw [dif_pos hq]

set_option maxRecDepth 200000 in
theorem layW_gl (w : FVec Ideal S4096x11360 .f32) (k : Fin 4096) (a : Fin 4) (b : Fin 24) :
    layW w (ix2 k ⟨11264 + (a.val * 128 + b.val), by omega⟩) = w (ix2 k ⟨7168 + (a.val * 24 + b.val), by omega⟩) := by
  have e : (a.val * 128 + b.val) % 128 = b.val := by omega
  have e1 : 11264 + (a.val * 128 + b.val) - 7168 - 4096 = a.val * 128 + b.val := by omega
  have e2 : (a.val * 128 + b.val) / 128 = a.val := by omega
  pointwise [layW]
  rw [dif_neg (by omega), dif_neg (by omega), dif_pos ⟨by omega, by omega⟩]
  simp only [e1, e2, e]

theorem outH_eq (h y : FVec Ideal S4x2048x4096 .f32) (g : FVec Ideal S4096 .f32) : outH h y g = shapeCast S8192x4096 (refH h y g) shapeCasts_S4x2048x4096_S8192x4096 := by
  funext j
  obtain ⟨r, q, rfl⟩ : ∃ r q, j = ix2 r q := by
    idx_vars j
    exact ⟨_, _, rfl⟩
  pointwise [outH, resArr, normAt]
  rw [refH_at]
  rfl

/-- The result `Kv` of the reference. -/
def refKv (a0 a1 : FVec Ideal S4x2048x4096 .f32) (a2 a3 : FVec Ideal S4096 .f32) (a4 : FVec Ideal S4096x11360 .f32) : FVec Ideal S4x2048x4x4x128 .f32 :=
  shapeCast S4x2048x4x4x128 (extractStridedSlice S4x2048x2048 ![0, 0, 4096] (refP a0 a1 a2 a3 a4) slices_S4x2048x11360_S4x2048x2048_0_0_4096) shapeCasts_S4x2048x2048_S4x2048x4x4x128

theorem outKv_eq (h y : FVec Ideal S4x2048x4096 .f32) (g g' : FVec Ideal S4096 .f32) (w : FVec Ideal S4096x11360 .f32) :
    outKv h y g g' w = refKv h y g g' w := by
  funext j
  obtain ⟨i0, i1, i2, i3, i4, rfl⟩ : ∃ i0 i1 i2 i3 i4, j = ix5 i0 i1 i2 i3 i4 := by
    idx_vars j
    exact ⟨_, _, _, _, _, rfl⟩
  pointwise [outKv, refKv]
  refine outP_col h y g g' w _ _ _ _ fun k => ?_
  exact layW_low w k _ (by omega)

/-- The result `Win` of the reference. -/
def refWin (a0 a1 : FVec Ideal S4x2048x4096 .f32) (a2 a3 : FVec Ideal S4096 .f32) (a4 : FVec Ideal S4096x11360 .f32) : FVec Ideal S4x512x2x4x128 .f32 :=
  extractStridedSlice S4x512x2x4x128 ![0, 1536, 0, 0, 0] (shapeCast S4x2048x2x4x128 (extractStridedSlice S4x2048x1024 ![0, 0, 6144] (refP a0 a1 a2 a3 a4) slices_S4x2048x11360_S4x2048x1024_0_0_6144) shapeCasts_S4x2048x1024_S4x2048x2x4x128) slices_S4x2048x2x4x128_S4x512x2x4x128_0_1536_0_0_0

theorem outWin_eq (h y : FVec Ideal S4x2048x4096 .f32) (g g' : FVec Ideal S4096 .f32) (w : FVec Ideal S4096x11360 .f32) :
    outWin h y g g' w = refWin h y g g' w := by
  funext j
  obtain ⟨i0, i1, i2, i3, i4, rfl⟩ : ∃ i0 i1 i2 i3 i4, j = ix5 i0 i1 i2 i3 i4 := by
    idx_vars j
    exact ⟨_, _, _, _, _, rfl⟩
  pointwise [outWin, refWin]
  refine outP_col h y g g' w _ _ _ _ fun k => ?_
  exact layW_low w k _ (by omega)

/-- The result `Q` of the reference. -/
def refQ (a0 a1 : FVec Ideal S4x2048x4096 .f32) (a2 a3 : FVec Ideal S4096 .f32) (a4 : FVec Ideal S4096x11360 .f32) : FVec Ideal S4x2048x4096 .f32 :=
  extractStridedSlice S4x2048x4096 ![0, 0, 0] (refP a0 a1 a2 a3 a4) slices_S4x2048x11360_S4x2048x4096_0_0_0

theorem outQ_eq (h y : FVec Ideal S4x2048x4096 .f32) (g g' : FVec Ideal S4096 .f32) (w : FVec Ideal S4096x11360 .f32) :
    outQ h y g g' w = refQ h y g g' w := by
  funext j
  obtain ⟨i0, i1, i2, rfl⟩ : ∃ i0 i1 i2, j = ix3 i0 i1 i2 := by
    idx_vars j
    exact ⟨_, _, _, rfl⟩
  pointwise [outQ, refQ]
  refine outP_col h y g g' w _ _ _ _ fun k => ?_
  exact layW_low w k _ (by omega)

/-- The result `Z` of the reference. -/
def refZ (a0 a1 : FVec Ideal S4x2048x4096 .f32) (a2 a3 : FVec Ideal S4096 .f32) (a4 : FVec Ideal S4096x11360 .f32) : FVec Ideal S4x2048x4096 .f32 :=
  extractStridedSlice S4x2048x4096 ![0, 0, 7264] (refP a0 a1 a2 a3 a4) slices_S4x2048x11360_S4x2048x4096_0_0_7264

theorem outZ_eq (h y : FVec Ideal S4x2048x4096 .f32) (g g' : FVec Ideal S4096 .f32) (w : FVec Ideal S4096x11360 .f32) :
    outZ h y g g' w = refZ h y g g' w := by
  funext j
  obtain ⟨i0, i1, i2, rfl⟩ : ∃ i0 i1 i2, j = ix3 i0 i1 i2 := by
    idx_vars j
    exact ⟨_, _, _, rfl⟩
  pointwise [outZ, refZ]
  refine outP_col h y g g' w _ _ _ _ fun k => ?_
  exact layW_z w k _ (by omega)

/-- The result `Gl` of the reference. -/
def refGl (a0 a1 : FVec Ideal S4x2048x4096 .f32) (a2 a3 : FVec Ideal S4096 .f32) (a4 : FVec Ideal S4096x11360 .f32) : FVec Ideal S4x2048x4x24 .f32 :=
  shapeCast S4x2048x4x24 (extractStridedSlice S4x2048x96 ![0, 0, 7168] (refP a0 a1 a2 a3 a4) slices_S4x2048x11360_S4x2048x96_0_0_7168) shapeCasts_S4x2048x96_S4x2048x4x24

theorem outGl_eq (h y : FVec Ideal S4x2048x4096 .f32) (g g' : FVec Ideal S4096 .f32) (w : FVec Ideal S4096x11360 .f32) :
    outGl h y g g' w = refGl h y g g' w := by
  funext j
  obtain ⟨i0, i1, i2, i3, rfl⟩ : ∃ i0 i1 i2 i3, j = ix4 i0 i1 i2 i3 := by
    idx_vars j
    exact ⟨_, _, _, _, rfl⟩
  pointwise [outGl, refGl]
  refine outP_col h y g g' w _ _ _ _ fun k => ?_
  exact layW_gl w k _ _

/-- From memories that agree on the arguments the kernel and the reference end with the same results. -/
theorem algebraic : Cert.algebraic_NsaKIdeal_NsaRIdeal := by
  intro m g m' g' _ hagree
  refine ⟨fun c => shapeCast S8192x4096 (refH (m' ((c.tc : Thread nD τ).loc main_arg0)) (m' ((c.tc : Thread nD τ).loc main_arg1)) (m' ((c.tc : Thread nD τ).loc main_arg2))) shapeCasts_S4x2048x4096_S8192x4096,
    fun c => refKv (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)),
    fun c => refWin (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)),
    fun c => refQ (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)),
    fun c => refZ (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)),
    fun c => refGl (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)), ?_, Cert.NsaRIdeal.Value.run (F := Ideal) m' g'⟩
  refine (θ_run _ _ _).mono (fun r h c => ⟨(h c).1.trans ?_, (h c).2.1.trans ?_, (h c).2.2.1.trans ?_, (h c).2.2.2.1.trans ?_, (h c).2.2.2.2.1.trans ?_, (h c).2.2.2.2.2.1.trans ?_, (h c).2.2.2.2.2.2⟩) (Cert.NsaKIdeal.NsaRun.run (F := Ideal) m g)
  · obtain ⟨h0, h1, h2, h3, h4⟩ := hagree c
    rw [Cert.NsaKIdeal.NsaValue.resultH]
    refine (outH_eq _ _ _).trans ?_
    beta_reduce
    rw [h0, h1, h2]
  · obtain ⟨h0, h1, h2, h3, h4⟩ := hagree c
    rw [Cert.NsaKIdeal.NsaValue.resultKv]
    refine (outKv_eq _ _ _ _ _).trans ?_
    beta_reduce
    rw [h0, h1, h2, h3, h4]
  · obtain ⟨h0, h1, h2, h3, h4⟩ := hagree c
    rw [Cert.NsaKIdeal.NsaValue.resultWin]
    refine (outWin_eq _ _ _ _ _).trans ?_
    beta_reduce
    rw [h0, h1, h2, h3, h4]
  · obtain ⟨h0, h1, h2, h3, h4⟩ := hagree c
    rw [Cert.NsaKIdeal.NsaValue.resultQ]
    refine (outQ_eq _ _ _ _ _).trans ?_
    beta_reduce
    rw [h0, h1, h2, h3, h4]
  · obtain ⟨h0, h1, h2, h3, h4⟩ := hagree c
    rw [Cert.NsaKIdeal.NsaValue.resultZ]
    refine (outZ_eq _ _ _ _ _).trans ?_
    beta_reduce
    rw [h0, h1, h2, h3, h4]
  · obtain ⟨h0, h1, h2, h3, h4⟩ := hagree c
    rw [Cert.NsaKIdeal.NsaValue.resultGl]
    refine (outGl_eq _ _ _ _ _).trans ?_
    beta_reduce
    rw [h0, h1, h2, h3, h4]

end Cert.Proof.NsaClaim

end
-- ==== Proof.NsaStepValue.lean ====
/-
  THE NSA LAYER'S ENTRY FOR THE DECODING STEP (hand-written): what the two regions leave, from the arguments.
-/
module

public import proofs.«01_k».proof.Proof.Gen.NsaStepKIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.NsaStepKIdeal.NsaStepValue

open Cert.NsaStepKIdeal Cert.NsaStepKIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

theorem idx1 : ∀ t : Fin cfg1.N, win1_0.index t = ![t.val / 23, 0] ∧ win1_1.index t = ![0, t.val % 23]
    ∧ win1_2.index t = ![t.val / 23, t.val % 23] :=
  (by decide +kernel : ∀ t : Fin grid1.N, _)

/-- The weighted root-mean-square norm of a row, at a channel. -/
def normAt (row : Fin 4096 → EReal) (g : EReal) (k : Fin 4096) : EReal :=
  row k * Ideal.rsqrt (Ideal.div (∑ l, row l * row l) (Ideal.ofBits FTy.f32 0x45800000#32) + Ideal.ofBits FTy.f32 0x358637BD#32) * g

/-- The residual stream plus the normed block output. -/
def resArr (h y : FVec Ideal S8x4096 .f32) (g : FVec Ideal S1x4096 .f32) : FVec Ideal S8x4096 .f32 :=
  fun j => h j + normAt (fun k => y (ix2 (j 0) k)) (g (ix2 0 (j 1))) (j 1)

/-- The next layer's norm of it. -/
def normArr (x : FVec Ideal S8x4096 .f32) (g : FVec Ideal S1x4096 .f32) : FVec Ideal S8x4096 .bf16 :=
  fun j => normAt (fun k => x (ix2 (j 0) k)) (g (ix2 0 (j 1))) (j 1)

theorem arrH (c : Dev nD) : (dat0 V c).arrAt 4 cfg0.N = resArr (V c main_v0) (V c main_v1) (V c main_v2) := by
  refine (dat0 V c).arrAt_eq_of_covers 4 _ (by decide +kernel) fun t _ y => ?_
  blk_simp
  rw [after0_4]
  frame_out
  pointwise [k0_pay1, resArr, normAt]
  blk_point [iblk0, idx0 t]

theorem arrX (c : Dev nD) : (dat0 V c).arrAt 5 cfg0.N
    = normArr (resArr (V c main_v0) (V c main_v1) (V c main_v2)) (V c main_v3) := by
  refine (dat0 V c).arrAt_eq_of_covers 5 _ (by decide +kernel) fun t _ y => ?_
  blk_simp
  rw [after0_5]
  frame_out
  pointwise [k0_pay1, k0_pay2, normArr, resArr, normAt]
  blk_point [iblk0, idx0 t]

/-- The product over the laid-out columns. -/
def proj (X : FVec Ideal S8x4096 .bf16) (W : FVec Ideal S4096x11776 .bf16) : FVec Ideal S8x11776 .f32 :=
  fun j => ∑ k : Fin 4096, X (ix2 (j 0) k) * W (ix2 k (j 1))

theorem arrP (c : Dev nD) : (dat1 V c).arrAt 2 cfg1.N = proj (V c main_v14) (V c main_v13) := by
  refine (dat1 V c).arrAt_eq_of_covers 2 _ (by decide +kernel) fun t _ y => ?_
  blk_simp
  rw [after1_2]
  frame_out
  pointwise [k1_pay1, proj]
  blk_point [iblk1, idx1 t]

variable (m : (ℓ : Loc nD τ sig) → Buf (Elt Ideal) ℓ) (ρ : Dev nD → PrngReg)

/-- The weight in the kernel's layout: queries, keys, values and window, then the output gate, then the branch gates of
    each of the 4 heads padded to 128 columns. -/
def layW (w : FVec Ideal S4096x11360 .f32) : FVec Ideal S4096x11776 .bf16 :=
  truncf .bf16 (concatenate S4096x11776 1
    [⟨S4096x7168, extractStridedSlice S4096x7168 ![0, 0] w slices_S4096x11360_S4096x7168_0_0⟩,
     ⟨S4096x4096, extractStridedSlice S4096x4096 ![0, 7264] w slices_S4096x11360_S4096x4096_0_7264⟩,
     ⟨S4096x512, shapeCast S4096x512 (pad S4096x4x128 ![0, 0, 0] ![0, 0, 104] ![0, 0, 0]
        (shapeCast S4096x4x24 (extractStridedSlice S4096x96 ![0, 7168] w slices_S4096x11360_S4096x96_0_7168) shapeCasts_S4096x96_S4096x4x24)
        (sitofp (F := Ideal) .f32 (constantI S_ 32 0#32)) pads_S4096x4x24_S4096x4x128_000_000_01040 h_S_) shapeCasts_S4096x4x128_S4096x512⟩]
    concatenates_S4096x7168_S4096x4096_S4096x512_S4096x11776_d1) bitsLt_bf16_f32

/-- The residual stream's rows after the first region. -/
def outH (h y : FVec Ideal S8x1x4096 .f32) (g : FVec Ideal S4096 .f32) : FVec Ideal S8x4096 .f32 :=
  resArr (shapeCast S8x4096 h shapeCasts_S8x1x4096_S8x4096) (shapeCast S8x4096 y shapeCasts_S8x1x4096_S8x4096)
    (shapeCast S1x4096 g shapeCasts_S4096_S1x4096)

/-- The projection in the kernel's layout. -/
def outP (h y : FVec Ideal S8x1x4096 .f32) (g g' : FVec Ideal S4096 .f32) (w : FVec Ideal S4096x11360 .f32) : FVec Ideal S8x1x11776 .f32 :=
  shapeCast S8x1x11776 (proj (shapeCast S8x4096 (shapeCast S8x1x4096 (normArr (outH h y g) (shapeCast S1x4096 g' shapeCasts_S4096_S1x4096))
    shapeCasts_S8x4096_S8x1x4096) shapeCasts_S8x1x4096_S8x4096) (layW w)) shapeCasts_S8x11776_S8x1x11776

/-! ## The buffers where the regions are entered and left -/

theorem V1_v0 (c : Dev nD) : V1 m ρ c main_v0 = shapeCast S8x4096 (show FVec Ideal S8x1x4096 .f32 from m ((c.tc : Thread nD τ).loc main_arg0)) shapeCasts_S8x1x4096_S8x4096 := by
  dsimp only [V1, W1]
  after_results_simp <;> rfl

theorem V1_v1 (c : Dev nD) : V1 m ρ c main_v1 = shapeCast S8x4096 (show FVec Ideal S8x1x4096 .f32 from m ((c.tc : Thread nD τ).loc main_arg1)) shapeCasts_S8x1x4096_S8x4096 := by
  dsimp only [V1, W1]
  after_results_simp <;> rfl

theorem V1_v2 (c : Dev nD) : V1 m ρ c main_v2 = shapeCast S1x4096 (show FVec Ideal S4096 .f32 from m ((c.tc : Thread nD τ).loc main_arg2)) shapeCasts_S4096_S1x4096 := by
  dsimp only [V1, W1]
  after_results_simp <;> rfl

theorem V1_v3 (c : Dev nD) : V1 m ρ c main_v3 = shapeCast S1x4096 (show FVec Ideal S4096 .f32 from m ((c.tc : Thread nD τ).loc main_arg3)) shapeCasts_S4096_S1x4096 := by
  dsimp only [V1, W1]
  after_results_simp <;> rfl

theorem W2_h (c : Dev nD) : W2 m ρ c (Proc.devRef .tc main_v4_0)
    = outH (m ((c.tc : Thread nD τ).loc main_arg0)) (m ((c.tc : Thread nD τ).loc main_arg1)) (m ((c.tc : Thread nD τ).loc main_arg2)) := by
  refine (W2_arr m ρ c 4).trans ((arrH (V1 m ρ) c).trans ?_)
  rw [V1_v0, V1_v1, V1_v2]
  rfl

theorem W2_x (c : Dev nD) : W2 m ρ c (Proc.devRef .tc main_v4_1)
    = normArr (outH (m ((c.tc : Thread nD τ).loc main_arg0)) (m ((c.tc : Thread nD τ).loc main_arg1)) (m ((c.tc : Thread nD τ).loc main_arg2)))
      (shapeCast S1x4096 (show FVec Ideal S4096 .f32 from m ((c.tc : Thread nD τ).loc main_arg3)) shapeCasts_S4096_S1x4096) := by
  refine (W2_arr m ρ c 5).trans ((arrX (V1 m ρ) c).trans ?_)
  rw [V1_v0, V1_v1, V1_v2, V1_v3]
  rfl

theorem V5_v14 (c : Dev nD) : V5 m ρ c main_v14 = shapeCast S8x4096 (shapeCast S8x1x4096
    (show FVec Ideal S8x4096 .bf16 from W2 m ρ c (Proc.devRef .tc main_v4_1)) shapeCasts_S8x4096_S8x1x4096) shapeCasts_S8x1x4096_S8x4096 := by
  dsimp only [V5, W5, W4, W3]
  after_results_simp <;> rfl

theorem V5_v13 (c : Dev nD) : V5 m ρ c main_v13 = layW (m ((c.tc : Thread nD τ).loc main_arg4)) := by
  have e : V5 m ρ c main_v13 = layW (show FVec Ideal S4096x11360 .f32 from W2 m ρ c (Proc.devRef .tc main_arg4)) := by
    dsimp only [V5, W5, W4, W3]
    after_results_simp <;> rfl
  rw [e, W2_args m ρ c main_arg4 (by decide)]

theorem W6_v15 (c : Dev nD) : W6 m ρ c (Proc.devRef .tc main_v15)
    = proj (shapeCast S8x4096 (shapeCast S8x1x4096 (normArr (outH (m ((c.tc : Thread nD τ).loc main_arg0)) (m ((c.tc : Thread nD τ).loc main_arg1)) (m ((c.tc : Thread nD τ).loc main_arg2)))
      (shapeCast S1x4096 (show FVec Ideal S4096 .f32 from m ((c.tc : Thread nD τ).loc main_arg3)) shapeCasts_S4096_S1x4096))
      shapeCasts_S8x4096_S8x1x4096) shapeCasts_S8x1x4096_S8x4096) (layW (m ((c.tc : Thread nD τ).loc main_arg4))) := by
  refine (W6_arr m ρ c 2).trans ((arrP (V5 m ρ) c).trans ?_)
  rw [V5_v14, V5_v13, W2_x]

/-- The kernel's result `Kv` from its arguments. -/
def outKv (h y : FVec Ideal S8x1x4096 .f32) (g g' : FVec Ideal S4096 .f32) (w : FVec Ideal S4096x11360 .f32) : FVec Ideal S8x1x4x4x128 .f32 :=
  shapeCast S8x1x4x4x128 (extractStridedSlice S8x1x2048 ![0, 0, 4096] (outP h y g g' w) slices_S8x1x11776_S8x1x2048_0_0_4096) shapeCasts_S8x1x2048_S8x1x4x4x128

theorem resultKv (c : Dev nD) : W7 m ρ c (Proc.devRef .tc main_v18) = outKv (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : W7 m ρ c (Proc.devRef .tc main_v18) = shapeCast S8x1x4x4x128 (extractStridedSlice S8x1x2048 ![0, 0, 4096] (shapeCast S8x1x11776 (show FVec Ideal S8x11776 .f32 from W6 m ρ c (Proc.devRef .tc main_v15)) shapeCasts_S8x11776_S8x1x11776) slices_S8x1x11776_S8x1x2048_0_0_4096) shapeCasts_S8x1x2048_S8x1x4x4x128 := by
    dsimp only [W7]
    after_results_simp <;> rfl
  rw [e, W6_v15]
  rfl

/-- The kernel's result `Win` from its arguments. -/
def outWin (h y : FVec Ideal S8x1x4096 .f32) (g g' : FVec Ideal S4096 .f32) (w : FVec Ideal S4096x11360 .f32) (p : FVec Ideal S8x512x2x4x128 .f32) : FVec Ideal S8x512x2x4x128 .f32 :=
  extractStridedSlice S8x512x2x4x128 ![0, 1, 0, 0, 0] (concatenate S8x513x2x4x128 1 [⟨S8x512x2x4x128, p⟩, ⟨S8x1x2x4x128, shapeCast S8x1x2x4x128 (extractStridedSlice S8x1x1024 ![0, 0, 6144] (outP h y g g' w) slices_S8x1x11776_S8x1x1024_0_0_6144) shapeCasts_S8x1x1024_S8x1x2x4x128⟩] concatenates_S8x512x2x4x128_S8x1x2x4x128_S8x513x2x4x128_d1) slices_S8x513x2x4x128_S8x512x2x4x128_0_1_0_0_0

theorem resultWin (c : Dev nD) : W7 m ρ c (Proc.devRef .tc main_v22) = outWin (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  have e : W7 m ρ c (Proc.devRef .tc main_v22) = extractStridedSlice S8x512x2x4x128 ![0, 1, 0, 0, 0] (concatenate S8x513x2x4x128 1 [⟨S8x512x2x4x128, (show FVec Ideal S8x512x2x4x128 .f32 from W6 m ρ c (Proc.devRef .tc main_arg5))⟩, ⟨S8x1x2x4x128, shapeCast S8x1x2x4x128 (extractStridedSlice S8x1x1024 ![0, 0, 6144] (shapeCast S8x1x11776 (show FVec Ideal S8x11776 .f32 from W6 m ρ c (Proc.devRef .tc main_v15)) shapeCasts_S8x11776_S8x1x11776) slices_S8x1x11776_S8x1x1024_0_0_6144) shapeCasts_S8x1x1024_S8x1x2x4x128⟩] concatenates_S8x512x2x4x128_S8x1x2x4x128_S8x513x2x4x128_d1) slices_S8x513x2x4x128_S8x512x2x4x128_0_1_0_0_0 := by
    dsimp only [W7]
    after_results_simp <;> rfl
  rw [e, W6_v15, W6_args m ρ c main_arg5 (by decide)]
  rfl

end Cert.NsaStepKIdeal.NsaStepValue

end
-- ==== Proof.NsaStepRun.lean ====
/-
  THE RUN of the NSA layer's entry for the decoding step (hand-written): every buffer of the program ends at the last boundary's contents
  `Gen.W7`; so does the result buffer, and the arguments end as they were launched.
-/
module

public import proofs.«01_k».proof.Proof.Gen.NsaStepKIdeal.Frame

@[expose] public section

set_option maxRecDepth 16384

noncomputable section

namespace Cert.NsaStepKIdeal.NsaStepRun

open Cert.NsaStepKIdeal Cert.NsaStepKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program terminates from any memory with zero counters; its result buffer then holds the last boundary's
    contents, and each argument what it held at launch. -/
theorem run : θ_run defs (onTc (τ := τ) (main (F := F))) ⟨m, fun _ => 0, ρ⟩ (fun r => ∀ c : Dev nD,
      r.2.mem ((c.tc : Thread nD τ).loc main_v18) = W7 m ρ c (Proc.devRef .tc main_v18)
      ∧ r.2.mem ((c.tc : Thread nD τ).loc main_v22) = W7 m ρ c (Proc.devRef .tc main_v22)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c =>
      ⟨h c _ (mem_uc main_v18 (by decide)),
       h c _ (mem_uc main_v22 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.NsaStepKIdeal.NsaStepRun

end
-- ==== Proof.NsaStepClaim.lean ====
/-
  THE NSA LAYER'S ENTRY FOR THE DECODING STEP (hand-written): its reference, and the claims.
-/
module

public import proofs.«01_k».proof.Proof.NsaStepValue
public import proofs.«01_k».proof.Defs
public import proofs.«01_k».proof.Proof.NsaStepRun
public import proofs.«01_k».proof.Proof.Gen.NsaStepRIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.NsaStepClaim

open Cert.NsaStepRIdeal Cert.NsaStepRIdeal.Gen
open Cert.NsaStepKIdeal.NsaStepValue
open Idealize.ShloMosaic Idealize.ShloMosaic.TcCoe Idealize.SL.Sem Idealize.ShloMosaic.StableHlo

/-- The reference has host operations only, and no counter to leave raised. -/
theorem frame_R : Cert.quiescent_NsaStepRIdeal := by
  intro m g _
  exact (θ_run _ _ _).mono (fun r h => ⟨fun c => (h c).2.2, sem_eq_zero_of_no_sems (by decide) _⟩)
    (Cert.NsaStepRIdeal.Value.run (F := Ideal) m g)

/-- The residual stream of the reference. -/
def refH (a0 a1 : FVec Ideal S8x1x4096 .f32) (a2 : FVec Ideal S4096 .f32) : FVec Ideal S8x1x4096 .f32 :=
  addf a0 (mulf (mulf a1 (broadcastInDim S8x1x4096 ![0, 1, 2] bcast_S8x1x1_S8x1x4096_0_1_2 (Host.rsqrt (addf (Host.divf (broadcastInDim S8x1x1 ![0, 1] bcast_S8x1_S8x1x1_0_1 (Host.reduceAdd (mulf a1 a1) (constant S_ .f32 0x00000000#32) reducesTo_S8x1x4096_S8x1_d2 h_S_)) (broadcastInDim S8x1x1 ![] bcast_S_S8x1x1 (constant S_ .f32 0x45800000#32))) (broadcastInDim S8x1x1 ![] bcast_S_S8x1x1 (constant S_ .f32 0x358637BD#32)))))) (broadcastInDim S8x1x4096 ![0, 1, 2] bcast_S1x1x4096_S8x1x4096_0_1_2 (broadcastInDim S1x1x4096 ![2] bcast_S4096_S1x1x4096_2 a2)))

/-- The projection of the reference. -/
def refP (a0 a1 : FVec Ideal S8x1x4096 .f32) (a2 a3 : FVec Ideal S4096 .f32) (a4 : FVec Ideal S4096x11360 .f32) : FVec Ideal S8x1x11360 .f32 :=
  Host.dotGeneral dot_S8x1x4096_S4096x11360_S8x1x11360_2_0_01_1_n_n none (mulf (mulf (refH a0 a1 a2) (broadcastInDim S8x1x4096 ![0, 1, 2] bcast_S8x1x1_S8x1x4096_0_1_2 (Host.rsqrt (addf (Host.divf (broadcastInDim S8x1x1 ![0, 1] bcast_S8x1_S8x1x1_0_1 (Host.reduceAdd (mulf (refH a0 a1 a2) (refH a0 a1 a2)) (constant S_ .f32 0x00000000#32) reducesTo_S8x1x4096_S8x1_d2 h_S_)) (broadcastInDim S8x1x1 ![] bcast_S_S8x1x1 (constant S_ .f32 0x45800000#32))) (broadcastInDim S8x1x1 ![] bcast_S_S8x1x1 (constant S_ .f32 0x358637BD#32)))))) (broadcastInDim S8x1x4096 ![0, 1, 2] bcast_S1x1x4096_S8x1x4096_0_1_2 (broadcastInDim S1x1x4096 ![2] bcast_S4096_S1x1x4096_2 a3))) a4

theorem refH_at (h y : FVec Ideal S8x1x4096 .f32) (g : FVec Ideal S4096 .f32) (n : Fin 8) (t : Fin 1) (k : Fin 4096) :
    refH h y g (ix3 n t k) = h (ix3 n t k) + normAt (fun l => y (ix3 n t l)) (g (ix1 k)) k := by
  obtain rfl : t = 0 := Subsingleton.elim _ _
  pointwise [refH, normAt]

theorem refP_at (h y : FVec Ideal S8x1x4096 .f32) (g g' : FVec Ideal S4096 .f32) (w : FVec Ideal S4096x11360 .f32) (n : Fin 8) (t : Fin 1) (q : Fin 11360) :
    refP h y g g' w (ix3 n t q) = ∑ k : Fin 4096, normAt (fun l => refH h y g (ix3 n t l)) (g' (ix1 k)) k * w (ix2 k q) := by
  obtain rfl : t = 0 := Subsingleton.elim _ _
  pointwise [refP, normAt]

theorem outP_at (h y : FVec Ideal S8x1x4096 .f32) (g g' : FVec Ideal S4096 .f32) (w : FVec Ideal S4096x11360 .f32) (n : Fin 8) (t : Fin 1) (q : Fin 11776) :
    outP h y g g' w (ix3 n t q) = ∑ k : Fin 4096, normAt (fun l => refH h y g (ix3 n t l)) (g' (ix1 k)) k * layW w (ix2 k q) := by
  obtain rfl : t = 0 := Subsingleton.elim _ _
  simp only [refH_at]
  pointwise [outP, proj, normArr, outH, resArr, normAt]

/-- A column of the kernel's layout that holds a column of the weight holds that column of the reference's projection. -/
theorem outP_col (h y : FVec Ideal S8x1x4096 .f32) (g g' : FVec Ideal S4096 .f32) (w : FVec Ideal S4096x11360 .f32) (n : Fin 8) (t : Fin 1)
    (q : Fin 11776) (q' : Fin 11360) (hq : ∀ k, layW w (ix2 k q) = w (ix2 k q')) : outP h y g g' w (ix3 n t q) = refP h y g g' w (ix3 n t q') := by
  rw [outP_at, refP_at]
  exact Finset.sum_congr rfl fun k _ => by rw [hq k]

set_option maxRecDepth 200000 in
theorem layW_low (w : FVec Ideal S4096x11360 .f32) (k : Fin 4096) (q : Nat) (hq : q < 7168) :
    layW w (ix2 k ⟨q, by omega⟩) = w (ix2 k ⟨q, by omega⟩) := by
  pointwise [layW]
  rw [dif_pos (by omega)]

/-- The result `Kv` of the reference. -/
def refKv (a0 a1 : FVec Ideal S8x1x4096 .f32) (a2 a3 : FVec Ideal S4096 .f32) (a4 : FVec Ideal S4096x11360 .f32) : FVec Ideal S8x1x4x4x128 .f32 :=
  shapeCast S8x1x4x4x128 (extractStridedSlice S8x1x2048 ![0, 0, 4096] (refP a0 a1 a2 a3 a4) slices_S8x1x11360_S8x1x2048_0_0_4096) shapeCasts_S8x1x2048_S8x1x4x4x128

theorem outKv_eq (h y : FVec Ideal S8x1x4096 .f32) (g g' : FVec Ideal S4096 .f32) (w : FVec Ideal S4096x11360 .f32) :
    outKv h y g g' w = refKv h y g g' w := by
  funext j
  obtain ⟨i0, i1, i2, i3, i4, rfl⟩ : ∃ i0 i1 i2 i3 i4, j = ix5 i0 i1 i2 i3 i4 := by
    idx_vars j
    exact ⟨_, _, _, _, _, rfl⟩
  pointwise [outKv, refKv]
  refine outP_col h y g g' w _ _ _ _ fun k => ?_
  exact layW_low w k _ (by omega)

/-- The result `Win` of the reference. -/
def refWin (a0 a1 : FVec Ideal S8x1x4096 .f32) (a2 a3 : FVec Ideal S4096 .f32) (a4 : FVec Ideal S4096x11360 .f32) (a5 : FVec Ideal S8x512x2x4x128 .f32) : FVec Ideal S8x512x2x4x128 .f32 :=
  extractStridedSlice S8x512x2x4x128 ![0, 1, 0, 0, 0] (concatenate S8x513x2x4x128 1 [⟨S8x512x2x4x128, a5⟩, ⟨S8x1x2x4x128, (shapeCast S8x1x2x4x128 (extractStridedSlice S8x1x1024 ![0, 0, 6144] (refP a0 a1 a2 a3 a4) slices_S8x1x11360_S8x1x1024_0_0_6144) shapeCasts_S8x1x1024_S8x1x2x4x128)⟩] concatenates_S8x512x2x4x128_S8x1x2x4x128_S8x513x2x4x128_d1) slices_S8x513x2x4x128_S8x512x2x4x128_0_1_0_0_0

theorem outWin_eq (h y : FVec Ideal S8x1x4096 .f32) (g g' : FVec Ideal S4096 .f32) (w : FVec Ideal S4096x11360 .f32) (p : FVec Ideal S8x512x2x4x128 .f32) :
    outWin h y g g' w p = refWin h y g g' w p := by
  funext j
  obtain ⟨i0, i1, i2, i3, i4, rfl⟩ : ∃ i0 i1 i2 i3 i4, j = ix5 i0 i1 i2 i3 i4 := by
    idx_vars j
    exact ⟨_, _, _, _, _, rfl⟩
  pointwise [outWin, refWin]
  split
  · rfl
  · refine outP_col h y g g' w _ _ _ _ fun k => ?_
    exact layW_low w k _ (by omega)

/-- From memories that agree on the arguments the kernel and the reference end with the same results. -/
theorem algebraic : Cert.algebraic_NsaStepKIdeal_NsaStepRIdeal := by
  intro m g m' g' _ hagree
  refine ⟨fun c => refKv (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)),
    fun c => refWin (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)), ?_, Cert.NsaStepRIdeal.Value.run (F := Ideal) m' g'⟩
  refine (θ_run _ _ _).mono (fun r h c => ⟨(h c).1.trans ?_, (h c).2.1.trans ?_, (h c).2.2⟩) (Cert.NsaStepKIdeal.NsaStepRun.run (F := Ideal) m g)
  · obtain ⟨h0, h1, h2, h3, h4, h5⟩ := hagree c
    rw [Cert.NsaStepKIdeal.NsaStepValue.resultKv]
    refine (outKv_eq _ _ _ _ _).trans ?_
    beta_reduce
    rw [h0, h1, h2, h3, h4]
  · obtain ⟨h0, h1, h2, h3, h4, h5⟩ := hagree c
    rw [Cert.NsaStepKIdeal.NsaStepValue.resultWin]
    refine (outWin_eq _ _ _ _ _ _).trans ?_
    beta_reduce
    rw [h0, h1, h2, h3, h4, h5]

end Cert.Proof.NsaStepClaim

end
-- ==== Proof.RgPad.lean ====
/-
  SUMS OVER PADDED CHANNELS (hand-written): 16 groups of 336 channels, each padded to 384 with zeros, have the sum the
  5376 channels have.
-/
module

public import Idealize.ShloMosaic.Lib.Pointwise
public import Mathlib.Data.EReal.Operations
public import Mathlib.Algebra.BigOperators.Fin

@[expose] public section

noncomputable section

namespace Cert.Proof.RgPad

open Idealize.ShloMosaic

/-- Terms past the 336th of 384 that are zero leave the sum of the first 336. -/
theorem sum_group (f : Fin 384 → EReal) (h0 : ∀ i : Fin 384, 336 ≤ i.val → f i = 0) :
    ∑ i : Fin 384, f i = ∑ i : Fin 336, f ⟨i.val, by omega⟩ := by
  have e := Fin.sum_univ_add (a := 336) (b := 48) f
  refine e.trans ?_
  rw [Finset.sum_eq_zero (s := Finset.univ) (f := fun i : Fin 48 => f (Fin.natAdd 336 i))
    (fun i _ => h0 _ (by simp [Fin.natAdd])), add_zero]
  rfl

/-- The channel of a group's lane. -/
def chanOf (b : Fin 16) (i : Fin 336) : Fin 5376 := ⟨b.val * 336 + i.val, by omega⟩

/-- The padded channel of a group's lane. -/
def padOf (b : Fin 16) (i : Fin 384) : Fin 6144 := ⟨b.val * 384 + i.val, by omega⟩

/-- The sum over the padded channels is the sum over the channels. -/
theorem sum_pad (f : Fin 6144 → EReal) (g : Fin 5376 → EReal)
    (h0 : ∀ (b : Fin 16) (i : Fin 384), 336 ≤ i.val → f (padOf b i) = 0)
    (h : ∀ (b : Fin 16) (i : Fin 336), f (padOf b ⟨i.val, by omega⟩) = g (chanOf b i)) :
    ∑ k : Fin 6144, f k = ∑ k : Fin 5376, g k := by
  rw [Fin.sum_univ_tiles 16 384 rfl f, Fin.sum_univ_tiles 16 336 rfl g]
  refine Finset.sum_congr rfl fun b _ => ?_
  refine (sum_group _ fun i hi => h0 b i hi).trans ?_
  exact Finset.sum_congr rfl fun i _ => h b i

end Cert.Proof.RgPad

end
-- ==== Proof.RgStepLay.lean ====
/-
  THE RG-LRU LAYER OF THE DECODING STEP (hand-written): the padded layouts of its arguments.
-/
module

public import proofs.«01_k».proof.Proof.Gen.RgStepKIdeal.Frame
public import proofs.«01_k».proof.Proof.RgPad
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.RgStepKIdeal.RgStepLay

open Cert.RgStepKIdeal Cert.RgStepKIdeal.Gen
open Idealize.ShloMosaic Idealize.ShloMosaic.TcCoe Idealize.SL.Sem
open Idealize.ShloMosaic.Pipeline (Dat)

open Cert.Proof.RgPad (padOf chanOf)

/-- The projection's weight with each group of 336 columns padded to 384, the two halves side by side. -/
def layW (w : FVec Ideal S4096x10752 .f32) : FVec Ideal S4096x12288 .bf16 :=
  truncf .bf16 (concatenate S4096x12288 1
    [⟨S4096x6144, shapeCast S4096x6144 (pad S4096x16x384 ![0, 0, 0] ![0, 0, 48] ![0, 0, 0]
        (shapeCast S4096x16x336 (extractStridedSlice S4096x5376 ![0, 0] w slices_S4096x10752_S4096x5376_0_0) shapeCasts_S4096x5376_S4096x16x336)
        (sitofp (F := Ideal) .f32 (constantI S_ 32 0#32)) pads_S4096x16x336_S4096x16x384_000_000_0480 h_S_) shapeCasts_S4096x16x384_S4096x6144⟩,
     ⟨S4096x6144, shapeCast S4096x6144 (pad S4096x16x384 ![0, 0, 0] ![0, 0, 48] ![0, 0, 0]
        (shapeCast S4096x16x336 (extractStridedSlice S4096x5376 ![0, 5376] w slices_S4096x10752_S4096x5376_0_5376) shapeCasts_S4096x5376_S4096x16x336)
        (sitofp (F := Ideal) .f32 (constantI S_ 32 0#32)) pads_S4096x16x336_S4096x16x384_000_000_0480 h_S_) shapeCasts_S4096x16x384_S4096x6144⟩]
    concatenates_S4096x6144_S4096x6144_S4096x12288_d1) bitsLt_bf16_f32

/-- A channel vector by group and lane, padded. -/
def lay16 (x : FVec Ideal S5376 .f32) : FVec Ideal S16x384 .f32 :=
  pad S16x384 ![0, 0] ![0, 48] ![0, 0] (shapeCast S16x336 x shapeCasts_S5376_S16x336) (sitofp (F := Ideal) .f32 (constantI S_ 32 0#32))
    pads_S16x336_S16x384_000_0480 h_S_

/-- A channel vector as a padded row. -/
def layRow (x : FVec Ideal S5376 .f32) : FVec Ideal S1x6144 .f32 :=
  shapeCast S1x6144 (shapeCast S6144 (lay16 x) shapeCasts_S16x384_S6144) shapeCasts_S6144_S1x6144

/-- The convolution's taps, padded. -/
def layCW (w : FVec Ideal S4x5376 .f32) : FVec Ideal S4x6144 .f32 :=
  shapeCast S4x6144 (pad S4x16x384 ![0, 0, 0] ![0, 0, 48] ![0, 0, 0] (shapeCast S4x16x336 w shapeCasts_S4x5376_S4x16x336)
    (sitofp (F := Ideal) .f32 (constantI S_ 32 0#32)) pads_S4x16x336_S4x16x384_000_000_0480 h_S_) shapeCasts_S4x16x384_S4x6144

/-- The two gates' weights, padded and side by side. -/
def layG (u v : FVec Ideal S16x336x336 .f32) : FVec Ideal S16x384x768 .bf16 :=
  truncf .bf16 (concatenate S16x384x768 2
    [⟨S16x384x384, pad S16x384x384 ![0, 0, 0] ![0, 48, 48] ![0, 0, 0] u (sitofp (F := Ideal) .f32 (constantI S_ 32 0#32))
        pads_S16x336x336_S16x384x384_000_0480_0480 h_S_⟩,
     ⟨S16x384x384, pad S16x384x384 ![0, 0, 0] ![0, 48, 48] ![0, 0, 0] v (sitofp (F := Ideal) .f32 (constantI S_ 32 0#32))
        pads_S16x336x336_S16x384x384_000_0480_0480 h_S_⟩]
    concatenates_S16x384x384_S16x384x384_S16x384x768_d2) bitsLt_bf16_f32

/-- The two gates' biases, padded and side by side. -/
def layB (u v : FVec Ideal S5376 .f32) : FVec Ideal S16x1x768 .f32 :=
  shapeCast S16x1x768 (concatenate S16x2x384 1
    [⟨S16x1x384, broadcastInDim S16x1x384 ![0, 2] bcast_S16x384_S16x1x384_0_2
        (shapeCast S16x384 (shapeCast S6144 (lay16 u) shapeCasts_S16x384_S6144) shapeCasts_S6144_S16x384)⟩,
     ⟨S16x1x384, broadcastInDim S16x1x384 ![0, 2] bcast_S16x384_S16x1x384_0_2
        (shapeCast S16x384 (shapeCast S6144 (lay16 v) shapeCasts_S16x384_S6144) shapeCasts_S6144_S16x384)⟩]
    concatenates_S16x1x384_S16x1x384_S16x2x384_d1) shapeCasts_S16x2x384_S16x1x768

/-- The convolution's buffer, padded, by tap. -/
def layP (p : FVec Ideal S8x3x5376 .f32) : FVec Ideal S3x8x6144 .f32 :=
  transpose S3x8x6144 [1, 0, 2] (shapeCast S8x3x6144 (pad S8x3x16x384 ![0, 0, 0, 0] ![0, 0, 0, 48] ![0, 0, 0, 0]
    (shapeCast S8x3x16x336 p shapeCasts_S8x3x5376_S8x3x16x336) (sitofp (F := Ideal) .f32 (constantI S_ 32 0#32))
    pads_S8x3x16x336_S8x3x16x384_000_000_000_0480 h_S_) shapeCasts_S8x3x16x384_S8x3x6144) transposes_S8x3x6144_S3x8x6144_1_0_2

/-- The state, padded. -/
def layH (h : FVec Ideal S8x5376 .f32) : FVec Ideal S8x6144 .f32 :=
  shapeCast S8x6144 (pad S8x16x384 ![0, 0, 0] ![0, 0, 48] ![0, 0, 0] (shapeCast S8x16x336 h shapeCasts_S8x5376_S8x16x336)
    (sitofp (F := Ideal) .f32 (constantI S_ 32 0#32)) pads_S8x16x336_S8x16x384_000_000_0480 h_S_) shapeCasts_S8x16x384_S8x6144

/-- The host's softplus. -/
def softplus (x : FVec Ideal S5376 .f32) : FVec Ideal S5376 .f32 :=
  select (cmpf .une (subf x (broadcastInDim S5376 ![] bcast_S_S5376 (constant S_ .f32 0x00000000#32)))
      (subf x (broadcastInDim S5376 ![] bcast_S_S5376 (constant S_ .f32 0x00000000#32))))
    (addf x (broadcastInDim S5376 ![] bcast_S_S5376 (constant S_ .f32 0x00000000#32)))
    (addf (maximumf x (broadcastInDim S5376 ![] bcast_S_S5376 (constant S_ .f32 0x00000000#32)))
      (Host.log1p (Host.exp (Host.negf (Host.absf (subf x (broadcastInDim S5376 ![] bcast_S_S5376 (constant S_ .f32 0x00000000#32))))))))

/-- An array of padded channels back at its channels. -/
def unpad {φ : FTy} (x : FVec Ideal S8x6144 φ) : FVec Ideal S8x5376 φ :=
  shapeCast S8x5376 (extractStridedSlice S8x16x336 ![0, 0, 0] (shapeCast S8x16x384 x shapeCasts_S8x6144_S8x16x384)
    slices_S8x16x384_S8x16x336_0_0_0) shapeCasts_S8x16x336_S8x5376

set_option maxRecDepth 200000 in
theorem layW_u (w : FVec Ideal S4096x10752 .f32) (k : Fin 4096) (b : Fin 16) (i : Fin 336) :
    layW w (ix2 k ⟨(padOf b ⟨i.val, by omega⟩).val, by omega⟩) = w (ix2 k ⟨(chanOf b i).val, by omega⟩) := by
  have hb := b.isLt
  have hi := i.isLt
  have e : (b.val * 384 + i.val) % 384 = i.val := by omega
  have e' : (b.val * 384 + i.val) / 384 = b.val := by omega
  pointwise [layW, padOf, chanOf]
  rw [dif_pos (by omega)]
  simp only [e, dif_pos hi]

set_option maxRecDepth 200000 in
theorem layW_z (w : FVec Ideal S4096x10752 .f32) (k : Fin 4096) (b : Fin 16) (i : Fin 336) :
    layW w (ix2 k ⟨6144 + (padOf b ⟨i.val, by omega⟩).val, by omega⟩) = w (ix2 k ⟨5376 + (chanOf b i).val, by omega⟩) := by
  have hb := b.isLt
  have hi := i.isLt
  have e : (b.val * 384 + i.val) % 384 = i.val := by omega
  have e' : (b.val * 384 + i.val) / 384 = b.val := by omega
  pointwise [layW, padOf, chanOf]
  simp only [e, dif_pos hi]

theorem layRow_at (x : FVec Ideal S5376 .f32) (b : Fin 16) (i : Fin 336) :
    layRow x (ix2 0 (padOf b ⟨i.val, by omega⟩)) = x (ix1 (chanOf b i)) := by
  have hb := b.isLt
  have hi := i.isLt
  have e : (b.val * 384 + i.val) % 384 = i.val := by omega
  have e' : (b.val * 384 + i.val) / 384 = b.val := by omega
  pointwise [layRow, lay16, padOf, chanOf]
  simp only [e, dif_pos hi]

theorem layCW_at (w : FVec Ideal S4x5376 .f32) (k : Fin 4) (b : Fin 16) (i : Fin 336) :
    layCW w (ix2 k (padOf b ⟨i.val, by omega⟩)) = w (ix2 k (chanOf b i)) := by
  have hb := b.isLt
  have hi := i.isLt
  have e : (b.val * 384 + i.val) % 384 = i.val := by omega
  have e' : (b.val * 384 + i.val) / 384 = b.val := by omega
  pointwise [layCW, padOf, chanOf]
  simp only [e, dif_pos hi]

theorem layP_at (p : FVec Ideal S8x3x5376 .f32) (k : Fin 3) (r : Fin 8) (b : Fin 16) (i : Fin 336) :
    layP p (ix3 k r (padOf b ⟨i.val, by omega⟩)) = p (ix3 r k (chanOf b i)) := by
  have hb := b.isLt
  have hi := i.isLt
  have e : (b.val * 384 + i.val) % 384 = i.val := by omega
  have e' : (b.val * 384 + i.val) / 384 = b.val := by omega
  pointwise [layP, padOf, chanOf]
  simp only [e, dif_pos hi]

theorem layH_at (h : FVec Ideal S8x5376 .f32) (r : Fin 8) (b : Fin 16) (i : Fin 336) :
    layH h (ix2 r (padOf b ⟨i.val, by omega⟩)) = h (ix2 r (chanOf b i)) := by
  have hb := b.isLt
  have hi := i.isLt
  have e : (b.val * 384 + i.val) % 384 = i.val := by omega
  have e' : (b.val * 384 + i.val) / 384 = b.val := by omega
  pointwise [layH, padOf, chanOf]
  simp only [e, dif_pos hi]

set_option maxRecDepth 200000 in
theorem layG_r (u v : FVec Ideal S16x336x336 .f32) (k : Fin 336) (b : Fin 16) (i : Fin 336) :
    layG u v (ix3 b ⟨k.val, by omega⟩ ⟨i.val, by omega⟩) = u (ix3 b k i) := by
  have hb := b.isLt
  have hi := i.isLt
  have e : (b.val * 384 + i.val) % 384 = i.val := by omega
  have e' : (b.val * 384 + i.val) / 384 = b.val := by omega
  pointwise [layG]
  rw [dif_pos (by omega)]

set_option maxRecDepth 200000 in
theorem layG_i (u v : FVec Ideal S16x336x336 .f32) (k : Fin 336) (b : Fin 16) (i : Fin 336) :
    layG u v (ix3 b ⟨k.val, by omega⟩ ⟨384 + i.val, by omega⟩) = v (ix3 b k i) := by
  have hb := b.isLt
  have hi := i.isLt
  have e : (b.val * 384 + i.val) % 384 = i.val := by omega
  have e' : (b.val * 384 + i.val) / 384 = b.val := by omega
  pointwise [layG]

set_option maxRecDepth 200000 in
theorem layG_zero (u v : FVec Ideal S16x336x336 .f32) (b : Fin 16) (k : Fin 384) (l : Fin 768) (h : 336 ≤ k.val) :
    layG u v (ix3 b k l) = (0 : EReal) := by
  have hb := b.isLt
  have hk := k.isLt
  have hl := l.isLt
  pointwise [layG]
  have z : (FloatOps.sitofp (F := Ideal) FTy.f32 (0#32) : EReal) = 0 := by
    show (((0#32 : BitVec 32).toInt : ℝ) : EReal) = 0
    simp
  split
  · rw [dif_neg (by omega)]
    exact z
  · rw [dif_neg (by omega)]
    exact z

set_option maxRecDepth 200000 in
theorem layB_r (u v : FVec Ideal S5376 .f32) (b : Fin 16) (i : Fin 336) :
    layB u v (ix3 b 0 ⟨i.val, by omega⟩) = u (ix1 (chanOf b i)) := by
  have hb := b.isLt
  have hi := i.isLt
  have e : (b.val * 384 + i.val) % 384 = i.val := by omega
  have e' : (b.val * 384 + i.val) / 384 = b.val := by omega
  pointwise [layB, lay16, chanOf]
  have f : i.val % 384 = i.val := by omega
  rw [dif_pos (by omega)]
  simp only [f, dif_pos hi]

set_option maxRecDepth 200000 in
theorem layB_i (u v : FVec Ideal S5376 .f32) (b : Fin 16) (i : Fin 336) :
    layB u v (ix3 b 0 ⟨384 + i.val, by omega⟩) = v (ix1 (chanOf b i)) := by
  have hb := b.isLt
  have hi := i.isLt
  have e : (b.val * 384 + i.val) % 384 = i.val := by omega
  have e' : (b.val * 384 + i.val) / 384 = b.val := by omega
  pointwise [layB, lay16, chanOf]
  have f : (384 + i.val) % 384 = i.val := by omega
  rw [dif_neg (by omega)]
  simp only [f, dif_pos hi]

theorem unpad_at {φ : FTy} (x : FVec Ideal S8x6144 φ) (r : Fin 8) (b : Fin 16) (i : Fin 336) :
    unpad x (ix2 r (chanOf b i)) = x (ix2 r (padOf b ⟨i.val, by omega⟩)) := by
  have hb := b.isLt
  have hi := i.isLt
  have e : (b.val * 336 + i.val) % 336 = i.val := by omega
  have e' : (b.val * 336 + i.val) / 336 = b.val := by omega
  pointwise [unpad, padOf, chanOf]

end Cert.RgStepKIdeal.RgStepLay

end
-- ==== Proof.RgStepEntry.lean ====
/-
  THE RG-LRU LAYER OF THE DECODING STEP (hand-written): the norms and the projection, from the arrays they read.
-/
module

public import proofs.«01_k».proof.Proof.Gen.RgStepKIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.RgStepKIdeal.RgStepEntry

open Cert.RgStepKIdeal Cert.RgStepKIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![0, 0]
    ∧ win0_3.index t = ![0, 0] ∧ win0_4.index t = ![t.val, 0] ∧ win0_5.index t = ![t.val, 0] :=
  (by decide +kernel : ∀ t : Fin grid0.N, _)

theorem idx1 : ∀ t : Fin cfg1.N, win1_0.index t = ![t.val / 12, 0] ∧ win1_1.index t = ![0, t.val % 12]
    ∧ win1_2.index t = ![t.val / 12, t.val % 12] :=
  (by decide +kernel : ∀ t : Fin grid1.N, _)

/-- The weighted root-mean-square norm of a row, at a channel. -/
def normAt (row : Fin 4096 → EReal) (g : EReal) (k : Fin 4096) : EReal :=
  row k * Ideal.rsqrt (Ideal.div (∑ l, row l * row l) (Ideal.ofBits FTy.f32 0x45800000#32) + Ideal.ofBits FTy.f32 0x358637BD#32) * g

/-- The residual stream plus the normed block output. -/
def resArr (h y : FVec Ideal S8x4096 .f32) (g : FVec Ideal S1x4096 .f32) : FVec Ideal S8x4096 .f32 :=
  fun j => h j + normAt (fun k => y (ix2 (j 0) k)) (g (ix2 0 (j 1))) (j 1)

/-- The next layer's norm of it. -/
def normArr (x : FVec Ideal S8x4096 .f32) (g : FVec Ideal S1x4096 .f32) : FVec Ideal S8x4096 .bf16 :=
  fun j => normAt (fun k => x (ix2 (j 0) k)) (g (ix2 0 (j 1))) (j 1)

theorem arrH (c : Dev nD) : (dat0 V c).arrAt 4 cfg0.N = resArr (V c main_v43) (V c main_v44) (V c main_v45) := by
  refine (dat0 V c).arrAt_eq_of_covers 4 _ (by decide +kernel) fun t _ y => ?_
  blk_simp
  rw [after0_4]
  frame_out
  pointwise [k0_pay1, resArr, normAt]
  blk_point [iblk0, idx0 t]

theorem arrX (c : Dev nD) : (dat0 V c).arrAt 5 cfg0.N
    = normArr (resArr (V c main_v43) (V c main_v44) (V c main_v45)) (V c main_v46) := by
  refine (dat0 V c).arrAt_eq_of_covers 5 _ (by decide +kernel) fun t _ y => ?_
  blk_simp
  rw [after0_5]
  frame_out
  pointwise [k0_pay1, k0_pay2, normArr, resArr, normAt]
  blk_point [iblk0, idx0 t]

/-- The product over the laid-out columns. -/
def proj (X : FVec Ideal S8x4096 .bf16) (W : FVec Ideal S4096x12288 .bf16) : FVec Ideal S8x12288 .f32 :=
  fun j => ∑ k : Fin 4096, X (ix2 (j 0) k) * W (ix2 k (j 1))

theorem arrP (c : Dev nD) : (dat1 V c).arrAt 2 cfg1.N = proj (V c main_v49) (V c main_v9) := by
  refine (dat1 V c).arrAt_eq_of_covers 2 _ (by decide +kernel) fun t _ y => ?_
  blk_simp
  rw [after1_2]
  frame_out
  pointwise [k1_pay1, proj]
  blk_point [iblk1, idx1 t]

end Cert.RgStepKIdeal.RgStepEntry

end
-- ==== Proof.RgStepBody.lean ====
/-
  THE RG-LRU LAYER OF THE DECODING STEP (hand-written): the recurrence's body at a row and a lane.
-/
module

public import proofs.«01_k».proof.Proof.Gen.RgStepKIdeal.Frame
public import proofs.«01_k».proof.Proof.RgPad
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.RgStepKIdeal.RgStepBody

open Cert.RgStepKIdeal Cert.RgStepKIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx2 : ∀ t : Fin cfg2.N, win2_0.index t = ![0, t.val] ∧ win2_1.index t = ![0, 16 + t.val] ∧ win2_2.index t = ![0, t.val]
    ∧ win2_3.index t = ![0, t.val] ∧ win2_4.index t = ![t.val, 0, 0] ∧ win2_5.index t = ![t.val, 0, 0] ∧ win2_6.index t = ![0, t.val]
    ∧ win2_7.index t = ![0, 0, t.val] ∧ win2_8.index t = ![0, t.val] ∧ win2_9.index t = ![0, t.val] ∧ win2_10.index t = ![0, t.val] :=
  (by decide +kernel : ∀ t : Fin grid2.N, _)

open Cert.Proof.RgPad (padOf)

/-- The convolved input of a padded channel. -/
def ucAt (U : FVec Ideal S8x12288 .f32) (CW : FVec Ideal S4x6144 .f32) (CB : FVec Ideal S1x6144 .f32) (P : FVec Ideal S3x8x6144 .f32)
    (r : Fin 8) (q : Fin 6144) : EReal :=
  CW (ix2 3 q) * U (ix2 r ⟨q.val, by omega⟩) + CW (ix2 2 q) * P (ix3 2 r q) + CW (ix2 1 q) * P (ix3 1 r q)
    + CW (ix2 0 q) * P (ix3 0 r q) + CB (ix2 0 q)

/-- A gate's logit: the group's convolved inputs through the gate's weight. -/
def gateAt (U : FVec Ideal S8x12288 .f32) (CW : FVec Ideal S4x6144 .f32) (CB : FVec Ideal S1x6144 .f32) (P : FVec Ideal S3x8x6144 .f32)
    (G : FVec Ideal S16x384x768 .bf16) (B : FVec Ideal S16x1x768 .f32) (r : Fin 8) (b : Fin 16) (l : Fin 768) : EReal :=
  (∑ k : Fin 384, ucAt U CW CB P r (padOf b k) * G (ix3 b k l)) + B (ix3 b 0 l)

/-- One step of the gated recurrence, from the logits of its two gates. -/
def recur (gr gi sp uc h0 : EReal) : EReal :=
  Ideal.exp (Ideal.ofBits FTy.f32 0xC1000000#32 * Ideal.logistic gr * sp) * h0
    + Ideal.sqrt (1 - Ideal.exp (Ideal.ofBits FTy.f32 0xC1000000#32 * Ideal.logistic gr * sp)
        * Ideal.exp (Ideal.ofBits FTy.f32 0xC1000000#32 * Ideal.logistic gr * sp)) * (Ideal.logistic gi * uc)

/-- The new state of a group's lane. -/
def hAt (U : FVec Ideal S8x12288 .f32) (CW : FVec Ideal S4x6144 .f32) (CB : FVec Ideal S1x6144 .f32) (G : FVec Ideal S16x384x768 .bf16)
    (B : FVec Ideal S16x1x768 .f32) (SP : FVec Ideal S1x6144 .f32) (P : FVec Ideal S3x8x6144 .f32) (H0 : FVec Ideal S8x6144 .f32)
    (r : Fin 8) (b : Fin 16) (i : Fin 384) : EReal :=
  recur (gateAt U CW CB P G B r b ⟨i.val, by omega⟩) (gateAt U CW CB P G B r b ⟨384 + i.val, by omega⟩) (SP (ix2 0 (padOf b i)))
    (ucAt U CW CB P r (padOf b i)) (H0 (ix2 r (padOf b i)))

/-- The new states. -/
def stepH (U : FVec Ideal S8x12288 .f32) (CW : FVec Ideal S4x6144 .f32) (CB : FVec Ideal S1x6144 .f32) (G : FVec Ideal S16x384x768 .bf16)
    (B : FVec Ideal S16x1x768 .f32) (SP : FVec Ideal S1x6144 .f32) (P : FVec Ideal S3x8x6144 .f32) (H0 : FVec Ideal S8x6144 .f32) : FVec Ideal S8x6144 .f32 :=
  fun j => hAt U CW CB G B SP P H0 (j 0) ⟨(j 1).val / 384, by have := (j 1).isLt; simp at this; omega⟩ ⟨(j 1).val % 384, by omega⟩

/-- The gated outputs. -/
def stepO (U : FVec Ideal S8x12288 .f32) (CW : FVec Ideal S4x6144 .f32) (CB : FVec Ideal S1x6144 .f32) (G : FVec Ideal S16x384x768 .bf16)
    (B : FVec Ideal S16x1x768 .f32) (SP : FVec Ideal S1x6144 .f32) (P : FVec Ideal S3x8x6144 .f32) (H0 : FVec Ideal S8x6144 .f32) : FVec Ideal S8x6144 .bf16 :=
  fun j => stepH U CW CB G B SP P H0 j * (U (ix2 (j 0) ⟨6144 + (j 1).val, by have := (j 1).isLt; simp at this; omega⟩)
    * Ideal.logistic (U (ix2 (j 0) ⟨6144 + (j 1).val, by have := (j 1).isLt; simp at this; omega⟩)))

/-! ## The body's values at a row and a lane -/

theorem pay1_at (v28 : FVec Ideal S8x384 .f32) (v30 : FVec Ideal S384x768 .bf16) (v32 : FVec Ideal S1x768 .f32)
    (v34 : FVec Ideal S1x384 .f32) (v35 : FVec Ideal S8x384 .bf16) (v54 : FVec Ideal S8x384 .f32) (r : Fin 8) (i : Fin 384) :
    k2_pay1 (F := Ideal) v28 v30 v32 v34 v35 v54 (ix2 r i)
      = recur ((∑ k : Fin 384, v35 (ix2 r k) * v30 (ix2 k ⟨i.val, by omega⟩)) + v32 (ix2 0 ⟨i.val, by omega⟩))
          ((∑ k : Fin 384, v35 (ix2 r k) * v30 (ix2 k ⟨384 + i.val, by omega⟩)) + v32 (ix2 0 ⟨384 + i.val, by omega⟩))
          (v34 (ix2 0 i)) (v28 (ix2 r i)) (v54 (ix2 r i)) := by
  pointwise [k2_pay1, recur]

theorem pay2_at (v28 : FVec Ideal S8x384 .f32) (v30 : FVec Ideal S384x768 .bf16) (v32 : FVec Ideal S1x768 .f32)
    (v34 : FVec Ideal S1x384 .f32) (v35 : FVec Ideal S8x384 .bf16) (v54 v59 : FVec Ideal S8x384 .f32) (r : Fin 8) (i : Fin 384) :
    k2_pay2 (F := Ideal) v28 v30 v32 v34 v35 v54 v59 (ix2 r i)
      = k2_pay1 (F := Ideal) v28 v30 v32 v34 v35 v54 (ix2 r i) * (v59 (ix2 r i) * Ideal.logistic (v59 (ix2 r i))) := by
  pointwise [k2_pay2]

theorem pay3_at (v0 : FVec Ideal S4x384 .f32) (v3 : FVec Ideal S8x384 .f32) (v8 v14 v20 : FVec Ideal S1x8x384 .f32)
    (v25 : FVec Ideal S1x384 .f32) (r : Fin 8) (i : Fin 384) :
    k2_pay3 (F := Ideal) v0 v3 v8 v14 v20 v25 (ix2 r i)
      = v0 (ix2 3 i) * v3 (ix2 r i) + v0 (ix2 2 i) * v8 (ix3 0 r i) + v0 (ix2 1 i) * v14 (ix3 0 r i)
        + v0 (ix2 0 i) * v20 (ix3 0 r i) + v25 (ix2 0 i) := by
  pointwise [k2_pay3]

theorem pay4_at (v29 : FVec Ideal S1x384x768 .bf16) (k : Fin 384) (l : Fin 768) :
    k2_pay4 (F := Ideal) v29 (ix2 k l) = v29 (ix3 0 k l) := by
  pointwise [k2_pay4]

theorem pay5_at (v31 : FVec Ideal S1x1x768 .f32) (l : Fin 768) : k2_pay5 (F := Ideal) v31 (ix2 0 l) = v31 (ix3 0 0 l) := by
  pointwise [k2_pay5]

theorem pay6_at (v33 : FVec Ideal S1x384 .f32) (i : Fin 384) : k2_pay6 (F := Ideal) v33 (ix2 0 i) = v33 (ix2 0 i) := by
  pointwise [k2_pay6]

theorem pay7_at (v0 : FVec Ideal S4x384 .f32) (v3 : FVec Ideal S8x384 .f32) (v8 v14 v20 : FVec Ideal S1x8x384 .f32)
    (v25 : FVec Ideal S1x384 .f32) (r : Fin 8) (i : Fin 384) :
    k2_pay7 (F := Ideal) v0 v3 v8 v14 v20 v25 (ix2 r i) = k2_pay3 (F := Ideal) v0 v3 v8 v14 v20 v25 (ix2 r i) := rfl

/-! ## The blocks of a group -/

/-- The group of a grid step. -/
def grp (t : Fin cfg2.N) : Fin 16 := ⟨t.val, lt_of_lt_of_eq t.isLt N_2⟩

theorem blkU (c : Dev nD) (t : Fin cfg2.N) (r : Fin 8) (i : Fin 384) :
    iblk2 V c 0 t (ix2 r i) = V c main_v52 (ix2 r ⟨(padOf (grp t) i).val, by omega⟩) := by
  blk_point [iblk2, idx2 t, padOf, grp]

theorem blkZ (c : Dev nD) (t : Fin cfg2.N) (r : Fin 8) (i : Fin 384) :
    iblk2 V c 1 t (ix2 r i) = V c main_v52 (ix2 r ⟨6144 + (padOf (grp t) i).val, by omega⟩) := by
  blk_point [iblk2, idx2 t, padOf, grp]

theorem blkCW (c : Dev nD) (t : Fin cfg2.N) (r : Fin 4) (i : Fin 384) :
    iblk2 V c 2 t (ix2 r i) = V c main_v37 (ix2 r (padOf (grp t) i)) := by
  blk_point [iblk2, idx2 t, padOf, grp]

theorem blkCB (c : Dev nD) (t : Fin cfg2.N) (i : Fin 384) :
    iblk2 V c 3 t (ix2 0 i) = V c main_v41 (ix2 0 (padOf (grp t) i)) := by
  blk_point [iblk2, idx2 t, padOf, grp]

theorem blkG (c : Dev nD) (t : Fin cfg2.N) (k : Fin 384) (l : Fin 768) :
    iblk2 V c 4 t (ix3 0 k l) = V c main_v13 (ix3 (grp t) k l) := by
  blk_point [iblk2, idx2 t, padOf, grp]

theorem blkB (c : Dev nD) (t : Fin cfg2.N) (l : Fin 768) :
    iblk2 V c 5 t (ix3 0 0 l) = V c main_v25 (ix3 (grp t) 0 l) := by
  blk_point [iblk2, idx2 t, padOf, grp]

theorem blkSP (c : Dev nD) (t : Fin cfg2.N) (i : Fin 384) :
    iblk2 V c 6 t (ix2 0 i) = V c main_v31 (ix2 0 (padOf (grp t) i)) := by
  blk_point [iblk2, idx2 t, padOf, grp]

theorem blkP (c : Dev nD) (t : Fin cfg2.N) (k : Fin 3) (r : Fin 8) (i : Fin 384) :
    iblk2 V c 7 t (ix3 k r i) = V c main_v56 (ix3 k r (padOf (grp t) i)) := by
  blk_point [iblk2, idx2 t, padOf, grp]

theorem blkH0 (c : Dev nD) (t : Fin cfg2.N) (r : Fin 8) (i : Fin 384) :
    iblk2 V c 8 t (ix2 r i) = V c main_v59 (ix2 r (padOf (grp t) i)) := by
  blk_point [iblk2, idx2 t, padOf, grp]

theorem ld_buf2 (x : Vec Ideal S3x8x384 .f32) (r : Fin 8) (i : Fin 384) : View.ld (Val := Elt Ideal) x r2_2 (ix3 0 r i) = x (ix3 2 r i) := by
  pointwise [r2_2]

theorem ld_buf1 (x : Vec Ideal S3x8x384 .f32) (r : Fin 8) (i : Fin 384) : View.ld (Val := Elt Ideal) x r2_3 (ix3 0 r i) = x (ix3 1 r i) := by
  pointwise [r2_3]

theorem ld_buf0 (x : Vec Ideal S3x8x384 .f32) (r : Fin 8) (i : Fin 384) : View.ld (Val := Elt Ideal) x r2_4 (ix3 0 r i) = x (ix3 0 r i) := by
  pointwise [r2_4]

theorem stepH_pad (U : FVec Ideal S8x12288 .f32) (CW : FVec Ideal S4x6144 .f32) (CB : FVec Ideal S1x6144 .f32) (G : FVec Ideal S16x384x768 .bf16)
    (B : FVec Ideal S16x1x768 .f32) (SP : FVec Ideal S1x6144 .f32) (P : FVec Ideal S3x8x6144 .f32) (H0 : FVec Ideal S8x6144 .f32)
    (r : Fin 8) (b : Fin 16) (i : Fin 384) : stepH U CW CB G B SP P H0 (ix2 r (padOf b i)) = hAt U CW CB G B SP P H0 r b i := by
  have e1 : (padOf b i).val / 384 = b.val := by show (b.val * 384 + i.val) / 384 = b.val; omega
  have e2 : (padOf b i).val % 384 = i.val := by show (b.val * 384 + i.val) % 384 = i.val; omega
  show hAt U CW CB G B SP P H0 r ⟨(padOf b i).val / 384, _⟩ ⟨(padOf b i).val % 384, _⟩ = _
  congr 1
  · exact Fin.ext e1
  · exact Fin.ext e2

end Cert.RgStepKIdeal.RgStepBody

end
-- ==== Proof.RgStepValue.lean ====
/-
  THE RG-LRU LAYER OF THE DECODING STEP (hand-written): what the recurrence leaves, from the arrays it reads.
-/
module

public import proofs.«01_k».proof.Proof.Gen.RgStepKIdeal.Frame
public import proofs.«01_k».proof.Proof.RgStepBody
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.RgStepKIdeal.RgStepValue

open Cert.RgStepKIdeal Cert.RgStepKIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

open Cert.RgStepKIdeal.RgStepBody
open Cert.Proof.RgPad (padOf)

/-- A row and a lane of a block. -/
theorem idx_row (y : S8x384.Idx) : ∃ (r : Fin 8) (i : Fin 384), y = ix2 r i := by
  idx_vars y
  exact ⟨_, _, rfl⟩

/-- The new state's block at a row and a lane. -/
theorem blockH (c : Dev nD) (t : Fin cfg2.N) (r : Fin 8) (i : Fin 384) :
    k2_pay1 (F := Ideal)
      (k2_pay3 (iblk2 V c 2 t) (iblk2 V c 0 t) (View.ld (iblk2 V c 7 t) r2_2) (View.ld (iblk2 V c 7 t) r2_3)
        (View.ld (iblk2 V c 7 t) r2_4) (iblk2 V c 3 t))
      (k2_pay4 (iblk2 V c 4 t)) (k2_pay5 (iblk2 V c 5 t)) (k2_pay6 (iblk2 V c 6 t))
      (k2_pay7 (iblk2 V c 2 t) (iblk2 V c 0 t) (View.ld (iblk2 V c 7 t) r2_2) (View.ld (iblk2 V c 7 t) r2_3)
        (View.ld (iblk2 V c 7 t) r2_4) (iblk2 V c 3 t))
      (iblk2 V c 8 t) (ix2 r i)
    = hAt (V c main_v52) (V c main_v37) (V c main_v41) (V c main_v13) (V c main_v25) (V c main_v31) (V c main_v56) (V c main_v59) r (grp t) i := by
  have hu : ∀ k : Fin 384, k2_pay3 (F := Ideal) (iblk2 V c 2 t) (iblk2 V c 0 t) (View.ld (iblk2 V c 7 t) r2_2) (View.ld (iblk2 V c 7 t) r2_3)
        (View.ld (iblk2 V c 7 t) r2_4) (iblk2 V c 3 t) (ix2 r k)
      = ucAt (V c main_v52) (V c main_v37) (V c main_v41) (V c main_v56) r (padOf (grp t) k) := fun k => by
    refine (pay3_at _ _ _ _ _ _ r k).trans ?_
    rw [ld_buf2, ld_buf1, ld_buf0, blkU, blkCW, blkCW, blkCW, blkCW, blkCB, blkP, blkP, blkP]
    rfl
  have hg : ∀ l : Fin 768, (∑ k : Fin 384, k2_pay7 (F := Ideal) (iblk2 V c 2 t) (iblk2 V c 0 t) (View.ld (iblk2 V c 7 t) r2_2)
        (View.ld (iblk2 V c 7 t) r2_3) (View.ld (iblk2 V c 7 t) r2_4) (iblk2 V c 3 t) (ix2 r k) * k2_pay4 (F := Ideal) (iblk2 V c 4 t) (ix2 k l))
        + k2_pay5 (F := Ideal) (iblk2 V c 5 t) (ix2 0 l)
      = gateAt (V c main_v52) (V c main_v37) (V c main_v41) (V c main_v56) (V c main_v13) (V c main_v25) r (grp t) l := fun l => by
    refine congrArg₂ (· + ·) (Finset.sum_congr rfl fun k _ => congrArg₂ (· * ·) ((pay7_at _ _ _ _ _ _ r k).trans (hu k)) ?_) ?_
    · exact (pay4_at _ k l).trans (blkG V c t k l)
    · exact (pay5_at _ l).trans (blkB V c t l)
  refine (pay1_at _ _ _ _ _ _ r i).trans ?_
  have h6 : k2_pay6 (F := Ideal) (iblk2 V c 6 t) (ix2 0 i) = V c main_v31 (ix2 0 (padOf (grp t) i)) :=
    (pay6_at _ i).trans (blkSP V c t i)
  rw [hg, hg, hu, h6, blkH0]
  rfl

theorem arrHn (c : Dev nD) : (dat2 V c).arrAt 10 cfg2.N
    = stepH (V c main_v52) (V c main_v37) (V c main_v41) (V c main_v13) (V c main_v25) (V c main_v31) (V c main_v56) (V c main_v59) := by
  refine (dat2 V c).arrAt_eq_of_covers 10 _ (by decide +kernel) fun t _ y => ?_
  blk_simp
  rw [after2_10]
  unfold_out out2_10
  frame_out
  obtain ⟨r, i, rfl⟩ : ∃ (r : Fin 8) (i : Fin 384), y = ix2 r i := idx_row y
  refine (blockH V c t r i).trans ?_
  refine (stepH_pad _ _ _ _ _ _ _ _ r (grp t) i).symm.trans (congrArg _ ?_)
  blk_ext [idx2 t, padOf, grp]

theorem arrO (c : Dev nD) : (dat2 V c).arrAt 9 cfg2.N
    = stepO (V c main_v52) (V c main_v37) (V c main_v41) (V c main_v13) (V c main_v25) (V c main_v31) (V c main_v56) (V c main_v59) := by
  refine (dat2 V c).arrAt_eq_of_covers 9 _ (by decide +kernel) fun t _ y => ?_
  blk_simp
  rw [after2_9]
  unfold_out out2_9
  frame_out
  obtain ⟨r, i, rfl⟩ : ∃ (r : Fin 8) (i : Fin 384), y = ix2 r i := idx_row y
  refine (pay2_at _ _ _ _ _ _ _ r i).trans ?_
  refine Eq.trans (b := stepO (V c main_v52) (V c main_v37) (V c main_v41) (V c main_v13) (V c main_v25) (V c main_v31) (V c main_v56)
    (V c main_v59) (ix2 r (padOf (grp t) i))) ?_ (congrArg _ ?_)
  · refine (congrArg₂ (· * ·) (blockH V c t r i) (congrArg (fun z => z * Ideal.logistic z) (blkZ V c t r i))).trans ?_
    exact congrArg (· * _) (stepH_pad _ _ _ _ _ _ _ _ r (grp t) i).symm
  · blk_ext [idx2 t, padOf, grp]

end Cert.RgStepKIdeal.RgStepValue

end
-- ==== Proof.RgStepHost.lean ====
/-
  THE RG-LRU LAYER OF THE DECODING STEP (hand-written): its buffers, from the arguments.
-/
module

public import proofs.«01_k».proof.Proof.RgStepLay
public import proofs.«01_k».proof.Proof.RgStepEntry
public import proofs.«01_k».proof.Proof.RgStepValue
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.RgStepKIdeal.RgStepHost

open Cert.RgStepKIdeal Cert.RgStepKIdeal.Gen
open Idealize.ShloMosaic Idealize.ShloMosaic.TcCoe Idealize.SL.Sem
open Idealize.ShloMosaic.Pipeline (Dat)

open Cert.RgStepKIdeal.RgStepLay Cert.RgStepKIdeal.RgStepEntry

variable (m : (ℓ : Loc nD τ sig) → Buf (Elt Ideal) ℓ) (ρ : Dev nD → PrngReg)

theorem V23_v43 (c : Dev nD) : V23 m ρ c main_v43 = shapeCast S8x4096 (m ((c.tc : Thread nD τ).loc main_arg0)) shapeCasts_S8x1x4096_S8x4096 := by
  have e : W23 m ρ c (Proc.devRef .tc main_v43) = shapeCast S8x4096 (show FVec Ideal S8x1x4096 .f32 from W22 m ρ c (Proc.devRef .tc main_arg0)) shapeCasts_S8x1x4096_S8x4096 := by
    dsimp only [W23]
    after_results_simp <;> rfl
  have e' : W23 m ρ c (Proc.devRef .tc main_v43) = W23 m ρ c (Proc.devRef .tc main_v43) := by
    rfl
  exact e'.trans (e.trans (by rw [W22_args m ρ c main_arg0 (by decide)]))

theorem V23_v44 (c : Dev nD) : V23 m ρ c main_v44 = shapeCast S8x4096 (m ((c.tc : Thread nD τ).loc main_arg1)) shapeCasts_S8x1x4096_S8x4096 := by
  have e : W23 m ρ c (Proc.devRef .tc main_v44) = shapeCast S8x4096 (show FVec Ideal S8x1x4096 .f32 from W22 m ρ c (Proc.devRef .tc main_arg1)) shapeCasts_S8x1x4096_S8x4096 := by
    dsimp only [W23]
    after_results_simp <;> rfl
  have e' : W23 m ρ c (Proc.devRef .tc main_v44) = W23 m ρ c (Proc.devRef .tc main_v44) := by
    rfl
  exact e'.trans (e.trans (by rw [W22_args m ρ c main_arg1 (by decide)]))

theorem V23_v45 (c : Dev nD) : V23 m ρ c main_v45 = shapeCast S1x4096 (m ((c.tc : Thread nD τ).loc main_arg2)) shapeCasts_S4096_S1x4096 := by
  have e : W23 m ρ c (Proc.devRef .tc main_v45) = shapeCast S1x4096 (show FVec Ideal S4096 .f32 from W22 m ρ c (Proc.devRef .tc main_arg2)) shapeCasts_S4096_S1x4096 := by
    dsimp only [W23]
    after_results_simp <;> rfl
  have e' : W23 m ρ c (Proc.devRef .tc main_v45) = W23 m ρ c (Proc.devRef .tc main_v45) := by
    rfl
  exact e'.trans (e.trans (by rw [W22_args m ρ c main_arg2 (by decide)]))

theorem V23_v46 (c : Dev nD) : V23 m ρ c main_v46 = shapeCast S1x4096 (m ((c.tc : Thread nD τ).loc main_arg3)) shapeCasts_S4096_S1x4096 := by
  have e : W23 m ρ c (Proc.devRef .tc main_v46) = shapeCast S1x4096 (show FVec Ideal S4096 .f32 from W22 m ρ c (Proc.devRef .tc main_arg3)) shapeCasts_S4096_S1x4096 := by
    dsimp only [W23]
    after_results_simp <;> rfl
  have e' : W23 m ρ c (Proc.devRef .tc main_v46) = W23 m ρ c (Proc.devRef .tc main_v46) := by
    rfl
  exact e'.trans (e.trans (by rw [W22_args m ρ c main_arg3 (by decide)]))

theorem V25_v9 (c : Dev nD) : V25 m ρ c main_v9 = layW (m ((c.tc : Thread nD τ).loc main_arg4)) := by
  have e : W5 m ρ c (Proc.devRef .tc main_v9) = layW (show FVec Ideal S4096x10752 .f32 from W0 m ρ c (Proc.devRef .tc main_arg4)) := by
    dsimp only [W5, W4, W3, W2, W1]
    after_results_simp <;> rfl
  have e' : W25 m ρ c (Proc.devRef .tc main_v9) = W5 m ρ c (Proc.devRef .tc main_v9) := by
    refine (W25_of m ρ c main_v9 (by decide)).trans ?_
    refine (W24_of m ρ c main_v9 (by decide)).trans ?_
    refine (W23_of m ρ c main_v9 (by decide)).trans ?_
    refine (W22_of m ρ c main_v9 (by decide)).trans ?_
    refine (W21_of m ρ c main_v9 (by decide)).trans ?_
    refine (W20_of m ρ c main_v9 (by decide)).trans ?_
    refine (W19_of m ρ c main_v9 (by decide)).trans ?_
    refine (W18_of m ρ c main_v9 (by decide)).trans ?_
    refine (W17_of m ρ c main_v9 (by decide)).trans ?_
    refine (W16_of m ρ c main_v9 (by decide)).trans ?_
    refine (W15_of m ρ c main_v9 (by decide)).trans ?_
    refine (W14_of m ρ c main_v9 (by decide)).trans ?_
    refine (W13_of m ρ c main_v9 (by decide)).trans ?_
    refine (W12_of m ρ c main_v9 (by decide)).trans ?_
    refine (W11_of m ρ c main_v9 (by decide)).trans ?_
    refine (W10_of m ρ c main_v9 (by decide)).trans ?_
    refine (W9_of m ρ c main_v9 (by decide)).trans ?_
    refine (W8_of m ρ c main_v9 (by decide)).trans ?_
    refine (W7_of m ρ c main_v9 (by decide)).trans ?_
    refine (W6_of m ρ c main_v9 (by decide)).trans ?_
    rfl
  exact e'.trans (e.trans (by rw [W0_args m ρ c main_arg4 (by decide)]))

theorem V31_v37 (c : Dev nD) : V31 m ρ c main_v37 = layCW (m ((c.tc : Thread nD τ).loc main_arg5)) := by
  have e : W21 m ρ c (Proc.devRef .tc main_v37) = layCW (show FVec Ideal S4x5376 .f32 from W18 m ρ c (Proc.devRef .tc main_arg5)) := by
    dsimp only [W21, W20, W19]
    after_results_simp <;> rfl
  have e' : W31 m ρ c (Proc.devRef .tc main_v37) = W21 m ρ c (Proc.devRef .tc main_v37) := by
    refine (W31_of m ρ c main_v37 (by decide)).trans ?_
    refine (W30_of m ρ c main_v37 (by decide)).trans ?_
    refine (W29_of m ρ c main_v37 (by decide)).trans ?_
    refine (W28_of m ρ c main_v37 (by decide)).trans ?_
    refine (W27_of m ρ c main_v37 (by decide)).trans ?_
    refine (W26_of m ρ c main_v37 (by decide)).trans ?_
    refine (W25_of m ρ c main_v37 (by decide)).trans ?_
    refine (W24_of m ρ c main_v37 (by decide)).trans ?_
    refine (W23_of m ρ c main_v37 (by decide)).trans ?_
    refine (W22_of m ρ c main_v37 (by decide)).trans ?_
    rfl
  exact e'.trans (e.trans (by rw [W18_args m ρ c main_arg5 (by decide)]))

theorem V31_v41 (c : Dev nD) : V31 m ρ c main_v41 = layRow (m ((c.tc : Thread nD τ).loc main_arg6)) := by
  have e : W23 m ρ c (Proc.devRef .tc main_v41) = layRow (show FVec Ideal S5376 .f32 from W20 m ρ c (Proc.devRef .tc main_arg6)) := by
    dsimp only [W23, W22, W21]
    after_results_simp <;> rfl
  have e' : W31 m ρ c (Proc.devRef .tc main_v41) = W23 m ρ c (Proc.devRef .tc main_v41) := by
    refine (W31_of m ρ c main_v41 (by decide)).trans ?_
    refine (W30_of m ρ c main_v41 (by decide)).trans ?_
    refine (W29_of m ρ c main_v41 (by decide)).trans ?_
    refine (W28_of m ρ c main_v41 (by decide)).trans ?_
    refine (W27_of m ρ c main_v41 (by decide)).trans ?_
    refine (W26_of m ρ c main_v41 (by decide)).trans ?_
    refine (W25_of m ρ c main_v41 (by decide)).trans ?_
    refine (W24_of m ρ c main_v41 (by decide)).trans ?_
    rfl
  exact e'.trans (e.trans (by rw [W20_args m ρ c main_arg6 (by decide)]))

theorem V31_v13 (c : Dev nD) : V31 m ρ c main_v13 = layG (m ((c.tc : Thread nD τ).loc main_arg7)) (m ((c.tc : Thread nD τ).loc main_arg9)) := by
  have e : W9 m ρ c (Proc.devRef .tc main_v13) = layG (show FVec Ideal S16x336x336 .f32 from W5 m ρ c (Proc.devRef .tc main_arg7)) (show FVec Ideal S16x336x336 .f32 from W5 m ρ c (Proc.devRef .tc main_arg9)) := by
    dsimp only [W9, W8, W7, W6]
    after_results_simp <;> rfl
  have e' : W31 m ρ c (Proc.devRef .tc main_v13) = W9 m ρ c (Proc.devRef .tc main_v13) := by
    refine (W31_of m ρ c main_v13 (by decide)).trans ?_
    refine (W30_of m ρ c main_v13 (by decide)).trans ?_
    refine (W29_of m ρ c main_v13 (by decide)).trans ?_
    refine (W28_of m ρ c main_v13 (by decide)).trans ?_
    refine (W27_of m ρ c main_v13 (by decide)).trans ?_
    refine (W26_of m ρ c main_v13 (by decide)).trans ?_
    refine (W25_of m ρ c main_v13 (by decide)).trans ?_
    refine (W24_of m ρ c main_v13 (by decide)).trans ?_
    refine (W23_of m ρ c main_v13 (by decide)).trans ?_
    refine (W22_of m ρ c main_v13 (by decide)).trans ?_
    refine (W21_of m ρ c main_v13 (by decide)).trans ?_
    refine (W20_of m ρ c main_v13 (by decide)).trans ?_
    refine (W19_of m ρ c main_v13 (by decide)).trans ?_
    refine (W18_of m ρ c main_v13 (by decide)).trans ?_
    refine (W17_of m ρ c main_v13 (by decide)).trans ?_
    refine (W16_of m ρ c main_v13 (by decide)).trans ?_
    refine (W15_of m ρ c main_v13 (by decide)).trans ?_
    refine (W14_of m ρ c main_v13 (by decide)).trans ?_
    refine (W13_of m ρ c main_v13 (by decide)).trans ?_
    refine (W12_of m ρ c main_v13 (by decide)).trans ?_
    refine (W11_of m ρ c main_v13 (by decide)).trans ?_
    refine (W10_of m ρ c main_v13 (by decide)).trans ?_
    rfl
  exact e'.trans (e.trans (by rw [W5_args m ρ c main_arg7 (by decide), W5_args m ρ c main_arg9 (by decide)]))

theorem V31_v25 (c : Dev nD) : V31 m ρ c main_v25 = layB (m ((c.tc : Thread nD τ).loc main_arg8)) (m ((c.tc : Thread nD τ).loc main_arg10)) := by
  have e : W13 m ρ c (Proc.devRef .tc main_v25) = layB (show FVec Ideal S5376 .f32 from W8 m ρ c (Proc.devRef .tc main_arg8)) (show FVec Ideal S5376 .f32 from W8 m ρ c (Proc.devRef .tc main_arg10)) := by
    dsimp only [W13, W12, W11, W10, W9]
    after_results_simp <;> rfl
  have e' : W31 m ρ c (Proc.devRef .tc main_v25) = W13 m ρ c (Proc.devRef .tc main_v25) := by
    refine (W31_of m ρ c main_v25 (by decide)).trans ?_
    refine (W30_of m ρ c main_v25 (by decide)).trans ?_
    refine (W29_of m ρ c main_v25 (by decide)).trans ?_
    refine (W28_of m ρ c main_v25 (by decide)).trans ?_
    refine (W27_of m ρ c main_v25 (by decide)).trans ?_
    refine (W26_of m ρ c main_v25 (by decide)).trans ?_
    refine (W25_of m ρ c main_v25 (by decide)).trans ?_
    refine (W24_of m ρ c main_v25 (by decide)).trans ?_
    refine (W23_of m ρ c main_v25 (by decide)).trans ?_
    refine (W22_of m ρ c main_v25 (by decide)).trans ?_
    refine (W21_of m ρ c main_v25 (by decide)).trans ?_
    refine (W20_of m ρ c main_v25 (by decide)).trans ?_
    refine (W19_of m ρ c main_v25 (by decide)).trans ?_
    refine (W18_of m ρ c main_v25 (by decide)).trans ?_
    refine (W17_of m ρ c main_v25 (by decide)).trans ?_
    refine (W16_of m ρ c main_v25 (by decide)).trans ?_
    refine (W15_of m ρ c main_v25 (by decide)).trans ?_
    refine (W14_of m ρ c main_v25 (by decide)).trans ?_
    rfl
  exact e'.trans (e.trans (by rw [W8_args m ρ c main_arg8 (by decide), W8_args m ρ c main_arg10 (by decide)]))

theorem V31_v31 (c : Dev nD) : V31 m ρ c main_v31 = layRow (softplus (Host.negf (m ((c.tc : Thread nD τ).loc main_arg11)))) := by
  have e : W17 m ρ c (Proc.devRef .tc main_v31) = layRow (softplus (Host.negf (show FVec Ideal S5376 .f32 from W12 m ρ c (Proc.devRef .tc main_arg11)))) := by
    dsimp only [W17, W16, W15, W14, W13]
    after_results_simp <;> rfl
  have e' : W31 m ρ c (Proc.devRef .tc main_v31) = W17 m ρ c (Proc.devRef .tc main_v31) := by
    refine (W31_of m ρ c main_v31 (by decide)).trans ?_
    refine (W30_of m ρ c main_v31 (by decide)).trans ?_
    refine (W29_of m ρ c main_v31 (by decide)).trans ?_
    refine (W28_of m ρ c main_v31 (by decide)).trans ?_
    refine (W27_of m ρ c main_v31 (by decide)).trans ?_
    refine (W26_of m ρ c main_v31 (by decide)).trans ?_
    refine (W25_of m ρ c main_v31 (by decide)).trans ?_
    refine (W24_of m ρ c main_v31 (by decide)).trans ?_
    refine (W23_of m ρ c main_v31 (by decide)).trans ?_
    refine (W22_of m ρ c main_v31 (by decide)).trans ?_
    refine (W21_of m ρ c main_v31 (by decide)).trans ?_
    refine (W20_of m ρ c main_v31 (by decide)).trans ?_
    refine (W19_of m ρ c main_v31 (by decide)).trans ?_
    refine (W18_of m ρ c main_v31 (by decide)).trans ?_
    rfl
  exact e'.trans (e.trans (by rw [W12_args m ρ c main_arg11 (by decide)]))

theorem V31_v56 (c : Dev nD) : V31 m ρ c main_v56 = layP (m ((c.tc : Thread nD τ).loc main_arg13)) := by
  have e : W29 m ρ c (Proc.devRef .tc main_v56) = layP (show FVec Ideal S8x3x5376 .f32 from W26 m ρ c (Proc.devRef .tc main_arg13)) := by
    dsimp only [W29, W28, W27]
    after_results_simp <;> rfl
  have e' : W31 m ρ c (Proc.devRef .tc main_v56) = W29 m ρ c (Proc.devRef .tc main_v56) := by
    refine (W31_of m ρ c main_v56 (by decide)).trans ?_
    refine (W30_of m ρ c main_v56 (by decide)).trans ?_
    rfl
  exact e'.trans (e.trans (by rw [W26_args m ρ c main_arg13 (by decide)]))

theorem V31_v59 (c : Dev nD) : V31 m ρ c main_v59 = layH (m ((c.tc : Thread nD τ).loc main_arg14)) := by
  have e : W31 m ρ c (Proc.devRef .tc main_v59) = layH (show FVec Ideal S8x5376 .f32 from W28 m ρ c (Proc.devRef .tc main_arg14)) := by
    dsimp only [W31, W30, W29]
    after_results_simp <;> rfl
  have e' : W31 m ρ c (Proc.devRef .tc main_v59) = W31 m ρ c (Proc.devRef .tc main_v59) := by
    rfl
  exact e'.trans (e.trans (by rw [W28_args m ρ c main_arg14 (by decide)]))

end Cert.RgStepKIdeal.RgStepHost

end
-- ==== Proof.RgStepOut.lean ====
/-
  THE RG-LRU LAYER OF THE DECODING STEP (hand-written): its results, from the arguments.
-/
module

public import proofs.«01_k».proof.Proof.RgStepHost
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.RgStepKIdeal.RgStepOut

open Cert.RgStepKIdeal Cert.RgStepKIdeal.Gen
open Idealize.ShloMosaic Idealize.ShloMosaic.TcCoe Idealize.SL.Sem
open Idealize.ShloMosaic.Pipeline (Dat)

open Cert.RgStepKIdeal.RgStepLay Cert.RgStepKIdeal.RgStepEntry Cert.RgStepKIdeal.RgStepBody Cert.RgStepKIdeal.RgStepValue Cert.RgStepKIdeal.RgStepHost

variable (m : (ℓ : Loc nD τ sig) → Buf (Elt Ideal) ℓ) (ρ : Dev nD → PrngReg)

/-- The normed rows the projection reads. -/
def outX (h y : FVec Ideal S8x1x4096 .f32) (g g' : FVec Ideal S4096 .f32) : FVec Ideal S8x4096 .bf16 :=
  normArr (resArr (shapeCast S8x4096 h shapeCasts_S8x1x4096_S8x4096) (shapeCast S8x4096 y shapeCasts_S8x1x4096_S8x4096)
    (shapeCast S1x4096 g shapeCasts_S4096_S1x4096)) (shapeCast S1x4096 g' shapeCasts_S4096_S1x4096)

theorem W24_v47 (c : Dev nD) : W24 m ρ c (Proc.devRef .tc main_v47_1) = outX (m ((c.tc : Thread nD τ).loc main_arg0)) (m ((c.tc : Thread nD τ).loc main_arg1)) (m ((c.tc : Thread nD τ).loc main_arg2)) (m ((c.tc : Thread nD τ).loc main_arg3)) := by
  refine (W24_arr m ρ c 5).trans ((arrX (V23 m ρ) c).trans ?_)
  rw [V23_v43, V23_v44, V23_v45, V23_v46]
  rfl

theorem V25_v49 (c : Dev nD) : V25 m ρ c main_v49 = shapeCast S8x4096 (shapeCast S8x1x4096 (outX (m ((c.tc : Thread nD τ).loc main_arg0)) (m ((c.tc : Thread nD τ).loc main_arg1)) (m ((c.tc : Thread nD τ).loc main_arg2)) (m ((c.tc : Thread nD τ).loc main_arg3))) shapeCasts_S8x4096_S8x1x4096) shapeCasts_S8x1x4096_S8x4096 := by
  have e : W25 m ρ c (Proc.devRef .tc main_v49) = shapeCast S8x4096 (shapeCast S8x1x4096 (show FVec Ideal S8x4096 .bf16 from W24 m ρ c (Proc.devRef .tc main_v47_1)) shapeCasts_S8x4096_S8x1x4096) shapeCasts_S8x1x4096_S8x4096 := by
    dsimp only [W25]
    after_results_simp <;> rfl
  exact e.trans (by rw [W24_v47])

/-- The projection over the padded layout. -/
def outP (h y : FVec Ideal S8x1x4096 .f32) (g g' : FVec Ideal S4096 .f32) (w : FVec Ideal S4096x10752 .f32) : FVec Ideal S8x12288 .f32 :=
  shapeCast S8x12288 (shapeCast S8x1x12288 (proj (shapeCast S8x4096 (shapeCast S8x1x4096 (outX h y g g') shapeCasts_S8x4096_S8x1x4096)
    shapeCasts_S8x1x4096_S8x4096) (layW w)) shapeCasts_S8x12288_S8x1x12288) shapeCasts_S8x1x12288_S8x12288

theorem V31_v52 (c : Dev nD) : V31 m ρ c main_v52 = outP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have e : W27 m ρ c (Proc.devRef .tc main_v52) = shapeCast S8x12288 (shapeCast S8x1x12288 (show FVec Ideal S8x12288 .f32 from W26 m ρ c (Proc.devRef .tc main_v50)) shapeCasts_S8x12288_S8x1x12288) shapeCasts_S8x1x12288_S8x12288 := by
    dsimp only [W27]
    after_results_simp <;> rfl
  have e' : W31 m ρ c (Proc.devRef .tc main_v52) = W27 m ρ c (Proc.devRef .tc main_v52) := by
    refine (W31_of m ρ c main_v52 (by decide)).trans ?_
    refine (W30_of m ρ c main_v52 (by decide)).trans ?_
    refine (W29_of m ρ c main_v52 (by decide)).trans ?_
    refine (W28_of m ρ c main_v52 (by decide)).trans ?_
    rfl
  have p : W26 m ρ c (Proc.devRef .tc main_v50) = proj (shapeCast S8x4096 (shapeCast S8x1x4096 (outX (m ((c.tc : Thread nD τ).loc main_arg0)) (m ((c.tc : Thread nD τ).loc main_arg1)) (m ((c.tc : Thread nD τ).loc main_arg2)) (m ((c.tc : Thread nD τ).loc main_arg3))) shapeCasts_S8x4096_S8x1x4096) shapeCasts_S8x1x4096_S8x4096) (layW (m ((c.tc : Thread nD τ).loc main_arg4))) := by
    refine (W26_arr m ρ c 2).trans ((arrP (V25 m ρ) c).trans ?_)
    rw [V25_v49, V25_v9]
  exact e'.trans (e.trans (by rw [p]; rfl))

/-- The kernel's result from its arguments. -/
def outH (h y : FVec Ideal S8x1x4096 .f32) (g g' : FVec Ideal S4096 .f32) (w : FVec Ideal S4096x10752 .f32) (cw : FVec Ideal S4x5376 .f32) (cb : FVec Ideal S5376 .f32) (wr : FVec Ideal S16x336x336 .f32) (br : FVec Ideal S5376 .f32) (wi : FVec Ideal S16x336x336 .f32) (bi lam : FVec Ideal S5376 .f32) (p : FVec Ideal S8x3x5376 .f32) (h0 : FVec Ideal S8x5376 .f32) : FVec Ideal S8x5376 .f32 :=
  unpad (stepH (outP h y g g' w) (layCW cw) (layRow cb) (layG wr wi) (layB br bi) (layRow (softplus (Host.negf lam))) (layP p) (layH h0))

theorem resultH (c : Dev nD) : W33 m ρ c (Proc.devRef .tc main_v70) = outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg13)) (m ((c.tc : Thread nD τ).loc main_arg14)) := by
  have e : W33 m ρ c (Proc.devRef .tc main_v70) = unpad (show FVec Ideal S8x6144 .f32 from W32 m ρ c (Proc.devRef .tc main_v60_1)) := by
    dsimp only [W33]
    after_results_simp <;> rfl
  have p : W32 m ρ c (Proc.devRef .tc main_v60_1) = stepH (outP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (layCW (m ((c.tc : Thread nD τ).loc main_arg5))) (layRow (m ((c.tc : Thread nD τ).loc main_arg6))) (layG (m ((c.tc : Thread nD τ).loc main_arg7)) (m ((c.tc : Thread nD τ).loc main_arg9))) (layB (m ((c.tc : Thread nD τ).loc main_arg8)) (m ((c.tc : Thread nD τ).loc main_arg10))) (layRow (softplus (Host.negf (m ((c.tc : Thread nD τ).loc main_arg11))))) (layP (m ((c.tc : Thread nD τ).loc main_arg13))) (layH (m ((c.tc : Thread nD τ).loc main_arg14))) := by
    refine (W32_arr m ρ c 10).trans ((arrHn (V31 m ρ) c).trans ?_)
    rw [V31_v52, V31_v37, V31_v41, V31_v13, V31_v25, V31_v31, V31_v56, V31_v59]
  exact e.trans (by rw [p]; rfl)

/-- The kernel's result from its arguments. -/
def outO (h y : FVec Ideal S8x1x4096 .f32) (g g' : FVec Ideal S4096 .f32) (w : FVec Ideal S4096x10752 .f32) (cw : FVec Ideal S4x5376 .f32) (cb : FVec Ideal S5376 .f32) (wr : FVec Ideal S16x336x336 .f32) (br : FVec Ideal S5376 .f32) (wi : FVec Ideal S16x336x336 .f32) (bi lam : FVec Ideal S5376 .f32) (p : FVec Ideal S8x3x5376 .f32) (h0 : FVec Ideal S8x5376 .f32) : FVec Ideal S8x5376 .bf16 :=
  unpad (stepO (outP h y g g' w) (layCW cw) (layRow cb) (layG wr wi) (layB br bi) (layRow (softplus (Host.negf lam))) (layP p) (layH h0))

theorem resultO (c : Dev nD) : W33 m ρ c (Proc.devRef .tc main_v73) = outO (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg13)) (m ((c.tc : Thread nD τ).loc main_arg14)) := by
  have e : W33 m ρ c (Proc.devRef .tc main_v73) = unpad (show FVec Ideal S8x6144 .bf16 from W32 m ρ c (Proc.devRef .tc main_v60_0)) := by
    dsimp only [W33]
    after_results_simp <;> rfl
  have p : W32 m ρ c (Proc.devRef .tc main_v60_0) = stepO (outP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (layCW (m ((c.tc : Thread nD τ).loc main_arg5))) (layRow (m ((c.tc : Thread nD τ).loc main_arg6))) (layG (m ((c.tc : Thread nD τ).loc main_arg7)) (m ((c.tc : Thread nD τ).loc main_arg9))) (layB (m ((c.tc : Thread nD τ).loc main_arg8)) (m ((c.tc : Thread nD τ).loc main_arg10))) (layRow (softplus (Host.negf (m ((c.tc : Thread nD τ).loc main_arg11))))) (layP (m ((c.tc : Thread nD τ).loc main_arg13))) (layH (m ((c.tc : Thread nD τ).loc main_arg14))) := by
    refine (W32_arr m ρ c 9).trans ((arrO (V31 m ρ) c).trans ?_)
    rw [V31_v52, V31_v37, V31_v41, V31_v13, V31_v25, V31_v31, V31_v56, V31_v59]
  exact e.trans (by rw [p]; rfl)

/-- The kernel's convolution buffer from its arguments. -/
def outC (h y : FVec Ideal S8x1x4096 .f32) (g g' : FVec Ideal S4096 .f32) (w : FVec Ideal S4096x10752 .f32) (p : FVec Ideal S8x3x5376 .f32) : FVec Ideal S8x3x5376 .f32 :=
  concatenate S8x3x5376 1 [⟨S8x2x5376, extractStridedSlice S8x2x5376 ![0, 1, 0] p slices_S8x3x5376_S8x2x5376_0_1_0⟩,
    ⟨S8x1x5376, broadcastInDim S8x1x5376 ![0, 2] bcast_S8x5376_S8x1x5376_0_2 (unpad (extractStridedSlice S8x6144 ![0, 0] (outP h y g g' w) slices_S8x12288_S8x6144_0_0))⟩]
    concatenates_S8x2x5376_S8x1x5376_S8x3x5376_d1

theorem resultC (c : Dev nD) : W33 m ρ c (Proc.devRef .tc main_v67) = outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg13)) := by
  have e : W33 m ρ c (Proc.devRef .tc main_v67) = concatenate S8x3x5376 1 [⟨S8x2x5376, extractStridedSlice S8x2x5376 ![0, 1, 0] (show FVec Ideal S8x3x5376 .f32 from W32 m ρ c (Proc.devRef .tc main_arg13)) slices_S8x3x5376_S8x2x5376_0_1_0⟩,
    ⟨S8x1x5376, broadcastInDim S8x1x5376 ![0, 2] bcast_S8x5376_S8x1x5376_0_2 (unpad (extractStridedSlice S8x6144 ![0, 0] (show FVec Ideal S8x12288 .f32 from W32 m ρ c (Proc.devRef .tc main_v52)) slices_S8x12288_S8x6144_0_0))⟩]
    concatenates_S8x2x5376_S8x1x5376_S8x3x5376_d1 := by
    dsimp only [W33]
    after_results_simp <;> rfl
  have p : W32 m ρ c (Proc.devRef .tc main_v52) = outP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) :=
    (W32_of m ρ c main_v52 (by decide)).trans (V31_v52 m ρ c)
  exact e.trans (by rw [p, W32_args m ρ c main_arg13 (by decide)]; rfl)

/-! ## The results at their channels -/

open Cert.Proof.RgPad (padOf chanOf sum_group)

theorem outP_u (h y : FVec Ideal S8x1x4096 .f32) (g g' : FVec Ideal S4096 .f32) (w : FVec Ideal S4096x10752 .f32) (r : Fin 8) (b : Fin 16) (i : Fin 336) :
    outP h y g g' w (ix2 r ⟨(padOf b ⟨i.val, by omega⟩).val, by omega⟩)
      = ∑ k : Fin 4096, normAt (fun l => h (ix3 r 0 l) + normAt (fun l => y (ix3 r 0 l)) (g (ix1 l)) l) (g' (ix1 k)) k * w (ix2 k ⟨(chanOf b i).val, by omega⟩) := by
  refine Eq.trans (b := ∑ k : Fin 4096, normAt (fun l => h (ix3 r 0 l) + normAt (fun l => y (ix3 r 0 l)) (g (ix1 l)) l) (g' (ix1 k)) k * layW w (ix2 k ⟨(padOf b ⟨i.val, by omega⟩).val, by omega⟩)) ?_ ?_
  · pointwise [outP, proj, outX, normArr, resArr, normAt]
  · exact Finset.sum_congr rfl fun k _ => by rw [layW_u]

theorem outP_z (h y : FVec Ideal S8x1x4096 .f32) (g g' : FVec Ideal S4096 .f32) (w : FVec Ideal S4096x10752 .f32) (r : Fin 8) (b : Fin 16) (i : Fin 336) :
    outP h y g g' w (ix2 r ⟨6144 + (padOf b ⟨i.val, by omega⟩).val, by omega⟩)
      = ∑ k : Fin 4096, normAt (fun l => h (ix3 r 0 l) + normAt (fun l => y (ix3 r 0 l)) (g (ix1 l)) l) (g' (ix1 k)) k * w (ix2 k ⟨5376 + (chanOf b i).val, by omega⟩) := by
  refine Eq.trans (b := ∑ k : Fin 4096, normAt (fun l => h (ix3 r 0 l) + normAt (fun l => y (ix3 r 0 l)) (g (ix1 l)) l) (g' (ix1 k)) k * layW w (ix2 k ⟨6144 + (padOf b ⟨i.val, by omega⟩).val, by omega⟩)) ?_ ?_
  · pointwise [outP, proj, outX, normArr, resArr, normAt]
  · exact Finset.sum_congr rfl fun k _ => by rw [layW_z]

end Cert.RgStepKIdeal.RgStepOut

end
-- ==== Proof.RgExp.lean ====
/-
  THE INPUT SCALE OF THE RECURRENCE (hand-written): `-expm1(2 x)` is `1 - exp(x) exp(x)`, at the infinities too.
-/
module

public import Idealize.ShloMosaic.Lib.Pointwise
public import Mathlib.Data.EReal.Operations

@[expose] public section

noncomputable section

namespace Cert.Proof.RgExp

open Idealize.ShloMosaic

/-- The pattern of the literal two. -/
theorem two_f32 : Ideal.ofBits .f32 0x40000000#32 = ((2 : ℝ) : EReal) := by
  simp [Ideal.ofBits, Ideal.ieee, -EReal.coe_mul]; norm_num

/-- The reference's scale is the kernel's. -/
theorem neg_expm1 (x : EReal) :
    -(Ideal.exp (Ideal.ofBits .f32 0x40000000#32 * x) - 1) = 1 - Ideal.exp x * Ideal.exp x := by
  rw [two_f32]
  induction x using EReal.rec with
  | bot =>
    rw [EReal.coe_mul_bot_of_pos (by norm_num)]
    show -((0 : EReal) - 1) = 1 - 0 * 0
    simp
  | top =>
    rw [EReal.coe_mul_top_of_pos (by norm_num)]
    show -((⊤ : EReal) - 1) = 1 - ⊤ * ⊤
    rw [EReal.top_mul_top]
    rfl
  | coe r =>
    rw [← EReal.coe_mul]
    show -((((Real.exp (2 * r)) : ℝ) : EReal) - 1) = 1 - ((Real.exp r : ℝ) : EReal) * ((Real.exp r : ℝ) : EReal)
    rw [← EReal.coe_one, ← EReal.coe_mul, ← EReal.coe_sub, ← EReal.coe_sub, ← EReal.coe_neg]
    congr 1
    rw [two_mul, Real.exp_add]
    ring

end Cert.Proof.RgExp

end
-- ==== Proof.RgStepRef.lean ====
/-
  THE RG-LRU LAYER OF THE DECODING STEP (hand-written): the reference, operation by operation.
-/
module

public import proofs.«01_k».proof.Proof.RgStepEntry
public import proofs.«01_k».proof.Proof.RgPad
public import proofs.«01_k».proof.Proof.RgExp
public import proofs.«01_k».proof.Proof.Gen.RgStepRIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.RgStepRIdeal.RgStepRef

open Cert.RgStepRIdeal Cert.RgStepRIdeal.Gen
open Idealize.ShloMosaic Idealize.ShloMosaic.TcCoe Idealize.SL.Sem
open Idealize.ShloMosaic.Pipeline (Dat)

open Cert.RgStepKIdeal.RgStepEntry (normAt)
open Cert.Proof.RgPad (chanOf)

/-- The residual stream of the reference. -/
def refH (a0 a1 : FVec Ideal S8x1x4096 .f32) (a2 : FVec Ideal S4096 .f32) : FVec Ideal S8x1x4096 .f32 :=
  addf a0 (mulf (mulf a1 (broadcastInDim S8x1x4096 ![0, 1, 2] bcast_S8x1x1_S8x1x4096_0_1_2 (Host.rsqrt (addf (Host.divf (broadcastInDim S8x1x1 ![0, 1] bcast_S8x1_S8x1x1_0_1 (Host.reduceAdd (mulf a1 a1) (constant S_ .f32 0x00000000#32) reducesTo_S8x1x4096_S8x1_d2 h_S_)) (broadcastInDim S8x1x1 ![] bcast_S_S8x1x1 (constant S_ .f32 0x45800000#32))) (broadcastInDim S8x1x1 ![] bcast_S_S8x1x1 (constant S_ .f32 0x358637BD#32)))))) (broadcastInDim S8x1x4096 ![0, 1, 2] bcast_S1x1x4096_S8x1x4096_0_1_2 (broadcastInDim S1x1x4096 ![2] bcast_S4096_S1x1x4096_2 a2)))

/-- The projection of the reference. -/
def refP (a0 a1 : FVec Ideal S8x1x4096 .f32) (a2 a3 : FVec Ideal S4096 .f32) (a4 : FVec Ideal S4096x10752 .f32) : FVec Ideal S8x1x10752 .f32 :=
  Host.dotGeneral dot_S8x1x4096_S4096x10752_S8x1x10752_2_0_01_1_n_n none (mulf (mulf (refH a0 a1 a2) (broadcastInDim S8x1x4096 ![0, 1, 2] bcast_S8x1x1_S8x1x4096_0_1_2 (Host.rsqrt (addf (Host.divf (broadcastInDim S8x1x1 ![0, 1] bcast_S8x1_S8x1x1_0_1 (Host.reduceAdd (mulf (refH a0 a1 a2) (refH a0 a1 a2)) (constant S_ .f32 0x00000000#32) reducesTo_S8x1x4096_S8x1_d2 h_S_)) (broadcastInDim S8x1x1 ![] bcast_S_S8x1x1 (constant S_ .f32 0x45800000#32))) (broadcastInDim S8x1x1 ![] bcast_S_S8x1x1 (constant S_ .f32 0x358637BD#32)))))) (broadcastInDim S8x1x4096 ![0, 1, 2] bcast_S1x1x4096_S8x1x4096_0_1_2 (broadcastInDim S1x1x4096 ![2] bcast_S4096_S1x1x4096_2 a3))) a4

/-- The convolution's window. -/
def refFull (P : FVec Ideal S8x1x10752 .f32) (a13 : FVec Ideal S8x3x5376 .f32) : FVec Ideal S8x4x5376 .f32 :=
  concatenate S8x4x5376 1 [⟨S8x3x5376, a13⟩, ⟨S8x1x5376, (extractStridedSlice S8x1x5376 ![0, 0, 0] P slices_S8x1x10752_S8x1x5376_0_0_0)⟩] concatenates_S8x3x5376_S8x1x5376_S8x4x5376_d1

/-- The convolved input. -/
def refUc (full : FVec Ideal S8x4x5376 .f32) (a5 : FVec Ideal S4x5376 .f32) (a6 : FVec Ideal S5376 .f32) : FVec Ideal S8x5376 .f32 :=
  addf (addf (addf (addf (mulf (broadcastInDim S8x5376 ![0, 1] bcast_S1x5376_S8x5376_0_1 (broadcastInDim S1x5376 ![1] bcast_S5376_S1x5376_1 (shapeCast _ (extractStridedSlice S1x5376 ![3, 0] a5 slices_S4x5376_S1x5376_3_0) shapeCasts_S1x5376_S5376))) (shapeCast _ (extractStridedSlice S8x1x5376 ![0, 3, 0] full slices_S8x4x5376_S8x1x5376_0_3_0) shapeCasts_S8x1x5376_S8x5376)) (mulf (broadcastInDim S8x5376 ![0, 1] bcast_S1x5376_S8x5376_0_1 (broadcastInDim S1x5376 ![1] bcast_S5376_S1x5376_1 (shapeCast _ (extractStridedSlice S1x5376 ![2, 0] a5 slices_S4x5376_S1x5376_2_0) shapeCasts_S1x5376_S5376))) (shapeCast _ (extractStridedSlice S8x1x5376 ![0, 2, 0] full slices_S8x4x5376_S8x1x5376_0_2_0) shapeCasts_S8x1x5376_S8x5376))) (mulf (broadcastInDim S8x5376 ![0, 1] bcast_S1x5376_S8x5376_0_1 (broadcastInDim S1x5376 ![1] bcast_S5376_S1x5376_1 (shapeCast _ (extractStridedSlice S1x5376 ![1, 0] a5 slices_S4x5376_S1x5376_1_0) shapeCasts_S1x5376_S5376))) (shapeCast _ (extractStridedSlice S8x1x5376 ![0, 1, 0] full slices_S8x4x5376_S8x1x5376_0_1_0) shapeCasts_S8x1x5376_S8x5376))) (mulf (broadcastInDim S8x5376 ![0, 1] bcast_S1x5376_S8x5376_0_1 (broadcastInDim S1x5376 ![1] bcast_S5376_S1x5376_1 (shapeCast _ (extractStridedSlice S1x5376 ![0, 0] a5 slices_S4x5376_S1x5376_0_0) shapeCasts_S1x5376_S5376))) (shapeCast _ (extractStridedSlice S8x1x5376 ![0, 0, 0] full slices_S8x4x5376_S8x1x5376_0_0_0) shapeCasts_S8x1x5376_S8x5376))) (broadcastInDim S8x5376 ![0, 1] bcast_S1x5376_S8x5376_0_1 (broadcastInDim S1x5376 ![1] bcast_S5376_S1x5376_1 a6))

/-- A gate's logits. -/
def refGate (uc : FVec Ideal S8x5376 .f32) (w : FVec Ideal S16x336x336 .f32) (b : FVec Ideal S5376 .f32) : FVec Ideal S8x5376 .f32 :=
  addf (shapeCast _ (transpose S8x16x336 [2, 0, 1] (Host.dotGeneral dot_S16x336x336_S8x16x336_S16x336x8_1_2_2_0_0_1 none w (shapeCast _ uc shapeCasts_S8x5376_S8x16x336)) transposes_S16x336x8_S8x16x336_2_0_1) shapeCasts_S8x16x336_S8x5376) (broadcastInDim S8x5376 ![0, 1] bcast_S1x5376_S8x5376_0_1 (broadcastInDim S1x5376 ![1] bcast_S5376_S1x5376_1 b))

/-- The host's `1 / (1 + exp(-x))`. -/
def hsig (x : FVec Ideal S8x5376 .f32) : FVec Ideal S8x5376 .f32 :=
  Host.divf (broadcastInDim S8x5376 ![] bcast_S_S8x5376 (constant S_ .f32 0x3F800000#32)) (addf (broadcastInDim S8x5376 ![] bcast_S_S8x5376 (constant S_ .f32 0x3F800000#32)) (Host.exp (Host.negf x)))

/-- The host's softplus of the negated argument. -/
def refSp (a11 : FVec Ideal S5376 .f32) : FVec Ideal S5376 .f32 :=
  select (cmpf .une (subf (Host.negf a11) (broadcastInDim S5376 ![] bcast_S_S5376 (constant S_ .f32 0x00000000#32))) (subf (Host.negf a11) (broadcastInDim S5376 ![] bcast_S_S5376 (constant S_ .f32 0x00000000#32)))) (addf (Host.negf a11) (broadcastInDim S5376 ![] bcast_S_S5376 (constant S_ .f32 0x00000000#32))) (addf (maximumf (Host.negf a11) (broadcastInDim S5376 ![] bcast_S_S5376 (constant S_ .f32 0x00000000#32))) (Host.log1p (Host.exp (Host.negf (Host.absf (subf (Host.negf a11) (broadcastInDim S5376 ![] bcast_S_S5376 (constant S_ .f32 0x00000000#32))))))))

/-- The new state from its gates. -/
def refState (gr gi uc : FVec Ideal S8x5376 .f32) (sp : FVec Ideal S5376 .f32) (h0 : FVec Ideal S8x5376 .f32) : FVec Ideal S8x5376 .f32 :=
  addf (mulf (Host.exp (mulf (mulf (broadcastInDim S8x5376 ![] bcast_S_S8x5376 (constant S_ .f32 0xC1000000#32)) (hsig gr)) (broadcastInDim S8x5376 ![0, 1] bcast_S1x5376_S8x5376_0_1 (broadcastInDim S1x5376 ![1] bcast_S5376_S1x5376_1 sp)))) h0) (mulf (Host.sqrt (Host.negf (Host.expm1 (mulf (broadcastInDim S8x5376 ![] bcast_S_S8x5376 (constant S_ .f32 0x40000000#32)) (mulf (mulf (broadcastInDim S8x5376 ![] bcast_S_S8x5376 (constant S_ .f32 0xC1000000#32)) (hsig gr)) (broadcastInDim S8x5376 ![0, 1] bcast_S1x5376_S8x5376_0_1 (broadcastInDim S1x5376 ![1] bcast_S5376_S1x5376_1 sp))))))) (mulf (hsig gi) uc))

/-- The gate branch. -/
def refZ (P : FVec Ideal S8x1x10752 .f32) : FVec Ideal S8x5376 .f32 :=
  shapeCast S8x5376 (extractStridedSlice S8x1x5376 ![0, 0, 5376] P slices_S8x1x10752_S8x1x5376_0_0_5376) shapeCasts_S8x1x5376_S8x5376

/-- The gated output. -/
def refOut (hn : FVec Ideal S8x5376 .f32) (P : FVec Ideal S8x1x10752 .f32) : FVec Ideal S8x5376 .bf16 :=
  truncf .bf16 (mulf hn (mulf (refZ P) (hsig (refZ P)))) bitsLt_bf16_f32

/-- The new convolution buffer. -/
def refConv (full : FVec Ideal S8x4x5376 .f32) : FVec Ideal S8x3x5376 .f32 :=
  extractStridedSlice S8x3x5376 ![0, 1, 0] full slices_S8x4x5376_S8x3x5376_0_1_0

theorem refH_at (h y : FVec Ideal S8x1x4096 .f32) (g : FVec Ideal S4096 .f32) (n : Fin 8) (k : Fin 4096) :
    refH h y g (ix3 n 0 k) = h (ix3 n 0 k) + normAt (fun l => y (ix3 n 0 l)) (g (ix1 k)) k := by
  pointwise [refH, normAt]

theorem refP_at (h y : FVec Ideal S8x1x4096 .f32) (g g' : FVec Ideal S4096 .f32) (w : FVec Ideal S4096x10752 .f32) (n : Fin 8) (q : Fin 10752) :
    refP h y g g' w (ix3 n 0 q)
      = ∑ k : Fin 4096, normAt (fun l => h (ix3 n 0 l) + normAt (fun l => y (ix3 n 0 l)) (g (ix1 l)) l) (g' (ix1 k)) k * w (ix2 k q) := by
  simp only [← refH_at]
  pointwise [refP, normAt]

theorem refFull_new (P : FVec Ideal S8x1x10752 .f32) (p : FVec Ideal S8x3x5376 .f32) (r : Fin 8) (q : Fin 5376) :
    refFull P p (ix3 r 3 q) = P (ix3 r 0 ⟨q.val, by omega⟩) := by
  pointwise [refFull]

theorem refFull_old (P : FVec Ideal S8x1x10752 .f32) (p : FVec Ideal S8x3x5376 .f32) (r : Fin 8) (k : Fin 3) (q : Fin 5376) :
    refFull P p (ix3 r ⟨k.val, by omega⟩ q) = p (ix3 r k q) := by
  pointwise [refFull]

theorem refUc_at (full : FVec Ideal S8x4x5376 .f32) (cw : FVec Ideal S4x5376 .f32) (cb : FVec Ideal S5376 .f32) (r : Fin 8) (q : Fin 5376) :
    refUc full cw cb (ix2 r q) = cw (ix2 3 q) * full (ix3 r 3 q) + cw (ix2 2 q) * full (ix3 r 2 q) + cw (ix2 1 q) * full (ix3 r 1 q)
      + cw (ix2 0 q) * full (ix3 r 0 q) + cb (ix1 q) := by
  pointwise [refUc]

theorem refGate_at (uc : FVec Ideal S8x5376 .f32) (w : FVec Ideal S16x336x336 .f32) (v : FVec Ideal S5376 .f32) (r : Fin 8) (b : Fin 16) (i : Fin 336) :
    refGate uc w v (ix2 r (chanOf b i)) = (∑ k : Fin 336, w (ix3 b k i) * uc (ix2 r (chanOf b k))) + v (ix1 (chanOf b i)) := by
  have hb := b.isLt
  have hi := i.isLt
  have e : (b.val * 336 + i.val) % 336 = i.val := by omega
  have e' : (b.val * 336 + i.val) / 336 = b.val := by omega
  pointwise [refGate, chanOf]

theorem hsig_at (x : FVec Ideal S8x5376 .f32) (r : Fin 8) (q : Fin 5376) : hsig x (ix2 r q) = Ideal.logistic (x (ix2 r q)) := by
  pointwise [hsig]
  rfl

theorem refState_at (gr gi uc : FVec Ideal S8x5376 .f32) (sp : FVec Ideal S5376 .f32) (h0 : FVec Ideal S8x5376 .f32) (r : Fin 8) (q : Fin 5376) :
    refState gr gi uc sp h0 (ix2 r q)
      = Ideal.exp (Ideal.ofBits FTy.f32 0xC1000000#32 * Ideal.logistic (gr (ix2 r q)) * sp (ix1 q)) * h0 (ix2 r q)
        + Ideal.sqrt (1 - Ideal.exp (Ideal.ofBits FTy.f32 0xC1000000#32 * Ideal.logistic (gr (ix2 r q)) * sp (ix1 q))
            * Ideal.exp (Ideal.ofBits FTy.f32 0xC1000000#32 * Ideal.logistic (gr (ix2 r q)) * sp (ix1 q)))
          * (Ideal.logistic (gi (ix2 r q)) * uc (ix2 r q)) := by
  rw [← Cert.Proof.RgExp.neg_expm1, ← hsig_at, ← hsig_at]
  pointwise [refState]
  all_goals rfl

theorem refZ_at (P : FVec Ideal S8x1x10752 .f32) (r : Fin 8) (q : Fin 5376) :
    refZ P (ix2 r q) = P (ix3 r 0 ⟨5376 + q.val, by omega⟩) := by
  pointwise [refZ]

theorem refOut_at (hn : FVec Ideal S8x5376 .f32) (P : FVec Ideal S8x1x10752 .f32) (r : Fin 8) (q : Fin 5376) :
    refOut hn P (ix2 r q) = hn (ix2 r q) * (refZ P (ix2 r q) * Ideal.logistic (refZ P (ix2 r q))) := by
  rw [← hsig_at]
  pointwise [refOut]

/-! ## The reference's results in these terms -/

variable (m : (ℓ : Loc nD τ sig) → Buf (Elt Ideal) ℓ)

theorem res_h (c : Dev nD) : Cert.RgStepRIdeal.Value.res_main_v107 (F := Ideal) m c = refState (refGate (refUc (refFull (refP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg13))) (m ((c.tc : Thread nD τ).loc main_arg5)) (m ((c.tc : Thread nD τ).loc main_arg6))) (m ((c.tc : Thread nD τ).loc main_arg7)) (m ((c.tc : Thread nD τ).loc main_arg8))) (refGate (refUc (refFull (refP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg13))) (m ((c.tc : Thread nD τ).loc main_arg5)) (m ((c.tc : Thread nD τ).loc main_arg6))) (m ((c.tc : Thread nD τ).loc main_arg9)) (m ((c.tc : Thread nD τ).loc main_arg10))) (refUc (refFull (refP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg13))) (m ((c.tc : Thread nD τ).loc main_arg5)) (m ((c.tc : Thread nD τ).loc main_arg6))) (refSp (m ((c.tc : Thread nD τ).loc main_arg11))) (m ((c.tc : Thread nD τ).loc main_arg14)) := rfl

theorem res_o (c : Dev nD) : Cert.RgStepRIdeal.Value.res_main_v111 (F := Ideal) m c = refOut (refState (refGate (refUc (refFull (refP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg13))) (m ((c.tc : Thread nD τ).loc main_arg5)) (m ((c.tc : Thread nD τ).loc main_arg6))) (m ((c.tc : Thread nD τ).loc main_arg7)) (m ((c.tc : Thread nD τ).loc main_arg8))) (refGate (refUc (refFull (refP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg13))) (m ((c.tc : Thread nD τ).loc main_arg5)) (m ((c.tc : Thread nD τ).loc main_arg6))) (m ((c.tc : Thread nD τ).loc main_arg9)) (m ((c.tc : Thread nD τ).loc main_arg10))) (refUc (refFull (refP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg13))) (m ((c.tc : Thread nD τ).loc main_arg5)) (m ((c.tc : Thread nD τ).loc main_arg6))) (refSp (m ((c.tc : Thread nD τ).loc main_arg11))) (m ((c.tc : Thread nD τ).loc main_arg14))) (refP (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) := rfl

end Cert.RgStepRIdeal.RgStepRef

end
-- ==== Proof.RgStepRun.lean ====
/-
  THE RUN of the RG-LRU layer of the decoding step (hand-written): every buffer of the program ends at the last boundary's contents
  `Gen.W33`; so does the result buffer, and the arguments end as they were launched.
-/
module

public import proofs.«01_k».proof.Proof.Gen.RgStepKIdeal.Frame

@[expose] public section

set_option maxRecDepth 16384

noncomputable section

namespace Cert.RgStepKIdeal.RgStepRun

open Cert.RgStepKIdeal Cert.RgStepKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program terminates from any memory with zero counters; its result buffer then holds the last boundary's
    contents, and each argument what it held at launch. -/
theorem run : θ_run defs (onTc (τ := τ) (main (F := F))) ⟨m, fun _ => 0, ρ⟩ (fun r => ∀ c : Dev nD,
      r.2.mem ((c.tc : Thread nD τ).loc main_v73) = W33 m ρ c (Proc.devRef .tc main_v73)
      ∧ r.2.mem ((c.tc : Thread nD τ).loc main_v67) = W33 m ρ c (Proc.devRef .tc main_v67)
      ∧ r.2.mem ((c.tc : Thread nD τ).loc main_v70) = W33 m ρ c (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h hz => fun c =>
      ⟨h c _ (mem_uc main_v73 (by decide)),
       h c _ (mem_uc main_v67 (by decide)),
       h c _ (mem_uc main_v70 (by decide)),
       (h c _ (mem_uc main_arg0 (by decide))).trans (W33_main_arg0 m ρ c),
       (h c _ (mem_uc main_arg1 (by decide))).trans (W33_main_arg1 m ρ c),
       (h c _ (mem_uc main_arg2 (by decide))).trans (W33_main_arg2 m ρ c),
       (h c _ (mem_uc main_arg3 (by decide))).trans (W33_main_arg3 m ρ c),
       (h c _ (mem_uc main_arg4 (by decide))).trans (W33_main_arg4 m ρ c),
       (h c _ (mem_uc main_arg5 (by decide))).trans (W33_main_arg5 m ρ c),
       (h c _ (mem_uc main_arg6 (by decide))).trans (W33_main_arg6 m ρ c),
       (h c _ (mem_uc main_arg7 (by decide))).trans (W33_main_arg7 m ρ c),
       (h c _ (mem_uc main_arg8 (by decide))).trans (W33_main_arg8 m ρ c),
       (h c _ (mem_uc main_arg9 (by decide))).trans (W33_main_arg9 m ρ c),
       (h c _ (mem_uc main_arg10 (by decide))).trans (W33_main_arg10 m ρ c),
       (h c _ (mem_uc main_arg11 (by decide))).trans (W33_main_arg11 m ρ c),
       (h c _ (mem_uc main_arg12 (by decide))).trans (W33_main_arg12 m ρ c),
       (h c _ (mem_uc main_arg13 (by decide))).trans (W33_main_arg13 m ρ c),
       (h c _ (mem_uc main_arg14 (by decide))).trans (W33_main_arg14 m ρ c)⟩)

end Cert.RgStepKIdeal.RgStepRun

end
-- ==== Proof.RgStepClaim.lean ====
/-
  THE RG-LRU LAYER OF THE DECODING STEP (hand-written): the claims.
-/
module

public import proofs.«01_k».proof.Defs
public import proofs.«01_k».proof.Proof.RgStepOut
public import proofs.«01_k».proof.Proof.RgStepRef
public import proofs.«01_k».proof.Proof.RgStepRun
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.RgStepClaim

open Cert.RgStepRIdeal Cert.RgStepRIdeal.Gen Cert.RgStepRIdeal.RgStepRef
open Cert.RgStepKIdeal.RgStepLay Cert.RgStepKIdeal.RgStepBody Cert.RgStepKIdeal.RgStepOut
open Cert.Proof.RgPad (padOf chanOf sum_group)
open Idealize.ShloMosaic Idealize.ShloMosaic.TcCoe Idealize.SL.Sem Idealize.ShloMosaic.StableHlo

/-- The reference has host operations only, and no counter to leave raised. -/
theorem frame_R : Cert.quiescent_RgStepRIdeal := by
  intro m g _
  exact (θ_run _ _ _).mono (fun r h => ⟨fun c => (h c).2.2.2, sem_eq_zero_of_no_sems (by decide) _⟩)
    (Cert.RgStepRIdeal.Value.run (F := Ideal) m g)

/-- Every channel lies in a group, at a lane. -/
theorem chan_cases (q : Fin 5376) : ∃ b i, q = chanOf b i := by
  have h := q.isLt
  refine ⟨⟨q.val / 336, by omega⟩, ⟨q.val % 336, by omega⟩, Fin.ext ?_⟩
  show q.val = q.val / 336 * 336 + q.val % 336
  omega

/-- The padded projection holds the reference's at a channel. -/
theorem u_eq (h y : FVec Ideal S8x1x4096 .f32) (g g' : FVec Ideal S4096 .f32) (w : FVec Ideal S4096x10752 .f32) (r : Fin 8) (b : Fin 16) (i : Fin 336) :
    outP h y g g' w (ix2 r ⟨(padOf b ⟨i.val, by omega⟩).val, by omega⟩) = refP h y g g' w (ix3 r 0 ⟨(chanOf b i).val, by omega⟩) := by
  rw [outP_u, refP_at]

theorem z_eq (h y : FVec Ideal S8x1x4096 .f32) (g g' : FVec Ideal S4096 .f32) (w : FVec Ideal S4096x10752 .f32) (r : Fin 8) (b : Fin 16) (i : Fin 336) :
    outP h y g g' w (ix2 r ⟨6144 + (padOf b ⟨i.val, by omega⟩).val, by omega⟩) = refZ (refP h y g g' w) (ix2 r (chanOf b i)) := by
  rw [outP_z, refZ_at, refP_at]

/-- The convolved input of a padded channel is the reference's of its channel. -/
theorem uc_eq (h y : FVec Ideal S8x1x4096 .f32) (g g' : FVec Ideal S4096 .f32) (w : FVec Ideal S4096x10752 .f32) (cw : FVec Ideal S4x5376 .f32) (cb : FVec Ideal S5376 .f32) (p : FVec Ideal S8x3x5376 .f32) (r : Fin 8) (b : Fin 16) (i : Fin 336) :
    ucAt (outP h y g g' w) (layCW cw) (layRow cb) (layP p) r (padOf b ⟨i.val, by omega⟩) = (refUc (refFull (refP h y g g' w) p) cw cb) (ix2 r (chanOf b i)) := by
  have f2 := refFull_old (refP h y g g' w) p r 2 (chanOf b i)
  have f1 := refFull_old (refP h y g g' w) p r 1 (chanOf b i)
  have f0 := refFull_old (refP h y g g' w) p r 0 (chanOf b i)
  refine Eq.trans ?_ (refUc_at _ _ _ _ _).symm
  refine Eq.trans ?_ (congrArg₂ (· + ·) (congrArg₂ (· + ·) (congrArg₂ (· + ·) (congrArg₂ (· + ·)
    (congrArg (cw (ix2 3 (chanOf b i)) * ·) (refFull_new (refP h y g g' w) p r (chanOf b i)).symm)
    (congrArg (cw (ix2 2 (chanOf b i)) * ·) f2.symm)) (congrArg (cw (ix2 1 (chanOf b i)) * ·) f1.symm))
    (congrArg (cw (ix2 0 (chanOf b i)) * ·) f0.symm)) rfl)
  unfold ucAt
  rw [layCW_at, layCW_at, layCW_at, layCW_at, layP_at, layP_at, layP_at, layRow_at, u_eq]

theorem gate_r (h y : FVec Ideal S8x1x4096 .f32) (g g' : FVec Ideal S4096 .f32) (w : FVec Ideal S4096x10752 .f32) (cw : FVec Ideal S4x5376 .f32) (cb : FVec Ideal S5376 .f32) (p : FVec Ideal S8x3x5376 .f32)
    (wr wi : FVec Ideal S16x336x336 .f32) (br bi : FVec Ideal S5376 .f32) (r : Fin 8) (b : Fin 16) (i : Fin 336) :
    gateAt (outP h y g g' w) (layCW cw) (layRow cb) (layP p) (layG wr wi) (layB br bi) r b ⟨i.val, by omega⟩
      = refGate (refUc (refFull (refP h y g g' w) p) cw cb) wr br (ix2 r (chanOf b i)) := by
  rw [refGate_at]
  unfold gateAt
  rw [layB_r]
  refine congrArg (· + _) ((sum_group _ fun k hk => ?_).trans (Finset.sum_congr rfl fun k _ => ?_))
  · rw [layG_zero _ _ _ _ _ hk]
    exact mul_zero _
  · refine (congrArg₂ (· * ·) (uc_eq h y g g' w cw cb p r b k) (layG_r wr wi k b i)).trans (mul_comm _ _)

theorem gate_i (h y : FVec Ideal S8x1x4096 .f32) (g g' : FVec Ideal S4096 .f32) (w : FVec Ideal S4096x10752 .f32) (cw : FVec Ideal S4x5376 .f32) (cb : FVec Ideal S5376 .f32) (p : FVec Ideal S8x3x5376 .f32)
    (wr wi : FVec Ideal S16x336x336 .f32) (br bi : FVec Ideal S5376 .f32) (r : Fin 8) (b : Fin 16) (i : Fin 336) :
    gateAt (outP h y g g' w) (layCW cw) (layRow cb) (layP p) (layG wr wi) (layB br bi) r b ⟨384 + i.val, by omega⟩
      = refGate (refUc (refFull (refP h y g g' w) p) cw cb) wi bi (ix2 r (chanOf b i)) := by
  rw [refGate_at]
  unfold gateAt
  rw [layB_i]
  refine congrArg (· + _) ((sum_group _ fun k hk => ?_).trans (Finset.sum_congr rfl fun k _ => ?_))
  · rw [layG_zero _ _ _ _ _ hk]
    exact mul_zero _
  · refine (congrArg₂ (· * ·) (uc_eq h y g g' w cw cb p r b k) (layG_i wr wi k b i)).trans (mul_comm _ _)

/-- The two softpluses are the same. -/
theorem sp_eq (lam : FVec Ideal S5376 .f32) : softplus (Host.negf lam) = refSp lam := rfl

/-- The new state of a lane. -/
theorem hAt_eq (h y : FVec Ideal S8x1x4096 .f32) (g g' : FVec Ideal S4096 .f32) (w : FVec Ideal S4096x10752 .f32) (cw : FVec Ideal S4x5376 .f32) (cb : FVec Ideal S5376 .f32) (wr : FVec Ideal S16x336x336 .f32) (br : FVec Ideal S5376 .f32) (wi : FVec Ideal S16x336x336 .f32) (bi lam : FVec Ideal S5376 .f32) (p : FVec Ideal S8x3x5376 .f32) (h0 : FVec Ideal S8x5376 .f32) (r : Fin 8) (b : Fin 16) (i : Fin 336) :
    stepH (outP h y g g' w) (layCW cw) (layRow cb) (layG wr wi) (layB br bi) (layRow (softplus (Host.negf lam))) (layP p) (layH h0) (ix2 r (padOf b ⟨i.val, by omega⟩)) = refState (refGate (refUc (refFull (refP h y g g' w) p) cw cb) wr br) (refGate (refUc (refFull (refP h y g g' w) p) cw cb) wi bi) (refUc (refFull (refP h y g g' w) p) cw cb) (refSp lam) h0 (ix2 r (chanOf b i)) := by
  rw [stepH_pad, refState_at]
  unfold hAt
  have gr := gate_r h y g g' w cw cb p wr wi br bi r b i
  have gi := gate_i h y g g' w cw cb p wr wi br bi r b i
  have uc := uc_eq h y g g' w cw cb p r b i
  have sp := layRow_at (softplus (Host.negf lam)) b i
  have hh := layH_at h0 r b i
  rw [sp_eq] at sp
  rw [← gr, ← gi, ← uc, ← sp, ← hh]
  rfl

theorem outH_eq (h y : FVec Ideal S8x1x4096 .f32) (g g' : FVec Ideal S4096 .f32) (w : FVec Ideal S4096x10752 .f32) (cw : FVec Ideal S4x5376 .f32) (cb : FVec Ideal S5376 .f32) (wr : FVec Ideal S16x336x336 .f32) (br : FVec Ideal S5376 .f32) (wi : FVec Ideal S16x336x336 .f32) (bi lam : FVec Ideal S5376 .f32) (p : FVec Ideal S8x3x5376 .f32) (h0 : FVec Ideal S8x5376 .f32) : outH h y g g' w cw cb wr br wi bi lam p h0 = refState (refGate (refUc (refFull (refP h y g g' w) p) cw cb) wr br) (refGate (refUc (refFull (refP h y g g' w) p) cw cb) wi bi) (refUc (refFull (refP h y g g' w) p) cw cb) (refSp lam) h0 := by
  funext j
  obtain ⟨r, q, rfl⟩ : ∃ r q, j = ix2 r q := by
    idx_vars j
    exact ⟨_, _, rfl⟩
  obtain ⟨b, i, rfl⟩ := chan_cases q
  exact (unpad_at _ _ _ _).trans (hAt_eq h y g g' w cw cb wr br wi bi lam p h0 r b i)

theorem outO_eq (h y : FVec Ideal S8x1x4096 .f32) (g g' : FVec Ideal S4096 .f32) (w : FVec Ideal S4096x10752 .f32) (cw : FVec Ideal S4x5376 .f32) (cb : FVec Ideal S5376 .f32) (wr : FVec Ideal S16x336x336 .f32) (br : FVec Ideal S5376 .f32) (wi : FVec Ideal S16x336x336 .f32) (bi lam : FVec Ideal S5376 .f32) (p : FVec Ideal S8x3x5376 .f32) (h0 : FVec Ideal S8x5376 .f32) : outO h y g g' w cw cb wr br wi bi lam p h0 = refOut (refState (refGate (refUc (refFull (refP h y g g' w) p) cw cb) wr br) (refGate (refUc (refFull (refP h y g g' w) p) cw cb) wi bi) (refUc (refFull (refP h y g g' w) p) cw cb) (refSp lam) h0) (refP h y g g' w) := by
  funext j
  obtain ⟨r, q, rfl⟩ : ∃ r q, j = ix2 r q := by
    idx_vars j
    exact ⟨_, _, rfl⟩
  obtain ⟨b, i, rfl⟩ := chan_cases q
  refine (unpad_at _ _ _ _).trans (Eq.trans ?_ (refOut_at _ _ _ _).symm)
  rw [← hAt_eq h y g g' w cw cb wr br wi bi lam p h0 r b i, ← z_eq h y g g' w r b i]
  rfl

/-! ## The convolution's buffer -/

theorem refConv_at (full : FVec Ideal S8x4x5376 .f32) (r : Fin 8) (k : Fin 3) (q : Fin 5376) :
    refConv full (ix3 r k q) = full (ix3 r ⟨1 + k.val, by omega⟩ q) := by
  pointwise [refConv]

theorem outC_new (h y : FVec Ideal S8x1x4096 .f32) (g g' : FVec Ideal S4096 .f32) (w : FVec Ideal S4096x10752 .f32) (p : FVec Ideal S8x3x5376 .f32) (r : Fin 8) (b : Fin 16) (i : Fin 336) :
    outC h y g g' w p (ix3 r 2 (chanOf b i)) = outP h y g g' w (ix2 r ⟨(padOf b ⟨i.val, by omega⟩).val, by omega⟩) := by
  have hb := b.isLt
  have hi := i.isLt
  have e : (b.val * 336 + i.val) % 336 = i.val := by omega
  have e' : (b.val * 336 + i.val) / 336 = b.val := by omega
  pointwise [outC, unpad, padOf, chanOf]

theorem outC_old (h y : FVec Ideal S8x1x4096 .f32) (g g' : FVec Ideal S4096 .f32) (w : FVec Ideal S4096x10752 .f32) (p : FVec Ideal S8x3x5376 .f32) (r : Fin 8) (k : Fin 2) (q : Fin 5376) :
    outC h y g g' w p (ix3 r ⟨k.val, by omega⟩ q) = p (ix3 r ⟨1 + k.val, by omega⟩ q) := by
  have hk := k.isLt
  pointwise [outC]

theorem outC_eq (h y : FVec Ideal S8x1x4096 .f32) (g g' : FVec Ideal S4096 .f32) (w : FVec Ideal S4096x10752 .f32) (p : FVec Ideal S8x3x5376 .f32) : outC h y g g' w p = refConv (refFull (refP h y g g' w) p) := by
  funext j
  obtain ⟨r, k, q, rfl⟩ : ∃ r k q, j = ix3 r k q := by
    idx_vars j
    exact ⟨_, _, _, rfl⟩
  obtain ⟨b, i, rfl⟩ := chan_cases q
  rw [refConv_at]
  by_cases hk : k.val < 2
  · refine (outC_old h y g g' w p r ⟨k.val, hk⟩ (chanOf b i)).trans ?_
    exact (refFull_old (refP h y g g' w) p r ⟨1 + k.val, by omega⟩ (chanOf b i)).symm
  · obtain rfl : k = 2 := Fin.ext (by have := k.isLt; show k.val = 2; omega)
    refine (outC_new h y g g' w p r b i).trans ((u_eq h y g g' w r b i).trans ?_)
    exact (refFull_new (refP h y g g' w) p r (chanOf b i)).symm

/-- From memories that agree on the arguments the kernel and the reference end with the same results. -/
theorem algebraic : Cert.algebraic_RgStepKIdeal_RgStepRIdeal := by
  intro m g m' g' _ hagree
  refine ⟨fun c => Cert.RgStepRIdeal.Value.res_main_v111 (F := Ideal) m' c,
    fun c => refConv (refFull (refP (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4))) (m' ((c.tc : Thread nD τ).loc main_arg13))),
    fun c => Cert.RgStepRIdeal.Value.res_main_v107 (F := Ideal) m' c, ?_, Cert.RgStepRIdeal.Value.run (F := Ideal) m' g'⟩
  refine (θ_run _ _ _).mono (fun r h c => ⟨(h c).1.trans ?_, (h c).2.1.trans ?_, (h c).2.2.1.trans ?_, (h c).2.2.2⟩) (Cert.RgStepKIdeal.RgStepRun.run (F := Ideal) m g)
  · obtain ⟨h0, h1, h2, h3, h4, h5, h6, h7, h8, h9, h10, h11, h12, h13, h14⟩ := hagree c
    rw [Cert.RgStepKIdeal.RgStepOut.resultO]
    refine (outO_eq _ _ _ _ _ _ _ _ _ _ _ _ _ _ ).trans ?_
    refine Eq.trans ?_ (res_o m' c).symm
    beta_reduce
    rw [h0, h1, h2, h3, h4, h5, h6, h7, h8, h9, h10, h11, h13, h14]
  · obtain ⟨h0, h1, h2, h3, h4, h5, h6, h7, h8, h9, h10, h11, h12, h13, h14⟩ := hagree c
    rw [Cert.RgStepKIdeal.RgStepOut.resultC]
    refine (outC_eq _ _ _ _ _ _ ).trans ?_
    beta_reduce
    rw [h0, h1, h2, h3, h4, h13]
  · obtain ⟨h0, h1, h2, h3, h4, h5, h6, h7, h8, h9, h10, h11, h12, h13, h14⟩ := hagree c
    rw [Cert.RgStepKIdeal.RgStepOut.resultH]
    refine (outH_eq _ _ _ _ _ _ _ _ _ _ _ _ _ _ ).trans ?_
    refine Eq.trans ?_ (res_h m' c).symm
    beta_reduce
    rw [h0, h1, h2, h3, h4, h5, h6, h7, h8, h9, h10, h11, h13, h14]

end Cert.Proof.RgStepClaim

end
-- ==== Proof.RgHeadValue.lean ====
/-
  THE RG-LRU LAYER'S INPUT PROJECTION (hand-written): what the region and the slices after it leave, from the arguments.
-/
module

public import proofs.«01_k».proof.Proof.Gen.RgHeadKIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.RgHeadKIdeal.RgHeadValue

open Cert.RgHeadKIdeal Cert.RgHeadKIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 12, 0] ∧ win0_1.index t = ![0, t.val % 12]
    ∧ win0_2.index t = ![t.val / 12, t.val % 12] :=
  (by decide +kernel : ∀ t : Fin grid0.N, _)

/-- The product over the padded columns. -/
def proj (X : FVec Ideal S8192x4096 .bf16) (W : FVec Ideal S4096x12288 .bf16) : FVec Ideal S8192x12288 .f32 :=
  fun j => ∑ k : Fin 4096, X (ix2 (j 0) k) * W (ix2 k (j 1))

theorem final (c : Dev nD) : (dats m 0 c).arrAt 2 cfg0.N
    = proj (V m c main_arg0) (V m c main_v9) := by
  refine (dats m 0 c).arrAt_eq_of_covers 2 _ (by decide +kernel) fun t _ y => ?_
  blk_simp
  rw [after0_2]
  frame_out
  pointwise [k0_pay1, proj]
  blk_point [iblk, idx t]

/-- The weight with each group of 336 columns padded to 384, the two halves side by side. -/
def padW (w : FVec Ideal S4096x10752 .f32) : FVec Ideal S4096x12288 .bf16 :=
  truncf .bf16 (concatenate S4096x12288 1
    [⟨S4096x6144, shapeCast S4096x6144 (pad S4096x16x384 ![0, 0, 0] ![0, 0, 48] ![0, 0, 0]
        (shapeCast S4096x16x336 (extractStridedSlice S4096x5376 ![0, 0] w slices_S4096x10752_S4096x5376_0_0) shapeCasts_S4096x5376_S4096x16x336)
        (sitofp (F := Ideal) .f32 (constantI S_ 32 0#32)) pads_S4096x16x336_S4096x16x384_000_000_0480 h_S_) shapeCasts_S4096x16x384_S4096x6144⟩,
     ⟨S4096x6144, shapeCast S4096x6144 (pad S4096x16x384 ![0, 0, 0] ![0, 0, 48] ![0, 0, 0]
        (shapeCast S4096x16x336 (extractStridedSlice S4096x5376 ![0, 5376] w slices_S4096x10752_S4096x5376_0_5376) shapeCasts_S4096x5376_S4096x16x336)
        (sitofp (F := Ideal) .f32 (constantI S_ 32 0#32)) pads_S4096x16x336_S4096x16x384_000_000_0480 h_S_) shapeCasts_S4096x16x384_S4096x6144⟩]
    concatenates_S4096x6144_S4096x6144_S4096x12288_d1) bitsLt_bf16_f32

theorem V_v9 (c : Dev nD) : V m c main_v9 = padW (m ((c : Thread nD τ).loc main_arg1)) := by
  show StableHlo.after _ _ _ = _
  simp only [List.flatten_cons, List.flatten_nil, List.append_nil, List.cons_append, List.nil_append, hostOps0, hostOps0_1, hostOps0_2, hostOps0_3]
  after_results_simp <;> rfl

/-- The kernel's first result from its arguments. -/
def outU (x : FVec Ideal S8192x4096 .bf16) (w : FVec Ideal S4096x10752 .f32) : FVec Ideal S8192x5376 .f32 :=
  shapeCast S8192x5376 (extractStridedSlice S8192x16x336 ![0, 0, 0]
    (shapeCast S8192x16x384 (extractStridedSlice S8192x6144 ![0, 0] (proj x (padW w)) slices_S8192x12288_S8192x6144_0_0)
      shapeCasts_S8192x6144_S8192x16x384) slices_S8192x16x384_S8192x16x336_0_0_0) shapeCasts_S8192x16x336_S8192x5376

/-- The kernel's second result from its arguments. -/
def outZ (x : FVec Ideal S8192x4096 .bf16) (w : FVec Ideal S4096x10752 .f32) : FVec Ideal S8192x5376 .f32 :=
  shapeCast S8192x5376 (extractStridedSlice S8192x16x336 ![0, 0, 0]
    (shapeCast S8192x16x384 (extractStridedSlice S8192x6144 ![0, 6144] (proj x (padW w)) slices_S8192x12288_S8192x6144_0_6144)
      shapeCasts_S8192x6144_S8192x16x384) slices_S8192x16x384_S8192x16x336_0_0_0) shapeCasts_S8192x16x336_S8192x5376

/-- What the region's array holds where the slices read it. -/
theorem arr_v10 (c : Dev nD) : Pipeline.withArrays (cfgs 0).spec c (V0 m c) (fun w => (dats m 0 c).arrAt w (cfgs 0).N) (Proc.devRef .tc main_v10)
    = proj (m ((c : Thread nD τ).loc main_arg0)) (padW (m ((c : Thread nD τ).loc main_arg1))) := by
  refine (Pipeline.withArrays_arr spec0 launch0.win.arr_inj c _ _ 2).trans ((final m c).trans ?_)
  rw [V_v9, V_main_arg0]

theorem tailU (c : Dev nD) : Pipeline.afterTail₀ cfgs (dats m) 0 (V0 m) [hostOps1] c main_v14
    = outU (m ((c : Thread nD τ).loc main_arg0)) (m ((c : Thread nD τ).loc main_arg1)) := by
  unfold Pipeline.afterTail₀
  simp only [List.flatten_cons, List.flatten_nil, List.append_nil]
  after_results_simp
  rw [arr_v10]
  rfl

theorem tailZ (c : Dev nD) : Pipeline.afterTail₀ cfgs (dats m) 0 (V0 m) [hostOps1] c main_v18
    = outZ (m ((c : Thread nD τ).loc main_arg0)) (m ((c : Thread nD τ).loc main_arg1)) := by
  unfold Pipeline.afterTail₀
  simp only [List.flatten_cons, List.flatten_nil, List.append_nil]
  after_results_simp
  rw [arr_v10]
  rfl

/-- The kernel's run: its two result buffers at the end, and the arguments unchanged. -/
theorem run (ρ : Dev nD → PrngReg) : θ_run defs (onTc (τ := τ) (main (F := Ideal))) ⟨m, fun _ => 0, ρ⟩ (fun r => ∀ c : Dev nD,
      r.2.mem ((c.tc : Thread nD τ).loc main_v14) = outU (m ((c.tc : Thread nD τ).loc main_arg0)) (m ((c.tc : Thread nD τ).loc main_arg1))
      ∧ r.2.mem ((c.tc : Thread nD τ).loc main_v18) = outZ (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(((h.1 c).2 main_v14 (Pipeline.mem_restRefs_of main_v14 (by decide) (by decide))).trans (tailU m c)),
      (((h.1 c).2 main_v18 (Pipeline.mem_restRefs_of main_v18 (by decide) (by decide))).trans (tailZ m c)), (h.2 c).1, (h.2 c).2⟩)
    (θ_run_and (run_main m ρ) (unchanged m ρ))

end Cert.RgHeadKIdeal.RgHeadValue

end
-- ==== Proof.RgHeadClaim.lean ====
/-
  THE RG-LRU LAYER'S INPUT PROJECTION (hand-written): its reference, and the claims.
-/
module

public import proofs.«01_k».proof.Proof.RgHeadValue
public import proofs.«01_k».proof.Defs
public import proofs.«01_k».proof.Proof.Gen.RgHeadRIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.RgHeadClaim

open Cert.RgHeadRIdeal Cert.RgHeadRIdeal.Gen
open Cert.RgHeadKIdeal.RgHeadValue (proj padW outU outZ)
open Idealize.ShloMosaic Idealize.ShloMosaic.TcCoe Idealize.SL.Sem Idealize.ShloMosaic.StableHlo

/-- The reference has host operations only, and no counter to leave raised. -/
theorem frame_R : Cert.quiescent_RgHeadRIdeal := by
  intro m g _
  exact (θ_run _ _ _).mono (fun r h => ⟨fun c => (h c).2.2, sem_eq_zero_of_no_sems (by decide) _⟩)
    (Cert.RgHeadRIdeal.Value.run (F := Ideal) m g)

/-- The reference's operations composed. -/
def refU (a0 : FVec Ideal S8192x4096 .bf16) (a1 : FVec Ideal S4096x10752 .f32) : FVec Ideal S8192x5376 .f32 :=
  extractStridedSlice S8192x5376 ![0, 0] (Host.dotGeneral dot_S8192x4096_S4096x10752_S8192x10752_1_0_0_1_n_n none (extf .f32 a0 bitsLt_bf16_f32) a1) slices_S8192x10752_S8192x5376_0_0

set_option maxRecDepth 200000 in
theorem outU_eq (x : FVec Ideal S8192x4096 .bf16) (w : FVec Ideal S4096x10752 .f32) : outU x w = refU x w := by
  funext j
  obtain ⟨r, q, rfl⟩ : ∃ r q, j = ix2 r q := by
    idx_vars j
    exact ⟨_, _, rfl⟩
  have hq := q.isLt
  have h1 : (q.val / 336 * 384 + q.val % 336) % 384 = q.val % 336 := by omega
  have h2 : (q.val / 336 * 384 + q.val % 336) / 384 = q.val / 336 := by omega
  pointwise [outU, proj, padW, refU]
  exact Finset.sum_congr rfl fun k _ => by rw [dif_pos (by omega), dif_pos (by omega)]

/-- The reference's operations composed. -/
def refZ (a0 : FVec Ideal S8192x4096 .bf16) (a1 : FVec Ideal S4096x10752 .f32) : FVec Ideal S8192x5376 .f32 :=
  extractStridedSlice S8192x5376 ![0, 5376] (Host.dotGeneral dot_S8192x4096_S4096x10752_S8192x10752_1_0_0_1_n_n none (extf .f32 a0 bitsLt_bf16_f32) a1) slices_S8192x10752_S8192x5376_0_5376

theorem outZ_eq (x : FVec Ideal S8192x4096 .bf16) (w : FVec Ideal S4096x10752 .f32) : outZ x w = refZ x w := by
  funext j
  obtain ⟨r, q, rfl⟩ : ∃ r q, j = ix2 r q := by
    idx_vars j
    exact ⟨_, _, rfl⟩
  have hq := q.isLt
  have h1 : (q.val / 336 * 384 + q.val % 336) % 384 = q.val % 336 := by omega
  have h2 : (q.val / 336 * 384 + q.val % 336) / 384 = q.val / 336 := by omega
  pointwise [outZ, proj, padW, refZ]
  exact Finset.sum_congr rfl fun k _ => by rw [dif_pos (by omega)]

/-- From memories that agree on the arguments the kernel and the reference end with the same two results. -/
theorem algebraic : Cert.algebraic_RgHeadKIdeal_RgHeadRIdeal := by
  intro m g m' g' _ hagree
  refine ⟨fun c => refU (m' ((c.tc : Thread nD τ).loc main_arg0)) (m' ((c.tc : Thread nD τ).loc main_arg1)),
    fun c => refZ (m' ((c.tc : Thread nD τ).loc main_arg0)) (m' ((c.tc : Thread nD τ).loc main_arg1)), ?_, Cert.RgHeadRIdeal.Value.run (F := Ideal) m' g'⟩
  refine (θ_run _ _ _).mono (fun r h c => ⟨(h c).1.trans ?_, (h c).2.1.trans ?_, (h c).2.2⟩) (Cert.RgHeadKIdeal.RgHeadValue.run m g)
  · obtain ⟨h0, h1⟩ := hagree c
    refine (outU_eq _ _).trans ?_
    beta_reduce
    rw [h0, h1]
  · obtain ⟨h0, h1⟩ := hagree c
    refine (outZ_eq _ _).trans ?_
    beta_reduce
    rw [h0, h1]

end Cert.Proof.RgHeadClaim

end
-- ==== Proof.RgOutValue.lean ====
/-
  THE RG-LRU LAYER'S OUTPUT PROJECTION (hand-written): the array the blocked product over the padded channels leaves is the
  whole product over the channels.
-/
module

public import proofs.«01_k».proof.Proof.Gen.RgOutKIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.RgOutKIdeal.RgOutValue

open Cert.RgOutKIdeal Cert.RgOutKIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 16, t.val % 2] ∧ win0_1.index t = ![t.val % 2, t.val / 2 % 8]
    ∧ win0_2.index t = ![t.val / 16, t.val / 2 % 8] :=
  (by decide +kernel : ∀ t : Fin grid0.N, _)

/-- The product over the padded channels at token `r` and channel `q`. -/
def prodAt (G : FVec Ideal S8192x6144 .bf16) (W : FVec Ideal S6144x4096 .bf16) (r : Fin 8192) (q : Fin 4096) : EReal :=
  ∑ k : Fin 6144, G (ix2 r k) * W (ix2 k q)

/-- The product over the padded channels. -/
def prod (G : FVec Ideal S8192x6144 .bf16) (W : FVec Ideal S6144x4096 .bf16) : FVec Ideal S8192x4096 .f32 :=
  fun j => prodAt G W (j 0) (j 1)

/-- What the second of a block's two points stores, at row `n` and column `x` of the block. -/
theorem point (c : Dev nD) (s t : Fin cfg0.N) (hs : s.val + 1 = t.val) (ht : t.val % 2 = 1) (n : Fin 1024) (x : Fin 512)
    (r : Fin 8192) (q : Fin 4096) (hr : r.val = t.val / 16 * 1024 + n.val) (hq : q.val = t.val / 2 % 8 * 512 + x.val) :
    k0_pay2 (F := Ideal) (k0_pay2 (F := Ideal) (k0_pay1 (F := Ideal)) (iblk m c 0 s) (iblk m c 1 s)) (iblk m c 0 t) (iblk m c 1 t) (ix2 n x)
    = prodAt (V m c main_v5) (V m c main_v6) r q := by
  have hN : t.val < 128 := lt_of_lt_of_eq t.isLt N_0
  have e1 : s.val / 16 = t.val / 16 := by omega
  have e2 : s.val / 2 % 8 = t.val / 2 % 8 := by omega
  have e3 : s.val % 2 = 0 := by omega
  have hsum : ∀ f : Fin 6144 → EReal, ∑ k : Fin 6144, f k
      = (∑ k : Fin 3072, f ⟨0 * 3072 + k.val, by omega⟩) + ∑ k : Fin 3072, f ⟨1 * 3072 + k.val, by omega⟩ := by
    intro f
    rw [Fin.sum_univ_tiles 2 3072 rfl f, Fin.sum_univ_two]
    rfl
  pointwise [k0_pay2, k0_pay1, prodAt]
  rw [hsum]
  blk_point [iblk, idx t, idx s]

/-- The array after the run. -/
theorem final (c : Dev nD) : (dats m 0 c).arrAt 2 cfg0.N
    = prod (V m c main_v5) (V m c main_v6) := by
  refine (dats m 0 c).arrAt_eq_of_covers 2 _ (by decide +kernel) fun t hf y => ?_
  have ht : t.val % 2 = 1 := (flush0_2 t).mp hf
  have hp : t.val - 1 < cfg0.N := lt_of_le_of_lt (Nat.sub_le _ _) t.isLt
  blk_simp
  rw [after0_2, outsAt0_B m c t (by omega) ht, outsAt0_A m c ⟨t.val - 1, hp⟩ (by show (t.val - 1) % 2 = 0; omega)
    (by show ¬ (t.val - 1) % 2 = 1; omega)]
  frame_out
  rw [read_unread_whole]
  have hy : y = ix2 (y 0) (y 1) := by
    idx_vars y
    rfl
  conv_lhs => rw [hy]
  refine point m c ⟨t.val - 1, hp⟩ t (by show t.val - 1 + 1 = t.val; omega) ht (y 0) (y 1) _ _ ?_ ?_
  · blk_simp [idx t]
    done
  · blk_simp [idx t]
    done

end Cert.RgOutKIdeal.RgOutValue

end
-- ==== Proof.RgOutPad.lean ====
/-
  THE PADDED OPERANDS OF THE RG-LRU LAYER'S OUTPUT PROJECTION (hand-written): what the blocked product reads, and the sum
  over the padded channels as the sum over the channels.
-/
module

public import proofs.«01_k».proof.Proof.RgOutValue
public import proofs.«01_k».proof.Proof.RgPad

@[expose] public section

set_option maxRecDepth 16384

noncomputable section

namespace Cert.RgOutKIdeal.RgOutPad

open Cert.RgOutKIdeal Cert.RgOutKIdeal.Gen
open Idealize.ShloMosaic Idealize.ShloMosaic.TcCoe Idealize.SL.Sem
open Cert.Proof.RgPad

variable (m : (ℓ : Loc nD τ sig) → Buf (Elt Ideal) ℓ)

/-- The padded activations. -/
def padG (G : FVec Ideal S8192x5376 .bf16) : FVec Ideal S8192x6144 .bf16 :=
  shapeCast S8192x6144 (pad S8192x16x384 ![0, 0, 0] ![0, 0, 48] ![0, 0, 0]
    (shapeCast S8192x16x336 G shapeCasts_S8192x5376_S8192x16x336) (sitofp (F := Ideal) .bf16 (constantI S_ 32 0#32))
    pads_S8192x16x336_S8192x16x384_000_000_0480 h_S_) shapeCasts_S8192x16x384_S8192x6144

/-- The padded weight. -/
def padW (W : FVec Ideal S5376x4096 .f32) : FVec Ideal S6144x4096 .bf16 :=
  truncf .bf16 (shapeCast S6144x4096 (pad S16x384x4096 ![0, 0, 0] ![0, 48, 0] ![0, 0, 0]
    (shapeCast S16x336x4096 W shapeCasts_S5376x4096_S16x336x4096) (sitofp (F := Ideal) .f32 (constantI S_ 32 0#32))
    pads_S16x336x4096_S16x384x4096_000_0480_000 h_S_) shapeCasts_S16x384x4096_S6144x4096) bitsLt_bf16_f32

theorem V_v5 (c : Dev nD) : V m c main_v5 = padG (m ((c : Thread nD τ).loc main_arg0)) := by
  show StableHlo.after _ _ _ = _
  simp only [List.flatten_cons, List.flatten_nil, List.append_nil, List.cons_append, List.nil_append, hostOps0, hostOps0_1, hostOps0_2, hostOps0_3, hostOps0_4]
  after_results_simp <;> rfl

theorem V_v6 (c : Dev nD) : V m c main_v6 = padW (m ((c : Thread nD τ).loc main_arg1)) := by
  show StableHlo.after _ _ _ = _
  simp only [List.flatten_cons, List.flatten_nil, List.append_nil, List.cons_append, List.nil_append, hostOps0, hostOps0_1, hostOps0_2, hostOps0_3, hostOps0_4]
  after_results_simp <;> rfl

theorem padG_at (G : FVec Ideal S8192x5376 .bf16) (r : Fin 8192) (b : Fin 16) (i : Fin 336) :
    padG G (ix2 r (padOf b ⟨i.val, by omega⟩)) = G (ix2 r (chanOf b i)) := by
  have hb := b.isLt
  have hi := i.isLt
  have e : (b.val * 384 + i.val) % 384 = i.val := by omega
  pointwise [padG, padOf, chanOf]
  simp only [e, dif_pos hi]

theorem padG_zero (G : FVec Ideal S8192x5376 .bf16) (r : Fin 8192) (b : Fin 16) (i : Fin 384) (h : 336 ≤ i.val) :
    padG G (ix2 r (padOf b i)) = (0 : EReal) := by
  have hb := b.isLt
  have hi := i.isLt
  pointwise [padG, padOf]
  rw [dif_neg (by omega)]
  show (((0#32 : BitVec 32).toInt : ℝ) : EReal) = 0
  simp

theorem padW_at (W : FVec Ideal S5376x4096 .f32) (q : Fin 4096) (b : Fin 16) (i : Fin 336) :
    padW W (ix2 (padOf b ⟨i.val, by omega⟩) q) = W (ix2 (chanOf b i) q) := by
  have hb := b.isLt
  have hi := i.isLt
  have e : (b.val * 384 + i.val) % 384 = i.val := by omega
  pointwise [padW, padOf, chanOf]
  simp only [e, dif_pos hi]

/-- The product of the padded operands is the sum over the channels. -/
theorem prod_at (G : FVec Ideal S8192x5376 .bf16) (W : FVec Ideal S5376x4096 .f32) (r : Fin 8192) (q : Fin 4096) :
    RgOutValue.prod (padG G) (padW W) (ix2 r q) = ∑ k : Fin 5376, (G (ix2 r k) * W (ix2 k q) : EReal) := by
  show ∑ k : Fin 6144, (padG G (ix2 r k) * padW W (ix2 k q) : EReal) = _
  refine sum_pad _ _ (fun b i h => ?_) fun b i => ?_
  · rw [padG_zero G r b i h]
    exact zero_mul _
  · rw [padG_at, padW_at]

end Cert.RgOutKIdeal.RgOutPad

end
-- ==== Proof.RgOutClaim.lean ====
/-
  THE CLAIMS ABOUT THE RG-LRU LAYER'S OUTPUT PROJECTION (hand-written): the kernel's run and the reference's, and their equal results.
-/
module

public import proofs.«01_k».proof.Defs
public import proofs.«01_k».proof.Proof.RgOutPad
public import proofs.«01_k».proof.Proof.Gen.RgOutKIdeal.Value
public import proofs.«01_k».proof.Proof.Gen.RgOutRIdeal.Run

@[expose] public section

set_option maxRecDepth 16384

noncomputable section

namespace Cert.Proof.RgOutClaim

open Idealize.ShloMosaic Idealize.SL.Sem

/-- The reference has host operations only, and no counter to leave raised. -/
theorem frame_R : Cert.quiescent_RgOutRIdeal := by
  intro m g _
  exact (θ_run _ _ _).mono (fun r h => ⟨fun c => (h c).2, sem_eq_zero_of_no_sems (by decide) _⟩)
    (Cert.RgOutRIdeal.Value.run (F := Ideal) m g)

/-- The reference's product is the sum over the 5376 channels. -/
theorem ref_eq (G : FVec Ideal Cert.RgOutRIdeal.S8192x5376 .bf16) (W : FVec Ideal Cert.RgOutRIdeal.S5376x4096 .f32) :
    Host.dotGeneral Cert.RgOutRIdeal.dot_S8192x5376_S5376x4096_S8192x4096_1_0_0_1_n_n none (extf .f32 G Cert.RgOutRIdeal.Gen.bitsLt_bf16_f32) W
      = Cert.RgOutKIdeal.RgOutValue.prod (Cert.RgOutKIdeal.RgOutPad.padG G) (Cert.RgOutKIdeal.RgOutPad.padW W) := by
  funext j
  obtain ⟨r, q, rfl⟩ : ∃ r q, j = ix2 r q := by
    idx_vars j
    exact ⟨_, _, rfl⟩
  refine Eq.trans ?_ (Cert.RgOutKIdeal.RgOutPad.prod_at G W r q).symm
  pointwise []

/-- From memories that agree on the arguments the kernel and the reference end with the same product. -/
theorem algebraic : Cert.algebraic_RgOutKIdeal_RgOutRIdeal := by
  intro m g m' g' _ hagree
  refine ⟨fun c => _, ?_, Cert.RgOutRIdeal.Value.run (F := Ideal) m' g'⟩
  refine (θ_run _ _ _).mono (fun r h c => ⟨(h c).1.trans ?_, (h c).2⟩) (Cert.RgOutKIdeal.Value.run_blocks (F := Ideal) m g)
  obtain ⟨h0, h1⟩ := hagree c
  rw [Cert.RgOutKIdeal.RgOutValue.final, Cert.RgOutKIdeal.RgOutPad.V_v5, Cert.RgOutKIdeal.RgOutPad.V_v6]
  refine Eq.trans ?_ (ref_eq _ _).symm
  rw [h0, h1]

end Cert.Proof.RgOutClaim

end
-- ==== Proof.NsaOutValue.lean ====
/-
  THE NSA LAYER'S OUTPUT PROJECTION (hand-written): the array its blocks leave is the whole product.
-/
module

public import proofs.«01_k».proof.Proof.Gen.NsaOutKIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.NsaOutKIdeal.NsaOutValue

open Cert.NsaOutKIdeal Cert.NsaOutKIdeal.Gen
open Idealize.ShloMosaic Idealize.ShloMosaic.TcCoe Idealize.SL.Sem
open Idealize.ShloMosaic.Pipeline (Dat)

variable (m : (ℓ : Loc nD τ sig) → Buf (Elt Ideal) ℓ)

theorem idx : ∀ t : Fin cfg0.N, win0_0.index t = ![t.val / 4, 0] ∧ win0_1.index t = ![0, t.val % 4]
    ∧ win0_2.index t = ![t.val / 4, t.val % 4] :=
  (by decide +kernel : ∀ t : Fin grid0.N, _)

/-- The product. -/
def prod (G : FVec Ideal S8192x4096 .bf16) (W : FVec Ideal S4096x4096 .f32) : FVec Ideal S8192x4096 .f32 :=
  fun j => ∑ k : Fin 4096, G (ix2 (j 0) k) * W (ix2 k (j 1))

/-- The array after the run. -/
theorem final (c : Dev nD) : (dats m 0 c).arrAt 2 cfg0.N
    = prod (m ((c : Thread nD τ).loc main_arg0)) (m ((c : Thread nD τ).loc main_arg1)) := by
  refine (dats m 0 c).arrAt_eq_of_covers 2 _ (by decide +kernel) fun t _ y => ?_
  blk_simp
  rw [after0_2]
  frame_out
  pointwise [k0_pay1, prod]
  blk_point [iblk, V, idx t]

end Cert.NsaOutKIdeal.NsaOutValue

end
-- ==== Proof.NsaOutClaim.lean ====
/-
  THE CLAIMS ABOUT THE NSA LAYER'S OUTPUT PROJECTION (hand-written): the kernel's run and the reference's, and their equal results.
-/
module

public import proofs.«01_k».proof.Defs
public import proofs.«01_k».proof.Proof.NsaOutValue
public import proofs.«01_k».proof.Proof.Gen.NsaOutKIdeal.Value
public import proofs.«01_k».proof.Proof.Gen.NsaOutRIdeal.Run

@[expose] public section

set_option maxRecDepth 16384

noncomputable section

namespace Cert.Proof.NsaOutClaim

open Idealize.ShloMosaic Idealize.SL.Sem

/-- The reference has host operations only, and no counter to leave raised. -/
theorem frame_R : Cert.quiescent_NsaOutRIdeal := by
  intro m g _
  exact (θ_run _ _ _).mono (fun r h => ⟨fun c => (h c).2, sem_eq_zero_of_no_sems (by decide) _⟩)
    (Cert.NsaOutRIdeal.Value.run (F := Ideal) m g)

/-- The reference's product is the sum over the 4096 channels. -/
theorem ref_eq (G : FVec Ideal Cert.NsaOutRIdeal.S8192x4096 .bf16) (W : FVec Ideal Cert.NsaOutRIdeal.S4096x4096 .f32) :
    Host.dotGeneral Cert.NsaOutRIdeal.dot_S8192x4096_S4096x4096_S8192x4096_1_0_0_1_n_n none (extf .f32 G Cert.NsaOutRIdeal.Gen.bitsLt_bf16_f32) W
      = Cert.NsaOutKIdeal.NsaOutValue.prod G W := by
  funext j
  obtain ⟨r, q, rfl⟩ : ∃ r q, j = ix2 r q := by
    idx_vars j
    exact ⟨_, _, rfl⟩
  pointwise [Cert.NsaOutKIdeal.NsaOutValue.prod]

/-- From memories that agree on the arguments the kernel and the reference end with the same product. -/
theorem algebraic : Cert.algebraic_NsaOutKIdeal_NsaOutRIdeal := by
  intro m g m' g' _ hagree
  refine ⟨fun c => _, ?_, Cert.NsaOutRIdeal.Value.run (F := Ideal) m' g'⟩
  refine (θ_run _ _ _).mono (fun r h c => ⟨(h c).1.trans ?_, (h c).2⟩) (Cert.NsaOutKIdeal.Value.run_blocks (F := Ideal) m g)
  obtain ⟨h0, h1⟩ := hagree c
  rw [Cert.NsaOutKIdeal.NsaOutValue.final]
  refine Eq.trans ?_ (ref_eq _ _).symm
  rw [h0, h1]

end Cert.Proof.NsaOutClaim

end
-- ==== Proof.LastValue.lean ====
/-
  THE CLOSING RESIDUAL (hand-written): what its two regions leave, and so its two results, from the arguments.
-/
module

public import proofs.«01_k».proof.Proof.Gen.LastKIdeal.Frame
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.LastKIdeal.LastValue

open Cert.LastKIdeal Cert.LastKIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

theorem idx0 : ∀ t : Fin cfg0.N, win0_0.index t = ![t.val, 0] ∧ win0_1.index t = ![t.val, 0] ∧ win0_2.index t = ![0, 0]
    ∧ win0_3.index t = ![t.val, 0] :=
  (by decide +kernel : ∀ t : Fin grid0.N, _)

theorem idx1 : ∀ t : Fin cfg1.N, win1_0.index t = ![t.val, 0] ∧ win1_1.index t = ![t.val, 0] ∧ win1_2.index t = ![0, 0]
    ∧ win1_3.index t = ![t.val, 0] :=
  (by decide +kernel : ∀ t : Fin grid1.N, _)

/-- The weighted root-mean-square norm of a row, at a channel. -/
def normAt (row : Fin 4096 → EReal) (g : EReal) (k : Fin 4096) : EReal :=
  row k * Ideal.rsqrt (Ideal.div (∑ l, row l * row l) (Ideal.ofBits FTy.f32 0x45800000#32) + Ideal.ofBits FTy.f32 0x358637BD#32) * g

/-- The residual stream plus the normed block output, for the prompt's rows. -/
def resP (h y : FVec Ideal S8192x4096 .f32) (g : FVec Ideal S1x4096 .f32) : FVec Ideal S8192x4096 .f32 :=
  fun j => h j + normAt (fun k => y (ix2 (j 0) k)) (g (ix2 0 (j 1))) (j 1)

/-- The same for the decoding step's rows. -/
def resS (h y : FVec Ideal S8x4096 .f32) (g : FVec Ideal S1x4096 .f32) : FVec Ideal S8x4096 .f32 :=
  fun j => h j + normAt (fun k => y (ix2 (j 0) k)) (g (ix2 0 (j 1))) (j 1)

theorem arr0 (c : Dev nD) : (dat0 V c).arrAt 3 cfg0.N = resP (V c main_v0) (V c main_v1) (V c main_v2) := by
  refine (dat0 V c).arrAt_eq_of_covers 3 _ (by decide +kernel) fun t _ y => ?_
  blk_simp
  rw [after0_3]
  frame_out
  pointwise [k0_pay1, resP, normAt]
  blk_point [iblk0, idx0 t]

theorem arr1 (c : Dev nD) : (dat1 V c).arrAt 3 cfg1.N = resS (V c main_v5) (V c main_v6) (V c main_v7) := by
  refine (dat1 V c).arrAt_eq_of_covers 3 _ (by decide +kernel) fun t _ y => ?_
  blk_simp
  rw [after1_3]
  frame_out
  pointwise [k1_pay1, resS, normAt]
  blk_point [iblk1, idx1 t]

variable (m : (ℓ : Loc nD τ sig) → Buf (Elt Ideal) ℓ) (ρ : Dev nD → PrngReg)

/-- The prompt's result from the arguments. -/
def outP (h y : FVec Ideal S4x2048x4096 .f32) (g : FVec Ideal S4096 .f32) : FVec Ideal S4x2048x4096 .f32 :=
  shapeCast S4x2048x4096 (resP (shapeCast S8192x4096 h shapeCasts_S4x2048x4096_S8192x4096)
    (shapeCast S8192x4096 y shapeCasts_S4x2048x4096_S8192x4096) (shapeCast S1x4096 g shapeCasts_S4096_S1x4096)) shapeCasts_S8192x4096_S4x2048x4096

/-- The decoding step's result from the arguments. -/
def outS (h y : FVec Ideal S8x1x4096 .f32) (g : FVec Ideal S4096 .f32) : FVec Ideal S8x1x4096 .f32 :=
  shapeCast S8x1x4096 (resS (shapeCast S8x4096 h shapeCasts_S8x1x4096_S8x4096)
    (shapeCast S8x4096 y shapeCasts_S8x1x4096_S8x4096) (shapeCast S1x4096 g shapeCasts_S4096_S1x4096)) shapeCasts_S8x4096_S8x1x4096

/-- The prompt's result buffer at the end. -/
theorem resultP (c : Dev nD) : W5 m ρ c (Proc.devRef .tc main_v4)
    = outP (m ((c.tc : Thread nD τ).loc main_arg0)) (m ((c.tc : Thread nD τ).loc main_arg1)) (m ((c.tc : Thread nD τ).loc main_arg4)) := by
  have e0 : V1 m ρ c main_v0 = shapeCast S8192x4096 (show FVec Ideal S4x2048x4096 .f32 from m ((c.tc : Thread nD τ).loc main_arg0)) shapeCasts_S4x2048x4096_S8192x4096 := by
    dsimp only [V1, W1]
    after_results_simp <;> rfl
  have e1 : V1 m ρ c main_v1 = shapeCast S8192x4096 (show FVec Ideal S4x2048x4096 .f32 from m ((c.tc : Thread nD τ).loc main_arg1)) shapeCasts_S4x2048x4096_S8192x4096 := by
    dsimp only [V1, W1]
    after_results_simp <;> rfl
  have e2 : V1 m ρ c main_v2 = shapeCast S1x4096 (show FVec Ideal S4096 .f32 from m ((c.tc : Thread nD τ).loc main_arg4)) shapeCasts_S4096_S1x4096 := by
    dsimp only [V1, W1]
    after_results_simp <;> rfl
  have e3 : W2 m ρ c (Proc.devRef .tc main_v3) = resP (V1 m ρ c main_v0) (V1 m ρ c main_v1) (V1 m ρ c main_v2) :=
    (W2_arr m ρ c 3).trans (arr0 (V1 m ρ) c)
  have e4 : W3 m ρ c (Proc.devRef .tc main_v4) = shapeCast S4x2048x4096 (resP (V1 m ρ c main_v0) (V1 m ρ c main_v1) (V1 m ρ c main_v2)) shapeCasts_S8192x4096_S4x2048x4096 := by
    dsimp only [W3]
    after_results_simp
    rw [e3]
    rfl
  have e5 := W4_of_ne m ρ c main_v4 (by decide)
  dsimp only [W5]
  after_results_simp
  rw [e5, e4, e0, e1, e2]
  rfl

/-- The decoding step's result buffer at the end. -/
theorem resultS (c : Dev nD) : W5 m ρ c (Proc.devRef .tc main_v9)
    = outS (m ((c.tc : Thread nD τ).loc main_arg2)) (m ((c.tc : Thread nD τ).loc main_arg3)) (m ((c.tc : Thread nD τ).loc main_arg4)) := by
  have a2 := W2_args m ρ c main_arg2 (by decide)
  have a3 := W2_args m ρ c main_arg3 (by decide)
  have a4 := W2_args m ρ c main_arg4 (by decide)
  have e0 : V3 m ρ c main_v5 = shapeCast S8x4096 (show FVec Ideal S8x1x4096 .f32 from m ((c.tc : Thread nD τ).loc main_arg2)) shapeCasts_S8x1x4096_S8x4096 := by
    dsimp only [V3, W3]
    after_results_simp
    rw [a2]
    rfl
  have e1 : V3 m ρ c main_v6 = shapeCast S8x4096 (show FVec Ideal S8x1x4096 .f32 from m ((c.tc : Thread nD τ).loc main_arg3)) shapeCasts_S8x1x4096_S8x4096 := by
    dsimp only [V3, W3]
    after_results_simp
    rw [a3]
    rfl
  have e2 : V3 m ρ c main_v7 = shapeCast S1x4096 (show FVec Ideal S4096 .f32 from m ((c.tc : Thread nD τ).loc main_arg4)) shapeCasts_S4096_S1x4096 := by
    dsimp only [V3, W3]
    after_results_simp
    rw [a4]
    rfl
  have e3 : W4 m ρ c (Proc.devRef .tc main_v8) = resS (V3 m ρ c main_v5) (V3 m ρ c main_v6) (V3 m ρ c main_v7) :=
    (W4_arr m ρ c 3).trans (arr1 (V3 m ρ) c)
  dsimp only [W5]
  after_results_simp
  rw [e3, e0, e1, e2]
  rfl

end Cert.LastKIdeal.LastValue

end
-- ==== Proof.LastRun.lean ====
/-
  THE RUN of the closing residual (hand-written): every buffer of the program ends at the last boundary's contents
  `Gen.W5`; so does the result buffer, and the arguments end as they were launched.
-/
module

public import proofs.«01_k».proof.Proof.Gen.LastKIdeal.Frame

@[expose] public section

set_option maxRecDepth 16384

noncomputable section

namespace Cert.LastKIdeal.LastRun

open Cert.LastKIdeal Cert.LastKIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program terminates from any memory with zero counters; its result buffer then holds the last boundary's
    contents, and each argument what it held at launch. -/
theorem run : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c =>
      ⟨h c _ (mem_uc main_v4 (by decide)),
       h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c)⟩)

end Cert.LastKIdeal.LastRun

end
-- ==== Proof.LastClaim.lean ====
/-
  THE CLOSING RESIDUAL (hand-written): its reference, and the claims.
-/
module

public import proofs.«01_k».proof.Proof.LastValue
public import proofs.«01_k».proof.Defs
public import proofs.«01_k».proof.Proof.LastRun
public import proofs.«01_k».proof.Proof.Gen.LastRIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.LastClaim

open Cert.LastRIdeal Cert.LastRIdeal.Gen
open Cert.LastKIdeal.LastValue (normAt resP resS outP outS)
open Idealize.ShloMosaic Idealize.ShloMosaic.TcCoe Idealize.SL.Sem Idealize.ShloMosaic.StableHlo

/-- The reference has host operations only, and no counter to leave raised. -/
theorem frame_R : Cert.quiescent_LastRIdeal := by
  intro m g _
  exact (θ_run _ _ _).mono (fun r h => ⟨fun c => (h c).2.2, sem_eq_zero_of_no_sems (by decide) _⟩)
    (Cert.LastRIdeal.Value.run (F := Ideal) m g)

/-- The prompt's result: the reference's operations composed. -/
def refP (a0 a1 : FVec Ideal S4x2048x4096 .f32) (a4 : FVec Ideal S4096 .f32) : FVec Ideal S4x2048x4096 .f32 :=
  addf a0 (mulf (mulf a1 (broadcastInDim S4x2048x4096 ![0, 1, 2] bcast_S4x2048x1_S4x2048x4096_0_1_2 (Host.rsqrt (addf (Host.divf (broadcastInDim S4x2048x1 ![0, 1] bcast_S4x2048_S4x2048x1_0_1 (Host.reduceAdd (mulf a1 a1) (constant S_ .f32 0x00000000#32) reducesTo_S4x2048x4096_S4x2048_d2 h_S_)) (broadcastInDim S4x2048x1 ![] bcast_S_S4x2048x1 (constant S_ .f32 0x45800000#32))) (broadcastInDim S4x2048x1 ![] bcast_S_S4x2048x1 (constant S_ .f32 0x358637BD#32)))))) (broadcastInDim S4x2048x4096 ![0, 1, 2] bcast_S1x1x4096_S4x2048x4096_0_1_2 (broadcastInDim S1x1x4096 ![2] bcast_S4096_S1x1x4096_2 a4)))

/-- The decoding step's result: the reference's operations composed. -/
def refS (a2 a3 : FVec Ideal S8x1x4096 .f32) (a4 : FVec Ideal S4096 .f32) : FVec Ideal S8x1x4096 .f32 :=
  addf a2 (mulf (mulf a3 (broadcastInDim S8x1x4096 ![0, 1, 2] bcast_S8x1x1_S8x1x4096_0_1_2 (Host.rsqrt (addf (Host.divf (broadcastInDim S8x1x1 ![0, 1] bcast_S8x1_S8x1x1_0_1 (Host.reduceAdd (mulf a3 a3) (constant S_ .f32 0x00000000#32) reducesTo_S8x1x4096_S8x1_d2 h_S_)) (broadcastInDim S8x1x1 ![] bcast_S_S8x1x1 (constant S_ .f32 0x45800000#32))) (broadcastInDim S8x1x1 ![] bcast_S_S8x1x1 (constant S_ .f32 0x358637BD#32)))))) (broadcastInDim S8x1x4096 ![0, 1, 2] bcast_S1x1x4096_S8x1x4096_0_1_2 (broadcastInDim S1x1x4096 ![2] bcast_S4096_S1x1x4096_2 a4)))

theorem outP_eq (h y : FVec Ideal S4x2048x4096 .f32) (g : FVec Ideal S4096 .f32) : outP h y g = refP h y g := by
  funext j
  obtain ⟨n, t, q, rfl⟩ : ∃ n t q, j = ix3 n t q := by
    idx_vars j
    exact ⟨_, _, _, rfl⟩
  pointwise [outP, resP, normAt, refP]

theorem outS_eq (h y : FVec Ideal S8x1x4096 .f32) (g : FVec Ideal S4096 .f32) : outS h y g = refS h y g := by
  funext j
  obtain ⟨n, t, q, rfl⟩ : ∃ n t q, j = ix3 n t q := by
    idx_vars j
    exact ⟨_, _, _, rfl⟩
  obtain rfl : t = 0 := Subsingleton.elim _ _
  pointwise [outS, resS, normAt, refS]

/-- From memories that agree on the arguments the kernel and the reference end with the same two results. -/
theorem algebraic : Cert.algebraic_LastKIdeal_LastRIdeal := by
  intro m g m' g' _ hagree
  refine ⟨fun c => refP (m' ((c.tc : Thread nD τ).loc main_arg0)) (m' ((c.tc : Thread nD τ).loc main_arg1))
    (m' ((c.tc : Thread nD τ).loc main_arg4)), fun c => refS (m' ((c.tc : Thread nD τ).loc main_arg2)) (m' ((c.tc : Thread nD τ).loc main_arg3))
    (m' ((c.tc : Thread nD τ).loc main_arg4)), ?_, Cert.LastRIdeal.Value.run (F := Ideal) m' g'⟩
  refine (θ_run _ _ _).mono (fun r h c => ⟨(h c).1.trans ?_, (h c).2.1.trans ?_, (h c).2.2⟩) (Cert.LastKIdeal.LastRun.run (F := Ideal) m g)
  · obtain ⟨h0, h1, h2, h3, h4⟩ := hagree c
    rw [Cert.LastKIdeal.LastValue.resultP]
    refine (outP_eq _ _ _).trans ?_
    beta_reduce
    rw [h0, h1, h4]
  · obtain ⟨h0, h1, h2, h3, h4⟩ := hagree c
    rw [Cert.LastKIdeal.LastValue.resultS]
    refine (outS_eq _ _ _).trans ?_
    beta_reduce
    rw [h2, h3, h4]

end Cert.Proof.LastClaim

end
-- ==== Proof.NsaWinBody.lean ====
/-
  THE WINDOW BRANCH OF A DECODING STEP (hand-written): what the kernel's body computes for one group of query heads.
  The body treats the four groups one after the other with the same operations.
-/
module

public import proofs.«01_k».proof.Proof.Gen.NsaWinKIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NsaWinKIdeal.NsaWinBody

open Cert.NsaWinKIdeal Cert.NsaWinKIdeal.Gen
open Idealize.ShloMosaic Idealize.ShloMosaic.TcCoe Idealize.SL.Sem

/-! ## The mathematics of one query -/

/-- A query's score against a key. -/
def score (q k : Fin 128 → EReal) : EReal := ∑ l, q l * Ideal.ofBits FTy.f32 0x3DB504F3#32 * k l

/-- The largest of the cached keys' scores and the new key's. -/
def topOf (s : Fin 512 → EReal) (s1 : EReal) : EReal :=
  max ((Finset.univ : Finset (Fin 512)).fold max (Ideal.ofBits FTy.f32 0xFF800000#32) s) s1

/-- The softmax-weighted value, the division last. -/
def attn (s : Fin 512 → EReal) (s1 : EReal) (v : Fin 512 → EReal) (v1 : EReal) : EReal :=
  Ideal.div ((∑ k, Ideal.exp (s k - topOf s s1) * v k) + Ideal.exp (s1 - topOf s s1) * v1)
    (max ((∑ k, Ideal.exp (s k - topOf s s1)) + Ideal.exp (s1 - topOf s s1)) (Ideal.ofBits FTy.f32 0x0DA24260#32))

/-- The three branches joined by their gates, times the output gate. -/
def join (lc ls lw oc os ow z : EReal) : EReal :=
  (Ideal.logistic lc * oc + Ideal.logistic ls * os + Ideal.logistic lw * ow) * (z * Ideal.logistic z)

/-! ## The body's values for a group -/

variable {F : FTy → Type} [FloatOps F]

/-- What the body stores for a group of heads, from what it loads. -/
def head (q : Vec F S1x8x128 .f32) (kc vc : Vec F S1x512x1x1x128 .f32) (kn vn : Vec F S1x1x128 .f32)
    (gc : Vec F S1x1x1x8x1 .f32) (bc : Vec F S1x1x8x1 .f32) (gs : Vec F S1x1x1x8x1 .f32) (bs : Vec F S1x1x8x1 .f32)
    (gw : Vec F S1x1x1x8x1 .f32) (bw : Vec F S1x1x8x1 .f32) (oc os : Vec F S1x1x8x128 .f32) (z : Vec F S1x8x128 .f32) :
    FVec F S1x8x128 .f32 :=
  k0_pay15 (k0_pay10 (k0_pay7 q kc kn) (k0_pay8 q kc kn) (k0_pay9 q kc vc kn) vn) (k0_pay11 gs bs) (k0_pay12 gw bw)
    (k0_pay13 oc) (k0_pay14 gc bc) os z

variable (q : Vec F S1x8x128 .f32) (kc vc : Vec F S1x512x1x1x128 .f32) (kn vn : Vec F S1x1x128 .f32)
    (gc : Vec F S1x1x1x8x1 .f32) (bc : Vec F S1x1x8x1 .f32) (gs : Vec F S1x1x1x8x1 .f32) (bs : Vec F S1x1x8x1 .f32)
    (gw : Vec F S1x1x1x8x1 .f32) (bw : Vec F S1x1x8x1 .f32) (oc os : Vec F S1x1x8x128 .f32) (z : Vec F S1x8x128 .f32)

/-- The second group is treated as the first. -/
theorem head1 : k0_pay23 (k0_pay20 (k0_pay16 q) (k0_pay17 vc) (k0_pay18 q kc) (k0_pay19 kn) vn) (k0_pay21 gc bc) (k0_pay22 gs) bs gw bw oc os z
    = head q kc vc kn vn gc bc gs bs gw bw oc os z := rfl

/-- The third group is treated as the first. -/
theorem head2 : k0_pay37 (k0_pay33 (k0_pay31 (k0_pay24 q) kc kn) (k0_pay32 (k0_pay24 q) kc vc kn vn)) (k0_pay34 gs bs) (k0_pay35 gw bw)
    (k0_pay36 gc bc oc) os z = head q kc vc kn vn gc bc gs bs gw bw oc os z := rfl

/-- The fourth group is treated as the first. -/
theorem head3 : k0_pay1 (k0_pay42 (k0_pay39 vc) (k0_pay40 q kc) (k0_pay41 q kn) vn) (k0_pay43 gc bc) (k0_pay44 gs bs) gw bw oc os z
    = head q kc vc kn vn gc bc gs bs gw bw oc os z := rfl

end Cert.NsaWinKIdeal.NsaWinBody

end
-- ==== Proof.NsaWinHead.lean ====
/-
  THE WINDOW BRANCH OF A DECODING STEP (hand-written): the stored value of a group, at a query head and a channel.
-/
module

public import proofs.«01_k».proof.Proof.NsaWinBody
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NsaWinKIdeal.NsaWinHead

open Cert.NsaWinKIdeal Cert.NsaWinKIdeal.Gen Cert.NsaWinKIdeal.NsaWinBody
open Idealize.ShloMosaic Idealize.ShloMosaic.TcCoe Idealize.SL.Sem

variable (q : FVec Ideal S1x8x128 .f32) (kc vc : FVec Ideal S1x512x1x1x128 .f32) (kn vn : FVec Ideal S1x1x128 .f32)
    (gc : FVec Ideal S1x1x1x8x1 .f32) (bc : FVec Ideal S1x1x8x1 .f32) (gs : FVec Ideal S1x1x1x8x1 .f32) (bs : FVec Ideal S1x1x8x1 .f32)
    (gw : FVec Ideal S1x1x1x8x1 .f32) (bw : FVec Ideal S1x1x8x1 .f32) (oc os : FVec Ideal S1x1x8x128 .f32) (z : FVec Ideal S1x8x128 .f32)

/-- The scores against the cached keys. -/
theorem pay3_at (r : Fin 8) (k : Fin 512) :
    k0_pay3 (F := Ideal) q kc (ix2 r k) = score (fun l => q (ix3 0 r l)) (fun l => kc (ix5 0 k 0 0 l)) := by
  pointwise [k0_pay3, k0_pay2, score]

/-- The score against the new key. -/
theorem pay4_at (r : Fin 8) :
    k0_pay4 (F := Ideal) q kn (ix2 r 0) = score (fun l => q (ix3 0 r l)) (fun l => kn (ix3 0 0 l)) := by
  pointwise [k0_pay4, k0_pay2, score]

/-- The largest score. -/
theorem pay5_at (r : Fin 8) :
    k0_pay5 (F := Ideal) q kc kn (ix2 r 0)
      = topOf (fun k => score (fun l => q (ix3 0 r l)) (fun l => kc (ix5 0 k 0 0 l))) (score (fun l => q (ix3 0 r l)) (fun l => kn (ix3 0 0 l))) := by
  pointwise [k0_pay5, pay3_at, pay4_at, topOf]

/-- The cached keys' weights. -/
theorem pay6_at (r : Fin 8) (k : Fin 512) :
    k0_pay6 (F := Ideal) q kc kn (ix2 r k)
      = Ideal.exp (k0_pay3 (F := Ideal) q kc (ix2 r k) - k0_pay5 (F := Ideal) q kc kn (ix2 r 0)) := by
  pointwise [k0_pay6]

/-- The new key's weight. -/
theorem pay7_at (r : Fin 8) :
    k0_pay7 (F := Ideal) q kc kn (ix2 r 0)
      = Ideal.exp (k0_pay4 (F := Ideal) q kn (ix2 r 0) - k0_pay5 (F := Ideal) q kc kn (ix2 r 0)) := by
  pointwise [k0_pay7]

/-- The weights' total, from below by the small constant. -/
theorem pay8_at (r : Fin 8) :
    k0_pay8 (F := Ideal) q kc kn (ix2 r 0)
      = max ((∑ k, k0_pay6 (F := Ideal) q kc kn (ix2 r k)) + k0_pay7 (F := Ideal) q kc kn (ix2 r 0)) (Ideal.ofBits FTy.f32 0x0DA24260#32) := by
  pointwise [k0_pay8]

/-- The cached values under their weights. -/
theorem pay9_at (r : Fin 8) (i : Fin 128) :
    k0_pay9 (F := Ideal) q kc vc kn (ix2 r i) = ∑ k, k0_pay6 (F := Ideal) q kc kn (ix2 r k) * vc (ix5 0 k 0 0 i) := by
  pointwise [k0_pay9]

/-- The new value added, and the division. -/
theorem pay10_at (v25 v30 : FVec Ideal S8x1 .f32) (v32 : FVec Ideal S8x128 .f32) (r : Fin 8) (i : Fin 128) :
    k0_pay10 (F := Ideal) v25 v30 v32 vn (ix2 r i) = Ideal.div (v32 (ix2 r i) + v25 (ix2 r 0) * vn (ix3 0 0 i)) (v30 (ix2 r 0)) := by
  pointwise [k0_pay10]

/-- The branches joined. -/
theorem pay15_at (v40 : FVec Ideal S8x128 .f32) (r : Fin 8) (i : Fin 128) :
    k0_pay15 (F := Ideal) v40 (k0_pay11 (F := Ideal) gs bs) (k0_pay12 (F := Ideal) gw bw) (k0_pay13 (F := Ideal) oc) (k0_pay14 (F := Ideal) gc bc) os z (ix3 0 r i)
      = join (gc (ix5 0 0 0 r 0) + bc (ix4 0 0 r 0)) (gs (ix5 0 0 0 r 0) + bs (ix4 0 0 r 0)) (gw (ix5 0 0 0 r 0) + bw (ix4 0 0 r 0))
          (oc (ix4 0 0 r i)) (os (ix4 0 0 r i)) (v40 (ix2 r i)) (z (ix3 0 r i)) := by
  pointwise [k0_pay15, k0_pay11, k0_pay12, k0_pay13, k0_pay14, join]

/-- A group's stored value at a head and a channel. -/
theorem head_at (r : Fin 8) (i : Fin 128) :
    head (F := Ideal) q kc vc kn vn gc bc gs bs gw bw oc os z (ix3 0 r i)
      = join (gc (ix5 0 0 0 r 0) + bc (ix4 0 0 r 0)) (gs (ix5 0 0 0 r 0) + bs (ix4 0 0 r 0)) (gw (ix5 0 0 0 r 0) + bw (ix4 0 0 r 0))
          (oc (ix4 0 0 r i)) (os (ix4 0 0 r i))
          (attn (fun k => score (fun l => q (ix3 0 r l)) (fun l => kc (ix5 0 k 0 0 l))) (score (fun l => q (ix3 0 r l)) (fun l => kn (ix3 0 0 l)))
            (fun k => vc (ix5 0 k 0 0 i)) (vn (ix3 0 0 i))) (z (ix3 0 r i)) := by
  rw [head, pay15_at, pay10_at, pay9_at, pay8_at]
  simp only [pay7_at, pay6_at, pay5_at, pay4_at, pay3_at, attn]

end Cert.NsaWinKIdeal.NsaWinHead

end
-- ==== Proof.NsaWinBlock.lean ====
/-
  THE WINDOW BRANCH OF A DECODING STEP (hand-written): the output block of a sequence as one function of its input blocks.
-/
module

public import proofs.«01_k».proof.Proof.NsaWinHead
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NsaWinKIdeal.NsaWinBlock

open Cert.NsaWinKIdeal Cert.NsaWinKIdeal.Gen Cert.NsaWinKIdeal.NsaWinBody Cert.NsaWinKIdeal.NsaWinHead
open Idealize.ShloMosaic Idealize.ShloMosaic.TcCoe Idealize.SL.Sem

/-- The head number of a group's query. -/
def hd (h : Fin 4) (r : Fin 8) : Fin 32 := ⟨8 * h.val + r.val, by omega⟩

variable (x0 : FVec Ideal S1x32x128 .f32) (x1 : FVec Ideal S1x512x2x4x128 .f32) (x2 x3 : FVec Ideal S1x4x128 .f32)
    (x4 x5 : FVec Ideal S1x4x8x128 .f32) (x6 : FVec Ideal S1x4x3x8x1 .f32) (x7 : FVec Ideal S4x3x8x1 .f32) (x8 : FVec Ideal S1x32x128 .f32)

/-- The value of a sequence's output at a group, a query of it and a channel. -/
def grpAt (h : Fin 4) (r : Fin 8) (i : Fin 128) : EReal :=
  join (x6 (ix5 0 h 0 r 0) + x7 (ix4 h 0 r 0)) (x6 (ix5 0 h 1 r 0) + x7 (ix4 h 1 r 0)) (x6 (ix5 0 h 2 r 0) + x7 (ix4 h 2 r 0))
    (x4 (ix4 0 h r i)) (x5 (ix4 0 h r i))
    (attn (fun k => score (fun l => x0 (ix3 0 (hd h r) l)) (fun l => x1 (ix5 0 k 0 h l)))
      (score (fun l => x0 (ix3 0 (hd h r) l)) (fun l => x2 (ix3 0 h l))) (fun k => x1 (ix5 0 k 1 h i)) (x3 (ix3 0 h i)))
    (x8 (ix3 0 (hd h r) i))

/-- The output block. -/
def blockOut : FVec Ideal S1x32x128 .f32 := fun y =>
  grpAt x0 x1 x2 x3 x4 x5 x6 x7 x8 ⟨(y 1).val / 8, by have := (y 1).isLt; simp at this; omega⟩ ⟨(y 1).val % 8, by omega⟩ (y 2)

theorem blockOut_hd (h : Fin 4) (r : Fin 8) (i : Fin 128) :
    blockOut x0 x1 x2 x3 x4 x5 x6 x7 x8 (ix3 0 (hd h r) i) = grpAt x0 x1 x2 x3 x4 x5 x6 x7 x8 h r i := by
  have e1 : (8 * h.val + r.val) / 8 = h.val := by omega
  have e2 : (8 * h.val + r.val) % 8 = r.val := by omega
  show grpAt x0 x1 x2 x3 x4 x5 x6 x7 x8 ⟨(8 * h.val + r.val) / 8, _⟩ ⟨(8 * h.val + r.val) % 8, _⟩ i = _
  simp only [e1, e2]

/-- A group's stored value, from what its loads are. -/
theorem head_of (h : Fin 4) {q z : FVec Ideal S1x8x128 .f32} {kc vc : FVec Ideal S1x512x1x1x128 .f32} {kn vn : FVec Ideal S1x1x128 .f32}
    {gc gs gw : FVec Ideal S1x1x1x8x1 .f32} {bc bs bw : FVec Ideal S1x1x8x1 .f32} {oc os : FVec Ideal S1x1x8x128 .f32}
    (hq : ∀ r i, q (ix3 0 r i) = x0 (ix3 0 (hd h r) i)) (hkc : ∀ k i, kc (ix5 0 k 0 0 i) = x1 (ix5 0 k 0 h i))
    (hvc : ∀ k i, vc (ix5 0 k 0 0 i) = x1 (ix5 0 k 1 h i)) (hkn : ∀ i, kn (ix3 0 0 i) = x2 (ix3 0 h i))
    (hvn : ∀ i, vn (ix3 0 0 i) = x3 (ix3 0 h i))
    (hgc : ∀ r, gc (ix5 0 0 0 r 0) = x6 (ix5 0 h 0 r 0)) (hbc : ∀ r, bc (ix4 0 0 r 0) = x7 (ix4 h 0 r 0))
    (hgs : ∀ r, gs (ix5 0 0 0 r 0) = x6 (ix5 0 h 1 r 0)) (hbs : ∀ r, bs (ix4 0 0 r 0) = x7 (ix4 h 1 r 0))
    (hgw : ∀ r, gw (ix5 0 0 0 r 0) = x6 (ix5 0 h 2 r 0)) (hbw : ∀ r, bw (ix4 0 0 r 0) = x7 (ix4 h 2 r 0))
    (hoc : ∀ r i, oc (ix4 0 0 r i) = x4 (ix4 0 h r i)) (hos : ∀ r i, os (ix4 0 0 r i) = x5 (ix4 0 h r i))
    (hz : ∀ r i, z (ix3 0 r i) = x8 (ix3 0 (hd h r) i)) (r : Fin 8) (i : Fin 128) :
    head (F := Ideal) q kc vc kn vn gc bc gs bs gw bw oc os z (ix3 0 r i) = grpAt x0 x1 x2 x3 x4 x5 x6 x7 x8 h r i := by
  rw [head_at]
  simp only [hq, hkc, hvc, hkn, hvn, hgc, hbc, hgs, hbs, hgw, hbw, hoc, hos, hz, grpAt]

/-! ## The loads of a group -/

theorem ld_q (h : Fin 4) (inb) (r : Fin 8) (i : Fin 128) :
    View.ld (Val := Elt Ideal) (e' := .f32) x0 (Rect.unit (s := S1x32x128) ![0, 8 * h.val, 0] S1x8x128.size inb) (ix3 0 r i) = x0 (ix3 0 (hd h r) i) :=
  congrArg x0 (funext fun a => Fin.ext (by
    match a with
    | ⟨0, _⟩ => exact (by omega : 0 + 1 * 0 = 0)
    | ⟨1, _⟩ => exact (by omega : 8 * h.val + 1 * r.val = 8 * h.val + r.val)
    | ⟨2, _⟩ => exact (by omega : 0 + 1 * i.val = i.val)))

theorem ld_kv (e : Fin 2) (h : Fin 4) (inb) (k : Fin 512) (i : Fin 128) :
    View.ld (Val := Elt Ideal) (e' := .f32) x1 (Rect.unit (s := S1x512x2x4x128) ![0, 0, e.val, h.val, 0] S1x512x1x1x128.size inb) (ix5 0 k 0 0 i)
      = x1 (ix5 0 k e h i) :=
  congrArg x1 (funext fun a => Fin.ext (by
    match a with
    | ⟨0, _⟩ => exact (by omega : 0 + 1 * 0 = 0)
    | ⟨1, _⟩ => exact (by omega : 0 + 1 * k.val = k.val)
    | ⟨2, _⟩ => exact (by omega : e.val + 1 * 0 = e.val)
    | ⟨3, _⟩ => exact (by omega : h.val + 1 * 0 = h.val)
    | ⟨4, _⟩ => exact (by omega : 0 + 1 * i.val = i.val)))

theorem ld_n (h : Fin 4) (inb) (i : Fin 128) :
    View.ld (Val := Elt Ideal) (e' := .f32) x2 (Rect.unit (s := S1x4x128) ![0, h.val, 0] S1x1x128.size inb) (ix3 0 0 i) = x2 (ix3 0 h i) :=
  congrArg x2 (funext fun a => Fin.ext (by
    match a with
    | ⟨0, _⟩ => exact (by omega : 0 + 1 * 0 = 0)
    | ⟨1, _⟩ => exact (by omega : h.val + 1 * 0 = h.val)
    | ⟨2, _⟩ => exact (by omega : 0 + 1 * i.val = i.val)))

theorem ld_g (h : Fin 4) (e : Fin 3) (inb) (r : Fin 8) :
    View.ld (Val := Elt Ideal) (e' := .f32) x6 (Rect.unit (s := S1x4x3x8x1) ![0, h.val, e.val, 0, 0] S1x1x1x8x1.size inb) (ix5 0 0 0 r 0)
      = x6 (ix5 0 h e r 0) :=
  congrArg x6 (funext fun a => Fin.ext (by
    match a with
    | ⟨0, _⟩ => exact (by omega : 0 + 1 * 0 = 0)
    | ⟨1, _⟩ => exact (by omega : h.val + 1 * 0 = h.val)
    | ⟨2, _⟩ => exact (by omega : e.val + 1 * 0 = e.val)
    | ⟨3, _⟩ => exact (by omega : 0 + 1 * r.val = r.val)
    | ⟨4, _⟩ => exact (by omega : 0 + 1 * 0 = 0)))

theorem ld_b (h : Fin 4) (e : Fin 3) (inb) (r : Fin 8) :
    View.ld (Val := Elt Ideal) (e' := .f32) x7 (Rect.unit (s := S4x3x8x1) ![h.val, e.val, 0, 0] S1x1x8x1.size inb) (ix4 0 0 r 0) = x7 (ix4 h e r 0) :=
  congrArg x7 (funext fun a => Fin.ext (by
    match a with
    | ⟨0, _⟩ => exact (by omega : h.val + 1 * 0 = h.val)
    | ⟨1, _⟩ => exact (by omega : e.val + 1 * 0 = e.val)
    | ⟨2, _⟩ => exact (by omega : 0 + 1 * r.val = r.val)
    | ⟨3, _⟩ => exact (by omega : 0 + 1 * 0 = 0)))

theorem ld_o (h : Fin 4) (inb) (r : Fin 8) (i : Fin 128) :
    View.ld (Val := Elt Ideal) (e' := .f32) x4 (Rect.unit (s := S1x4x8x128) ![0, h.val, 0, 0] S1x1x8x128.size inb) (ix4 0 0 r i) = x4 (ix4 0 h r i) :=
  congrArg x4 (funext fun a => Fin.ext (by
    match a with
    | ⟨0, _⟩ => exact (by omega : 0 + 1 * 0 = 0)
    | ⟨1, _⟩ => exact (by omega : h.val + 1 * 0 = h.val)
    | ⟨2, _⟩ => exact (by omega : 0 + 1 * r.val = r.val)
    | ⟨3, _⟩ => exact (by omega : 0 + 1 * i.val = i.val)))

/-- A query and a channel of a group's rectangle. -/
theorem emb_hd (h : Fin 4) (inb) (r : Fin 8) (i : Fin 128) :
    (Rect.unit (s := S1x32x128) ![0, 8 * h.val, 0] S1x8x128.size inb).emb (ix3 0 r i) = ix3 0 (hd h r) i :=
  funext fun a => Fin.ext (by
    match a with
    | ⟨0, _⟩ => exact (by omega : 0 + 1 * 0 = 0)
    | ⟨1, _⟩ => exact (by omega : 8 * h.val + 1 * r.val = 8 * h.val + r.val)
    | ⟨2, _⟩ => exact (by omega : 0 + 1 * i.val = i.val))

theorem idx_head (y : S1x8x128.Idx) : ∃ (r : Fin 8) (i : Fin 128), y = ix3 0 r i := by
  obtain ⟨a, r, i, rfl⟩ : ∃ a r i, y = ix3 a r i := by
    idx_vars y
    exact ⟨_, _, _, rfl⟩
  obtain rfl : a = 0 := Subsingleton.elim _ _
  exact ⟨r, i, rfl⟩

/-- The body's output block is that function. -/
theorem out_eq : out0_9 (F := Ideal) x0 x1 x2 x3 x4 x5 x6 x7 x8 = blockOut x0 x1 x2 x3 x4 x5 x6 x7 x8 := by
  funext y
  unfold_out out0_9
  rw [head1, head2, head3]
  refine View.canon_apply_of_pieces (Val := Elt Ideal) (e := .f32) (blockOut x0 x1 x2 x3 x4 x5 x6 x7 x8) _ ?_ y (cover0_9 _ _ _ _ y)
  intro p hp x
  simp only [List.mem_cons, List.not_mem_nil, or_false] at hp
  rcases hp with rfl | rfl | rfl | rfl
  · obtain ⟨r, i, rfl⟩ := idx_head x
    refine Eq.trans ?_ (congrArg _ (emb_hd 3 inb_S1x32x128_S1x8x128_0_24_0 r i)).symm
    refine Eq.trans ?_ (blockOut_hd x0 x1 x2 x3 x4 x5 x6 x7 x8 3 r i).symm
    exact head_of x0 x1 x2 x3 x4 x5 x6 x7 x8 3 (ld_q x0 3 _) (ld_kv x1 0 3 _) (ld_kv x1 1 3 _) (ld_n x2 3 _) (ld_n x3 3 _)
      (ld_g x6 3 0 _) (ld_b x7 3 0 _) (ld_g x6 3 1 _) (ld_b x7 3 1 _) (ld_g x6 3 2 _) (ld_b x7 3 2 _) (ld_o x4 3 _) (ld_o x5 3 _)
      (ld_q x8 3 _) r i
  · obtain ⟨r, i, rfl⟩ := idx_head x
    refine Eq.trans ?_ (congrArg _ (emb_hd 2 inb_S1x32x128_S1x8x128_0_16_0 r i)).symm
    refine Eq.trans ?_ (blockOut_hd x0 x1 x2 x3 x4 x5 x6 x7 x8 2 r i).symm
    exact head_of x0 x1 x2 x3 x4 x5 x6 x7 x8 2 (ld_q x0 2 _) (ld_kv x1 0 2 _) (ld_kv x1 1 2 _) (ld_n x2 2 _) (ld_n x3 2 _)
      (ld_g x6 2 0 _) (ld_b x7 2 0 _) (ld_g x6 2 1 _) (ld_b x7 2 1 _) (ld_g x6 2 2 _) (ld_b x7 2 2 _) (ld_o x4 2 _) (ld_o x5 2 _)
      (ld_q x8 2 _) r i
  · obtain ⟨r, i, rfl⟩ := idx_head x
    refine Eq.trans ?_ (congrArg _ (emb_hd 1 inb_S1x32x128_S1x8x128_0_8_0 r i)).symm
    refine Eq.trans ?_ (blockOut_hd x0 x1 x2 x3 x4 x5 x6 x7 x8 1 r i).symm
    exact head_of x0 x1 x2 x3 x4 x5 x6 x7 x8 1 (ld_q x0 1 _) (ld_kv x1 0 1 _) (ld_kv x1 1 1 _) (ld_n x2 1 _) (ld_n x3 1 _)
      (ld_g x6 1 0 _) (ld_b x7 1 0 _) (ld_g x6 1 1 _) (ld_b x7 1 1 _) (ld_g x6 1 2 _) (ld_b x7 1 2 _) (ld_o x4 1 _) (ld_o x5 1 _)
      (ld_q x8 1 _) r i
  · obtain ⟨r, i, rfl⟩ := idx_head x
    refine Eq.trans ?_ (congrArg _ (emb_hd 0 inb_S1x32x128_S1x8x128_0_0_0 r i)).symm
    refine Eq.trans ?_ (blockOut_hd x0 x1 x2 x3 x4 x5 x6 x7 x8 0 r i).symm
    exact head_of x0 x1 x2 x3 x4 x5 x6 x7 x8 0 (ld_q x0 0 _) (ld_kv x1 0 0 _) (ld_kv x1 1 0 _) (ld_n x2 0 _) (ld_n x3 0 _)
      (ld_g x6 0 0 _) (ld_b x7 0 0 _) (ld_g x6 0 1 _) (ld_b x7 0 1 _) (ld_g x6 0 2 _) (ld_b x7 0 2 _) (ld_o x4 0 _) (ld_o x5 0 _)
      (ld_q x8 0 _) r i

end Cert.NsaWinKIdeal.NsaWinBlock

end
-- ==== Proof.NsaWinValue.lean ====
/-
  THE WINDOW BRANCH OF A DECODING STEP (hand-written): the result array from the arguments.
-/
module

public import proofs.«01_k».proof.Proof.NsaWinBlock
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NsaWinKIdeal.NsaWinValue

open Cert.NsaWinKIdeal Cert.NsaWinKIdeal.Gen Cert.NsaWinKIdeal.NsaWinBody Cert.NsaWinKIdeal.NsaWinBlock
open Idealize.ShloMosaic Idealize.ShloMosaic.TcCoe Idealize.SL.Sem

variable (m : (ℓ : Loc nD τ sig) → Buf (Elt Ideal) ℓ) (ρ : Dev nD → PrngReg)

theorem idx0 : ∀ t : Fin cfg0.N, win0_0.index t = ![t.val, 0, 0] ∧ win0_1.index t = ![t.val, 0, 0, 0, 0] ∧ win0_2.index t = ![t.val, 0, 0]
    ∧ win0_3.index t = ![t.val, 0, 0] ∧ win0_4.index t = ![t.val, 0, 0, 0] ∧ win0_5.index t = ![t.val, 0, 0, 0]
    ∧ win0_6.index t = ![t.val, 0, 0, 0, 0] ∧ win0_7.index t = ![0, 0, 0, 0] ∧ win0_8.index t = ![t.val, 0, 0] ∧ win0_9.index t = ![t.val, 0, 0] :=
  (by decide +kernel : ∀ t : Fin grid0.N, _)

/-- The sequence of a grid step. -/
def seq (t : Fin cfg0.N) : Fin 8 := ⟨t.val, lt_of_lt_of_eq t.isLt N_0⟩

/-- The result at a sequence, a group, a query of it and a channel, from the laid-out arrays. -/
def seqAt (Q : FVec Ideal S8x32x128 .f32) (KV : FVec Ideal S8x512x2x4x128 .f32) (KN VN : FVec Ideal S8x4x128 .f32)
    (OC OS : FVec Ideal S8x4x8x128 .f32) (Gl : FVec Ideal S8x4x3x8x1 .f32) (Bg : FVec Ideal S4x3x8x1 .f32) (Z : FVec Ideal S8x32x128 .f32)
    (n : Fin 8) (h : Fin 4) (r : Fin 8) (i : Fin 128) : EReal :=
  join (Gl (ix5 n h 0 r 0) + Bg (ix4 h 0 r 0)) (Gl (ix5 n h 1 r 0) + Bg (ix4 h 1 r 0)) (Gl (ix5 n h 2 r 0) + Bg (ix4 h 2 r 0))
    (OC (ix4 n h r i)) (OS (ix4 n h r i))
    (attn (fun k => score (fun l => Q (ix3 n (hd h r) l)) (fun l => KV (ix5 n k 0 h l)))
      (score (fun l => Q (ix3 n (hd h r) l)) (fun l => KN (ix3 n h l))) (fun k => KV (ix5 n k 1 h i)) (VN (ix3 n h i)))
    (Z (ix3 n (hd h r) i))

/-- The result array. -/
def seqOut (Q : FVec Ideal S8x32x128 .f32) (KV : FVec Ideal S8x512x2x4x128 .f32) (KN VN : FVec Ideal S8x4x128 .f32)
    (OC OS : FVec Ideal S8x4x8x128 .f32) (Gl : FVec Ideal S8x4x3x8x1 .f32) (Bg : FVec Ideal S4x3x8x1 .f32) (Z : FVec Ideal S8x32x128 .f32) :
    FVec Ideal S8x32x128 .f32 := fun j =>
  seqAt Q KV KN VN OC OS Gl Bg Z (j 0) ⟨(j 1).val / 8, by have := (j 1).isLt; simp at this; omega⟩ ⟨(j 1).val % 8, by omega⟩ (j 2)

theorem seqOut_hd (Q : FVec Ideal S8x32x128 .f32) (KV : FVec Ideal S8x512x2x4x128 .f32) (KN VN : FVec Ideal S8x4x128 .f32)
    (OC OS : FVec Ideal S8x4x8x128 .f32) (Gl : FVec Ideal S8x4x3x8x1 .f32) (Bg : FVec Ideal S4x3x8x1 .f32) (Z : FVec Ideal S8x32x128 .f32)
    (n : Fin 8) (h : Fin 4) (r : Fin 8) (i : Fin 128) :
    seqOut Q KV KN VN OC OS Gl Bg Z (ix3 n (hd h r) i) = seqAt Q KV KN VN OC OS Gl Bg Z n h r i := by
  have e1 : (8 * h.val + r.val) / 8 = h.val := by omega
  have e2 : (8 * h.val + r.val) % 8 = r.val := by omega
  show seqAt Q KV KN VN OC OS Gl Bg Z n ⟨(8 * h.val + r.val) / 8, _⟩ ⟨(8 * h.val + r.val) % 8, _⟩ i = _
  simp only [e1, e2]

/-- Every head is a query of a group. -/
theorem exists_hd (b : Fin 32) : ∃ (h : Fin 4) (r : Fin 8), b = hd h r :=
  ⟨⟨b.val / 8, by omega⟩, ⟨b.val % 8, by omega⟩, Fin.ext (by simp only [hd]; omega)⟩

/-! ## The blocks of a sequence -/

theorem blkQ (c : Dev nD) (t : Fin cfg0.N) (b : Fin 32) (i : Fin 128) :
    iblk m c 0 t (ix3 0 b i) = V m c main_arg0 (ix3 (seq t) b i) := by
  blk_point [iblk, idx0 t, seq]

theorem blkKV (c : Dev nD) (t : Fin cfg0.N) (k : Fin 512) (e : Fin 2) (h : Fin 4) (i : Fin 128) :
    iblk m c 1 t (ix5 0 k e h i) = V m c main_arg1 (ix5 (seq t) k e h i) := by
  blk_point [iblk, idx0 t, seq]

theorem blkKN (c : Dev nD) (t : Fin cfg0.N) (h : Fin 4) (i : Fin 128) :
    iblk m c 2 t (ix3 0 h i) = V m c main_arg2 (ix3 (seq t) h i) := by
  blk_point [iblk, idx0 t, seq]

theorem blkVN (c : Dev nD) (t : Fin cfg0.N) (h : Fin 4) (i : Fin 128) :
    iblk m c 3 t (ix3 0 h i) = V m c main_arg3 (ix3 (seq t) h i) := by
  blk_point [iblk, idx0 t, seq]

theorem blkOC (c : Dev nD) (t : Fin cfg0.N) (h : Fin 4) (r : Fin 8) (i : Fin 128) :
    iblk m c 4 t (ix4 0 h r i) = V m c main_arg4 (ix4 (seq t) h r i) := by
  blk_point [iblk, idx0 t, seq]

theorem blkOS (c : Dev nD) (t : Fin cfg0.N) (h : Fin 4) (r : Fin 8) (i : Fin 128) :
    iblk m c 5 t (ix4 0 h r i) = V m c main_arg5 (ix4 (seq t) h r i) := by
  blk_point [iblk, idx0 t, seq]

theorem blkGL (c : Dev nD) (t : Fin cfg0.N) (h : Fin 4) (e : Fin 3) (r : Fin 8) :
    iblk m c 6 t (ix5 0 h e r 0) = V m c main_v2 (ix5 (seq t) h e r 0) := by
  blk_point [iblk, idx0 t, seq]

theorem blkBG (c : Dev nD) (t : Fin cfg0.N) (h : Fin 4) (e : Fin 3) (r : Fin 8) :
    iblk m c 7 t (ix4 h e r 0) = V m c main_v5 (ix4 h e r 0) := by
  blk_point [iblk, idx0 t, seq]

theorem blkZ (c : Dev nD) (t : Fin cfg0.N) (b : Fin 32) (i : Fin 128) :
    iblk m c 8 t (ix3 0 b i) = V m c main_arg8 (ix3 (seq t) b i) := by
  blk_point [iblk, idx0 t, seq]

theorem idx_blk (y : S1x32x128.Idx) : ∃ (b : Fin 32) (i : Fin 128), y = ix3 0 b i := by
  obtain ⟨a, b, i, rfl⟩ : ∃ a b i, y = ix3 a b i := by
    idx_vars y
    exact ⟨_, _, _, rfl⟩
  obtain rfl : a = 0 := Subsingleton.elim _ _
  exact ⟨b, i, rfl⟩

/-- A sequence's block at a group, a query of it and a channel. -/
theorem blockW (c : Dev nD) (t : Fin cfg0.N) (h : Fin 4) (r : Fin 8) (i : Fin 128) :
    out0_9 (F := Ideal) (iblk m c 0 t) (iblk m c 1 t) (iblk m c 2 t) (iblk m c 3 t) (iblk m c 4 t) (iblk m c 5 t) (iblk m c 6 t) (iblk m c 7 t)
        (iblk m c 8 t) (ix3 0 (hd h r) i)
      = seqAt (V m c main_arg0) (V m c main_arg1) (V m c main_arg2) (V m c main_arg3) (V m c main_arg4) (V m c main_arg5) (V m c main_v2)
          (V m c main_v5) (V m c main_arg8) (seq t) h r i := by
  refine (congrFun (out_eq _ _ _ _ _ _ _ _ _) _).trans ?_
  refine (blockOut_hd _ _ _ _ _ _ _ _ _ h r i).trans ?_
  simp only [grpAt, blkQ, blkKV, blkKN, blkVN, blkOC, blkOS, blkGL, blkBG, blkZ]
  rfl

/-- The output array after the region. -/
theorem arrOut (c : Dev nD) : (dats m 0 c).arrAt 9 cfg0.N
    = seqOut (V m c main_arg0) (V m c main_arg1) (V m c main_arg2) (V m c main_arg3) (V m c main_arg4) (V m c main_arg5) (V m c main_v2)
          (V m c main_v5) (V m c main_arg8) := by
  refine (dats m 0 c).arrAt_eq_of_covers 9 _ (by decide +kernel) fun t _ y => ?_
  blk_simp
  rw [after0_9]
  obtain ⟨b, i, rfl⟩ : ∃ (b : Fin 32) (i : Fin 128), y = ix3 0 b i := idx_blk y
  obtain ⟨h, r, rfl⟩ := exists_hd b
  refine (blockW m c t h r i).trans ?_
  refine (seqOut_hd _ _ _ _ _ _ _ _ _ (seq t) h r i).symm.trans (congrArg _ ?_)
  blk_ext [idx0 t, seq, hd]

/-! ## The gates' arrays -/

/-- The gates' logits as the call takes them. -/
def glBuf (gl : FVec Ideal S8x4x24 .f32) : FVec Ideal S8x4x3x8x1 .f32 :=
  broadcastInDim S8x4x3x8x1 ![0, 1, 2, 3] bcast_S8x4x3x8_S8x4x3x8x1_0_1_2_3
    (transpose S8x4x3x8 [0, 1, 3, 2] (shapeCast S8x4x8x3 gl shapeCasts_S8x4x24_S8x4x8x3) transposes_S8x4x8x3_S8x4x3x8_0_1_3_2)

/-- The gates' biases as the call takes them. -/
def bgBuf (bg : FVec Ideal S32x3 .f32) : FVec Ideal S4x3x8x1 .f32 :=
  broadcastInDim S4x3x8x1 ![0, 1, 2] bcast_S4x3x8_S4x3x8x1_0_1_2
    (transpose S4x3x8 [0, 2, 1] (shapeCast S4x8x3 bg shapeCasts_S32x3_S4x8x3) transposes_S4x8x3_S4x3x8_0_2_1)

theorem glBuf_at (gl : FVec Ideal S8x4x24 .f32) (n : Fin 8) (h : Fin 4) (e : Fin 3) (r : Fin 8) :
    glBuf gl (ix5 n h e r 0) = gl (ix3 n h ⟨r.val * 3 + e.val, by omega⟩) := by
  pointwise [glBuf]

theorem bgBuf_at (bg : FVec Ideal S32x3 .f32) (h : Fin 4) (e : Fin 3) (r : Fin 8) :
    bgBuf bg (ix4 h e r 0) = bg (ix2 (hd h r) e) := by
  pointwise [bgBuf, hd]
  exact congrArg bg (congrArg (ix2 · e) (Fin.ext (by show h.val * 8 + r.val = 8 * h.val + r.val; omega)))

theorem bufGL (c : Dev nD) : V m c main_v2 = glBuf (m ((c.tc : Thread nD τ).loc main_arg6)) := by
  dsimp only [V]
  after_results_simp <;> rfl

theorem bufBG (c : Dev nD) : V m c main_v5 = bgBuf (m ((c.tc : Thread nD τ).loc main_arg7)) := by
  dsimp only [V]
  after_results_simp <;> rfl

/-- The result from the arguments. -/
def winOut (q : FVec Ideal S8x32x128 .f32) (kv : FVec Ideal S8x512x2x4x128 .f32) (kn vn : FVec Ideal S8x4x128 .f32)
    (oc os : FVec Ideal S8x4x8x128 .f32) (gl : FVec Ideal S8x4x24 .f32) (bg : FVec Ideal S32x3 .f32) (z : FVec Ideal S8x32x128 .f32) :
    FVec Ideal S8x32x128 .f32 :=
  seqOut q kv kn vn oc os (glBuf gl) (bgBuf bg) z

theorem result (c : Dev nD) : (dats m 0 c).arrAt 9 cfg0.N
    = winOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := by
  rw [arrOut, bufGL, bufBG, V_main_arg0, V_main_arg1, V_main_arg2, V_main_arg3, V_main_arg4, V_main_arg5, V_main_arg8]
  rfl

end Cert.NsaWinKIdeal.NsaWinValue

end
-- ==== Proof.NsaWinSum.lean ====
/-
  THE WINDOW BRANCH OF A DECODING STEP (hand-written): the softmax over the 513 keys in two spellings.

  The kernel weighs the 512 cached values and the new value apart and divides once, at the end. The reference
  divides each of the 513 weights. The divisor is at least a positive constant, so its inverse distributes over sums
  of any extended reals.
-/
module

public import proofs.«01_k».proof.Proof.NsaWinBody
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.NsaWinKIdeal.NsaWinSum

open Cert.NsaWinKIdeal.NsaWinBody
open Idealize.ShloMosaic Idealize.ShloMosaic.TcCoe Idealize.SL.Sem

/-- The small constant the weights' total is bounded by is positive. -/
theorem small_pos : 0 < Ideal.ofBits FTy.f32 0x0DA24260#32 := by
  have h : Ideal.ofBits FTy.f32 0x0DA24260#32 = ((10633824 * (2 : ℝ) ^ (-123 : Int) : ℝ) : EReal) := by
    simp [Ideal.ofBits, Ideal.ieee, -EReal.coe_mul]
  rw [h]
  exact EReal.coe_pos.mpr (by positivity)

/-- The largest of 513 scores is the larger of the largest of the first 512 and the last. -/
theorem top_last (b : EReal) (s : Fin 513 → EReal) :
    (Finset.univ : Finset (Fin 513)).fold max b s
      = max ((Finset.univ : Finset (Fin 512)).fold max b (fun k => s k.castSucc)) (s (Fin.last 512)) := by
  rw [Fin.univ_castSuccEmb, Finset.fold_cons, Finset.fold_map, max_comm]
  rfl

/-- Division by a positive number distributes over a sum. -/
theorem add_div_pos {d : EReal} (hd : 0 < d) (x y : EReal) : Ideal.div (x + y) d = Ideal.div x d + Ideal.div y d := by
  have h0 : d ≠ 0 := hd.ne'
  simp only [Ideal.div, if_neg h0]
  refine EReal.right_distrib_of_nonneg_of_ne_top (EReal.inv_nonneg_of_nonneg hd.le) (EReal.inv_lt_top d).ne _ _

theorem zero_div_pos {d : EReal} (hd : 0 < d) : Ideal.div 0 d = 0 := by
  simp only [Ideal.div, if_neg hd.ne', zero_mul]

theorem sum_div_pos {ι : Type} (t : Finset ι) {d : EReal} (hd : 0 < d) (f : ι → EReal) :
    Ideal.div (∑ k ∈ t, f k) d = ∑ k ∈ t, Ideal.div (f k) d := by
  classical
  induction t using Finset.induction_on with
  | empty => simpa using zero_div_pos hd
  | insert a t ha ih => rw [Finset.sum_insert ha, Finset.sum_insert ha, add_div_pos hd, ih]

theorem mul_div_pos {d : EReal} (hd : 0 < d) (x v : EReal) : Ideal.div (x * v) d = v * Ideal.div x d := by
  simp only [Ideal.div, if_neg hd.ne']
  rw [mul_comm x v, mul_assoc]

/-- The reference's spelling of the softmax and the kernel's. -/
theorem attn_last (s v : Fin 513 → EReal) :
    (∑ k, v k * Ideal.div (Ideal.exp (s k - (Finset.univ : Finset (Fin 513)).fold max (Ideal.ofBits FTy.f32 0xFF800000#32) s))
      (max (∑ j, Ideal.exp (s j - (Finset.univ : Finset (Fin 513)).fold max (Ideal.ofBits FTy.f32 0xFF800000#32) s))
        (Ideal.ofBits FTy.f32 0x0DA24260#32)))
      = attn (fun k => s k.castSucc) (s (Fin.last 512)) (fun k => v k.castSucc) (v (Fin.last 512)) := by
  have hp : ∀ x : EReal, 0 < max x (Ideal.ofBits FTy.f32 0x0DA24260#32) := fun x => lt_of_lt_of_le small_pos (le_max_right _ _)
  rw [top_last, attn, Fin.sum_univ_castSucc, Fin.sum_univ_castSucc (n := 512) (f := fun j => Ideal.exp _), add_div_pos (hp _), sum_div_pos _ (hp _),
    mul_div_pos (hp _)]
  refine congrArg₂ (· + ·) (Finset.sum_congr rfl fun k _ => ?_) rfl
  rw [mul_div_pos (hp _)]
  rfl

end Cert.NsaWinKIdeal.NsaWinSum

end
-- ==== Proof.NsaWinRef.lean ====
/-
  THE WINDOW BRANCH OF A DECODING STEP (hand-written): the reference, operation by operation.
-/
module

public import proofs.«01_k».proof.Proof.Gen.NsaWinRIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.NsaWinRIdeal.NsaWinRef

open Cert.NsaWinRIdeal Cert.NsaWinRIdeal.Gen
open Idealize.ShloMosaic Idealize.ShloMosaic.TcCoe Idealize.SL.Sem

/-- The head number of a group's query. -/
def hd (h : Fin 4) (r : Fin 8) : Fin 32 := ⟨h.val * 8 + r.val, by omega⟩

/-- The scaled queries. -/
def rQ (a0 : FVec Ideal S8x32x128 .f32) : FVec Ideal S8x1x4x8x128 .f32 :=
  mulf (shapeCast S8x1x4x8x128 a0 shapeCasts_S8x32x128_S8x1x4x8x128) (broadcastInDim S8x1x4x8x128 ![] bcast_S_S8x1x4x8x128 (constant S_ .f32 0x3DB504F3#32))

/-- The new key and value, side by side. -/
def rNew (a2 a3 : FVec Ideal S8x4x128 .f32) : FVec Ideal S8x1x2x4x128 .f32 :=
  broadcastInDim S8x1x2x4x128 ![0, 2, 3, 4] bcast_S8x2x4x128_S8x1x2x4x128_0_2_3_4 (concatenate S8x2x4x128 1 [⟨S8x1x4x128, (broadcastInDim S8x1x4x128 ![0, 2, 3] bcast_S8x4x128_S8x1x4x128_0_2_3 a2)⟩, ⟨S8x1x4x128, (broadcastInDim S8x1x4x128 ![0, 2, 3] bcast_S8x4x128_S8x1x4x128_0_2_3 a3)⟩] concatenates_S8x1x4x128_S8x1x4x128_S8x2x4x128_d1)

/-- The cached keys and values, the new ones after them. -/
def rKeys (a1 : FVec Ideal S8x512x2x4x128 .f32) (new : FVec Ideal S8x1x2x4x128 .f32) : FVec Ideal S8x513x2x4x128 .f32 :=
  concatenate S8x513x2x4x128 1 [⟨S8x512x2x4x128, a1⟩, ⟨S8x1x2x4x128, new⟩] concatenates_S8x512x2x4x128_S8x1x2x4x128_S8x513x2x4x128_d1

/-- The keys. -/
def rK (kv : FVec Ideal S8x513x2x4x128 .f32) : FVec Ideal S8x513x4x128 .f32 :=
  shapeCast S8x513x4x128 (extractStridedSlice S8x513x1x4x128 ![0, 0, 0, 0, 0] kv slices_S8x513x2x4x128_S8x513x1x4x128_0_0_0_0_0) shapeCasts_S8x513x1x4x128_S8x513x4x128

/-- The values. -/
def rV (kv : FVec Ideal S8x513x2x4x128 .f32) : FVec Ideal S8x513x4x128 .f32 :=
  shapeCast S8x513x4x128 (extractStridedSlice S8x513x1x4x128 ![0, 0, 1, 0, 0] kv slices_S8x513x2x4x128_S8x513x1x4x128_0_0_1_0_0) shapeCasts_S8x513x1x4x128_S8x513x4x128

/-- The window's mask. -/
def rMask : IVec S8x1x4x8x513 1 :=
  broadcastInDim S8x1x4x8x513 ![0, 1, 2, 3, 4] bcast_S1x1x1x1x513_S8x1x4x8x513_0_1_2_3_4 (broadcastInDim S1x1x1x1x513 ![1, 4] bcast_S1x513_S1x1x1x1x513_1_4 (andi (andi (cmpi .sge (subi (broadcastInDim S1x513 ![0, 1] bcast_S1x1_S1x513_0_1 (broadcastInDim S1x1 ![0] bcast_S1_S1x1_0 (addi (broadcastInDim S1 ![] bcast_S_S1 (constantI S_ 32 8192#32)) (iotaInDim S1 32 0)))) (broadcastInDim S1x513 ![1] bcast_S513_S1x513_1 (addi (broadcastInDim S513 ![] bcast_S_S513 (constantI S_ 32 7680#32)) (iotaInDim S513 32 0)))) (broadcastInDim S1x513 ![] bcast_S_S1x513 (constantI S_ 32 0#32))) (cmpi .sle (subi (broadcastInDim S1x513 ![0, 1] bcast_S1x1_S1x513_0_1 (broadcastInDim S1x1 ![0] bcast_S1_S1x1_0 (addi (broadcastInDim S1 ![] bcast_S_S1 (constantI S_ 32 8192#32)) (iotaInDim S1 32 0)))) (broadcastInDim S1x513 ![1] bcast_S513_S1x513_1 (addi (broadcastInDim S513 ![] bcast_S_S513 (constantI S_ 32 7680#32)) (iotaInDim S513 32 0)))) (broadcastInDim S1x513 ![] bcast_S_S1x513 (constantI S_ 32 512#32)))) (cmpi .sge (broadcastInDim S1x513 ![1] bcast_S513_S1x513_1 (addi (broadcastInDim S513 ![] bcast_S_S513 (constantI S_ 32 7680#32)) (iotaInDim S513 32 0))) (broadcastInDim S1x513 ![] bcast_S_S1x513 (constantI S_ 32 0#32)))))

/-- The scores. -/
def rDot (k : FVec Ideal S8x513x4x128 .f32) (q : FVec Ideal S8x1x4x8x128 .f32) : FVec Ideal S8x1x4x8x513 .f32 :=
  transpose S8x1x4x8x513 [0, 3, 1, 4, 2] (Host.dotGeneral dot_S8x513x4x128_S8x1x4x8x128_S8x4x513x1x8_3_4_1_13_02_02 none k q) transposes_S8x4x513x1x8_S8x1x4x8x513_0_3_1_4_2

/-- The masked scores. -/
def rS (d : FVec Ideal S8x1x4x8x513 .f32) : FVec Ideal S8x1x4x8x513 .f32 :=
  select rMask d (broadcastInDim S8x1x4x8x513 ![] bcast_S_S8x1x4x8x513 (id (constant S_ .f32 0xF149F2CA#32)))

/-- The weights before the division. -/
def rE (s : FVec Ideal S8x1x4x8x513 .f32) : FVec Ideal S8x1x4x8x513 .f32 :=
  select rMask (Host.exp (subf s (broadcastInDim S8x1x4x8x513 ![0, 1, 2, 3, 4] bcast_S8x1x4x8x1_S8x1x4x8x513_0_1_2_3_4 (broadcastInDim S8x1x4x8x1 ![0, 1, 2, 3] bcast_S8x1x4x8_S8x1x4x8x1_0_1_2_3 (Host.reduce FloatOps.maximumf s (constant S_ .f32 0xFF800000#32) reducesTo_S8x1x4x8x513_S8x1x4x8_d4 h_S_))))) (broadcastInDim S8x1x4x8x513 ![] bcast_S_S8x1x4x8x513 (id (constant S_ .f32 0x00000000#32)))

/-- The weights' total, from below by the small constant. -/
def rDen (e : FVec Ideal S8x1x4x8x513 .f32) : FVec Ideal S8x1x4x8x1 .f32 :=
  maximumf (broadcastInDim S8x1x4x8x1 ![0, 1, 2, 3] bcast_S8x1x4x8_S8x1x4x8x1_0_1_2_3 (Host.reduceAdd e (constant S_ .f32 0x00000000#32) reducesTo_S8x1x4x8x513_S8x1x4x8_d4 h_S_)) (broadcastInDim S8x1x4x8x1 ![] bcast_S_S8x1x4x8x1 (constant S_ .f32 0x0DA24260#32))

/-- The weights. -/
def rP (e : FVec Ideal S8x1x4x8x513 .f32) : FVec Ideal S8x1x4x8x513 .f32 :=
  Host.divf e (broadcastInDim S8x1x4x8x513 ![0, 1, 2, 3, 4] bcast_S8x1x4x8x1_S8x1x4x8x513_0_1_2_3_4 (rDen e))

/-- The weighted values. -/
def rW (v : FVec Ideal S8x513x4x128 .f32) (p : FVec Ideal S8x1x4x8x513 .f32) : FVec Ideal S8x1x4x8x128 .f32 :=
  transpose S8x1x4x8x128 [0, 3, 1, 4, 2] (Host.dotGeneral dot_S8x513x4x128_S8x1x4x8x513_S8x4x128x1x8_1_4_3_13_02_02 none v p) transposes_S8x4x128x1x8_S8x1x4x8x128_0_3_1_4_2

/-- The gates' logits. -/
def rL (a6 : FVec Ideal S8x4x24 .f32) (a7 : FVec Ideal S32x3 .f32) : FVec Ideal S8x1x32x3 .f32 :=
  addf (shapeCast S8x1x32x3 a6 shapeCasts_S8x4x24_S8x1x32x3) (broadcastInDim S8x1x32x3 ![0, 1, 2, 3] bcast_S1x1x32x3_S8x1x32x3_0_1_2_3 (broadcastInDim S1x1x32x3 ![2, 3] bcast_S32x3_S1x1x32x3_2_3 a7))

/-- The gates: `1 / (1 + exp(-x))` of the logits. -/
def rSig (x : FVec Ideal S8x1x32x3 .f32) : FVec Ideal S8x1x32x3 .f32 :=
  Host.divf (broadcastInDim S8x1x32x3 ![] bcast_S_S8x1x32x3 (constant S_ .f32 0x3F800000#32)) (addf (broadcastInDim S8x1x32x3 ![] bcast_S_S8x1x32x3 (constant S_ .f32 0x3F800000#32)) (Host.exp (Host.negf x)))

/-- The gates, by group. -/
def rG (x : FVec Ideal S8x1x32x3 .f32) : FVec Ideal S8x1x4x8x3 .f32 :=
  shapeCast S8x1x4x8x3 (rSig x) shapeCasts_S8x1x32x3_S8x1x4x8x3

/-- The branches under their gates. -/
def rJ (g : FVec Ideal S8x1x4x8x3 .f32) (a4 a5 : FVec Ideal S8x4x8x128 .f32) (w : FVec Ideal S8x1x4x8x128 .f32) : FVec Ideal S8x1x4x8x128 .f32 :=
  addf (addf (mulf (broadcastInDim S8x1x4x8x128 ![0, 1, 2, 3, 4] bcast_S8x1x4x8x1_S8x1x4x8x128_0_1_2_3_4 (extractStridedSlice S8x1x4x8x1 ![0, 0, 0, 0, 0] g slices_S8x1x4x8x3_S8x1x4x8x1_0_0_0_0_0)) (broadcastInDim S8x1x4x8x128 ![0, 2, 3, 4] bcast_S8x4x8x128_S8x1x4x8x128_0_2_3_4 a4)) (mulf (broadcastInDim S8x1x4x8x128 ![0, 1, 2, 3, 4] bcast_S8x1x4x8x1_S8x1x4x8x128_0_1_2_3_4 (extractStridedSlice S8x1x4x8x1 ![0, 0, 0, 0, 1] g slices_S8x1x4x8x3_S8x1x4x8x1_0_0_0_0_1)) (broadcastInDim S8x1x4x8x128 ![0, 2, 3, 4] bcast_S8x4x8x128_S8x1x4x8x128_0_2_3_4 a5))) (mulf (broadcastInDim S8x1x4x8x128 ![0, 1, 2, 3, 4] bcast_S8x1x4x8x1_S8x1x4x8x128_0_1_2_3_4 (extractStridedSlice S8x1x4x8x1 ![0, 0, 0, 0, 2] g slices_S8x1x4x8x3_S8x1x4x8x1_0_0_0_0_2)) w)

/-- The output gate: `z / (1 + exp(-z))`. -/
def rZ (z : FVec Ideal S8x32x128 .f32) : FVec Ideal S8x32x128 .f32 :=
  mulf z (Host.divf (broadcastInDim S8x32x128 ![] bcast_S_S8x32x128 (constant S_ .f32 0x3F800000#32)) (addf (broadcastInDim S8x32x128 ![] bcast_S_S8x32x128 (constant S_ .f32 0x3F800000#32)) (Host.exp (Host.negf z))))

/-- The result. -/
def rOut (j : FVec Ideal S8x1x4x8x128 .f32) (z : FVec Ideal S8x32x128 .f32) : FVec Ideal S8x32x128 .f32 :=
  mulf (shapeCast S8x32x128 j shapeCasts_S8x1x4x8x128_S8x32x128) (rZ z)

/-! ## Their values at an index -/

theorem rQ_at (a0 : FVec Ideal S8x32x128 .f32) (n : Fin 8) (h : Fin 4) (r : Fin 8) (l : Fin 128) :
    rQ a0 (ix5 n 0 h r l) = a0 (ix3 n (hd h r) l) * Ideal.ofBits FTy.f32 0x3DB504F3#32 := by
  pointwise [rQ, hd]

theorem rK_old (a1 : FVec Ideal S8x512x2x4x128 .f32) (new : FVec Ideal S8x1x2x4x128 .f32) (n : Fin 8) (k : Fin 512) (h : Fin 4) (l : Fin 128) :
    rK (rKeys a1 new) (ix4 n k.castSucc h l) = a1 (ix5 n k 0 h l) := by
  pointwise [rK, rKeys]
  exact dif_pos k.isLt

theorem rK_new (a1 : FVec Ideal S8x512x2x4x128 .f32) (a2 a3 : FVec Ideal S8x4x128 .f32) (n : Fin 8) (h : Fin 4) (l : Fin 128) :
    rK (rKeys a1 (rNew a2 a3)) (ix4 n (Fin.last 512) h l) = a2 (ix3 n h l) := by
  pointwise [rK, rKeys, rNew]

theorem rV_old (a1 : FVec Ideal S8x512x2x4x128 .f32) (new : FVec Ideal S8x1x2x4x128 .f32) (n : Fin 8) (k : Fin 512) (h : Fin 4) (l : Fin 128) :
    rV (rKeys a1 new) (ix4 n k.castSucc h l) = a1 (ix5 n k 1 h l) := by
  pointwise [rV, rKeys]
  exact dif_pos k.isLt

theorem rV_new (a1 : FVec Ideal S8x512x2x4x128 .f32) (a2 a3 : FVec Ideal S8x4x128 .f32) (n : Fin 8) (h : Fin 4) (l : Fin 128) :
    rV (rKeys a1 (rNew a2 a3)) (ix4 n (Fin.last 512) h l) = a3 (ix3 n h l) := by
  pointwise [rV, rKeys, rNew]

theorem rMask_at (n : Fin 8) (h : Fin 4) (r : Fin 8) (k : Fin 513) : rMask (ix5 n 0 h r k) = 1#1 := by
  pointwise [rMask]
  revert k
  decide +kernel

theorem rDot_at (k : FVec Ideal S8x513x4x128 .f32) (q : FVec Ideal S8x1x4x8x128 .f32) (n : Fin 8) (h : Fin 4) (r : Fin 8) (j : Fin 513) :
    rDot k q (ix5 n 0 h r j) = ∑ l : Fin 128, k (ix4 n j h l) * q (ix5 n 0 h r l) := by
  pointwise [rDot]

theorem rS_at (d : FVec Ideal S8x1x4x8x513 .f32) (n : Fin 8) (h : Fin 4) (r : Fin 8) (j : Fin 513) :
    rS d (ix5 n 0 h r j) = d (ix5 n 0 h r j) := by
  pointwise [rS, rMask_at]

theorem rE_at (s : FVec Ideal S8x1x4x8x513 .f32) (n : Fin 8) (h : Fin 4) (r : Fin 8) (j : Fin 513) :
    rE s (ix5 n 0 h r j) = Ideal.exp (s (ix5 n 0 h r j)
      - (Finset.univ : Finset (Fin 513)).fold max (Ideal.ofBits FTy.f32 0xFF800000#32) (fun k => s (ix5 n 0 h r k))) := by
  pointwise [rE, rMask_at]

theorem rDen_at (e : FVec Ideal S8x1x4x8x513 .f32) (n : Fin 8) (h : Fin 4) (r : Fin 8) :
    rDen e (ix5 n 0 h r 0) = max (∑ k : Fin 513, e (ix5 n 0 h r k)) (Ideal.ofBits FTy.f32 0x0DA24260#32) := by
  pointwise [rDen]

theorem rP_at (e : FVec Ideal S8x1x4x8x513 .f32) (n : Fin 8) (h : Fin 4) (r : Fin 8) (j : Fin 513) :
    rP e (ix5 n 0 h r j) = Ideal.div (e (ix5 n 0 h r j)) (rDen e (ix5 n 0 h r 0)) := by
  pointwise [rP]

theorem rW_at (v : FVec Ideal S8x513x4x128 .f32) (p : FVec Ideal S8x1x4x8x513 .f32) (n : Fin 8) (h : Fin 4) (r : Fin 8) (i : Fin 128) :
    rW v p (ix5 n 0 h r i) = ∑ k : Fin 513, v (ix4 n k h i) * p (ix5 n 0 h r k) := by
  pointwise [rW]

theorem rL_at (a6 : FVec Ideal S8x4x24 .f32) (a7 : FVec Ideal S32x3 .f32) (n : Fin 8) (h : Fin 4) (r : Fin 8) (e : Fin 3) :
    rL a6 a7 (ix4 n 0 (hd h r) e) = a6 (ix3 n h ⟨r.val * 3 + e.val, by omega⟩) + a7 (ix2 (hd h r) e) := by
  pointwise [rL, hd]
  have h1 : (h.val * 8 + r.val) % 8 = r.val := by omega
  exact congrArg (· + _) (congrArg a6 (congrArg (ix3 n h) (Fin.ext (congrArg (· * 3 + e.val) h1))))

theorem rSig_at (x : FVec Ideal S8x1x32x3 .f32) (n : Fin 8) (b : Fin 32) (e : Fin 3) :
    rSig x (ix4 n 0 b e) = Ideal.logistic (x (ix4 n 0 b e)) := by
  pointwise [rSig]
  rfl

theorem rG_at (x : FVec Ideal S8x1x32x3 .f32) (n : Fin 8) (h : Fin 4) (r : Fin 8) (e : Fin 3) :
    rG x (ix5 n 0 h r e) = Ideal.logistic (x (ix4 n 0 (hd h r) e)) := by
  rw [← rSig_at]
  pointwise [rG, hd]

theorem rJ_at (g : FVec Ideal S8x1x4x8x3 .f32) (a4 a5 : FVec Ideal S8x4x8x128 .f32) (w : FVec Ideal S8x1x4x8x128 .f32) (n : Fin 8) (h : Fin 4)
    (r : Fin 8) (i : Fin 128) :
    rJ g a4 a5 w (ix5 n 0 h r i) = g (ix5 n 0 h r 0) * a4 (ix4 n h r i) + g (ix5 n 0 h r 1) * a5 (ix4 n h r i)
      + g (ix5 n 0 h r 2) * w (ix5 n 0 h r i) := by
  pointwise [rJ]

theorem rZ_at (z : FVec Ideal S8x32x128 .f32) (n : Fin 8) (b : Fin 32) (i : Fin 128) :
    rZ z (ix3 n b i) = z (ix3 n b i) * Ideal.logistic (z (ix3 n b i)) := by
  pointwise [rZ]
  rfl

theorem rOut_at (j : FVec Ideal S8x1x4x8x128 .f32) (z : FVec Ideal S8x32x128 .f32) (n : Fin 8) (h : Fin 4) (r : Fin 8) (i : Fin 128) :
    rOut j z (ix3 n (hd h r) i) = j (ix5 n 0 h r i) * rZ z (ix3 n (hd h r) i) := by
  have h1 : (h.val * 8 + r.val) / 8 = h.val := by omega
  have h2 : (h.val * 8 + r.val) % 8 = r.val := by omega
  pointwise [rOut, hd]

/-! ## The reference's result in these terms -/

/-- The reference from the arguments. -/
def refWin (q : FVec Ideal S8x32x128 .f32) (kv : FVec Ideal S8x512x2x4x128 .f32) (kn vn : FVec Ideal S8x4x128 .f32)
    (oc os : FVec Ideal S8x4x8x128 .f32) (gl : FVec Ideal S8x4x24 .f32) (bg : FVec Ideal S32x3 .f32) (z : FVec Ideal S8x32x128 .f32) :
    FVec Ideal S8x32x128 .f32 :=
  rOut (rJ (rG (rL gl bg)) oc os (rW (rV (rKeys kv (rNew kn vn))) (rP (rE (rS (rDot (rK (rKeys kv (rNew kn vn))) (rQ q))))))) z

variable (m : (ℓ : Loc nD τ sig) → Buf (Elt Ideal) ℓ)

theorem res_o (c : Dev nD) : Cert.NsaWinRIdeal.Value.res_main_v76 (F := Ideal) m c
    = refWin (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) (m ((c.tc : Thread nD τ).loc main_arg7)) (m ((c.tc : Thread nD τ).loc main_arg8)) := rfl

end Cert.NsaWinRIdeal.NsaWinRef

end
-- ==== Proof.NsaWinClaim.lean ====
/-
  THE WINDOW BRANCH OF A DECODING STEP (hand-written): the kernel's value is the reference's, and the claims.
-/
module

public import proofs.«01_k».proof.Defs
public import proofs.«01_k».proof.Proof.NsaWinValue
public import proofs.«01_k».proof.Proof.NsaWinSum
public import proofs.«01_k».proof.Proof.NsaWinRef
public import proofs.«01_k».proof.Proof.Gen.NsaWinKIdeal.Value
public import proofs.«01_k».proof.Proof.Gen.NsaWinRIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.NsaWinClaim

open Cert.NsaWinRIdeal Cert.NsaWinRIdeal.Gen Cert.NsaWinRIdeal.NsaWinRef
open Cert.NsaWinKIdeal.NsaWinBody (score topOf attn join)
open Cert.NsaWinKIdeal.NsaWinValue (winOut seqAt)
open Idealize.ShloMosaic Idealize.ShloMosaic.TcCoe Idealize.SL.Sem

/-- The two numberings of a group's query are one. -/
theorem hd_eq (h : Fin 4) (r : Fin 8) : Cert.NsaWinKIdeal.NsaWinBlock.hd h r = hd h r :=
  Fin.ext (congrArg (· + r.val) (Nat.mul_comm 8 h.val))

variable (q : FVec Ideal S8x32x128 .f32) (kv : FVec Ideal S8x512x2x4x128 .f32) (kn vn : FVec Ideal S8x4x128 .f32)
  (oc os : FVec Ideal S8x4x8x128 .f32) (gl : FVec Ideal S8x4x24 .f32) (bg : FVec Ideal S32x3 .f32) (z : FVec Ideal S8x32x128 .f32)

/-- The reference's score against a cached key. -/
theorem dot_old (n : Fin 8) (h : Fin 4) (r : Fin 8) (k : Fin 512) :
    rDot (rK (rKeys kv (rNew kn vn))) (rQ q) (ix5 n 0 h r k.castSucc)
      = score (fun l => q (ix3 n (hd h r) l)) (fun l => kv (ix5 n k 0 h l)) := by
  rw [rDot_at]
  refine Finset.sum_congr rfl fun l _ => ?_
  rw [rK_old, rQ_at, mul_comm]

/-- The reference's score against the new key. -/
theorem dot_new (n : Fin 8) (h : Fin 4) (r : Fin 8) :
    rDot (rK (rKeys kv (rNew kn vn))) (rQ q) (ix5 n 0 h r (Fin.last 512))
      = score (fun l => q (ix3 n (hd h r) l)) (fun l => kn (ix3 n h l)) := by
  rw [rDot_at]
  refine Finset.sum_congr rfl fun l _ => ?_
  rw [rK_new, rQ_at, mul_comm]

/-- The reference's window branch. -/
theorem rW_eq (n : Fin 8) (h : Fin 4) (r : Fin 8) (i : Fin 128) :
    rW (rV (rKeys kv (rNew kn vn))) (rP (rE (rS (rDot (rK (rKeys kv (rNew kn vn))) (rQ q))))) (ix5 n 0 h r i)
      = attn (fun k => score (fun l => q (ix3 n (hd h r) l)) (fun l => kv (ix5 n k 0 h l)))
          (score (fun l => q (ix3 n (hd h r) l)) (fun l => kn (ix3 n h l)))
          (fun k => kv (ix5 n k 1 h i)) (vn (ix3 n h i)) := by
  rw [rW_at]
  simp only [rP_at, rDen_at, rE_at, rS_at]
  refine (Cert.NsaWinKIdeal.NsaWinSum.attn_last (fun k => rDot (rK (rKeys kv (rNew kn vn))) (rQ q) (ix5 n 0 h r k))
    (fun k => rV (rKeys kv (rNew kn vn)) (ix4 n k h i))).trans ?_
  beta_reduce
  simp only [dot_old, dot_new, rV_old, rV_new]

/-- The kernel's result is the reference's. -/
theorem winOut_eq : winOut q kv kn vn oc os gl bg z = refWin q kv kn vn oc os gl bg z := by
  funext j
  obtain ⟨n, b, i, rfl⟩ : ∃ n b i, j = ix3 n b i := by
    idx_vars j
    exact ⟨_, _, _, rfl⟩
  obtain ⟨h, r, rfl⟩ := Cert.NsaWinKIdeal.NsaWinValue.exists_hd b
  rw [winOut, Cert.NsaWinKIdeal.NsaWinValue.seqOut_hd, seqAt]
  simp only [Cert.NsaWinKIdeal.NsaWinValue.glBuf_at, Cert.NsaWinKIdeal.NsaWinValue.bgBuf_at, hd_eq]
  rw [refWin, rOut_at, rJ_at, rW_eq, rZ_at, rG_at, rG_at, rG_at, rL_at, rL_at, rL_at]
  rfl

/-- The reference has host operations only, and no counter to leave raised. -/
theorem frame_R : Cert.quiescent_NsaWinRIdeal := by
  intro m g _
  exact (θ_run _ _ _).mono (fun r h => ⟨fun c => (h c).2, sem_eq_zero_of_no_sems (by decide) _⟩)
    (Cert.NsaWinRIdeal.Value.run (F := Ideal) m g)

/-- From memories that agree on the arguments the kernel and the reference end with the same result. -/
theorem algebraic : Cert.algebraic_NsaWinKIdeal_NsaWinRIdeal := by
  intro m g m' g' _ hagree
  refine ⟨fun c => Cert.NsaWinRIdeal.Value.res_main_v76 (F := Ideal) m' c, ?_, Cert.NsaWinRIdeal.Value.run (F := Ideal) m' g'⟩
  refine (θ_run _ _ _).mono (fun r h c => ⟨(h c).1.trans ?_, (h c).2⟩) (Cert.NsaWinKIdeal.Value.run_blocks (F := Ideal) m g)
  obtain ⟨h0, h1, h2, h3, h4, h5, h6, h7, h8⟩ := hagree c
  rw [Cert.NsaWinKIdeal.NsaWinValue.result]
  refine (winOut_eq _ _ _ _ _ _ _ _ _).trans ?_
  refine Eq.trans ?_ (res_o m' c).symm
  beta_reduce
  rw [h0, h1, h2, h3, h4, h5, h6, h7, h8]

end Cert.Proof.NsaWinClaim

end
-- ==== Proof.NsaCmpBody.lean ====
/-
  THE PROMPT'S COMPRESSED KEYS AND VALUES (hand-written): the kernel's body on the blocks it loads.
-/
module

public import proofs.«01_k».proof.Proof.Gen.NsaCmpKIdeal.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NsaCmpKIdeal.NsaCmpBody

open Cert.NsaCmpKIdeal Cert.NsaCmpKIdeal.Gen
open Idealize.ShloMosaic Idealize.ShloMosaic.TcCoe Idealize.SL.Sem

/-- The accumulators' start. -/
def zero : FVec Ideal S128x256 .f32 := broadcast S128x256 (Scalar.ofBits .f32 0x00000000#32)

/-- One step of an accumulator: every sixteenth row, shifted by a row of the position table, times that row's weights. -/
def step (acc : FVec Ideal S128x256 .f32) (x : FVec Ideal S1x128x128 .f32) (p : FVec Ideal S1x1x128 .f32) (w : FVec Ideal S1x1x128x256 .bf16) :
    FVec Ideal S128x256 .f32 :=
  addf acc (matmul dot_S128x128_S128x256_S128x256_1_0_0_1_n_n none
    (truncf .bf16 (addf (shapeCast S128x128 x shapeCasts_S1x128x128_S128x128) (broadcastTo S128x128 (shapeCast S1x128 p shapeCasts_S1x1x128_S1x128) broadcasts_S1x128_S128x128)) bitsLt_bf16_f32)
    (shapeCast S128x256 w shapeCasts_S1x1x128x256_S128x256) (constant S128x256 .f32 0x00000000#32))

/-- The hidden layer from the two accumulators. -/
def hid (v312 v321 : FVec Ideal S128x256 .f32) (v324 : FVec Ideal S1x1x256 .f32) : FVec Ideal S128x256 .bf16 :=
  have v322 : FVec Ideal S128x256 .f32 := dynamicRotate 0 127#32 none v321 rotates_S128x256_d0
  have v323 : FVec Ideal S128x256 .f32 := addf v312 v322
  have v325 : FVec Ideal S1x256 .f32 := shapeCast S1x256 v324 shapeCasts_S1x1x256_S1x256
  have v326 : FVec Ideal S128x256 .f32 := broadcastTo S128x256 v325 broadcasts_S1x256_S128x256
  have v327 : FVec Ideal S128x256 .f32 := addf v323 v326
  have v328 : FVec Ideal S128x256 .f32 := mulf v327 v327
  have v329 : FVec Ideal S128x256 .f32 := mulf v327 v328
  have cst_276 : Ideal .f32 := Scalar.ofBits .f32 0x3D372713#32
  have v330 : FVec Ideal S128x256 .f32 := broadcast S128x256 cst_276
  have v331 : FVec Ideal S128x256 .f32 := mulf v330 v329
  have v332 : FVec Ideal S128x256 .f32 := addf v327 v331
  have cst_277 : Ideal .f32 := Scalar.ofBits .f32 0x3F4C422A#32
  have v333 : FVec Ideal S128x256 .f32 := broadcast S128x256 cst_277
  have v334 : FVec Ideal S128x256 .f32 := mulf v333 v332
  have v335 : FVec Ideal S128x256 .f32 := tanh v334
  have cst_278 : Ideal .f32 := Scalar.ofBits .f32 0x3F800000#32
  have v336 : FVec Ideal S128x256 .f32 := broadcast S128x256 cst_278
  have v337 : FVec Ideal S128x256 .f32 := addf v336 v335
  have cst_279 : Ideal .f32 := Scalar.ofBits .f32 0x3F000000#32
  have v338 : FVec Ideal S128x256 .f32 := broadcast S128x256 cst_279
  have v339 : FVec Ideal S128x256 .f32 := mulf v338 v337
  have v340 : FVec Ideal S128x256 .f32 := mulf v327 v339
  have v341 : FVec Ideal S128x256 .bf16 := truncf .bf16 v340 bitsLt_bf16_f32
  v341

section
variable (X : Fin 16 → FVec Ideal S1x128x128 .f32) (P : Fin 32 → FVec Ideal S1x1x128 .f32) (W : Fin 32 → FVec Ideal S1x1x128x256 .bf16)

/-- The accumulator over a block's first half. -/
def lo : FVec Ideal S128x256 .f32 :=
  (step (step (step (step (step (step (step (step (step (step (step (step (step (step (step (step zero (X 0) (P 0) (W 0)) (X 1) (P 1) (W 1)) (X 2) (P 2) (W 2)) (X 3) (P 3) (W 3)) (X 4) (P 4) (W 4)) (X 5) (P 5) (W 5)) (X 6) (P 6) (W 6)) (X 7) (P 7) (W 7)) (X 8) (P 8) (W 8)) (X 9) (P 9) (W 9)) (X 10) (P 10) (W 10)) (X 11) (P 11) (W 11)) (X 12) (P 12) (W 12)) (X 13) (P 13) (W 13)) (X 14) (P 14) (W 14)) (X 15) (P 15) (W 15))

/-- The accumulator over a block's second half. -/
def hi : FVec Ideal S128x256 .f32 :=
  (step (step (step (step (step (step (step (step (step (step (step (step (step (step (step (step zero (X 0) (P 16) (W 16)) (X 1) (P 17) (W 17)) (X 2) (P 18) (W 18)) (X 3) (P 19) (W 19)) (X 4) (P 20) (W 20)) (X 5) (P 21) (W 21)) (X 6) (P 22) (W 22)) (X 7) (P 23) (W 23)) (X 8) (P 24) (W 24)) (X 9) (P 25) (W 25)) (X 10) (P 26) (W 26)) (X 11) (P 27) (W 27)) (X 12) (P 28) (W 28)) (X 13) (P 29) (W 29)) (X 14) (P 30) (W 30)) (X 15) (P 31) (W 31))

theorem step_at (acc : FVec Ideal S128x256 .f32) (x : FVec Ideal S1x128x128 .f32) (p : FVec Ideal S1x1x128 .f32) (w : FVec Ideal S1x1x128x256 .bf16)
    (r : Fin 128) (e : Fin 256) : step acc x p w (ix2 r e) = acc (ix2 r e) + ∑ d : Fin 128, (x (ix3 0 r d) + p (ix3 0 0 d)) * w (ix4 0 0 d e) := by
  pointwise [step]

theorem zero_at (r : Fin 128) (e : Fin 256) : zero (ix2 r e) = 0 := by
  pointwise [zero]

/-- A half of a block's product with the weights. -/
def half (s : Nat) (hs : s + 16 ≤ 32) (r : Fin 128) (e : Fin 256) : EReal :=
  ∑ l : Fin 16, ∑ d : Fin 128, (X l (ix3 0 r d) + P ⟨s + l.val, by omega⟩ (ix3 0 0 d)) * W ⟨s + l.val, by omega⟩ (ix4 0 0 d e)

theorem lo_at (r : Fin 128) (e : Fin 256) : lo X P W (ix2 r e) = half X P W 0 (by omega) r e := by
  simp only [lo, half, step_at, zero_at, Fin.sum_univ_castSucc (n := 15), Fin.sum_univ_castSucc (n := 14), Fin.sum_univ_castSucc (n := 13),
    Fin.sum_univ_castSucc (n := 12), Fin.sum_univ_castSucc (n := 11), Fin.sum_univ_castSucc (n := 10), Fin.sum_univ_castSucc (n := 9), Fin.sum_univ_castSucc (n := 8), Fin.sum_univ_castSucc (n := 7), Fin.sum_univ_castSucc (n := 6),
    Fin.sum_univ_castSucc (n := 5), Fin.sum_univ_castSucc (n := 4), Fin.sum_univ_castSucc (n := 3), Fin.sum_univ_castSucc (n := 2), Fin.sum_univ_castSucc (n := 1), Fin.sum_univ_castSucc (n := 0), Fin.sum_univ_zero]
  rfl

theorem hi_at (r : Fin 128) (e : Fin 256) : hi X P W (ix2 r e) = half X P W 16 (by omega) r e := by
  simp only [hi, half, step_at, zero_at, Fin.sum_univ_castSucc (n := 15), Fin.sum_univ_castSucc (n := 14), Fin.sum_univ_castSucc (n := 13),
    Fin.sum_univ_castSucc (n := 12), Fin.sum_univ_castSucc (n := 11), Fin.sum_univ_castSucc (n := 10), Fin.sum_univ_castSucc (n := 9), Fin.sum_univ_castSucc (n := 8), Fin.sum_univ_castSucc (n := 7), Fin.sum_univ_castSucc (n := 6),
    Fin.sum_univ_castSucc (n := 5), Fin.sum_univ_castSucc (n := 4), Fin.sum_univ_castSucc (n := 3), Fin.sum_univ_castSucc (n := 2), Fin.sum_univ_castSucc (n := 1), Fin.sum_univ_castSucc (n := 0), Fin.sum_univ_zero]
  rfl

end

/-- The smooth gate of the hidden layer, in its tanh form. -/
def gelu (x : EReal) : EReal :=
  x * (Ideal.ofBits FTy.f32 0x3F000000#32 * (1 + Ideal.tanh (Ideal.ofBits FTy.f32 0x3F4C422A#32 * (x + Ideal.ofBits FTy.f32 0x3D372713#32 * (x * (x * x))))))

/-- The hidden layer's row: this row of the first accumulator and the next row of the second. -/
theorem hid_at (a b : FVec Ideal S128x256 .f32) (v : FVec Ideal S1x1x256 .f32) (r r' : Fin 128) (hr : r'.val = (r.val + 1) % 128) (e : Fin 256) :
    hid a b v (ix2 r e) = gelu (a (ix2 r e) + b (ix2 r' e) + v (ix3 0 0 e)) := by
  obtain rfl : r' = ⟨(r.val + 128 - 127) % 128, Nat.mod_lt _ (by decide)⟩ := Fin.ext (by rw [hr]; rfl)
  pointwise [hid, gelu]

theorem pay1_at (g : FVec Ideal S128x256 .bf16) (x4 : FVec Ideal S1x256x128 .bf16) (x5 : FVec Ideal S1x1x128 .f32) (r : Fin 128) (hr : r.val < 127) (d : Fin 128) :
    k0_pay1 g x4 x5 (ix5 0 0 0 r d) = (∑ e : Fin 256, g (ix2 r e) * x4 (ix3 0 e d)) + x5 (ix3 0 0 d) := by
  pointwise [k0_pay1]
  have hm : IntOp.cmpi CmpIPredicate.slt (BitVec.ofNat 32 r.val) 127#32 = 1#1 := by revert r; decide +kernel
  rw [hm]
  rfl

theorem pay1_last (g : FVec Ideal S128x256 .bf16) (x4 : FVec Ideal S1x256x128 .bf16) (x5 : FVec Ideal S1x1x128 .f32) (d : Fin 128) :
    k0_pay1 g x4 x5 (ix5 0 0 0 (Fin.last 127) d) = 0 := by
  pointwise [k0_pay1]
  rfl

end Cert.NsaCmpKIdeal.NsaCmpBody

end
-- ==== Proof.NsaCmpOut.lean ====
/-
  THE PROMPT'S COMPRESSED KEYS AND VALUES (hand-written): a grid point's block.
-/
module

public import proofs.«01_k».proof.Proof.NsaCmpBody

@[expose] public section

set_option maxRecDepth 16384

noncomputable section

namespace Cert.NsaCmpKIdeal.NsaCmpOut

open Cert.NsaCmpKIdeal Cert.NsaCmpKIdeal.Gen Cert.NsaCmpKIdeal.NsaCmpBody
open Idealize.ShloMosaic Idealize.ShloMosaic.TcCoe Idealize.SL.Sem

variable (c : Dev nD) (i : grid0.Coords) (arg3 : Memref sig .tc .vmem S1x2048x128 .f32) (harg3 : arg3.IsWhole) (arg4 : Memref sig .tc .vmem S1x32x128 .f32) (harg4 : arg4.IsWhole) (arg5 : Memref sig .tc .vmem S1x32x128x256 .bf16) (harg5 : arg5.IsWhole) (arg6 : Memref sig .tc .vmem S1x1x256 .f32) (harg6 : arg6.IsWhole) (arg7 : Memref sig .tc .vmem S1x256x128 .bf16) (harg7 : arg7.IsWhole) (arg8 : Memref sig .tc .vmem S1x1x128 .f32) (harg8 : arg8.IsWhole) (arg9 : Memref sig .tc .vmem S1x1x1x128x128 .f32) (harg9 : arg9.IsWhole)
    (x0 : Vec Ideal S1x2048x128 .f32) (x1 : Vec Ideal S1x32x128 .f32) (x2 : Vec Ideal S1x32x128x256 .bf16) (x3 : Vec Ideal S1x1x256 .f32) (x4 : Vec Ideal S1x256x128 .bf16) (x5 : Vec Ideal S1x1x128 .f32)

theorem inbX (l : Fin 16) : ∀ a, S1x128x128.size a = 0 ∨ (![0, l.val, 0] : Fin 3 → Nat) a + (![1, 16, 1] : Fin 3 → Nat) a * (S1x128x128.size a - 1) < S1x2048x128.size a := by
  revert l; decide

theorem inbP (l : Fin 32) : ∀ a, (![0, l.val, 0] : Fin 3 → Nat) a + S1x1x128.size a ≤ S1x32x128.size a := by
  revert l; decide

theorem inbW (l : Fin 32) : ∀ a, (![0, l.val, 0, 0] : Fin 4 → Nat) a + S1x1x128x256.size a ≤ S1x32x128x256.size a := by
  revert l; decide

/-- Every sixteenth row of the block of keys or values, from row `l` on. -/
def ldX (l : Fin 16) : FVec Ideal S1x128x128 .f32 :=
  View.readAt (Elt Ideal) arg3.view { off := ![0, l.val, 0], size := ![1, 128, 128], stride := ![1, 16, 1], inb := inbX l } (harg3.unread x0)

/-- A row of the position table. -/
def ldP (l : Fin 32) : FVec Ideal S1x1x128 .f32 := View.ld (Val := Elt Ideal) (e' := .f32) x1 (Rect.unit ![0, l.val, 0] ![1, 1, 128] (inbP l))

/-- A row's weights. -/
def ldW (l : Fin 32) : FVec Ideal S1x1x128x256 .bf16 := View.ld (Val := Elt Ideal) (e' := .bf16) x2 (Rect.unit ![0, l.val, 0, 0] ![1, 1, 128, 256] (inbW l))

theorem out_eq : out0_A_6 (F := Ideal) c i arg3 harg3 arg4 harg4 arg5 harg5 arg6 harg6 arg7 harg7 arg8 harg8 arg9 harg9 x0 x1 x2 x3 x4 x5
    = k0_pay1 (hid (lo (ldX arg3 harg3 x0) (ldP x1) (ldW x2)) (hi (ldX arg3 harg3 x0) (ldP x1) (ldW x2)) x3) x4 x5 := by
  frame_out
  rfl

theorem ldX_at (l : Fin 16) (r d : Fin 128) : ldX arg3 harg3 x0 l (ix3 0 r d) = x0 (ix3 0 ⟨16 * r.val + l.val, by omega⟩ d) := by
  unfold ldX
  rw [View.readAt_apply, harg3.read_unread]
  exact congrArg x0 (funext fun a => Fin.ext (by
    match a with
    | ⟨0, _⟩ => exact (by omega : 0 + 1 * 0 = 0)
    | ⟨1, _⟩ => exact (by omega : l.val + 16 * r.val = 16 * r.val + l.val)
    | ⟨2, _⟩ => exact (by omega : 0 + 1 * d.val = d.val)))

theorem ldP_at (l : Fin 32) (d : Fin 128) : ldP x1 l (ix3 0 0 d) = x1 (ix3 0 l d) := by
  exact congrArg x1 (funext fun a => Fin.ext (by
    match a with
    | ⟨0, _⟩ => exact (by omega : 0 + 1 * 0 = 0)
    | ⟨1, _⟩ => exact (by omega : l.val + 1 * 0 = l.val)
    | ⟨2, _⟩ => exact (by omega : 0 + 1 * d.val = d.val)))

theorem ldW_at (l : Fin 32) (d : Fin 128) (e : Fin 256) : ldW x2 l (ix4 0 0 d e) = x2 (ix4 0 l d e) := by
  exact congrArg x2 (funext fun a => Fin.ext (by
    match a with
    | ⟨0, _⟩ => exact (by omega : 0 + 1 * 0 = 0)
    | ⟨1, _⟩ => exact (by omega : l.val + 1 * 0 = l.val)
    | ⟨2, _⟩ => exact (by omega : 0 + 1 * d.val = d.val)
    | ⟨3, _⟩ => exact (by omega : 0 + 1 * e.val = e.val)))

/-- One block of thirty-two rows in the hidden layer: row `j` of block `r` is row `16 r + j` of the keys or values. -/
def pre (x0 : Vec Ideal S1x2048x128 .f32) (x1 : Vec Ideal S1x32x128 .f32) (x2 : Vec Ideal S1x32x128x256 .bf16) (r : Fin 127) (e : Fin 256) : EReal :=
  ∑ j : Fin 32, ∑ d : Fin 128, (x0 (ix3 0 ⟨16 * r.val + j.val, by omega⟩ d) + x1 (ix3 0 j d)) * x2 (ix4 0 j d e)

theorem pre_split (r : Fin 127) (e : Fin 256) : pre x0 x1 x2 r e
    = half (ldX arg3 harg3 x0) (ldP x1) (ldW x2) 0 (by omega) r.castSucc e + half (ldX arg3 harg3 x0) (ldP x1) (ldW x2) 16 (by omega) r.succ e := by
  unfold pre half
  rw [Fin.sum_univ_add (a := 16) (b := 16)]
  simp only [ldX_at, ldP_at, ldW_at]
  refine congrArg₂ _ (Finset.sum_congr rfl fun l _ => Finset.sum_congr rfl fun d _ => ?_) (Finset.sum_congr rfl fun l _ => Finset.sum_congr rfl fun d _ => ?_)
  · refine congrArg₂ _ (congrArg₂ _ (congrArg x0 (congrArg (fun q => ix3 0 q d) (Fin.ext rfl))) (congrArg x1 (congrArg (fun q => ix3 0 q d) (Fin.ext ?_))))
      (congrArg x2 (congrArg (fun q => ix4 0 q d e) (Fin.ext ?_)))
    · exact (by omega : l.val = 0 + l.val)
    · exact (by omega : l.val = 0 + l.val)
  · refine congrArg₂ _ (congrArg₂ _ (congrArg x0 (congrArg (fun q => ix3 0 q d) (Fin.ext ?_))) (congrArg x1 (congrArg (fun q => ix3 0 q d) (Fin.ext rfl))))
      (congrArg x2 (congrArg (fun q => ix4 0 q d e) (Fin.ext rfl)))
    exact (by omega : 16 * r.val + (16 + l.val) = 16 * (r.val + 1) + l.val)

/-- A stored row of the block. -/
def row (x0 : Vec Ideal S1x2048x128 .f32) (x1 : Vec Ideal S1x32x128 .f32) (x2 : Vec Ideal S1x32x128x256 .bf16) (x3 : Vec Ideal S1x1x256 .f32)
    (x4 : Vec Ideal S1x256x128 .bf16) (x5 : Vec Ideal S1x1x128 .f32) (r : Fin 127) (d : Fin 128) : EReal :=
  (∑ e : Fin 256, gelu (pre x0 x1 x2 r e + x3 (ix3 0 0 e)) * x4 (ix3 0 e d)) + x5 (ix3 0 0 d)

theorem out_at (r : Fin 127) (d : Fin 128) : out0_A_6 (F := Ideal) c i arg3 harg3 arg4 harg4 arg5 harg5 arg6 harg6 arg7 harg7 arg8 harg8 arg9 harg9 x0 x1 x2 x3 x4 x5
    (ix5 0 0 0 r.castSucc d) = row x0 x1 x2 x3 x4 x5 r d := by
  rw [out_eq, pay1_at _ _ _ _ r.isLt]
  unfold row
  refine congrArg (· + _) (Finset.sum_congr rfl fun e _ => ?_)
  rw [hid_at _ _ _ _ r.succ (by rw [Fin.val_succ, Fin.val_castSucc, Nat.mod_eq_of_lt (by omega)]), lo_at, hi_at, pre_split arg3 harg3]

theorem out_last (d : Fin 128) : out0_A_6 (F := Ideal) c i arg3 harg3 arg4 harg4 arg5 harg5 arg6 harg6 arg7 harg7 arg8 harg8 arg9 harg9 x0 x1 x2 x3 x4 x5
    (ix5 0 0 0 (Fin.last 127) d) = 0 := by
  rw [out_eq, pay1_last]

end Cert.NsaCmpKIdeal.NsaCmpOut

end
-- ==== Proof.NsaCmpValue.lean ====
/-
  THE PROMPT'S COMPRESSED KEYS AND VALUES (hand-written): the result array from the arguments.
-/
module

public import proofs.«01_k».proof.Proof.NsaCmpOut
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NsaCmpKIdeal.NsaCmpValue

open Cert.NsaCmpKIdeal Cert.NsaCmpKIdeal.Gen Cert.NsaCmpKIdeal.NsaCmpBody Cert.NsaCmpKIdeal.NsaCmpOut
open Idealize.ShloMosaic Idealize.ShloMosaic.TcCoe Idealize.SL.Sem

variable (m : (ℓ : Loc nD τ sig) → Buf (Elt Ideal) ℓ) (ρ : Dev nD → PrngReg)

theorem idx0 : ∀ t : Fin cfg0.N, win0_0.index t = ![t.val / 8, 0, 32 + (t.val / 4 % 2 * 4 + t.val % 4)] ∧ win0_1.index t = ![t.val / 4 % 2, 0, 0]
    ∧ win0_2.index t = ![t.val / 4 % 2, 0, 0, 0] ∧ win0_3.index t = ![t.val / 4 % 2, 0, 0] ∧ win0_4.index t = ![t.val / 4 % 2, 0, 0]
    ∧ win0_5.index t = ![t.val / 4 % 2, 0, 0] ∧ win0_6.index t = ![t.val / 8, t.val / 4 % 2, t.val % 4, 0, 0] :=
  (by decide +kernel : ∀ t : Fin grid0.N, _)

/-- The sequence of a grid step. -/
def seq (t : Fin cfg0.N) : Fin 4 := ⟨t.val / 8, by have := lt_of_lt_of_eq t.isLt N_0; omega⟩

/-- Keys or values. -/
def typ (t : Fin cfg0.N) : Fin 2 := ⟨t.val / 4 % 2, by omega⟩

/-- The group of a grid step. -/
def grp (t : Fin cfg0.N) : Fin 4 := ⟨t.val % 4, by omega⟩

/-- The column of a type's group and channel in the projection. -/
def col (e : Fin 2) (h : Fin 4) (d : Fin 128) : Fin 11776 := ⟨(32 + (e.val * 4 + h.val)) * 128 + d.val, by omega⟩

/-- The hidden layer of a block of rows, before its bias. -/
def hidAt (A : FVec Ideal S4x2048x11776 .f32) (PE : FVec Ideal S2x32x128 .f32) (W1 : FVec Ideal S2x32x128x256 .bf16) (n : Fin 4) (e : Fin 2) (h : Fin 4) (r : Fin 127) (k : Fin 256) : EReal :=
  ∑ j : Fin 32, ∑ d : Fin 128, (A (ix3 n ⟨16 * r.val + j.val, by omega⟩ (col e h d)) + PE (ix3 e j d)) * W1 (ix4 e j d k)

/-- A compressed row, from the laid-out arrays. -/
def cmpAt (A : FVec Ideal S4x2048x11776 .f32) (PE : FVec Ideal S2x32x128 .f32) (W1 : FVec Ideal S2x32x128x256 .bf16) (B1 : FVec Ideal S2x1x256 .f32)
    (W2 : FVec Ideal S2x256x128 .bf16) (B2 : FVec Ideal S2x1x128 .f32) (n : Fin 4) (e : Fin 2) (h : Fin 4) (r : Fin 127) (d : Fin 128) : EReal :=
  (∑ k : Fin 256, gelu (hidAt A PE W1 n e h r k + B1 (ix3 e 0 k)) * W2 (ix3 e k d)) + B2 (ix3 e 0 d)

/-- The result array: the compressed rows, and a row of zeros after them. -/
def cmpArr (A : FVec Ideal S4x2048x11776 .f32) (PE : FVec Ideal S2x32x128 .f32) (W1 : FVec Ideal S2x32x128x256 .bf16) (B1 : FVec Ideal S2x1x256 .f32)
    (W2 : FVec Ideal S2x256x128 .bf16) (B2 : FVec Ideal S2x1x128 .f32) : FVec Ideal S4x2x4x128x128 .f32 := fun j =>
  if hr : (j 3).val < 127 then cmpAt A PE W1 B1 W2 B2 (j 0) (j 1) (j 2) ⟨(j 3).val, hr⟩ (j 4) else 0

theorem cmpArr_at (A : FVec Ideal S4x2048x11776 .f32) (PE : FVec Ideal S2x32x128 .f32) (W1 : FVec Ideal S2x32x128x256 .bf16) (B1 : FVec Ideal S2x1x256 .f32)
    (W2 : FVec Ideal S2x256x128 .bf16) (B2 : FVec Ideal S2x1x128 .f32) (n : Fin 4) (e : Fin 2) (h : Fin 4) (r : Fin 127) (d : Fin 128) :
    cmpArr A PE W1 B1 W2 B2 (ix5 n e h r.castSucc d) = cmpAt A PE W1 B1 W2 B2 n e h r d := by
  exact dif_pos r.isLt

theorem cmpArr_last (A : FVec Ideal S4x2048x11776 .f32) (PE : FVec Ideal S2x32x128 .f32) (W1 : FVec Ideal S2x32x128x256 .bf16) (B1 : FVec Ideal S2x1x256 .f32)
    (W2 : FVec Ideal S2x256x128 .bf16) (B2 : FVec Ideal S2x1x128 .f32) (n : Fin 4) (e : Fin 2) (h : Fin 4) (d : Fin 128) :
    cmpArr A PE W1 B1 W2 B2 (ix5 n e h (Fin.last 127) d) = 0 := by
  exact dif_neg (by show ¬ (127 < 127); omega)

/-! ## The blocks of a grid step -/

theorem blkA (c : Dev nD) (t : Fin cfg0.N) (q : Fin 2048) (d : Fin 128) :
    iblk m c 0 t (ix3 0 q d) = V m c main_arg0 (ix3 (seq t) q (col (typ t) (grp t) d)) := by
  blk_point [iblk, idx0 t, seq, typ, grp, col]

theorem blkPE (c : Dev nD) (t : Fin cfg0.N) (j : Fin 32) (d : Fin 128) : iblk m c 1 t (ix3 0 j d) = V m c main_arg1 (ix3 (typ t) j d) := by
  blk_point [iblk, idx0 t, typ]

theorem blkW1 (c : Dev nD) (t : Fin cfg0.N) (j : Fin 32) (d : Fin 128) (k : Fin 256) : iblk m c 2 t (ix4 0 j d k) = V m c main_v0 (ix4 (typ t) j d k) := by
  blk_point [iblk, idx0 t, typ]

theorem blkB1 (c : Dev nD) (t : Fin cfg0.N) (k : Fin 256) : iblk m c 3 t (ix3 0 0 k) = V m c main_v1 (ix3 (typ t) 0 k) := by
  blk_point [iblk, idx0 t, typ]

theorem blkW2 (c : Dev nD) (t : Fin cfg0.N) (k : Fin 256) (d : Fin 128) : iblk m c 4 t (ix3 0 k d) = V m c main_v2 (ix3 (typ t) k d) := by
  blk_point [iblk, idx0 t, typ]

theorem blkB2 (c : Dev nD) (t : Fin cfg0.N) (d : Fin 128) : iblk m c 5 t (ix3 0 0 d) = V m c main_v3 (ix3 (typ t) 0 d) := by
  blk_point [iblk, idx0 t, typ]

theorem idx_blk (y : S1x1x1x128x128.Idx) : ∃ (b d : Fin 128), y = ix5 0 0 0 b d := by
  obtain ⟨a, a', a'', b, d, rfl⟩ : ∃ a a' a'' b d, y = ix5 a a' a'' b d := by
    idx_vars y
    exact ⟨_, _, _, _, _, rfl⟩
  obtain rfl : a = 0 := Subsingleton.elim _ _
  obtain rfl : a' = 0 := Subsingleton.elim _ _
  obtain rfl : a'' = 0 := Subsingleton.elim _ _
  exact ⟨b, d, rfl⟩

/-- A grid step's block at a row and a channel. -/
theorem blockC (c : Dev nD) (t : Fin cfg0.N) (b d : Fin 128) :
    outsAt0 m c t (ix5 0 0 0 b d) = cmpArr (V m c main_arg0) (V m c main_arg1) (V m c main_v0) (V m c main_v1) (V m c main_v2) (V m c main_v3) (ix5 (seq t) (typ t) (grp t) b d) := by
  unfold outsAt0
  refine Fin.lastCases ?_ (fun r => ?_) b
  · rw [out_last, cmpArr_last]
  · rw [out_at, cmpArr_at]
    simp only [row, pre, blkA, blkPE, blkW1, blkB1, blkW2, blkB2]
    rfl

/-- The output array after the region. -/
theorem arrOut (c : Dev nD) : (dats m 0 c).arrAt 6 cfg0.N = cmpArr (V m c main_arg0) (V m c main_arg1) (V m c main_v0) (V m c main_v1) (V m c main_v2) (V m c main_v3) := by
  refine (dats m 0 c).arrAt_eq_of_covers 6 _ (by decide +kernel) fun t _ y => ?_
  blk_simp
  rw [after0_6]
  obtain ⟨b, d, rfl⟩ : ∃ (b d : Fin 128), y = ix5 0 0 0 b d := idx_blk y
  refine (blockC m c t b d).trans (congrArg _ ?_)
  blk_ext [idx0 t, seq, typ, grp]

/-- The result from the arguments. -/
def cmpOut (a0 : FVec Ideal S4x2048x11776 .f32) (a1 : FVec Ideal S2x32x128 .f32) (a2 : FVec Ideal S2x32x128x256 .f32) (a3 : FVec Ideal S2x256 .f32)
    (a4 : FVec Ideal S2x256x128 .f32) (a5 : FVec Ideal S2x128 .f32) : FVec Ideal S4x2x4x128x128 .f32 :=
  cmpArr a0 a1 (truncf .bf16 a2 bitsLt_bf16_f32) (shapeCast S2x1x256 a3 shapeCasts_S2x256_S2x1x256) (truncf .bf16 a4 bitsLt_bf16_f32)
    (shapeCast S2x1x128 a5 shapeCasts_S2x128_S2x1x128)

theorem bufW1 (c : Dev nD) : V m c main_v0 = (truncf .bf16 (m ((c.tc : Thread nD τ).loc main_arg2)) bitsLt_bf16_f32 : FVec Ideal S2x32x128x256 .bf16) := by
  dsimp only [V]
  after_results_simp <;> rfl

theorem bufB1 (c : Dev nD) : V m c main_v1 = (shapeCast S2x1x256 (m ((c.tc : Thread nD τ).loc main_arg3)) shapeCasts_S2x256_S2x1x256 : FVec Ideal S2x1x256 .f32) := by
  dsimp only [V]
  after_results_simp <;> rfl

theorem bufW2 (c : Dev nD) : V m c main_v2 = (truncf .bf16 (m ((c.tc : Thread nD τ).loc main_arg4)) bitsLt_bf16_f32 : FVec Ideal S2x256x128 .bf16) := by
  dsimp only [V]
  after_results_simp <;> rfl

theorem bufB2 (c : Dev nD) : V m c main_v3 = (shapeCast S2x1x128 (m ((c.tc : Thread nD τ).loc main_arg5)) shapeCasts_S2x128_S2x1x128 : FVec Ideal S2x1x128 .f32) := by
  dsimp only [V]
  after_results_simp <;> rfl

theorem result (c : Dev nD) : (dats m 0 c).arrAt 6 cfg0.N
    = cmpOut (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := by
  rw [arrOut, bufW1, bufB1, bufW2, bufB2, V_main_arg0, V_main_arg1]
  rfl

/-- A compressed row from the arguments. -/
theorem cmpOut_at (a0 : FVec Ideal S4x2048x11776 .f32) (a1 : FVec Ideal S2x32x128 .f32) (a2 : FVec Ideal S2x32x128x256 .f32) (a3 : FVec Ideal S2x256 .f32)
    (a4 : FVec Ideal S2x256x128 .f32) (a5 : FVec Ideal S2x128 .f32) (n : Fin 4) (e : Fin 2) (h : Fin 4) (r : Fin 127) (d : Fin 128) :
    cmpOut a0 a1 a2 a3 a4 a5 (ix5 n e h r.castSucc d)
      = (∑ k : Fin 256, gelu ((∑ j : Fin 32, ∑ d : Fin 128, (a0 (ix3 n ⟨16 * r.val + j.val, by omega⟩ (col e h d)) + a1 (ix3 e j d)) * a2 (ix4 e j d k))
          + a3 (ix2 e k)) * a4 (ix3 e k d)) + a5 (ix2 e d) := by
  have h3 : ∀ k : Fin 256, (shapeCast S2x1x256 a3 shapeCasts_S2x256_S2x1x256) (ix3 e 0 k) = a3 (ix2 e k) := fun k => by pointwise
  have h5 : (shapeCast S2x1x128 a5 shapeCasts_S2x128_S2x1x128) (ix3 e 0 d) = a5 (ix2 e d) := by pointwise
  rw [cmpOut, cmpArr_at, cmpAt, h5]
  simp only [h3]
  rfl

end Cert.NsaCmpKIdeal.NsaCmpValue

end
-- ==== Proof.NsaCmpRef.lean ====
/-
  THE PROMPT'S COMPRESSED KEYS AND VALUES (hand-written): the reference, operation by operation.
-/
module

public import proofs.«01_k».proof.Proof.Gen.NsaCmpRIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.NsaCmpRIdeal.NsaCmpRef

open Cert.NsaCmpRIdeal Cert.NsaCmpRIdeal.Gen
open Idealize.ShloMosaic Idealize.ShloMosaic.TcCoe Idealize.SL.Sem

/-- The keys the blocks are taken of. -/
def rKv0 (a0 : FVec Ideal S4x2048x11776 .f32) : FVec Ideal S4x2048x4x128 .f32 :=
  shapeCast S4x2048x4x128 (extractStridedSlice S4x2048x1x4x128 ![0, 0, 0, 0, 0] (shapeCast S4x2048x4x4x128 (extractStridedSlice S4x2048x2048 ![0, 0, 4096] a0 slices_S4x2048x11776_S4x2048x2048_0_0_4096) shapeCasts_S4x2048x2048_S4x2048x4x4x128) slices_S4x2048x4x4x128_S4x2048x1x4x128_0_0_0_0_0) shapeCasts_S4x2048x1x4x128_S4x2048x4x128

/-- The keys' position table. -/
def rPe0 (a1 : FVec Ideal S2x32x128 .f32) : FVec Ideal S32x128 .f32 :=
  shapeCast S32x128 (extractStridedSlice S1x32x128 ![0, 0, 0] a1 slices_S2x32x128_S1x32x128_0_0_0) shapeCasts_S1x32x128_S32x128

/-- The keys' first weights. -/
def rWa0 (a2 : FVec Ideal S2x32x128x256 .f32) : FVec Ideal S32x128x256 .f32 :=
  shapeCast S32x128x256 (extractStridedSlice S1x32x128x256 ![0, 0, 0, 0] a2 slices_S2x32x128x256_S1x32x128x256_0_0_0_0) shapeCasts_S1x32x128x256_S32x128x256

/-- The keys' first bias. -/
def rBa0 (a3 : FVec Ideal S2x256 .f32) : FVec Ideal S256 .f32 :=
  shapeCast S256 (extractStridedSlice S1x256 ![0, 0] a3 slices_S2x256_S1x256_0_0) shapeCasts_S1x256_S256

/-- The keys' second weights. -/
def rWb0 (a4 : FVec Ideal S2x256x128 .f32) : FVec Ideal S256x128 .f32 :=
  shapeCast S256x128 (extractStridedSlice S1x256x128 ![0, 0, 0] a4 slices_S2x256x128_S1x256x128_0_0_0) shapeCasts_S1x256x128_S256x128

/-- The keys' second bias. -/
def rBb0 (a5 : FVec Ideal S2x128 .f32) : FVec Ideal S128 .f32 :=
  shapeCast S128 (extractStridedSlice S1x128 ![0, 0] a5 slices_S2x128_S1x128_0_0) shapeCasts_S1x128_S128

/-- The values the blocks are taken of. -/
def rKv1 (a0 : FVec Ideal S4x2048x11776 .f32) : FVec Ideal S4x2048x4x128 .f32 :=
  shapeCast S4x2048x4x128 (extractStridedSlice S4x2048x1x4x128 ![0, 0, 1, 0, 0] (shapeCast S4x2048x4x4x128 (extractStridedSlice S4x2048x2048 ![0, 0, 4096] a0 slices_S4x2048x11776_S4x2048x2048_0_0_4096) shapeCasts_S4x2048x2048_S4x2048x4x4x128) slices_S4x2048x4x4x128_S4x2048x1x4x128_0_0_1_0_0) shapeCasts_S4x2048x1x4x128_S4x2048x4x128

/-- The values' position table. -/
def rPe1 (a1 : FVec Ideal S2x32x128 .f32) : FVec Ideal S32x128 .f32 :=
  shapeCast S32x128 (extractStridedSlice S1x32x128 ![1, 0, 0] a1 slices_S2x32x128_S1x32x128_1_0_0) shapeCasts_S1x32x128_S32x128

/-- The values' first weights. -/
def rWa1 (a2 : FVec Ideal S2x32x128x256 .f32) : FVec Ideal S32x128x256 .f32 :=
  shapeCast S32x128x256 (extractStridedSlice S1x32x128x256 ![1, 0, 0, 0] a2 slices_S2x32x128x256_S1x32x128x256_1_0_0_0) shapeCasts_S1x32x128x256_S32x128x256

/-- The values' first bias. -/
def rBa1 (a3 : FVec Ideal S2x256 .f32) : FVec Ideal S256 .f32 :=
  shapeCast S256 (extractStridedSlice S1x256 ![1, 0] a3 slices_S2x256_S1x256_1_0) shapeCasts_S1x256_S256

/-- The values' second weights. -/
def rWb1 (a4 : FVec Ideal S2x256x128 .f32) : FVec Ideal S256x128 .f32 :=
  shapeCast S256x128 (extractStridedSlice S1x256x128 ![1, 0, 0] a4 slices_S2x256x128_S1x256x128_1_0_0) shapeCasts_S1x256x128_S256x128

/-- The values' second bias. -/
def rBb1 (a5 : FVec Ideal S2x128 .f32) : FVec Ideal S128 .f32 :=
  shapeCast S128 (extractStridedSlice S1x128 ![1, 0] a5 slices_S2x128_S1x128_1_0) shapeCasts_S1x128_S128

/-- The rows of the blocks. -/
def rRow : IVec S127x32 32 :=
  addi (broadcastInDim S127x32 ![0, 1] bcast_S127x1_S127x32_0_1 (broadcastInDim S127x1 ![0] bcast_S127_S127x1_0 (muli (iotaInDim S127 32 0) (broadcastInDim S127 ![] bcast_S_S127 (constantI S_ 32 16#32))))) (broadcastInDim S127x32 ![0, 1] bcast_S1x32_S127x32_0_1 (broadcastInDim S1x32 ![1] bcast_S32_S1x32_1 (iotaInDim S32 32 0)))

/-- The rows of the blocks as the table's indices. -/
def rIdx : IVec S127x32x1 32 :=
  broadcastInDim S127x32x1 ![0, 1] bcast_S127x32_S127x32x1_0_1 (select (cmpi .slt rRow (broadcastInDim S127x32 ![] bcast_S_S127x32 (constantI S_ 32 0#32))) (addi rRow (broadcastInDim S127x32 ![] bcast_S_S127x32 (constantI S_ 32 2048#32))) rRow)

/-- The blocks. -/
def rBlk (kv : FVec Ideal S4x2048x4x128 .f32) : FVec Ideal S4x127x32x4x128 .f32 :=
  Host.gather gather_S4x2048x4x128_S127x32x1_S4x127x32x4x128_034_1_n_n_1_2_414128 kv rIdx

/-- The blocks under the position table. -/
def rSh (kv : FVec Ideal S4x2048x4x128 .f32) (pe : FVec Ideal S32x128 .f32) : FVec Ideal S4x127x32x4x128 .f32 :=
  addf (rBlk kv) (broadcastInDim S4x127x32x4x128 ![0, 1, 2, 3, 4] bcast_S1x1x32x1x128_S4x127x32x4x128_0_1_2_3_4 (broadcastInDim S1x1x32x1x128 ![2, 3, 4] bcast_S32x1x128_S1x1x32x1x128_2_3_4 (broadcastInDim S32x1x128 ![0, 2] bcast_S32x128_S32x1x128_0_2 pe)))

/-- The hidden layer before its gate. -/
def rU (x : FVec Ideal S4x127x32x4x128 .f32) (w : FVec Ideal S32x128x256 .f32) (b : FVec Ideal S256 .f32) : FVec Ideal S4x127x4x256 .f32 :=
  addf (Host.dotGeneral dot_S4x127x32x4x128_S32x128x256_S4x127x4x256_42_10_013_2_n_n none x w) (broadcastInDim S4x127x4x256 ![0, 1, 2, 3] bcast_S1x1x1x256_S4x127x4x256_0_1_2_3 (broadcastInDim S1x1x1x256 ![3] bcast_S256_S1x1x1x256_3 b))

/-- The hidden layer. -/
def rGelu (u : FVec Ideal S4x127x4x256 .f32) : FVec Ideal S4x127x4x256 .f32 :=
  mulf u (mulf (broadcastInDim S4x127x4x256 ![] bcast_S_S4x127x4x256 (constant S_ .f32 0x3F000000#32)) (addf (broadcastInDim S4x127x4x256 ![] bcast_S_S4x127x4x256 (constant S_ .f32 0x3F800000#32)) (Host.tanh (mulf (broadcastInDim S4x127x4x256 ![] bcast_S_S4x127x4x256 (constant S_ .f32 0x3F4C422A#32)) (addf u (mulf (broadcastInDim S4x127x4x256 ![] bcast_S_S4x127x4x256 (constant S_ .f32 0x3D372713#32)) (mulf (mulf u u) u)))))))

/-- The compressed rows. -/
def rC (g : FVec Ideal S4x127x4x256 .f32) (w : FVec Ideal S256x128 .f32) (b : FVec Ideal S128 .f32) : FVec Ideal S4x127x4x128 .f32 :=
  addf (Host.dotGeneral dot_S4x127x4x256_S256x128_S4x127x4x128_3_0_012_1_n_n none g w) (broadcastInDim S4x127x4x128 ![0, 1, 2, 3] bcast_S1x1x1x128_S4x127x4x128_0_1_2_3 (broadcastInDim S1x1x1x128 ![3] bcast_S128_S1x1x1x128_3 b))

/-- The keys and the values one after the other. -/
def rT (c0 c1 : FVec Ideal S4x127x4x128 .f32) : FVec Ideal S4x2x4x127x128 .f32 :=
  transpose S4x2x4x127x128 [0, 1, 3, 2, 4] (concatenate S4x2x127x4x128 1 [⟨S4x1x127x4x128, (broadcastInDim S4x1x127x4x128 ![0, 2, 3, 4] bcast_S4x127x4x128_S4x1x127x4x128_0_2_3_4 c0)⟩, ⟨S4x1x127x4x128, (broadcastInDim S4x1x127x4x128 ![0, 2, 3, 4] bcast_S4x127x4x128_S4x1x127x4x128_0_2_3_4 c1)⟩] concatenates_S4x1x127x4x128_S4x1x127x4x128_S4x2x127x4x128_d1) transposes_S4x2x127x4x128_S4x2x4x127x128_0_1_3_2_4

/-- The result: a row of zeros at the end. -/
def rOut (t : FVec Ideal S4x2x4x127x128 .f32) : FVec Ideal S4x2x4x128x128 .f32 :=
  pad S4x2x4x128x128 ![0, 0, 0, 0, 0] ![0, 0, 0, 1, 0] ![0, 0, 0, 0, 0] t (sitofp .f32 (constantI S_ 32 0#32)) pads_S4x2x4x127x128_S4x2x4x128x128_000_000_000_010_000 h_S_

/-! ## Their values at an index -/

/-- The column of a type's group and channel in the projection. -/
def col (e : Fin 2) (h : Fin 4) (d : Fin 128) : Fin 11776 := ⟨(32 + (e.val * 4 + h.val)) * 128 + d.val, by omega⟩

theorem rKv0_at (a0 : FVec Ideal S4x2048x11776 .f32) (n : Fin 4) (q : Fin 2048) (h : Fin 4) (d : Fin 128) : rKv0 a0 (ix4 n q h d) = a0 (ix3 n q (col 0 h d)) := by
  pointwise [rKv0, col]
  exact congrArg a0 (congrArg (ix3 n q) (Fin.ext (by simp; omega)))

theorem rPe0_at (a1 : FVec Ideal S2x32x128 .f32) (j : Fin 32) (d : Fin 128) : rPe0 a1 (ix2 j d) = a1 (ix3 0 j d) := by
  pointwise [rPe0]

theorem rWa0_at (a2 : FVec Ideal S2x32x128x256 .f32) (j : Fin 32) (d : Fin 128) (k : Fin 256) : rWa0 a2 (ix3 j d k) = a2 (ix4 0 j d k) := by
  pointwise [rWa0]

theorem rBa0_at (a3 : FVec Ideal S2x256 .f32) (k : Fin 256) : rBa0 a3 (ix1 k) = a3 (ix2 0 k) := by
  pointwise [rBa0]

theorem rWb0_at (a4 : FVec Ideal S2x256x128 .f32) (k : Fin 256) (d : Fin 128) : rWb0 a4 (ix2 k d) = a4 (ix3 0 k d) := by
  pointwise [rWb0]

theorem rBb0_at (a5 : FVec Ideal S2x128 .f32) (d : Fin 128) : rBb0 a5 (ix1 d) = a5 (ix2 0 d) := by
  pointwise [rBb0]

theorem rKv1_at (a0 : FVec Ideal S4x2048x11776 .f32) (n : Fin 4) (q : Fin 2048) (h : Fin 4) (d : Fin 128) : rKv1 a0 (ix4 n q h d) = a0 (ix3 n q (col 1 h d)) := by
  pointwise [rKv1, col]
  exact congrArg a0 (congrArg (ix3 n q) (Fin.ext (by simp; omega)))

theorem rPe1_at (a1 : FVec Ideal S2x32x128 .f32) (j : Fin 32) (d : Fin 128) : rPe1 a1 (ix2 j d) = a1 (ix3 1 j d) := by
  pointwise [rPe1]

theorem rWa1_at (a2 : FVec Ideal S2x32x128x256 .f32) (j : Fin 32) (d : Fin 128) (k : Fin 256) : rWa1 a2 (ix3 j d k) = a2 (ix4 1 j d k) := by
  pointwise [rWa1]

theorem rBa1_at (a3 : FVec Ideal S2x256 .f32) (k : Fin 256) : rBa1 a3 (ix1 k) = a3 (ix2 1 k) := by
  pointwise [rBa1]

theorem rWb1_at (a4 : FVec Ideal S2x256x128 .f32) (k : Fin 256) (d : Fin 128) : rWb1 a4 (ix2 k d) = a4 (ix3 1 k d) := by
  pointwise [rWb1]

theorem rBb1_at (a5 : FVec Ideal S2x128 .f32) (d : Fin 128) : rBb1 a5 (ix1 d) = a5 (ix2 1 d) := by
  pointwise [rBb1]

theorem rRow_at (r : Fin 127) (j : Fin 32) : rRow (ix2 r j) = BitVec.ofNat 32 r.val * 16#32 + BitVec.ofNat 32 j.val := by
  pointwise [rRow]
  rfl

theorem rIdx_at (r : Fin 127) (j : Fin 32) : rIdx (ix3 r j 0)
    = Scalar.select (IntOp.cmpi .slt (BitVec.ofNat 32 r.val * 16#32 + BitVec.ofNat 32 j.val) 0#32) (BitVec.ofNat 32 r.val * 16#32 + BitVec.ofNat 32 j.val + 2048#32)
        (BitVec.ofNat 32 r.val * 16#32 + BitVec.ofNat 32 j.val) := by
  pointwise [rIdx, rRow_at]
  rfl

theorem rIdx_nat (r : Fin 127) (j : Fin 32) : (rIdx (ix3 r j 0)).toInt.toNat = 16 * r.val + j.val := by
  rw [rIdx_at]
  revert r j
  decide +kernel

theorem rBlk_at (kv : FVec Ideal S4x2048x4x128 .f32) (n : Fin 4) (r : Fin 127) (j : Fin 32) (h : Fin 4) (d : Fin 128) :
    rBlk kv (ix5 n r j h d) = kv (ix4 n ⟨16 * r.val + j.val, by omega⟩ h d) := by
  unfold rBlk Host.gather
  refine congrArg kv (funext fun a => Fin.ext ?_)
  match a with
  | ⟨0, _⟩ => exact (by omega : 0 + 0 + n.val = n.val)
  | ⟨1, _⟩ =>
    have hi : (GatherDims.siIdx gather_S4x2048x4x128_S127x32x1_S4x127x32x4x128_034_1_n_n_1_2_414128 (ix5 n r j h d) ⟨0, by decide⟩ : S127x32x1.Idx) = ix3 r j 0 := by
      funext b
      match b with
      | ⟨0, _⟩ => rfl
      | ⟨1, _⟩ => rfl
      | ⟨2, _⟩ => rfl
    show min (rIdx (GatherDims.siIdx gather_S4x2048x4x128_S127x32x1_S4x127x32x4x128_034_1_n_n_1_2_414128 (ix5 n r j h d) ⟨0, by decide⟩)).toInt.toNat 2047 + 0 + 0 = 16 * r.val + j.val
    rw [hi, rIdx_nat]
    omega
  | ⟨2, _⟩ => exact (by omega : 0 + 0 + h.val = h.val)
  | ⟨3, _⟩ => exact (by omega : 0 + 0 + d.val = d.val)

theorem rSh_at (kv : FVec Ideal S4x2048x4x128 .f32) (pe : FVec Ideal S32x128 .f32) (n : Fin 4) (r : Fin 127) (j : Fin 32) (h : Fin 4) (d : Fin 128) :
    rSh kv pe (ix5 n r j h d) = kv (ix4 n ⟨16 * r.val + j.val, by omega⟩ h d) + pe (ix2 j d) := by
  pointwise [rSh, rBlk_at]

theorem rU_at (x : FVec Ideal S4x127x32x4x128 .f32) (w : FVec Ideal S32x128x256 .f32) (b : FVec Ideal S256 .f32) (n : Fin 4) (r : Fin 127) (h : Fin 4) (k : Fin 256) :
    rU x w b (ix4 n r h k) = (∑ j : Fin 32, ∑ d : Fin 128, x (ix5 n r j h d) * w (ix3 j d k)) + b (ix1 k) := by
  pointwise [rU]
  rw [Finset.sum_comm]

theorem rGelu_at (u : FVec Ideal S4x127x4x256 .f32) (n : Fin 4) (r : Fin 127) (h : Fin 4) (k : Fin 256) :
    rGelu u (ix4 n r h k) = u (ix4 n r h k) * (Ideal.ofBits FTy.f32 0x3F000000#32 * (1 + Ideal.tanh (Ideal.ofBits FTy.f32 0x3F4C422A#32
      * (u (ix4 n r h k) + Ideal.ofBits FTy.f32 0x3D372713#32 * (u (ix4 n r h k) * u (ix4 n r h k) * u (ix4 n r h k)))))) := by
  pointwise [rGelu]

theorem rC_at (g : FVec Ideal S4x127x4x256 .f32) (w : FVec Ideal S256x128 .f32) (b : FVec Ideal S128 .f32) (n : Fin 4) (r : Fin 127) (h : Fin 4) (d : Fin 128) :
    rC g w b (ix4 n r h d) = (∑ k : Fin 256, g (ix4 n r h k) * w (ix2 k d)) + b (ix1 d) := by
  pointwise [rC]

theorem rT0_at (c0 c1 : FVec Ideal S4x127x4x128 .f32) (n : Fin 4) (r : Fin 127) (h : Fin 4) (d : Fin 128) :
    rT c0 c1 (ix5 n 0 h r d) = c0 (ix4 n r h d) := by
  pointwise [rT]

theorem rT1_at (c0 c1 : FVec Ideal S4x127x4x128 .f32) (n : Fin 4) (r : Fin 127) (h : Fin 4) (d : Fin 128) :
    rT c0 c1 (ix5 n 1 h r d) = c1 (ix4 n r h d) := by
  pointwise [rT]

theorem rOut_at (t : FVec Ideal S4x2x4x127x128 .f32) (n : Fin 4) (e : Fin 2) (h : Fin 4) (r : Fin 127) (d : Fin 128) :
    rOut t (ix5 n e h r.castSucc d) = t (ix5 n e h r d) := by
  pointwise [rOut]
  exact dif_pos r.isLt

theorem rOut_last (t : FVec Ideal S4x2x4x127x128 .f32) (n : Fin 4) (e : Fin 2) (h : Fin 4) (d : Fin 128) :
    rOut t (ix5 n e h (Fin.last 127) d) = 0 := by
  unfold rOut pad
  refine (dif_neg fun hc => ?_).trans ?_
  · exact absurd (hc 3).2.2 (by show ¬ ((127 - 0) / (0 + 1) < 127); omega)
  · pointwise
    show (((0#32 : BitVec 32).toInt : ℝ) : EReal) = 0
    simp

/-! ## The reference's result in these terms -/

section
variable (a0 : FVec Ideal S4x2048x11776 .f32) (a1 : FVec Ideal S2x32x128 .f32) (a2 : FVec Ideal S2x32x128x256 .f32) (a3 : FVec Ideal S2x256 .f32) (a4 : FVec Ideal S2x256x128 .f32) (a5 : FVec Ideal S2x128 .f32)

/-- The reference from the arguments. -/
def refCmp : FVec Ideal S4x2x4x128x128 .f32 :=
  rOut (rT (rC (rGelu (rU (rSh (rKv0 a0) (rPe0 a1)) (rWa0 a2) (rBa0 a3))) (rWb0 a4) (rBb0 a5)) (rC (rGelu (rU (rSh (rKv1 a0) (rPe1 a1)) (rWa1 a2) (rBa1 a3))) (rWb1 a4) (rBb1 a5)))

end

variable (m : (ℓ : Loc nD τ sig) → Buf (Elt Ideal) ℓ)

theorem res_o (c : Dev nD) : Cert.NsaCmpRIdeal.Value.res_main_v112 (F := Ideal) m c
    = refCmp (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) := rfl

end Cert.NsaCmpRIdeal.NsaCmpRef

end
-- ==== Proof.NsaCmpClaim.lean ====
/-
  THE PROMPT'S COMPRESSED KEYS AND VALUES (hand-written): the kernel's value is the reference's, and the claims.
-/
module

public import proofs.«01_k».proof.Defs
public import proofs.«01_k».proof.Proof.NsaCmpValue
public import proofs.«01_k».proof.Proof.NsaCmpRef
public import proofs.«01_k».proof.Proof.Gen.NsaCmpKIdeal.Value
public import proofs.«01_k».proof.Proof.Gen.NsaCmpRIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.NsaCmpClaim

open Cert.NsaCmpRIdeal Cert.NsaCmpRIdeal.Gen Cert.NsaCmpRIdeal.NsaCmpRef
open Cert.NsaCmpKIdeal.NsaCmpBody (gelu)
open Cert.NsaCmpKIdeal.NsaCmpValue (cmpOut cmpOut_at)
open Idealize.ShloMosaic Idealize.ShloMosaic.TcCoe Idealize.SL.Sem

variable (a0 : FVec Ideal S4x2048x11776 .f32) (a1 : FVec Ideal S2x32x128 .f32) (a2 : FVec Ideal S2x32x128x256 .f32) (a3 : FVec Ideal S2x256 .f32) (a4 : FVec Ideal S2x256x128 .f32) (a5 : FVec Ideal S2x128 .f32)

/-- The reference's gate is the kernel's: the cube is one product in two orders. -/
theorem rGelu_eq (u : FVec Ideal S4x127x4x256 .f32) (n : Fin 4) (r : Fin 127) (h : Fin 4) (k : Fin 256) :
    rGelu u (ix4 n r h k) = gelu (u (ix4 n r h k)) := by
  rw [rGelu_at, gelu, mul_comm (u (ix4 n r h k) * u (ix4 n r h k)) (u (ix4 n r h k))]

/-- The kernel's result is the reference's. -/
theorem cmpOut_eq : cmpOut a0 a1 a2 a3 a4 a5 = refCmp a0 a1 a2 a3 a4 a5 := by
  funext j
  obtain ⟨n, e, h, b, d, rfl⟩ : ∃ n e h b d, j = ix5 n e h b d := by
    idx_vars j
    exact ⟨_, _, _, _, _, rfl⟩
  refine Fin.lastCases ?_ (fun r => ?_) b
  · rw [cmpOut, Cert.NsaCmpKIdeal.NsaCmpValue.cmpArr_last, refCmp, rOut_last]
  · obtain rfl | rfl : e = 0 ∨ e = 1 := by revert e; decide
    · rw [cmpOut_at, refCmp, rOut_at, rT0_at, rC_at, rBb0_at]
      simp only [rGelu_eq, rU_at, rSh_at, rKv0_at, rPe0_at, rWa0_at, rBa0_at, rWb0_at]
      rfl
    · rw [cmpOut_at, refCmp, rOut_at, rT1_at, rC_at, rBb1_at]
      simp only [rGelu_eq, rU_at, rSh_at, rKv1_at, rPe1_at, rWa1_at, rBa1_at, rWb1_at]
      rfl

/-- The reference has host operations only, and no counter to leave raised. -/
theorem frame_R : Cert.quiescent_NsaCmpRIdeal := by
  intro m g _
  exact (θ_run _ _ _).mono (fun r h => ⟨fun c => (h c).2, sem_eq_zero_of_no_sems (by decide) _⟩)
    (Cert.NsaCmpRIdeal.Value.run (F := Ideal) m g)

/-- From memories that agree on the arguments the kernel and the reference end with the same result. -/
theorem algebraic : Cert.algebraic_NsaCmpKIdeal_NsaCmpRIdeal := by
  intro m g m' g' _ hagree
  refine ⟨fun c => Cert.NsaCmpRIdeal.Value.res_main_v112 (F := Ideal) m' c, ?_, Cert.NsaCmpRIdeal.Value.run (F := Ideal) m' g'⟩
  refine (θ_run _ _ _).mono (fun r h c => ⟨(h c).1.trans ?_, (h c).2⟩) (Cert.NsaCmpKIdeal.Value.run_blocks (F := Ideal) m g)
  obtain ⟨h0, h1, h2, h3, h4, h5⟩ := hagree c
  rw [Cert.NsaCmpKIdeal.NsaCmpValue.result]
  refine (cmpOut_eq _ _ _ _ _ _).trans ?_
  refine Eq.trans ?_ (res_o m' c).symm
  beta_reduce
  rw [h0, h1, h2, h3, h4, h5]

end Cert.Proof.NsaCmpClaim

end
-- ==== Proof.NsaSelValue.lean ====
/-
  THE COMPRESSED BRANCH OF A DECODING STEP (hand-written): what the kernel's body computes, and the result array from the arguments.
-/
module

public import proofs.«01_k».proof.Proof.Gen.NsaSelKIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.NsaSelKIdeal.NsaSelValue

open Cert.NsaSelKIdeal Cert.NsaSelKIdeal.Gen
open Idealize.ShloMosaic Idealize.ShloMosaic.TcCoe Idealize.SL.Sem

/-! ## The mathematics of one query -/

/-- Every block but the last ends at or before the step's position. -/
def ok (c : Fin 512) : BitVec 1 := if c.val < 511 then 1#1 else 0#1

theorem ok_eq (c : Fin 512) : IntOp.cmpi CmpIPredicate.sle (IntOp.addi (IntOp.muli (BitVec.ofNat 32 c.val) 16#32) 31#32) 8192#32 = ok c := by
  revert c
  decide +kernel

/-- A query's masked score against a compressed key. -/
def score (q : Fin 128 → EReal) (k : Fin 512 → Fin 128 → EReal) (c : Fin 512) : EReal :=
  Scalar.select (ok c) (∑ l, q l * Ideal.ofBits FTy.f32 0x3DB504F3#32 * k c l) (Ideal.ofBits FTy.f32 0xF149F2CA#32)

/-- A masked weight before the division. -/
def wgt (s : Fin 512 → EReal) (c : Fin 512) : EReal :=
  Scalar.select (ok c) (Ideal.exp (s c - (Finset.univ : Finset (Fin 512)).fold max (Ideal.ofBits FTy.f32 0xFF800000#32) s)) 0

/-- The weighted value. -/
def attn (s : Fin 512 → EReal) (v : Fin 512 → EReal) : EReal :=
  ∑ c, Ideal.div (wgt s c) (max (∑ k, wgt s k) (Ideal.ofBits FTy.f32 0x0DA24260#32)) * v c

/-! ## The body -/

theorem pay2_at (q : FVec Ideal S1x8x128 .f32) (k : FVec Ideal S1x1x1x512x128 .f32) (r : Fin 8) (c : Fin 512) :
    k0_pay2 (F := Ideal) q k (ix2 r c) = Ideal.div (wgt (score (fun l => q (ix3 0 r l)) (fun c l => k (ix5 0 0 0 c l))) c)
      (max (∑ j, wgt (score (fun l => q (ix3 0 r l)) (fun c l => k (ix5 0 0 0 c l))) j) (Ideal.ofBits FTy.f32 0x0DA24260#32)) := by
  pointwise [k0_pay2, wgt, score, ok_eq]

theorem pay5_at (p : FVec Ideal S8x512 .bf16) (v : FVec Ideal S1x1x1x512x128 .f32) (r : Fin 8) (i : Fin 128) :
    k0_pay5 (F := Ideal) p (k0_pay4 (F := Ideal) v) (ix4 0 0 r i) = ∑ c : Fin 512, p (ix2 r c) * v (ix5 0 0 0 c i) := by
  pointwise [k0_pay5, k0_pay4]

theorem out_eq (x0 : FVec Ideal S1x8x128 .f32) (x1 x2 : FVec Ideal S1x1x1x512x128 .f32) (x3 : FVec Ideal S512x256 .bf16) :
    out0_4 (F := Ideal) x0 x1 x2 x3 = k0_pay5 (F := Ideal) (k0_pay3 (F := Ideal) x0 x1) (k0_pay4 (F := Ideal) x2) := by
  unfold_out out0_4
  have z3 : (![0, 0, 0] : Fin 3 → Nat) = fun _ => 0 := by decide
  have z4 : (![0, 0, 0, 0] : Fin 4 → Nat) = fun _ => 0 := by decide
  have z5 : (![0, 0, 0, 0, 0] : Fin 5 → Nat) = fun _ => 0 := by decide
  refine (View.canon_unit_zero (Val := Elt Ideal) (e := .f32) z4 _ _).trans ?_
  rw [View.ld_unit_zero z3, View.ld_unit_zero z5, View.ld_unit_zero z5]

theorem out_at (x0 : FVec Ideal S1x8x128 .f32) (x1 x2 : FVec Ideal S1x1x1x512x128 .f32) (x3 : FVec Ideal S512x256 .bf16) (r : Fin 8) (i : Fin 128) :
    out0_4 (F := Ideal) x0 x1 x2 x3 (ix4 0 0 r i)
      = attn (score (fun l => x0 (ix3 0 r l)) (fun c l => x1 (ix5 0 0 0 c l))) (fun c => x2 (ix5 0 0 0 c i)) := by
  rw [out_eq, pay5_at]
  refine Finset.sum_congr rfl fun c _ => congrArg (· * _) ?_
  exact pay2_at x0 x1 r c

/-! ## The blocks and the array -/

variable (m : (ℓ : Loc nD τ sig) → Buf (Elt Ideal) ℓ) (ρ : Dev nD → PrngReg)

theorem idx0 : ∀ t : Fin cfg0.N, win0_0.index t = ![t.val / 4, t.val % 4, 0] ∧ win0_1.index t = ![t.val / 4, 0, t.val % 4, 0, 0]
    ∧ win0_2.index t = ![t.val / 4, 1, t.val % 4, 0, 0] ∧ win0_4.index t = ![t.val / 4, t.val % 4, 0, 0] :=
  (by decide +kernel : ∀ t : Fin grid0.N, _)

/-- The sequence of a grid step. -/
def seq (t : Fin cfg0.N) : Fin 8 := ⟨t.val / 4, by have := lt_of_lt_of_eq t.isLt N_0; omega⟩

/-- The group of a grid step. -/
def grp (t : Fin cfg0.N) : Fin 4 := ⟨t.val % 4, by omega⟩

/-- The head number of a group's query. -/
def hd (h : Fin 4) (r : Fin 8) : Fin 32 := ⟨h.val * 8 + r.val, by omega⟩

theorem blkQ (c : Dev nD) (t : Fin cfg0.N) (r : Fin 8) (i : Fin 128) :
    iblk m c 0 t (ix3 0 r i) = V m c main_arg0 (ix3 (seq t) (hd (grp t) r) i) := by
  blk_point [iblk, idx0 t, seq, grp, hd]

theorem blkK (c : Dev nD) (t : Fin cfg0.N) (k : Fin 512) (i : Fin 128) :
    iblk m c 1 t (ix5 0 0 0 k i) = V m c main_arg1 (ix5 (seq t) 0 (grp t) k i) := by
  blk_point [iblk, idx0 t, seq, grp]

theorem blkV (c : Dev nD) (t : Fin cfg0.N) (k : Fin 512) (i : Fin 128) :
    iblk m c 2 t (ix5 0 0 0 k i) = V m c main_arg1 (ix5 (seq t) 1 (grp t) k i) := by
  blk_point [iblk, idx0 t, seq, grp]

theorem idx_blk (y : S1x1x8x128.Idx) : ∃ (r : Fin 8) (i : Fin 128), y = ix4 0 0 r i := by
  obtain ⟨a, a', r, i, rfl⟩ : ∃ a a' r i, y = ix4 a a' r i := by
    idx_vars y
    exact ⟨_, _, _, _, rfl⟩
  obtain rfl : a = 0 := Subsingleton.elim _ _
  obtain rfl : a' = 0 := Subsingleton.elim _ _
  exact ⟨r, i, rfl⟩

/-- The result from the arguments. -/
def selOut (q : FVec Ideal S8x32x128 .f32) (kv : FVec Ideal S8x2x4x512x128 .f32) : FVec Ideal S8x4x8x128 .f32 := fun j =>
  attn (score (fun l => q (ix3 (j 0) (hd (j 1) (j 2)) l)) (fun c l => kv (ix5 (j 0) 0 (j 1) c l))) (fun c => kv (ix5 (j 0) 1 (j 1) c (j 3)))

theorem selOut_at (q : FVec Ideal S8x32x128 .f32) (kv : FVec Ideal S8x2x4x512x128 .f32) (n : Fin 8) (h : Fin 4) (r : Fin 8) (i : Fin 128) : selOut q kv (ix4 n h r i)
    = attn (score (fun l => q (ix3 n (hd h r) l)) (fun c l => kv (ix5 n 0 h c l))) (fun c => kv (ix5 n 1 h c i)) := rfl

theorem blockS (c : Dev nD) (t : Fin cfg0.N) (r : Fin 8) (i : Fin 128) :
    out0_4 (F := Ideal) (iblk m c 0 t) (iblk m c 1 t) (iblk m c 2 t) (iblk m c 3 t) (ix4 0 0 r i)
      = selOut (V m c main_arg0) (V m c main_arg1) (ix4 (seq t) (grp t) r i) := by
  refine (out_at _ _ _ _ r i).trans ?_
  simp only [blkQ, blkK, blkV]
  rfl

/-- The output array after the region. -/
theorem arrOut (c : Dev nD) : (dats m 0 c).arrAt 4 cfg0.N = selOut (V m c main_arg0) (V m c main_arg1) := by
  refine (dats m 0 c).arrAt_eq_of_covers 4 _ (by decide +kernel) fun t _ y => ?_
  blk_simp
  rw [after0_4]
  obtain ⟨r, i, rfl⟩ : ∃ (r : Fin 8) (i : Fin 128), y = ix4 0 0 r i := idx_blk y
  refine (blockS m c t r i).trans (congrArg _ ?_)
  blk_ext [idx0 t, seq, grp]

theorem result (c : Dev nD) : (dats m 0 c).arrAt 4 cfg0.N = selOut (m ((c.tc : Thread nD τ).loc main_arg0)) (m ((c.tc : Thread nD τ).loc main_arg1)) := by
  rw [arrOut, V_main_arg0, V_main_arg1]

end Cert.NsaSelKIdeal.NsaSelValue

end
-- ==== Proof.NsaSelRef.lean ====
/-
  THE COMPRESSED BRANCH OF A DECODING STEP (hand-written): the reference, operation by operation.
-/
module

public import proofs.«01_k».proof.Proof.Gen.NsaSelRIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.NsaSelRIdeal.NsaSelRef

open Cert.NsaSelRIdeal Cert.NsaSelRIdeal.Gen
open Idealize.ShloMosaic Idealize.ShloMosaic.TcCoe Idealize.SL.Sem

/-- The head number of a group's query. -/
def hd (h : Fin 4) (r : Fin 8) : Fin 32 := ⟨h.val * 8 + r.val, by omega⟩

/-- The scaled queries. -/
def rQ (a0 : FVec Ideal S8x32x128 .f32) : FVec Ideal S8x1x4x8x128 .f32 :=
  mulf (shapeCast S8x1x4x8x128 a0 shapeCasts_S8x32x128_S8x1x4x8x128) (broadcastInDim S8x1x4x8x128 ![] bcast_S_S8x1x4x8x128 (constant S_ .f32 0x3DB504F3#32))

/-- The compressed keys. -/
def rK (a1 : FVec Ideal S8x2x4x512x128 .f32) : FVec Ideal S8x512x4x128 .f32 :=
  transpose S8x512x4x128 [0, 2, 1, 3] (shapeCast S8x4x512x128 (extractStridedSlice S8x1x4x512x128 ![0, 0, 0, 0, 0] a1 slices_S8x2x4x512x128_S8x1x4x512x128_0_0_0_0_0) shapeCasts_S8x1x4x512x128_S8x4x512x128) transposes_S8x4x512x128_S8x512x4x128_0_2_1_3

/-- The compressed values. -/
def rV (a1 : FVec Ideal S8x2x4x512x128 .f32) : FVec Ideal S8x512x4x128 .f32 :=
  transpose S8x512x4x128 [0, 2, 1, 3] (shapeCast S8x4x512x128 (extractStridedSlice S8x1x4x512x128 ![0, 1, 0, 0, 0] a1 slices_S8x2x4x512x128_S8x1x4x512x128_0_1_0_0_0) shapeCasts_S8x1x4x512x128_S8x4x512x128) transposes_S8x4x512x128_S8x512x4x128_0_2_1_3

/-- Which blocks end at or before the step's position. -/
def rMask : IVec S8x1x4x8x512 1 :=
  broadcastInDim S8x1x4x8x512 ![0, 1, 2, 3, 4] bcast_S1x1x1x1x512_S8x1x4x8x512_0_1_2_3_4 (broadcastInDim S1x1x1x1x512 ![1, 4] bcast_S1x512_S1x1x1x1x512_1_4 (cmpi .sle (subi (addi (broadcastInDim S1x512 ![1] bcast_S512_S1x512_1 (muli (iotaInDim S512 32 0) (broadcastInDim S512 ![] bcast_S_S512 (constantI S_ 32 16#32)))) (broadcastInDim S1x512 ![] bcast_S_S1x512 (constantI S_ 32 32#32))) (broadcastInDim S1x512 ![] bcast_S_S1x512 (constantI S_ 32 1#32))) (broadcastInDim S1x512 ![0, 1] bcast_S1x1_S1x512_0_1 (broadcastInDim S1x1 ![0] bcast_S1_S1x1_0 (addi (broadcastInDim S1 ![] bcast_S_S1 (constantI S_ 32 8192#32)) (iotaInDim S1 32 0))))))

/-- The scores. -/
def rDot (k : FVec Ideal S8x512x4x128 .f32) (q : FVec Ideal S8x1x4x8x128 .f32) : FVec Ideal S8x1x4x8x512 .f32 :=
  transpose S8x1x4x8x512 [0, 3, 1, 4, 2] (Host.dotGeneral dot_S8x512x4x128_S8x1x4x8x128_S8x4x512x1x8_3_4_1_13_02_02 none k q) transposes_S8x4x512x1x8_S8x1x4x8x512_0_3_1_4_2

/-- The masked scores. -/
def rS (d : FVec Ideal S8x1x4x8x512 .f32) : FVec Ideal S8x1x4x8x512 .f32 :=
  select rMask d (broadcastInDim S8x1x4x8x512 ![] bcast_S_S8x1x4x8x512 (id (constant S_ .f32 0xF149F2CA#32)))

/-- The weights before the division. -/
def rE (s : FVec Ideal S8x1x4x8x512 .f32) : FVec Ideal S8x1x4x8x512 .f32 :=
  select rMask (Host.exp (subf s (broadcastInDim S8x1x4x8x512 ![0, 1, 2, 3, 4] bcast_S8x1x4x8x1_S8x1x4x8x512_0_1_2_3_4 (broadcastInDim S8x1x4x8x1 ![0, 1, 2, 3] bcast_S8x1x4x8_S8x1x4x8x1_0_1_2_3 (Host.reduce FloatOps.maximumf s (constant S_ .f32 0xFF800000#32) reducesTo_S8x1x4x8x512_S8x1x4x8_d4 h_S_))))) (broadcastInDim S8x1x4x8x512 ![] bcast_S_S8x1x4x8x512 (id (constant S_ .f32 0x00000000#32)))

/-- The weights' total, from below by the small constant. -/
def rDen (e : FVec Ideal S8x1x4x8x512 .f32) : FVec Ideal S8x1x4x8x1 .f32 :=
  maximumf (broadcastInDim S8x1x4x8x1 ![0, 1, 2, 3] bcast_S8x1x4x8_S8x1x4x8x1_0_1_2_3 (Host.reduceAdd e (constant S_ .f32 0x00000000#32) reducesTo_S8x1x4x8x512_S8x1x4x8_d4 h_S_)) (broadcastInDim S8x1x4x8x1 ![] bcast_S_S8x1x4x8x1 (constant S_ .f32 0x0DA24260#32))

/-- The weights. -/
def rP (e : FVec Ideal S8x1x4x8x512 .f32) : FVec Ideal S8x1x4x8x512 .f32 :=
  Host.divf e (broadcastInDim S8x1x4x8x512 ![0, 1, 2, 3, 4] bcast_S8x1x4x8x1_S8x1x4x8x512_0_1_2_3_4 (rDen e))

/-- The weighted values. -/
def rW (v : FVec Ideal S8x512x4x128 .f32) (p : FVec Ideal S8x1x4x8x512 .f32) : FVec Ideal S8x4x8x128 .f32 :=
  shapeCast S8x4x8x128 (transpose S8x1x4x8x128 [0, 3, 1, 4, 2] (Host.dotGeneral dot_S8x512x4x128_S8x1x4x8x512_S8x4x128x1x8_1_4_3_13_02_02 none v p) transposes_S8x4x128x1x8_S8x1x4x8x128_0_3_1_4_2) shapeCasts_S8x1x4x8x128_S8x4x8x128

/-! ## Their values at an index -/

theorem rQ_at (a0 : FVec Ideal S8x32x128 .f32) (n : Fin 8) (h : Fin 4) (r : Fin 8) (l : Fin 128) :
    rQ a0 (ix5 n 0 h r l) = a0 (ix3 n (hd h r) l) * Ideal.ofBits FTy.f32 0x3DB504F3#32 := by
  pointwise [rQ, hd]

theorem rK_at (a1 : FVec Ideal S8x2x4x512x128 .f32) (n : Fin 8) (c : Fin 512) (h : Fin 4) (l : Fin 128) : rK a1 (ix4 n c h l) = a1 (ix5 n 0 h c l) := by
  pointwise [rK]

theorem rV_at (a1 : FVec Ideal S8x2x4x512x128 .f32) (n : Fin 8) (c : Fin 512) (h : Fin 4) (l : Fin 128) : rV a1 (ix4 n c h l) = a1 (ix5 n 1 h c l) := by
  pointwise [rV]

/-- Every block but the last ends at or before the step's position. -/
def ok (c : Fin 512) : BitVec 1 := if c.val < 511 then 1#1 else 0#1

theorem rMask_at (n : Fin 8) (h : Fin 4) (r : Fin 8) (c : Fin 512) : rMask (ix5 n 0 h r c) = ok c := by
  pointwise [rMask]
  revert c
  decide +kernel

theorem rDot_at (k : FVec Ideal S8x512x4x128 .f32) (q : FVec Ideal S8x1x4x8x128 .f32) (n : Fin 8) (h : Fin 4) (r : Fin 8) (c : Fin 512) :
    rDot k q (ix5 n 0 h r c) = ∑ l : Fin 128, k (ix4 n c h l) * q (ix5 n 0 h r l) := by
  pointwise [rDot]

theorem rS_at (d : FVec Ideal S8x1x4x8x512 .f32) (n : Fin 8) (h : Fin 4) (r : Fin 8) (c : Fin 512) :
    rS d (ix5 n 0 h r c) = Scalar.select (ok c) (d (ix5 n 0 h r c)) (Ideal.ofBits FTy.f32 0xF149F2CA#32) := by
  pointwise [rS, rMask_at]
  rfl

theorem rE_at (s : FVec Ideal S8x1x4x8x512 .f32) (n : Fin 8) (h : Fin 4) (r : Fin 8) (c : Fin 512) :
    rE s (ix5 n 0 h r c) = Scalar.select (ok c) (Ideal.exp (s (ix5 n 0 h r c)
      - (Finset.univ : Finset (Fin 512)).fold max (Ideal.ofBits FTy.f32 0xFF800000#32) (fun k => s (ix5 n 0 h r k)))) 0 := by
  pointwise [rE, rMask_at]
  exact congrArg (Scalar.select (ok c) _) (Ideal.ofBits_zero FTy.f32)

theorem rDen_at (e : FVec Ideal S8x1x4x8x512 .f32) (n : Fin 8) (h : Fin 4) (r : Fin 8) :
    rDen e (ix5 n 0 h r 0) = max (∑ k : Fin 512, e (ix5 n 0 h r k)) (Ideal.ofBits FTy.f32 0x0DA24260#32) := by
  pointwise [rDen]

theorem rP_at (e : FVec Ideal S8x1x4x8x512 .f32) (n : Fin 8) (h : Fin 4) (r : Fin 8) (c : Fin 512) :
    rP e (ix5 n 0 h r c) = Ideal.div (e (ix5 n 0 h r c)) (rDen e (ix5 n 0 h r 0)) := by
  pointwise [rP]

theorem rW_at (v : FVec Ideal S8x512x4x128 .f32) (p : FVec Ideal S8x1x4x8x512 .f32) (n : Fin 8) (h : Fin 4) (r : Fin 8) (i : Fin 128) :
    rW v p (ix4 n h r i) = ∑ k : Fin 512, v (ix4 n k h i) * p (ix5 n 0 h r k) := by
  pointwise [rW]

/-! ## The reference's result in these terms -/

/-- The reference from the arguments. -/
def refSel (a0 : FVec Ideal S8x32x128 .f32) (a1 : FVec Ideal S8x2x4x512x128 .f32) : FVec Ideal S8x4x8x128 .f32 :=
  rW (rV a1) (rP (rE (rS (rDot (rK a1) (rQ a0)))))

variable (m : (ℓ : Loc nD τ sig) → Buf (Elt Ideal) ℓ)

theorem res_o (c : Dev nD) : Cert.NsaSelRIdeal.Value.res_main_v42 (F := Ideal) m c
    = refSel (m ((c.tc : Thread nD τ).loc main_arg0)) (m ((c.tc : Thread nD τ).loc main_arg1)) := rfl

end Cert.NsaSelRIdeal.NsaSelRef

end
-- ==== Proof.NsaSelClaim.lean ====
/-
  THE COMPRESSED BRANCH OF A DECODING STEP (hand-written): the kernel's value is the reference's, and the claims.
-/
module

public import proofs.«01_k».proof.Defs
public import proofs.«01_k».proof.Proof.NsaSelValue
public import proofs.«01_k».proof.Proof.NsaSelRef
public import proofs.«01_k».proof.Proof.Gen.NsaSelKIdeal.Value
public import proofs.«01_k».proof.Proof.Gen.NsaSelRIdeal.Run
public import Idealize.ShloMosaic.Lib.Pointwise
public import Idealize.ShloMosaic.Lib.Pipeline.ValueKit
public import Idealize.ShloMosaic.Lib.Pipeline.ReadBack
public import Idealize.ShloMosaic.Lib.Claim

@[expose] public section

set_option maxRecDepth 16384

noncomputable section

namespace Cert.Proof.NsaSelClaim

open Cert.NsaSelRIdeal Cert.NsaSelRIdeal.Gen Cert.NsaSelRIdeal.NsaSelRef
open Cert.NsaSelKIdeal.NsaSelValue (selOut selOut_at attn score wgt)
open Idealize.ShloMosaic Idealize.ShloMosaic.TcCoe Idealize.SL.Sem

variable (q : FVec Ideal S8x32x128 .f32) (kv : FVec Ideal S8x2x4x512x128 .f32)

/-- The reference's masked score. -/
theorem rS_eq (n : Fin 8) (h : Fin 4) (r : Fin 8) (c : Fin 512) : rS (rDot (rK kv) (rQ q)) (ix5 n 0 h r c)
    = score (fun l => q (ix3 n (hd h r) l)) (fun c l => kv (ix5 n 0 h c l)) c := by
  rw [rS_at, rDot_at]
  refine congrArg (fun x => Scalar.select (ok c) x _) (Finset.sum_congr rfl fun l _ => ?_)
  rw [rK_at, rQ_at, mul_comm]

/-- The reference's weight before the division. -/
theorem rE_eq (n : Fin 8) (h : Fin 4) (r : Fin 8) (c : Fin 512) : rE (rS (rDot (rK kv) (rQ q))) (ix5 n 0 h r c)
    = wgt (score (fun l => q (ix3 n (hd h r) l)) (fun c l => kv (ix5 n 0 h c l))) c := by
  rw [rE_at]
  simp only [rS_eq]
  rfl

/-- The kernel's result is the reference's. -/
theorem selOut_eq : selOut q kv = refSel q kv := by
  funext j
  obtain ⟨n, h, r, i, rfl⟩ : ∃ n h r i, j = ix4 n h r i := by
    idx_vars j
    exact ⟨_, _, _, _, rfl⟩
  rw [selOut_at, refSel, rW_at, attn]
  refine Finset.sum_congr rfl fun c _ => ?_
  rw [rP_at, rDen_at, rV_at, mul_comm]
  simp only [rE_eq]
  rfl

/-- The reference has host operations only, and no counter to leave raised. -/
theorem frame_R : Cert.quiescent_NsaSelRIdeal := by
  intro m g _
  exact (θ_run _ _ _).mono (fun r h => ⟨fun c => (h c).2, sem_eq_zero_of_no_sems (by decide) _⟩)
    (Cert.NsaSelRIdeal.Value.run (F := Ideal) m g)

/-- From memories that agree on the arguments the kernel and the reference end with the same result. -/
theorem algebraic : Cert.algebraic_NsaSelKIdeal_NsaSelRIdeal := by
  intro m g m' g' _ hagree
  refine ⟨fun c => Cert.NsaSelRIdeal.Value.res_main_v42 (F := Ideal) m' c, ?_, Cert.NsaSelRIdeal.Value.run (F := Ideal) m' g'⟩
  refine (θ_run _ _ _).mono (fun r h c => ⟨(h c).1.trans ?_, (h c).2.2⟩) (Cert.NsaSelKIdeal.Value.run_blocks (F := Ideal) m g)
  obtain ⟨h0, h1⟩ := hagree c
  rw [Cert.NsaSelKIdeal.NsaSelValue.result]
  refine (selOut_eq _ _).trans ?_
  refine Eq.trans ?_ (res_o m' c).symm
  beta_reduce
  rw [h0, h1]

end Cert.Proof.NsaSelClaim

end
-- ==== Proof.lean ====
module

public import proofs.«01_k».proof.Defs
public import proofs.«01_k».proof.Proof.Gen.StepK
public import proofs.«01_k».proof.Proof.Gen.StepK.Skeleton
public import proofs.«01_k».proof.Proof.Gen.StepK.Launch
public import proofs.«01_k».proof.Proof.Gen.StepK.Points
public import proofs.«01_k».proof.Proof.Gen.StepK.Frame
public import proofs.«01_k».proof.Proof.Gen.StepKIdeal
public import proofs.«01_k».proof.Proof.Gen.StepKIdeal.Skeleton
public import proofs.«01_k».proof.Proof.Gen.StepKIdeal.Launch
public import proofs.«01_k».proof.Proof.Gen.StepKIdeal.Points
public import proofs.«01_k».proof.Proof.Gen.StepKIdeal.Frame
public import proofs.«01_k».proof.Proof.Gen.StepRIdeal
public import proofs.«01_k».proof.Proof.Gen.StepRIdeal.Run
public import proofs.«01_k».proof.Proof.Gen.HeadK
public import proofs.«01_k».proof.Proof.Gen.HeadK.Skeleton
public import proofs.«01_k».proof.Proof.Gen.HeadK.Launch
public import proofs.«01_k».proof.Proof.Gen.HeadK.Points
public import proofs.«01_k».proof.Proof.Gen.HeadK.Frame
public import proofs.«01_k».proof.Proof.Gen.HeadKIdeal
public import proofs.«01_k».proof.Proof.Gen.HeadKIdeal.Skeleton
public import proofs.«01_k».proof.Proof.Gen.HeadKIdeal.Launch
public import proofs.«01_k».proof.Proof.Gen.HeadKIdeal.Points
public import proofs.«01_k».proof.Proof.Gen.HeadKIdeal.Frame
public import proofs.«01_k».proof.Proof.Gen.GluK
public import proofs.«01_k».proof.Proof.Gen.GluK.Skeleton
public import proofs.«01_k».proof.Proof.Gen.GluK.Launch
public import proofs.«01_k».proof.Proof.Gen.GluK.Points
public import proofs.«01_k».proof.Proof.Gen.GluK.Frame
public import proofs.«01_k».proof.Proof.Gen.GluKIdeal
public import proofs.«01_k».proof.Proof.Gen.GluKIdeal.Skeleton
public import proofs.«01_k».proof.Proof.Gen.GluKIdeal.Launch
public import proofs.«01_k».proof.Proof.Gen.GluKIdeal.Points
public import proofs.«01_k».proof.Proof.Gen.GluKIdeal.Frame
public import proofs.«01_k».proof.Proof.Gen.OutK
public import proofs.«01_k».proof.Proof.Gen.OutK.Skeleton
public import proofs.«01_k».proof.Proof.Gen.OutK.Launch
public import proofs.«01_k».proof.Proof.Gen.OutK.Points
public import proofs.«01_k».proof.Proof.Gen.OutK.Frame
public import proofs.«01_k».proof.Proof.Gen.OutKIdeal
public import proofs.«01_k».proof.Proof.Gen.OutKIdeal.Skeleton
public import proofs.«01_k».proof.Proof.Gen.OutKIdeal.Launch
public import proofs.«01_k».proof.Proof.Gen.OutKIdeal.Points
public import proofs.«01_k».proof.Proof.Gen.OutKIdeal.Frame
public import proofs.«01_k».proof.Proof.Gen.HeadRIdeal
public import proofs.«01_k».proof.Proof.Gen.HeadRIdeal.Run
public import proofs.«01_k».proof.Proof.Gen.GluRIdeal
public import proofs.«01_k».proof.Proof.Gen.GluRIdeal.Run
public import proofs.«01_k».proof.Proof.Gen.OutRIdeal
public import proofs.«01_k».proof.Proof.Gen.OutRIdeal.Run
public import proofs.«01_k».proof.Proof.Gen.GluKIdeal.Value
public import proofs.«01_k».proof.Proof.Gen.OutKIdeal.Value
public import proofs.«01_k».proof.Proof.Gen.NsaK
public import proofs.«01_k».proof.Proof.Gen.NsaK.Skeleton
public import proofs.«01_k».proof.Proof.Gen.NsaK.Launch
public import proofs.«01_k».proof.Proof.Gen.NsaK.Points
public import proofs.«01_k».proof.Proof.Gen.NsaK.Frame
public import proofs.«01_k».proof.Proof.Gen.NsaKIdeal
public import proofs.«01_k».proof.Proof.Gen.NsaKIdeal.Skeleton
public import proofs.«01_k».proof.Proof.Gen.NsaKIdeal.Launch
public import proofs.«01_k».proof.Proof.Gen.NsaKIdeal.Points
public import proofs.«01_k».proof.Proof.Gen.NsaKIdeal.Frame
public import proofs.«01_k».proof.Proof.Gen.NsaRIdeal
public import proofs.«01_k».proof.Proof.Gen.NsaRIdeal.Run
public import proofs.«01_k».proof.Proof.Gen.NsaStepK
public import proofs.«01_k».proof.Proof.Gen.NsaStepK.Skeleton
public import proofs.«01_k».proof.Proof.Gen.NsaStepK.Launch
public import proofs.«01_k».proof.Proof.Gen.NsaStepK.Points
public import proofs.«01_k».proof.Proof.Gen.NsaStepK.Frame
public import proofs.«01_k».proof.Proof.Gen.NsaStepKIdeal
public import proofs.«01_k».proof.Proof.Gen.NsaStepKIdeal.Skeleton
public import proofs.«01_k».proof.Proof.Gen.NsaStepKIdeal.Launch
public import proofs.«01_k».proof.Proof.Gen.NsaStepKIdeal.Points
public import proofs.«01_k».proof.Proof.Gen.NsaStepKIdeal.Frame
public import proofs.«01_k».proof.Proof.Gen.NsaStepRIdeal
public import proofs.«01_k».proof.Proof.Gen.NsaStepRIdeal.Run
public import proofs.«01_k».proof.Proof.Gen.RgStepK
public import proofs.«01_k».proof.Proof.Gen.RgStepK.Skeleton
public import proofs.«01_k».proof.Proof.Gen.RgStepK.Launch
public import proofs.«01_k».proof.Proof.Gen.RgStepK.Points
public import proofs.«01_k».proof.Proof.Gen.RgStepK.Frame
public import proofs.«01_k».proof.Proof.Gen.RgStepKIdeal
public import proofs.«01_k».proof.Proof.Gen.RgStepKIdeal.Skeleton
public import proofs.«01_k».proof.Proof.Gen.RgStepKIdeal.Launch
public import proofs.«01_k».proof.Proof.Gen.RgStepKIdeal.Points
public import proofs.«01_k».proof.Proof.Gen.RgStepKIdeal.Frame
public import proofs.«01_k».proof.Proof.Gen.RgStepRIdeal
public import proofs.«01_k».proof.Proof.Gen.RgStepRIdeal.Run
public import proofs.«01_k».proof.Proof.Gen.RgHeadK
public import proofs.«01_k».proof.Proof.Gen.RgHeadK.Skeleton
public import proofs.«01_k».proof.Proof.Gen.RgHeadK.Launch
public import proofs.«01_k».proof.Proof.Gen.RgHeadK.Points
public import proofs.«01_k».proof.Proof.Gen.RgHeadK.Frame
public import proofs.«01_k».proof.Proof.Gen.RgHeadKIdeal
public import proofs.«01_k».proof.Proof.Gen.RgHeadKIdeal.Skeleton
public import proofs.«01_k».proof.Proof.Gen.RgHeadKIdeal.Launch
public import proofs.«01_k».proof.Proof.Gen.RgHeadKIdeal.Points
public import proofs.«01_k».proof.Proof.Gen.RgHeadKIdeal.Frame
public import proofs.«01_k».proof.Proof.Gen.RgHeadRIdeal
public import proofs.«01_k».proof.Proof.Gen.RgHeadRIdeal.Run
public import proofs.«01_k».proof.Proof.Gen.RgOutK
public import proofs.«01_k».proof.Proof.Gen.RgOutK.Skeleton
public import proofs.«01_k».proof.Proof.Gen.RgOutK.Launch
public import proofs.«01_k».proof.Proof.Gen.RgOutK.Points
public import proofs.«01_k».proof.Proof.Gen.RgOutK.Frame
public import proofs.«01_k».proof.Proof.Gen.RgOutKIdeal
public import proofs.«01_k».proof.Proof.Gen.RgOutKIdeal.Skeleton
public import proofs.«01_k».proof.Proof.Gen.RgOutKIdeal.Launch
public import proofs.«01_k».proof.Proof.Gen.RgOutKIdeal.Points
public import proofs.«01_k».proof.Proof.Gen.RgOutKIdeal.Frame
public import proofs.«01_k».proof.Proof.Gen.RgOutRIdeal
public import proofs.«01_k».proof.Proof.Gen.RgOutRIdeal.Run
public import proofs.«01_k».proof.Proof.Gen.NsaOutK
public import proofs.«01_k».proof.Proof.Gen.NsaOutK.Skeleton
public import proofs.«01_k».proof.Proof.Gen.NsaOutK.Launch
public import proofs.«01_k».proof.Proof.Gen.NsaOutK.Points
public import proofs.«01_k».proof.Proof.Gen.NsaOutK.Frame
public import proofs.«01_k».proof.Proof.Gen.NsaOutKIdeal
public import proofs.«01_k».proof.Proof.Gen.NsaOutKIdeal.Skeleton
public import proofs.«01_k».proof.Proof.Gen.NsaOutKIdeal.Launch
public import proofs.«01_k».proof.Proof.Gen.NsaOutKIdeal.Points
public import proofs.«01_k».proof.Proof.Gen.NsaOutKIdeal.Frame
public import proofs.«01_k».proof.Proof.Gen.NsaOutRIdeal
public import proofs.«01_k».proof.Proof.Gen.NsaOutRIdeal.Run
public import proofs.«01_k».proof.Proof.Gen.LastK
public import proofs.«01_k».proof.Proof.Gen.LastK.Skeleton
public import proofs.«01_k».proof.Proof.Gen.LastK.Launch
public import proofs.«01_k».proof.Proof.Gen.LastK.Points
public import proofs.«01_k».proof.Proof.Gen.LastK.Frame
public import proofs.«01_k».proof.Proof.Gen.LastKIdeal
public import proofs.«01_k».proof.Proof.Gen.LastKIdeal.Skeleton
public import proofs.«01_k».proof.Proof.Gen.LastKIdeal.Launch
public import proofs.«01_k».proof.Proof.Gen.LastKIdeal.Points
public import proofs.«01_k».proof.Proof.Gen.LastKIdeal.Frame
public import proofs.«01_k».proof.Proof.Gen.LastRIdeal
public import proofs.«01_k».proof.Proof.Gen.LastRIdeal.Run
public import proofs.«01_k».proof.Proof.Gen.NsaWinK
public import proofs.«01_k».proof.Proof.Gen.NsaWinK.Skeleton
public import proofs.«01_k».proof.Proof.Gen.NsaWinK.Launch
public import proofs.«01_k».proof.Proof.Gen.NsaWinK.Points
public import proofs.«01_k».proof.Proof.Gen.NsaWinK.Frame
public import proofs.«01_k».proof.Proof.Gen.NsaWinKIdeal
public import proofs.«01_k».proof.Proof.Gen.NsaWinKIdeal.Skeleton
public import proofs.«01_k».proof.Proof.Gen.NsaWinKIdeal.Launch
public import proofs.«01_k».proof.Proof.Gen.NsaWinKIdeal.Points
public import proofs.«01_k».proof.Proof.Gen.NsaWinKIdeal.Frame
public import proofs.«01_k».proof.Proof.Gen.NsaWinRIdeal
public import proofs.«01_k».proof.Proof.Gen.NsaWinRIdeal.Run
public import proofs.«01_k».proof.Proof.Gen.NsaWinKIdeal.Value
public import proofs.«01_k».proof.Proof.Gen.NsaCmpK
public import proofs.«01_k».proof.Proof.Gen.NsaCmpK.Skeleton
public import proofs.«01_k».proof.Proof.Gen.NsaCmpK.Launch
public import proofs.«01_k».proof.Proof.Gen.NsaCmpK.Points
public import proofs.«01_k».proof.Proof.Gen.NsaCmpK.Frame
public import proofs.«01_k».proof.Proof.Gen.NsaCmpKIdeal
public import proofs.«01_k».proof.Proof.Gen.NsaCmpKIdeal.Skeleton
public import proofs.«01_k».proof.Proof.Gen.NsaCmpKIdeal.Launch
public import proofs.«01_k».proof.Proof.Gen.NsaCmpKIdeal.Points
public import proofs.«01_k».proof.Proof.Gen.NsaCmpKIdeal.Frame
public import proofs.«01_k».proof.Proof.Gen.NsaCmpRIdeal
public import proofs.«01_k».proof.Proof.Gen.NsaCmpRIdeal.Run
public import proofs.«01_k».proof.Proof.Gen.NsaCmpKIdeal.Value
public import proofs.«01_k».proof.Proof.Gen.NsaSelK
public import proofs.«01_k».proof.Proof.Gen.NsaSelK.Skeleton
public import proofs.«01_k».proof.Proof.Gen.NsaSelK.Launch
public import proofs.«01_k».proof.Proof.Gen.NsaSelK.Points
public import proofs.«01_k».proof.Proof.Gen.NsaSelK.Frame
public import proofs.«01_k».proof.Proof.Gen.NsaSelKIdeal
public import proofs.«01_k».proof.Proof.Gen.NsaSelKIdeal.Skeleton
public import proofs.«01_k».proof.Proof.Gen.NsaSelKIdeal.Launch
public import proofs.«01_k».proof.Proof.Gen.NsaSelKIdeal.Points
public import proofs.«01_k».proof.Proof.Gen.NsaSelKIdeal.Frame
public import proofs.«01_k».proof.Proof.Gen.NsaSelRIdeal
public import proofs.«01_k».proof.Proof.Gen.NsaSelRIdeal.Run
public import proofs.«01_k».proof.Proof.Gen.NsaSelKIdeal.Value
public import proofs.«01_k».proof.Proof.Gen.RgOutKIdeal.Value
public import proofs.«01_k».proof.Proof.Gen.NsaOutKIdeal.Value
public import proofs.«01_k».proof.Proof.StepClaim
public import proofs.«01_k».proof.Proof.HeadClaim
public import proofs.«01_k».proof.Proof.GluClaim
public import proofs.«01_k».proof.Proof.OutClaim
public import proofs.«01_k».proof.Proof.NsaClaim
public import proofs.«01_k».proof.Proof.NsaStepClaim
public import proofs.«01_k».proof.Proof.RgStepClaim
public import proofs.«01_k».proof.Proof.RgHeadClaim
public import proofs.«01_k».proof.Proof.RgOutClaim
public import proofs.«01_k».proof.Proof.NsaOutClaim
public import proofs.«01_k».proof.Proof.LastClaim
public import proofs.«01_k».proof.Proof.NsaWinClaim
public import proofs.«01_k».proof.Proof.NsaCmpClaim
public import proofs.«01_k».proof.Proof.NsaSelClaim
public import Idealize.ShloMosaic.Adequacy
public import Idealize.ShloMosaic.Init

@[expose] public section

noncomputable section

namespace Cert.Proof

open Idealize.ShloMosaic Idealize.SL.Sem Cert.StepK

theorem claim : Cert.Claim := ⟨Cert.StepK.Gen.facts, Cert.StepKIdeal.Gen.facts, Cert.StepRIdeal.Gen.facts, Cert.HeadK.Gen.facts, Cert.HeadKIdeal.Gen.facts, Cert.HeadRIdeal.Gen.facts, Cert.GluK.Gen.facts, Cert.GluKIdeal.Gen.facts, Cert.GluRIdeal.Gen.facts, Cert.OutK.Gen.facts, Cert.OutKIdeal.Gen.facts, Cert.OutRIdeal.Gen.facts, Cert.NsaK.Gen.facts, Cert.NsaKIdeal.Gen.facts, Cert.NsaRIdeal.Gen.facts, Cert.NsaStepK.Gen.facts, Cert.NsaStepKIdeal.Gen.facts, Cert.NsaStepRIdeal.Gen.facts, Cert.RgStepK.Gen.facts, Cert.RgStepKIdeal.Gen.facts, Cert.RgStepRIdeal.Gen.facts, Cert.RgHeadK.Gen.facts, Cert.RgHeadKIdeal.Gen.facts, Cert.RgHeadRIdeal.Gen.facts, Cert.RgOutK.Gen.facts, Cert.RgOutKIdeal.Gen.facts, Cert.RgOutRIdeal.Gen.facts, Cert.NsaOutK.Gen.facts, Cert.NsaOutKIdeal.Gen.facts, Cert.NsaOutRIdeal.Gen.facts, Cert.LastK.Gen.facts, Cert.LastKIdeal.Gen.facts, Cert.LastRIdeal.Gen.facts, Cert.NsaWinK.Gen.facts, Cert.NsaWinKIdeal.Gen.facts, Cert.NsaWinRIdeal.Gen.facts, Cert.NsaCmpK.Gen.facts, Cert.NsaCmpKIdeal.Gen.facts, Cert.NsaCmpRIdeal.Gen.facts, Cert.NsaSelK.Gen.facts, Cert.NsaSelKIdeal.Gen.facts, Cert.NsaSelRIdeal.Gen.facts,
  fun m ρ _ => Cert.StepK.Gen.frame m ρ, fun m ρ _ => Cert.StepKIdeal.Gen.frame m ρ, StepClaim.frame_R,
  fun m ρ _ => Cert.HeadK.Gen.frame m ρ, fun m ρ _ => Cert.HeadKIdeal.Gen.frame m ρ, HeadClaim.frame_R,
  fun m ρ _ => Cert.GluK.Gen.frame m ρ, fun m ρ _ => Cert.GluKIdeal.Gen.frame m ρ, GluClaim.frame_R,
  fun m ρ _ => Cert.OutK.Gen.frame m ρ, fun m ρ _ => Cert.OutKIdeal.Gen.frame m ρ, OutClaim.frame_R,
  fun m ρ _ => Cert.NsaK.Gen.frame m ρ, fun m ρ _ => Cert.NsaKIdeal.Gen.frame m ρ, NsaClaim.frame_R,
  fun m ρ _ => Cert.NsaStepK.Gen.frame m ρ, fun m ρ _ => Cert.NsaStepKIdeal.Gen.frame m ρ, NsaStepClaim.frame_R,
  fun m ρ _ => Cert.RgStepK.Gen.frame m ρ, fun m ρ _ => Cert.RgStepKIdeal.Gen.frame m ρ, RgStepClaim.frame_R,
  fun m ρ _ => Cert.RgHeadK.Gen.frame m ρ, fun m ρ _ => Cert.RgHeadKIdeal.Gen.frame m ρ, RgHeadClaim.frame_R,
  fun m ρ _ => Cert.RgOutK.Gen.frame m ρ, fun m ρ _ => Cert.RgOutKIdeal.Gen.frame m ρ, RgOutClaim.frame_R,
  fun m ρ _ => Cert.NsaOutK.Gen.frame m ρ, fun m ρ _ => Cert.NsaOutKIdeal.Gen.frame m ρ, NsaOutClaim.frame_R,
  fun m ρ _ => Cert.LastK.Gen.frame m ρ, fun m ρ _ => Cert.LastKIdeal.Gen.frame m ρ, LastClaim.frame_R,
  fun m ρ _ => Cert.NsaWinK.Gen.frame m ρ, fun m ρ _ => Cert.NsaWinKIdeal.Gen.frame m ρ, NsaWinClaim.frame_R,
  fun m ρ _ => Cert.NsaCmpK.Gen.frame m ρ, fun m ρ _ => Cert.NsaCmpKIdeal.Gen.frame m ρ, NsaCmpClaim.frame_R,
  fun m ρ _ => Cert.NsaSelK.Gen.frame m ρ, fun m ρ _ => Cert.NsaSelKIdeal.Gen.frame m ρ, NsaSelClaim.frame_R,
  trivial, StepClaim.algebraic, trivial, HeadClaim.algebraic, trivial, GluClaim.algebraic, trivial, OutClaim.algebraic, trivial, NsaClaim.algebraic, trivial, NsaStepClaim.algebraic, trivial, RgStepClaim.algebraic, trivial, RgHeadClaim.algebraic, trivial, RgOutClaim.algebraic, trivial, NsaOutClaim.algebraic, trivial, LastClaim.algebraic, trivial, NsaWinClaim.algebraic, trivial, NsaCmpClaim.algebraic, trivial, NsaSelClaim.algebraic⟩

end Cert.Proof

end
